-- ==== Defs.lean ====
def Pre_Kernel [hPre_depth_in_range : Cert.Pre_depth_in_range.Facts] (m : (ℓ : Loc Cert.Kernel.nD Cert.Kernel.τ Cert.Kernel.sig) → Buf (Elt Bits) ℓ) : Prop :=
  ∀ c : Dev Cert.Kernel.nD,
    (Cert.Pre_depth_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_depth_in_range : Cert.Pre_depth_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_depth_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_real_camera [hPre_real_camera : Cert.Pre_real_camera.Facts] (m : (ℓ : Loc Cert.KernelIdeal.nD Cert.KernelIdeal.τ Cert.KernelIdeal.sig) → Buf (Elt Ideal) ℓ) : Prop :=
  ∀ c : Dev Cert.KernelIdeal.nD,
    (Cert.Pre_real_camera.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_camera [hPre_real_camera : Cert.Pre_real_camera.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_camera.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_depth_in_range : Cert.Pre_depth_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_depth_in_range : Cert.Pre_depth_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_real_camera [hKernelIdeal : Cert.KernelIdeal.Facts] [hPre_real_camera : Cert.Pre_real_camera.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_camera m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_real_camera [hReferenceIdeal : Cert.ReferenceIdeal.Facts] [hPre_real_camera : Cert.Pre_real_camera.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_camera m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_real_camera [hKernelIdeal : Cert.KernelIdeal.Facts] [hReferenceIdeal : Cert.ReferenceIdeal.Facts] [hPre_real_camera : Cert.Pre_real_camera.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_camera m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_v204) = v1 c
          ∧ r.2.mem ((c.tc : Thread Cert.ReferenceIdeal.nD Cert.ReferenceIdeal.τ).loc Cert.ReferenceIdeal.main_v250) = v2 c
          ∧ r.2.mem ((c.tc : Thread Cert.ReferenceIdeal.nD Cert.ReferenceIdeal.τ).loc Cert.ReferenceIdeal.main_v251) = v3 c
          ∧ r.2.mem ((c.tc : Thread Cert.ReferenceIdeal.nD Cert.ReferenceIdeal.τ).loc Cert.ReferenceIdeal.main_v209) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_depth_in_range : Cert.Pre_depth_in_range.Facts) (hPre_real_camera : Cert.Pre_real_camera.Facts),
    quiescent_Kernel (hKernel := hKernel) (hPre_depth_in_range := hPre_depth_in_range)
    ∧ quiescent_KernelIdeal (hKernelIdeal := hKernelIdeal) (hPre_depth_in_range := hPre_depth_in_range)
    ∧ quiescent_KernelIdeal_pre_real_camera (hKernelIdeal := hKernelIdeal) (hPre_real_camera := hPre_real_camera)
    ∧ quiescent_ReferenceIdeal (hReferenceIdeal := hReferenceIdeal)
    ∧ quiescent_ReferenceIdeal_pre_real_camera (hReferenceIdeal := hReferenceIdeal) (hPre_real_camera := hPre_real_camera)
    ∧ preserves_Kernel_KernelIdeal
    ∧ algebraic_KernelIdeal_ReferenceIdeal_pre_real_camera (hKernelIdeal := hKernelIdeal) (hReferenceIdeal := hReferenceIdeal) (hPre_real_camera := hPre_real_camera)
-- ==== Pre_depth_in_range.lean ====
abbrev S500000x3 : Shape := ⟨2, ![500000, 3]⟩
abbrev S500000x56 : Shape := ⟨2, ![500000, 56]⟩
abbrev S3x3 : Shape := ⟨2, ![3, 3]⟩
abbrev S4x4 : Shape := ⟨2, ![4, 4]⟩
abbrev S500000x1 : Shape := ⟨2, ![500000, 1]⟩
abbrev S500000 : Shape := ⟨1, ![500000]⟩
abbrev S_ : Shape := ⟨0, ![]⟩

class Facts : Prop where
  slices_S500000x3_S500000x1_0_2 : S500000x3.Slices ![0, 2] S500000x1
  shapeCasts_S500000x1_S500000 : S500000x1.ShapeCasts S500000
  bitsLt_bf16_f32 : FTy.bits .bf16 < FTy.bits .f32
  bcast_S_S500000 : S_.BroadcastsInDim S500000 (![] : Fin 0 → Fin S500000.rank)

variable [Facts]

def fn_clip {F : FTy → Type} [FloatOps F] (arg0 : FVec F S500000 .f32) (arg1 : FVec F S_ .f32) (arg2 : FVec F S_ .f32) : FVec F S500000 .f32 :=
  let v0 : FVec F S_ .f32 := id arg1
  let v1 : FVec F S500000 .f32 := broadcastInDim S500000 ![] bcast_S_S500000 v0
  let v2 : FVec F S500000 .f32 := maximumf v1 arg0
  let v3 : FVec F S_ .f32 := id arg2
  let v4 : FVec F S500000 .f32 := broadcastInDim S500000 ![] bcast_S_S500000 v3
  let v5 : FVec F S500000 .f32 := minimumf v4 v2
  v5

def fn {F : FTy → Type} [FloatOps F] (main_arg0 : FVec F S500000x3 .f32) (main_arg1 : FVec F S500000x56 .f32) (main_arg2 : FVec F S3x3 .f32) (main_arg3 : FVec F S4x4 .f32) : IVec S500000 1 :=
  let main_v0 : FVec F S500000x1 .f32 := (extractStridedSlice S500000x1 ![0, 2] · slices_S500000x3_S500000x1_0_2) main_arg0
  let main_v1 : FVec F S500000 .f32 := shapeCast S500000 main_v0 shapeCasts_S500000x1_S500000
  let main_v2 : FVec F S500000 .bf16 := (truncf .bf16 · bitsLt_bf16_f32) main_v1
  let main_v3 : FVec F S500000 .f32 := (extf .f32 · bitsLt_bf16_f32) main_v2
  let main_cst : FVec F S_ .f32 := constant S_ .f32 0x42C80000#32
  let main_v4 : FVec F S500000 .f32 := broadcastInDim S500000 ![] bcast_S_S500000 main_cst
  let main_v5 : FVec F S500000 .f32 := mulf main_v3 main_v4
  let main_cst_0 : FVec F S_ .f32 := constant S_ .f32 0x00000000#32
  let main_cst_1 : FVec F S_ .f32 := constant S_ .f32 0x4F000000#32
  let main_v6 : FVec F S500000 .f32 := fn_clip (F := F) main_v5 main_cst_0 main_cst_1
  let main_v7 : IVec S500000 32 := fptosi 32 main_v6
  let main_c : IVec S_ 32 := constantI S_ 32 0#32
  let main_v8 : IVec S500000 32 := broadcastInDim S500000 ![] bcast_S_S500000 main_c
  let main_v9 : IVec S500000 1 := cmpi .sge main_v7 main_v8
  let main_c_2 : IVec S_ 32 := constantI S_ 32 4096#32
  let main_v10 : IVec S500000 32 := broadcastInDim S500000 ![] bcast_S_S500000 main_c_2
  let main_v11 : IVec S500000 1 := cmpi .slt main_v7 main_v10
  let main_v12 : IVec S500000 1 := andi main_v9 main_v11
  main_v12
-- ==== Pre_real_camera.lean ====
abbrev S500000x3 : Shape := ⟨2, ![500000, 3]⟩
abbrev S500000x56 : Shape := ⟨2, ![500000, 56]⟩
abbrev S3x3 : Shape := ⟨2, ![3, 3]⟩
abbrev S4x4 : Shape := ⟨2, ![4, 4]⟩
abbrev S2x3 : Shape := ⟨2, ![2, 3]⟩
abbrev S500000x1 : Shape := ⟨2, ![500000, 1]⟩
abbrev S500000 : Shape := ⟨1, ![500000]⟩
abbrev S_ : Shape := ⟨0, ![]⟩
abbrev S500000x2 : Shape := ⟨2, ![500000, 2]⟩
abbrev S3x4 : Shape := ⟨2, ![3, 4]⟩

class Facts : Prop where
  slices_S500000x3_S500000x1_0_2 : S500000x3.Slices ![0, 2] S500000x1
  shapeCasts_S500000x1_S500000 : S500000x1.ShapeCasts S500000
  bitsLt_bf16_f32 : FTy.bits .bf16 < FTy.bits .f32
  bcast_S_S500000 : S_.BroadcastsInDim S500000 (![] : Fin 0 → Fin S500000.rank)
  reducesTo_S500000_S_d0 : S500000.ReducesTo [0] S_
  h_S_ : 0 < S_.numel
  slices_S500000x3_S500000x2_0_0 : S500000x3.Slices ![0, 0] S500000x2
  bcast_S_S500000x2 : S_.BroadcastsInDim S500000x2 (![] : Fin 0 → Fin S500000x2.rank)
  reducesTo_S500000x2_S_d0_1 : S500000x2.ReducesTo [0, 1] S_
  slices_S500000x56_S500000x3_0_4 : S500000x56.Slices ![0, 4] S500000x3
  bcast_S_S500000x3 : S_.BroadcastsInDim S500000x3 (![] : Fin 0 → Fin S500000x3.rank)
  reducesTo_S500000x3_S_d0_1 : S500000x3.ReducesTo [0, 1] S_
  slices_S3x3_S2x3_0_0 : S3x3.Slices ![0, 0] S2x3
  reducesTo_S2x3_S_d0_1 : S2x3.ReducesTo [0, 1] S_
  slices_S4x4_S3x4_0_0 : S4x4.Slices ![0, 0] S3x4
  bcast_S_S3x4 : S_.BroadcastsInDim S3x4 (![] : Fin 0 → Fin S3x4.rank)
  reducesTo_S3x4_S_d0_1 : S3x4.ReducesTo [0, 1] S_

variable [Facts]

noncomputable abbrev lit0 : Fin 6 → BitVec 32 := fun
  | 0 => 0x447A0000#32 | 1 => 0x00000000#32 | 2 => 0x44700000#32 | 3 => 0x00000000#32 | 4 => 0x447A0000#32 | 5 => 0x44080000#32
  | _ => 0#32

def fn_clip {F : FTy → Type} [FloatOps F] (arg0 : FVec F S500000 .f32) (arg1 : FVec F S_ .f32) (arg2 : FVec F S_ .f32) : FVec F S500000 .f32 :=
  let v0 : FVec F S_ .f32 := id arg1
  let v1 : FVec F S500000 .f32 := broadcastInDim S500000 ![] bcast_S_S500000 v0
  let v2 : FVec F S500000 .f32 := maximumf v1 arg0
  let v3 : FVec F S_ .f32 := id arg2
  let v4 : FVec F S500000 .f32 := broadcastInDim S500000 ![] bcast_S_S500000 v3
  let v5 : FVec F S500000 .f32 := minimumf v4 v2
  v5

def fn_part2 {F : FTy → Type} [FloatOps F] (main_v28 : IVec S_ 1) (main_v29 : FVec F S3x4 .f32) (main_v34 : IVec S3x4 1) : IVec S_ 1 :=
  let main_v35 : FVec F S3x4 .f32 := uitofp .f32 main_v34
  let main_v36 : IVec S3x4 1 := cmpf .oeq main_v29 main_v35
  let main_c_11 : IVec S_ 1 := constantI S_ 1 1#1
  let main_v37 : IVec S_ 1 := (fun x v => Host.reduce IntOp.andi x v reducesTo_S3x4_S_d0_1 h_S_) main_v36 main_c_11
  let main_v38 : IVec S_ 1 := andi main_v28 main_v37
  main_v38

def fn_part1 {F : FTy → Type} [FloatOps F] (main_arg1 : FVec F S500000x56 .f32) (main_arg2 : FVec F S3x3 .f32) (main_arg3 : FVec F S4x4 .f32) (main_cst : FVec F S2x3 .f32) (main_v13 : IVec S_ 1) (main_v15 : FVec F S500000x2 .f32) (main_cst_5 : FVec F S_ .f32) : IVec S_ 1 :=
  let main_v16 : FVec F S500000x2 .f32 := broadcastInDim S500000x2 ![] bcast_S_S500000x2 main_cst_5
  let main_v17 : IVec S500000x2 1 := cmpf .olt main_v15 main_v16
  let main_c_6 : IVec S_ 1 := constantI S_ 1 1#1
  let main_v18 : IVec S_ 1 := (fun x v => Host.reduce IntOp.andi x v reducesTo_S500000x2_S_d0_1 h_S_) main_v17 main_c_6
  let main_v19 : IVec S_ 1 := andi main_v13 main_v18
  let main_v20 : FVec F S500000x3 .f32 := (extractStridedSlice S500000x3 ![0, 4] · slices_S500000x56_S500000x3_0_4) main_arg1
  let main_cst_7 : FVec F S_ .f32 := constant S_ .f32 0x7F800000#32
  let main_v21 : FVec F S500000x3 .f32 := broadcastInDim S500000x3 ![] bcast_S_S500000x3 main_cst_7
  let main_v22 : IVec S500000x3 1 := cmpf .olt main_v20 main_v21
  let main_c_8 : IVec S_ 1 := constantI S_ 1 1#1
  let main_v23 : IVec S_ 1 := (fun x v => Host.reduce IntOp.andi x v reducesTo_S500000x3_S_d0_1 h_S_) main_v22 main_c_8
  let main_v24 : IVec S_ 1 := andi main_v19 main_v23
  let main_v25 : FVec F S2x3 .f32 := (extractStridedSlice S2x3 ![0, 0] · slices_S3x3_S2x3_0_0) main_arg2
  let main_v26 : IVec S2x3 1 := cmpf .oeq main_v25 main_cst
  let main_c_9 : IVec S_ 1 := constantI S_ 1 1#1
  let main_v27 : IVec S_ 1 := (fun x v => Host.reduce IntOp.andi x v reducesTo_S2x3_S_d0_1 h_S_) main_v26 main_c_9
  let main_v28 : IVec S_ 1 := andi main_v24 main_v27
  let main_v29 : FVec F S3x4 .f32 := (extractStridedSlice S3x4 ![0, 0] · slices_S4x4_S3x4_0_0) main_arg3
  let main_v30 : IVec S3x4 32 := iotaInDim S3x4 32 0
  let main_v31 : IVec S3x4 32 := iotaInDim S3x4 32 1
  let main_c_10 : IVec S_ 32 := constantI S_ 32 0#32
  let main_v32 : IVec S3x4 32 := broadcastInDim S3x4 ![] bcast_S_S3x4 main_c_10
  let main_v33 : IVec S3x4 32 := addi main_v30 main_v32
  let main_v34 : IVec S3x4 1 := cmpi .eq main_v33 main_v31
  fn_part2 (F := F) main_v28 main_v29 main_v34

def fn {F : FTy → Type} [FloatOps F] (main_arg0 : FVec F S500000x3 .f32) (main_arg1 : FVec F S500000x56 .f32) (main_arg2 : FVec F S3x3 .f32) (main_arg3 : FVec F S4x4 .f32) : IVec S_ 1 :=
  let main_cst : FVec F S2x3 .f32 := fun i => FloatOps.ofBits .f32 (lit0 (S2x3.rowMajor i))
  let main_v0 : FVec F S500000x1 .f32 := (extractStridedSlice S500000x1 ![0, 2] · slices_S500000x3_S500000x1_0_2) main_arg0
  let main_v1 : FVec F S500000 .f32 := shapeCast S500000 main_v0 shapeCasts_S500000x1_S500000
  let main_v2 : FVec F S500000 .bf16 := (truncf .bf16 · bitsLt_bf16_f32) main_v1
  let main_v3 : FVec F S500000 .f32 := (extf .f32 · bitsLt_bf16_f32) main_v2
  let main_cst_0 : FVec F S_ .f32 := constant S_ .f32 0x42C80000#32
  let main_v4 : FVec F S500000 .f32 := broadcastInDim S500000 ![] bcast_S_S500000 main_cst_0
  let main_v5 : FVec F S500000 .f32 := mulf main_v3 main_v4
  let main_cst_1 : FVec F S_ .f32 := constant S_ .f32 0x00000000#32
  let main_cst_2 : FVec F S_ .f32 := constant S_ .f32 0x4F000000#32
  let main_v6 : FVec F S500000 .f32 := fn_clip (F := F) main_v5 main_cst_1 main_cst_2
  let main_v7 : IVec S500000 32 := fptosi 32 main_v6
  let main_c : IVec S_ 32 := constantI S_ 32 0#32
  let main_v8 : IVec S500000 32 := broadcastInDim S500000 ![] bcast_S_S500000 main_c
  let main_v9 : IVec S500000 1 := cmpi .sge main_v7 main_v8
  let main_c_3 : IVec S_ 32 := constantI S_ 32 4096#32
  let main_v10 : IVec S500000 32 := broadcastInDim S500000 ![] bcast_S_S500000 main_c_3
  let main_v11 : IVec S500000 1 := cmpi .slt main_v7 main_v10
  let main_v12 : IVec S500000 1 := andi main_v9 main_v11
  let main_c_4 : IVec S_ 1 := constantI S_ 1 1#1
  let main_v13 : IVec S_ 1 := (fun x v => Host.reduce IntOp.andi x v reducesTo_S500000_S_d0 h_S_) main_v12 main_c_4
  let main_v14 : FVec F S500000x2 .f32 := (extractStridedSlice S500000x2 ![0, 0] · slices_S500000x3_S500000x2_0_0) main_arg0
  let main_v15 : FVec F S500000x2 .f32 := Host.absf main_v14
  let main_cst_5 : FVec F S_ .f32 := constant S_ .f32 0x7F800000#32
  fn_part1 (F := F) main_arg1 main_arg2 main_arg3 main_cst main_v13 main_v15 main_cst_5
-- ==== Kernel.lean ====
abbrev S500000x3 : Shape := ⟨2, ![500000, 3]⟩
abbrev S500000x56 : Shape := ⟨2, ![500000, 56]⟩
abbrev S3x3 : Shape := ⟨2, ![3, 3]⟩
abbrev S4x4 : Shape := ⟨2, ![4, 4]⟩
abbrev S_ : Shape := ⟨0, ![]⟩
abbrev S3808x2 : Shape := ⟨2, ![3808, 2]⟩
abbrev S3808x1 : Shape := ⟨2, ![3808, 1]⟩
abbrev S3808x3 : Shape := ⟨2, ![3808, 3]⟩
abbrev S503808x3 : Shape := ⟨2, ![503808, 3]⟩
abbrev S3x503808 : Shape := ⟨2, ![3, 503808]⟩
abbrev S500000x8 : Shape := ⟨2, ![500000, 8]⟩
abbrev S3808x8 : Shape := ⟨2, ![3808, 8]⟩
abbrev S503808x8 : Shape := ⟨2, ![503808, 8]⟩
abbrev S8x503808 : Shape := ⟨2, ![8, 503808]⟩
abbrev S1x503808 : Shape := ⟨2, ![1, 503808]⟩
abbrev S3x512 : Shape := ⟨2, ![3, 512]⟩
abbrev S8x512 : Shape := ⟨2, ![8, 512]⟩
abbrev S1x512 : Shape := ⟨2, ![1, 512]⟩
abbrev S503808 : Shape := ⟨1, ![503808]⟩
abbrev S256x512 : Shape := ⟨2, ![256, 512]⟩
abbrev S15744 : Shape := ⟨1, ![15744]⟩
abbrev S4096 : Shape := ⟨1, ![4096]⟩
abbrev S16 : Shape := ⟨1, ![16]⟩
abbrev S512 : Shape := ⟨1, ![512]⟩
abbrev S32x512 : Shape := ⟨2, ![32, 512]⟩
abbrev S1x16 : Shape := ⟨2, ![1, 16]⟩
abbrev S512x512 : Shape := ⟨2, ![512, 512]⟩
abbrev S8192 : Shape := ⟨1, ![8192]⟩
abbrev S8160 : Shape := ⟨1, ![8160]⟩
abbrev S256 : Shape := ⟨1, ![256]⟩
abbrev S224 : Shape := ⟨1, ![224]⟩
abbrev S8x500000 : Shape := ⟨2, ![8, 500000]⟩
abbrev S500000 : Shape := ⟨1, ![500000]⟩

abbrev nBuf : Table → Nat
  | .hbm => 31
  | .local .tc .vmem => 10
  | .local .scVector .vmem => 23
  | _ => 0

abbrev bufTy : (tb : Table) → Fin (nBuf tb) → BufTy
  | .hbm, ⟨0, _⟩ => ⟨S500000x3, .f32⟩
  | .hbm, ⟨1, _⟩ => ⟨S500000x56, .f32⟩
  | .hbm, ⟨2, _⟩ => ⟨S3x3, .f32⟩
  | .hbm, ⟨3, _⟩ => ⟨S4x4, .f32⟩
  | .hbm, ⟨4, _⟩ => ⟨S_, .f32⟩
  | .hbm, ⟨5, _⟩ => ⟨S3808x2, .f32⟩
  | .hbm, ⟨6, _⟩ => ⟨S_, .f32⟩
  | .hbm, ⟨7, _⟩ => ⟨S3808x1, .f32⟩
  | .hbm, ⟨8, _⟩ => ⟨S3808x3, .f32⟩
  | .hbm, ⟨9, _⟩ => ⟨S503808x3, .f32⟩
  | .hbm, ⟨10, _⟩ => ⟨S3x503808, .f32⟩
  | .hbm, ⟨11, _⟩ => ⟨S500000x8, .f32⟩
  | .hbm, ⟨12, _⟩ => ⟨S_, .f32⟩
  | .hbm, ⟨13, _⟩ => ⟨S3808x8, .f32⟩
  | .hbm, ⟨14, _⟩ => ⟨S503808x8, .f32⟩
  | .hbm, ⟨15, _⟩ => ⟨S8x503808, .f32⟩
  | .hbm, ⟨16, _⟩ => ⟨S8x503808, .f32⟩
  | .hbm, ⟨17, _⟩ => ⟨S1x503808, .i32⟩
  | .hbm, ⟨18, _⟩ => ⟨S1x503808, .i32⟩
  | .hbm, ⟨19, _⟩ => ⟨S503808, .i32⟩
  | .hbm, ⟨20, _⟩ => ⟨S503808, .i32⟩
  | .hbm, ⟨21, _⟩ => ⟨S256x512, .i32⟩
  | .hbm, ⟨22, _⟩ => ⟨S503808, .i32⟩
  | .hbm, ⟨23, _⟩ => ⟨S512x512, .i32⟩
  | .hbm, ⟨24, _⟩ => ⟨S503808, .i32⟩
  | .hbm, ⟨25, _⟩ => ⟨S8160, .i32⟩
  | .hbm, ⟨26, _⟩ => ⟨S8160, .i32⟩
  | .hbm, ⟨27, _⟩ => ⟨S8160, .i32⟩
  | .hbm, ⟨28, _⟩ => ⟨S8x500000, .f32⟩
  | .hbm, ⟨29, _⟩ => ⟨S500000x8, .f32⟩
  | .hbm, ⟨30, _⟩ => ⟨S500000, .i32⟩
  | .local .tc .vmem, ⟨0, _⟩ => ⟨S3x512, .f32⟩
  | .local .tc .vmem, ⟨1, _⟩ => ⟨S3x512, .f32⟩
  | .local .tc .vmem, ⟨2, _⟩ => ⟨S8x512, .f32⟩
  | .local .tc .vmem, ⟨3, _⟩ => ⟨S8x512, .f32⟩
  | .local .tc .vmem, ⟨4, _⟩ => ⟨S8x512, .f32⟩
  | .local .tc .vmem, ⟨5, _⟩ => ⟨S8x512, .f32⟩
  | .local .tc .vmem, ⟨6, _⟩ => ⟨S1x512, .i32⟩
  | .local .tc .vmem, ⟨7, _⟩ => ⟨S1x512, .i32⟩
  | .local .tc .vmem, ⟨8, _⟩ => ⟨S1x512, .i32⟩
  | .local .tc .vmem, ⟨9, _⟩ => ⟨S1x512, .i32⟩
  | .local .scVector .vmem, ⟨0, _⟩ => ⟨S15744, .i32⟩
  | .local .scVector .vmem, ⟨1, _⟩ => ⟨S4096, .i32⟩
  | .local .scVector .vmem, ⟨2, _⟩ => ⟨S15744, .i32⟩
  | .local .scVector .vmem, ⟨3, _⟩ => ⟨S15744, .i32⟩
  | .local .scVector .vmem, ⟨4, _⟩ => ⟨S15744, .i32⟩
  | .local .scVector .vmem, ⟨5, _⟩ => ⟨S4096, .i32⟩
  | .local .scVector .vmem, ⟨6, _⟩ => ⟨S32x512, .i32⟩
  | .local .scVector .vmem, ⟨7, _⟩ => ⟨S512, .i32⟩
  | .local .scVector .vmem, ⟨8, _⟩ => ⟨S512, .i32⟩
  | .local .scVector .vmem, ⟨9, _⟩ => ⟨S15744, .i32⟩
  | .local .scVector .vmem, ⟨10, _⟩ => ⟨S8192, .i32⟩
  | .local .scVector .vmem, ⟨11, _⟩ => ⟨S15744, .i32⟩
  | .local .scVector .vmem, ⟨12, _⟩ => ⟨S15744, .i32⟩
  | .local .scVector .vmem, ⟨13, _⟩ => ⟨S15744, .i32⟩
  | .local .scVector .vmem, ⟨14, _⟩ => ⟨S8192, .i32⟩
  | .local .scVector .vmem, ⟨15, _⟩ => ⟨S32x512, .i32⟩
  | .local .scVector .vmem, ⟨16, _⟩ => ⟨S512, .i32⟩
  | .local .scVector .vmem, ⟨17, _⟩ => ⟨S512, .i32⟩
  | .local .scVector .vmem, ⟨18, _⟩ => ⟨S8192, .i32⟩
  | .local .scVector .vmem, ⟨19, _⟩ => ⟨S8192, .i32⟩
  | .local .scVector .vmem, ⟨20, _⟩ => ⟨S256, .i32⟩
  | .local .scVector .vmem, ⟨21, _⟩ => ⟨S256, .i32⟩
  | .local .scVector .vmem, ⟨22, _⟩ => ⟨S256, .i32⟩
  | _, _ => ⟨S500000x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v10_scv : Ref sig .scVector := ⟨.hbm, 19, rfl⟩
abbrev main_v12_scv : Ref sig .scVector := ⟨.hbm, 21, rfl⟩
abbrev main_v11_scv : Ref sig .scVector := ⟨.hbm, 20, rfl⟩
abbrev main_v13_scv : Ref sig .scVector := ⟨.hbm, 22, rfl⟩
abbrev main_v14_scv : Ref sig .scVector := ⟨.hbm, 23, rfl⟩
abbrev main_v15_0_scv : Ref sig .scVector := ⟨.hbm, 24, rfl⟩
abbrev main_v15_1_scv : Ref sig .scVector := ⟨.hbm, 25, rfl⟩
abbrev main_v15_2_scv : Ref sig .scVector := ⟨.hbm, 26, rfl⟩
abbrev main_v15_3_scv : Ref sig .scVector := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_scratch0 : Ref sig .scVector := ⟨.vmem, 0, rfl⟩
abbrev cc1_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc2_scratch2 : Ref sig .scVector := ⟨.vmem, 4, rfl⟩
abbrev cc2_scratch3 : Ref sig .scVector := ⟨.vmem, 5, rfl⟩
abbrev cc2_scratch4 : Ref sig .scVector := ⟨.vmem, 6, rfl⟩
abbrev cc2_scratch5 : Ref sig .scVector := ⟨.vmem, 7, rfl⟩
abbrev cc2_scratch6 : Ref sig .scVector := ⟨.vmem, 8, rfl⟩
abbrev cc3_scratch0 : Ref sig .scVector := ⟨.vmem, 9, rfl⟩
abbrev cc3_scratch1 : Ref sig .scVector := ⟨.vmem, 10, rfl⟩
abbrev cc4_scratch0 : Ref sig .scVector := ⟨.vmem, 11, rfl⟩
abbrev cc4_scratch1 : Ref sig .scVector := ⟨.vmem, 12, rfl⟩
abbrev cc4_scratch2 : Ref sig .scVector := ⟨.vmem, 13, rfl⟩
abbrev cc4_scratch3 : Ref sig .scVector := ⟨.vmem, 14, rfl⟩
abbrev cc4_scratch4 : Ref sig .scVector := ⟨.vmem, 15, rfl⟩
abbrev cc4_scratch5 : Ref sig .scVector := ⟨.vmem, 16, rfl⟩
abbrev cc4_scratch6 : Ref sig .scVector := ⟨.vmem, 17, rfl⟩
abbrev cc4_scratch7 : Ref sig .scVector := ⟨.vmem, 18, rfl⟩
abbrev cc4_scratch8 : Ref sig .scVector := ⟨.vmem, 19, rfl⟩
abbrev cc4_scratch9 : Ref sig .scVector := ⟨.vmem, 20, rfl⟩
abbrev cc4_scratch10 : Ref sig .scVector := ⟨.vmem, 21, rfl⟩
abbrev cc4_scratch11 : Ref sig .scVector := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![984], ![false]⟩

def cc0_transform_0 (i : grid0.Coords) : Fin 2 → Nat :=
  let arg0 : BitVec 32 := BitVec.ofNat 32 (i 0).val
  let c0_i32 : BitVec 32 := 0#32
  let v0 : BitVec 32 := Scalar.muli arg0 c0_i32
  let c0_i32_0 : BitVec 32 := 0#32
  ![v0.toNat, arg0.toNat]

def cc0_transform_1 (i : grid0.Coords) : Fin 2 → Nat :=
  let arg0 : BitVec 32 := BitVec.ofNat 32 (i 0).val
  let c0_i32 : BitVec 32 := 0#32
  let v0 : BitVec 32 := Scalar.muli arg0 c0_i32
  let c0_i32_0 : BitVec 32 := 0#32
  ![v0.toNat, arg0.toNat]

def cc0_transform_2 (i : grid0.Coords) : Fin 2 → Nat :=
  let arg0 : BitVec 32 := BitVec.ofNat 32 (i 0).val
  let c0_i32 : BitVec 32 := 0#32
  let v0 : BitVec 32 := Scalar.muli arg0 c0_i32
  let c0_i32_0 : BitVec 32 := 0#32
  ![v0.toNat, arg0.toNat]

def cc0_transform_3 (i : grid0.Coords) : Fin 2 → Nat :=
  let arg0 : BitVec 32 := BitVec.ofNat 32 (i 0).val
  let c0_i32 : BitVec 32 := 0#32
  let v0 : BitVec 32 := Scalar.muli arg0 c0_i32
  let c0_i32_0 : BitVec 32 := 0#32
  ![v0.toNat, arg0.toNat]

def cc0_transform_4 (i : grid0.Coords) : Fin 2 → Nat :=
  let arg0 : BitVec 32 := BitVec.ofNat 32 (i 0).val
  let c0_i32 : BitVec 32 := 0#32
  let v0 : BitVec 32 := Scalar.muli arg0 c0_i32
  let c0_i32_0 : BitVec 32 := 0#32
  ![v0.toNat, arg0.toNat]

abbrev stage0_0 : Fin 2 → Memref sig .tc .vmem S3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15744_i32 : BitVec 32 := 15744#32
  let v2 : BitVec 32 := Scalar.muli v1 c15744_i32
  ![v2.toNat]
@[reducible] def k1_t1_loop : Scf.Loop 32 :=
  let c0_i32 : BitVec 32 := 0#32
  let c256_i32 : BitVec 32 := 256#32
  let v3 : BitVec 32 := Scalar.addi c0_i32 c256_i32
  let c1_i32 : BitVec 32 := 1#32
  ⟨c0_i32, v3, c1_i32⟩
def k1_off2 (k1_t1 : Fin k1_t1_loop.trips) : Fin 1 → Nat :=
  let c0_i32_8 : BitVec 32 := 0#32
  let c0_i32 : BitVec 32 := 0#32
  let c1_i32 : BitVec 32 := 1#32
  let arg6 : BitVec 32 := Scf.iv c0_i32 c1_i32 k1_t1
  let c1_i32_7 : BitVec 32 := 1#32
  let v6 : BitVec 32 := Scalar.muli arg6 c1_i32_7
  let v7 : BitVec 32 := Scalar.addi c0_i32_8 v6
  let c16_i32 : BitVec 32 := 16#32
  let v9 : BitVec 32 := Scalar.muli v7 c16_i32
  let v10 : Index := Scalar.indexCast v9
  ![v10.toNat]
@[reducible] def k1_t2_loop : Scf.Loop 32 :=
  let c0_i32_1 : BitVec 32 := 0#32
  let c984_i32 : BitVec 32 := 984#32
  let v4 : BitVec 32 := Scalar.addi c0_i32_1 c984_i32
  let c1_i32_2 : BitVec 32 := 1#32
  ⟨c0_i32_1, v4, c1_i32_2⟩
def k1_off3 (k1_t2 : Fin k1_t2_loop.trips) : Fin 1 → Nat :=
  let c0_i32_8 : BitVec 32 := 0#32
  let c0_i32_1 : BitVec 32 := 0#32
  let c1_i32_2 : BitVec 32 := 1#32
  let arg6 : BitVec 32 := Scf.iv c0_i32_1 c1_i32_2 k1_t2
  let c1_i32_7 : BitVec 32 := 1#32
  let v6 : BitVec 32 := Scalar.muli arg6 c1_i32_7
  let v7 : BitVec 32 := Scalar.addi c0_i32_8 v6
  let c16_i32 : BitVec 32 := 16#32
  let v8 : BitVec 32 := Scalar.muli v7 c16_i32
  let v9 : Index := Scalar.indexCast v8
  ![v9.toNat]

def k1_chk1 (v10 : IVec S16 32) : Prop :=
  (∀ a x, ((![v10] : Fin 1 → IVec S16 32) a x).toNat < S4096.size a)
theorem k1_idx1_inb : ∀ (v10 : IVec S16 32) (k1_hw1 : k1_chk1 v10), ∀ a x, ((![v10] : Fin 1 → IVec S16 32) a x).toNat < S4096.size a := fun v10 k1_hw1 => k1_hw1
@[reducible] def k1_t3_loop : Scf.Loop 32 :=
  let c0_i32_4 : BitVec 32 := 0#32
  let c8_i32 : BitVec 32 := 8#32
  let v5 : BitVec 32 := Scalar.addi c0_i32_4 c8_i32
  let c1_i32_5 : BitVec 32 := 1#32
  ⟨c0_i32_4, v5, c1_i32_5⟩
def k1_off4 (k1_t3 : Fin k1_t3_loop.trips) : Fin 1 → Nat :=
  let c0_i32_8 : BitVec 32 := 0#32
  let c0_i32_4 : BitVec 32 := 0#32
  let c1_i32_5 : BitVec 32 := 1#32
  let arg6 : BitVec 32 := Scf.iv c0_i32_4 c1_i32_5 k1_t3
  let c1_i32_7 : BitVec 32 := 1#32
  let v6 : BitVec 32 := Scalar.muli arg6 c1_i32_7
  let v7 : BitVec 32 := Scalar.addi c0_i32_8 v6
  let c512_i32 : BitVec 32 := 512#32
  let v8 : BitVec 32 := Scalar.muli v7 c512_i32
  ![v8.toNat]
def k1_off5 (i : grid1.Coords) (k1_t3 : Fin k1_t3_loop.trips) : Fin 2 → Nat :=
  let c0_i32_8 : BitVec 32 := 0#32
  let c0_i32_4 : BitVec 32 := 0#32
  let c1_i32_5 : BitVec 32 := 1#32
  let arg6 : BitVec 32 := Scf.iv c0_i32_4 c1_i32_5 k1_t3
  let c1_i32_7 : BitVec 32 := 1#32
  let v6 : BitVec 32 := Scalar.muli arg6 c1_i32_7
  let v7 : BitVec 32 := Scalar.addi c0_i32_8 v6
  let c32_i32 : BitVec 32 := 32#32
  let v9 : BitVec 32 := Scalar.muli v7 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v10 : BitVec 32 := Scalar.addi v9 v1
  let c0_i32_9_r1 : BitVec 32 := 0#32
  ![v10.toNat, 0]
abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15744_i32 : BitVec 32 := 15744#32
  let v2 : BitVec 32 := Scalar.muli v1 c15744_i32
  ![v2.toNat]
@[reducible] def k2_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k2_off2 (k2_t1 : Fin k2_t1_loop.trips) : Fin 2 → Nat :=
  let c0_i32_9 : BitVec 32 := 0#32
  let c0_i32_1 : BitVec 32 := 0#32
  let c1_i32 : BitVec 32 := 1#32
  let arg14 : BitVec 32 := Scf.iv c0_i32_1 c1_i32 k2_t1
  let c1_i32_8 : BitVec 32 := 1#32
  let v9 : BitVec 32 := Scalar.muli arg14 c1_i32_8
  let v10 : BitVec 32 := Scalar.addi c0_i32_9 v9
  let c32_i32 : BitVec 32 := 32#32
  let v11 : BitVec 32 := Scalar.muli v10 c32_i32
  let c0_i32_18_r2 : BitVec 32 := 0#32
  ![v11.toNat, 0]
@[reducible] def k2_t2_loop : Scf.Loop 32 :=
  let c0_i32_10 : BitVec 32 := 0#32
  let c32_i32_11 : BitVec 32 := 32#32
  let v12 : BitVec 32 := Scalar.addi c0_i32_10 c32_i32_11
  let c1_i32_12 : BitVec 32 := 1#32
  ⟨c0_i32_10, v12, c1_i32_12⟩
def k2_off3 (k2_t2 : Fin k2_t2_loop.trips) : Fin 2 → Nat :=
  let c0_i32_22 : BitVec 32 := 0#32
  let v20 : Index := Scalar.indexCast c0_i32_22
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32 : BitVec 32 := 16#32
  let v19 : BitVec 32 := Scalar.muli v16 c16_i32
  let v21 : Index := Scalar.indexCast v19
  ![0, v21.toNat]
def k2_off4 (k2_t2 : Fin k2_t2_loop.trips) : Fin 2 → Nat :=
  let c1_i32_25 : BitVec 32 := 1#32
  let v30 : Index := Scalar.indexCast c1_i32_25
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_24 : BitVec 32 := 16#32
  let v29 : BitVec 32 := Scalar.muli v16 c16_i32_24
  let v31 : Index := Scalar.indexCast v29
  ![1, v31.toNat]
def k2_off5 (k2_t2 : Fin k2_t2_loop.trips) : Fin 2 → Nat :=
  let c2_i32_28 : BitVec 32 := 2#32
  let v40 : Index := Scalar.indexCast c2_i32_28
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_27 : BitVec 32 := 16#32
  let v39 : BitVec 32 := Scalar.muli v16 c16_i32_27
  let v41 : Index := Scalar.indexCast v39
  ![2, v41.toNat]
def k2_off6 (k2_t2 : Fin k2_t2_loop.trips) : Fin 2 → Nat :=
  let c3_i32 : BitVec 32 := 3#32
  let v50 : Index := Scalar.indexCast c3_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_30 : BitVec 32 := 16#32
  let v49 : BitVec 32 := Scalar.muli v16 c16_i32_30
  let v51 : Index := Scalar.indexCast v49
  ![3, v51.toNat]
def k2_off7 (k2_t2 : Fin k2_t2_loop.trips) : Fin 2 → Nat :=
  let c4_i32 : BitVec 32 := 4#32
  let v60 : Index := Scalar.indexCast c4_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_32 : BitVec 32 := 16#32
  let v59 : BitVec 32 := Scalar.muli v16 c16_i32_32
  let v61 : Index := Scalar.indexCast v59
  ![4, v61.toNat]
def k2_off8 (k2_t2 : Fin k2_t2_loop.trips) : Fin 2 → Nat :=
  let c5_i32 : BitVec 32 := 5#32
  let v70 : Index := Scalar.indexCast c5_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_34 : BitVec 32 := 16#32
  let v69 : BitVec 32 := Scalar.muli v16 c16_i32_34
  let v71 : Index := Scalar.indexCast v69
  ![5, v71.toNat]
def k2_off9 (k2_t2 : Fin k2_t2_loop.trips) : Fin 2 → Nat :=
  let c6_i32 : BitVec 32 := 6#32
  let v80 : Index := Scalar.indexCast c6_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_36 : BitVec 32 := 16#32
  let v79 : BitVec 32 := Scalar.muli v16 c16_i32_36
  let v81 : Index := Scalar.indexCast v79
  ![6, v81.toNat]
def k2_off10 (k2_t2 : Fin k2_t2_loop.trips) : Fin 2 → Nat :=
  let c7_i32 : BitVec 32 := 7#32
  let v90 : Index := Scalar.indexCast c7_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_38 : BitVec 32 := 16#32
  let v89 : BitVec 32 := Scalar.muli v16 c16_i32_38
  let v91 : Index := Scalar.indexCast v89
  ![7, v91.toNat]
def k2_off11 (k2_t2 : Fin k2_t2_loop.trips) : Fin 2 → Nat :=
  let c8_i32_41 : BitVec 32 := 8#32
  let v100 : Index := Scalar.indexCast c8_i32_41
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_40 : BitVec 32 := 16#32
  let v99 : BitVec 32 := Scalar.muli v16 c16_i32_40
  let v101 : Index := Scalar.indexCast v99
  ![8, v101.toNat]
def k2_off12 (k2_t2 : Fin k2_t2_loop.trips) : Fin 2 → Nat :=
  let c9_i32 : BitVec 32 := 9#32
  let v110 : Index := Scalar.indexCast c9_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_43 : BitVec 32 := 16#32
  let v109 : BitVec 32 := Scalar.muli v16 c16_i32_43
  let v111 : Index := Scalar.indexCast v109
  ![9, v111.toNat]
def k2_off13 (k2_t2 : Fin k2_t2_loop.trips) : Fin 2 → Nat :=
  let c10_i32 : BitVec 32 := 10#32
  let v120 : Index := Scalar.indexCast c10_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_45 : BitVec 32 := 16#32
  let v119 : BitVec 32 := Scalar.muli v16 c16_i32_45
  let v121 : Index := Scalar.indexCast v119
  ![10, v121.toNat]
def k2_off14 (k2_t2 : Fin k2_t2_loop.trips) : Fin 2 → Nat :=
  let c11_i32 : BitVec 32 := 11#32
  let v130 : Index := Scalar.indexCast c11_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_47 : BitVec 32 := 16#32
  let v129 : BitVec 32 := Scalar.muli v16 c16_i32_47
  let v131 : Index := Scalar.indexCast v129
  ![11, v131.toNat]
def k2_off15 (k2_t2 : Fin k2_t2_loop.trips) : Fin 2 → Nat :=
  let c12_i32 : BitVec 32 := 12#32
  let v140 : Index := Scalar.indexCast c12_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_49 : BitVec 32 := 16#32
  let v139 : BitVec 32 := Scalar.muli v16 c16_i32_49
  let v141 : Index := Scalar.indexCast v139
  ![12, v141.toNat]
def k2_off16 (k2_t2 : Fin k2_t2_loop.trips) : Fin 2 → Nat :=
  let c13_i32 : BitVec 32 := 13#32
  let v150 : Index := Scalar.indexCast c13_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_51 : BitVec 32 := 16#32
  let v149 : BitVec 32 := Scalar.muli v16 c16_i32_51
  let v151 : Index := Scalar.indexCast v149
  ![13, v151.toNat]
def k2_off17 (k2_t2 : Fin k2_t2_loop.trips) : Fin 2 → Nat :=
  let c14_i32 : BitVec 32 := 14#32
  let v160 : Index := Scalar.indexCast c14_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_53 : BitVec 32 := 16#32
  let v159 : BitVec 32 := Scalar.muli v16 c16_i32_53
  let v161 : Index := Scalar.indexCast v159
  ![14, v161.toNat]
def k2_off18 (k2_t2 : Fin k2_t2_loop.trips) : Fin 2 → Nat :=
  let c15_i32 : BitVec 32 := 15#32
  let v170 : Index := Scalar.indexCast c15_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_55 : BitVec 32 := 16#32
  let v169 : BitVec 32 := Scalar.muli v16 c16_i32_55
  let v171 : Index := Scalar.indexCast v169
  ![15, v171.toNat]
def k2_off19 (k2_t2 : Fin k2_t2_loop.trips) : Fin 2 → Nat :=
  let c16_i32_58 : BitVec 32 := 16#32
  let v180 : Index := Scalar.indexCast c16_i32_58
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_57 : BitVec 32 := 16#32
  let v179 : BitVec 32 := Scalar.muli v16 c16_i32_57
  let v181 : Index := Scalar.indexCast v179
  ![16, v181.toNat]
def k2_off20 (k2_t2 : Fin k2_t2_loop.trips) : Fin 2 → Nat :=
  let c17_i32 : BitVec 32 := 17#32
  let v190 : Index := Scalar.indexCast c17_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_60 : BitVec 32 := 16#32
  let v189 : BitVec 32 := Scalar.muli v16 c16_i32_60
  let v191 : Index := Scalar.indexCast v189
  ![17, v191.toNat]
def k2_off21 (k2_t2 : Fin k2_t2_loop.trips) : Fin 2 → Nat :=
  let c18_i32 : BitVec 32 := 18#32
  let v200 : Index := Scalar.indexCast c18_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_62 : BitVec 32 := 16#32
  let v199 : BitVec 32 := Scalar.muli v16 c16_i32_62
  let v201 : Index := Scalar.indexCast v199
  ![18, v201.toNat]
def k2_off22 (k2_t2 : Fin k2_t2_loop.trips) : Fin 2 → Nat :=
  let c19_i32 : BitVec 32 := 19#32
  let v210 : Index := Scalar.indexCast c19_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_64 : BitVec 32 := 16#32
  let v209 : BitVec 32 := Scalar.muli v16 c16_i32_64
  let v211 : Index := Scalar.indexCast v209
  ![19, v211.toNat]
def k2_off23 (k2_t2 : Fin k2_t2_loop.trips) : Fin 2 → Nat :=
  let c20_i32 : BitVec 32 := 20#32
  let v220 : Index := Scalar.indexCast c20_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_66 : BitVec 32 := 16#32
  let v219 : BitVec 32 := Scalar.muli v16 c16_i32_66
  let v221 : Index := Scalar.indexCast v219
  ![20, v221.toNat]
def k2_off24 (k2_t2 : Fin k2_t2_loop.trips) : Fin 2 → Nat :=
  let c21_i32 : BitVec 32 := 21#32
  let v230 : Index := Scalar.indexCast c21_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_68 : BitVec 32 := 16#32
  let v229 : BitVec 32 := Scalar.muli v16 c16_i32_68
  let v231 : Index := Scalar.indexCast v229
  ![21, v231.toNat]
def k2_off25 (k2_t2 : Fin k2_t2_loop.trips) : Fin 2 → Nat :=
  let c22_i32 : BitVec 32 := 22#32
  let v240 : Index := Scalar.indexCast c22_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_70 : BitVec 32 := 16#32
  let v239 : BitVec 32 := Scalar.muli v16 c16_i32_70
  let v241 : Index := Scalar.indexCast v239
  ![22, v241.toNat]
def k2_off26 (k2_t2 : Fin k2_t2_loop.trips) : Fin 2 → Nat :=
  let c23_i32 : BitVec 32 := 23#32
  let v250 : Index := Scalar.indexCast c23_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_72 : BitVec 32 := 16#32
  let v249 : BitVec 32 := Scalar.muli v16 c16_i32_72
  let v251 : Index := Scalar.indexCast v249
  ![23, v251.toNat]
def k2_off27 (k2_t2 : Fin k2_t2_loop.trips) : Fin 2 → Nat :=
  let c24_i32 : BitVec 32 := 24#32
  let v260 : Index := Scalar.indexCast c24_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_74 : BitVec 32 := 16#32
  let v259 : BitVec 32 := Scalar.muli v16 c16_i32_74
  let v261 : Index := Scalar.indexCast v259
  ![24, v261.toNat]
def k2_off28 (k2_t2 : Fin k2_t2_loop.trips) : Fin 2 → Nat :=
  let c25_i32 : BitVec 32 := 25#32
  let v270 : Index := Scalar.indexCast c25_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_76 : BitVec 32 := 16#32
  let v269 : BitVec 32 := Scalar.muli v16 c16_i32_76
  let v271 : Index := Scalar.indexCast v269
  ![25, v271.toNat]
def k2_off29 (k2_t2 : Fin k2_t2_loop.trips) : Fin 2 → Nat :=
  let c26_i32 : BitVec 32 := 26#32
  let v280 : Index := Scalar.indexCast c26_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_78 : BitVec 32 := 16#32
  let v279 : BitVec 32 := Scalar.muli v16 c16_i32_78
  let v281 : Index := Scalar.indexCast v279
  ![26, v281.toNat]
def k2_off30 (k2_t2 : Fin k2_t2_loop.trips) : Fin 2 → Nat :=
  let c27_i32 : BitVec 32 := 27#32
  let v290 : Index := Scalar.indexCast c27_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_80 : BitVec 32 := 16#32
  let v289 : BitVec 32 := Scalar.muli v16 c16_i32_80
  let v291 : Index := Scalar.indexCast v289
  ![27, v291.toNat]
def k2_off31 (k2_t2 : Fin k2_t2_loop.trips) : Fin 2 → Nat :=
  let c28_i32 : BitVec 32 := 28#32
  let v300 : Index := Scalar.indexCast c28_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_82 : BitVec 32 := 16#32
  let v299 : BitVec 32 := Scalar.muli v16 c16_i32_82
  let v301 : Index := Scalar.indexCast v299
  ![28, v301.toNat]
def k2_off32 (k2_t2 : Fin k2_t2_loop.trips) : Fin 2 → Nat :=
  let c29_i32 : BitVec 32 := 29#32
  let v310 : Index := Scalar.indexCast c29_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_84 : BitVec 32 := 16#32
  let v309 : BitVec 32 := Scalar.muli v16 c16_i32_84
  let v311 : Index := Scalar.indexCast v309
  ![29, v311.toNat]
def k2_off33 (k2_t2 : Fin k2_t2_loop.trips) : Fin 2 → Nat :=
  let c30_i32 : BitVec 32 := 30#32
  let v320 : Index := Scalar.indexCast c30_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_86 : BitVec 32 := 16#32
  let v319 : BitVec 32 := Scalar.muli v16 c16_i32_86
  let v321 : Index := Scalar.indexCast v319
  ![30, v321.toNat]
def k2_off34 (k2_t2 : Fin k2_t2_loop.trips) : Fin 2 → Nat :=
  let c31_i32 : BitVec 32 := 31#32
  let v330 : Index := Scalar.indexCast c31_i32
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_88 : BitVec 32 := 16#32
  let v329 : BitVec 32 := Scalar.muli v16 c16_i32_88
  let v331 : Index := Scalar.indexCast v329
  ![31, v331.toNat]
def k2_off35 (k2_t2 : Fin k2_t2_loop.trips) : Fin 1 → Nat :=
  let c0_i32_19 : BitVec 32 := 0#32
  let c0_i32_10 : BitVec 32 := 0#32
  let c1_i32_12 : BitVec 32 := 1#32
  let arg16 : BitVec 32 := Scf.iv c0_i32_10 c1_i32_12 k2_t2
  let c1_i32_18 : BitVec 32 := 1#32
  let v15 : BitVec 32 := Scalar.muli arg16 c1_i32_18
  let v16 : BitVec 32 := Scalar.addi c0_i32_19 v15
  let c16_i32_90 : BitVec 32 := 16#32
  let v339 : BitVec 32 := Scalar.muli v16 c16_i32_90
  let v340 : Index := Scalar.indexCast v339
  ![v340.toNat]
@[reducible] def k2_t3_loop : Scf.Loop 32 :=
  let c0_i32_14 : BitVec 32 := 0#32
  let c32_i32_15 : BitVec 32 := 32#32
  let v13 : BitVec 32 := Scalar.addi c0_i32_14 c32_i32_15
  let c1_i32_16 : BitVec 32 := 1#32
  ⟨c0_i32_14, v13, c1_i32_16⟩
def k2_off36 (k2_t3 : Fin k2_t3_loop.trips) : Fin 1 → Nat :=
  let c0_i32_19 : BitVec 32 := 0#32
  let c0_i32_14 : BitVec 32 := 0#32
  let c1_i32_16 : BitVec 32 := 1#32
  let arg16 : BitVec 32 := Scf.iv c0_i32_14 c1_i32_16 k2_t3
  let c1_i32_18 : BitVec 32 := 1#32
  let v15 : BitVec 32 := Scalar.muli arg16 c1_i32_18
  let v16 : BitVec 32 := Scalar.addi c0_i32_19 v15
  let c16_i32 : BitVec 32 := 16#32
  let v17 : BitVec 32 := Scalar.muli v16 c16_i32
  let v18 : Index := Scalar.indexCast v17
  ![v18.toNat]
def k2_off37 (k2_t1 : Fin k2_t1_loop.trips) (k2_t3 : Fin k2_t3_loop.trips) : Fin 1 → Nat :=
  let c0_i32_9 : BitVec 32 := 0#32
  let c0_i32_1 : BitVec 32 := 0#32
  let c1_i32 : BitVec 32 := 1#32
  let arg14 : BitVec 32 := Scf.iv c0_i32_1 c1_i32 k2_t1
  let c1_i32_8 : BitVec 32 := 1#32
  let v9 : BitVec 32 := Scalar.muli arg14 c1_i32_8
  let v10 : BitVec 32 := Scalar.addi c0_i32_9 v9
  let c512_i32 : BitVec 32 := 512#32
  let v29 : BitVec 32 := Scalar.muli v10 c512_i32
  let c0_i32_19 : BitVec 32 := 0#32
  let c0_i32_14 : BitVec 32 := 0#32
  let c1_i32_16 : BitVec 32 := 1#32
  let arg16 : BitVec 32 := Scf.iv c0_i32_14 c1_i32_16 k2_t3
  let c1_i32_18 : BitVec 32 := 1#32
  let v15 : BitVec 32 := Scalar.muli arg16 c1_i32_18
  let v16 : BitVec 32 := Scalar.addi c0_i32_19 v15
  let c16_i32_21 : BitVec 32 := 16#32
  let v30 : BitVec 32 := Scalar.muli v16 c16_i32_21
  let v31 : BitVec 32 := Scalar.addi v29 v30
  let v32 : Index := Scalar.indexCast v31
  ![v32.toNat]
@[reducible] def k2_t4_loop : Scf.Loop 32 :=
  let c0_i32_3 : BitVec 32 := 0#32
  let c984_i32 : BitVec 32 := 984#32
  let v6 : BitVec 32 := Scalar.addi c0_i32_3 c984_i32
  let c1_i32_4 : BitVec 32 := 1#32
  ⟨c0_i32_3, v6, c1_i32_4⟩
def k2_off38 (k2_t4 : Fin k2_t4_loop.trips) : Fin 1 → Nat :=
  let c0_i32_9 : BitVec 32 := 0#32
  let c0_i32_3 : BitVec 32 := 0#32
  let c1_i32_4 : BitVec 32 := 1#32
  let arg14 : BitVec 32 := Scf.iv c0_i32_3 c1_i32_4 k2_t4
  let c1_i32_8 : BitVec 32 := 1#32
  let v9 : BitVec 32 := Scalar.muli arg14 c1_i32_8
  let v10 : BitVec 32 := Scalar.addi c0_i32_9 v9
  let c16_i32 : BitVec 32 := 16#32
  let v11 : BitVec 32 := Scalar.muli v10 c16_i32
  let v12 : Index := Scalar.indexCast v11
  ![v12.toNat]
def k2_off39 (k2_t4 : Fin k2_t4_loop.trips) : Fin 1 → Nat :=
  let c0_i32_9 : BitVec 32 := 0#32
  let c0_i32_3 : BitVec 32 := 0#32
  let c1_i32_4 : BitVec 32 := 1#32
  let arg14 : BitVec 32 := Scf.iv c0_i32_3 c1_i32_4 k2_t4
  let c1_i32_8 : BitVec 32 := 1#32
  let v9 : BitVec 32 := Scalar.muli arg14 c1_i32_8
  let v10 : BitVec 32 := Scalar.addi c0_i32_9 v9
  let c16_i32_11 : BitVec 32 := 16#32
  let v19 : BitVec 32 := Scalar.muli v10 c16_i32_11
  let v20 : Index := Scalar.indexCast v19
  ![v20.toNat]

def k2_chk1 (v13 : IVec S16 32) : Prop :=
  (∀ a x, ((![v13] : Fin 1 → IVec S16 32) a x).toNat < S4096.size a) ∧
  (∀ a x, ((![v13] : Fin 1 → IVec S16 32) a x).toNat < S4096.size a)
theorem k2_idx1_inb : ∀ (v13 : IVec S16 32) (k2_hw1 : k2_chk1 v13), ∀ a x, ((![v13] : Fin 1 → IVec S16 32) a x).toNat < S4096.size a := fun v13 k2_hw1 => k2_hw1.1
theorem k2_idx2_inb : ∀ (v13 : IVec S16 32) (k2_hw1 : k2_chk1 v13), ∀ a x, ((![v13] : Fin 1 → IVec S16 32) a x).toNat < S4096.size a := fun v13 k2_hw1 => k2_hw1.2
abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15744_i32 : BitVec 32 := 15744#32
  let v2 : BitVec 32 := Scalar.muli v1 c15744_i32
  ![v2.toNat]
@[reducible] def k3_t1_loop : Scf.Loop 32 :=
  let c0_i32 : BitVec 32 := 0#32
  let c512_i32 : BitVec 32 := 512#32
  let v3 : BitVec 32 := Scalar.addi c0_i32 c512_i32
  let c1_i32 : BitVec 32 := 1#32
  ⟨c0_i32, v3, c1_i32⟩
def k3_off2 (k3_t1 : Fin k3_t1_loop.trips) : Fin 1 → Nat :=
  let c0_i32_8 : BitVec 32 := 0#32
  let c0_i32 : BitVec 32 := 0#32
  let c1_i32 : BitVec 32 := 1#32
  let arg6 : BitVec 32 := Scf.iv c0_i32 c1_i32 k3_t1
  let c1_i32_7 : BitVec 32 := 1#32
  let v6 : BitVec 32 := Scalar.muli arg6 c1_i32_7
  let v7 : BitVec 32 := Scalar.addi c0_i32_8 v6
  let c16_i32_10 : BitVec 32 := 16#32
  let v9 : BitVec 32 := Scalar.muli v7 c16_i32_10
  let v10 : Index := Scalar.indexCast v9
  ![v10.toNat]
@[reducible] def k3_t2_loop : Scf.Loop 32 :=
  let c0_i32_1 : BitVec 32 := 0#32
  let c984_i32 : BitVec 32 := 984#32
  let v4 : BitVec 32 := Scalar.addi c0_i32_1 c984_i32
  let c1_i32_2 : BitVec 32 := 1#32
  ⟨c0_i32_1, v4, c1_i32_2⟩
def k3_off3 (k3_t2 : Fin k3_t2_loop.trips) : Fin 1 → Nat :=
  let c0_i32_8 : BitVec 32 := 0#32
  let c0_i32_1 : BitVec 32 := 0#32
  let c1_i32_2 : BitVec 32 := 1#32
  let arg6 : BitVec 32 := Scf.iv c0_i32_1 c1_i32_2 k3_t2
  let c1_i32_7 : BitVec 32 := 1#32
  let v6 : BitVec 32 := Scalar.muli arg6 c1_i32_7
  let v7 : BitVec 32 := Scalar.addi c0_i32_8 v6
  let c16_i32_9 : BitVec 32 := 16#32
  let v8 : BitVec 32 := Scalar.muli v7 c16_i32_9
  let v9 : Index := Scalar.indexCast v8
  ![v9.toNat]

def k3_chk1 (v12 : IVec S16 32) : Prop :=
  (∀ a x, ((![v12] : Fin 1 → IVec S16 32) a x).toNat < S8192.size a)
theorem k3_idx1_inb : ∀ (v12 : IVec S16 32) (k3_hw1 : k3_chk1 v12), ∀ a x, ((![v12] : Fin 1 → IVec S16 32) a x).toNat < S8192.size a := fun v12 k3_hw1 => k3_hw1
@[reducible] def k3_t3_loop : Scf.Loop 32 :=
  let c0_i32_4 : BitVec 32 := 0#32
  let c16_i32 : BitVec 32 := 16#32
  let v5 : BitVec 32 := Scalar.addi c0_i32_4 c16_i32
  let c1_i32_5 : BitVec 32 := 1#32
  ⟨c0_i32_4, v5, c1_i32_5⟩
def k3_off4 (k3_t3 : Fin k3_t3_loop.trips) : Fin 1 → Nat :=
  let c0_i32_8 : BitVec 32 := 0#32
  let c0_i32_4 : BitVec 32 := 0#32
  let c1_i32_5 : BitVec 32 := 1#32
  let arg6 : BitVec 32 := Scf.iv c0_i32_4 c1_i32_5 k3_t3
  let c1_i32_7 : BitVec 32 := 1#32
  let v6 : BitVec 32 := Scalar.muli arg6 c1_i32_7
  let v7 : BitVec 32 := Scalar.addi c0_i32_8 v6
  let c512_i32_9 : BitVec 32 := 512#32
  let v8 : BitVec 32 := Scalar.muli v7 c512_i32_9
  ![v8.toNat]
def k3_off5 (i : grid3.Coords) (k3_t3 : Fin k3_t3_loop.trips) : Fin 2 → Nat :=
  let c0_i32_8 : BitVec 32 := 0#32
  let c0_i32_4 : BitVec 32 := 0#32
  let c1_i32_5 : BitVec 32 := 1#32
  let arg6 : BitVec 32 := Scf.iv c0_i32_4 c1_i32_5 k3_t3
  let c1_i32_7 : BitVec 32 := 1#32
  let v6 : BitVec 32 := Scalar.muli arg6 c1_i32_7
  let v7 : BitVec 32 := Scalar.addi c0_i32_8 v6
  let c32_i32 : BitVec 32 := 32#32
  let v9 : BitVec 32 := Scalar.muli v7 c32_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v10 : BitVec 32 := Scalar.addi v9 v1
  let c0_i32_10_r1 : BitVec 32 := 0#32
  ![v10.toNat, 0]
abbrev grid4 : Pipeline.Grid := ⟨2, ![2, 16], ![false, false]⟩

def k4_off1 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15744_i32 : BitVec 32 := 15744#32
  let v2 : BitVec 32 := Scalar.muli v1 c15744_i32
  ![v2.toNat]
@[reducible] def k4_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k4_off2 (k4_t1 : Fin k4_t1_loop.trips) : Fin 2 → Nat :=
  let c0_i32_27 : BitVec 32 := 0#32
  let c0_i32_0 : BitVec 32 := 0#32
  let c1_i32 : BitVec 32 := 1#32
  let arg21 : BitVec 32 := Scf.iv c0_i32_0 c1_i32 k4_t1
  let c1_i32_26 : BitVec 32 := 1#32
  let v26 : BitVec 32 := Scalar.muli arg21 c1_i32_26
  let v27 : BitVec 32 := Scalar.addi c0_i32_27 v26
  let c32_i32 : BitVec 32 := 32#32
  let v28 : BitVec 32 := Scalar.muli v27 c32_i32
  let c0_i32_36_r1 : BitVec 32 := 0#32
  ![v28.toNat, 0]
@[reducible] def k4_t2_loop : Scf.Loop 32 :=
  let c0_i32_28 : BitVec 32 := 0#32
  let c32_i32_29 : BitVec 32 := 32#32
  let v29 : BitVec 32 := Scalar.addi c0_i32_28 c32_i32_29
  let c1_i32_30 : BitVec 32 := 1#32
  ⟨c0_i32_28, v29, c1_i32_30⟩
def k4_off3 (k4_t2 : Fin k4_t2_loop.trips) : Fin 2 → Nat :=
  let c0_i32_41 : BitVec 32 := 0#32
  let v37 : Index := Scalar.indexCast c0_i32_41
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_40 : BitVec 32 := 16#32
  let v36 : BitVec 32 := Scalar.muli v33 c16_i32_40
  let v38 : Index := Scalar.indexCast v36
  ![0, v38.toNat]
def k4_off4 (k4_t2 : Fin k4_t2_loop.trips) : Fin 2 → Nat :=
  let c1_i32_44 : BitVec 32 := 1#32
  let v47 : Index := Scalar.indexCast c1_i32_44
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_43 : BitVec 32 := 16#32
  let v46 : BitVec 32 := Scalar.muli v33 c16_i32_43
  let v48 : Index := Scalar.indexCast v46
  ![1, v48.toNat]
def k4_off5 (k4_t2 : Fin k4_t2_loop.trips) : Fin 2 → Nat :=
  let c2_i32_47 : BitVec 32 := 2#32
  let v57 : Index := Scalar.indexCast c2_i32_47
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_46 : BitVec 32 := 16#32
  let v56 : BitVec 32 := Scalar.muli v33 c16_i32_46
  let v58 : Index := Scalar.indexCast v56
  ![2, v58.toNat]
def k4_off6 (k4_t2 : Fin k4_t2_loop.trips) : Fin 2 → Nat :=
  let c3_i32 : BitVec 32 := 3#32
  let v67 : Index := Scalar.indexCast c3_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_49 : BitVec 32 := 16#32
  let v66 : BitVec 32 := Scalar.muli v33 c16_i32_49
  let v68 : Index := Scalar.indexCast v66
  ![3, v68.toNat]
def k4_off7 (k4_t2 : Fin k4_t2_loop.trips) : Fin 2 → Nat :=
  let c4_i32 : BitVec 32 := 4#32
  let v77 : Index := Scalar.indexCast c4_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_51 : BitVec 32 := 16#32
  let v76 : BitVec 32 := Scalar.muli v33 c16_i32_51
  let v78 : Index := Scalar.indexCast v76
  ![4, v78.toNat]
def k4_off8 (k4_t2 : Fin k4_t2_loop.trips) : Fin 2 → Nat :=
  let c5_i32 : BitVec 32 := 5#32
  let v87 : Index := Scalar.indexCast c5_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_53 : BitVec 32 := 16#32
  let v86 : BitVec 32 := Scalar.muli v33 c16_i32_53
  let v88 : Index := Scalar.indexCast v86
  ![5, v88.toNat]
def k4_off9 (k4_t2 : Fin k4_t2_loop.trips) : Fin 2 → Nat :=
  let c6_i32 : BitVec 32 := 6#32
  let v97 : Index := Scalar.indexCast c6_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_55 : BitVec 32 := 16#32
  let v96 : BitVec 32 := Scalar.muli v33 c16_i32_55
  let v98 : Index := Scalar.indexCast v96
  ![6, v98.toNat]
def k4_off10 (k4_t2 : Fin k4_t2_loop.trips) : Fin 2 → Nat :=
  let c7_i32 : BitVec 32 := 7#32
  let v107 : Index := Scalar.indexCast c7_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_57 : BitVec 32 := 16#32
  let v106 : BitVec 32 := Scalar.muli v33 c16_i32_57
  let v108 : Index := Scalar.indexCast v106
  ![7, v108.toNat]
def k4_off11 (k4_t2 : Fin k4_t2_loop.trips) : Fin 2 → Nat :=
  let c8_i32 : BitVec 32 := 8#32
  let v117 : Index := Scalar.indexCast c8_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_59 : BitVec 32 := 16#32
  let v116 : BitVec 32 := Scalar.muli v33 c16_i32_59
  let v118 : Index := Scalar.indexCast v116
  ![8, v118.toNat]
def k4_off12 (k4_t2 : Fin k4_t2_loop.trips) : Fin 2 → Nat :=
  let c9_i32 : BitVec 32 := 9#32
  let v127 : Index := Scalar.indexCast c9_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_61 : BitVec 32 := 16#32
  let v126 : BitVec 32 := Scalar.muli v33 c16_i32_61
  let v128 : Index := Scalar.indexCast v126
  ![9, v128.toNat]
def k4_off13 (k4_t2 : Fin k4_t2_loop.trips) : Fin 2 → Nat :=
  let c10_i32 : BitVec 32 := 10#32
  let v137 : Index := Scalar.indexCast c10_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_63 : BitVec 32 := 16#32
  let v136 : BitVec 32 := Scalar.muli v33 c16_i32_63
  let v138 : Index := Scalar.indexCast v136
  ![10, v138.toNat]
def k4_off14 (k4_t2 : Fin k4_t2_loop.trips) : Fin 2 → Nat :=
  let c11_i32 : BitVec 32 := 11#32
  let v147 : Index := Scalar.indexCast c11_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_65 : BitVec 32 := 16#32
  let v146 : BitVec 32 := Scalar.muli v33 c16_i32_65
  let v148 : Index := Scalar.indexCast v146
  ![11, v148.toNat]
def k4_off15 (k4_t2 : Fin k4_t2_loop.trips) : Fin 2 → Nat :=
  let c12_i32 : BitVec 32 := 12#32
  let v157 : Index := Scalar.indexCast c12_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_67 : BitVec 32 := 16#32
  let v156 : BitVec 32 := Scalar.muli v33 c16_i32_67
  let v158 : Index := Scalar.indexCast v156
  ![12, v158.toNat]
def k4_off16 (k4_t2 : Fin k4_t2_loop.trips) : Fin 2 → Nat :=
  let c13_i32 : BitVec 32 := 13#32
  let v167 : Index := Scalar.indexCast c13_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_69 : BitVec 32 := 16#32
  let v166 : BitVec 32 := Scalar.muli v33 c16_i32_69
  let v168 : Index := Scalar.indexCast v166
  ![13, v168.toNat]
def k4_off17 (k4_t2 : Fin k4_t2_loop.trips) : Fin 2 → Nat :=
  let c14_i32_72 : BitVec 32 := 14#32
  let v177 : Index := Scalar.indexCast c14_i32_72
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_71 : BitVec 32 := 16#32
  let v176 : BitVec 32 := Scalar.muli v33 c16_i32_71
  let v178 : Index := Scalar.indexCast v176
  ![14, v178.toNat]
def k4_off18 (k4_t2 : Fin k4_t2_loop.trips) : Fin 2 → Nat :=
  let c15_i32 : BitVec 32 := 15#32
  let v187 : Index := Scalar.indexCast c15_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_74 : BitVec 32 := 16#32
  let v186 : BitVec 32 := Scalar.muli v33 c16_i32_74
  let v188 : Index := Scalar.indexCast v186
  ![15, v188.toNat]
def k4_off19 (k4_t2 : Fin k4_t2_loop.trips) : Fin 2 → Nat :=
  let c16_i32_77 : BitVec 32 := 16#32
  let v197 : Index := Scalar.indexCast c16_i32_77
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_76 : BitVec 32 := 16#32
  let v196 : BitVec 32 := Scalar.muli v33 c16_i32_76
  let v198 : Index := Scalar.indexCast v196
  ![16, v198.toNat]
def k4_off20 (k4_t2 : Fin k4_t2_loop.trips) : Fin 2 → Nat :=
  let c17_i32 : BitVec 32 := 17#32
  let v207 : Index := Scalar.indexCast c17_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_79 : BitVec 32 := 16#32
  let v206 : BitVec 32 := Scalar.muli v33 c16_i32_79
  let v208 : Index := Scalar.indexCast v206
  ![17, v208.toNat]
def k4_off21 (k4_t2 : Fin k4_t2_loop.trips) : Fin 2 → Nat :=
  let c18_i32 : BitVec 32 := 18#32
  let v217 : Index := Scalar.indexCast c18_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_81 : BitVec 32 := 16#32
  let v216 : BitVec 32 := Scalar.muli v33 c16_i32_81
  let v218 : Index := Scalar.indexCast v216
  ![18, v218.toNat]
def k4_off22 (k4_t2 : Fin k4_t2_loop.trips) : Fin 2 → Nat :=
  let c19_i32 : BitVec 32 := 19#32
  let v227 : Index := Scalar.indexCast c19_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_83 : BitVec 32 := 16#32
  let v226 : BitVec 32 := Scalar.muli v33 c16_i32_83
  let v228 : Index := Scalar.indexCast v226
  ![19, v228.toNat]
def k4_off23 (k4_t2 : Fin k4_t2_loop.trips) : Fin 2 → Nat :=
  let c20_i32 : BitVec 32 := 20#32
  let v237 : Index := Scalar.indexCast c20_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_85 : BitVec 32 := 16#32
  let v236 : BitVec 32 := Scalar.muli v33 c16_i32_85
  let v238 : Index := Scalar.indexCast v236
  ![20, v238.toNat]
def k4_off24 (k4_t2 : Fin k4_t2_loop.trips) : Fin 2 → Nat :=
  let c21_i32 : BitVec 32 := 21#32
  let v247 : Index := Scalar.indexCast c21_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_87 : BitVec 32 := 16#32
  let v246 : BitVec 32 := Scalar.muli v33 c16_i32_87
  let v248 : Index := Scalar.indexCast v246
  ![21, v248.toNat]
def k4_off25 (k4_t2 : Fin k4_t2_loop.trips) : Fin 2 → Nat :=
  let c22_i32 : BitVec 32 := 22#32
  let v257 : Index := Scalar.indexCast c22_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_89 : BitVec 32 := 16#32
  let v256 : BitVec 32 := Scalar.muli v33 c16_i32_89
  let v258 : Index := Scalar.indexCast v256
  ![22, v258.toNat]
def k4_off26 (k4_t2 : Fin k4_t2_loop.trips) : Fin 2 → Nat :=
  let c23_i32 : BitVec 32 := 23#32
  let v267 : Index := Scalar.indexCast c23_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_91 : BitVec 32 := 16#32
  let v266 : BitVec 32 := Scalar.muli v33 c16_i32_91
  let v268 : Index := Scalar.indexCast v266
  ![23, v268.toNat]
def k4_off27 (k4_t2 : Fin k4_t2_loop.trips) : Fin 2 → Nat :=
  let c24_i32 : BitVec 32 := 24#32
  let v277 : Index := Scalar.indexCast c24_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_93 : BitVec 32 := 16#32
  let v276 : BitVec 32 := Scalar.muli v33 c16_i32_93
  let v278 : Index := Scalar.indexCast v276
  ![24, v278.toNat]
def k4_off28 (k4_t2 : Fin k4_t2_loop.trips) : Fin 2 → Nat :=
  let c25_i32 : BitVec 32 := 25#32
  let v287 : Index := Scalar.indexCast c25_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_95 : BitVec 32 := 16#32
  let v286 : BitVec 32 := Scalar.muli v33 c16_i32_95
  let v288 : Index := Scalar.indexCast v286
  ![25, v288.toNat]
def k4_off29 (k4_t2 : Fin k4_t2_loop.trips) : Fin 2 → Nat :=
  let c26_i32 : BitVec 32 := 26#32
  let v297 : Index := Scalar.indexCast c26_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_97 : BitVec 32 := 16#32
  let v296 : BitVec 32 := Scalar.muli v33 c16_i32_97
  let v298 : Index := Scalar.indexCast v296
  ![26, v298.toNat]
def k4_off30 (k4_t2 : Fin k4_t2_loop.trips) : Fin 2 → Nat :=
  let c27_i32 : BitVec 32 := 27#32
  let v307 : Index := Scalar.indexCast c27_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_99 : BitVec 32 := 16#32
  let v306 : BitVec 32 := Scalar.muli v33 c16_i32_99
  let v308 : Index := Scalar.indexCast v306
  ![27, v308.toNat]
def k4_off31 (k4_t2 : Fin k4_t2_loop.trips) : Fin 2 → Nat :=
  let c28_i32 : BitVec 32 := 28#32
  let v317 : Index := Scalar.indexCast c28_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_101 : BitVec 32 := 16#32
  let v316 : BitVec 32 := Scalar.muli v33 c16_i32_101
  let v318 : Index := Scalar.indexCast v316
  ![28, v318.toNat]
def k4_off32 (k4_t2 : Fin k4_t2_loop.trips) : Fin 2 → Nat :=
  let c29_i32 : BitVec 32 := 29#32
  let v327 : Index := Scalar.indexCast c29_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_103 : BitVec 32 := 16#32
  let v326 : BitVec 32 := Scalar.muli v33 c16_i32_103
  let v328 : Index := Scalar.indexCast v326
  ![29, v328.toNat]
def k4_off33 (k4_t2 : Fin k4_t2_loop.trips) : Fin 2 → Nat :=
  let c30_i32 : BitVec 32 := 30#32
  let v337 : Index := Scalar.indexCast c30_i32
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_105 : BitVec 32 := 16#32
  let v336 : BitVec 32 := Scalar.muli v33 c16_i32_105
  let v338 : Index := Scalar.indexCast v336
  ![30, v338.toNat]
def k4_off34 (k4_t2 : Fin k4_t2_loop.trips) : Fin 2 → Nat :=
  let c31_i32_108 : BitVec 32 := 31#32
  let v347 : Index := Scalar.indexCast c31_i32_108
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_107 : BitVec 32 := 16#32
  let v346 : BitVec 32 := Scalar.muli v33 c16_i32_107
  let v348 : Index := Scalar.indexCast v346
  ![31, v348.toNat]
def k4_off35 (k4_t2 : Fin k4_t2_loop.trips) : Fin 1 → Nat :=
  let c0_i32_37 : BitVec 32 := 0#32
  let c0_i32_28 : BitVec 32 := 0#32
  let c1_i32_30 : BitVec 32 := 1#32
  let arg23 : BitVec 32 := Scf.iv c0_i32_28 c1_i32_30 k4_t2
  let c1_i32_36 : BitVec 32 := 1#32
  let v32 : BitVec 32 := Scalar.muli arg23 c1_i32_36
  let v33 : BitVec 32 := Scalar.addi c0_i32_37 v32
  let c16_i32_110 : BitVec 32 := 16#32
  let v356 : BitVec 32 := Scalar.muli v33 c16_i32_110
  let v357 : Index := Scalar.indexCast v356
  ![v357.toNat]
@[reducible] def k4_t3_loop : Scf.Loop 32 :=
  let c0_i32_32 : BitVec 32 := 0#32
  let c32_i32_33 : BitVec 32 := 32#32
  let v30 : BitVec 32 := Scalar.addi c0_i32_32 c32_i32_33
  let c1_i32_34 : BitVec 32 := 1#32
  ⟨c0_i32_32, v30, c1_i32_34⟩
def k4_off36 (k4_t3 : Fin k4_t3_loop.trips) : Fin 1 → Nat :=
  let c0_i32_37 : BitVec 32 := 0#32
  let c0_i32_32 : BitVec 32 := 0#32
  let c1_i32_34 : BitVec 32 := 1#32
  let arg23 : BitVec 32 := Scf.iv c0_i32_32 c1_i32_34 k4_t3
  let c1_i32_36 : BitVec 32 := 1#32
  let v32 : BitVec 32 := Scalar.muli arg23 c1_i32_36
  let v33 : BitVec 32 := Scalar.addi c0_i32_37 v32
  let c16_i32_38 : BitVec 32 := 16#32
  let v34 : BitVec 32 := Scalar.muli v33 c16_i32_38
  let v35 : Index := Scalar.indexCast v34
  ![v35.toNat]
def k4_off37 (k4_t1 : Fin k4_t1_loop.trips) (k4_t3 : Fin k4_t3_loop.trips) : Fin 1 → Nat :=
  let c0_i32_27 : BitVec 32 := 0#32
  let c0_i32_0 : BitVec 32 := 0#32
  let c1_i32 : BitVec 32 := 1#32
  let arg21 : BitVec 32 := Scf.iv c0_i32_0 c1_i32 k4_t1
  let c1_i32_26 : BitVec 32 := 1#32
  let v26 : BitVec 32 := Scalar.muli arg21 c1_i32_26
  let v27 : BitVec 32 := Scalar.addi c0_i32_27 v26
  let c512_i32 : BitVec 32 := 512#32
  let v46 : BitVec 32 := Scalar.muli v27 c512_i32
  let c0_i32_37 : BitVec 32 := 0#32
  let c0_i32_32 : BitVec 32 := 0#32
  let c1_i32_34 : BitVec 32 := 1#32
  let arg23 : BitVec 32 := Scf.iv c0_i32_32 c1_i32_34 k4_t3
  let c1_i32_36 : BitVec 32 := 1#32
  let v32 : BitVec 32 := Scalar.muli arg23 c1_i32_36
  let v33 : BitVec 32 := Scalar.addi c0_i32_37 v32
  let c16_i32_40 : BitVec 32 := 16#32
  let v47 : BitVec 32 := Scalar.muli v33 c16_i32_40
  let v48 : BitVec 32 := Scalar.addi v46 v47
  let v49 : Index := Scalar.indexCast v48
  ![v49.toNat]
@[reducible] def k4_t4_loop (i : grid4.Coords) : Scf.Loop 32 :=
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v5 : BitVec 1 := Scalar.cmpi .eq v1 c31_i32
  let c14_i32 : BitVec 32 := 14#32
  let c16_i32_2 : BitVec 32 := 16#32
  let v6 : BitVec 32 := Scalar.select v5 c14_i32 c16_i32_2
  let c0_i32_3 : BitVec 32 := 0#32
  let v7 : BitVec 32 := Scalar.subi v6 c0_i32_3
  let c1_i32_4 : BitVec 32 := 1#32
  let c1_i32_5 : BitVec 32 := 1#32
  let v8 : BitVec 32 := Scalar.subi c1_i32_4 c1_i32_5
  let v9 : BitVec 32 := Scalar.addi v7 v8
  let c1_i32_6 : BitVec 32 := 1#32
  let v10 : BitVec 32 := Scalar.divsi v9 c1_i32_6
  let v11 : BitVec 32 := Scalar.subi v10 c0_i32_9
  let c1_i32_10 : BitVec 32 := 1#32
  let v13 : BitVec 32 := Scalar.divsi v11 c1_i32_10
  let v14 : BitVec 32 := Scalar.muli v13 c1_i32_10
  let v15 : BitVec 32 := Scalar.addi c0_i32_9 v14
  let c1_i32_11 : BitVec 32 := 1#32
  ⟨c0_i32_9, v15, c1_i32_11⟩
def k4_off38 (i : grid4.Coords) (k4_t4 : Fin (k4_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v28 : BitVec 32 := Scalar.muli v1 c256_i32
  let c0_i32_8 : BitVec 32 := 0#32
  let c0_i32_9 : BitVec 32 := 0#32
  let c1_i32_11 : BitVec 32 := 1#32
  let arg21 : BitVec 32 := Scf.iv c0_i32_9 c1_i32_11 k4_t4
  let c1_i32_7 : BitVec 32 := 1#32
  let v26 : BitVec 32 := Scalar.muli arg21 c1_i32_7
  let v27 : BitVec 32 := Scalar.addi c0_i32_8 v26
  let c16_i32_26 : BitVec 32 := 16#32
  let v29 : BitVec 32 := Scalar.muli v27 c16_i32_26
  let v30 : BitVec 32 := Scalar.addi v28 v29
  let v31 : Index := Scalar.indexCast v30
  ![v31.toNat]
def k4_off39 (i : grid4.Coords) (k4_t4 : Fin (k4_t4_loop i).trips) : Fin 1 → Nat :=
  let c0_i32_8 : BitVec 32 := 0#32
  let c0_i32_9 : BitVec 32 := 0#32
  let c1_i32_11 : BitVec 32 := 1#32
  let arg21 : BitVec 32 := Scf.iv c0_i32_9 c1_i32_11 k4_t4
  let c1_i32_7 : BitVec 32 := 1#32
  let v26 : BitVec 32 := Scalar.muli arg21 c1_i32_7
  let v27 : BitVec 32 := Scalar.addi c0_i32_8 v26
  let c16_i32_28 : BitVec 32 := 16#32
  let v38 : BitVec 32 := Scalar.muli v27 c16_i32_28
  let v39 : Index := Scalar.indexCast v38
  ![v39.toNat]
@[reducible] def k4_t5_loop (i : grid4.Coords) : Scf.Loop 32 :=
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v5 : BitVec 1 := Scalar.cmpi .eq v1 c31_i32
  let c14_i32 : BitVec 32 := 14#32
  let c16_i32_2 : BitVec 32 := 16#32
  let v6 : BitVec 32 := Scalar.select v5 c14_i32 c16_i32_2
  let c0_i32_3 : BitVec 32 := 0#32
  let v7 : BitVec 32 := Scalar.subi v6 c0_i32_3
  let c1_i32_4 : BitVec 32 := 1#32
  let c1_i32_5 : BitVec 32 := 1#32
  let v8 : BitVec 32 := Scalar.subi c1_i32_4 c1_i32_5
  let v9 : BitVec 32 := Scalar.addi v7 v8
  let c1_i32_6 : BitVec 32 := 1#32
  let v10 : BitVec 32 := Scalar.divsi v9 c1_i32_6
  let v11 : BitVec 32 := Scalar.subi v10 c0_i32_9
  let c1_i32_10 : BitVec 32 := 1#32
  let v13 : BitVec 32 := Scalar.divsi v11 c1_i32_10
  let v14 : BitVec 32 := Scalar.muli v13 c1_i32_10
  let v15 : BitVec 32 := Scalar.addi c0_i32_9 v14
  let v12 : BitVec 32 := Scalar.addi c0_i32_9 v11
  let c1_i32_12 : BitVec 32 := 1#32
  ⟨v15, v12, c1_i32_12⟩
def k4_off40 (i : grid4.Coords) (k4_t5 : Fin (k4_t5_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v28 : BitVec 32 := Scalar.muli v1 c256_i32
  let c0_i32_8 : BitVec 32 := 0#32
  let c0_i32_9 : BitVec 32 := 0#32
  let c31_i32 : BitVec 32 := 31#32
  let v5 : BitVec 1 := Scalar.cmpi .eq v1 c31_i32
  let c14_i32 : BitVec 32 := 14#32
  let c16_i32_2 : BitVec 32 := 16#32
  let v6 : BitVec 32 := Scalar.select v5 c14_i32 c16_i32_2
  let c0_i32_3 : BitVec 32 := 0#32
  let v7 : BitVec 32 := Scalar.subi v6 c0_i32_3
  let c1_i32_4 : BitVec 32 := 1#32
  let c1_i32_5 : BitVec 32 := 1#32
  let v8 : BitVec 32 := Scalar.subi c1_i32_4 c1_i32_5
  let v9 : BitVec 32 := Scalar.addi v7 v8
  let c1_i32_6 : BitVec 32 := 1#32
  let v10 : BitVec 32 := Scalar.divsi v9 c1_i32_6
  let v11 : BitVec 32 := Scalar.subi v10 c0_i32_9
  let c1_i32_10 : BitVec 32 := 1#32
  let v13 : BitVec 32 := Scalar.divsi v11 c1_i32_10
  let v14 : BitVec 32 := Scalar.muli v13 c1_i32_10
  let v15 : BitVec 32 := Scalar.addi c0_i32_9 v14
  let c1_i32_12 : BitVec 32 := 1#32
  let arg21 : BitVec 32 := Scf.iv v15 c1_i32_12 k4_t5
  let c1_i32_7 : BitVec 32 := 1#32
  let v26 : BitVec 32 := Scalar.muli arg21 c1_i32_7
  let v27 : BitVec 32 := Scalar.addi c0_i32_8 v26
  let c16_i32_26 : BitVec 32 := 16#32
  let v29 : BitVec 32 := Scalar.muli v27 c16_i32_26
  let v30 : BitVec 32 := Scalar.addi v28 v29
  let v31 : Index := Scalar.indexCast v30
  ![v31.toNat]
def k4_off41 (i : grid4.Coords) (k4_t5 : Fin (k4_t5_loop i).trips) : Fin 1 → Nat :=
  let c0_i32_8 : BitVec 32 := 0#32
  let c0_i32_9 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v5 : BitVec 1 := Scalar.cmpi .eq v1 c31_i32
  let c14_i32 : BitVec 32 := 14#32
  let c16_i32_2 : BitVec 32 := 16#32
  let v6 : BitVec 32 := Scalar.select v5 c14_i32 c16_i32_2
  let c0_i32_3 : BitVec 32 := 0#32
  let v7 : BitVec 32 := Scalar.subi v6 c0_i32_3
  let c1_i32_4 : BitVec 32 := 1#32
  let c1_i32_5 : BitVec 32 := 1#32
  let v8 : BitVec 32 := Scalar.subi c1_i32_4 c1_i32_5
  let v9 : BitVec 32 := Scalar.addi v7 v8
  let c1_i32_6 : BitVec 32 := 1#32
  let v10 : BitVec 32 := Scalar.divsi v9 c1_i32_6
  let v11 : BitVec 32 := Scalar.subi v10 c0_i32_9
  let c1_i32_10 : BitVec 32 := 1#32
  let v13 : BitVec 32 := Scalar.divsi v11 c1_i32_10
  let v14 : BitVec 32 := Scalar.muli v13 c1_i32_10
  let v15 : BitVec 32 := Scalar.addi c0_i32_9 v14
  let c1_i32_12 : BitVec 32 := 1#32
  let arg21 : BitVec 32 := Scf.iv v15 c1_i32_12 k4_t5
  let c1_i32_7 : BitVec 32 := 1#32
  let v26 : BitVec 32 := Scalar.muli arg21 c1_i32_7
  let v27 : BitVec 32 := Scalar.addi c0_i32_8 v26
  let c16_i32_28 : BitVec 32 := 16#32
  let v38 : BitVec 32 := Scalar.muli v27 c16_i32_28
  let v39 : Index := Scalar.indexCast v38
  ![v39.toNat]
def k4_cond1 (i : grid4.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_13 : BitVec 32 := 31#32
  let v16 : BitVec 1 := Scalar.cmpi .slt v1 c31_i32_13
  let v17 : BitVec 32 := Scalar.extui v16
  let c0_i32_14 : BitVec 32 := 0#32
  let v18 : BitVec 1 := Scalar.cmpi .ne v17 c0_i32_14
  v18

def k4_off42 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v26 : BitVec 32 := Scalar.muli v1 c256_i32
  ![v26.toNat]
@[reducible] def k4_t6_loop : Scf.Loop 32 :=
  let c0_i32_17 : BitVec 32 := 0#32
  let c984_i32 : BitVec 32 := 984#32
  let v22 : BitVec 32 := Scalar.addi c0_i32_17 c984_i32
  let c1_i32_18 : BitVec 32 := 1#32
  ⟨c0_i32_17, v22, c1_i32_18⟩
def k4_off43 (k4_t6 : Fin k4_t6_loop.trips) : Fin 1 → Nat :=
  let c0_i32_27 : BitVec 32 := 0#32
  let c0_i32_17 : BitVec 32 := 0#32
  let c1_i32_18 : BitVec 32 := 1#32
  let arg21 : BitVec 32 := Scf.iv c0_i32_17 c1_i32_18 k4_t6
  let c1_i32_26 : BitVec 32 := 1#32
  let v26 : BitVec 32 := Scalar.muli arg21 c1_i32_26
  let v27 : BitVec 32 := Scalar.addi c0_i32_27 v26
  let c16_i32_28 : BitVec 32 := 16#32
  let v28 : BitVec 32 := Scalar.muli v27 c16_i32_28
  let v29 : Index := Scalar.indexCast v28
  ![v29.toNat]
@[reducible] def k4_t7_loop : Scf.Loop 32 :=
  let c0_i32_20 : BitVec 32 := 0#32
  let c984_i32_21 : BitVec 32 := 984#32
  let v23 : BitVec 32 := Scalar.addi c0_i32_20 c984_i32_21
  let c1_i32_22 : BitVec 32 := 1#32
  ⟨c0_i32_20, v23, c1_i32_22⟩
def k4_off44 (k4_t7 : Fin k4_t7_loop.trips) : Fin 1 → Nat :=
  let c0_i32_27 : BitVec 32 := 0#32
  let c0_i32_20 : BitVec 32 := 0#32
  let c1_i32_22 : BitVec 32 := 1#32
  let arg21 : BitVec 32 := Scf.iv c0_i32_20 c1_i32_22 k4_t7
  let c1_i32_26 : BitVec 32 := 1#32
  let v26 : BitVec 32 := Scalar.muli arg21 c1_i32_26
  let v27 : BitVec 32 := Scalar.addi c0_i32_27 v26
  let c16_i32_28 : BitVec 32 := 16#32
  let v28 : BitVec 32 := Scalar.muli v27 c16_i32_28
  let v29 : Index := Scalar.indexCast v28
  ![v29.toNat]
def k4_off45 (k4_t7 : Fin k4_t7_loop.trips) : Fin 1 → Nat :=
  let c0_i32_27 : BitVec 32 := 0#32
  let c0_i32_20 : BitVec 32 := 0#32
  let c1_i32_22 : BitVec 32 := 1#32
  let arg21 : BitVec 32 := Scf.iv c0_i32_20 c1_i32_22 k4_t7
  let c1_i32_26 : BitVec 32 := 1#32
  let v26 : BitVec 32 := Scalar.muli arg21 c1_i32_26
  let v27 : BitVec 32 := Scalar.addi c0_i32_27 v26
  let c16_i32_30 : BitVec 32 := 16#32
  let v38 : BitVec 32 := Scalar.muli v27 c16_i32_30
  let v39 : Index := Scalar.indexCast v38
  ![v39.toNat]

def k4_chk1 (v32 : IVec S16 32) : Prop :=
  (∀ a x, ((![v32] : Fin 1 → IVec S16 32) a x).toNat < S8192.size a) ∧
  (∀ a x, ((![v32] : Fin 1 → IVec S16 32) a x).toNat < S8192.size a)
theorem k4_idx1_inb : ∀ (v32 : IVec S16 32) (k4_hw1 : k4_chk1 v32), ∀ a x, ((![v32] : Fin 1 → IVec S16 32) a x).toNat < S8192.size a := fun v32 k4_hw1 => k4_hw1.1
theorem k4_idx2_inb : ∀ (v32 : IVec S16 32) (k4_hw1 : k4_chk1 v32), ∀ a x, ((![v32] : Fin 1 → IVec S16 32) a x).toNat < S8192.size a := fun v32 k4_hw1 => k4_hw1.2
abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== ReferenceIdeal.lean ====
abbrev S500000x3 : Shape := ⟨2, ![500000, 3]⟩
abbrev S500000x56 : Shape := ⟨2, ![500000, 56]⟩
abbrev S3x3 : Shape := ⟨2, ![3, 3]⟩
abbrev S4x4 : Shape := ⟨2, ![4, 4]⟩
abbrev S_ : Shape := ⟨0, ![]⟩
abbrev S500000x1 : Shape := ⟨2, ![500000, 1]⟩
abbrev S500000x4 : Shape := ⟨2, ![500000, 4]⟩
abbrev S500000 : Shape := ⟨1, ![500000]⟩
abbrev S500000x2 : Shape := ⟨2, ![500000, 2]⟩
abbrev S500000x9 : Shape := ⟨2, ![500000, 9]⟩
abbrev S500000x3x3 : Shape := ⟨3, ![500000, 3, 3]⟩
abbrev S500000x1x3 : Shape := ⟨3, ![500000, 1, 3]⟩
abbrev S1x1 : Shape := ⟨2, ![1, 1]⟩
abbrev S500000x2x3 : Shape := ⟨3, ![500000, 2, 3]⟩
abbrev S500000x3x2 : Shape := ⟨3, ![500000, 3, 2]⟩
abbrev S500000x2x2 : Shape := ⟨3, ![500000, 2, 2]⟩
abbrev S500000x8 : Shape := ⟨2, ![500000, 8]⟩
abbrev S8161 : Shape := ⟨1, ![8161]⟩
abbrev S8160 : Shape := ⟨1, ![8160]⟩
abbrev S499999 : Shape := ⟨1, ![499999]⟩
abbrev S499999x1 : Shape := ⟨2, ![499999, 1]⟩
abbrev S1 : Shape := ⟨1, ![1]⟩

abbrev nBuf : Space → Nat
  | .hbm => 343
  | .vmem => 0
  | .smem => 0
  | _ => 0

abbrev hbmTy0_0 (i : Nat) : BufTy := match i % 128 with
  | 0 => ⟨S500000x3, .f32⟩
  | 1 => ⟨S500000x56, .f32⟩
  | 2 => ⟨S3x3, .f32⟩
  | 3 => ⟨S4x4, .f32⟩
  | 4 => ⟨S_, .f32⟩
  | 5 => ⟨S500000x1, .f32⟩
  | 6 => ⟨S500000x4, .f32⟩
  | 7 => ⟨S4x4, .f32⟩
  | 8 => ⟨S500000x4, .f32⟩
  | 9 => ⟨S500000x3, .f32⟩
  | 10 => ⟨S500000x1, .f32⟩
  | 11 => ⟨S500000, .f32⟩
  | 12 => ⟨S500000, .f32⟩
  | 13 => ⟨S_, .f32⟩
  | 14 => ⟨S500000, .f32⟩
  | 15 => ⟨S500000, .i1⟩
  | 16 => ⟨S_, .f32⟩
  | 17 => ⟨S_, .f32⟩
  | 18 => ⟨S500000, .f32⟩
  | 19 => ⟨S500000, .f32⟩
  | 20 => ⟨S3x3, .f32⟩
  | 21 => ⟨S500000x3, .f32⟩
  | 22 => ⟨S500000x2, .f32⟩
  | 23 => ⟨S500000x1, .f32⟩
  | 24 => ⟨S500000x2, .f32⟩
  | 25 => ⟨S500000x2, .f32⟩
  | 26 => ⟨S_, .f32⟩
  | 27 => ⟨S500000, .f32⟩
  | 28 => ⟨S500000, .i1⟩
  | 29 => ⟨S_, .f32⟩
  | 30 => ⟨S500000, .f32⟩
  | 31 => ⟨S500000, .i1⟩
  | 32 => ⟨S500000, .i1⟩
  | 33 => ⟨S500000x1, .f32⟩
  | 34 => ⟨S500000, .f32⟩
  | 35 => ⟨S_, .f32⟩
  | 36 => ⟨S500000, .f32⟩
  | 37 => ⟨S500000, .i1⟩
  | 38 => ⟨S500000, .i1⟩
  | 39 => ⟨S500000x1, .f32⟩
  | 40 => ⟨S500000, .f32⟩
  | 41 => ⟨S_, .f32⟩
  | 42 => ⟨S500000, .f32⟩
  | 43 => ⟨S500000, .i1⟩
  | 44 => ⟨S500000, .i1⟩
  | 45 => ⟨S500000x1, .f32⟩
  | 46 => ⟨S500000, .f32⟩
  | 47 => ⟨S_, .f32⟩
  | 48 => ⟨S500000, .f32⟩
  | 49 => ⟨S500000, .i1⟩
  | 50 => ⟨S500000, .i1⟩
  | 51 => ⟨S500000x1, .f32⟩
  | 52 => ⟨S500000, .f32⟩
  | 53 => ⟨S_, .f32⟩
  | 54 => ⟨S500000, .f32⟩
  | 55 => ⟨S500000, .i1⟩
  | 56 => ⟨S500000, .i1⟩
  | 57 => ⟨S500000x4, .f32⟩
  | 58 => ⟨S500000x4, .f32⟩
  | 59 => ⟨S_, .f32⟩
  | 60 => ⟨S500000, .f32⟩
  | 61 => ⟨S500000x1, .f32⟩
  | 62 => ⟨S500000x1, .f32⟩
  | 63 => ⟨S_, .f32⟩
  | 64 => ⟨S500000x1, .f32⟩
  | 65 => ⟨S500000x1, .f32⟩
  | 66 => ⟨S500000x4, .f32⟩
  | 67 => ⟨S500000x4, .f32⟩
  | 68 => ⟨S500000x1, .f32⟩
  | 69 => ⟨S500000, .f32⟩
  | 70 => ⟨S500000x1, .f32⟩
  | 71 => ⟨S500000, .f32⟩
  | 72 => ⟨S500000x1, .f32⟩
  | 73 => ⟨S500000, .f32⟩
  | 74 => ⟨S500000x1, .f32⟩
  | 75 => ⟨S500000, .f32⟩
  | 76 => ⟨S500000, .f32⟩
  | 77 => ⟨S500000, .f32⟩
  | 78 => ⟨S500000, .f32⟩
  | 79 => ⟨S_, .f32⟩
  | 80 => ⟨S500000, .f32⟩
  | 81 => ⟨S500000, .f32⟩
  | 82 => ⟨S_, .f32⟩
  | 83 => ⟨S500000, .f32⟩
  | 84 => ⟨S500000, .f32⟩
  | 85 => ⟨S500000, .f32⟩
  | 86 => ⟨S500000, .f32⟩
  | 87 => ⟨S500000, .f32⟩
  | 88 => ⟨S_, .f32⟩
  | 89 => ⟨S500000, .f32⟩
  | 90 => ⟨S500000, .f32⟩
  | 91 => ⟨S500000, .f32⟩
  | 92 => ⟨S500000, .f32⟩
  | 93 => ⟨S500000, .f32⟩
  | 94 => ⟨S_, .f32⟩
  | 95 => ⟨S500000, .f32⟩
  | 96 => ⟨S500000, .f32⟩
  | 97 => ⟨S500000, .f32⟩
  | 98 => ⟨S500000, .f32⟩
  | 99 => ⟨S500000, .f32⟩
  | 100 => ⟨S_, .f32⟩
  | 101 => ⟨S500000, .f32⟩
  | 102 => ⟨S500000, .f32⟩
  | 103 => ⟨S500000, .f32⟩
  | 104 => ⟨S500000, .f32⟩
  | 105 => ⟨S500000, .f32⟩
  | 106 => ⟨S_, .f32⟩
  | 107 => ⟨S500000, .f32⟩
  | 108 => ⟨S500000, .f32⟩
  | 109 => ⟨S_, .f32⟩
  | 110 => ⟨S500000, .f32⟩
  | 111 => ⟨S500000, .f32⟩
  | 112 => ⟨S500000, .f32⟩
  | 113 => ⟨S500000, .f32⟩
  | 114 => ⟨S500000, .f32⟩
  | 115 => ⟨S_, .f32⟩
  | 116 => ⟨S500000, .f32⟩
  | 117 => ⟨S500000, .f32⟩
  | 118 => ⟨S500000, .f32⟩
  | 119 => ⟨S500000, .f32⟩
  | 120 => ⟨S500000, .f32⟩
  | 121 => ⟨S_, .f32⟩
  | 122 => ⟨S500000, .f32⟩
  | 123 => ⟨S500000, .f32⟩
  | 124 => ⟨S500000, .f32⟩
  | 125 => ⟨S500000, .f32⟩
  | 126 => ⟨S500000, .f32⟩
  | 127 => ⟨S_, .f32⟩
  | _ => ⟨S500000x3, .f32⟩

abbrev hbmTy0_1 (i : Nat) : BufTy := match i % 128 with
  | 0 => ⟨S500000, .f32⟩
  | 1 => ⟨S500000, .f32⟩
  | 2 => ⟨S500000, .f32⟩
  | 3 => ⟨S500000, .f32⟩
  | 4 => ⟨S500000, .f32⟩
  | 5 => ⟨S_, .f32⟩
  | 6 => ⟨S500000, .f32⟩
  | 7 => ⟨S500000, .f32⟩
  | 8 => ⟨S_, .f32⟩
  | 9 => ⟨S500000, .f32⟩
  | 10 => ⟨S500000, .f32⟩
  | 11 => ⟨S500000x1, .f32⟩
  | 12 => ⟨S500000x1, .f32⟩
  | 13 => ⟨S500000x1, .f32⟩
  | 14 => ⟨S500000x1, .f32⟩
  | 15 => ⟨S500000x1, .f32⟩
  | 16 => ⟨S500000x1, .f32⟩
  | 17 => ⟨S500000x1, .f32⟩
  | 18 => ⟨S500000x1, .f32⟩
  | 19 => ⟨S500000x1, .f32⟩
  | 20 => ⟨S500000x9, .f32⟩
  | 21 => ⟨S500000x3x3, .f32⟩
  | 22 => ⟨S500000x3, .f32⟩
  | 23 => ⟨S500000x3, .f32⟩
  | 24 => ⟨S500000x3, .f32⟩
  | 25 => ⟨S500000x1x3, .f32⟩
  | 26 => ⟨S500000x3x3, .f32⟩
  | 27 => ⟨S500000x3x3, .f32⟩
  | 28 => ⟨S500000x3x3, .f32⟩
  | 29 => ⟨S3x3, .f32⟩
  | 30 => ⟨S500000x3x3, .f32⟩
  | 31 => ⟨S500000x3x3, .f32⟩
  | 32 => ⟨S1x1, .f32⟩
  | 33 => ⟨S_, .f32⟩
  | 34 => ⟨S1x1, .f32⟩
  | 35 => ⟨S_, .f32⟩
  | 36 => ⟨S_, .f32⟩
  | 37 => ⟨S500000, .f32⟩
  | 38 => ⟨S500000, .f32⟩
  | 39 => ⟨S500000, .f32⟩
  | 40 => ⟨S_, .f32⟩
  | 41 => ⟨S500000x1, .f32⟩
  | 42 => ⟨S500000, .f32⟩
  | 43 => ⟨S500000, .f32⟩
  | 44 => ⟨S500000, .f32⟩
  | 45 => ⟨S500000, .f32⟩
  | 46 => ⟨S500000, .f32⟩
  | 47 => ⟨S500000x1, .f32⟩
  | 48 => ⟨S500000x1, .f32⟩
  | 49 => ⟨S500000x1, .f32⟩
  | 50 => ⟨S500000x3, .f32⟩
  | 51 => ⟨S500000, .f32⟩
  | 52 => ⟨S500000, .f32⟩
  | 53 => ⟨S_, .f32⟩
  | 54 => ⟨S500000x1, .f32⟩
  | 55 => ⟨S500000, .f32⟩
  | 56 => ⟨S500000, .f32⟩
  | 57 => ⟨S500000, .f32⟩
  | 58 => ⟨S500000, .f32⟩
  | 59 => ⟨S500000, .f32⟩
  | 60 => ⟨S500000x1, .f32⟩
  | 61 => ⟨S500000x1, .f32⟩
  | 62 => ⟨S500000x1, .f32⟩
  | 63 => ⟨S500000x3, .f32⟩
  | 64 => ⟨S500000x1x3, .f32⟩
  | 65 => ⟨S500000x1x3, .f32⟩
  | 66 => ⟨S500000x2x3, .f32⟩
  | 67 => ⟨S500000x3x2, .f32⟩
  | 68 => ⟨S500000x2x2, .f32⟩
  | 69 => ⟨S500000x1, .f32⟩
  | 70 => ⟨S500000, .f32⟩
  | 71 => ⟨S500000, .f32⟩
  | 72 => ⟨S500000, .f32⟩
  | 73 => ⟨S_, .f32⟩
  | 74 => ⟨S500000, .f32⟩
  | 75 => ⟨S500000, .f32⟩
  | 76 => ⟨S_, .f32⟩
  | 77 => ⟨S500000, .f32⟩
  | 78 => ⟨S500000, .f32⟩
  | 79 => ⟨S500000x1, .f32⟩
  | 80 => ⟨S500000x4, .f32⟩
  | 81 => ⟨S500000x1, .f32⟩
  | 82 => ⟨S500000x8, .f32⟩
  | 83 => ⟨S500000x1, .f32⟩
  | 84 => ⟨S500000, .f32⟩
  | 85 => ⟨S_, .f32⟩
  | 86 => ⟨S500000, .f32⟩
  | 87 => ⟨S500000, .f32⟩
  | 88 => ⟨S500000, .f32⟩
  | 89 => ⟨S_, .i32⟩
  | 90 => ⟨S_, .i32⟩
  | 91 => ⟨S_, .f32⟩
  | 92 => ⟨S500000, .f32⟩
  | 93 => ⟨S500000, .f32⟩
  | 94 => ⟨S_, .f32⟩
  | 95 => ⟨S500000, .f32⟩
  | 96 => ⟨S500000, .f32⟩
  | 97 => ⟨S500000, .i32⟩
  | 98 => ⟨S500000x1, .f32⟩
  | 99 => ⟨S500000, .f32⟩
  | 100 => ⟨S_, .f32⟩
  | 101 => ⟨S500000, .f32⟩
  | 102 => ⟨S500000, .f32⟩
  | 103 => ⟨S500000, .f32⟩
  | 104 => ⟨S_, .i32⟩
  | 105 => ⟨S_, .i32⟩
  | 106 => ⟨S_, .f32⟩
  | 107 => ⟨S500000, .f32⟩
  | 108 => ⟨S500000, .f32⟩
  | 109 => ⟨S_, .f32⟩
  | 110 => ⟨S500000, .f32⟩
  | 111 => ⟨S500000, .f32⟩
  | 112 => ⟨S500000, .i32⟩
  | 113 => ⟨S_, .i32⟩
  | 114 => ⟨S500000, .i32⟩
  | 115 => ⟨S500000, .i32⟩
  | 116 => ⟨S500000, .i32⟩
  | 117 => ⟨S_, .i32⟩
  | 118 => ⟨S_, .i32⟩
  | 119 => ⟨S500000, .i32⟩
  | 120 => ⟨S500000, .i32⟩
  | 121 => ⟨S_, .i32⟩
  | 122 => ⟨S8161, .i32⟩
  | 123 => ⟨S_, .i32⟩
  | 124 => ⟨S_, .i32⟩
  | 125 => ⟨S500000, .i32⟩
  | 126 => ⟨S500000, .i32⟩
  | 127 => ⟨S_, .i32⟩
  | _ => ⟨S500000x3, .f32⟩

abbrev hbmTy0_2 (i : Nat) : BufTy := match i % 128 with
  | 0 => ⟨S500000, .i32⟩
  | 1 => ⟨S500000, .i1⟩
  | 2 => ⟨S_, .i32⟩
  | 3 => ⟨S500000, .i32⟩
  | 4 => ⟨S500000, .i32⟩
  | 5 => ⟨S500000, .i32⟩
  | 6 => ⟨S500000x1, .i32⟩
  | 7 => ⟨S_, .i32⟩
  | 8 => ⟨S500000, .i32⟩
  | 9 => ⟨S8161, .i32⟩
  | 10 => ⟨S8160, .i32⟩
  | 11 => ⟨S_, .f32⟩
  | 12 => ⟨S500000, .f32⟩
  | 13 => ⟨S500000, .f32⟩
  | 14 => ⟨S_, .f32⟩
  | 15 => ⟨S_, .f32⟩
  | 16 => ⟨S_, .f32⟩
  | 17 => ⟨S500000, .f32⟩
  | 18 => ⟨S500000, .f32⟩
  | 19 => ⟨S_, .f32⟩
  | 20 => ⟨S500000, .f32⟩
  | 21 => ⟨S500000, .f32⟩
  | 22 => ⟨S500000, .i32⟩
  | 23 => ⟨S500000, .i32⟩
  | 24 => ⟨S500000, .i32⟩
  | 25 => ⟨S500000, .i32⟩
  | 26 => ⟨S500000, .i32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000, .i32⟩
  | 36 => ⟨S_, .i32⟩
  | 37 => ⟨S8161, .i32⟩
  | 38 => ⟨S_, .i32⟩
  | 39 => ⟨S8161, .i32⟩
  | 40 => ⟨S499999, .i32⟩
  | 41 => ⟨S499999, .i32⟩
  | 42 => ⟨S499999, .i1⟩
  | 43 => ⟨S499999, .i32⟩
  | 44 => ⟨S_, .i32⟩
  | 45 => ⟨S499999, .i32⟩
  | 46 => ⟨S499999, .i32⟩
  | 47 => ⟨S499999, .i32⟩
  | 48 => ⟨S_, .i32⟩
  | 49 => ⟨S_, .i32⟩
  | 50 => ⟨S499999, .i32⟩
  | 51 => ⟨S499999, .i32⟩
  | 52 => ⟨S_, .i32⟩
  | 53 => ⟨S499999, .i32⟩
  | 54 => ⟨S499999, .i1⟩
  | 55 => ⟨S_, .i32⟩
  | 56 => ⟨S499999, .i32⟩
  | 57 => ⟨S499999, .i32⟩
  | 58 => ⟨S499999, .i32⟩
  | 59 => ⟨S499999x1, .i32⟩
  | 60 => ⟨S8161, .i32⟩
  | 61 => ⟨S499999, .i32⟩
  | 62 => ⟨S_, .i32⟩
  | 63 => ⟨S_, .i32⟩
  | 64 => ⟨S499999, .i32⟩
  | 65 => ⟨S499999, .i32⟩
  | 66 => ⟨S_, .i32⟩
  | 67 => ⟨S499999, .i32⟩
  | 68 => ⟨S499999, .i1⟩
  | 69 => ⟨S_, .i32⟩
  | 70 => ⟨S499999, .i32⟩
  | 71 => ⟨S499999, .i32⟩
  | 72 => ⟨S499999, .i32⟩
  | 73 => ⟨S499999x1, .i32⟩
  | 74 => ⟨S8161, .i32⟩
  | 75 => ⟨S1, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S1, .i32⟩
  | 83 => ⟨S_, .i32⟩
  | 84 => ⟨S8161, .i32⟩
  | 85 => ⟨S8160, .i32⟩
  | 86 => ⟨S8160, .i32⟩
  | _ => ⟨S500000x3, .f32⟩

abbrev hbmTy (i : Nat) : BufTy := match i / 128 with
  | 0 => hbmTy0_0 i
  | 1 => hbmTy0_1 i
  | 2 => hbmTy0_2 i
  | _ => ⟨S500000x3, .f32⟩

abbrev bufTy : (tb : Table) → Fin (tcTables nBuf tb) → BufTy
  | .hbm, ⟨i, _⟩ => hbmTy i
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call1_v0 : Ref sig .tc := ⟨.hbm, 58, rfl⟩
abbrev main_call1_cst : Ref sig .tc := ⟨.hbm, 59, rfl⟩
abbrev main_call1_v1 : Ref sig .tc := ⟨.hbm, 60, rfl⟩
abbrev main_call1_v2 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_cst_10 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_14 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_16 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_17 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_18 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_19 : Ref sig .tc := ⟨.hbm, 133, rfl⟩
abbrev main_v103 : Ref sig .tc := ⟨.hbm, 134, rfl⟩
abbrev main_v104 : Ref sig .tc := ⟨.hbm, 135, rfl⟩
abbrev main_cst_20 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_cst_21 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_cst_22 : Ref sig .tc := ⟨.hbm, 201, rfl⟩
abbrev main_v168 : Ref sig .tc := ⟨.hbm, 202, rfl⟩
abbrev main_v169 : Ref sig .tc := ⟨.hbm, 203, rfl⟩
abbrev main_cst_23 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_cst_24 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_c : Ref sig .tc := ⟨.hbm, 217, rfl⟩
abbrev main_c_25 : Ref sig .tc := ⟨.hbm, 218, rfl⟩
abbrev main_call2_v0 : Ref sig .tc := ⟨.hbm, 219, rfl⟩
abbrev main_call2_v1 : Ref sig .tc := ⟨.hbm, 220, rfl⟩
abbrev main_call2_v2 : Ref sig .tc := ⟨.hbm, 221, rfl⟩
abbrev main_call2_v3 : Ref sig .tc := ⟨.hbm, 222, rfl⟩
abbrev main_call2_v4 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_cst_26 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_c_27 : Ref sig .tc := ⟨.hbm, 232, rfl⟩
abbrev main_c_28 : Ref sig .tc := ⟨.hbm, 233, rfl⟩
abbrev main_call3_v0 : Ref sig .tc := ⟨.hbm, 234, rfl⟩
abbrev main_call3_v1 : Ref sig .tc := ⟨.hbm, 235, rfl⟩
abbrev main_call3_v2 : Ref sig .tc := ⟨.hbm, 236, rfl⟩
abbrev main_call3_v3 : Ref sig .tc := ⟨.hbm, 237, rfl⟩
abbrev main_call3_v4 : Ref sig .tc := ⟨.hbm, 238, rfl⟩
abbrev main_v188 : Ref sig .tc := ⟨.hbm, 239, rfl⟩
abbrev main_v189 : Ref sig .tc := ⟨.hbm, 240, rfl⟩
abbrev main_c_29 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_c_30 : Ref sig .tc := ⟨.hbm, 245, rfl⟩
abbrev main_call4_v0 : Ref sig .tc := ⟨.hbm, 246, rfl⟩
abbrev main_call4_v1 : Ref sig .tc := ⟨.hbm, 247, rfl⟩
abbrev main_v193 : Ref sig .tc := ⟨.hbm, 248, rfl⟩
abbrev main_c_31 : Ref sig .tc := ⟨.hbm, 249, rfl⟩
abbrev main_v194 : Ref sig .tc := ⟨.hbm, 250, rfl⟩
abbrev main_c_32 : Ref sig .tc := ⟨.hbm, 251, rfl⟩
abbrev main_call5_v0 : Ref sig .tc := ⟨.hbm, 252, rfl⟩
abbrev main_call5_v1 : Ref sig .tc := ⟨.hbm, 253, rfl⟩
abbrev main_v195 : Ref sig .tc := ⟨.hbm, 254, rfl⟩
abbrev main_c_33 : Ref sig .tc := ⟨.hbm, 255, rfl⟩
abbrev main_v196 : Ref sig .tc := ⟨.hbm, 256, rfl⟩
abbrev main_v197 : Ref sig .tc := ⟨.hbm, 257, rfl⟩
abbrev main_c_34 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_c_35 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_cst_36 : Ref sig .tc := ⟨.hbm, 267, rfl⟩
abbrev main_v205 : Ref sig .tc := ⟨.hbm, 268, rfl⟩
abbrev main_v206 : Ref sig .tc := ⟨.hbm, 269, rfl⟩
abbrev main_cst_37 : Ref sig .tc := ⟨.hbm, 270, rfl⟩
abbrev main_cst_38 : Ref sig .tc := ⟨.hbm, 271, rfl⟩
abbrev main_call6_v0 : Ref sig .tc := ⟨.hbm, 272, rfl⟩
abbrev main_call6_v1 : Ref sig .tc := ⟨.hbm, 273, rfl⟩
abbrev main_call6_v2 : Ref sig .tc := ⟨.hbm, 274, rfl⟩
abbrev main_call6_v3 : Ref sig .tc := ⟨.hbm, 275, rfl⟩
abbrev main_call6_v4 : Ref sig .tc := ⟨.hbm, 276, rfl⟩
abbrev main_v207 : Ref sig .tc := ⟨.hbm, 277, rfl⟩
abbrev main_v208 : Ref sig .tc := ⟨.hbm, 278, rfl⟩
abbrev main_call7_v0 : Ref sig .tc := ⟨.hbm, 279, rfl⟩
abbrev main_call7_v1_0 : Ref sig .tc := ⟨.hbm, 280, rfl⟩
abbrev main_call7_v1_1 : Ref sig .tc := ⟨.hbm, 281, rfl⟩
abbrev main_v209 : Ref sig .tc := ⟨.hbm, 282, rfl⟩
abbrev main_c_39 : Ref sig .tc := ⟨.hbm, 283, rfl⟩
abbrev main_v210 : Ref sig .tc := ⟨.hbm, 284, rfl⟩
abbrev main_v211 : Ref sig .tc := ⟨.hbm, 285, rfl⟩
abbrev main_c_40 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_c_41 : Ref sig .tc := ⟨.hbm, 292, rfl⟩
abbrev main_v217 : Ref sig .tc := ⟨.hbm, 293, rfl⟩
abbrev main_c_42 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_c_43 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_c_44 : Ref sig .tc := ⟨.hbm, 304, rfl⟩
abbrev main_call8_v0 : Ref sig .tc := ⟨.hbm, 305, rfl⟩
abbrev main_call8_v1 : Ref sig .tc := ⟨.hbm, 306, rfl⟩
abbrev main_v226 : Ref sig .tc := ⟨.hbm, 307, rfl⟩
abbrev main_c_45 : Ref sig .tc := ⟨.hbm, 308, rfl⟩
abbrev main_v227 : Ref sig .tc := ⟨.hbm, 309, rfl⟩
abbrev main_v228 : Ref sig .tc := ⟨.hbm, 310, rfl⟩
abbrev main_c_46 : Ref sig .tc := ⟨.hbm, 311, rfl⟩
abbrev main_v229 : Ref sig .tc := ⟨.hbm, 312, rfl⟩
abbrev main_v230 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_v234 : Ref sig .tc := ⟨.hbm, 317, rfl⟩
abbrev main_c_47 : Ref sig .tc := ⟨.hbm, 318, rfl⟩
abbrev main_call9_v0 : Ref sig .tc := ⟨.hbm, 319, rfl⟩
abbrev main_call9_v1 : Ref sig .tc := ⟨.hbm, 320, rfl⟩
abbrev main_v235 : Ref sig .tc := ⟨.hbm, 321, rfl⟩
abbrev main_c_48 : Ref sig .tc := ⟨.hbm, 322, rfl⟩
abbrev main_v236 : Ref sig .tc := ⟨.hbm, 323, rfl⟩
abbrev main_v237 : Ref sig .tc := ⟨.hbm, 324, rfl⟩
abbrev main_c_49 : Ref sig .tc := ⟨.hbm, 325, rfl⟩
abbrev main_v238 : Ref sig .tc := ⟨.hbm, 326, rfl⟩
abbrev main_v239 : Ref sig .tc := ⟨.hbm, 327, rfl⟩
abbrev main_v240 : Ref sig .tc := ⟨.hbm, 328, rfl⟩
abbrev main_v241 : Ref sig .tc := ⟨.hbm, 329, rfl⟩
abbrev main_v242 : Ref sig .tc := ⟨.hbm, 330, rfl⟩
abbrev main_v243 : Ref sig .tc := ⟨.hbm, 331, rfl⟩
abbrev main_v244 : Ref sig .tc := ⟨.hbm, 332, rfl⟩
abbrev main_c_50 : Ref sig .tc := ⟨.hbm, 333, rfl⟩
abbrev main_v245 : Ref sig .tc := ⟨.hbm, 334, rfl⟩
abbrev main_c_51 : Ref sig .tc := ⟨.hbm, 335, rfl⟩
abbrev main_v246 : Ref sig .tc := ⟨.hbm, 336, rfl⟩
abbrev main_v247 : Ref sig .tc := ⟨.hbm, 337, rfl⟩
abbrev main_v248 : Ref sig .tc := ⟨.hbm, 338, rfl⟩
abbrev main_c_52 : Ref sig .tc := ⟨.hbm, 339, rfl⟩
abbrev main_v249 : Ref sig .tc := ⟨.hbm, 340, rfl⟩
abbrev main_v250 : Ref sig .tc := ⟨.hbm, 341, rfl⟩
abbrev main_v251 : Ref sig .tc := ⟨.hbm, 342, rfl⟩

abbrev nD : Nat := 1
abbrev τ : Topo := Topo.v7x

variable {F : FTy → Type} [FloatOps F]
-- ==== Proof.Lanes.lean ====
/-
  Facts about one sixteen-lane vector of keys: what an accumulating indexed store of the running duplicate counts
  adds to a histogram, and what the running sum of a vector is.
-/
module

public import Idealize.ShloMosaic.PureOps
public import Mathlib.Algebra.BigOperators.Fin
public import Mathlib.Data.BitVec

@[expose] public section

namespace Cert.Proof.Lanes

open Idealize.ShloMosaic

variable {F : FTy → Type} [FloatOps F]

/-- Words of natural numbers add up to the word of the sum. -/
theorem sum_ofNat {ι : Type} (s : Finset ι) (f : ι → ℕ) : ∑ i ∈ s, BitVec.ofNat 32 (f i) = BitVec.ofNat 32 (∑ i ∈ s, f i) := by
  classical
  induction s using Finset.induction_on with
  | empty => rfl
  | insert a s ha ih => rw [Finset.sum_insert ha, Finset.sum_insert ha, ih, BitVec.ofNat_add]

/-- An accumulating indexed store adds, at each element, the stored lanes that name it. -/
theorem storeIdx_add {b d : Fin 1 → ℕ} (f : Vec F ⟨1, b⟩ .i32) (v : IVec ⟨1, d⟩ 32) (w : Vec F ⟨1, d⟩ .i32) (mask : IVec ⟨1, d⟩ 1)
    (h : ∀ a x, ((![v] : Fin 1 → IVec ⟨1, d⟩ 32) a x).toNat < b a) (x : (⟨1, b⟩ : Shape).Idx) :
    storeIdx (F := F) (s := ⟨1, b⟩) f ![v] w mask true h x
      = (show BitVec 32 from f x) + ∑ k : Fin (d 0), if mask (Shape.ofLane k) = 1 ∧ (v (Shape.ofLane k)).toNat = (x 0).val then (show BitVec 32 from w (Shape.ofLane k)) else 0 := by
  rw [Fin.sum_univ_def]
  unfold storeIdx
  generalize List.finRange (d 0) = l
  induction l generalizing f with
  | nil => simp
  | cons k l ih =>
    rw [List.foldl_cons, ih, List.map_cons, List.sum_cons, ← add_assoc]
    congr 1
    dsimp only
    have hx : (∀ a, (x a).val = (idxAt (s := ⟨1, b⟩) ![v] h (Shape.ofLane k) a).val) ↔ (v (Shape.ofLane k)).toNat = (x 0).val := by
      constructor
      · intro e; exact (e 0).symm
      · intro e a; obtain rfl : a = 0 := Subsingleton.elim _ _; exact e.symm
    by_cases hm : mask (Shape.ofLane k) = 1
    · simp only [hm, if_true, true_and]
      by_cases hv : (v (Shape.ofLane k)).toNat = (x 0).val
      · rw [if_pos (hx.mpr hv), if_pos hv]
        have : x = idxAt (s := ⟨1, b⟩) ![v] h (Shape.ofLane k) := funext fun a => Fin.ext (hx.mpr hv a)
        rw [← this]; rfl
      · rw [if_neg (fun e => hv (hx.mp e)), if_neg hv, add_zero]
    · simp only [hm, if_false, false_and, add_zero]

/-- The lanes of `v` whose key is `x`. -/
def lanesAt {d : Fin 1 → ℕ} (v : IVec ⟨1, d⟩ 32) (x : ℕ) : Finset (Fin (d 0)) := Finset.univ.filter fun k => (v (Shape.ofLane k)).toNat = x

/-- The running duplicate count at lane `k`: the lanes up to it with its key. -/
theorem scanCount_snd {d : Fin 1 → ℕ} (v : IVec ⟨1, d⟩ 32) (k : Fin (d 0)) :
    (scanCount (fun _ => 1) v).2 (Shape.ofLane k)
      = BitVec.ofNat 32 ((lanesAt v (v (Shape.ofLane k)).toNat).filter fun j => j ≤ k).card := by
  unfold scanCount lanesAt
  simp only [if_true, true_and]
  congr 1
  refine Finset.card_bij' (fun x _ => x 0) (fun j _ => Shape.ofLane j) ?_ ?_ ?_ ?_
  · intro x hx
    simp only [Finset.mem_filter, Finset.mem_univ, true_and, Shape.rowMajor_val_one] at hx ⊢
    have e : Shape.ofLane (x 0) = x := funext fun a => by obtain rfl : a = 0 := Subsingleton.elim _ _; rfl
    rw [e]
    exact ⟨congrArg BitVec.toNat hx.2, hx.1⟩
  · intro j hj
    simp only [Finset.mem_filter, Finset.mem_univ, true_and, Shape.rowMajor_val_one] at hj ⊢
    exact ⟨hj.2, BitVec.eq_of_toNat_eq hj.1⟩
  · intro x hx; exact funext fun a => by obtain rfl : a = 0 := Subsingleton.elim _ _; rfl
  · intro j hj; rfl

/-- A lane is marked when it is the last with its key. -/
theorem scanCount_fst {d : Fin 1 → ℕ} (v : IVec ⟨1, d⟩ 32) (k : Fin (d 0)) :
    (scanCount (fun _ => 1) v).1 (Shape.ofLane k) = 1 ↔ ∀ j ∈ lanesAt v (v (Shape.ofLane k)).toNat, j ≤ k := by
  unfold scanCount lanesAt
  simp only [true_and, Shape.rowMajor_val_one, Finset.mem_filter, Finset.mem_univ]
  constructor
  · intro h j hj
    by_contra hlt
    rw [if_neg] at h
    · exact absurd h (by decide)
    · intro h'
      exact h' (Shape.ofLane j) (not_le.mp hlt) (BitVec.eq_of_toNat_eq hj)
  · intro h
    rw [if_pos]
    intro j hj e
    have := h (j 0) (by
      rw [show Shape.ofLane (j 0) = j from funext fun a => by obtain rfl : a = 0 := Subsingleton.elim _ _; rfl, e])
    exact absurd hj (not_lt.mpr this)

/-- Storing, at each key's last lane, the number of lanes with that key adds to every element the number of lanes
    that name it. -/
theorem storeIdx_count {b d : Fin 1 → ℕ} (f : Vec F ⟨1, b⟩ .i32) (v : IVec ⟨1, d⟩ 32)
    (h : ∀ a x, ((![v] : Fin 1 → IVec ⟨1, d⟩ 32) a x).toNat < b a) (x : (⟨1, b⟩ : Shape).Idx) :
    storeIdx (F := F) (s := ⟨1, b⟩) f ![v] (scanCount (fun _ => 1) v).2 (scanCount (fun _ => 1) v).1 true h x
      = (show BitVec 32 from f x) + BitVec.ofNat 32 (lanesAt v (x 0).val).card := by
  rw [storeIdx_add]
  congr 1
  rcases (lanesAt v (x 0).val).eq_empty_or_nonempty with he | hne
  · rw [he]
    refine (Finset.sum_eq_zero fun k _ => if_neg fun hk => ?_).trans rfl
    have : k ∈ lanesAt v (x 0).val := by unfold lanesAt; simpa using hk.2
    rw [he] at this; exact absurd this (Finset.notMem_empty _)
  · set k₀ := (lanesAt v (x 0).val).max' hne with hk₀
    have hm := (lanesAt v (x 0).val).max'_mem hne
    have hv : (v (Shape.ofLane k₀)).toNat = (x 0).val := (Finset.mem_filter.mp hm).2
    rw [Finset.sum_eq_single k₀]
    · rw [if_pos ⟨(scanCount_fst v k₀).mpr (by rw [hv]; intro j hj; exact Finset.le_max' _ _ hj), hv⟩]
      show (scanCount (fun _ => 1) v).2 (Shape.ofLane k₀) = _
      rw [scanCount_snd, hv, Finset.filter_true_of_mem fun j hj => Finset.le_max' _ _ hj]
    · intro k _ hk
      refine if_neg fun e => hk ?_
      have h1 := (scanCount_fst v k).mp e.1
      rw [e.2] at h1
      have hmem : k ∈ lanesAt v (x 0).val := by unfold lanesAt; simpa using e.2
      exact le_antisymm (Finset.le_max' _ _ hmem) (h1 _ hm)
    · intro hk; exact absurd (Finset.mem_univ _) hk

/-- The running sum of a vector at lane `i`: the sum of the lanes up to it. -/
theorem scan_sum {d : Fin 1 → ℕ} (v : IVec ⟨1, d⟩ 32) (i : (⟨1, d⟩ : Shape).Idx) :
    scan .sum v i = ∑ k ∈ Finset.univ.filter (fun k : Fin (d 0) => k ≤ i 0), v (Shape.ofLane k) := by
  unfold scan
  dsimp only
  have hf : ∀ (l : List (Fin (d 0))) (r : BitVec 32), l.foldl (fun r k => ScanKind.step .sum r (v (Shape.ofLane k))) r
      = r + (l.map fun k => v (Shape.ofLane k)).sum := by
    intro l
    induction l with
    | nil => intro r; simp
    | cons k l ih => intro r; rw [List.foldl_cons, ih, List.map_cons, List.sum_cons, ← add_assoc]; rfl
  rw [hf]
  have hpos : 0 < d 0 := (i 0).pos
  rw [show (Finset.univ.filter fun k : Fin (d 0) => k ≤ i 0) = insert ⟨0, hpos⟩ (Finset.univ.filter fun k : Fin (d 0) => 0 < k.val ∧ k.val ≤ (i 0).val) by
    ext k
    simp only [Finset.mem_filter, Finset.mem_univ, true_and, Finset.mem_insert, Fin.ext_iff, Fin.le_def]
    omega]
  rw [Finset.sum_insert (by simp)]
  congr 1

end Cert.Proof.Lanes
-- ==== Proof.Counting.lean ====
/-
  Counting sort on natural-number keys: how many of a range of positions carry a key, the place a stable sort by the
  key gives to a position, and that these places are a permutation.
-/
module

public import Mathlib.Data.Finset.Card
public import Mathlib.Order.Interval.Finset.Nat
public import Mathlib.Algebra.BigOperators.Fin

@[expose] public section

namespace Cert.Proof.Counting

/-- How many positions of `[lo, hi)` carry the key `k`. -/
def cnt (key : ℕ → ℕ) (lo hi k : ℕ) : ℕ := ((Finset.Ico lo hi).filter fun i => key i = k).card

/-- How many positions below `n` carry a key below `k`. -/
def below (key : ℕ → ℕ) (n k : ℕ) : ℕ := ((Finset.range n).filter fun i => key i < k).card

/-- The place a stable sort of the positions below `n` by `key` gives to position `i`. -/
def rank (key : ℕ → ℕ) (n i : ℕ) : ℕ := below key n (key i) + cnt key 0 i (key i)

theorem cnt_self (key : ℕ → ℕ) (lo k : ℕ) : cnt key lo lo k = 0 := by simp [cnt]

theorem cnt_add (key : ℕ → ℕ) {lo mid hi : ℕ} (h1 : lo ≤ mid) (h2 : mid ≤ hi) (k : ℕ) :
    cnt key lo hi k = cnt key lo mid k + cnt key mid hi k := by
  unfold cnt
  rw [← Finset.card_union_of_disjoint, ← Finset.filter_union, Finset.Ico_union_Ico_eq_Ico h1 h2]
  exact Finset.disjoint_filter_filter (Finset.Ico_disjoint_Ico_consecutive _ _ _)

theorem cnt_congr {key key' : ℕ → ℕ} {lo hi : ℕ} (h : ∀ i, lo ≤ i → i < hi → key i = key' i) (k : ℕ) : cnt key lo hi k = cnt key' lo hi k := by
  unfold cnt
  refine congrArg _ (Finset.filter_congr fun i hi => ?_)
  rw [h i (Finset.mem_Ico.mp hi).1 (Finset.mem_Ico.mp hi).2]

theorem cnt_le (key : ℕ → ℕ) (lo hi k : ℕ) : cnt key lo hi k ≤ hi - lo := by
  unfold cnt
  exact (Finset.card_filter_le _ _).trans (by simp)

theorem below_zero (key : ℕ → ℕ) (n : ℕ) : below key n 0 = 0 := by simp [below]

theorem below_succ (key : ℕ → ℕ) (n k : ℕ) : below key n (k + 1) = below key n k + cnt key 0 n k := by
  unfold below cnt
  rw [← Finset.card_union_of_disjoint]
  · congr 1; ext i; simp only [Finset.mem_filter, Finset.mem_union, Finset.mem_range, Finset.mem_Ico]; omega
  · rw [Finset.disjoint_left]; intro i; simp only [Finset.mem_filter]; omega

theorem below_mono (key : ℕ → ℕ) (n : ℕ) {k k' : ℕ} (h : k ≤ k') : below key n k ≤ below key n k' := by
  refine Finset.card_le_card fun i hi => ?_
  simp only [Finset.mem_filter] at hi ⊢
  exact ⟨hi.1, by omega⟩

theorem below_le (key : ℕ → ℕ) (n k : ℕ) : below key n k ≤ n := (Finset.card_filter_le _ _).trans (by simp)

theorem below_add (key : ℕ → ℕ) (n k m : ℕ) : below key n (k + m) = below key n k + ∑ x ∈ Finset.range m, cnt key 0 n (k + x) := by
  induction m with
  | zero => simp
  | succ m ih => rw [← Nat.add_assoc, below_succ, ih, Finset.sum_range_succ]; omega

theorem below_congr {key key' : ℕ → ℕ} {n : ℕ} (h : ∀ i, i < n → key i = key' i) (k : ℕ) : below key n k = below key' n k := by
  unfold below
  refine congrArg _ (Finset.filter_congr fun i hi => ?_)
  rw [h i (Finset.mem_range.mp hi)]

theorem rank_congr {key key' : ℕ → ℕ} {n i : ℕ} (h : ∀ i, i < n → key i = key' i) (hi : i < n) : rank key n i = rank key' n i := by
  unfold rank
  rw [h i hi, below_congr h, cnt_congr fun j _ hj => h j (by omega)]

theorem cnt_lt (key : ℕ → ℕ) {n i : ℕ} (hi : i < n) : cnt key 0 i (key i) < cnt key 0 n (key i) := by
  rw [cnt_add key (Nat.zero_le i) hi.le, cnt_add key (Nat.le_succ i) hi]
  have : cnt key i (i + 1) (key i) = 1 := by unfold cnt; rw [Nat.Ico_succ_singleton, Finset.filter_singleton, if_pos rfl, Finset.card_singleton]
  have h : i.succ = i + 1 := rfl
  rw [h]; omega

/-- A key's positions fill the places from the number of smaller keys on. -/
theorem rank_lt_of_key (key : ℕ → ℕ) {n i : ℕ} (hi : i < n) : rank key n i < below key n (key i + 1) := by
  rw [below_succ]; unfold rank; have := cnt_lt key hi; omega

theorem rank_lt (key : ℕ → ℕ) {n i : ℕ} (hi : i < n) : rank key n i < n := (rank_lt_of_key key hi).trans_le (below_le _ _ _)

/-- A smaller key, or the same key at an earlier position, goes to an earlier place. -/
theorem rank_mono (key : ℕ → ℕ) {n i j : ℕ} (hi : i < n) (h : key i < key j ∨ (key i = key j ∧ i < j)) : rank key n i < rank key n j := by
  rcases h with h | ⟨h, hij⟩
  · have := rank_lt_of_key key hi
    have h2 := below_mono key n (show key i + 1 ≤ key j by omega)
    have : below key n (key j) ≤ rank key n j := Nat.le_add_right _ _
    omega
  · have := cnt_lt key hij
    unfold rank
    rw [h] at this ⊢
    omega

theorem rank_inj (key : ℕ → ℕ) {n i j : ℕ} (hi : i < n) (hj : j < n) (h : rank key n i = rank key n j) : i = j := by
  rcases Nat.lt_trichotomy (key i) (key j) with hk | hk | hk
  · exact absurd h (rank_mono key hi (.inl hk)).ne
  · rcases Nat.lt_trichotomy i j with hk' | hk' | hk'
    · exact absurd h (rank_mono key hi (.inr ⟨hk, hk'⟩)).ne
    · exact hk'
    · exact absurd h (rank_mono key hj (.inr ⟨hk.symm, hk'⟩)).ne'
  · exact absurd h (rank_mono key hj (.inl hk)).ne'

/-- Every place is taken. -/
theorem rank_surj (key : ℕ → ℕ) {n p : ℕ} (hp : p < n) : ∃ i, i < n ∧ rank key n i = p := by
  have hinj : Function.Injective fun i : Fin n => (⟨rank key n i, rank_lt key i.isLt⟩ : Fin n) :=
    fun i j h => Fin.ext (rank_inj key i.isLt j.isLt (congrArg Fin.val h))
  obtain ⟨i, hi⟩ := Finite.surjective_of_injective hinj ⟨p, hp⟩
  exact ⟨i, i.isLt, congrArg Fin.val hi⟩

/-- The position a stable sort by `key` puts at place `p`. -/
noncomputable def unrank (key : ℕ → ℕ) (n p : ℕ) : ℕ := if h : p < n then (rank_surj key h).choose else 0

theorem unrank_lt (key : ℕ → ℕ) {n p : ℕ} (hp : p < n) : unrank key n p < n := by
  unfold unrank; rw [dif_pos hp]; exact (rank_surj key hp).choose_spec.1

theorem rank_unrank (key : ℕ → ℕ) {n p : ℕ} (hp : p < n) : rank key n (unrank key n p) = p := by
  unfold unrank; rw [dif_pos hp]; exact (rank_surj key hp).choose_spec.2

theorem unrank_rank (key : ℕ → ℕ) {n i : ℕ} (hi : i < n) : unrank key n (rank key n i) = i :=
  rank_inj key (unrank_lt key (rank_lt key hi)) hi (rank_unrank key (rank_lt key hi))

/-- Later places hold larger keys, or the same key at a later position. -/
theorem unrank_mono (key : ℕ → ℕ) {n p q : ℕ} (hpq : p < q) (hq : q < n) :
    key (unrank key n p) < key (unrank key n q) ∨ (key (unrank key n p) = key (unrank key n q) ∧ unrank key n p < unrank key n q) := by
  by_contra hn
  have hp := hpq.trans hq
  have : rank key n (unrank key n q) ≤ rank key n (unrank key n p) := by
    by_cases he : unrank key n q = unrank key n p
    · rw [he]
    · exact (rank_mono key (unrank_lt key hq) (by omega)).le
  rw [rank_unrank key hq, rank_unrank key hp] at this
  omega

/-- The lanes of the `j`-th group of sixteen count that group's positions. -/
theorem card_lanes (key : ℕ → ℕ) (lo k : ℕ) (g : Fin 16 → ℕ) (hg : ∀ l : Fin 16, g l = key (lo + l)) :
    (Finset.univ.filter fun l : Fin 16 => g l = k).card = cnt key lo (lo + 16) k := by
  unfold cnt
  refine Finset.card_bij (fun l _ => lo + l.val) ?_ ?_ ?_
  · intro l hl
    simp only [Finset.mem_filter, Finset.mem_univ, true_and, Finset.mem_Ico] at hl ⊢
    exact ⟨⟨by omega, by omega⟩, by rw [← hg]; exact hl⟩
  · intro a _ b _ h; exact Fin.ext (by omega)
  · intro i hi
    simp only [Finset.mem_filter, Finset.mem_Ico] at hi
    exact ⟨⟨i - lo, by omega⟩, by
      simp only [Finset.mem_filter, Finset.mem_univ, true_and]
      rw [hg]; rw [show lo + (⟨i - lo, by omega⟩ : Fin 16).val = i by show lo + (i - lo) = i; omega]; exact hi.2, by show lo + (i - lo) = i; omega⟩

/-- The lanes up to `m` with a key count the group's positions up to the `m`-th. -/
theorem card_lanes_le (key : ℕ → ℕ) (lo k : ℕ) (g : Fin 16 → ℕ) (hg : ∀ l : Fin 16, g l = key (lo + l)) (m : Fin 16) :
    ((Finset.univ.filter fun l : Fin 16 => g l = k).filter fun l => l ≤ m).card = cnt key lo (lo + m + 1) k := by
  unfold cnt
  refine Finset.card_bij (fun l _ => lo + l.val) ?_ ?_ ?_
  · intro l hl
    simp only [Finset.mem_filter, Finset.mem_univ, true_and, Finset.mem_Ico, Fin.le_def] at hl ⊢
    exact ⟨⟨by omega, by omega⟩, by rw [← hg]; exact hl.1⟩
  · intro a _ b _ h; exact Fin.ext (by omega)
  · intro i hi
    simp only [Finset.mem_filter, Finset.mem_Ico] at hi
    exact ⟨⟨i - lo, by omega⟩, by
      simp only [Finset.mem_filter, Finset.mem_univ, true_and, Fin.le_def]
      rw [hg]; rw [show lo + (⟨i - lo, by omega⟩ : Fin 16).val = i by show lo + (i - lo) = i; omega]; exact ⟨hi.2, by omega⟩, by show lo + (i - lo) = i; omega⟩

/-- The counts of consecutive chunks add up. -/
theorem cnt_chunks (key : ℕ → ℕ) (C w k : ℕ) : ∑ v ∈ Finset.range w, cnt key (v * C) (v * C + C) k = cnt key 0 (w * C) k := by
  induction w with
  | zero => simp [cnt]
  | succ w ih => rw [Finset.sum_range_succ, ih, Nat.succ_mul, ← cnt_add key (Nat.zero_le _) (Nat.le_add_right _ _)]

end Cert.Proof.Counting
-- ==== Proof.Mem.lean ====
/-
  Reading and writing sixteen lanes of a one-dimensional buffer.
-/
module

public import Idealize.ShloMosaic.Lib.Writes
public import Idealize.ShloMosaic.PureOps
public import proofs.«01_k».proof.Proof.Lanes
public import proofs.«01_k».proof.Proof.Counting

@[expose] public section

namespace Cert.Proof.Mem

open Idealize.ShloMosaic

variable {sig : RefSig} {κ : Kind} {sp : Space} {e : EltTy} {Val : EltTy → Type} {n c : ℕ}

/-- The one coordinate of a one-dimensional index makes it. -/
theorem ofLane_eq (x : (⟨1, ![n]⟩ : Shape).Idx) {i : ℕ} (h : i < n) (hx : (x 0).val = i) : x = Shape.ofLane (d := ![n]) ⟨i, h⟩ :=
  funext fun a => by obtain rfl : a = 0 := Subsingleton.elim _ _; exact Fin.ext hx

/-- Loading `c` words from `off 0` on. -/
theorem readAt_unit (v : View sig κ sp ⟨1, ![n]⟩ e) (f : v.ty.Contents Val) {off : Fin 1 → ℕ} (inb : ∀ a, off a + (![c] : Fin 1 → ℕ) a ≤ (⟨1, ![n]⟩ : Shape).size a)
    (x : (⟨1, ![c]⟩ : Shape).Idx) (y : (⟨1, ![n]⟩ : Shape).Idx) (h : (y 0).val = off 0 + (x 0).val) :
    v.readAt Val (Rect.unit (s := ⟨1, ![n]⟩) off ![c] inb).toLoadRect f x = v.read Val f y := by
  rw [View.readAt_apply]
  congr 1
  funext a
  obtain rfl : a = 0 := Subsingleton.elim _ _
  refine Fin.ext ?_
  rw [h]
  show off 0 + 1 * (x 0).val = _
  omega

/-- The word at a place just stored. -/
theorem read_put_hit (v : View sig κ sp ⟨1, ![n]⟩ e) (f : v.ty.Contents Val) {off : Fin 1 → ℕ} (inb : ∀ a, off a + (![c] : Fin 1 → ℕ) a ≤ (⟨1, ![n]⟩ : Shape).size a)
    (w : (Rect.unit (s := ⟨1, ![n]⟩) off ![c] inb).shape.Idx → Val e) (x : (⟨1, ![c]⟩ : Shape).Idx) (y : (⟨1, ![n]⟩ : Shape).Idx) (h : (y 0).val = off 0 + (x 0).val) :
    v.read Val (v.writes Val f [⟨Rect.unit (s := ⟨1, ![n]⟩) off ![c] inb, w⟩]) y = w x :=
  View.read_writes_cons_hit v f _ w [] x y (funext fun a => by
    obtain rfl : a = 0 := Subsingleton.elim _ _
    refine Fin.ext ?_
    rw [h]
    show off 0 + 1 * (x 0).val = _
    omega)

/-- The word at a place not stored. -/
theorem read_put_miss (v : View sig κ sp ⟨1, ![n]⟩ e) (f : v.ty.Contents Val) {off : Fin 1 → ℕ} (inb : ∀ a, off a + (![c] : Fin 1 → ℕ) a ≤ (⟨1, ![n]⟩ : Shape).size a)
    (w : (Rect.unit (s := ⟨1, ![n]⟩) off ![c] inb).shape.Idx → Val e) (y : (⟨1, ![n]⟩ : Shape).Idx) (h : (y 0).val < off 0 ∨ off 0 + c ≤ (y 0).val) :
    v.read Val (v.writes Val f [⟨Rect.unit (s := ⟨1, ![n]⟩) off ![c] inb, w⟩]) y = v.read Val f y :=
  View.read_writes_cons_miss_of_axis v f _ [] y 0 (off 0) c rfl rfl rfl h

/-- Where an index of a slice of consecutive words lies. -/
theorem unit_emb (off : Fin 1 → ℕ) (inb : ∀ a, off a + (![c] : Fin 1 → ℕ) a ≤ (⟨1, ![n]⟩ : Shape).size a) (x : (⟨1, ![c]⟩ : Shape).Idx) :
    (((Rect.unit (s := ⟨1, ![n]⟩) off ![c] inb).emb x) 0).val = off 0 + (x 0).val := by
  show off 0 + 1 * (x 0).val = _
  omega

/-- A buffer whose words before `b` satisfy `P`, after `c` more words that satisfy it are stored from `b` on. -/
theorem fill_step (P : ℕ → Val e → Prop) (v : View sig κ sp ⟨1, ![n]⟩ e) (f : v.ty.Contents Val) {off : Fin 1 → ℕ}
    (inb : ∀ a, off a + (![c] : Fin 1 → ℕ) a ≤ (⟨1, ![n]⟩ : Shape).size a)
    (w : (Rect.unit (s := ⟨1, ![n]⟩) off ![c] inb).shape.Idx → Val e) {b b' : ℕ} (hoff : off 0 = b) (hb : b' = b + c)
    (hf : ∀ x : (⟨1, ![n]⟩ : Shape).Idx, (x 0).val < b → P (x 0).val (v.read Val f x))
    (hw : ∀ i : (⟨1, ![c]⟩ : Shape).Idx, P (b + (i 0).val) (w i)) (x : (⟨1, ![n]⟩ : Shape).Idx) (hx : (x 0).val < b') :
    P (x 0).val (v.read Val (v.writes Val f [⟨Rect.unit (s := ⟨1, ![n]⟩) off ![c] inb, w⟩]) x) := by
  by_cases h : (x 0).val < b
  · rw [read_put_miss v f inb w x (.inl (hoff ▸ h))]
    exact hf x h
  · have hl : (x 0).val - b < c := by omega
    rw [read_put_hit v f inb w (Shape.ofLane (d := ![c]) ⟨(x 0).val - b, hl⟩) x (by rw [hoff]; show _ = b + ((x 0).val - b); omega)]
    have := hw (Shape.ofLane (d := ![c]) ⟨(x 0).val - b, hl⟩)
    rwa [show b + ((Shape.ofLane (d := ![c]) ⟨(x 0).val - b, hl⟩) 0).val = (x 0).val from (by show b + ((x 0).val - b) = _; omega)] at this

/-- Where a word of a row of a two-dimensional buffer, read as a vector, lies. -/
theorem row_emb {r : ℕ} (m : Memref sig κ sp ⟨2, ![r, n]⟩ e) {off : Fin 2 → ℕ} (inb : ∀ a, off a + (![1, n] : Fin 2 → ℕ) a ≤ (⟨2, ![r, n]⟩ : Shape).size a)
    (hu) (hq : (⟨2, ![1, n]⟩ : Shape).Squeezes ⟨1, ![n]⟩) (y : (⟨1, ![n]⟩ : Shape).Idx) :
    ∃ z : (⟨2, ![r, n]⟩ : Shape).Idx, ((m.slice (Rect.unit (s := ⟨2, ![r, n]⟩) off ![1, n] inb) hu).squeeze ⟨1, ![n]⟩ hq).view.emb y = m.view.emb z
      ∧ (z 0).val = off 0 ∧ (z 1).val = off 1 + (y 0).val := by
  refine ⟨(Rect.unit (s := ⟨2, ![r, n]⟩) off ![1, n] inb).emb (Shape.reshapeEquiv hq.numel_eq y), rfl, ?_, ?_⟩
  · rw [show Shape.reshapeEquiv hq.numel_eq y = Fin.cons ⟨0, Nat.one_pos⟩ y from Shape.reshapeEquiv_cons_one _ y]
    show off 0 + 1 * 0 = _
    omega
  · rw [show Shape.reshapeEquiv hq.numel_eq y = Fin.cons ⟨0, Nat.one_pos⟩ y from Shape.reshapeEquiv_cons_one _ y]
    show off 1 + 1 * (y 0).val = _
    omega

variable {F : FTy → Type} [FloatOps F]

/-- The lanes of a vector that holds sixteen consecutive keys. -/
theorem card_lanesAt (key : ℕ → ℕ) (p : ℕ) (v : IVec ⟨1, ![16]⟩ 32) (hv : ∀ i : (⟨1, ![16]⟩ : Shape).Idx, (v i).toNat = key (p + (i 0).val)) (k : ℕ) :
    (Lanes.lanesAt v k).card = Counting.cnt key p (p + 16) k :=
  Counting.card_lanes key p k (fun l => (v (Shape.ofLane (d := ![16]) l)).toNat) fun l => hv _

/-- Counting sixteen more keys. -/
theorem count_step (key base : ℕ → ℕ) (lo p : ℕ) (hlo : lo ≤ p) (f : Vec F ⟨1, ![n]⟩ .i32) (v : IVec ⟨1, ![16]⟩ 32)
    (h : ∀ a x, ((![v] : Fin 1 → IVec ⟨1, ![16]⟩ 32) a x).toNat < (![n] : Fin 1 → ℕ) a)
    (hf : ∀ x : (⟨1, ![n]⟩ : Shape).Idx, f x = BitVec.ofNat 32 (base (x 0).val + Counting.cnt key lo p (x 0).val))
    (hv : ∀ i : (⟨1, ![16]⟩ : Shape).Idx, (v i).toNat = key (p + (i 0).val)) (x : (⟨1, ![n]⟩ : Shape).Idx) :
    storeIdx (F := F) (s := ⟨1, ![n]⟩) f ![v] (scanCount (fun _ => 1) v).2 (scanCount (fun _ => 1) v).1 true h x
      = BitVec.ofNat 32 (base (x 0).val + Counting.cnt key lo (p + 16) (x 0).val) := by
  rw [Lanes.storeIdx_count, hf, card_lanesAt key p v hv, ← BitVec.ofNat_add, Nat.add_assoc, ← Counting.cnt_add key hlo (Nat.le_add_right _ _)]

/-- The place of a lane's key: those of smaller keys, and those of the same key seen before it. -/
theorem place_step (key base : ℕ → ℕ) (lo p : ℕ) (hlo : lo ≤ p) (f : Vec F ⟨1, ![n]⟩ .i32) (v : IVec ⟨1, ![16]⟩ 32)
    (h : ∀ a x, ((![v] : Fin 1 → IVec ⟨1, ![16]⟩ 32) a x).toNat < (![n] : Fin 1 → ℕ) a)
    (hf : ∀ x : (⟨1, ![n]⟩ : Shape).Idx, f x = BitVec.ofNat 32 (base (x 0).val + Counting.cnt key lo p (x 0).val))
    (hv : ∀ i : (⟨1, ![16]⟩ : Shape).Idx, (v i).toNat = key (p + (i 0).val)) (i : (⟨1, ![16]⟩ : Shape).Idx) :
    (show BitVec 32 from loadIdx (F := F) (s := ⟨1, ![n]⟩) f ![v] h i) + (scanCount (fun _ => 1) v).2 i - 1#32
      = BitVec.ofNat 32 (base (key (p + (i 0).val)) + Counting.cnt key lo (p + (i 0).val) (key (p + (i 0).val))) := by
  obtain ⟨l, rfl⟩ : ∃ l : Fin 16, i = Shape.ofLane (d := ![16]) l := ⟨i 0, ofLane_eq i (i 0).isLt rfl⟩
  have e1 : loadIdx (F := F) (s := ⟨1, ![n]⟩) f ![v] h (Shape.ofLane (d := ![16]) l)
      = BitVec.ofNat 32 (base (key (p + l.val)) + Counting.cnt key lo p (key (p + l.val))) := by
    unfold loadIdx
    rw [hf]
    have : ((idxAt (s := ⟨1, ![n]⟩) ![v] h (Shape.ofLane (d := ![16]) l)) 0).val = key (p + l.val) := hv (Shape.ofLane (d := ![16]) l)
    rw [this]
  have e2 : (scanCount (fun _ => 1) v).2 (Shape.ofLane (d := ![16]) l) = BitVec.ofNat 32 (Counting.cnt key p (p + l.val + 1) (key (p + l.val))) := by
    refine (Lanes.scanCount_snd v l).trans ?_
    rw [hv]
    congr 1
    exact Counting.card_lanes_le key p _ (fun l => (v (Shape.ofLane (d := ![16]) l)).toNat) (fun l => hv _) l
  have e3 : Counting.cnt key p (p + l.val + 1) (key (p + l.val)) = Counting.cnt key p (p + l.val) (key (p + l.val)) + 1 := by
    rw [Counting.cnt_add key (mid := p + l.val) (Nat.le_add_right _ _) (Nat.le_succ _)]
    congr 1
    simp [Counting.cnt, Finset.filter_singleton]
  show (loadIdx (F := F) (s := ⟨1, ![n]⟩) f ![v] h (Shape.ofLane (d := ![16]) l) : BitVec 32) + _ - _ = _
  rw [e1, e2, e3]
  show _ = BitVec.ofNat 32 (base (key (p + l.val)) + Counting.cnt key lo (p + l.val) (key (p + l.val)))
  rw [← BitVec.ofNat_add, Counting.cnt_add key hlo (Nat.le_add_right p l.val), ← Nat.add_assoc, ← Nat.add_assoc, BitVec.ofNat_add (_ + _) 1]
  exact BitVec.add_sub_cancel _ _

end Cert.Proof.Mem
-- ==== Proof.Base.lean ====
/-
  The kernel's program as the launch theorem sees it, its resource algebra, its buffers, and the contents that each
  SparseCore call leaves, as functions of the contents it reads.
-/
module

public import proofs.«01_k».proof.Defs
public import proofs.«01_k».proof.Proof.Lanes
public import proofs.«01_k».proof.Proof.Mem
public import proofs.«01_k».proof.Proof.Counting
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, and the transfers' counters. -/
abbrev UH : Type := URounds (GSem nD τ sig) ℕ
abbrev UK : Type := URounds (GSem nD τ sig) Unit
abbrev UU : Type := UH × (UK × Counters)
abbrev EH : Emb UH (MT nD τ sig (HIx 4) (Elt F) ℕ UU ℕ) := embL

/-! ## Words by position -/

/-- The word at position `i` of a vector, zero past its end. -/
def wAt {n : ℕ} (A : (⟨1, ![n]⟩ : Shape).Idx → BitVec 32) (i : ℕ) : BitVec 32 :=
  if h : i < n then A (Shape.ofLane (d := ![n]) ⟨i, h⟩) else 0

theorem wAt_idx {n : ℕ} (A : (⟨1, ![n]⟩ : Shape).Idx → BitVec 32) (x : (⟨1, ![n]⟩ : Shape).Idx) {i : ℕ} (h : (x 0).val = i) : wAt A i = A x := by
  subst h
  unfold wAt
  exact (dif_pos (show (x 0).val < n from (x 0).isLt)).trans
    (congrArg A (funext fun a => by obtain rfl : a = 0 := Subsingleton.elim _ _; rfl))

/-- The depth keys of the first pass, and the tile keys of the second. -/
def keyA (A : S503808.Idx → BitVec 32) (i : ℕ) : ℕ := (wAt A i).toNat
def keyB (A : S503808.Idx → BitVec 32) (i : ℕ) : ℕ := (wAt A i).toNat / 524288

/-- The table of histograms: row `32 b + w` holds, for the 512 keys from `512 b` on, how often each occurs in the chunk
    of tile `w`. -/
def histTab {n : ℕ} (key : ℕ → ℕ) (x : (⟨2, ![n, 512]⟩ : Shape).Idx) : BitVec 32 :=
  BitVec.ofNat 32 (Counting.cnt key ((x 0).val % 32 * 15744) ((x 0).val % 32 * 15744 + 15744) (512 * ((x 0).val / 32) + (x 1).val))

/-- The words of `A` put at the places a stable sort of the positions by `key` gives them. -/
def sorted (key : ℕ → ℕ) (A : ℕ → BitVec 32) (x : S503808.Idx) : BitVec 32 := A (Counting.unrank key 503808 (x 0).val)

/-- The words sorted by depth. -/
def p1Of (dk p0 : S503808.Idx → BitVec 32) : S503808.Idx → BitVec 32 := sorted (keyA dk) (wAt p0)
/-- The point numbers of words sorted by tile. -/
def pidOf (p1 : S503808.Idx → BitVec 32) : S503808.Idx → BitVec 32 := sorted (keyB p1) fun i => wAt p1 i &&& 524287#32
/-- How many words carry each tile, and the first and the last-plus-one place of each tile that has any. -/
def tileHist (p1 : S503808.Idx → BitVec 32) (x : S8160.Idx) : BitVec 32 := BitVec.ofNat 32 (Counting.cnt (keyB p1) 0 503808 (x 0).val)
def tileStart (p1 : S503808.Idx → BitVec 32) (x : S8160.Idx) : BitVec 32 :=
  if Counting.cnt (keyB p1) 0 503808 (x 0).val = 0 then 0 else BitVec.ofNat 32 (Counting.below (keyB p1) 503808 (x 0).val)
def tileEnd (p1 : S503808.Idx → BitVec 32) (x : S8160.Idx) : BitVec 32 :=
  if Counting.cnt (keyB p1) 0 503808 (x 0).val = 0 then 0 else BitVec.ofNat 32 (Counting.below (keyB p1) 503808 ((x 0).val + 1))

/-! ## The tiles -/

/-- The rows of a histogram table that tile `w` writes. -/
def tabRows {n : ℕ} (w : ℕ) : Finset (⟨2, ![n, 512]⟩ : Shape).Idx := Finset.univ.filter fun x => (x 0).val % 32 = w

/-- The places that tile `w`'s words are sorted to. -/
def ownPlaces (key : ℕ → ℕ) (w : ℕ) (n : ℕ) : Prop := w * 15744 ≤ Counting.unrank key 503808 n ∧ Counting.unrank key 503808 n < w * 15744 + 15744

/-- The tile entries that tile `w` writes of the three per-tile results. -/
def tilePart (w : ℕ) : Finset S8160.Idx := Finset.univ.filter fun x => (x 0).val / 256 = w

/-- A task's obligation closes on what its body leaves. -/
theorem obl_post {thr : Thread nD τ} {A B C : sProp (MT nD τ sig (HIx 4) (Elt F) ℕ UU ℕ)} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof

end
-- ==== Proof.FrontRun.lean ====
/-
  The first kernel of the program, run at one block of 512 points: what it leaves in the three staged results, as a
  function of the staged points and features.
-/
module

public import proofs.«01_k».proof.Proof.Base
public import proofs.«01_k».proof.Proof.Gen.KernelIdeal.Points
public import proofs.«01_k».proof.Proof.Gen.KernelIdeal.Launch

@[expose] public section

noncomputable section

namespace Cert.Proof.Front

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 4) (Elt F) ℕ UU ℕ

/-- A memref's buffer on core `c`: its contents, and the buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body run from the five staged blocks: the two inputs come back as they were, the three results at the witness. -/
noncomputable def frontRun (c : Dev nD) (i : grid0.Coords) (M0 : Memref sig .tc .vmem S3x512 .f32) (h0 : M0.IsWhole) (M1 : Memref sig .tc .vmem S8x512 .f32) (h1 : M1.IsWhole)
    (M2 : Memref sig .tc .vmem S8x512 .f32) (h2 : M2.IsWhole) (M3 : Memref sig .tc .vmem S1x512 .i32) (h3 : M3.IsWhole) (M4 : Memref sig .tc .vmem S1x512 .i32) (h4 : M4.IsWhole)
    (f0 : Bf (F := F) c M0) (f1 : Bf (F := F) c M1) :
    { W : Bf (F := F) c M2 × Bf (F := F) c M3 × Bf (F := F) c M4 // ∀ (f2 : Bf (F := F) c M2) (f3 : Bf (F := F) c M3) (f4 : Bf (F := F) c M4) (E : Set ℕ) (Q : PUnit → sProp 𝕄),
        iprop(pt c M0 f0 ∗ pt c M1 f1 ∗ pt c M2 f2 ∗ pt c M3 f3 ∗ pt c M4 f4
            ∗ (iprop(pt c M0 f0 ∗ pt c M1 f1 ∗ pt c M2 W.1 ∗ pt c M3 W.2.1 ∗ pt c M4 W.2.2) -∗ Q ⟨⟩))
          ⊢ wp frame (wpE (defs₀ (F := F)) Variants.none c none) E (cc0__front_body i M0 h0 M1 h1 M2 h2 M3 h3 M4 h4) Q } := by
  refine ⟨⟨?_, ?_, ?_⟩, fun f2 f3 f4 E Q => ?run⟩
  case run =>
    rw [cc0__front_body_eq_skeleton]
    unfold cc0__front_body_skel
    rw [k0_part1_eq_skeleton, k0_part2_eq_skeleton, k0_part3_eq_skeleton, k0_part4_eq_skeleton, k0_part5_eq_skeleton, k0_part6_eq_skeleton]
    unfold k0_part1_skel k0_part2_skel k0_part3_skel k0_part4_skel k0_part5_skel k0_part6_skel
    iintro ⟨H0, H1, H2, H3, H4, Hk⟩
    sl_exec!
    sl_step
    iapply Hk
    isplitl [H0]; · iexact H0
    isplitl [H1]; · iexact H1
    isplitl [H2]; · iexact H2
    isplitl [H3]; · iexact H3
    iexact H4

end Cert.Proof.Front

end
-- ==== Proof.FrontRegion.lean ====
/-
  The first kernel as a pipeline over its 984 blocks: the contents of its staging buffers at every point, its body's
  obligation, and the whole region over the TensorCore's unscoped buffers, entered at any valuation and left with the three
  results replaced.
-/
module

public import proofs.«01_k».proof.Proof.FrontRun
public import Idealize.ShloMosaic.Lib.Pipeline.RegionsLoop
public import Idealize.ShloMosaic.Lib.Pipeline.Frame

@[expose] public section

noncomputable section

namespace Cert.Proof.Front

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig (HIx 4) (Elt F) ℕ UU ℕ

variable (V : (c : Dev nD) → (b : Ref sig .tc) → Buf (Elt F) ((c : Thread nD τ).loc b))

/-- The blocks of the two inputs that point `t` stages. -/
abbrev stg0 (c : Dev nD) (t : Fin cfg0.N) : S3x512.Idx → Elt F .f32 := ((cfg0.win 0).blk t).view.read (Elt F) (V c main_v4)
abbrev stg1 (c : Dev nD) (t : Fin cfg0.N) : S8x512.Idx → Elt F .f32 := ((cfg0.win 1).blk t).view.read (Elt F) (V c main_v8)

/-- The body's run at a point, on that point's staging buffers. -/
abbrev runAt (c : Dev nD) (t : Fin cfg0.N) (f0 : Bf (F := F) c (st0_0 t)) (f1 : Bf (F := F) c (st0_1 t)) :=
  frontRun (F := F) c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    f0 f1

/-- The body's run at a point on the two blocks it stages. -/
abbrev runBlk (c : Dev nD) (t : Fin cfg0.N) :=
  runAt (F := F) c t ((hstage0_0 ((cfg0.slots t 0).cast nbuf0_0)).unread (stg0 V c t)) ((hstage0_1 ((cfg0.slots t 1).cast nbuf0_1)).unread (stg1 V c t))

/-- What the body leaves at a point in each of the three results' staging buffers. -/
def out2 (c : Dev nD) (t : Fin cfg0.N) : S8x512.Idx → Elt F .f32 :=
  (st0_2 t).view.read (Elt F) (runBlk V c t).1.1
def out3 (c : Dev nD) (t : Fin cfg0.N) : S1x512.Idx → Elt F .i32 :=
  (st0_3 t).view.read (Elt F) (runBlk V c t).1.2.1
def out4 (c : Dev nD) (t : Fin cfg0.N) : S1x512.Idx → Elt F .i32 :=
  (st0_4 t).view.read (Elt F) (runBlk V c t).1.2.2

/-- The scoped buffers that the pipeline does not stage. -/
abbrev Φc (c : Dev nD) : sProp 𝕄 := Pipeline.scopedRest (Ix := HIx 4) (Name := ℕ) (U := UU) (Lvl := ℕ) (Val := Elt F) spec0 c

/-- The waits recorded so far sit at the bottom level. -/
abbrev low (c : Dev nD) : Set (SemLoc sig × HIx 4) := {p | (K (F := F)).lev ((c : Thread nD τ), p.1) p.2 ≤ 0}

/-- The proof data from valuation `V`: the inputs as fetched, the results at the run's witness, the launch's debt kept. -/
def dat (c : Dev nD) : Dat τ (Elt F) (HIx 4) ℕ UU ℕ cfg0 c where
  A w := V c (Pipeline.arrRef spec0 w)
  after w t := match w with
    | ⟨0, _⟩ => stg0 V c t
    | ⟨1, _⟩ => stg1 V c t
    | ⟨2, _⟩ => out2 V c t
    | ⟨3, _⟩ => out3 V c t
    | ⟨4, _⟩ => out4 V c t
  Φ _ := Φc c
  q _ := fullShare
  owed _ := (K (F := F)).Otc c 0
  recorded _ := low (F := F) c

def pdats : (p : Fin 1) → (c : Dev nD) → Dat τ (Elt F) (HIx 4) ℕ UU ℕ (Pipeline.pin (pcfgs (F := F)) (fun p => (cfgs p).toPCfg_adm) p) c
  | ⟨0, _⟩ => fun c => dat V c

theorem before0 (c : Dev nD) (t : Fin cfg0.N) (d) : (dat V c).before 0 t d = stg0 V c t := by
  rw [Dat.before_fetched _ _ _ (fetch0_0 t)]; rfl
theorem before1 (c : Dev nD) (t : Fin cfg0.N) (d) : (dat V c).before 1 t d = stg1 V c t := by
  rw [Dat.before_fetched _ _ _ (fetch0_1 t)]; rfl

/-- A whole memref owned at a block is its buffer held whole at the contents that read it, and the other way about. -/
theorem pt_of_owns (c : Dev nD) {S : Shape} {e : EltTy} (M : Memref sig .tc .vmem S e) (h : M.IsWhole) (X : S.Idx → Elt F e) :
    (owns (c : Thread nD τ) M fullShare X : sProp 𝕄) ⊢ pt c M (h.unread X) := by
  unfold owns
  iintro ⟨%f, %hf, H⟩
  obtain rfl := h.eq_unread hf
  rw [h.set_eq_univ]; iexact H
theorem owns_of_pt (c : Dev nD) {S : Shape} {e : EltTy} (M : Memref sig .tc .vmem S e) (h : M.IsWhole) (f : Bf (F := F) c M) (X : S.Idx → Elt F e)
    (hX : M.view.read (Elt F) f = X) : pt c M f ⊢ (owns (c : Thread nD τ) M fullShare X : sProp 𝕄) := by
  unfold owns
  iintro H
  iexists f
  isplitr; · ipureintro; exact hX
  rw [h.set_eq_univ]; iexact H

/-- The body's obligation at every point. -/
theorem body_obligation (c : Dev nD) : BodyObligation (dat V c) (defs₀ (F := F)) Variants.none (none : HIx 4) Set.univ := fun t => by
  rw [bigSep_W0, bigSep_W0]
  rw [show (dat V c).Φ t.castSucc = Φc c from rfl, show (dat V c).Φ t.succ = Φc c from rfl,
    show (dat V c).owesAt (none : HIx 4) t.succ = (dat V c).owesAt (none : HIx 4) t.castSucc from rfl]
  change iprop(Φc c ∗ (dat V c).owesAt (none : HIx 4) t.castSucc ∗ (∃ d, owns (c : Thread nD τ) (st0_0 t) fullShare ((dat V c).before 0 t d))
      ∗ (∃ d, owns (c : Thread nD τ) (st0_1 t) fullShare ((dat V c).before 1 t d)) ∗ (∃ d, owns (c : Thread nD τ) (st0_2 t) fullShare ((dat V c).before 2 t d))
      ∗ (∃ d, owns (c : Thread nD τ) (st0_3 t) fullShare ((dat V c).before 3 t d)) ∗ (∃ d, owns (c : Thread nD τ) (st0_4 t) fullShare ((dat V c).before 4 t d)))
    ⊢ wp frame (wpE (defs₀ (F := F)) Variants.none c none) Set.univ (bodyAt0 t) fun _ =>
        iprop(Φc c ∗ (dat V c).owesAt (none : HIx 4) t.castSucc ∗ owns (c : Thread nD τ) (st0_0 t) fullShare (stg0 V c t)
          ∗ owns (c : Thread nD τ) (st0_1 t) fullShare (stg1 V c t) ∗ owns (c : Thread nD τ) (st0_2 t) fullShare (out2 V c t)
          ∗ owns (c : Thread nD τ) (st0_3 t) fullShare (out3 V c t) ∗ owns (c : Thread nD τ) (st0_4 t) fullShare (out4 V c t))
  iintro ⟨HΦ, Howes, ⟨%d0, H0⟩, ⟨%d1, H1⟩, ⟨%d2, H2⟩, ⟨%d3, H3⟩, ⟨%d4, H4⟩⟩
  rw [before0, before1]
  iapply ((runBlk V c t).2 _ _ _ Set.univ _)
  isplitl [H0]; · iapply (pt_of_owns c (st0_0 t) (hstage0_0 ((cfg0.slots t 0).cast nbuf0_0)) _); iexact H0
  isplitl [H1]; · iapply (pt_of_owns c (st0_1 t) (hstage0_1 ((cfg0.slots t 1).cast nbuf0_1)) _); iexact H1
  isplitl [H2]; · iapply (pt_of_owns c (st0_2 t) (hstage0_2 ((cfg0.slots t 2).cast nbuf0_2)) _); iexact H2
  isplitl [H3]; · iapply (pt_of_owns c (st0_3 t) (hstage0_3 ((cfg0.slots t 3).cast nbuf0_3)) _); iexact H3
  isplitl [H4]; · iapply (pt_of_owns c (st0_4 t) (hstage0_4 ((cfg0.slots t 4).cast nbuf0_4)) _); iexact H4
  iintro ⟨H0, H1, H2, H3, H4⟩
  isplitl [HΦ]; · iexact HΦ
  isplitl [Howes]; · iexact Howes
  isplitl [H0]; · iapply (owns_of_pt c (st0_0 t) (hstage0_0 ((cfg0.slots t 0).cast nbuf0_0)) _ _ ((hstage0_0 ((cfg0.slots t 0).cast nbuf0_0)).read_unread _)); iexact H0
  isplitl [H1]; · iapply (owns_of_pt c (st0_1 t) (hstage0_1 ((cfg0.slots t 1).cast nbuf0_1)) _ _ ((hstage0_1 ((cfg0.slots t 1).cast nbuf0_1)).read_unread _)); iexact H1
  isplitl [H2]; · iapply (owns_of_pt c (st0_2 t) (hstage0_2 ((cfg0.slots t 2).cast nbuf0_2)) _ _ rfl); iexact H2
  isplitl [H3]; · iapply (owns_of_pt c (st0_3 t) (hstage0_3 ((cfg0.slots t 3).cast nbuf0_3)) _ _ rfl); iexact H3
  iapply (owns_of_pt c (st0_4 t) (hstage0_4 ((cfg0.slots t 4).cast nbuf0_4)) _ _ rfl); iexact H4

/-- The bottom level is not owed before the first call. -/
theorem otc_none (c : Dev nD) (g : GSem nD τ sig) : (K (F := F)).Otc c 0 g none = 0 := by
  by_contra h
  have h' := (K (F := F)).lev_of_Otc_pos (Nat.pos_of_ne_zero h)
  rw [SparseCore.Cfg.lev_none] at h'
  omega

abbrev adm (p : Fin 1) : (pcfgs (F := F) p).Adm := (cfgs p).toPCfg_adm

-- what the region leaves: any valuation with the three results' arrays as the pipeline leaves them, and `V` elsewhere
variable (Vp : (c : Dev nD) → (b : Ref sig .tc) → Buf (Elt F) ((c : Thread nD τ).loc b))

/-- The owed tallies at the launch, with the recorded waits at the bottom level. -/
abbrev owesLow (c : Dev nD) : sProp 𝕄 := iprop(∃ W, ⌜(K (F := F)).WBelow (c : Thread nD τ) W 0⌝ ∗ owes (c : Thread nD τ) ((K (F := F)).Otc c 0) W)

set_option backward.isDefEq.respectTransparency.types false in
/-- The region: from the unscoped buffers at `V` to them at `Vp`, the owed tallies kept. -/
def reg (h2 : ∀ c, Vp c main_v9_0 = (dat V c).arrAt 2 cfg0.N) (h3 : ∀ c, Vp c main_v9_1 = (dat V c).arrAt 3 cfg0.N) (h4 : ∀ c, Vp c main_v9_2 = (dat V c).arrAt 4 cfg0.N)
    (hne : ∀ c (b : Ref sig .tc), b ≠ main_v9_0 → b ≠ main_v9_1 → b ≠ main_v9_2 → Vp c b = V c b) :
    Pipeline.RegionSeg (pcfgs (F := F)) adm (pdats V) (none : HIx 4) defs₀ Variants.none (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ (pdats V) (none : HIx 4) 0 c fun w s t =>
    (K (F := F)).mayWait_none _ (fun g => otc_none c g)
  pre c := iprop(unscopedBufs c (V c) ∗ owesLow c)
  post c := iprop(unscopedBufs c (Vp c) ∗ owesLow c)
  X _ := BI.emp
  Y _ := BI.emp
  Z c := Pipeline.unscopedRest (Ix := HIx 4) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 4) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hne c main_v4 (by decide) (by decide) (by decide)).symm
        · exact ((pdats V 0 c).arrAt_in 1 rfl _).trans (hne c main_v8 (by decide) (by decide) (by decide)).symm
        · exact (h2 c).symm
        · exact (h3 c).symm
        · exact (h4 c).symm)
      (fun b hb => hne c b (fun h => hb (h ▸ Finset.mem_image.mpr ⟨2, Finset.mem_univ _, rfl⟩)) (fun h => hb (h ▸ Finset.mem_image.mpr ⟨3, Finset.mem_univ _, rfl⟩))
        (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact le_of_eq (SparseCore.Cfg.lev_none _ _)
    iexact HO

end Cert.Proof.Front

end
-- ==== Proof.HistA.lean ====
/-
  The first SparseCore call: every tile counts how often each depth key occurs in its chunk.
-/
module

public import proofs.«01_k».proof.Proof.Base

@[expose] public section

set_option maxRecDepth 16384

noncomputable section

namespace Cert.Proof.HistA

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 4) (Elt F) ℕ UU ℕ

abbrev dkM : Memref sig .scVector .hbm S503808 .i32 := Memref.whole main_v10_scv
abbrev haM : Memref sig .scVector .hbm S256x512 .i32 := Memref.whole main_v12_scv
abbrev s0 : Memref sig .scVector .vmem S15744 .i32 := Memref.whole cc1_scratch0
abbrev s1 : Memref sig .scVector .vmem S4096 .i32 := Memref.whole cc1_scratch1

variable (d : Dev nD) (L : grid1.Coords)

abbrev cV (L : grid1.Coords) : Fin τ.nSC := (L 0).castLE hcore1
abbrev jV (L : grid1.Coords) : Fin τ.nSub := (L 1).castLE hsub1
abbrev thr : Thread nD τ := V d (cV L) (jV L)
abbrev wid (L : grid1.Coords) : ℕ := 2 * (L 1).val + (L 0).val

abbrev cA : GSem nD τ sig := (thr d L, .dma cc1_scoped0.sem)
abbrev cB : GSem nD τ sig := (thr d L, .dma cc1_scoped1.sem)

omit [FloatOps F] in
theorem ownSems0_V :
    (ownSems0 (thr d L) : sProp 𝕄)
      = iprop(semVal (cA d L) 0 ∗ semVal (cB d L) 0 ∗ bigSep (((ownCells (thr d L)).erase (cA d L)).erase (cB d L)) fun g => semVal g 0) := by
  unfold SparseCore.Cfg.ownSems0
  rw [SparseCore.bigSep_erase' ((mem_ownCells (g := cA d L)).mpr ⟨rfl, by
      show (SemLoc.dma cc1_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc1_scoped1.sem : SemLoc sig).isScoped .scVector = true; decide⟩⟩)]

omit [FloatOps F] in
theorem ownBufs_V :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- While the histogram is being cleared: its words before `16 j` are zero. -/
def inv1 (j : ℕ) (_ : PUnit) : sProp 𝕄 :=
  iprop(∃ f : s1.view.ty.Contents (Elt F), ⌜∀ x : S4096.Idx, (x 0).val < 16 * j → s1.view.read (Elt F) f x = (0#32 : BitVec 32)⌝
    ∗ (s1.view.loc (thr d L) ↦{fullShare} f))

/-- The chunk of tile `w` of a vector. -/
def IsChunk (A : S503808.Idx → Elt F .i32) (w : ℕ) (g : s0.view.ty.Contents (Elt F)) : Prop :=
  ∀ x : S15744.Idx, s0.view.read (Elt F) g x = wAt A (w * 15744 + (x 0).val)

/-- The histogram of the chunk's words before `16 j`. -/
def IsHist (A : S503808.Idx → Elt F .i32) (w j : ℕ) (f : s1.view.ty.Contents (Elt F)) : Prop :=
  ∀ x : S4096.Idx, s1.view.read (Elt F) f x = BitVec.ofNat 32 (0 + Counting.cnt (keyA A) (w * 15744) (w * 15744 + 16 * j) (x 0).val)

/-- While the chunk is being counted. -/
def inv2 (A : S503808.Idx → Elt F .i32) (g : s0.view.ty.Contents (Elt F)) (j : ℕ) (_ : PUnit) : sProp 𝕄 :=
  iprop((∃ f : s1.view.ty.Contents (Elt F), ⌜IsHist A (wid L) j f⌝ ∗ (s1.view.loc (thr d L) ↦{fullShare} f))
    ∗ (s0.view.loc (thr d L) ↦{fullShare} g))

theorem pay4_eq (v : IVec S16 32) : k1_pay4 (F := F) v = (scanCount (fun _ => 1) v).2 := rfl
theorem pay3_eq (v : IVec S16 32) : k1_pay3 (F := F) v = (scanCount (fun _ => 1) v).1 := rfl

theorem hist_step (A : S503808.Idx → Elt F .i32) (w j : ℕ) (f : s1.view.ty.Contents (Elt F)) (v : IVec S16 32) (hchk : k1_chk1 v) (hf : IsHist A w j f)
    (hv : ∀ i : S16.Idx, (v i).toNat = keyA A (w * 15744 + 16 * j + (i 0).val)) :
    IsHist A w (j + 1) (storeIdx (F := F) (s := S4096) f ![v] (k1_pay4 (F := F) v) (k1_pay3 (F := F) v) true hchk) := by
  intro x
  rw [pay4_eq, pay3_eq, show w * 15744 + 16 * (j + 1) = w * 15744 + 16 * j + 16 by omega]
  have e := Mem.count_step (F := F) (n := 4096) (keyA A) (fun _ => 0) (w * 15744) (w * 15744 + 16 * j) (Nat.le_add_right _ _) f v hchk hf hv x
  exact e
set_option maxHeartbeats 400000 in
theorem step1 (k : Fin k1_t1_loop.trips) (a : PUnit) :
    inv1 (F := F) d L k.val a ⊢ wp frame (wpE (defs₀ (F := F)) 𝒱₀ (thr d L) none) Set.univ
      (k1_t1_body L dkM (Memref.isWhole_whole _) haM (Memref.isWhole_whole _) s0 (Memref.isWhole_whole _) s1 (Memref.isWhole_whole _) cc1_scoped0 cc1_scoped1 k a)
      (inv1 d L (k.val + 1)) := by
  unfold inv1 k1_t1_body
  iintro ⟨%f, %hf, Hc⟩
  sl_exec
  sl_step
  iexists (s1.view.writes (Elt F) f [⟨Rect.unit (k1_off2 k) S16.size (k1_off2_inb k), k1_pay1⟩])
  isplitr
  · ipureintro
    exact fun x hx => Mem.fill_step (Val := Elt F) (n := 4096) (c := 16) (fun _ y => y = (0#32 : BitVec 32)) s1.view f (off := k1_off2 k) (k1_off2_inb k) k1_pay1
      (b := 16 * k.val) (by rw [k1_off2_eq]; rfl) (by omega) hf (fun _ => rfl) x hx
  · iexact Hc

theorem pts_access (f : s1.view.ty.Contents (Elt F)) :
    (s1.view.loc (thr d L) ↦{fullShare} f : sProp 𝕄) = ((s1.access (.whole S4096)).loc (thr d L) ↦[(s1.access (.whole S4096)).set]{fullShare} f) := by
  rw [show (s1.access (.whole S4096)).set = Finset.univ from Memref.set_access_whole _]

theorem write_access (f g : s1.view.ty.Contents (Elt F)) : (s1.access (.whole S4096)).write (Elt F) f g Finset.univ = g :=
  Memref.write_access_whole_univ (Elt F) cc1_scratch1 f g

theorem access_back (f : s1.view.ty.Contents (Elt F)) (w : s1.view.ty.Contents (Elt F) → s1.view.ty.Contents (Elt F)) :
    ((s1.access (.whole S4096)).loc (thr d L) ↦[(s1.access (.whole S4096)).set]{fullShare}
      ((s1.access (.whole S4096)).write (Elt F) f (w ((s1.access (.whole S4096)).read (Elt F) f)) Finset.univ) : sProp 𝕄) = (s1.view.loc (thr d L) ↦{fullShare} w f) := by
  rw [write_access, show (s1.access (.whole S4096)).read (Elt F) f = f from Memref.read_access_whole (Elt F) cc1_scratch1 f, ← pts_access]

set_option maxHeartbeats 400000 in
theorem step2 (A : S503808.Idx → Elt F .i32) (hA : ∀ i, i < 503808 → keyA A i < 4096) (g : s0.view.ty.Contents (Elt F)) (hg : IsChunk A (wid L) g)
    (k : Fin k1_t2_loop.trips) (a : PUnit) :
    inv2 (F := F) d L A g k.val a ⊢ wp frame (wpE (defs₀ (F := F)) 𝒱₀ (thr d L) none) Set.univ
      (k1_t2_body L dkM (Memref.isWhole_whole _) haM (Memref.isWhole_whole _) s0 (Memref.isWhole_whole _) s1 (Memref.isWhole_whole _) cc1_scoped0 cc1_scoped1 k a)
      (inv2 d L A g (k.val + 1)) := by
  have hk : k.val < 984 := k.isLt
  have hw : wid L < 32 := by have := (L 0).isLt; have := (L 1).isLt; have : (L 0).val < 2 := (L 0).isLt; have : (L 1).val < 16 := (L 1).isLt; unfold wid; omega
  have hv : ∀ i : S16.Idx, (show BitVec 32 from s0.view.readAt (Elt F) (Rect.unit (s := S15744) (k1_off3 k) S16.size (k1_off3_inb k)).toLoadRect g i).toNat
      = keyA A (wid L * 15744 + 16 * k.val + (i 0).val) := by
    intro i
    have hi : (i 0).val < 16 := (i 0).isLt
    have := Mem.readAt_unit (Val := Elt F) (n := 15744) (c := 16) s0.view g (off := k1_off3 k) (k1_off3_inb k) i
      (Shape.ofLane (d := ![15744]) ⟨16 * k.val + (i 0).val, by show _ < 15744; omega⟩) (by rw [k1_off3_eq]; rfl)
    exact (congrArg BitVec.toNat (this.trans (hg _))).trans (by unfold keyA; rw [show wid L * 15744 + 16 * k.val + (i 0).val = wid L * 15744 + (16 * k.val + (i 0).val) by omega]; rfl)
  have hchk : k1_chk1 (s0.view.readAt (Elt F) (Rect.unit (s := S15744) (k1_off3 k) S16.size (k1_off3_inb k)).toLoadRect g) := by
    intro a x
    obtain rfl : a = 0 := Subsingleton.elim _ _
    refine (hv x).trans_lt (hA _ ?_)
    have hi : (x 0).val < 16 := (x 0).isLt
    omega
  unfold inv2 k1_t2_body
  iintro ⟨⟨%f, %hf, Hc⟩, Hs⟩
  sl_exec
  ihave Hc' := (Entails.of_eq (pts_access d L f)) $$ Hc
  iapply (SparseCore.wp_vectorStoreIdx 𝒱₀ (thr d L) none Set.univ (base := s1)) $$ Hc'; iintro Hc
  ihave Hc := (Entails.of_eq (access_back d L f fun f' => storeIdx (F := F) (s := S4096) f' ![s0.view.readAt (Elt F) (Rect.unit (s := S15744) (k1_off3 k) S16.size (k1_off3_inb k)).toLoadRect g]
      (k1_pay4 (s0.view.readAt (Elt F) (Rect.unit (s := S15744) (k1_off3 k) S16.size (k1_off3_inb k)).toLoadRect g))
      (k1_pay3 (s0.view.readAt (Elt F) (Rect.unit (s := S15744) (k1_off3 k) S16.size (k1_off3_inb k)).toLoadRect g)) true hchk)) $$ Hc
  sl_step
  isplitl [Hc]
  · iexists (storeIdx (F := F) (s := S4096) f ![s0.view.readAt (Elt F) (Rect.unit (s := S15744) (k1_off3 k) S16.size (k1_off3_inb k)).toLoadRect g]
      (k1_pay4 (s0.view.readAt (Elt F) (Rect.unit (s := S15744) (k1_off3 k) S16.size (k1_off3_inb k)).toLoadRect g))
      (k1_pay3 (s0.view.readAt (Elt F) (Rect.unit (s := S15744) (k1_off3 k) S16.size (k1_off3_inb k)).toLoadRect g)) true hchk)
    isplitr
    · ipureintro
      exact hist_step A (wid L) k.val f _ hchk hf hv
    · iexact Hc
  · iexact Hs

/-- While the histogram is being written out: block `b` of the table's rows of this tile holds it for the `j` blocks done. -/
def inv3 (A : S503808.Idx → Elt F .i32) (O : CellTallies nD τ sig (HIx 4)) (W : Waits sig (HIx 4)) (f0 : S256x512.Idx → Elt F .i32)
    (h : s1.view.ty.Contents (Elt F)) (j : ℕ) (_ : PUnit) : sProp 𝕄 :=
  iprop(Transfers.MayWaits (thr d L) (none : HIx 4) O
    ∗ (haM.view.loc (thr d L) ↦[tabRows (wid L)]{fullShare} (fun x => if (x 0).val < 32 * j then histTab (keyA A) x else f0 x : S256x512.Idx → Elt F .i32))
    ∗ (s1.view.loc (thr d L) ↦{fullShare} h) ∗ semVal (cB d L) 0
    ∗ ∃ W', ⌜∀ p ∈ W', p ∈ W ∨ p.2 = none⌝ ∗ owes (thr d L) O W')

/-- The row of the table that trip `k` writes. -/
abbrev rowM (k : Fin k1_t3_loop.trips) : Memref sig .scVector .hbm S512 .i32 :=
  (haM.slice (Rect.unit (s := S256x512) (k1_off5 L k) S1x512.size (k1_off5_inb L k)) (fun _ => rfl)).squeeze S512 squeezes_S1x512_S512

theorem row_emb (k : Fin k1_t3_loop.trips) (y : S512.Idx) :
    ∃ z : S256x512.Idx, (rowM L k).view.emb y = z ∧ (z 0).val = 32 * k.val + wid L ∧ (z 1).val = (y 0).val := by
  obtain ⟨z, h, h0, h1⟩ := Mem.row_emb (r := 256) (n := 512) haM (off := k1_off5 L k) (k1_off5_inb L k) (fun _ => rfl) squeezes_S1x512_S512 y
  refine ⟨z, h, h0.trans ?_, h1.trans ?_⟩
  · rw [k1_off5_eq]; show 32 * k.val + 2 * (L 1).val + (L 0).val = _; unfold wid; omega
  · rw [k1_off5_eq]; show 0 + _ = _; omega

theorem row_set (k : Fin k1_t3_loop.trips) (x : S256x512.Idx) : x ∈ (rowM L k).view.set ↔ (x 0).val = 32 * k.val + wid L := by
  constructor
  · intro hx
    obtain ⟨y, -, rfl⟩ := Finset.mem_map.mp hx
    obtain ⟨z, h, h0, -⟩ := row_emb L k y
    rw [h]; exact h0
  · intro hx
    obtain ⟨z, h, h0, h1⟩ := row_emb L k (Shape.ofLane (d := ![512]) (x 1))
    refine Finset.mem_map.mpr ⟨_, Finset.mem_univ _, h.trans ?_⟩
    funext a
    refine Fin.ext ?_
    match a with
    | 0 => exact h0.trans hx.symm
    | 1 => exact h1

set_option maxHeartbeats 400000 in
theorem step3 (A : S503808.Idx → Elt F .i32) (O : CellTallies nD τ sig (HIx 4)) (W : Waits sig (HIx 4)) (f0 : S256x512.Idx → Elt F .i32)
    (h : s1.view.ty.Contents (Elt F)) (hh : IsHist A (wid L) 984 h) (k : Fin k1_t3_loop.trips) (a : PUnit) :
    inv3 (F := F) d L A O W f0 h k.val a ⊢ wp frame (wpE (defs₀ (F := F)) 𝒱₀ (thr d L) none) Set.univ
      (k1_t3_body L dkM (Memref.isWhole_whole _) haM (Memref.isWhole_whole _) s0 (Memref.isWhole_whole _) s1 (Memref.isWhole_whole _) cc1_scoped0 cc1_scoped1 k a)
      (inv3 d L A O W f0 h (k.val + 1)) := by
  have hk : k.val < 8 := k.isLt
  have hw : wid L < 32 := by have : (L 0).val < 2 := (L 0).isLt; have : (L 1).val < 16 := (L 1).isLt; unfold wid; omega
  have hsub : (rowM L k).view.set ⊆ (tabRows (wid L) : Finset S256x512.Idx) := by
    intro x hx
    have := (row_set L k x).mp hx
    exact Finset.mem_filter.mpr ⟨Finset.mem_univ _, by omega⟩
  have hout : ∀ x ∈ (tabRows (wid L) : Finset S256x512.Idx) \ (rowM L k).view.set, (if (x 0).val < 32 * k.val then histTab (keyA A) x else f0 x : Elt F .i32)
      = (if (x 0).val < 32 * (k.val + 1) then histTab (keyA A) x else f0 x : Elt F .i32) := by
    intro x hx
    obtain ⟨h1, h2⟩ := Finset.mem_sdiff.mp hx
    rw [row_set] at h2
    have h1 := (Finset.mem_filter.mp h1).2
    congr 1
    refine propext ?_
    omega
  unfold inv3 k1_t3_body
  iintro ⟨#Hmw, Hha, Hc, HsemB, %W', %hW', HO⟩
  ihave ⟨Hrow, Hrest⟩ := (pointsTo_split_subset hsub).1 $$ Hha
  ihave Hrow' := (Entails.of_eq (show ((haM.view.loc (thr d L) ↦[(rowM L k).view.set]{fullShare} (fun x => if (x 0).val < 32 * k.val then histTab (keyA A) x else f0 x : S256x512.Idx → Elt F .i32)) : sProp 𝕄)
    = ((rowM L k).view.loc (thr d L) ↦[(rowM L k).view.set]{fullShare} (fun x => if (x 0).val < 32 * k.val then histTab (keyA A) x else f0 x : S256x512.Idx → Elt F .i32)) from rfl)) $$ Hrow
  sl_exec
  sl_step
  isplitr
  · iexact Hmw
  isplitl [Hrest Hrow']
  · iapply ((pointsTo_split_subset hsub).2)
    isplitl [Hrow']
    · iapply (Entails.of_eq (pointsTo_congr ?_)) $$ Hrow'
      intro x hx
      have h0 := (row_set L k x).mp hx
      obtain ⟨y, -, rfl⟩ := Finset.mem_map.mp hx
      obtain ⟨z, hz, hz0, hz1⟩ := row_emb L k y
      have hy : (y 0).val < 512 := (y 0).isLt
      have e1 : (rowM L k).view.read (Elt F) ((rowM L k).view.writes (Elt F) (fun x => if (x 0).val < 32 * k.val then histTab (keyA A) x else f0 x : S256x512.Idx → Elt F .i32)
          [⟨Rect.whole S512, step3.sl.dma0 h k⟩]) y = step3.sl.dma0 h k y :=
        View.read_writes_cons_hit_of_coords _ _ (Rect.whole S512) _ [] y y fun a => (show (y a).val = 0 + 1 * (y a).val by omega)
      have e2 : step3.sl.dma0 (F := F) h k y = s1.view.read (Elt F) h (Shape.ofLane (d := ![4096]) ⟨512 * k.val + (y 0).val, by show _ < 4096; omega⟩) := by
        unfold step3.sl.dma0
        refine congrArg h (Mem.ofLane_eq (n := 4096) _ _ ?_)
        show ((Rect.unit (s := S4096) (k1_off4 k) S512.size (k1_off4_inb k)).emb y 0).val = _
        rw [Mem.unit_emb, k1_off4_eq]
        rfl
      refine (e1.trans (e2.trans (hh _))).trans ?_
      rw [hz, if_pos (by omega)]
      unfold histTab
      rw [hz0, hz1, show (32 * k.val + wid L) % 32 = wid L by omega, show (32 * k.val + wid L) / 32 = k.val by omega, Nat.zero_add]
      rfl
    · iapply (Entails.of_eq (pointsTo_congr hout)) $$ Hrest
  isplitl [Hc]; · iexact Hc
  isplitl [HsemB]; · iexact HsemB
  iexists _
  isplitr
  rotate_left
  · iexact HO
  ipureintro
  intro p hp
  rcases Finset.mem_insert.mp hp with rfl | hp
  · exact Or.inr rfl
  · exact hW' p hp

theorem hold (A : S503808.Idx → Elt F .i32) (x : S15744.Idx) :
    (dkM.slice (Rect.unit (s := S503808) (k1_off1 L) S15744.size (k1_off1_inb L)) (fun _ => rfl)).view.read (Elt F) A x = wAt A (wid L * 15744 + (x 0).val) := by
  rw [wAt_idx A ((Rect.unit (s := S503808) (k1_off1 L) S15744.size (k1_off1_inb L)).emb x)]
  · rfl
  · rw [Mem.unit_emb, k1_off1_eq]
    show 31488 * (L 1).val + 15744 * (L 0).val + _ = _
    unfold wid
    omega

set_option maxHeartbeats 1000000 in
theorem tile_body (hF : (K (F := F)).Facts) (q : PosShare TreeShare) (A : S503808.Idx → Elt F .i32) (f0 : S256x512.Idx → Elt F .i32)
    (hA : ∀ i, i < 503808 → keyA A i < 4096) (O : CellTallies nD τ sig (HIx 4)) (W : Waits sig (HIx 4)) (hO : ∀ g, O g none = 0) :
    iprop(levAts (K (F := F)).L (K (F := F)).lev ∗ emp
        ∗ ((dkM.view.loc (thr d L) ↦{q} A : sProp 𝕄) ∗ (haM.view.loc (thr d L) ↦[tabRows (wid L)]{fullShare} f0))
        ∗ scopedBufs (thr d L) ∗ scopedSems0 (thr d L) ∗ owes (thr d L) O W)
      ⊢ wp frame (wpE (defs₀ (F := F)) 𝒱₀ (thr d L) none) Set.univ
          (cc1__hist_a L dkM (Memref.isWhole_whole _) haM (Memref.isWhole_whole _) s0 (Memref.isWhole_whole _) s1 (Memref.isWhole_whole _) cc1_scoped0 cc1_scoped1)
          fun _ => iprop(((dkM.view.loc (thr d L) ↦{q} A : sProp 𝕄) ∗ (haM.view.loc (thr d L) ↦[tabRows (wid L)]{fullShare} (histTab (keyA A) : S256x512.Idx → Elt F .i32)))
            ∗ scopedBufs (thr d L) ∗ scopedSems0 (thr d L)
            ∗ ∃ W', ⌜∀ p ∈ W', p ∈ W ∨ p.2 = none⌝ ∗ owes (thr d L) O W') := by
  rw [cc1__hist_a_eq_skeleton]; unfold cc1__hist_a_skel
  rw [(K (F := F)).scopedBufs_V hF d (cV L) (jV L), SparseCore.Cfg.scopedSems0_V (Val := Elt F) d (cV L) (jV L), ownSems0_V, ownBufs_V]
  iintro ⟨#Hlv, -, ⟨Hdk, Hha⟩, ⟨⟨%fs, Hs⟩, ⟨%fc, Hc⟩, Hbufs⟩, ⟨HsemA, HsemB, Hsems⟩, HO⟩
  ihave Hmw := ((K (F := F)).mayWaits_none (thr := thr d L) hO) $$ Hlv
  ihave Hs' := (Entails.of_eq (show ((thr d L).loc cc1_scratch0 ↦{fullShare} fs : sProp 𝕄) = (s0.view.loc (thr d L) ↦{fullShare} fs) from rfl)) $$ Hs
  ihave Hc' := (Entails.of_eq (show ((thr d L).loc cc1_scratch1 ↦{fullShare} fc : sProp 𝕄) = (s1.view.loc (thr d L) ↦{fullShare} fc) from rfl)) $$ Hc
  sl_exec
  sl_for (inv1 d L) $$ [Hc']
  case region => exact fun k a => step1 d L k a
  · unfold inv1
    iexists fc; isplitr
    · ipureintro; intro x hx; exact absurd hx (by omega)
    · iexact Hc'
  iintro %_ HI
  rw [show Scf.trips k1_t1_loop.lb k1_t1_loop.ub k1_t1_loop.st = 256 by decide]
  unfold inv1
  icases HI with ⟨%f, %hf, Hc⟩
  have hg : IsChunk A (wid L) (View.write (Elt F) s0.view fs (tile_body.sl.dma0 L A) Finset.univ) := by
    intro x
    have hx : (x 0).val < 15744 := (x 0).isLt
    rw [show s0.view.read (Elt F) (View.write (Elt F) s0.view fs (tile_body.sl.dma0 L A) Finset.univ) x = tile_body.sl.dma0 L A x from
      congrFun (View.write_whole_univ (Val := Elt F) cc1_scratch0 fs (tile_body.sl.dma0 L A)) x]
    unfold tile_body.sl.dma0
    exact hold L A x
  sl_exec
  sl_for (inv2 d L A (View.write (Elt F) s0.view fs (tile_body.sl.dma0 L A) Finset.univ)) $$ [Hc Hs']
  case region => exact fun k a => step2 d L A hA _ hg k a
  · unfold inv2
    isplitl [Hc]
    · iexists f
      isplitr
      · ipureintro
        intro x
        rw [Nat.mul_zero, Nat.add_zero, Counting.cnt_self]
        exact hf x (x 0).isLt
      · iexact Hc
    · iexact Hs'
  iintro %_ HI
  rw [show Scf.trips k1_t2_loop.lb k1_t2_loop.ub k1_t2_loop.st = 984 by decide]
  unfold inv2
  icases HI with ⟨⟨%f, %hf, Hc⟩, Hs⟩
  sl_exec
  sl_for (inv3 d L A O W f0 f) $$ [Hc Hha HsemB HO]
  case region => exact fun k a => step3 d L A O W f0 f hf k a
  · unfold inv3
    isplitr; · iexact Hmw
    isplitl [Hha]
    · iapply (Entails.of_eq (pointsTo_congr ?_)) $$ Hha
      intro x _
      rw [if_neg (by omega)]
    isplitl [Hc]; · iexact Hc
    isplitl [HsemB]; · iexact HsemB
    iexists _
    isplitr
    rotate_left
    · iexact HO
    ipureintro
    intro p hp
    rcases Finset.mem_insert.mp hp with rfl | hp
    · exact Or.inr rfl
    · exact Or.inl hp
  iintro %_ HI
  rw [show Scf.trips k1_t3_loop.lb k1_t3_loop.ub k1_t3_loop.st = 8 by decide]
  unfold inv3
  icases HI with ⟨-, Hha, Hc, HsemB, %W', %hW', HO⟩
  sl_step
  isplitl [Hdk Hha]
  · isplitl [Hdk]; · iexact Hdk
    iapply (Entails.of_eq (pointsTo_congr ?_)) $$ Hha
    intro x _
    have : (x 0).val < 256 := (x 0).isLt
    rw [if_pos (by omega)]
  isplitl [Hs Hc Hbufs]
  · isplitl [Hs]; · iexists _; iexact Hs
    isplitl [Hc]; · iexists _; iexact Hc
    iexact Hbufs
  isplitl [HsemA HsemB Hsems]
  · isplitl [HsemA]; · iexact HsemA
    isplitl [HsemB]; · iexact HsemB
    iexact Hsems
  iexists W'
  isplitr
  · ipureintro; exact hW'
  · iexact HO

end Cert.Proof.HistA

end
-- ==== Proof.HistB.lean ====
/-
  The third SparseCore call: every tile counts how often each tile occurs in its chunk.
-/
module

public import proofs.«01_k».proof.Proof.Base

@[expose] public section

set_option maxRecDepth 16384

noncomputable section

namespace Cert.Proof.HistB

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 4) (Elt F) ℕ UU ℕ

abbrev p1M : Memref sig .scVector .hbm S503808 .i32 := Memref.whole main_v13_scv
abbrev hbM : Memref sig .scVector .hbm S512x512 .i32 := Memref.whole main_v14_scv
abbrev s0 : Memref sig .scVector .vmem S15744 .i32 := Memref.whole cc3_scratch0
abbrev s1 : Memref sig .scVector .vmem S8192 .i32 := Memref.whole cc3_scratch1

variable (d : Dev nD) (L : grid3.Coords)

abbrev cV (L : grid3.Coords) : Fin τ.nSC := (L 0).castLE hcore3
abbrev jV (L : grid3.Coords) : Fin τ.nSub := (L 1).castLE hsub3
abbrev thr : Thread nD τ := V d (cV L) (jV L)
abbrev wid (L : grid3.Coords) : ℕ := 2 * (L 1).val + (L 0).val

abbrev cA : GSem nD τ sig := (thr d L, .dma cc3_scoped0.sem)
abbrev cB : GSem nD τ sig := (thr d L, .dma cc3_scoped1.sem)

omit [FloatOps F] in
theorem ownSems0_V :
    (ownSems0 (thr d L) : sProp 𝕄)
      = iprop(semVal (cA d L) 0 ∗ semVal (cB d L) 0 ∗ bigSep (((ownCells (thr d L)).erase (cA d L)).erase (cB d L)) fun g => semVal g 0) := by
  unfold SparseCore.Cfg.ownSems0
  rw [SparseCore.bigSep_erase' ((mem_ownCells (g := cA d L)).mpr ⟨rfl, by
      show (SemLoc.dma cc3_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc3_scoped1.sem : SemLoc sig).isScoped .scVector = true; decide⟩⟩)]

omit [FloatOps F] in
theorem ownBufs_V :
    (ownBufs (thr d L) : sProp 𝕄)
      = iprop((∃ f, (thr d L).loc cc3_scratch0 ↦{fullShare} f) ∗ (∃ f, (thr d L).loc cc3_scratch1 ↦{fullShare} f)
          ∗ bigSep (((ownRefs (τ := τ) (.scVector (cV L) (jV L))).erase ((Proc.scVector (cV L) (jV L)).devRef cc3_scratch0)).erase
              ((Proc.scVector (cV L) (jV L)).devRef cc3_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩)]

/-- While the histogram is being cleared: its words before `16 j` are zero. -/
def inv1 (j : ℕ) (_ : PUnit) : sProp 𝕄 :=
  iprop(∃ f : s1.view.ty.Contents (Elt F), ⌜∀ x : S8192.Idx, (x 0).val < 16 * j → s1.view.read (Elt F) f x = (0#32 : BitVec 32)⌝
    ∗ (s1.view.loc (thr d L) ↦{fullShare} f))

/-- The chunk of tile `w` of a vector. -/
def IsChunk (A : S503808.Idx → Elt F .i32) (w : ℕ) (g : s0.view.ty.Contents (Elt F)) : Prop :=
  ∀ x : S15744.Idx, s0.view.read (Elt F) g x = wAt A (w * 15744 + (x 0).val)

/-- The histogram of the chunk's words before `16 j`. -/
def IsHist (A : S503808.Idx → Elt F .i32) (w j : ℕ) (f : s1.view.ty.Contents (Elt F)) : Prop :=
  ∀ x : S8192.Idx, s1.view.read (Elt F) f x = BitVec.ofNat 32 (0 + Counting.cnt (keyB A) (w * 15744) (w * 15744 + 16 * j) (x 0).val)

/-- While the chunk is being counted. -/
def inv2 (A : S503808.Idx → Elt F .i32) (g : s0.view.ty.Contents (Elt F)) (j : ℕ) (_ : PUnit) : sProp 𝕄 :=
  iprop((∃ f : s1.view.ty.Contents (Elt F), ⌜IsHist A (wid L) j f⌝ ∗ (s1.view.loc (thr d L) ↦{fullShare} f))
    ∗ (s0.view.loc (thr d L) ↦{fullShare} g))

theorem pay2_toNat (v : Vec F S16 .i32) (i : S16.Idx) : (k3_pay2 (F := F) v i).toNat = (show BitVec 32 from v i).toNat / 524288 := by
  show (IntOp.shrui .vector (show BitVec 32 from v i) 19#32).toNat = _
  unfold IntOp.shrui
  rw [if_pos (by decide), BitVec.ushiftRight_eq', BitVec.toNat_ushiftRight, Nat.shiftRight_eq_div_pow]
  rfl
theorem pay5_eq (v : IVec S16 32) : k3_pay5 v = (scanCount (fun _ => 1) v).2 := rfl
theorem pay4_eq (v : IVec S16 32) : k3_pay4 v = (scanCount (fun _ => 1) v).1 := rfl

theorem hist_step (A : S503808.Idx → Elt F .i32) (w j : ℕ) (f : s1.view.ty.Contents (Elt F)) (v : IVec S16 32) (hchk : k3_chk1 v) (hf : IsHist A w j f)
    (hv : ∀ i : S16.Idx, (v i).toNat = keyB A (w * 15744 + 16 * j + (i 0).val)) :
    IsHist A w (j + 1) (storeIdx (F := F) (s := S8192) f ![v] (k3_pay5 v) (k3_pay4 v) true hchk) := by
  intro x
  rw [pay5_eq, pay4_eq, show w * 15744 + 16 * (j + 1) = w * 15744 + 16 * j + 16 by omega]
  have e := Mem.count_step (F := F) (n := 8192) (keyB A) (fun _ => 0) (w * 15744) (w * 15744 + 16 * j) (Nat.le_add_right _ _) f v hchk hf hv x
  exact e
set_option maxHeartbeats 400000 in
theorem step1 (k : Fin k3_t1_loop.trips) (a : PUnit) :
    inv1 (F := F) d L k.val a ⊢ wp frame (wpE (defs₀ (F := F)) 𝒱₀ (thr d L) none) Set.univ
      (k3_t1_body L p1M (Memref.isWhole_whole _) hbM (Memref.isWhole_whole _) s0 (Memref.isWhole_whole _) s1 (Memref.isWhole_whole _) cc3_scoped0 cc3_scoped1 k a)
      (inv1 d L (k.val + 1)) := by
  unfold inv1 k3_t1_body
  iintro ⟨%f, %hf, Hc⟩
  sl_exec
  sl_step
  iexists (s1.view.writes (Elt F) f [⟨Rect.unit (k3_off2 k) S16.size (k3_off2_inb k), k3_pay1⟩])
  isplitr
  · ipureintro
    exact fun x hx => Mem.fill_step (Val := Elt F) (n := 8192) (c := 16) (fun _ y => y = (0#32 : BitVec 32)) s1.view f (off := k3_off2 k) (k3_off2_inb k) k3_pay1
      (b := 16 * k.val) (by rw [k3_off2_eq]; rfl) (by omega) hf (fun _ => rfl) x hx
  · iexact Hc

theorem pts_access (f : s1.view.ty.Contents (Elt F)) :
    (s1.view.loc (thr d L) ↦{fullShare} f : sProp 𝕄) = ((s1.access (.whole S8192)).loc (thr d L) ↦[(s1.access (.whole S8192)).set]{fullShare} f) := by
  rw [show (s1.access (.whole S8192)).set = Finset.univ from Memref.set_access_whole _]

theorem write_access (f g : s1.view.ty.Contents (Elt F)) : (s1.access (.whole S8192)).write (Elt F) f g Finset.univ = g :=
  Memref.write_access_whole_univ (Elt F) cc3_scratch1 f g

theorem access_back (f : s1.view.ty.Contents (Elt F)) (w : s1.view.ty.Contents (Elt F) → s1.view.ty.Contents (Elt F)) :
    ((s1.access (.whole S8192)).loc (thr d L) ↦[(s1.access (.whole S8192)).set]{fullShare}
      ((s1.access (.whole S8192)).write (Elt F) f (w ((s1.access (.whole S8192)).read (Elt F) f)) Finset.univ) : sProp 𝕄) = (s1.view.loc (thr d L) ↦{fullShare} w f) := by
  rw [write_access, show (s1.access (.whole S8192)).read (Elt F) f = f from Memref.read_access_whole (Elt F) cc3_scratch1 f, ← pts_access]

set_option maxHeartbeats 400000 in
theorem step2 (A : S503808.Idx → Elt F .i32) (hA : ∀ i, i < 503808 → keyB A i < 8192) (g : s0.view.ty.Contents (Elt F)) (hg : IsChunk A (wid L) g)
    (k : Fin k3_t2_loop.trips) (a : PUnit) :
    inv2 (F := F) d L A g k.val a ⊢ wp frame (wpE (defs₀ (F := F)) 𝒱₀ (thr d L) none) Set.univ
      (k3_t2_body L p1M (Memref.isWhole_whole _) hbM (Memref.isWhole_whole _) s0 (Memref.isWhole_whole _) s1 (Memref.isWhole_whole _) cc3_scoped0 cc3_scoped1 k a)
      (inv2 d L A g (k.val + 1)) := by
  have hk : k.val < 984 := k.isLt
  have hw : wid L < 32 := by have := (L 0).isLt; have := (L 1).isLt; have : (L 0).val < 2 := (L 0).isLt; have : (L 1).val < 16 := (L 1).isLt; unfold wid; omega
  have hv : ∀ i : S16.Idx, ((k3_pay2 (s0.view.readAt (Elt F) (Rect.unit (s := S15744) (k3_off3 k) S16.size (k3_off3_inb k)).toLoadRect g)) i).toNat
      = keyB A (wid L * 15744 + 16 * k.val + (i 0).val) := by
    intro i
    have hi : (i 0).val < 16 := (i 0).isLt
    have := Mem.readAt_unit (Val := Elt F) (n := 15744) (c := 16) s0.view g (off := k3_off3 k) (k3_off3_inb k) i
      (Shape.ofLane (d := ![15744]) ⟨16 * k.val + (i 0).val, by show _ < 15744; omega⟩) (by rw [k3_off3_eq]; rfl)
    refine (pay2_toNat _ i).trans ?_
    exact (congrArg (fun v : BitVec 32 => v.toNat / 524288) (this.trans (hg _))).trans (by unfold keyB; rw [show wid L * 15744 + 16 * k.val + (i 0).val = wid L * 15744 + (16 * k.val + (i 0).val) by omega]; rfl)
  have hchk : k3_chk1 (k3_pay2 (s0.view.readAt (Elt F) (Rect.unit (s := S15744) (k3_off3 k) S16.size (k3_off3_inb k)).toLoadRect g)) := by
    intro a x
    obtain rfl : a = 0 := Subsingleton.elim _ _
    refine (hv x).trans_lt (hA _ ?_)
    have hi : (x 0).val < 16 := (x 0).isLt
    omega
  unfold inv2 k3_t2_body
  iintro ⟨⟨%f, %hf, Hc⟩, Hs⟩
  sl_exec
  unfold step2.sl.v12
  ihave Hc' := (Entails.of_eq (pts_access d L f)) $$ Hc
  iapply (SparseCore.wp_vectorStoreIdx 𝒱₀ (thr d L) none Set.univ (base := s1)) $$ Hc'; iintro Hc
  ihave Hc := (Entails.of_eq (access_back d L f fun f' => storeIdx (F := F) (s := S8192) f' ![k3_pay2 (s0.view.readAt (Elt F) (Rect.unit (s := S15744) (k3_off3 k) S16.size (k3_off3_inb k)).toLoadRect g)]
      (k3_pay5 (k3_pay2 (s0.view.readAt (Elt F) (Rect.unit (s := S15744) (k3_off3 k) S16.size (k3_off3_inb k)).toLoadRect g)))
      (k3_pay4 (k3_pay2 (s0.view.readAt (Elt F) (Rect.unit (s := S15744) (k3_off3 k) S16.size (k3_off3_inb k)).toLoadRect g))) true hchk)) $$ Hc
  sl_step
  isplitl [Hc]
  · iexists (storeIdx (F := F) (s := S8192) f ![k3_pay2 (s0.view.readAt (Elt F) (Rect.unit (s := S15744) (k3_off3 k) S16.size (k3_off3_inb k)).toLoadRect g)]
      (k3_pay5 (k3_pay2 (s0.view.readAt (Elt F) (Rect.unit (s := S15744) (k3_off3 k) S16.size (k3_off3_inb k)).toLoadRect g)))
      (k3_pay4 (k3_pay2 (s0.view.readAt (Elt F) (Rect.unit (s := S15744) (k3_off3 k) S16.size (k3_off3_inb k)).toLoadRect g))) true hchk)
    isplitr
    · ipureintro
      exact hist_step A (wid L) k.val f _ hchk hf hv
    · iexact Hc
  · iexact Hs

/-- While the histogram is being written out: block `b` of the table's rows of this tile holds it for the `j` blocks done. -/
def inv3 (A : S503808.Idx → Elt F .i32) (O : CellTallies nD τ sig (HIx 4)) (W : Waits sig (HIx 4)) (f0 : S512x512.Idx → Elt F .i32)
    (h : s1.view.ty.Contents (Elt F)) (j : ℕ) (_ : PUnit) : sProp 𝕄 :=
  iprop(Transfers.MayWaits (thr d L) (none : HIx 4) O
    ∗ (hbM.view.loc (thr d L) ↦[tabRows (wid L)]{fullShare} (fun x => if (x 0).val < 32 * j then histTab (keyB A) x else f0 x : S512x512.Idx → Elt F .i32))
    ∗ (s1.view.loc (thr d L) ↦{fullShare} h) ∗ semVal (cB d L) 0
    ∗ ∃ W', ⌜∀ p ∈ W', p ∈ W ∨ p.2 = none⌝ ∗ owes (thr d L) O W')

/-- The row of the table that trip `k` writes. -/
abbrev rowM (k : Fin k3_t3_loop.trips) : Memref sig .scVector .hbm S512 .i32 :=
  (hbM.slice (Rect.unit (s := S512x512) (k3_off5 L k) S1x512.size (k3_off5_inb L k)) (fun _ => rfl)).squeeze S512 squeezes_S1x512_S512

theorem row_emb (k : Fin k3_t3_loop.trips) (y : S512.Idx) :
    ∃ z : S512x512.Idx, (rowM L k).view.emb y = z ∧ (z 0).val = 32 * k.val + wid L ∧ (z 1).val = (y 0).val := by
  obtain ⟨z, h, h0, h1⟩ := Mem.row_emb (r := 512) (n := 512) hbM (off := k3_off5 L k) (k3_off5_inb L k) (fun _ => rfl) squeezes_S1x512_S512 y
  refine ⟨z, h, h0.trans ?_, h1.trans ?_⟩
  · rw [k3_off5_eq]; show 32 * k.val + 2 * (L 1).val + (L 0).val = _; unfold wid; omega
  · rw [k3_off5_eq]; show 0 + _ = _; omega

theorem row_set (k : Fin k3_t3_loop.trips) (x : S512x512.Idx) : x ∈ (rowM L k).view.set ↔ (x 0).val = 32 * k.val + wid L := by
  constructor
  · intro hx
    obtain ⟨y, -, rfl⟩ := Finset.mem_map.mp hx
    obtain ⟨z, h, h0, -⟩ := row_emb L k y
    rw [h]; exact h0
  · intro hx
    obtain ⟨z, h, h0, h1⟩ := row_emb L k (Shape.ofLane (d := ![512]) (x 1))
    refine Finset.mem_map.mpr ⟨_, Finset.mem_univ _, h.trans ?_⟩
    funext a
    refine Fin.ext ?_
    match a with
    | 0 => exact h0.trans hx.symm
    | 1 => exact h1

set_option maxHeartbeats 400000 in
theorem step3 (A : S503808.Idx → Elt F .i32) (O : CellTallies nD τ sig (HIx 4)) (W : Waits sig (HIx 4)) (f0 : S512x512.Idx → Elt F .i32)
    (h : s1.view.ty.Contents (Elt F)) (hh : IsHist A (wid L) 984 h) (k : Fin k3_t3_loop.trips) (a : PUnit) :
    inv3 (F := F) d L A O W f0 h k.val a ⊢ wp frame (wpE (defs₀ (F := F)) 𝒱₀ (thr d L) none) Set.univ
      (k3_t3_body L p1M (Memref.isWhole_whole _) hbM (Memref.isWhole_whole _) s0 (Memref.isWhole_whole _) s1 (Memref.isWhole_whole _) cc3_scoped0 cc3_scoped1 k a)
      (inv3 d L A O W f0 h (k.val + 1)) := by
  have hk : k.val < 16 := k.isLt
  have hw : wid L < 32 := by have : (L 0).val < 2 := (L 0).isLt; have : (L 1).val < 16 := (L 1).isLt; unfold wid; omega
  have hsub : (rowM L k).view.set ⊆ (tabRows (wid L) : Finset S512x512.Idx) := by
    intro x hx
    have := (row_set L k x).mp hx
    exact Finset.mem_filter.mpr ⟨Finset.mem_univ _, by omega⟩
  have hout : ∀ x ∈ (tabRows (wid L) : Finset S512x512.Idx) \ (rowM L k).view.set, (if (x 0).val < 32 * k.val then histTab (keyB A) x else f0 x : Elt F .i32)
      = (if (x 0).val < 32 * (k.val + 1) then histTab (keyB A) x else f0 x : Elt F .i32) := by
    intro x hx
    obtain ⟨h1, h2⟩ := Finset.mem_sdiff.mp hx
    rw [row_set] at h2
    have h1 := (Finset.mem_filter.mp h1).2
    congr 1
    refine propext ?_
    omega
  unfold inv3 k3_t3_body
  iintro ⟨#Hmw, Hhb, Hc, HsemB, %W', %hW', HO⟩
  ihave ⟨Hrow, Hrest⟩ := (pointsTo_split_subset hsub).1 $$ Hhb
  ihave Hrow' := (Entails.of_eq (show ((hbM.view.loc (thr d L) ↦[(rowM L k).view.set]{fullShare} (fun x => if (x 0).val < 32 * k.val then histTab (keyB A) x else f0 x : S512x512.Idx → Elt F .i32)) : sProp 𝕄)
    = ((rowM L k).view.loc (thr d L) ↦[(rowM L k).view.set]{fullShare} (fun x => if (x 0).val < 32 * k.val then histTab (keyB A) x else f0 x : S512x512.Idx → Elt F .i32)) from rfl)) $$ Hrow
  sl_exec
  sl_step
  isplitr
  · iexact Hmw
  isplitl [Hrest Hrow']
  · iapply ((pointsTo_split_subset hsub).2)
    isplitl [Hrow']
    · iapply (Entails.of_eq (pointsTo_congr ?_)) $$ Hrow'
      intro x hx
      have h0 := (row_set L k x).mp hx
      obtain ⟨y, -, rfl⟩ := Finset.mem_map.mp hx
      obtain ⟨z, hz, hz0, hz1⟩ := row_emb L k y
      have hy : (y 0).val < 512 := (y 0).isLt
      have e1 : (rowM L k).view.read (Elt F) ((rowM L k).view.writes (Elt F) (fun x => if (x 0).val < 32 * k.val then histTab (keyB A) x else f0 x : S512x512.Idx → Elt F .i32)
          [⟨Rect.whole S512, step3.sl.dma0 h k⟩]) y = step3.sl.dma0 h k y :=
        View.read_writes_cons_hit_of_coords _ _ (Rect.whole S512) _ [] y y fun a => (show (y a).val = 0 + 1 * (y a).val by omega)
      have e2 : step3.sl.dma0 (F := F) h k y = s1.view.read (Elt F) h (Shape.ofLane (d := ![8192]) ⟨512 * k.val + (y 0).val, by show _ < 8192; omega⟩) := by
        unfold step3.sl.dma0
        refine congrArg h (Mem.ofLane_eq (n := 8192) _ _ ?_)
        show ((Rect.unit (s := S8192) (k3_off4 k) S512.size (k3_off4_inb k)).emb y 0).val = _
        rw [Mem.unit_emb, k3_off4_eq]
        rfl
      refine (e1.trans (e2.trans (hh _))).trans ?_
      rw [hz, if_pos (by omega)]
      unfold histTab
      rw [hz0, hz1, show (32 * k.val + wid L) % 32 = wid L by omega, show (32 * k.val + wid L) / 32 = k.val by omega, Nat.zero_add]
      rfl
    · iapply (Entails.of_eq (pointsTo_congr hout)) $$ Hrest
  isplitl [Hc]; · iexact Hc
  isplitl [HsemB]; · iexact HsemB
  iexists _
  isplitr
  rotate_left
  · iexact HO
  ipureintro
  intro p hp
  rcases Finset.mem_insert.mp hp with rfl | hp
  · exact Or.inr rfl
  · exact hW' p hp

theorem hold (A : S503808.Idx → Elt F .i32) (x : S15744.Idx) :
    (p1M.slice (Rect.unit (s := S503808) (k3_off1 L) S15744.size (k3_off1_inb L)) (fun _ => rfl)).view.read (Elt F) A x = wAt A (wid L * 15744 + (x 0).val) := by
  rw [wAt_idx A ((Rect.unit (s := S503808) (k3_off1 L) S15744.size (k3_off1_inb L)).emb x)]
  · rfl
  · rw [Mem.unit_emb, k3_off1_eq]
    show 31488 * (L 1).val + 15744 * (L 0).val + _ = _
    unfold wid
    omega

set_option maxHeartbeats 1000000 in
theorem tile_body (hF : (K (F := F)).Facts) (q : PosShare TreeShare) (A : S503808.Idx → Elt F .i32) (f0 : S512x512.Idx → Elt F .i32)
    (hA : ∀ i, i < 503808 → keyB A i < 8192) (O : CellTallies nD τ sig (HIx 4)) (W : Waits sig (HIx 4)) (hO : ∀ g, O g none = 0) :
    iprop(levAts (K (F := F)).L (K (F := F)).lev ∗ emp
        ∗ ((p1M.view.loc (thr d L) ↦{q} A : sProp 𝕄) ∗ (hbM.view.loc (thr d L) ↦[tabRows (wid L)]{fullShare} f0))
        ∗ scopedBufs (thr d L) ∗ scopedSems0 (thr d L) ∗ owes (thr d L) O W)
      ⊢ wp frame (wpE (defs₀ (F := F)) 𝒱₀ (thr d L) none) Set.univ
          (cc3__hist_b L p1M (Memref.isWhole_whole _) hbM (Memref.isWhole_whole _) s0 (Memref.isWhole_whole _) s1 (Memref.isWhole_whole _) cc3_scoped0 cc3_scoped1)
          fun _ => iprop(((p1M.view.loc (thr d L) ↦{q} A : sProp 𝕄) ∗ (hbM.view.loc (thr d L) ↦[tabRows (wid L)]{fullShare} (histTab (keyB A) : S512x512.Idx → Elt F .i32)))
            ∗ scopedBufs (thr d L) ∗ scopedSems0 (thr d L)
            ∗ ∃ W', ⌜∀ p ∈ W', p ∈ W ∨ p.2 = none⌝ ∗ owes (thr d L) O W') := by
  rw [cc3__hist_b_eq_skeleton]; unfold cc3__hist_b_skel
  rw [(K (F := F)).scopedBufs_V hF d (cV L) (jV L), SparseCore.Cfg.scopedSems0_V (Val := Elt F) d (cV L) (jV L), ownSems0_V, ownBufs_V]
  iintro ⟨#Hlv, -, ⟨Hp1, Hhb⟩, ⟨⟨%fs, Hs⟩, ⟨%fc, Hc⟩, Hbufs⟩, ⟨HsemA, HsemB, Hsems⟩, HO⟩
  ihave Hmw := ((K (F := F)).mayWaits_none (thr := thr d L) hO) $$ Hlv
  ihave Hs' := (Entails.of_eq (show ((thr d L).loc cc3_scratch0 ↦{fullShare} fs : sProp 𝕄) = (s0.view.loc (thr d L) ↦{fullShare} fs) from rfl)) $$ Hs
  ihave Hc' := (Entails.of_eq (show ((thr d L).loc cc3_scratch1 ↦{fullShare} fc : sProp 𝕄) = (s1.view.loc (thr d L) ↦{fullShare} fc) from rfl)) $$ Hc
  sl_exec
  sl_for (inv1 d L) $$ [Hc']
  case region => exact fun k a => step1 d L k a
  · unfold inv1
    iexists fc; isplitr
    · ipureintro; intro x hx; exact absurd hx (by omega)
    · iexact Hc'
  iintro %_ HI
  rw [show Scf.trips k3_t1_loop.lb k3_t1_loop.ub k3_t1_loop.st = 512 by decide]
  unfold inv1
  icases HI with ⟨%f, %hf, Hc⟩
  have hg : IsChunk A (wid L) (View.write (Elt F) s0.view fs (tile_body.sl.dma0 L A) Finset.univ) := by
    intro x
    have hx : (x 0).val < 15744 := (x 0).isLt
    rw [show s0.view.read (Elt F) (View.write (Elt F) s0.view fs (tile_body.sl.dma0 L A) Finset.univ) x = tile_body.sl.dma0 L A x from
      congrFun (View.write_whole_univ (Val := Elt F) cc3_scratch0 fs (tile_body.sl.dma0 L A)) x]
    unfold tile_body.sl.dma0
    exact hold L A x
  sl_exec
  sl_for (inv2 d L A (View.write (Elt F) s0.view fs (tile_body.sl.dma0 L A) Finset.univ)) $$ [Hc Hs']
  case region => exact fun k a => step2 d L A hA _ hg k a
  · unfold inv2
    isplitl [Hc]
    · iexists f
      isplitr
      · ipureintro
        intro x
        rw [Nat.mul_zero, Nat.add_zero, Counting.cnt_self]
        exact hf x (x 0).isLt
      · iexact Hc
    · iexact Hs'
  iintro %_ HI
  rw [show Scf.trips k3_t2_loop.lb k3_t2_loop.ub k3_t2_loop.st = 984 by decide]
  unfold inv2
  icases HI with ⟨⟨%f, %hf, Hc⟩, Hs⟩
  sl_exec
  sl_for (inv3 d L A O W f0 f) $$ [Hc Hhb HsemB HO]
  case region => exact fun k a => step3 d L A O W f0 f hf k a
  · unfold inv3
    isplitr; · iexact Hmw
    isplitl [Hhb]
    · iapply (Entails.of_eq (pointsTo_congr ?_)) $$ Hhb
      intro x _
      rw [if_neg (by omega)]
    isplitl [Hc]; · iexact Hc
    isplitl [HsemB]; · iexact HsemB
    iexists _
    isplitr
    rotate_left
    · iexact HO
    ipureintro
    intro p hp
    rcases Finset.mem_insert.mp hp with rfl | hp
    · exact Or.inr rfl
    · exact Or.inl hp
  iintro %_ HI
  rw [show Scf.trips k3_t3_loop.lb k3_t3_loop.ub k3_t3_loop.st = 16 by decide]
  unfold inv3
  icases HI with ⟨-, Hhb, Hc, HsemB, %W', %hW', HO⟩
  sl_step
  isplitl [Hp1 Hhb]
  · isplitl [Hp1]; · iexact Hp1
    iapply (Entails.of_eq (pointsTo_congr ?_)) $$ Hhb
    intro x _
    have : (x 0).val < 512 := (x 0).isLt
    rw [if_pos (by omega)]
  isplitl [Hs Hc Hbufs]
  · isplitl [Hs]; · iexists _; iexact Hs
    isplitl [Hc]; · iexists _; iexact Hc
    iexact Hbufs
  isplitl [HsemA HsemB Hsems]
  · isplitl [HsemA]; · iexact HsemA
    isplitl [HsemB]; · iexact HsemB
    iexact Hsems
  iexists W'
  isplitr
  · ipureintro; exact hW'
  · iexact HO

end Cert.Proof.HistB

end
-- ==== Proof.RankLib.lean ====
/-
  Facts about counts that turn the sixteen-lane sums of the ranking programs into places of a stable sort.
-/
module

public import Idealize.ShloMosaic.Lib.Writes
public import Idealize.ShloMosaic.PureOps
public import Idealize.ShloMosaic.Lib.ValueLayout
public import proofs.«01_k».proof.Proof.Mem

@[expose] public section

namespace Cert.Proof.RankLib

open Idealize.ShloMosaic Idealize.ShloMosaic.ValueIdx

variable {sig : RefSig} {κ : Kind} {sp : Space} {e : EltTy} {Val : EltTy → Type} {r n c : ℕ}

/-- Loading `c` words of one row of a table. -/
theorem row_load (v : View sig κ sp ⟨2, ![r, n]⟩ e) (f : v.ty.Contents Val) {off : Fin 2 → ℕ}
    (inb : ∀ a, off a + (![1, c] : Fin 2 → ℕ) a ≤ (⟨2, ![r, n]⟩ : Shape).size a)
    (hs : (⟨2, ![1, c]⟩ : Shape).ShapeCasts ⟨1, ![c]⟩) (i : (⟨1, ![c]⟩ : Shape).Idx) (y : (⟨2, ![r, n]⟩ : Shape).Idx)
    (h0 : (y 0).val = off 0) (h1 : (y 1).val = off 1 + (i 0).val) :
    shapeCast ⟨1, ![c]⟩ (v.readAt Val (Rect.unit (s := ⟨2, ![r, n]⟩) off ![1, c] inb).toLoadRect f) hs i = v.read Val f y := by
  obtain ⟨l, rfl⟩ : ∃ l : Fin c, i = Shape.ofLane (d := ![c]) l := ⟨i 0, Mem.ofLane_eq i (i 0).isLt rfl⟩
  have e1 := shapeCast_1a_a_apply (v.readAt Val (Rect.unit (s := ⟨2, ![r, n]⟩) off ![1, c] inb).toLoadRect f) hs l
  rw [show Shape.ofLane (d := ![c]) l = ix1 l from (Mem.ofLane_eq _ l.isLt rfl).symm]
  refine e1.trans ?_
  rw [View.readAt_apply]
  congr 1
  funext a
  refine Fin.ext ?_
  match a with
  | 0 => show off 0 + 1 * 0 = (y 0).val; omega
  | 1 => show off 1 + 1 * l.val = (y 1).val; exact (by rw [h1, Nat.one_mul]; rfl)

/-- The number one where tile `w` comes before tile `v`, else zero. -/
theorem sel_eq (w v : ℕ) (hw : w < 32) (hv : v < 32) :
    Scalar.extui (Scalar.cmpi .slt (BitVec.ofNat 32 w) (BitVec.ofNat 32 v)) = if w < v then (1#32 : BitVec 32) else 0#32 := by
  have := (by decide +kernel : ∀ a b : Fin 32, Scalar.extui (Scalar.cmpi .slt (BitVec.ofNat 32 a.val) (BitVec.ofNat 32 b.val)) = if a.val < b.val then (1#32 : BitVec 32) else 0#32)
  exact this ⟨w, hw⟩ ⟨v, hv⟩

/-- Summing the counts of a key over all chunks counts it everywhere. -/
theorem sum_all (key : ℕ → ℕ) (k : ℕ) :
    ∑ w ∈ Finset.range 32, BitVec.ofNat 32 (Counting.cnt key (w * 15744) (w * 15744 + 15744) k) = BitVec.ofNat 32 (Counting.cnt key 0 503808 k) := by
  rw [Lanes.sum_ofNat, Counting.cnt_chunks]

/-- Summing the counts of a key over the chunks of the tiles before `v` counts it before that tile's chunk. -/
theorem sum_before (key : ℕ → ℕ) (v k : ℕ) (hv : v < 32) :
    ∑ w ∈ Finset.range 32, BitVec.ofNat 32 (Counting.cnt key (w * 15744) (w * 15744 + 15744) k) * (if w < v then (1#32 : BitVec 32) else 0#32)
      = BitVec.ofNat 32 (Counting.cnt key 0 (v * 15744) k) := by
  have e : ∀ w ∈ Finset.range 32, BitVec.ofNat 32 (Counting.cnt key (w * 15744) (w * 15744 + 15744) k) * (if w < v then (1#32 : BitVec 32) else 0#32)
      = if w < v then BitVec.ofNat 32 (Counting.cnt key (w * 15744) (w * 15744 + 15744) k) else 0 := by
    intro w _
    split
    · exact BitVec.mul_one _
    · exact BitVec.mul_zero
  rw [Finset.sum_congr rfl e, ← Finset.sum_filter, show (Finset.range 32).filter (· < v) = Finset.range v by
    ext x; simp only [Finset.mem_filter, Finset.mem_range]; omega, Lanes.sum_ofNat, Counting.cnt_chunks]

/-- Counts of sixteen keys in order, summed up to and with lane `i`. -/
theorem scan_cnt (key : ℕ → ℕ) (N p : ℕ) (v : IVec ⟨1, ![16]⟩ 32)
    (hv : ∀ i : (⟨1, ![16]⟩ : Shape).Idx, v i = BitVec.ofNat 32 (Counting.cnt key 0 N (p + (i 0).val))) (i : (⟨1, ![16]⟩ : Shape).Idx) :
    scan .sum v i = BitVec.ofNat 32 (∑ x ∈ Finset.range ((i 0).val + 1), Counting.cnt key 0 N (p + x)) := by
  have hi : (i 0).val < 16 := (i 0).isLt
  rw [Lanes.scan_sum, Finset.sum_congr rfl fun k _ => hv (Shape.ofLane k), Lanes.sum_ofNat]
  congr 1
  refine Finset.sum_bij (fun (k : Fin 16) _ => k.val) ?_ ?_ ?_ ?_
  · intro k hk
    exact Finset.mem_range.mpr (Nat.lt_succ_of_le (Finset.mem_filter.mp hk).2)
  · intro a _ b _ h
    exact Fin.ext h
  · intro b hb
    have hb := Finset.mem_range.mp hb
    exact ⟨⟨b, lt_of_lt_of_le hb hi⟩, Finset.mem_filter.mpr ⟨Finset.mem_univ _, Nat.le_of_lt_succ hb⟩, rfl⟩
  · intro k _
    rfl

/-- The words of smaller keys, from those of keys below `p` and the counts of the keys from `p` on. -/
theorem scan_below (key : ℕ → ℕ) (N p : ℕ) (v : IVec ⟨1, ![16]⟩ 32) (acc : BitVec 32)
    (hv : ∀ i : (⟨1, ![16]⟩ : Shape).Idx, v i = BitVec.ofNat 32 (Counting.cnt key 0 N (p + (i 0).val)))
    (hacc : acc = BitVec.ofNat 32 (Counting.below key N p)) (i : (⟨1, ![16]⟩ : Shape).Idx) :
    scan .sum v i - v i + acc = BitVec.ofNat 32 (Counting.below key N (p + (i 0).val)) := by
  rw [scan_cnt key N p v hv i, hv i, hacc, Finset.sum_range_succ, BitVec.ofNat_add, BitVec.add_sub_cancel, ← BitVec.ofNat_add,
    Counting.below_add, Nat.add_comm]

/-- The words of keys below the next sixteen. -/
theorem scan_carry (key : ℕ → ℕ) (N p : ℕ) (v : IVec ⟨1, ![16]⟩ 32) (acc : BitVec 32)
    (hv : ∀ i : (⟨1, ![16]⟩ : Shape).Idx, v i = BitVec.ofNat 32 (Counting.cnt key 0 N (p + (i 0).val)))
    (hacc : acc = BitVec.ofNat 32 (Counting.below key N p)) (i : (⟨1, ![16]⟩ : Shape).Idx) (hi : (i 0).val = 15) :
    acc + scan .sum v i = BitVec.ofNat 32 (Counting.below key N (p + 16)) := by
  rw [scan_cnt key N p v hv i, hacc, hi, ← BitVec.ofNat_add, Counting.below_add]

end Cert.Proof.RankLib
-- ==== Proof.RankA.lean ====
/-
  The second SparseCore call: every tile finds the place of each of its words in the order by depth, and puts them there.
-/
module

public import proofs.«01_k».proof.Proof.Base
public import proofs.«01_k».proof.Proof.RankLib

@[expose] public section

set_option maxRecDepth 16384

noncomputable section

namespace Cert.Proof.RankA

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 4) (Elt F) ℕ UU ℕ

abbrev dkM : Memref sig .scVector .hbm S503808 .i32 := Memref.whole main_v10_scv
abbrev p0M : Memref sig .scVector .hbm S503808 .i32 := Memref.whole main_v11_scv
abbrev haM : Memref sig .scVector .hbm S256x512 .i32 := Memref.whole main_v12_scv
abbrev p1M : Memref sig .scVector .hbm S503808 .i32 := Memref.whole main_v13_scv
abbrev sD : Memref sig .scVector .vmem S15744 .i32 := Memref.whole cc2_scratch0
abbrev sV : Memref sig .scVector .vmem S15744 .i32 := Memref.whole cc2_scratch1
abbrev sX : Memref sig .scVector .vmem S15744 .i32 := Memref.whole cc2_scratch2
abbrev sO : Memref sig .scVector .vmem S4096 .i32 := Memref.whole cc2_scratch3
abbrev sB : Memref sig .scVector .vmem S32x512 .i32 := Memref.whole cc2_scratch4
abbrev sP : Memref sig .scVector .vmem S512 .i32 := Memref.whole cc2_scratch5
abbrev sT : Memref sig .scVector .vmem S512 .i32 := Memref.whole cc2_scratch6

variable (d : Dev nD) (L : grid2.Coords)

abbrev cV (L : grid2.Coords) : Fin τ.nSC := (L 0).castLE hcore2
abbrev jV (L : grid2.Coords) : Fin τ.nSub := (L 1).castLE hsub2
abbrev thr : Thread nD τ := V d (cV L) (jV L)
abbrev wid (L : grid2.Coords) : ℕ := 2 * (L 1).val + (L 0).val

theorem wid_lt : wid L < 32 := by
  have : (L 0).val < 2 := (L 0).isLt
  have : (L 1).val < 16 := (L 1).isLt
  unfold wid; omega

abbrev c0 : GSem nD τ sig := (thr d L, .dma cc2_scoped0.sem)
abbrev c1 : GSem nD τ sig := (thr d L, .dma cc2_scoped1.sem)
abbrev c2 : GSem nD τ sig := (thr d L, .dma cc2_scoped2.sem)
abbrev c3 : GSem nD τ sig := (thr d L, .dma cc2_scratch7.sem)

omit [FloatOps F] in
/-- The tile's semaphores: those of this call, and the rest. -/
theorem ownSems0_V :
    (ownSems0 (thr d L) : sProp 𝕄)
      = iprop(semVal (c0 d L) 0 ∗ semVal (c1 d L) 0 ∗ semVal (c2 d L) 0 ∗ semVal (c3 d L) 0
          ∗ bigSep (((((ownCells (thr d L)).erase (c0 d L)).erase (c1 d L)).erase (c2 d L)).erase (c3 d L)) fun g => semVal g 0) := by
  unfold SparseCore.Cfg.ownSems0
  have hm : ∀ s : DmaSem sig, (SemLoc.dma s : SemLoc sig).isScoped .scVector = true → ((thr d L, SemLoc.dma s) : GSem nD τ sig) ∈ ownCells (thr d L) :=
    fun s h => mem_ownCells.mpr ⟨rfl, h⟩
  rw [SparseCore.bigSep_erase' (i := c0 d L) (hm cc2_scoped0.sem (by decide))]
  rw [SparseCore.bigSep_erase' (i := c1 d L) (Finset.mem_erase.mpr ⟨by simp; decide, (hm cc2_scoped1.sem (by decide))⟩)]
  rw [SparseCore.bigSep_erase' (i := c2 d L) (Finset.mem_erase.mpr ⟨by simp; decide, (Finset.mem_erase.mpr ⟨by simp; decide, (hm cc2_scoped2.sem (by decide))⟩)⟩)]
  rw [SparseCore.bigSep_erase' (i := c3 d L) (Finset.mem_erase.mpr ⟨by simp; decide, (Finset.mem_erase.mpr ⟨by simp; decide, (Finset.mem_erase.mpr ⟨by simp; decide, (hm cc2_scratch7.sem (by decide))⟩)⟩)⟩)]

omit [FloatOps F] in
/-- The tile's scratch buffers: those of this call, and the rest. -/
theorem ownBufs_V :
    (ownBufs (thr d L) : sProp 𝕄)
      = iprop((∃ f, (thr d L).loc cc2_scratch0 ↦{fullShare} f) ∗ (∃ f, (thr d L).loc cc2_scratch1 ↦{fullShare} f) ∗ (∃ f, (thr d L).loc cc2_scratch2 ↦{fullShare} f) ∗ (∃ f, (thr d L).loc cc2_scratch3 ↦{fullShare} f) ∗ (∃ f, (thr d L).loc cc2_scratch4 ↦{fullShare} f) ∗ (∃ f, (thr d L).loc cc2_scratch5 ↦{fullShare} f) ∗ (∃ f, (thr d L).loc cc2_scratch6 ↦{fullShare} f)
          ∗ bigSep ((((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4)).erase ((Proc.scVector (cV L) (jV L)).devRef cc2_scratch5)).erase ((Proc.scVector (cV L) (jV L)).devRef cc2_scratch6))
              fun b => iprop(∃ f, ((d, b) : Loc nD τ sig) ↦{fullShare} f)) := by
  unfold SparseCore.Cfg.ownBufs
  have hne : ∀ {r r' : Ref sig .scVector}, r ≠ r' → (Proc.scVector (cV L) (jV L)).devRef r ≠ (Proc.scVector (cV L) (jV L)).devRef r' :=
    fun h e => absurd (Proc.devRef_injective _ e) h
  refine (SparseCore.bigSep_erase' (SparseCore.Cfg.mem_ownRefs_of_owner (p := Proc.scVector (cV L) (jV L)) (b := (Proc.scVector (cV L) (jV L)).devRef cc2_scratch0) rfl)).trans ?_
  rw [SparseCore.bigSep_erase' (Finset.mem_erase.mpr ⟨hne (by decide), (SparseCore.Cfg.mem_ownRefs_of_owner (p := Proc.scVector (cV L) (jV L)) (b := (Proc.scVector (cV L) (jV L)).devRef cc2_scratch1) rfl)⟩)]
  rw [SparseCore.bigSep_erase' (Finset.mem_erase.mpr ⟨hne (by decide), (Finset.mem_erase.mpr ⟨hne (by decide), (SparseCore.Cfg.mem_ownRefs_of_owner (p := Proc.scVector (cV L) (jV L)) (b := (Proc.scVector (cV L) (jV L)).devRef cc2_scratch2) rfl)⟩)⟩)]
  rw [SparseCore.bigSep_erase' (Finset.mem_erase.mpr ⟨hne (by decide), (Finset.mem_erase.mpr ⟨hne (by decide), (Finset.mem_erase.mpr ⟨hne (by decide), (SparseCore.Cfg.mem_ownRefs_of_owner (p := Proc.scVector (cV L) (jV L)) (b := (Proc.scVector (cV L) (jV L)).devRef cc2_scratch3) rfl)⟩)⟩)⟩)]
  rw [SparseCore.bigSep_erase' (Finset.mem_erase.mpr ⟨hne (by decide), (Finset.mem_erase.mpr ⟨hne (by decide), (Finset.mem_erase.mpr ⟨hne (by decide), (Finset.mem_erase.mpr ⟨hne (by decide), (SparseCore.Cfg.mem_ownRefs_of_owner (p := Proc.scVector (cV L) (jV L)) (b := (Proc.scVector (cV L) (jV L)).devRef cc2_scratch4) rfl)⟩)⟩)⟩)⟩)]
  rw [SparseCore.bigSep_erase' (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (SparseCore.Cfg.mem_ownRefs_of_owner (p := Proc.scVector (cV L) (jV L)) (b := (Proc.scVector (cV L) (jV L)).devRef cc2_scratch5) rfl)⟩)⟩)⟩)⟩)⟩)]
  rw [SparseCore.bigSep_erase' (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (SparseCore.Cfg.mem_ownRefs_of_owner (p := Proc.scVector (cV L) (jV L)) (b := (Proc.scVector (cV L) (jV L)).devRef cc2_scratch6) rfl)⟩)⟩)⟩)⟩)⟩)⟩)]

/-- The tile's number, as the program computes it. -/
abbrev tileNo (L : grid2.Coords) : BitVec 32 := (Scalar.addi (Scalar.muli (BitVec.ofNat 32 (L 1).val) 2#32) (BitVec.ofNat 32 (L 0).val))

theorem tileNo_eq : tileNo L = BitVec.ofNat 32 (wid L) := by
  have h := (by decide +kernel : ∀ (a : Fin 2) (b : Fin 16), Scalar.addi (Scalar.muli (BitVec.ofNat 32 b.val) 2#32) (BitVec.ofNat 32 a.val) = BitVec.ofNat 32 (2 * b.val + a.val))
  exact h (L 0) (L 1)

/-- Block `b` of the table: row `w` holds how often each of the 512 keys from `512 b` on occurs in the chunk of tile `w`. -/
def IsBlk (key : ℕ → ℕ) (b : ℕ) (g : sB.view.ty.Contents (Elt F)) : Prop :=
  ∀ x : S32x512.Idx, sB.view.read (Elt F) g x = BitVec.ofNat 32 (Counting.cnt key ((x 0).val * 15744) ((x 0).val * 15744 + 15744) (512 * b + (x 1).val))

/-- How often each key of block `b` occurs in the chunks before this tile's. -/
def preV (key : ℕ → ℕ) (w b c : ℕ) : BitVec 32 := BitVec.ofNat 32 (Counting.cnt key 0 (w * 15744) (512 * b + c))
/-- How often each key of block `b` occurs in all chunks. -/
def totV (key : ℕ → ℕ) (b c : ℕ) : BitVec 32 := BitVec.ofNat 32 (Counting.cnt key 0 503808 (512 * b + c))

/-- The sixteen lanes from `16 k` on of each of the 32 rows. -/
def rowLd (g : sB.view.ty.Contents (Elt F)) (k : Fin k2_t2_loop.trips) : ℕ → Vec F S1x16 .i32
  | 0 => sB.view.readAt (Elt F) (Rect.unit (s := S32x512) (k2_off3 k) S1x16.size (k2_off3_inb k)).toLoadRect g
  | 1 => sB.view.readAt (Elt F) (Rect.unit (s := S32x512) (k2_off4 k) S1x16.size (k2_off4_inb k)).toLoadRect g
  | 2 => sB.view.readAt (Elt F) (Rect.unit (s := S32x512) (k2_off5 k) S1x16.size (k2_off5_inb k)).toLoadRect g
  | 3 => sB.view.readAt (Elt F) (Rect.unit (s := S32x512) (k2_off6 k) S1x16.size (k2_off6_inb k)).toLoadRect g
  | 4 => sB.view.readAt (Elt F) (Rect.unit (s := S32x512) (k2_off7 k) S1x16.size (k2_off7_inb k)).toLoadRect g
  | 5 => sB.view.readAt (Elt F) (Rect.unit (s := S32x512) (k2_off8 k) S1x16.size (k2_off8_inb k)).toLoadRect g
  | 6 => sB.view.readAt (Elt F) (Rect.unit (s := S32x512) (k2_off9 k) S1x16.size (k2_off9_inb k)).toLoadRect g
  | 7 => sB.view.readAt (Elt F) (Rect.unit (s := S32x512) (k2_off10 k) S1x16.size (k2_off10_inb k)).toLoadRect g
  | 8 => sB.view.readAt (Elt F) (Rect.unit (s := S32x512) (k2_off11 k) S1x16.size (k2_off11_inb k)).toLoadRect g
  | 9 => sB.view.readAt (Elt F) (Rect.unit (s := S32x512) (k2_off12 k) S1x16.size (k2_off12_inb k)).toLoadRect g
  | 10 => sB.view.readAt (Elt F) (Rect.unit (s := S32x512) (k2_off13 k) S1x16.size (k2_off13_inb k)).toLoadRect g
  | 11 => sB.view.readAt (Elt F) (Rect.unit (s := S32x512) (k2_off14 k) S1x16.size (k2_off14_inb k)).toLoadRect g
  | 12 => sB.view.readAt (Elt F) (Rect.unit (s := S32x512) (k2_off15 k) S1x16.size (k2_off15_inb k)).toLoadRect g
  | 13 => sB.view.readAt (Elt F) (Rect.unit (s := S32x512) (k2_off16 k) S1x16.size (k2_off16_inb k)).toLoadRect g
  | 14 => sB.view.readAt (Elt F) (Rect.unit (s := S32x512) (k2_off17 k) S1x16.size (k2_off17_inb k)).toLoadRect g
  | 15 => sB.view.readAt (Elt F) (Rect.unit (s := S32x512) (k2_off18 k) S1x16.size (k2_off18_inb k)).toLoadRect g
  | 16 => sB.view.readAt (Elt F) (Rect.unit (s := S32x512) (k2_off19 k) S1x16.size (k2_off19_inb k)).toLoadRect g
  | 17 => sB.view.readAt (Elt F) (Rect.unit (s := S32x512) (k2_off20 k) S1x16.size (k2_off20_inb k)).toLoadRect g
  | 18 => sB.view.readAt (Elt F) (Rect.unit (s := S32x512) (k2_off21 k) S1x16.size (k2_off21_inb k)).toLoadRect g
  | 19 => sB.view.readAt (Elt F) (Rect.unit (s := S32x512) (k2_off22 k) S1x16.size (k2_off22_inb k)).toLoadRect g
  | 20 => sB.view.readAt (Elt F) (Rect.unit (s := S32x512) (k2_off23 k) S1x16.size (k2_off23_inb k)).toLoadRect g
  | 21 => sB.view.readAt (Elt F) (Rect.unit (s := S32x512) (k2_off24 k) S1x16.size (k2_off24_inb k)).toLoadRect g
  | 22 => sB.view.readAt (Elt F) (Rect.unit (s := S32x512) (k2_off25 k) S1x16.size (k2_off25_inb k)).toLoadRect g
  | 23 => sB.view.readAt (Elt F) (Rect.unit (s := S32x512) (k2_off26 k) S1x16.size (k2_off26_inb k)).toLoadRect g
  | 24 => sB.view.readAt (Elt F) (Rect.unit (s := S32x512) (k2_off27 k) S1x16.size (k2_off27_inb k)).toLoadRect g
  | 25 => sB.view.readAt (Elt F) (Rect.unit (s := S32x512) (k2_off28 k) S1x16.size (k2_off28_inb k)).toLoadRect g
  | 26 => sB.view.readAt (Elt F) (Rect.unit (s := S32x512) (k2_off29 k) S1x16.size (k2_off29_inb k)).toLoadRect g
  | 27 => sB.view.readAt (Elt F) (Rect.unit (s := S32x512) (k2_off30 k) S1x16.size (k2_off30_inb k)).toLoadRect g
  | 28 => sB.view.readAt (Elt F) (Rect.unit (s := S32x512) (k2_off31 k) S1x16.size (k2_off31_inb k)).toLoadRect g
  | 29 => sB.view.readAt (Elt F) (Rect.unit (s := S32x512) (k2_off32 k) S1x16.size (k2_off32_inb k)).toLoadRect g
  | 30 => sB.view.readAt (Elt F) (Rect.unit (s := S32x512) (k2_off33 k) S1x16.size (k2_off33_inb k)).toLoadRect g
  | _ => sB.view.readAt (Elt F) (Rect.unit (s := S32x512) (k2_off34 k) S1x16.size (k2_off34_inb k)).toLoadRect g

theorem rowLd_at (key : ℕ → ℕ) (b : ℕ) (g : sB.view.ty.Contents (Elt F)) (hg : IsBlk key b g) (k : Fin k2_t2_loop.trips) (w : ℕ) (hw : w < 32)
    {off : Fin 2 → ℕ} (hoff : off = ![w, 16 * k.val]) (inb : ∀ a, off a + S1x16.size a ≤ S32x512.size a) (i : S16.Idx) :
    shapeCast S16 (sB.view.readAt (Elt F) (Rect.unit (s := S32x512) off S1x16.size inb).toLoadRect g) shapeCasts_S1x16_S16 i
      = BitVec.ofNat 32 (Counting.cnt key (w * 15744) (w * 15744 + 15744) (512 * b + (16 * k.val + (i 0).val))) := by
  have hk : k.val < 32 := k.isLt
  have hi : (i 0).val < 16 := (i 0).isLt
  subst hoff
  refine (RankLib.row_load (Val := Elt F) (r := 32) (n := 512) (c := 16) sB.view g (off := ![w, 16 * k.val]) inb shapeCasts_S1x16_S16 i
    (ix2 ⟨w, hw⟩ ⟨16 * k.val + (i 0).val, by omega⟩) rfl rfl).trans (hg _)

theorem rowLd_eq (key : ℕ → ℕ) (b : ℕ) (g : sB.view.ty.Contents (Elt F)) (hg : IsBlk key b g) (k : Fin k2_t2_loop.trips) (i : S16.Idx) :
    ∀ w < 32, shapeCast S16 (rowLd g k w) shapeCasts_S1x16_S16 i
      = BitVec.ofNat 32 (Counting.cnt key (w * 15744) (w * 15744 + 15744) (512 * b + (16 * k.val + (i 0).val)))
  | 0, _ => rowLd_at key b g hg k 0 (by decide) (k2_off3_eq k) (k2_off3_inb k) i
  | 1, _ => rowLd_at key b g hg k 1 (by decide) (k2_off4_eq k) (k2_off4_inb k) i
  | 2, _ => rowLd_at key b g hg k 2 (by decide) (k2_off5_eq k) (k2_off5_inb k) i
  | 3, _ => rowLd_at key b g hg k 3 (by decide) (k2_off6_eq k) (k2_off6_inb k) i
  | 4, _ => rowLd_at key b g hg k 4 (by decide) (k2_off7_eq k) (k2_off7_inb k) i
  | 5, _ => rowLd_at key b g hg k 5 (by decide) (k2_off8_eq k) (k2_off8_inb k) i
  | 6, _ => rowLd_at key b g hg k 6 (by decide) (k2_off9_eq k) (k2_off9_inb k) i
  | 7, _ => rowLd_at key b g hg k 7 (by decide) (k2_off10_eq k) (k2_off10_inb k) i
  | 8, _ => rowLd_at key b g hg k 8 (by decide) (k2_off11_eq k) (k2_off11_inb k) i
  | 9, _ => rowLd_at key b g hg k 9 (by decide) (k2_off12_eq k) (k2_off12_inb k) i
  | 10, _ => rowLd_at key b g hg k 10 (by decide) (k2_off13_eq k) (k2_off13_inb k) i
  | 11, _ => rowLd_at key b g hg k 11 (by decide) (k2_off14_eq k) (k2_off14_inb k) i
  | 12, _ => rowLd_at key b g hg k 12 (by decide) (k2_off15_eq k) (k2_off15_inb k) i
  | 13, _ => rowLd_at key b g hg k 13 (by decide) (k2_off16_eq k) (k2_off16_inb k) i
  | 14, _ => rowLd_at key b g hg k 14 (by decide) (k2_off17_eq k) (k2_off17_inb k) i
  | 15, _ => rowLd_at key b g hg k 15 (by decide) (k2_off18_eq k) (k2_off18_inb k) i
  | 16, _ => rowLd_at key b g hg k 16 (by decide) (k2_off19_eq k) (k2_off19_inb k) i
  | 17, _ => rowLd_at key b g hg k 17 (by decide) (k2_off20_eq k) (k2_off20_inb k) i
  | 18, _ => rowLd_at key b g hg k 18 (by decide) (k2_off21_eq k) (k2_off21_inb k) i
  | 19, _ => rowLd_at key b g hg k 19 (by decide) (k2_off22_eq k) (k2_off22_inb k) i
  | 20, _ => rowLd_at key b g hg k 20 (by decide) (k2_off23_eq k) (k2_off23_inb k) i
  | 21, _ => rowLd_at key b g hg k 21 (by decide) (k2_off24_eq k) (k2_off24_inb k) i
  | 22, _ => rowLd_at key b g hg k 22 (by decide) (k2_off25_eq k) (k2_off25_inb k) i
  | 23, _ => rowLd_at key b g hg k 23 (by decide) (k2_off26_eq k) (k2_off26_inb k) i
  | 24, _ => rowLd_at key b g hg k 24 (by decide) (k2_off27_eq k) (k2_off27_inb k) i
  | 25, _ => rowLd_at key b g hg k 25 (by decide) (k2_off28_eq k) (k2_off28_inb k) i
  | 26, _ => rowLd_at key b g hg k 26 (by decide) (k2_off29_eq k) (k2_off29_inb k) i
  | 27, _ => rowLd_at key b g hg k 27 (by decide) (k2_off30_eq k) (k2_off30_inb k) i
  | 28, _ => rowLd_at key b g hg k 28 (by decide) (k2_off31_eq k) (k2_off31_inb k) i
  | 29, _ => rowLd_at key b g hg k 29 (by decide) (k2_off32_eq k) (k2_off32_inb k) i
  | 30, _ => rowLd_at key b g hg k 30 (by decide) (k2_off33_eq k) (k2_off33_inb k) i
  | 31, _ => rowLd_at key b g hg k 31 (by decide) (k2_off34_eq k) (k2_off34_inb k) i
  | n + 32, h => absurd h (by omega)

/-- The sum of the 32 rows' lanes, and the sum of those of the rows before this tile's, as the program computes them. -/
def totPay (r : ℕ → Vec F S1x16 .i32) : IVec S16 32 :=
  k2_pay4 (k2_pay54 (k2_pay48 (k2_pay43 (k2_pay35 (k2_pay29 (k2_pay23 (k2_pay17 (r 0) (r 1) (r 2) (r 3)) (r 4) (r 5) (r 6) (r 7)) (r 8) (r 9) (r 10) (r 11)) (r 12) (r 13) (r 14) (r 15)) (k2_pay37 (r 16)) (r 17) (r 18) (r 19) (r 20)) (r 21) (r 22) (r 23) (r 24)) (r 25) (r 26) (r 27) (r 28)) (r 29) (r 30) (r 31)
def prePay (r : ℕ → Vec F S1x16 .i32) : IVec S16 32 :=
  k2_pay5 L (k2_pay55 (tileNo L) (k2_pay49 (tileNo L) (k2_pay41 (tileNo L) (k2_pay36 (tileNo L) (k2_pay30 (tileNo L) (k2_pay21 (tileNo L) (k2_pay15 (tileNo L) (r 0) (r 1) (r 2)) (k2_pay16 (r 3)) (3#32) (r 4) (r 5) (r 6)) (k2_pay24 (tileNo L) (r 7)) (r 8) (r 9) (r 10) (r 11)) (r 12) (r 13) (r 14) (r 15)) (k2_pay37 (r 16)) (r 17) (r 18) (r 19)) (k2_pay42 (r 20)) (Scalar.extui (Scalar.cmpi .slt 20#32 (tileNo L))) (r 21) (r 22) (r 23) (r 24)) (r 25) (r 26) (r 27) (r 28)) (r 29) (r 30) (r 31)

theorem totPay_apply (r : ℕ → Vec F S1x16 .i32) (i : S16.Idx) :
    totPay r i = ∑ w ∈ Finset.range 32, (show BitVec 32 from shapeCast S16 (r w) shapeCasts_S1x16_S16 i) := by
  simp only [Finset.sum_range_succ, Finset.sum_range_zero]
  rfl

theorem prePay_apply (r : ℕ → Vec F S1x16 .i32) (i : S16.Idx) :
    prePay L r i = ∑ w ∈ Finset.range 32, (show BitVec 32 from shapeCast S16 (r w) shapeCasts_S1x16_S16 i) * Scalar.extui (Scalar.cmpi .slt (BitVec.ofNat 32 w) (tileNo L)) := by
  simp only [Finset.sum_range_succ, Finset.sum_range_zero]
  rfl

theorem totPay_eq (key : ℕ → ℕ) (b : ℕ) (g : sB.view.ty.Contents (Elt F)) (hg : IsBlk key b g) (k : Fin k2_t2_loop.trips) (i : S16.Idx) :
    totPay (rowLd g k) i = totV key b (16 * k.val + (i 0).val) := by
  rw [totPay_apply]
  exact (Finset.sum_congr rfl fun w hw => rowLd_eq key b g hg k i w (Finset.mem_range.mp hw)).trans (RankLib.sum_all key _)

theorem prePay_eq (key : ℕ → ℕ) (b : ℕ) (g : sB.view.ty.Contents (Elt F)) (hg : IsBlk key b g) (k : Fin k2_t2_loop.trips) (i : S16.Idx) :
    prePay L (rowLd g k) i = preV key (wid L) b (16 * k.val + (i 0).val) := by
  rw [prePay_apply]
  refine (Finset.sum_congr rfl fun w hw => ?_).trans (RankLib.sum_before key (wid L) _ (wid_lt L))
  rw [tileNo_eq, RankLib.sel_eq w (wid L) (Finset.mem_range.mp hw) (wid_lt L)]
  exact congrArg (· * _) (rowLd_eq key b g hg k i w (Finset.mem_range.mp hw))

/-- While the 32 rows of a block are summed. -/
def inv2 (key : ℕ → ℕ) (b : ℕ) (g : sB.view.ty.Contents (Elt F)) (k : ℕ) (_ : PUnit) : sProp 𝕄 :=
  iprop((∃ f : sP.view.ty.Contents (Elt F), ⌜∀ x : S512.Idx, (x 0).val < 16 * k → sP.view.read (Elt F) f x = preV key (wid L) b (x 0).val⌝ ∗ (sP.view.loc (thr d L) ↦{fullShare} f))
    ∗ (∃ f : sT.view.ty.Contents (Elt F), ⌜∀ x : S512.Idx, (x 0).val < 16 * k → sT.view.read (Elt F) f x = totV key b (x 0).val⌝ ∗ (sT.view.loc (thr d L) ↦{fullShare} f))
    ∗ (sB.view.loc (thr d L) ↦{fullShare} g))

set_option maxHeartbeats 1000000 in
theorem step2 (key : ℕ → ℕ) (b : ℕ) (g : sB.view.ty.Contents (Elt F)) (hg : IsBlk key b g) (k : Fin k2_t2_loop.trips) (a : PUnit) :
    inv2 (F := F) d L key b g k.val a ⊢ wp frame (wpE (defs₀ (F := F)) 𝒱₀ (thr d L) none) Set.univ
      (k2_t2_body L dkM (Memref.isWhole_whole _) p0M (Memref.isWhole_whole _) haM (Memref.isWhole_whole _) p1M (Memref.isWhole_whole _)
        sD (Memref.isWhole_whole _) sV (Memref.isWhole_whole _) sX (Memref.isWhole_whole _) sO (Memref.isWhole_whole _) sB (Memref.isWhole_whole _)
        sP (Memref.isWhole_whole _) sT (Memref.isWhole_whole _) cc2_scratch7 cc2_scoped0 cc2_scoped1 cc2_scoped2
        (Scalar.addi (Scalar.muli (BitVec.ofNat 32 (L 1).val) 2#32) (BitVec.ofNat 32 (L 0).val)) k a)
      (inv2 d L key b g (k.val + 1)) := by
  unfold inv2 k2_t2_body
  rw [k2_part1_eq_skeleton, k2_part2_eq_skeleton, k2_part3_eq_skeleton, k2_part4_eq_skeleton, k2_part5_eq_skeleton, k2_part6_eq_skeleton, k2_part7_eq_skeleton]
  unfold k2_part1_skel k2_part2_skel k2_part3_skel k2_part4_skel k2_part5_skel k2_part6_skel k2_part7_skel
  iintro ⟨⟨%fp, %hp, HP⟩, ⟨%ft, %ht, HT⟩, HB⟩
  sl_exec
  sl_step
  isplitl [HP]
  · iexists (sP.view.writes (Elt F) fp [⟨Rect.unit (k2_off35 k) S16.size (k2_off35_inb k), prePay L (rowLd g k)⟩])
    isplitr
    · ipureintro
      exact fun x hx => Mem.fill_step (Val := Elt F) (n := 512) (c := 16) (fun c y => y = preV key (wid L) b c) sP.view fp (off := k2_off35 k) (k2_off35_inb k) (prePay L (rowLd g k))
        (b := 16 * k.val) (by rw [k2_off35_eq]; rfl) (by omega) hp (fun i => prePay_eq L key b g hg k i) x hx
    · iexact HP
  isplitl [HT]
  · iexists (sT.view.writes (Elt F) ft [⟨Rect.unit (k2_off35 k) S16.size (k2_off35_inb k), totPay (rowLd g k)⟩])
    isplitr
    · ipureintro
      exact fun x hx => Mem.fill_step (Val := Elt F) (n := 512) (c := 16) (fun c y => y = totV key b c) sT.view ft (off := k2_off35 k) (k2_off35_inb k) (totPay (rowLd g k))
        (b := 16 * k.val) (by rw [k2_off35_eq]; rfl) (by omega) ht (fun i => totPay_eq key b g hg k i) x hx
    · iexact HT
  · iexact HB

/-- The words of smaller keys, for the `n` first keys of the scratch, each with those of the same key in the chunks before this tile's. -/
def OffTo (key : ℕ → ℕ) (w n : ℕ) (f : sO.view.ty.Contents (Elt F)) : Prop :=
  ∀ x : S4096.Idx, (x 0).val < n → sO.view.read (Elt F) f x = BitVec.ofNat 32 (Counting.below key 503808 (x 0).val + Counting.cnt key 0 (w * 15744) (x 0).val)

/-- While the offsets of block `b` are being stored: the carried word is the number of words of keys below those done. -/
def inv3 (key : ℕ → ℕ) (b : ℕ) (fp : sP.view.ty.Contents (Elt F)) (ft : sT.view.ty.Contents (Elt F)) (k : ℕ) (acc : BitVec 32) : sProp 𝕄 :=
  iprop(⌜acc = BitVec.ofNat 32 (Counting.below key 503808 (512 * b + 16 * k))⌝
    ∗ (∃ f : sO.view.ty.Contents (Elt F), ⌜OffTo key (wid L) (512 * b + 16 * k) f⌝ ∗ (sO.view.loc (thr d L) ↦{fullShare} f))
    ∗ (sP.view.loc (thr d L) ↦{fullShare} fp) ∗ (sT.view.loc (thr d L) ↦{fullShare} ft))

theorem off_store (key : ℕ → ℕ) (b : Fin k2_t1_loop.trips) (k : Fin k2_t3_loop.trips) (acc : BitVec 32) (hacc : acc = BitVec.ofNat 32 (Counting.below key 503808 (512 * b.val + 16 * k.val)))
    (vt vp : Vec F S16 .i32) (ht : ∀ i : S16.Idx, vt i = totV key b.val (16 * k.val + (i 0).val)) (hp : ∀ i : S16.Idx, vp i = preV key (wid L) b.val (16 * k.val + (i 0).val))
    (f : sO.view.ty.Contents (Elt F)) (hf : OffTo key (wid L) (512 * b.val + 16 * k.val) f) :
    OffTo key (wid L) (512 * b.val + 16 * (k.val + 1)) (sO.view.writes (Elt F) f [⟨Rect.unit (s := S4096) (k2_off37 b k) S16.size (k2_off37_inb b k), k2_pay6 acc vt vp⟩]) := by
  intro x hx
  refine Mem.fill_step (Val := Elt F) (n := 4096) (c := 16) (fun c y => y = BitVec.ofNat 32 (Counting.below key 503808 c + Counting.cnt key 0 (wid L * 15744) c)) sO.view f
    (off := k2_off37 b k) (k2_off37_inb b k) (k2_pay6 acc vt vp) (b := 512 * b.val + 16 * k.val) (b' := 512 * b.val + 16 * (k.val + 1)) (by rw [k2_off37_eq]; rfl) (by omega) hf (fun i => ?_) x hx
  have e1 := RankLib.scan_below key 503808 (512 * b.val + 16 * k.val) vt acc (fun i => (ht i).trans (by unfold totV; rw [Nat.add_assoc])) hacc i
  have e2 : vp i = BitVec.ofNat 32 (Counting.cnt key 0 (wid L * 15744) (512 * b.val + 16 * k.val + (i 0).val)) := (hp i).trans (by unfold preV; rw [Nat.add_assoc])
  show (scan .sum vt i - vt i + acc) + vp i = _
  rw [e1, e2, ← BitVec.ofNat_add]

set_option maxHeartbeats 1000000 in
theorem step3 (key : ℕ → ℕ) (b : Fin k2_t1_loop.trips) (fp : sP.view.ty.Contents (Elt F)) (ft : sT.view.ty.Contents (Elt F))
    (hp : ∀ x : S512.Idx, sP.view.read (Elt F) fp x = preV key (wid L) b.val (x 0).val) (ht : ∀ x : S512.Idx, sT.view.read (Elt F) ft x = totV key b.val (x 0).val)
    (k : Fin k2_t3_loop.trips) (acc : BitVec 32) :
    inv3 (F := F) d L key b.val fp ft k.val acc ⊢ wp frame (wpE (defs₀ (F := F)) 𝒱₀ (thr d L) none) Set.univ
      (k2_t3_body L dkM (Memref.isWhole_whole _) p0M (Memref.isWhole_whole _) haM (Memref.isWhole_whole _) p1M (Memref.isWhole_whole _)
        sD (Memref.isWhole_whole _) sV (Memref.isWhole_whole _) sX (Memref.isWhole_whole _) sO (Memref.isWhole_whole _) sB (Memref.isWhole_whole _)
        sP (Memref.isWhole_whole _) sT (Memref.isWhole_whole _) cc2_scratch7 cc2_scoped0 cc2_scoped1 cc2_scoped2 b k acc)
      (inv3 d L key b.val fp ft (k.val + 1)) := by
  have hk : k.val < 32 := k.isLt
  have hvt : ∀ i : S16.Idx, (sT.view.readAt (Elt F) (Rect.unit (s := S512) (k2_off36 k) S16.size (k2_off36_inb k)).toLoadRect ft) i = totV key b.val (16 * k.val + (i 0).val) := by
    intro i
    have hi : (i 0).val < 16 := (i 0).isLt
    exact (Mem.readAt_unit (Val := Elt F) (n := 512) (c := 16) sT.view ft (off := k2_off36 k) (k2_off36_inb k) i
      (Shape.ofLane (d := ![512]) ⟨16 * k.val + (i 0).val, by show _ < 512; omega⟩) (by rw [k2_off36_eq]; rfl)).trans (ht _)
  have hvp : ∀ i : S16.Idx, (sP.view.readAt (Elt F) (Rect.unit (s := S512) (k2_off36 k) S16.size (k2_off36_inb k)).toLoadRect fp) i = preV key (wid L) b.val (16 * k.val + (i 0).val) := by
    intro i
    have hi : (i 0).val < 16 := (i 0).isLt
    exact (Mem.readAt_unit (Val := Elt F) (n := 512) (c := 16) sP.view fp (off := k2_off36 k) (k2_off36_inb k) i
      (Shape.ofLane (d := ![512]) ⟨16 * k.val + (i 0).val, by show _ < 512; omega⟩) (by rw [k2_off36_eq]; rfl)).trans (hp _)
  unfold inv3 k2_t3_body
  iintro ⟨%hacc, ⟨%f, %hf, HO⟩, HP, HT⟩
  sl_exec
  sl_step
  isplitr
  · ipureintro
    have e := RankLib.scan_carry key 503808 (512 * b.val + 16 * k.val) (sT.view.readAt (Elt F) (Rect.unit (s := S512) (k2_off36 k) S16.size (k2_off36_inb k)).toLoadRect ft) acc
      (fun i => (hvt i).trans (by unfold totV; rw [Nat.add_assoc])) hacc (Shape.ofLane (d := ![16]) (⟨15, by decide⟩ : Fin 16)) rfl
    rw [show 512 * b.val + 16 * (k.val + 1) = 512 * b.val + 16 * k.val + 16 by omega]
    refine Eq.trans ?_ e
    unfold step3.sl.v37
    exact congrArg (fun z : S16.Idx => acc + scan .sum (sT.view.readAt (Elt F) (Rect.unit (s := S512) (k2_off36 k) S16.size (k2_off36_inb k)).toLoadRect ft) z)
      (Mem.ofLane_eq (n := 16) (fun a => ⟨(![15] : Fin 1 → ℕ) a, inpos_S16_p15 a⟩) (by decide) rfl)
  isplitl [HO]
  · iexists (sO.view.writes (Elt F) f [⟨Rect.unit (s := S4096) (k2_off37 b k) S16.size (k2_off37_inb b k), k2_pay6 acc (sT.view.readAt (Elt F) (Rect.unit (s := S512) (k2_off36 k) S16.size (k2_off36_inb k)).toLoadRect ft)
      (sP.view.readAt (Elt F) (Rect.unit (s := S512) (k2_off36 k) S16.size (k2_off36_inb k)).toLoadRect fp)⟩])
    isplitr
    · ipureintro
      exact off_store L key b k acc hacc _ _ hvt hvp f hf
    · iexact HO
  isplitl [HP]; · iexact HP
  iexact HT

end Cert.Proof.RankA

end
-- ==== Proof.RankATile.lean ====
/-
  The second SparseCore call: every tile finds the place of each of its words in the order by depth, and puts them there.
-/
module

public import proofs.«01_k».proof.Proof.Base
public import proofs.«01_k».proof.Proof.RankA

@[expose] public section

set_option maxRecDepth 16384

noncomputable section

namespace Cert.Proof.RankA

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 4) (Elt F) ℕ UU ℕ

variable (d : Dev nD) (L : grid2.Coords)

/-- A tile's copy of its chunk of the array `A`. -/
def IsChunk (A : S503808.Idx → Elt F .i32) (w : ℕ) (g : sD.view.ty.Contents (Elt F)) : Prop :=
  ∀ x : S15744.Idx, sD.view.read (Elt F) g x = wAt A (w * 15744 + (x 0).val)

/-- While the table of offsets is built, block by block. -/
def inv1 (key : ℕ → ℕ) (q : PosShare TreeShare) (H : S256x512.Idx → Elt F .i32) (O : CellTallies nD τ sig (HIx 4)) (W : Waits sig (HIx 4)) (k : ℕ) (acc : BitVec 32) : sProp 𝕄 :=
  iprop(Transfers.MayWaits (thr d L) (none : HIx 4) O
    ∗ ⌜acc = BitVec.ofNat 32 (Counting.below key 503808 (512 * k))⌝
    ∗ (∃ f : sO.view.ty.Contents (Elt F), ⌜OffTo key (wid L) (512 * k) f⌝ ∗ (sO.view.loc (thr d L) ↦{fullShare} f))
    ∗ (∃ g : sB.view.ty.Contents (Elt F), (sB.view.loc (thr d L) ↦{fullShare} g))
    ∗ (∃ g : sP.view.ty.Contents (Elt F), (sP.view.loc (thr d L) ↦{fullShare} g))
    ∗ (∃ g : sT.view.ty.Contents (Elt F), (sT.view.loc (thr d L) ↦{fullShare} g))
    ∗ (haM.view.loc (thr d L) ↦{q} H) ∗ semVal (c2 d L) 0
    ∗ ∃ W', ⌜∀ p ∈ W', p ∈ W ∨ p.2 = none⌝ ∗ owes (thr d L) O W')

theorem blk_read (key : ℕ → ℕ) (k : Fin k2_t1_loop.trips) (x : S32x512.Idx) :
    (haM.slice (Rect.unit (s := S256x512) (k2_off2 k) S32x512.size (k2_off2_inb k)) (fun _ => rfl)).view.read (Elt F) (histTab key : S256x512.Idx → Elt F .i32) x
      = BitVec.ofNat 32 (Counting.cnt key ((x 0).val * 15744) ((x 0).val * 15744 + 15744) (512 * k.val + (x 1).val)) := by
  have hx : (x 0).val < 32 := (x 0).isLt
  have e0 : (((Rect.unit (s := S256x512) (k2_off2 k) S32x512.size (k2_off2_inb k)).emb x) 0).val = 32 * k.val + (x 0).val := by
    show k2_off2 k 0 + 1 * (x 0).val = _
    rw [k2_off2_eq]; show 32 * k.val + 1 * (x 0).val = _; omega
  have e1 : (((Rect.unit (s := S256x512) (k2_off2 k) S32x512.size (k2_off2_inb k)).emb x) 1).val = (x 1).val := by
    show k2_off2 k 1 + 1 * (x 1).val = _
    rw [k2_off2_eq]; show 0 + 1 * (x 1).val = _; omega
  show (histTab key ((Rect.unit (s := S256x512) (k2_off2 k) S32x512.size (k2_off2_inb k)).emb x) : BitVec 32) = _
  unfold histTab
  rw [e0, e1, show (32 * k.val + (x 0).val) % 32 = (x 0).val by omega, show (32 * k.val + (x 0).val) / 32 = k.val by omega]

set_option maxHeartbeats 1000000 in
theorem step1 (key : ℕ → ℕ) (q : PosShare TreeShare) (O : CellTallies nD τ sig (HIx 4)) (W : Waits sig (HIx 4)) (k : Fin k2_t1_loop.trips) (acc : BitVec 32) :
    inv1 (F := F) d L key q (histTab key : S256x512.Idx → Elt F .i32) O W k.val acc ⊢ wp frame (wpE (defs₀ (F := F)) 𝒱₀ (thr d L) none) Set.univ
      (k2_t1_body L dkM (Memref.isWhole_whole _) p0M (Memref.isWhole_whole _) haM (Memref.isWhole_whole _) p1M (Memref.isWhole_whole _)
        sD (Memref.isWhole_whole _) sV (Memref.isWhole_whole _) sX (Memref.isWhole_whole _) sO (Memref.isWhole_whole _) sB (Memref.isWhole_whole _)
        sP (Memref.isWhole_whole _) sT (Memref.isWhole_whole _) cc2_scratch7 cc2_scoped0 cc2_scoped1 cc2_scoped2 (Scalar.addi (Scalar.muli (BitVec.ofNat 32 (L 1).val) 2#32) (BitVec.ofNat 32 (L 0).val)) k acc)
      (inv1 d L key q (histTab key : S256x512.Idx → Elt F .i32) O W (k.val + 1)) := by
  unfold inv1 k2_t1_body
  iintro ⟨#Hmw, %hacc, ⟨%f, %hf, HO⟩, ⟨%g0, HB⟩, ⟨%fp0, HP⟩, ⟨%ft0, HT⟩, Hha, Hsem, %W', %hW', HW⟩
  sl_exec
  have hg : IsBlk key k.val (View.write (Elt F) sB.view g0 (step1.sl.dma0 (F := F) key k) Finset.univ) := by
    intro x
    rw [show sB.view.read (Elt F) (View.write (Elt F) sB.view g0 (step1.sl.dma0 key k) Finset.univ) x = step1.sl.dma0 key k x from
      congrFun (View.write_whole_univ (Val := Elt F) cc2_scratch4 g0 (step1.sl.dma0 key k)) x]
    unfold step1.sl.dma0
    exact blk_read key k x
  sl_for (inv2 d L key k.val (View.write (Elt F) sB.view g0 (step1.sl.dma0 (F := F) key k) Finset.univ)) $$ [HB HP HT]
  case region => exact fun k' a => step2 d L key k.val _ hg k' a
  · unfold inv2
    isplitl [HP]
    · iexists fp0; isplitr
      · ipureintro; intro x hx; exact absurd hx (by omega)
      · iexact HP
    isplitl [HT]
    · iexists ft0; isplitr
      · ipureintro; intro x hx; exact absurd hx (by omega)
      · iexact HT
    iexact HB
  iintro %_ HI
  rw [show Scf.trips k2_t2_loop.lb k2_t2_loop.ub k2_t2_loop.st = 32 by decide]
  unfold inv2
  icases HI with ⟨⟨%fp, %hp, HP⟩, ⟨%ft, %ht, HT⟩, HB⟩
  sl_exec
  sl_for (inv3 d L key k.val fp ft) $$ [HO HP HT]
  case region => exact fun k' a => step3 d L key k fp ft (fun x => hp x (x 0).isLt) (fun x => ht x (x 0).isLt) k' a
  · unfold inv3
    isplitr
    · ipureintro; exact hacc
    isplitl [HO]
    · iexists f; isplitr
      · ipureintro; exact hf
      · iexact HO
    isplitl [HP]; · iexact HP
    iexact HT
  iintro %acc' HI
  rw [show Scf.trips k2_t3_loop.lb k2_t3_loop.ub k2_t3_loop.st = 32 by decide]
  unfold inv3
  icases HI with ⟨%hacc', ⟨%f', %hf', HO⟩, HP, HT⟩
  sl_exec
  sl_step
  rw [show 512 * (k.val + 1) = 512 * k.val + 16 * 32 by omega]
  isplitr; · iexact Hmw
  isplitr
  · ipureintro; exact hacc'
  isplitl [HO]
  · iexists f'; isplitr
    · ipureintro; exact hf'
    · iexact HO
  isplitl [HB]; · iexists _; iexact HB
  isplitl [HP]; · iexists _; iexact HP
  isplitl [HT]; · iexists _; iexact HT
  isplitl [Hha]; · iexact Hha
  isplitl [Hsem]; · iexact Hsem
  iexists _
  isplitr
  rotate_left
  · iexact HW
  ipureintro
  intro p hp
  rcases Finset.mem_insert.mp hp with rfl | hp
  · exact Or.inr rfl
  · exact hW' p hp

/-- The offsets when `j` sixteens of the chunk have been ranked. -/
def IsOff (key : ℕ → ℕ) (w j : ℕ) (f : sO.view.ty.Contents (Elt F)) : Prop :=
  ∀ x : S4096.Idx, sO.view.read (Elt F) f x = BitVec.ofNat 32 (Counting.below key 503808 (x 0).val + Counting.cnt key 0 (w * 15744 + 16 * j) (x 0).val)

/-- The places of the first `n` words of the chunk. -/
def DstTo (key : ℕ → ℕ) (w n : ℕ) (f : sX.view.ty.Contents (Elt F)) : Prop :=
  ∀ x : S15744.Idx, (x 0).val < n → sX.view.read (Elt F) f x = BitVec.ofNat 32 (Counting.rank key 503808 (w * 15744 + (x 0).val))

/-- While the chunk is ranked, sixteen words at a time. -/
def inv4 (A : S503808.Idx → Elt F .i32) (g : sD.view.ty.Contents (Elt F)) (j : ℕ) (_ : PUnit) : sProp 𝕄 :=
  iprop((∃ f : sO.view.ty.Contents (Elt F), ⌜IsOff (keyA A) (wid L) j f⌝ ∗ (sO.view.loc (thr d L) ↦{fullShare} f))
    ∗ (∃ f : sX.view.ty.Contents (Elt F), ⌜DstTo (keyA A) (wid L) (16 * j) f⌝ ∗ (sX.view.loc (thr d L) ↦{fullShare} f))
    ∗ (sD.view.loc (thr d L) ↦{fullShare} g))

theorem off_step (key : ℕ → ℕ) (w j : ℕ) (f : sO.view.ty.Contents (Elt F)) (v : IVec S16 32) (hchk : k2_chk1 v) (hf : IsOff key w j f)
    (hv : ∀ i : S16.Idx, (v i).toNat = key (w * 15744 + 16 * j + (i 0).val)) :
    IsOff key w (j + 1) (storeIdx (F := F) (s := S4096) f ![v] (k2_pay10 (F := F) v) (k2_pay9 (F := F) v) true (k2_idx2_inb v hchk)) := by
  intro x
  rw [show w * 15744 + 16 * (j + 1) = w * 15744 + 16 * j + 16 by omega]
  exact Mem.count_step (F := F) (n := 4096) key (Counting.below key 503808) 0 (w * 15744 + 16 * j) (Nat.zero_le _) f v (k2_idx1_inb v hchk) hf hv x

theorem dst_step (key : ℕ → ℕ) (w : ℕ) (k : Fin k2_t4_loop.trips) (f : sO.view.ty.Contents (Elt F)) (v : IVec S16 32) (hchk : k2_chk1 v) (hf : IsOff key w k.val f)
    (hv : ∀ i : S16.Idx, (v i).toNat = key (w * 15744 + 16 * k.val + (i 0).val)) (fx : sX.view.ty.Contents (Elt F)) (hx : DstTo key w (16 * k.val) fx) :
    DstTo key w (16 * (k.val + 1)) (sX.view.writes (Elt F) fx [⟨Rect.unit (s := S15744) (k2_off39 k) S16.size (k2_off39_inb k), k2_pay11 v (loadIdx (F := F) (s := S4096) f ![v] (k2_idx1_inb v hchk))⟩]) := by
  intro x hx'
  refine Mem.fill_step (Val := Elt F) (n := 15744) (c := 16) (fun c y => y = BitVec.ofNat 32 (Counting.rank key 503808 (w * 15744 + c))) sX.view fx
    (off := k2_off39 k) (k2_off39_inb k) (k2_pay11 v (loadIdx (F := F) (s := S4096) f ![v] (k2_idx1_inb v hchk))) (b := 16 * k.val) (b' := 16 * (k.val + 1)) (by rw [k2_off39_eq]; rfl) (by omega) hx (fun i => ?_) x hx'
  have e := Mem.place_step (F := F) (n := 4096) key (Counting.below key 503808) 0 (w * 15744 + 16 * k.val) (Nat.zero_le _) f v (k2_idx1_inb v hchk) hf hv i
  refine Eq.trans ?_ (e.trans ?_)
  · rfl
  · rw [Nat.add_assoc]; rfl

theorem pts_access (f : sO.view.ty.Contents (Elt F)) :
    (sO.view.loc (thr d L) ↦{fullShare} f : sProp 𝕄) = ((sO.access (.whole S4096)).loc (thr d L) ↦[(sO.access (.whole S4096)).set]{fullShare} f) := by
  rw [show (sO.access (.whole S4096)).set = Finset.univ from Memref.set_access_whole _]

theorem write_access (f g : sO.view.ty.Contents (Elt F)) : (sO.access (.whole S4096)).write (Elt F) f g Finset.univ = g :=
  Memref.write_access_whole_univ (Elt F) cc2_scratch3 f g

theorem access_back (f : sO.view.ty.Contents (Elt F)) (w : sO.view.ty.Contents (Elt F) → sO.view.ty.Contents (Elt F)) :
    ((sO.access (.whole S4096)).loc (thr d L) ↦[(sO.access (.whole S4096)).set]{fullShare}
      ((sO.access (.whole S4096)).write (Elt F) f (w ((sO.access (.whole S4096)).read (Elt F) f)) Finset.univ) : sProp 𝕄) = (sO.view.loc (thr d L) ↦{fullShare} w f) := by
  rw [write_access, show (sO.access (.whole S4096)).read (Elt F) f = f from Memref.read_access_whole (Elt F) cc2_scratch3 f, ← pts_access]

theorem read_back (f : sO.view.ty.Contents (Elt F)) (fx : sX.view.ty.Contents (Elt F)) (k : Fin k2_t4_loop.trips) (v : IVec S16 32) (h : ∀ (a : Fin 1) (x : S16.Idx), ((![v] : Fin 1 → IVec S16 32) a x).toNat < S4096.size a) :
    (sX.view.loc (thr d L) ↦{fullShare} sX.view.writes (Elt F) fx [⟨Rect.unit (s := S15744) (k2_off39 k) S16.size (k2_off39_inb k),
      k2_pay11 v (loadIdx (F := F) (s := S4096) ((sO.access (.whole S4096)).read (Elt F) f) ![v] h)⟩] : sProp 𝕄)
    = (sX.view.loc (thr d L) ↦{fullShare} sX.view.writes (Elt F) fx [⟨Rect.unit (s := S15744) (k2_off39 k) S16.size (k2_off39_inb k),
      k2_pay11 v (loadIdx (F := F) (s := S4096) f ![v] h)⟩]) := by
  rw [show (sO.access (.whole S4096)).read (Elt F) f = f from Memref.read_access_whole (Elt F) cc2_scratch3 f]

set_option maxHeartbeats 1000000 in
theorem step4 (A : S503808.Idx → Elt F .i32) (hA : ∀ i, i < 503808 → keyA A i < 4096) (g : sD.view.ty.Contents (Elt F)) (hg : IsChunk A (wid L) g)
    (k : Fin k2_t4_loop.trips) (a : PUnit) :
    inv4 (F := F) d L A g k.val a ⊢ wp frame (wpE (defs₀ (F := F)) 𝒱₀ (thr d L) none) Set.univ
      (k2_t4_body L dkM (Memref.isWhole_whole _) p0M (Memref.isWhole_whole _) haM (Memref.isWhole_whole _) p1M (Memref.isWhole_whole _)
        sD (Memref.isWhole_whole _) sV (Memref.isWhole_whole _) sX (Memref.isWhole_whole _) sO (Memref.isWhole_whole _) sB (Memref.isWhole_whole _)
        sP (Memref.isWhole_whole _) sT (Memref.isWhole_whole _) cc2_scratch7 cc2_scoped0 cc2_scoped1 cc2_scoped2 k a)
      (inv4 d L A g (k.val + 1)) := by
  have hk : k.val < 984 := k.isLt
  have hw : wid L < 32 := wid_lt L
  have hv : ∀ i : S16.Idx, (show BitVec 32 from sD.view.readAt (Elt F) (Rect.unit (s := S15744) (k2_off38 k) S16.size (k2_off38_inb k)).toLoadRect g i).toNat
      = keyA A (wid L * 15744 + 16 * k.val + (i 0).val) := by
    intro i
    have hi : (i 0).val < 16 := (i 0).isLt
    have := Mem.readAt_unit (Val := Elt F) (n := 15744) (c := 16) sD.view g (off := k2_off38 k) (k2_off38_inb k) i
      (Shape.ofLane (d := ![15744]) ⟨16 * k.val + (i 0).val, by show _ < 15744; omega⟩) (by rw [k2_off38_eq]; rfl)
    exact (congrArg BitVec.toNat (this.trans (hg _))).trans (by unfold keyA; rw [show wid L * 15744 + 16 * k.val + (i 0).val = wid L * 15744 + (16 * k.val + (i 0).val) by omega]; rfl)
  have hchk : k2_chk1 (sD.view.readAt (Elt F) (Rect.unit (s := S15744) (k2_off38 k) S16.size (k2_off38_inb k)).toLoadRect g) := by
    have h : ∀ (a : Fin 1) (x : S16.Idx), ((![sD.view.readAt (Elt F) (Rect.unit (s := S15744) (k2_off38 k) S16.size (k2_off38_inb k)).toLoadRect g] : Fin 1 → IVec S16 32) a x).toNat < S4096.size a := by
      intro a x
      obtain rfl : a = 0 := Subsingleton.elim _ _
      refine (hv x).trans_lt (hA _ ?_)
      have hi : (x 0).val < 16 := (x 0).isLt
      omega
    exact ⟨h, h⟩
  unfold inv4 k2_t4_body
  iintro ⟨⟨%f, %hf, Hc⟩, ⟨%fx, %hfx, HX⟩, Hs⟩
  sl_exec
  ihave Hc' := (Entails.of_eq (pts_access d L f)) $$ Hc
  iapply (SparseCore.wp_vectorLoadIdx 𝒱₀ (thr d L) none Set.univ (base := sO) (Finset.Subset.refl _)) $$ Hc'; iintro Hc
  ihave Hc := (Entails.of_eq (pts_access d L f).symm) $$ Hc
  sl_exec
  ihave HX := (Entails.of_eq (read_back d L f fx k _ _)) $$ HX
  ihave Hc' := (Entails.of_eq (pts_access d L f)) $$ Hc
  iapply (SparseCore.wp_vectorStoreIdx 𝒱₀ (thr d L) none Set.univ (base := sO)) $$ Hc'; iintro Hc
  ihave Hc := (Entails.of_eq (access_back d L f fun f' => storeIdx (F := F) (s := S4096) f' ![sD.view.readAt (Elt F) (Rect.unit (s := S15744) (k2_off38 k) S16.size (k2_off38_inb k)).toLoadRect g]
      (k2_pay10 (sD.view.readAt (Elt F) (Rect.unit (s := S15744) (k2_off38 k) S16.size (k2_off38_inb k)).toLoadRect g))
      (k2_pay9 (sD.view.readAt (Elt F) (Rect.unit (s := S15744) (k2_off38 k) S16.size (k2_off38_inb k)).toLoadRect g)) true (k2_idx2_inb _ hchk))) $$ Hc
  sl_step
  isplitl [Hc]
  · iexists (storeIdx (F := F) (s := S4096) f ![sD.view.readAt (Elt F) (Rect.unit (s := S15744) (k2_off38 k) S16.size (k2_off38_inb k)).toLoadRect g]
      (k2_pay10 (sD.view.readAt (Elt F) (Rect.unit (s := S15744) (k2_off38 k) S16.size (k2_off38_inb k)).toLoadRect g))
      (k2_pay9 (sD.view.readAt (Elt F) (Rect.unit (s := S15744) (k2_off38 k) S16.size (k2_off38_inb k)).toLoadRect g)) true (k2_idx2_inb _ hchk))
    isplitr
    · ipureintro
      exact off_step (keyA A) (wid L) k.val f _ hchk hf hv
    · iexact Hc
  isplitl [HX]
  · iexists (sX.view.writes (Elt F) fx [⟨Rect.unit (s := S15744) (k2_off39 k) S16.size (k2_off39_inb k),
      k2_pay11 (sD.view.readAt (Elt F) (Rect.unit (s := S15744) (k2_off38 k) S16.size (k2_off38_inb k)).toLoadRect g)
        (loadIdx (F := F) (s := S4096) f ![sD.view.readAt (Elt F) (Rect.unit (s := S15744) (k2_off38 k) S16.size (k2_off38_inb k)).toLoadRect g] (k2_idx1_inb _ hchk))⟩])
    isplitr
    · ipureintro
      exact dst_step (keyA A) (wid L) k f _ hchk hf hv fx hfx
    · iexact HX
  · iexact Hs

/-- This tile's chunk of the keys, and of the words. -/
theorem holdD (A : S503808.Idx → Elt F .i32) (x : S15744.Idx) :
    (dkM.slice (Rect.unit (s := S503808) (k2_off1 L) S15744.size (k2_off1_inb L)) (fun _ => rfl)).view.read (Elt F) A x = wAt A (wid L * 15744 + (x 0).val) := by
  rw [wAt_idx A ((Rect.unit (s := S503808) (k2_off1 L) S15744.size (k2_off1_inb L)).emb x)]
  · rfl
  · rw [Mem.unit_emb, k2_off1_eq]
    show 31488 * (L 1).val + 15744 * (L 0).val + _ = _
    unfold wid
    omega

theorem holdV (A : S503808.Idx → Elt F .i32) (x : S15744.Idx) :
    (p0M.slice (Rect.unit (s := S503808) (k2_off1 L) S15744.size (k2_off1_inb L)) (fun _ => rfl)).view.read (Elt F) A x = wAt A (wid L * 15744 + (x 0).val) :=
  holdD L A x

/-- The places of the array that this tile's words go to. -/
abbrev ownSet (key : ℕ → ℕ) (w : ℕ) : Finset S503808.Idx := SparseCore.rowsWhere p1M.view ⟨0, by decide⟩ (ownPlaces key w)

theorem dst_toNat (key : ℕ → ℕ) (fx : sX.view.ty.Contents (Elt F)) (h : DstTo key (wid L) (16 * 984) fx) (j : S15744.Idx) :
    (show BitVec 32 from sX.view.read (Elt F) fx j).toNat = Counting.rank key 503808 (wid L * 15744 + (j 0).val) := by
  have hj : (j 0).val < 15744 := (j 0).isLt
  have hw := wid_lt L
  have hr : Counting.rank key 503808 (wid L * 15744 + (j 0).val) < 503808 := Counting.rank_lt key (by omega)
  refine (congrArg BitVec.toNat (h j (by omega))).trans ?_
  rw [BitVec.toNat_ofNat]
  exact Nat.mod_eq_of_lt (by omega)

theorem dst_lt (key : ℕ → ℕ) (fx : sX.view.ty.Contents (Elt F)) (h : DstTo key (wid L) (16 * 984) fx) (j : S15744.Idx) :
    (sX.view.read (Elt F) fx j).toNat < S503808.size (gathers_S503808_S15744).axis := by
  have hj : (j 0).val < 15744 := (j 0).isLt
  have hw := wid_lt L
  exact (dst_toNat L key fx h j).trans_lt (Counting.rank_lt key (by omega))

theorem dst_inj (key : ℕ → ℕ) (fx : sX.view.ty.Contents (Elt F)) (h : DstTo key (wid L) (16 * 984) fx) :
    Function.Injective fun j : S15744.Idx => (sX.view.read (Elt F) fx j).toNat := by
  intro i j hij
  have hi : (i 0).val < 15744 := (i 0).isLt
  have hj : (j 0).val < 15744 := (j 0).isLt
  have hw := wid_lt L
  have e := Counting.rank_inj key (by omega) (by omega) ((dst_toNat L key fx h i).symm.trans (hij.trans (dst_toNat L key fx h j)))
  exact (Mem.ofLane_eq i (i 0).isLt rfl).trans (Mem.ofLane_eq j (i 0).isLt (by omega)).symm

theorem dst_own (key : ℕ → ℕ) (fx : sX.view.ty.Contents (Elt F)) (h : DstTo key (wid L) (16 * 984) fx) (j : S15744.Idx) :
    ownPlaces key (wid L) (sX.view.read (Elt F) fx j).toNat := by
  have hj : (j 0).val < 15744 := (j 0).isLt
  have hw := wid_lt L
  have e := dst_toNat L key fx h j
  unfold ownPlaces
  rw [show (sX.view.read (Elt F) fx j).toNat = _ from e, Counting.unrank_rank key (by omega)]
  omega

/-- The whole of the target, as the slice that the scatter names. -/
abbrev p1S : Memref sig .scVector .hbm S503808 .i32 := p1M.slice (Rect.unit (s := S503808) ![0] S503808.size inb_S503808_S503808_0) (fun _ => rfl)

theorem p1S_row (n : Fin 503808) (x : S503808.Idx) : x ∈ (p1S.view.slice (S503808.rowRect (0 : Fin 1) n)).set ↔ (x 0).val = n.val := by
  constructor
  · intro hx
    obtain ⟨y, -, rfl⟩ := Finset.mem_map.mp hx
    have hy : (y 0).val < 1 := (y 0).isLt
    show 0 + 1 * (n.val + 1 * (y 0).val) = n.val
    omega
  · intro hx
    refine Finset.mem_map.mpr ⟨fun a => ⟨0, by obtain rfl : a = 0 := Subsingleton.elim _ _; exact Nat.one_pos⟩, Finset.mem_univ _, ?_⟩
    funext a
    obtain rfl : a = 0 := Subsingleton.elim _ _
    refine Fin.ext ?_
    show 0 + 1 * (n.val + 1 * 0) = (x 0).val
    omega

theorem p1M_row (n : Fin 503808) (x : S503808.Idx) : x ∈ (p1M.view.slice (S503808.rowRect (0 : Fin 1) n)).set ↔ (x 0).val = n.val := by
  constructor
  · intro hx
    obtain ⟨y, -, rfl⟩ := Finset.mem_map.mp hx
    have hy : (y 0).val < 1 := (y 0).isLt
    show (n.val + 1 * (y 0).val) = n.val
    omega
  · intro hx
    refine Finset.mem_map.mpr ⟨fun a => ⟨0, by obtain rfl : a = 0 := Subsingleton.elim _ _; exact Nat.one_pos⟩, Finset.mem_univ _, ?_⟩
    funext a
    obtain rfl : a = 0 := Subsingleton.elim _ _
    refine Fin.ext ?_
    show (n.val + 1 * 0) = (x 0).val
    omega

theorem mem_own (key : ℕ → ℕ) (w : ℕ) (x : S503808.Idx) : x ∈ ownSet key w ↔ ownPlaces key w (x 0).val := by
  unfold ownSet
  rw [SparseCore.mem_rowsWhere]
  constructor
  · rintro ⟨n, hn, hx⟩
    rw [(p1M_row n x).mp hx]; exact hn
  · intro h
    exact ⟨⟨(x 0).val, (x 0).isLt⟩, h, (p1M_row _ x).mpr rfl⟩

theorem own_eq (key : ℕ → ℕ) (w : ℕ) : (ownSet key w : Finset S503808.Idx) = SparseCore.rowsWhere p1S.view ⟨0, by decide⟩ (ownPlaces key w) := by
  ext x
  rw [mem_own]
  symm
  refine SparseCore.mem_rowsWhere.trans ?_
  constructor
  · rintro ⟨n, hn, hx⟩
    rw [(p1S_row n x).mp hx]; exact hn
  · intro h
    exact ⟨⟨(x 0).val, (x 0).isLt⟩, h, (p1S_row _ x).mpr rfl⟩

theorem own_slice (key : ℕ → ℕ) (f : S503808.Idx → Elt F .i32) :
    (p1M.view.loc (thr d L) ↦[ownSet key (wid L)]{fullShare} f : sProp 𝕄)
      = (p1S.view.loc (thr d L) ↦[SparseCore.rowsWhere p1S.view ⟨0, by decide⟩ (ownPlaces key (wid L))]{fullShare} f) := by
  rw [own_eq]

theorem cast_read {κ : Kind} {sp : Space} {s s' : Shape} {e : EltTy} (m : Memref sig κ sp s e) (h : s = s') (he : e = e) (f : m.view.ty.Contents (Elt F)) (y : s'.Idx) :
    ∃ y' : s.Idx, (m.cast h he).view.read (Elt F) f y = m.view.read (Elt F) f y' := by
  subst h
  exact ⟨y, rfl⟩

theorem row_payload (gV : sV.view.ty.Contents (Elt F)) (k : Fin 15744) (y : (S503808.rowShape (0 : Fin 1)).Idx) :
    SparseCore.scatterRowPayload (thr d L) sV gathers_S503808_S15744 gV k y = sV.view.read (Elt F) gV (Shape.ofLane (d := ![15744]) k) := by
  obtain ⟨y', hy'⟩ := cast_read (F := F) (sV.slice (S15744.rowRect (gathers_S503808_S15744).axis' k) (S15744.stride_rowRect _ _)) (gathers_S503808_S15744).rowShape_eq rfl gV y
  refine hy'.trans ?_
  have hy : (y' 0).val < 1 := (y' 0).isLt
  refine congrArg gV (Mem.ofLane_eq (n := 15744) _ k.isLt ?_)
  show k.val + 1 * (y' 0).val = k.val
  omega

theorem pts_congr (S : Finset S503808.Idx) (f g : S503808.Idx → Elt F .i32) (h : ∀ x ∈ S, f x = g x) :
    (p1M.view.loc (thr d L) ↦[S]{fullShare} f : sProp 𝕄) = (p1M.view.loc (thr d L) ↦[S]{fullShare} g) := pointsTo_congr h

set_option maxRecDepth 65536 in
theorem numel_chunk : S15744.numel = S15744.size (gathers_S503808_S15744).axis' := rfl

theorem sc_value (A B : S503808.Idx → Elt F .i32) (f0 : S503808.Idx → Elt F .i32) (fx : sX.view.ty.Contents (Elt F)) (hfx : DstTo (keyA A) (wid L) (16 * 984) fx)
    (gV : sV.view.ty.Contents (Elt F)) (hgV : ∀ x : S15744.Idx, sV.view.read (Elt F) gV x = wAt B (wid L * 15744 + (x 0).val))
    (hn : S15744.numel = S15744.size (gathers_S503808_S15744).axis') (hin : ∀ x, (sX.view.read (Elt F) fx x).toNat < S503808.size (gathers_S503808_S15744).axis)
    (x : S503808.Idx) (hx' : ownPlaces (keyA A) (wid L) (x 0).val) :
    SparseCore.scatterBuf (thr d L) p1S.view (gathers_S503808_S15744).axis (SparseCore.rows (sX.view.read (Elt F) fx) hn hin)
      (SparseCore.scatterRowPayload (thr d L) sV gathers_S503808_S15744 gV) f0 x = p1Of A B x := by
  have hxlt : (x 0).val < 503808 := (x 0).isLt
  unfold ownPlaces at hx'
  have hk : Counting.unrank (keyA A) 503808 (x 0).val - wid L * 15744 < 15744 := by omega
  have hrow : (SparseCore.rows (sX.view.read (Elt F) fx) hn hin ⟨Counting.unrank (keyA A) 503808 (x 0).val - wid L * 15744, hk⟩).val = (x 0).val := by
    refine (dst_toNat L (keyA A) fx hfx _).trans ?_
    have e : ((S15744.rowMajor.symm (Fin.cast hn.symm ⟨Counting.unrank (keyA A) 503808 (x 0).val - wid L * 15744, hk⟩)) 0).val
        = Counting.unrank (keyA A) 503808 (x 0).val - wid L * 15744 := by
      refine (Shape.rowMajor_val_one (d := ![15744]) _).symm.trans ?_
      exact congrArg Fin.val (Equiv.apply_symm_apply S15744.rowMajor _)
    rw [e, show wid L * 15744 + (Counting.unrank (keyA A) 503808 (x 0).val - wid L * 15744) = Counting.unrank (keyA A) 503808 (x 0).val by omega]
    exact Counting.rank_unrank (keyA A) hxlt
  have hmem : x ∈ (p1S.view.slice (S503808.rowRect (gathers_S503808_S15744).axis (SparseCore.rows (sX.view.read (Elt F) fx) hn hin ⟨Counting.unrank (keyA A) 503808 (x 0).val - wid L * 15744, hk⟩))).set :=
    (p1S_row _ x).mpr hrow.symm
  rw [SparseCore.scatterBuf_of_mem (thr d L) p1S.view (gathers_S503808_S15744).axis _ (SparseCore.rows_injective (dst_inj L (keyA A) fx hfx)) _ f0 hmem]
  obtain ⟨y, -, hy⟩ := Finset.mem_map.mp hmem
  refine (congrArg _ hy.symm).trans ((View.write_emb_of_mem _ _ (Finset.mem_univ y)).trans ?_)
  refine (row_payload d L gV _ y).trans ((hgV _).trans ?_)
  unfold p1Of sorted
  refine congrArg (wAt B) ?_
  show wid L * 15744 + (Counting.unrank (keyA A) 503808 (x 0).val - wid L * 15744) = _
  omega

theorem sc_back (key : ℕ → ℕ) (G R : S503808.Idx → Elt F .i32) (hG : ∀ x : S503808.Idx, ownPlaces key (wid L) (x 0).val → G x = R x) :
    (p1S.view.loc (thr d L) ↦[SparseCore.rowsWhere p1S.view ⟨0, by decide⟩ (ownPlaces key (wid L))]{fullShare} G : sProp 𝕄)
      = (p1M.view.loc (thr d L) ↦[ownSet key (wid L)]{fullShare} R) := by
  rw [← own_slice]
  exact pts_congr d L (ownSet key (wid L)) G R fun x hx => hG x (by rw [mem_own] at hx; exact hx)

set_option maxHeartbeats 2000000 in
theorem tile_body (hF : (K (F := F)).Facts) (q q' q'' : PosShare TreeShare) (A B : S503808.Idx → Elt F .i32) (f0 : S503808.Idx → Elt F .i32)
    (hA : ∀ i, i < 503808 → keyA A i < 4096) (O : CellTallies nD τ sig (HIx 4)) (W : Waits sig (HIx 4)) (hO : ∀ g, O g none = 0) :
    iprop(levAts (K (F := F)).L (K (F := F)).lev ∗ emp
        ∗ ((dkM.view.loc (thr d L) ↦{q} A : sProp 𝕄) ∗ (p0M.view.loc (thr d L) ↦{q'} B) ∗ (haM.view.loc (thr d L) ↦{q''} (histTab (keyA A) : S256x512.Idx → Elt F .i32))
            ∗ (p1M.view.loc (thr d L) ↦[ownSet (keyA A) (wid L)]{fullShare} f0))
        ∗ scopedBufs (thr d L) ∗ scopedSems0 (thr d L) ∗ owes (thr d L) O W)
      ⊢ wp frame (wpE (defs₀ (F := F)) 𝒱₀ (thr d L) none) Set.univ
          (cc2__rank_a L dkM (Memref.isWhole_whole _) p0M (Memref.isWhole_whole _) haM (Memref.isWhole_whole _) p1M (Memref.isWhole_whole _)
        sD (Memref.isWhole_whole _) sV (Memref.isWhole_whole _) sX (Memref.isWhole_whole _) sO (Memref.isWhole_whole _) sB (Memref.isWhole_whole _)
        sP (Memref.isWhole_whole _) sT (Memref.isWhole_whole _) cc2_scratch7 cc2_scoped0 cc2_scoped1 cc2_scoped2)
          fun _ => iprop(((dkM.view.loc (thr d L) ↦{q} A : sProp 𝕄) ∗ (p0M.view.loc (thr d L) ↦{q'} B) ∗ (haM.view.loc (thr d L) ↦{q''} (histTab (keyA A) : S256x512.Idx → Elt F .i32))
              ∗ (p1M.view.loc (thr d L) ↦[ownSet (keyA A) (wid L)]{fullShare} (p1Of A B : S503808.Idx → Elt F .i32)))
            ∗ scopedBufs (thr d L) ∗ scopedSems0 (thr d L)
            ∗ ∃ W', ⌜∀ p ∈ W', p ∈ W ∨ p.2 = none⌝ ∗ owes (thr d L) O W') := by
  rw [cc2__rank_a_eq_skeleton]; unfold cc2__rank_a_skel
  rw [(K (F := F)).scopedBufs_V hF d (cV L) (jV L), SparseCore.Cfg.scopedSems0_V (Val := Elt F) d (cV L) (jV L), ownSems0_V, ownBufs_V]
  iintro ⟨#Hlv, -, ⟨Hdk, Hp0, Hha, Hp1⟩, ⟨⟨%fD, HD⟩, ⟨%fV, HV⟩, ⟨%fX, HX⟩, ⟨%fO, HO⟩, ⟨%fB, HB⟩, ⟨%fP, HP⟩, ⟨%fT, HT⟩, Hbufs⟩, ⟨Hsem0, Hsem1, Hsem2, Hsem3, Hsems⟩, HW⟩
  ihave Hmw := ((K (F := F)).mayWaits_none (thr := thr d L) hO) $$ Hlv
  ihave HD' := (Entails.of_eq (show ((thr d L).loc cc2_scratch0 ↦{fullShare} fD : sProp 𝕄) = (sD.view.loc (thr d L) ↦{fullShare} fD) from rfl)) $$ HD
  ihave HV' := (Entails.of_eq (show ((thr d L).loc cc2_scratch1 ↦{fullShare} fV : sProp 𝕄) = (sV.view.loc (thr d L) ↦{fullShare} fV) from rfl)) $$ HV
  ihave HX' := (Entails.of_eq (show ((thr d L).loc cc2_scratch2 ↦{fullShare} fX : sProp 𝕄) = (sX.view.loc (thr d L) ↦{fullShare} fX) from rfl)) $$ HX
  ihave HO' := (Entails.of_eq (show ((thr d L).loc cc2_scratch3 ↦{fullShare} fO : sProp 𝕄) = (sO.view.loc (thr d L) ↦{fullShare} fO) from rfl)) $$ HO
  ihave HB' := (Entails.of_eq (show ((thr d L).loc cc2_scratch4 ↦{fullShare} fB : sProp 𝕄) = (sB.view.loc (thr d L) ↦{fullShare} fB) from rfl)) $$ HB
  ihave HP' := (Entails.of_eq (show ((thr d L).loc cc2_scratch5 ↦{fullShare} fP : sProp 𝕄) = (sP.view.loc (thr d L) ↦{fullShare} fP) from rfl)) $$ HP
  ihave HT' := (Entails.of_eq (show ((thr d L).loc cc2_scratch6 ↦{fullShare} fT : sProp 𝕄) = (sT.view.loc (thr d L) ↦{fullShare} fT) from rfl)) $$ HT
  sl_exec
  have hgD : IsChunk A (wid L) (View.write (Elt F) sD.view fD (tile_body.sl.dma0 L A) Finset.univ) := by
    intro x
    rw [show sD.view.read (Elt F) (View.write (Elt F) sD.view fD (tile_body.sl.dma0 L A) Finset.univ) x = tile_body.sl.dma0 L A x from
      congrFun (View.write_whole_univ (Val := Elt F) cc2_scratch0 fD (tile_body.sl.dma0 L A)) x]
    unfold tile_body.sl.dma0
    exact holdD L A x
  have hgV : ∀ x : S15744.Idx, sV.view.read (Elt F) (View.write (Elt F) sV.view fV (tile_body.sl.dma0_1 L B) Finset.univ) x = wAt B (wid L * 15744 + (x 0).val) := by
    intro x
    rw [show sV.view.read (Elt F) (View.write (Elt F) sV.view fV (tile_body.sl.dma0_1 L B) Finset.univ) x = tile_body.sl.dma0_1 L B x from
      congrFun (View.write_whole_univ (Val := Elt F) cc2_scratch1 fV (tile_body.sl.dma0_1 L B)) x]
    unfold tile_body.sl.dma0_1
    exact holdV L B x
  generalize View.write (Elt F) sD.view fD (tile_body.sl.dma0 L A) Finset.univ = gD at *
  generalize View.write (Elt F) sV.view fV (tile_body.sl.dma0_1 L B) Finset.univ = gV at *
  sl_for (inv1 d L (keyA A) q'' (histTab (keyA A) : S256x512.Idx → Elt F .i32) O W) $$ [Hha Hsem2 HO' HB' HP' HT' HW]
  case region => exact fun k a => step1 d L (keyA A) q'' O W k a
  · unfold inv1
    isplitr; · iexact Hmw
    isplitr
    · ipureintro
      rw [Nat.mul_zero, Counting.below_zero]
    isplitl [HO']
    · iexists fO; isplitr
      · ipureintro; intro x hx; exact absurd hx (by omega)
      · iexact HO'
    isplitl [HB']; · iexists fB; iexact HB'
    isplitl [HP']; · iexists fP; iexact HP'
    isplitl [HT']; · iexists fT; iexact HT'
    isplitl [Hha]; · iexact Hha
    isplitl [Hsem2]; · iexact Hsem2
    iexists _
    isplitr
    rotate_left
    · iexact HW
    ipureintro
    intro p hp
    rcases Finset.mem_insert.mp hp with rfl | hp
    · exact Or.inr rfl
    rcases Finset.mem_insert.mp hp with rfl | hp
    · exact Or.inr rfl
    · exact Or.inl hp
  iintro %acc HI
  rw [show Scf.trips k2_t1_loop.lb k2_t1_loop.ub k2_t1_loop.st = 8 by decide]
  unfold inv1
  icases HI with ⟨-, %hacc, ⟨%f1, %hf1, HO⟩, ⟨%gB, HB⟩, ⟨%gP, HP⟩, ⟨%gT, HT⟩, Hha, Hsem2, %W1, %hW1, HW⟩
  sl_for (inv4 d L A gD) $$ [HO HX' HD']
  case region => exact fun k a => step4 d L A hA gD hgD k a
  · unfold inv4
    isplitl [HO]
    · iexists f1; isplitr
      · ipureintro
        intro x
        rw [Nat.mul_zero, Nat.add_zero]
        exact hf1 x (x 0).isLt
      · iexact HO
    isplitl [HX']
    · iexists fX; isplitr
      · ipureintro; intro x hx; exact absurd hx (by omega)
      · iexact HX'
    iexact HD'
  iintro %_ HI
  rw [show Scf.trips k2_t4_loop.lb k2_t4_loop.ub k2_t4_loop.st = 984 by decide]
  unfold inv4
  icases HI with ⟨⟨%f2, %hf2, HO⟩, ⟨%fx, %hfx, HX⟩, HD⟩
  have hrk : ∀ j : S15744.Idx, (show BitVec 32 from sX.view.read (Elt F) fx j).toNat = Counting.rank (keyA A) 503808 (wid L * 15744 + (j 0).val) := fun j => dst_toNat L (keyA A) fx hfx j
  have hin := dst_lt L (keyA A) fx hfx
  have hinj := dst_inj L (keyA A) fx hfx
  have hown := dst_own L (keyA A) fx hfx
  ihave Hp1 := (Entails.of_eq (own_slice d L (keyA A) f0)) $$ Hp1
  sl_exec
  have hG : ∀ x : S503808.Idx, ownPlaces (keyA A) (wid L) (x 0).val → tile_body.sl.Hp1_sc0 (F := F) d L f0 gV fx hin x = p1Of A B x := by
    intro x hx
    unfold tile_body.sl.Hp1_sc0
    exact sc_value d L A B f0 fx hfx gV hgV numel_chunk hin x hx
  ihave Hp1 := (Entails.of_eq (sc_back d L (keyA A) (tile_body.sl.Hp1_sc0 (F := F) d L f0 gV fx hin) (p1Of A B : S503808.Idx → Elt F .i32) hG)) $$ Hp1
  sl_step
  isplitl [Hdk Hp0 Hha Hp1]
  · isplitl [Hdk]; · iexact Hdk
    isplitl [Hp0]; · iexact Hp0
    isplitl [Hha]; · iexact Hha
    iexact Hp1
  isplitl [HD HV' HX HO HB HP HT Hbufs]
  · isplitl [HD]; · iexists _; iexact HD
    isplitl [HV']; · iexists _; iexact HV'
    isplitl [HX]; · iexists _; iexact HX
    isplitl [HO]; · iexists _; iexact HO
    isplitl [HB]; · iexists _; iexact HB
    isplitl [HP]; · iexists _; iexact HP
    isplitl [HT]; · iexists _; iexact HT
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists _
  isplitr
  rotate_left
  · iexact HW
  ipureintro
  intro p hp
  rcases Finset.mem_insert.mp hp with rfl | hp
  · exact Or.inr rfl
  · exact hW1 p hp

end Cert.Proof.RankA

end
-- ==== Proof.RankB.lean ====
/-
  The fourth SparseCore call: every tile finds the place of each of its words in the order by tile, from the histograms of all tiles.
-/
module

public import proofs.«01_k».proof.Proof.Base
public import proofs.«01_k».proof.Proof.RankLib

@[expose] public section

set_option maxRecDepth 16384

noncomputable section

namespace Cert.Proof.RankB

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 4) (Elt F) ℕ UU ℕ

abbrev p1M : Memref sig .scVector .hbm S503808 .i32 := Memref.whole main_v13_scv
abbrev hbM : Memref sig .scVector .hbm S512x512 .i32 := Memref.whole main_v14_scv
abbrev piM : Memref sig .scVector .hbm S503808 .i32 := Memref.whole main_v15_0_scv
abbrev hiM : Memref sig .scVector .hbm S8160 .i32 := Memref.whole main_v15_1_scv
abbrev stM : Memref sig .scVector .hbm S8160 .i32 := Memref.whole main_v15_2_scv
abbrev enM : Memref sig .scVector .hbm S8160 .i32 := Memref.whole main_v15_3_scv
abbrev sD : Memref sig .scVector .vmem S15744 .i32 := Memref.whole cc4_scratch0
abbrev sV : Memref sig .scVector .vmem S15744 .i32 := Memref.whole cc4_scratch1
abbrev sX : Memref sig .scVector .vmem S15744 .i32 := Memref.whole cc4_scratch2
abbrev sO : Memref sig .scVector .vmem S8192 .i32 := Memref.whole cc4_scratch3
abbrev sB : Memref sig .scVector .vmem S32x512 .i32 := Memref.whole cc4_scratch4
abbrev sP : Memref sig .scVector .vmem S512 .i32 := Memref.whole cc4_scratch5
abbrev sT : Memref sig .scVector .vmem S512 .i32 := Memref.whole cc4_scratch6
abbrev sC : Memref sig .scVector .vmem S8192 .i32 := Memref.whole cc4_scratch7
abbrev sL : Memref sig .scVector .vmem S8192 .i32 := Memref.whole cc4_scratch8
abbrev uH : Memref sig .scVector .vmem S256 .i32 := Memref.whole cc4_scratch9
abbrev uS : Memref sig .scVector .vmem S256 .i32 := Memref.whole cc4_scratch10
abbrev uE : Memref sig .scVector .vmem S256 .i32 := Memref.whole cc4_scratch11

variable (d : Dev nD) (L : grid4.Coords)

abbrev cV (L : grid4.Coords) : Fin τ.nSC := (L 0).castLE hcore4
abbrev jV (L : grid4.Coords) : Fin τ.nSub := (L 1).castLE hsub4
abbrev thr : Thread nD τ := V d (cV L) (jV L)
abbrev wid (L : grid4.Coords) : ℕ := 2 * (L 1).val + (L 0).val

theorem wid_lt : wid L < 32 := by
  have : (L 0).val < 2 := (L 0).isLt
  have : (L 1).val < 16 := (L 1).isLt
  unfold wid; omega

abbrev c0 : GSem nD τ sig := (thr d L, .dma cc4_scoped0.sem)
abbrev c1 : GSem nD τ sig := (thr d L, .dma cc4_scoped1.sem)
abbrev c2 : GSem nD τ sig := (thr d L, .dma cc4_scoped2.sem)
abbrev c3 : GSem nD τ sig := (thr d L, .dma cc4_scoped3.sem)
abbrev c4 : GSem nD τ sig := (thr d L, .dma cc4_scoped4.sem)
abbrev c5 : GSem nD τ sig := (thr d L, .dma cc4_scoped5.sem)
abbrev c6 : GSem nD τ sig := (thr d L, .dma cc4_scoped6.sem)
abbrev c7 : GSem nD τ sig := (thr d L, .dma cc4_scoped7.sem)
abbrev c8 : GSem nD τ sig := (thr d L, .dma cc4_scratch12.sem)

omit [FloatOps F] in
/-- The tile's semaphores: those of this call, and the rest. -/
theorem ownSems0_V :
    (ownSems0 (thr d L) : sProp 𝕄)
      = iprop(semVal (c0 d L) 0 ∗ semVal (c1 d L) 0 ∗ semVal (c2 d L) 0 ∗ semVal (c3 d L) 0 ∗ semVal (c4 d L) 0 ∗ semVal (c5 d L) 0 ∗ semVal (c6 d L) 0 ∗ semVal (c7 d L) 0 ∗ semVal (c8 d L) 0
          ∗ bigSep ((((((((((ownCells (thr d L)).erase (c0 d L)).erase (c1 d L)).erase (c2 d L)).erase (c3 d L)).erase (c4 d L)).erase (c5 d L)).erase (c6 d L)).erase (c7 d L)).erase (c8 d L)) fun g => semVal g 0) := by
  unfold SparseCore.Cfg.ownSems0
  have hm : ∀ s : DmaSem sig, (SemLoc.dma s : SemLoc sig).isScoped .scVector = true → ((thr d L, SemLoc.dma s) : GSem nD τ sig) ∈ ownCells (thr d L) :=
    fun s h => mem_ownCells.mpr ⟨rfl, h⟩
  rw [SparseCore.bigSep_erase' (i := c0 d L) (hm cc4_scoped0.sem (by decide))]
  rw [SparseCore.bigSep_erase' (i := c1 d L) (Finset.mem_erase.mpr ⟨by simp; decide, (hm cc4_scoped1.sem (by decide))⟩)]
  rw [SparseCore.bigSep_erase' (i := c2 d L) (Finset.mem_erase.mpr ⟨by simp; decide, (Finset.mem_erase.mpr ⟨by simp; decide, (hm cc4_scoped2.sem (by decide))⟩)⟩)]
  rw [SparseCore.bigSep_erase' (i := c3 d L) (Finset.mem_erase.mpr ⟨by simp; decide, (Finset.mem_erase.mpr ⟨by simp; decide, (Finset.mem_erase.mpr ⟨by simp; decide, (hm cc4_scoped3.sem (by decide))⟩)⟩)⟩)]
  rw [SparseCore.bigSep_erase' (i := c4 d L) (Finset.mem_erase.mpr ⟨by simp; decide, (Finset.mem_erase.mpr ⟨by simp; decide, (Finset.mem_erase.mpr ⟨by simp; decide, (Finset.mem_erase.mpr ⟨by simp; decide, (hm cc4_scoped4.sem (by decide))⟩)⟩)⟩)⟩)]
  rw [SparseCore.bigSep_erase' (i := c5 d L) (Finset.mem_erase.mpr ⟨by simp; decide, (Finset.mem_erase.mpr ⟨by simp; decide, (Finset.mem_erase.mpr ⟨by simp; decide, (Finset.mem_erase.mpr ⟨by simp; decide, (Finset.mem_erase.mpr ⟨by simp; decide, (hm cc4_scoped5.sem (by decide))⟩)⟩)⟩)⟩)⟩)]
  rw [SparseCore.bigSep_erase' (i := c6 d L) (Finset.mem_erase.mpr ⟨by simp; decide, (Finset.mem_erase.mpr ⟨by simp; decide, (Finset.mem_erase.mpr ⟨by simp; decide, (Finset.mem_erase.mpr ⟨by simp; decide, (Finset.mem_erase.mpr ⟨by simp; decide, (Finset.mem_erase.mpr ⟨by simp; decide, (hm cc4_scoped6.sem (by decide))⟩)⟩)⟩)⟩)⟩)⟩)]
  rw [SparseCore.bigSep_erase' (i := c7 d L) (Finset.mem_erase.mpr ⟨by simp; decide, (Finset.mem_erase.mpr ⟨by simp; decide, (Finset.mem_erase.mpr ⟨by simp; decide, (Finset.mem_erase.mpr ⟨by simp; decide, (Finset.mem_erase.mpr ⟨by simp; decide, (Finset.mem_erase.mpr ⟨by simp; decide, (Finset.mem_erase.mpr ⟨by simp; decide, (hm cc4_scoped7.sem (by decide))⟩)⟩)⟩)⟩)⟩)⟩)⟩)]
  rw [SparseCore.bigSep_erase' (i := c8 d L) (Finset.mem_erase.mpr ⟨by simp; decide, (Finset.mem_erase.mpr ⟨by simp; decide, (Finset.mem_erase.mpr ⟨by simp; decide, (Finset.mem_erase.mpr ⟨by simp; decide, (Finset.mem_erase.mpr ⟨by simp; decide, (Finset.mem_erase.mpr ⟨by simp; decide, (Finset.mem_erase.mpr ⟨by simp; decide, (Finset.mem_erase.mpr ⟨by simp; decide, (hm cc4_scratch12.sem (by decide))⟩)⟩)⟩)⟩)⟩)⟩)⟩)⟩)]

set_option maxHeartbeats 2000000 in
omit [FloatOps F] in
/-- The tile's scratch buffers: those of this call, and the rest. -/
theorem ownBufs_V :
    (ownBufs (thr d L) : sProp 𝕄)
      = iprop((∃ f, (thr d L).loc cc4_scratch0 ↦{fullShare} f) ∗ (∃ f, (thr d L).loc cc4_scratch1 ↦{fullShare} f) ∗ (∃ f, (thr d L).loc cc4_scratch2 ↦{fullShare} f) ∗ (∃ f, (thr d L).loc cc4_scratch3 ↦{fullShare} f) ∗ (∃ f, (thr d L).loc cc4_scratch4 ↦{fullShare} f) ∗ (∃ f, (thr d L).loc cc4_scratch5 ↦{fullShare} f) ∗ (∃ f, (thr d L).loc cc4_scratch6 ↦{fullShare} f) ∗ (∃ f, (thr d L).loc cc4_scratch7 ↦{fullShare} f) ∗ (∃ f, (thr d L).loc cc4_scratch8 ↦{fullShare} f) ∗ (∃ f, (thr d L).loc cc4_scratch9 ↦{fullShare} f) ∗ (∃ f, (thr d L).loc cc4_scratch10 ↦{fullShare} f) ∗ (∃ f, (thr d L).loc cc4_scratch11 ↦{fullShare} f)
          ∗ bigSep (((((((((((((ownRefs (τ := τ) (.scVector (cV L) (jV L))).erase ((Proc.scVector (cV L) (jV L)).devRef cc4_scratch0)).erase ((Proc.scVector (cV L) (jV L)).devRef cc4_scratch1)).erase ((Proc.scVector (cV L) (jV L)).devRef cc4_scratch2)).erase ((Proc.scVector (cV L) (jV L)).devRef cc4_scratch3)).erase ((Proc.scVector (cV L) (jV L)).devRef cc4_scratch4)).erase ((Proc.scVector (cV L) (jV L)).devRef cc4_scratch5)).erase ((Proc.scVector (cV L) (jV L)).devRef cc4_scratch6)).erase ((Proc.scVector (cV L) (jV L)).devRef cc4_scratch7)).erase ((Proc.scVector (cV L) (jV L)).devRef cc4_scratch8)).erase ((Proc.scVector (cV L) (jV L)).devRef cc4_scratch9)).erase ((Proc.scVector (cV L) (jV L)).devRef cc4_scratch10)).erase ((Proc.scVector (cV L) (jV L)).devRef cc4_scratch11))
              fun b => iprop(∃ f, ((d, b) : Loc nD τ sig) ↦{fullShare} f)) := by
  unfold SparseCore.Cfg.ownBufs
  have hne : ∀ {r r' : Ref sig .scVector}, r ≠ r' → (Proc.scVector (cV L) (jV L)).devRef r ≠ (Proc.scVector (cV L) (jV L)).devRef r' :=
    fun h e => absurd (Proc.devRef_injective _ e) h
  refine (SparseCore.bigSep_erase' (SparseCore.Cfg.mem_ownRefs_of_owner (p := Proc.scVector (cV L) (jV L)) (b := (Proc.scVector (cV L) (jV L)).devRef cc4_scratch0) rfl)).trans ?_
  rw [SparseCore.bigSep_erase' (Finset.mem_erase.mpr ⟨hne (by decide), (SparseCore.Cfg.mem_ownRefs_of_owner (p := Proc.scVector (cV L) (jV L)) (b := (Proc.scVector (cV L) (jV L)).devRef cc4_scratch1) rfl)⟩)]
  rw [SparseCore.bigSep_erase' (Finset.mem_erase.mpr ⟨hne (by decide), (Finset.mem_erase.mpr ⟨hne (by decide), (SparseCore.Cfg.mem_ownRefs_of_owner (p := Proc.scVector (cV L) (jV L)) (b := (Proc.scVector (cV L) (jV L)).devRef cc4_scratch2) rfl)⟩)⟩)]
  rw [SparseCore.bigSep_erase' (Finset.mem_erase.mpr ⟨hne (by decide), (Finset.mem_erase.mpr ⟨hne (by decide), (Finset.mem_erase.mpr ⟨hne (by decide), (SparseCore.Cfg.mem_ownRefs_of_owner (p := Proc.scVector (cV L) (jV L)) (b := (Proc.scVector (cV L) (jV L)).devRef cc4_scratch3) rfl)⟩)⟩)⟩)]
  rw [SparseCore.bigSep_erase' (Finset.mem_erase.mpr ⟨hne (by decide), (Finset.mem_erase.mpr ⟨hne (by decide), (Finset.mem_erase.mpr ⟨hne (by decide), (Finset.mem_erase.mpr ⟨hne (by decide), (SparseCore.Cfg.mem_ownRefs_of_owner (p := Proc.scVector (cV L) (jV L)) (b := (Proc.scVector (cV L) (jV L)).devRef cc4_scratch4) rfl)⟩)⟩)⟩)⟩)]
  rw [SparseCore.bigSep_erase' (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (SparseCore.Cfg.mem_ownRefs_of_owner (p := Proc.scVector (cV L) (jV L)) (b := (Proc.scVector (cV L) (jV L)).devRef cc4_scratch5) rfl)⟩)⟩)⟩)⟩)⟩)]
  rw [SparseCore.bigSep_erase' (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (SparseCore.Cfg.mem_ownRefs_of_owner (p := Proc.scVector (cV L) (jV L)) (b := (Proc.scVector (cV L) (jV L)).devRef cc4_scratch6) rfl)⟩)⟩)⟩)⟩)⟩)⟩)]
  rw [SparseCore.bigSep_erase' (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (SparseCore.Cfg.mem_ownRefs_of_owner (p := Proc.scVector (cV L) (jV L)) (b := (Proc.scVector (cV L) (jV L)).devRef cc4_scratch7) rfl)⟩)⟩)⟩)⟩)⟩)⟩)⟩)]
  rw [SparseCore.bigSep_erase' (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (SparseCore.Cfg.mem_ownRefs_of_owner (p := Proc.scVector (cV L) (jV L)) (b := (Proc.scVector (cV L) (jV L)).devRef cc4_scratch8) rfl)⟩)⟩)⟩)⟩)⟩)⟩)⟩)⟩)]
  rw [SparseCore.bigSep_erase' (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (SparseCore.Cfg.mem_ownRefs_of_owner (p := Proc.scVector (cV L) (jV L)) (b := (Proc.scVector (cV L) (jV L)).devRef cc4_scratch9) rfl)⟩)⟩)⟩)⟩)⟩)⟩)⟩)⟩)⟩)]
  rw [SparseCore.bigSep_erase' (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (SparseCore.Cfg.mem_ownRefs_of_owner (p := Proc.scVector (cV L) (jV L)) (b := (Proc.scVector (cV L) (jV L)).devRef cc4_scratch10) rfl)⟩)⟩)⟩)⟩)⟩)⟩)⟩)⟩)⟩)⟩)]
  rw [SparseCore.bigSep_erase' (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (Finset.mem_erase.mpr ⟨hne (by decide), (SparseCore.Cfg.mem_ownRefs_of_owner (p := Proc.scVector (cV L) (jV L)) (b := (Proc.scVector (cV L) (jV L)).devRef cc4_scratch11) rfl)⟩)⟩)⟩)⟩)⟩)⟩)⟩)⟩)⟩)⟩)⟩)]

/-- The tile's number, as the program computes it. -/
abbrev tileNo (L : grid4.Coords) : BitVec 32 := (Scalar.addi (Scalar.muli (BitVec.ofNat 32 (L 1).val) 2#32) (BitVec.ofNat 32 (L 0).val))

theorem tileNo_eq : tileNo L = BitVec.ofNat 32 (wid L) := by
  have h := (by decide +kernel : ∀ (a : Fin 2) (b : Fin 16), Scalar.addi (Scalar.muli (BitVec.ofNat 32 b.val) 2#32) (BitVec.ofNat 32 a.val) = BitVec.ofNat 32 (2 * b.val + a.val))
  exact h (L 0) (L 1)

/-- Block `b` of the table: row `w` holds how often each of the 512 keys from `512 b` on occurs in the chunk of tile `w`. -/
def IsBlk (key : ℕ → ℕ) (b : ℕ) (g : sB.view.ty.Contents (Elt F)) : Prop :=
  ∀ x : S32x512.Idx, sB.view.read (Elt F) g x = BitVec.ofNat 32 (Counting.cnt key ((x 0).val * 15744) ((x 0).val * 15744 + 15744) (512 * b + (x 1).val))

/-- How often each key of block `b` occurs in the chunks before this tile's. -/
def preV (key : ℕ → ℕ) (w b c : ℕ) : BitVec 32 := BitVec.ofNat 32 (Counting.cnt key 0 (w * 15744) (512 * b + c))
/-- How often each key of block `b` occurs in all chunks. -/
def totV (key : ℕ → ℕ) (b c : ℕ) : BitVec 32 := BitVec.ofNat 32 (Counting.cnt key 0 503808 (512 * b + c))

/-- The sixteen lanes from `16 k` on of each of the 32 rows. -/
def rowLd (g : sB.view.ty.Contents (Elt F)) (k : Fin k4_t2_loop.trips) : ℕ → Vec F S1x16 .i32
  | 0 => sB.view.readAt (Elt F) (Rect.unit (s := S32x512) (k4_off3 k) S1x16.size (k4_off3_inb k)).toLoadRect g
  | 1 => sB.view.readAt (Elt F) (Rect.unit (s := S32x512) (k4_off4 k) S1x16.size (k4_off4_inb k)).toLoadRect g
  | 2 => sB.view.readAt (Elt F) (Rect.unit (s := S32x512) (k4_off5 k) S1x16.size (k4_off5_inb k)).toLoadRect g
  | 3 => sB.view.readAt (Elt F) (Rect.unit (s := S32x512) (k4_off6 k) S1x16.size (k4_off6_inb k)).toLoadRect g
  | 4 => sB.view.readAt (Elt F) (Rect.unit (s := S32x512) (k4_off7 k) S1x16.size (k4_off7_inb k)).toLoadRect g
  | 5 => sB.view.readAt (Elt F) (Rect.unit (s := S32x512) (k4_off8 k) S1x16.size (k4_off8_inb k)).toLoadRect g
  | 6 => sB.view.readAt (Elt F) (Rect.unit (s := S32x512) (k4_off9 k) S1x16.size (k4_off9_inb k)).toLoadRect g
  | 7 => sB.view.readAt (Elt F) (Rect.unit (s := S32x512) (k4_off10 k) S1x16.size (k4_off10_inb k)).toLoadRect g
  | 8 => sB.view.readAt (Elt F) (Rect.unit (s := S32x512) (k4_off11 k) S1x16.size (k4_off11_inb k)).toLoadRect g
  | 9 => sB.view.readAt (Elt F) (Rect.unit (s := S32x512) (k4_off12 k) S1x16.size (k4_off12_inb k)).toLoadRect g
  | 10 => sB.view.readAt (Elt F) (Rect.unit (s := S32x512) (k4_off13 k) S1x16.size (k4_off13_inb k)).toLoadRect g
  | 11 => sB.view.readAt (Elt F) (Rect.unit (s := S32x512) (k4_off14 k) S1x16.size (k4_off14_inb k)).toLoadRect g
  | 12 => sB.view.readAt (Elt F) (Rect.unit (s := S32x512) (k4_off15 k) S1x16.size (k4_off15_inb k)).toLoadRect g
  | 13 => sB.view.readAt (Elt F) (Rect.unit (s := S32x512) (k4_off16 k) S1x16.size (k4_off16_inb k)).toLoadRect g
  | 14 => sB.view.readAt (Elt F) (Rect.unit (s := S32x512) (k4_off17 k) S1x16.size (k4_off17_inb k)).toLoadRect g
  | 15 => sB.view.readAt (Elt F) (Rect.unit (s := S32x512) (k4_off18 k) S1x16.size (k4_off18_inb k)).toLoadRect g
  | 16 => sB.view.readAt (Elt F) (Rect.unit (s := S32x512) (k4_off19 k) S1x16.size (k4_off19_inb k)).toLoadRect g
  | 17 => sB.view.readAt (Elt F) (Rect.unit (s := S32x512) (k4_off20 k) S1x16.size (k4_off20_inb k)).toLoadRect g
  | 18 => sB.view.readAt (Elt F) (Rect.unit (s := S32x512) (k4_off21 k) S1x16.size (k4_off21_inb k)).toLoadRect g
  | 19 => sB.view.readAt (Elt F) (Rect.unit (s := S32x512) (k4_off22 k) S1x16.size (k4_off22_inb k)).toLoadRect g
  | 20 => sB.view.readAt (Elt F) (Rect.unit (s := S32x512) (k4_off23 k) S1x16.size (k4_off23_inb k)).toLoadRect g
  | 21 => sB.view.readAt (Elt F) (Rect.unit (s := S32x512) (k4_off24 k) S1x16.size (k4_off24_inb k)).toLoadRect g
  | 22 => sB.view.readAt (Elt F) (Rect.unit (s := S32x512) (k4_off25 k) S1x16.size (k4_off25_inb k)).toLoadRect g
  | 23 => sB.view.readAt (Elt F) (Rect.unit (s := S32x512) (k4_off26 k) S1x16.size (k4_off26_inb k)).toLoadRect g
  | 24 => sB.view.readAt (Elt F) (Rect.unit (s := S32x512) (k4_off27 k) S1x16.size (k4_off27_inb k)).toLoadRect g
  | 25 => sB.view.readAt (Elt F) (Rect.unit (s := S32x512) (k4_off28 k) S1x16.size (k4_off28_inb k)).toLoadRect g
  | 26 => sB.view.readAt (Elt F) (Rect.unit (s := S32x512) (k4_off29 k) S1x16.size (k4_off29_inb k)).toLoadRect g
  | 27 => sB.view.readAt (Elt F) (Rect.unit (s := S32x512) (k4_off30 k) S1x16.size (k4_off30_inb k)).toLoadRect g
  | 28 => sB.view.readAt (Elt F) (Rect.unit (s := S32x512) (k4_off31 k) S1x16.size (k4_off31_inb k)).toLoadRect g
  | 29 => sB.view.readAt (Elt F) (Rect.unit (s := S32x512) (k4_off32 k) S1x16.size (k4_off32_inb k)).toLoadRect g
  | 30 => sB.view.readAt (Elt F) (Rect.unit (s := S32x512) (k4_off33 k) S1x16.size (k4_off33_inb k)).toLoadRect g
  | _ => sB.view.readAt (Elt F) (Rect.unit (s := S32x512) (k4_off34 k) S1x16.size (k4_off34_inb k)).toLoadRect g

theorem rowLd_at (key : ℕ → ℕ) (b : ℕ) (g : sB.view.ty.Contents (Elt F)) (hg : IsBlk key b g) (k : Fin k4_t2_loop.trips) (w : ℕ) (hw : w < 32)
    {off : Fin 2 → ℕ} (hoff : off = ![w, 16 * k.val]) (inb : ∀ a, off a + S1x16.size a ≤ S32x512.size a) (i : S16.Idx) :
    shapeCast S16 (sB.view.readAt (Elt F) (Rect.unit (s := S32x512) off S1x16.size inb).toLoadRect g) shapeCasts_S1x16_S16 i
      = BitVec.ofNat 32 (Counting.cnt key (w * 15744) (w * 15744 + 15744) (512 * b + (16 * k.val + (i 0).val))) := by
  have hk : k.val < 32 := k.isLt
  have hi : (i 0).val < 16 := (i 0).isLt
  subst hoff
  refine (RankLib.row_load (Val := Elt F) (r := 32) (n := 512) (c := 16) sB.view g (off := ![w, 16 * k.val]) inb shapeCasts_S1x16_S16 i
    (ix2 ⟨w, hw⟩ ⟨16 * k.val + (i 0).val, by omega⟩) rfl rfl).trans (hg _)

theorem rowLd_eq (key : ℕ → ℕ) (b : ℕ) (g : sB.view.ty.Contents (Elt F)) (hg : IsBlk key b g) (k : Fin k4_t2_loop.trips) (i : S16.Idx) :
    ∀ w < 32, shapeCast S16 (rowLd g k w) shapeCasts_S1x16_S16 i
      = BitVec.ofNat 32 (Counting.cnt key (w * 15744) (w * 15744 + 15744) (512 * b + (16 * k.val + (i 0).val)))
  | 0, _ => rowLd_at key b g hg k 0 (by decide) (k4_off3_eq k) (k4_off3_inb k) i
  | 1, _ => rowLd_at key b g hg k 1 (by decide) (k4_off4_eq k) (k4_off4_inb k) i
  | 2, _ => rowLd_at key b g hg k 2 (by decide) (k4_off5_eq k) (k4_off5_inb k) i
  | 3, _ => rowLd_at key b g hg k 3 (by decide) (k4_off6_eq k) (k4_off6_inb k) i
  | 4, _ => rowLd_at key b g hg k 4 (by decide) (k4_off7_eq k) (k4_off7_inb k) i
  | 5, _ => rowLd_at key b g hg k 5 (by decide) (k4_off8_eq k) (k4_off8_inb k) i
  | 6, _ => rowLd_at key b g hg k 6 (by decide) (k4_off9_eq k) (k4_off9_inb k) i
  | 7, _ => rowLd_at key b g hg k 7 (by decide) (k4_off10_eq k) (k4_off10_inb k) i
  | 8, _ => rowLd_at key b g hg k 8 (by decide) (k4_off11_eq k) (k4_off11_inb k) i
  | 9, _ => rowLd_at key b g hg k 9 (by decide) (k4_off12_eq k) (k4_off12_inb k) i
  | 10, _ => rowLd_at key b g hg k 10 (by decide) (k4_off13_eq k) (k4_off13_inb k) i
  | 11, _ => rowLd_at key b g hg k 11 (by decide) (k4_off14_eq k) (k4_off14_inb k) i
  | 12, _ => rowLd_at key b g hg k 12 (by decide) (k4_off15_eq k) (k4_off15_inb k) i
  | 13, _ => rowLd_at key b g hg k 13 (by decide) (k4_off16_eq k) (k4_off16_inb k) i
  | 14, _ => rowLd_at key b g hg k 14 (by decide) (k4_off17_eq k) (k4_off17_inb k) i
  | 15, _ => rowLd_at key b g hg k 15 (by decide) (k4_off18_eq k) (k4_off18_inb k) i
  | 16, _ => rowLd_at key b g hg k 16 (by decide) (k4_off19_eq k) (k4_off19_inb k) i
  | 17, _ => rowLd_at key b g hg k 17 (by decide) (k4_off20_eq k) (k4_off20_inb k) i
  | 18, _ => rowLd_at key b g hg k 18 (by decide) (k4_off21_eq k) (k4_off21_inb k) i
  | 19, _ => rowLd_at key b g hg k 19 (by decide) (k4_off22_eq k) (k4_off22_inb k) i
  | 20, _ => rowLd_at key b g hg k 20 (by decide) (k4_off23_eq k) (k4_off23_inb k) i
  | 21, _ => rowLd_at key b g hg k 21 (by decide) (k4_off24_eq k) (k4_off24_inb k) i
  | 22, _ => rowLd_at key b g hg k 22 (by decide) (k4_off25_eq k) (k4_off25_inb k) i
  | 23, _ => rowLd_at key b g hg k 23 (by decide) (k4_off26_eq k) (k4_off26_inb k) i
  | 24, _ => rowLd_at key b g hg k 24 (by decide) (k4_off27_eq k) (k4_off27_inb k) i
  | 25, _ => rowLd_at key b g hg k 25 (by decide) (k4_off28_eq k) (k4_off28_inb k) i
  | 26, _ => rowLd_at key b g hg k 26 (by decide) (k4_off29_eq k) (k4_off29_inb k) i
  | 27, _ => rowLd_at key b g hg k 27 (by decide) (k4_off30_eq k) (k4_off30_inb k) i
  | 28, _ => rowLd_at key b g hg k 28 (by decide) (k4_off31_eq k) (k4_off31_inb k) i
  | 29, _ => rowLd_at key b g hg k 29 (by decide) (k4_off32_eq k) (k4_off32_inb k) i
  | 30, _ => rowLd_at key b g hg k 30 (by decide) (k4_off33_eq k) (k4_off33_inb k) i
  | 31, _ => rowLd_at key b g hg k 31 (by decide) (k4_off34_eq k) (k4_off34_inb k) i
  | n + 32, h => absurd h (by omega)

/-- The sum of the 32 rows' lanes, and the sum of those of the rows before this tile's, as the program computes them. -/
def totPay (r : ℕ → Vec F S1x16 .i32) : IVec S16 32 :=
  k4_pay54 (k4_pay49 (k4_pay43 (k4_pay38 (k4_pay30 (k4_pay24 (k4_pay18 (k4_pay12 (r 0) (r 1) (r 2) (r 3)) (r 4) (r 5) (r 6) (r 7)) (r 8) (r 9) (r 10) (r 11)) (r 12) (r 13) (r 14) (r 15)) (k4_pay32 (r 16)) (r 17) (r 18) (r 19) (r 20)) (r 21) (r 22) (r 23) (r 24)) (r 25) (r 26) (r 27) (r 28)) (r 29) (r 30) (r 31)
def prePay (r : ℕ → Vec F S1x16 .i32) : IVec S16 32 :=
  k4_pay55 L (k4_pay50 (tileNo L) (k4_pay44 (tileNo L) (k4_pay36 (tileNo L) (k4_pay31 (tileNo L) (k4_pay25 (tileNo L) (k4_pay16 (tileNo L) (k4_pay10 (tileNo L) (r 0) (r 1) (r 2)) (k4_pay11 (r 3)) (3#32) (r 4) (r 5) (r 6)) (k4_pay19 (tileNo L) (r 7)) (r 8) (r 9) (r 10) (r 11)) (r 12) (r 13) (r 14) (r 15)) (k4_pay32 (r 16)) (r 17) (r 18) (r 19)) (k4_pay37 (r 20)) (Scalar.extui (Scalar.cmpi .slt 20#32 (tileNo L))) (r 21) (r 22) (r 23) (r 24)) (r 25) (r 26) (r 27) (r 28)) (r 29) (r 30) (r 31)

theorem totPay_apply (r : ℕ → Vec F S1x16 .i32) (i : S16.Idx) :
    totPay r i = ∑ w ∈ Finset.range 32, (show BitVec 32 from shapeCast S16 (r w) shapeCasts_S1x16_S16 i) := by
  simp only [Finset.sum_range_succ, Finset.sum_range_zero]
  rfl

theorem prePay_apply (r : ℕ → Vec F S1x16 .i32) (i : S16.Idx) :
    prePay L r i = ∑ w ∈ Finset.range 32, (show BitVec 32 from shapeCast S16 (r w) shapeCasts_S1x16_S16 i) * Scalar.extui (Scalar.cmpi .slt (BitVec.ofNat 32 w) (tileNo L)) := by
  simp only [Finset.sum_range_succ, Finset.sum_range_zero]
  rfl

theorem totPay_eq (key : ℕ → ℕ) (b : ℕ) (g : sB.view.ty.Contents (Elt F)) (hg : IsBlk key b g) (k : Fin k4_t2_loop.trips) (i : S16.Idx) :
    totPay (rowLd g k) i = totV key b (16 * k.val + (i 0).val) := by
  rw [totPay_apply]
  exact (Finset.sum_congr rfl fun w hw => rowLd_eq key b g hg k i w (Finset.mem_range.mp hw)).trans (RankLib.sum_all key _)

theorem prePay_eq (key : ℕ → ℕ) (b : ℕ) (g : sB.view.ty.Contents (Elt F)) (hg : IsBlk key b g) (k : Fin k4_t2_loop.trips) (i : S16.Idx) :
    prePay L (rowLd g k) i = preV key (wid L) b (16 * k.val + (i 0).val) := by
  rw [prePay_apply]
  refine (Finset.sum_congr rfl fun w hw => ?_).trans (RankLib.sum_before key (wid L) _ (wid_lt L))
  rw [tileNo_eq, RankLib.sel_eq w (wid L) (Finset.mem_range.mp hw) (wid_lt L)]
  exact congrArg (· * _) (rowLd_eq key b g hg k i w (Finset.mem_range.mp hw))

/-- While the 32 rows of a block are summed. -/
def inv2 (key : ℕ → ℕ) (b : ℕ) (g : sB.view.ty.Contents (Elt F)) (k : ℕ) (_ : PUnit) : sProp 𝕄 :=
  iprop((∃ f : sP.view.ty.Contents (Elt F), ⌜∀ x : S512.Idx, (x 0).val < 16 * k → sP.view.read (Elt F) f x = preV key (wid L) b (x 0).val⌝ ∗ (sP.view.loc (thr d L) ↦{fullShare} f))
    ∗ (∃ f : sT.view.ty.Contents (Elt F), ⌜∀ x : S512.Idx, (x 0).val < 16 * k → sT.view.read (Elt F) f x = totV key b (x 0).val⌝ ∗ (sT.view.loc (thr d L) ↦{fullShare} f))
    ∗ (sB.view.loc (thr d L) ↦{fullShare} g))

set_option maxHeartbeats 1000000 in
theorem step2 (key : ℕ → ℕ) (b : ℕ) (g : sB.view.ty.Contents (Elt F)) (hg : IsBlk key b g) (k : Fin k4_t2_loop.trips) (a : PUnit) :
    inv2 (F := F) d L key b g k.val a ⊢ wp frame (wpE (defs₀ (F := F)) 𝒱₀ (thr d L) none) Set.univ
      (k4_t2_body L p1M (Memref.isWhole_whole _) hbM (Memref.isWhole_whole _) piM (Memref.isWhole_whole _) hiM (Memref.isWhole_whole _) stM (Memref.isWhole_whole _) enM (Memref.isWhole_whole _)
        sD (Memref.isWhole_whole _) sV (Memref.isWhole_whole _) sX (Memref.isWhole_whole _) sO (Memref.isWhole_whole _) sB (Memref.isWhole_whole _) sP (Memref.isWhole_whole _)
        sT (Memref.isWhole_whole _) sC (Memref.isWhole_whole _) sL (Memref.isWhole_whole _) uH (Memref.isWhole_whole _) uS (Memref.isWhole_whole _) uE (Memref.isWhole_whole _) cc4_scratch12 cc4_scoped0 cc4_scoped1 cc4_scoped2 cc4_scoped3 cc4_scoped4 cc4_scoped5 cc4_scoped6 cc4_scoped7
        (Scalar.addi (Scalar.muli (BitVec.ofNat 32 (L 1).val) 2#32) (BitVec.ofNat 32 (L 0).val)) k a)
      (inv2 d L key b g (k.val + 1)) := by
  unfold inv2 k4_t2_body
  rw [k4_part1_eq_skeleton, k4_part2_eq_skeleton, k4_part3_eq_skeleton, k4_part4_eq_skeleton, k4_part5_eq_skeleton, k4_part6_eq_skeleton, k4_part7_eq_skeleton]
  unfold k4_part1_skel k4_part2_skel k4_part3_skel k4_part4_skel k4_part5_skel k4_part6_skel k4_part7_skel
  iintro ⟨⟨%fp, %hp, HP⟩, ⟨%ft, %ht, HT⟩, HB⟩
  sl_exec
  sl_step
  isplitl [HP]
  · iexists (sP.view.writes (Elt F) fp [⟨Rect.unit (k4_off35 k) S16.size (k4_off35_inb k), prePay L (rowLd g k)⟩])
    isplitr
    · ipureintro
      exact fun x hx => Mem.fill_step (Val := Elt F) (n := 512) (c := 16) (fun c y => y = preV key (wid L) b c) sP.view fp (off := k4_off35 k) (k4_off35_inb k) (prePay L (rowLd g k))
        (b := 16 * k.val) (by rw [k4_off35_eq]; rfl) (by omega) hp (fun i => prePay_eq L key b g hg k i) x hx
    · iexact HP
  isplitl [HT]
  · iexists (sT.view.writes (Elt F) ft [⟨Rect.unit (k4_off35 k) S16.size (k4_off35_inb k), totPay (rowLd g k)⟩])
    isplitr
    · ipureintro
      exact fun x hx => Mem.fill_step (Val := Elt F) (n := 512) (c := 16) (fun c y => y = totV key b c) sT.view ft (off := k4_off35 k) (k4_off35_inb k) (totPay (rowLd g k))
        (b := 16 * k.val) (by rw [k4_off35_eq]; rfl) (by omega) ht (fun i => totPay_eq key b g hg k i) x hx
    · iexact HT
  · iexact HB

/-- The words of smaller keys, for the `n` first keys of the scratch, each with those of the same key in the chunks before this tile's. -/
def OffTo (key : ℕ → ℕ) (w n : ℕ) (f : sO.view.ty.Contents (Elt F)) : Prop :=
  ∀ x : S8192.Idx, (x 0).val < n → sO.view.read (Elt F) f x = BitVec.ofNat 32 (Counting.below key 503808 (x 0).val + Counting.cnt key 0 (w * 15744) (x 0).val)

/-- How often each of the `n` first keys occurs, and the words of smaller keys. -/
def CntTo (key : ℕ → ℕ) (n : ℕ) (f : sC.view.ty.Contents (Elt F)) : Prop :=
  ∀ x : S8192.Idx, (x 0).val < n → sC.view.read (Elt F) f x = BitVec.ofNat 32 (Counting.cnt key 0 503808 (x 0).val)
def BelTo (key : ℕ → ℕ) (n : ℕ) (f : sL.view.ty.Contents (Elt F)) : Prop :=
  ∀ x : S8192.Idx, (x 0).val < n → sL.view.read (Elt F) f x = BitVec.ofNat 32 (Counting.below key 503808 (x 0).val)

/-- While the offsets of block `b` are being stored: the carried word is the number of words of keys below those done. -/
def inv3 (key : ℕ → ℕ) (b : ℕ) (fp : sP.view.ty.Contents (Elt F)) (ft : sT.view.ty.Contents (Elt F)) (k : ℕ) (acc : BitVec 32) : sProp 𝕄 :=
  iprop(⌜acc = BitVec.ofNat 32 (Counting.below key 503808 (512 * b + 16 * k))⌝
    ∗ (∃ f : sO.view.ty.Contents (Elt F), ⌜OffTo key (wid L) (512 * b + 16 * k) f⌝ ∗ (sO.view.loc (thr d L) ↦{fullShare} f))
    ∗ (∃ f : sC.view.ty.Contents (Elt F), ⌜CntTo key (512 * b + 16 * k) f⌝ ∗ (sC.view.loc (thr d L) ↦{fullShare} f))
    ∗ (∃ f : sL.view.ty.Contents (Elt F), ⌜BelTo key (512 * b + 16 * k) f⌝ ∗ (sL.view.loc (thr d L) ↦{fullShare} f))
    ∗ (sP.view.loc (thr d L) ↦{fullShare} fp) ∗ (sT.view.loc (thr d L) ↦{fullShare} ft))

theorem off_store (key : ℕ → ℕ) (b : Fin k4_t1_loop.trips) (k : Fin k4_t3_loop.trips) (acc : BitVec 32) (hacc : acc = BitVec.ofNat 32 (Counting.below key 503808 (512 * b.val + 16 * k.val)))
    (vt vp : Vec F S16 .i32) (ht : ∀ i : S16.Idx, vt i = totV key b.val (16 * k.val + (i 0).val)) (hp : ∀ i : S16.Idx, vp i = preV key (wid L) b.val (16 * k.val + (i 0).val))
    (f : sO.view.ty.Contents (Elt F)) (hf : OffTo key (wid L) (512 * b.val + 16 * k.val) f) :
    OffTo key (wid L) (512 * b.val + 16 * (k.val + 1)) (sO.view.writes (Elt F) f [⟨Rect.unit (s := S8192) (k4_off37 b k) S16.size (k4_off37_inb b k), k4_pay57 acc vt vp⟩]) := by
  intro x hx
  refine Mem.fill_step (Val := Elt F) (n := 8192) (c := 16) (fun c y => y = BitVec.ofNat 32 (Counting.below key 503808 c + Counting.cnt key 0 (wid L * 15744) c)) sO.view f
    (off := k4_off37 b k) (k4_off37_inb b k) (k4_pay57 acc vt vp) (b := 512 * b.val + 16 * k.val) (b' := 512 * b.val + 16 * (k.val + 1)) (by rw [k4_off37_eq]; rfl) (by omega) hf (fun i => ?_) x hx
  have e1 := RankLib.scan_below key 503808 (512 * b.val + 16 * k.val) vt acc (fun i => (ht i).trans (by unfold totV; rw [Nat.add_assoc])) hacc i
  have e2 : vp i = BitVec.ofNat 32 (Counting.cnt key 0 (wid L * 15744) (512 * b.val + 16 * k.val + (i 0).val)) := (hp i).trans (by unfold preV; rw [Nat.add_assoc])
  show (scan .sum vt i - vt i + acc) + vp i = _
  rw [e1, e2, ← BitVec.ofNat_add]

theorem cnt_store (key : ℕ → ℕ) (b : Fin k4_t1_loop.trips) (k : Fin k4_t3_loop.trips)
    (vt : Vec F S16 .i32) (ht : ∀ i : S16.Idx, vt i = totV key b.val (16 * k.val + (i 0).val))
    (f : sC.view.ty.Contents (Elt F)) (hf : CntTo key (512 * b.val + 16 * k.val) f) :
    CntTo key (512 * b.val + 16 * (k.val + 1)) (sC.view.writes (Elt F) f [⟨Rect.unit (s := S8192) (k4_off37 b k) S16.size (k4_off37_inb b k), vt⟩]) := by
  intro x hx
  refine Mem.fill_step (Val := Elt F) (n := 8192) (c := 16) (fun c y => y = BitVec.ofNat 32 (Counting.cnt key 0 503808 c)) sC.view f
    (off := k4_off37 b k) (k4_off37_inb b k) vt (b := 512 * b.val + 16 * k.val) (b' := 512 * b.val + 16 * (k.val + 1)) (by rw [k4_off37_eq]; rfl) (by omega) hf (fun i => ?_) x hx
  exact (ht i).trans (by unfold totV; rw [Nat.add_assoc])

theorem bel_store (key : ℕ → ℕ) (b : Fin k4_t1_loop.trips) (k : Fin k4_t3_loop.trips) (acc : BitVec 32) (hacc : acc = BitVec.ofNat 32 (Counting.below key 503808 (512 * b.val + 16 * k.val)))
    (vt : Vec F S16 .i32) (ht : ∀ i : S16.Idx, vt i = totV key b.val (16 * k.val + (i 0).val))
    (f : sL.view.ty.Contents (Elt F)) (hf : BelTo key (512 * b.val + 16 * k.val) f) :
    BelTo key (512 * b.val + 16 * (k.val + 1)) (sL.view.writes (Elt F) f [⟨Rect.unit (s := S8192) (k4_off37 b k) S16.size (k4_off37_inb b k), k4_pay56 acc vt⟩]) := by
  intro x hx
  refine Mem.fill_step (Val := Elt F) (n := 8192) (c := 16) (fun c y => y = BitVec.ofNat 32 (Counting.below key 503808 c)) sL.view f
    (off := k4_off37 b k) (k4_off37_inb b k) (k4_pay56 acc vt) (b := 512 * b.val + 16 * k.val) (b' := 512 * b.val + 16 * (k.val + 1)) (by rw [k4_off37_eq]; rfl) (by omega) hf (fun i => ?_) x hx
  exact RankLib.scan_below key 503808 (512 * b.val + 16 * k.val) vt acc (fun i => (ht i).trans (by unfold totV; rw [Nat.add_assoc])) hacc i

set_option maxHeartbeats 1000000 in
theorem step3 (key : ℕ → ℕ) (b : Fin k4_t1_loop.trips) (fp : sP.view.ty.Contents (Elt F)) (ft : sT.view.ty.Contents (Elt F))
    (hp : ∀ x : S512.Idx, sP.view.read (Elt F) fp x = preV key (wid L) b.val (x 0).val) (ht : ∀ x : S512.Idx, sT.view.read (Elt F) ft x = totV key b.val (x 0).val)
    (k : Fin k4_t3_loop.trips) (acc : BitVec 32) :
    inv3 (F := F) d L key b.val fp ft k.val acc ⊢ wp frame (wpE (defs₀ (F := F)) 𝒱₀ (thr d L) none) Set.univ
      (k4_t3_body L p1M (Memref.isWhole_whole _) hbM (Memref.isWhole_whole _) piM (Memref.isWhole_whole _) hiM (Memref.isWhole_whole _) stM (Memref.isWhole_whole _) enM (Memref.isWhole_whole _)
        sD (Memref.isWhole_whole _) sV (Memref.isWhole_whole _) sX (Memref.isWhole_whole _) sO (Memref.isWhole_whole _) sB (Memref.isWhole_whole _) sP (Memref.isWhole_whole _)
        sT (Memref.isWhole_whole _) sC (Memref.isWhole_whole _) sL (Memref.isWhole_whole _) uH (Memref.isWhole_whole _) uS (Memref.isWhole_whole _) uE (Memref.isWhole_whole _) cc4_scratch12 cc4_scoped0 cc4_scoped1 cc4_scoped2 cc4_scoped3 cc4_scoped4 cc4_scoped5 cc4_scoped6 cc4_scoped7 b k acc)
      (inv3 d L key b.val fp ft (k.val + 1)) := by
  have hk : k.val < 32 := k.isLt
  have hvt : ∀ i : S16.Idx, (sT.view.readAt (Elt F) (Rect.unit (s := S512) (k4_off36 k) S16.size (k4_off36_inb k)).toLoadRect ft) i = totV key b.val (16 * k.val + (i 0).val) := by
    intro i
    have hi : (i 0).val < 16 := (i 0).isLt
    exact (Mem.readAt_unit (Val := Elt F) (n := 512) (c := 16) sT.view ft (off := k4_off36 k) (k4_off36_inb k) i
      (Shape.ofLane (d := ![512]) ⟨16 * k.val + (i 0).val, by show _ < 512; omega⟩) (by rw [k4_off36_eq]; rfl)).trans (ht _)
  have hvp : ∀ i : S16.Idx, (sP.view.readAt (Elt F) (Rect.unit (s := S512) (k4_off36 k) S16.size (k4_off36_inb k)).toLoadRect fp) i = preV key (wid L) b.val (16 * k.val + (i 0).val) := by
    intro i
    have hi : (i 0).val < 16 := (i 0).isLt
    exact (Mem.readAt_unit (Val := Elt F) (n := 512) (c := 16) sP.view fp (off := k4_off36 k) (k4_off36_inb k) i
      (Shape.ofLane (d := ![512]) ⟨16 * k.val + (i 0).val, by show _ < 512; omega⟩) (by rw [k4_off36_eq]; rfl)).trans (hp _)
  unfold inv3 k4_t3_body
  iintro ⟨%hacc, ⟨%f, %hf, HO⟩, ⟨%fc, %hfc, HC⟩, ⟨%fl, %hfl, HL⟩, HP, HT⟩
  sl_exec
  sl_step
  isplitr
  · ipureintro
    have e := RankLib.scan_carry key 503808 (512 * b.val + 16 * k.val) (sT.view.readAt (Elt F) (Rect.unit (s := S512) (k4_off36 k) S16.size (k4_off36_inb k)).toLoadRect ft) acc
      (fun i => (hvt i).trans (by unfold totV; rw [Nat.add_assoc])) hacc (Shape.ofLane (d := ![16]) (⟨15, by decide⟩ : Fin 16)) rfl
    rw [show 512 * b.val + 16 * (k.val + 1) = 512 * b.val + 16 * k.val + 16 by omega]
    refine Eq.trans ?_ e
    unfold step3.sl.v64
    exact congrArg (fun z : S16.Idx => acc + scan .sum (sT.view.readAt (Elt F) (Rect.unit (s := S512) (k4_off36 k) S16.size (k4_off36_inb k)).toLoadRect ft) z)
      (Mem.ofLane_eq (n := 16) (fun a => ⟨(![15] : Fin 1 → ℕ) a, inpos_S16_p15 a⟩) (by decide) rfl)
  isplitl [HO]
  · iexists (sO.view.writes (Elt F) f [⟨Rect.unit (s := S8192) (k4_off37 b k) S16.size (k4_off37_inb b k), k4_pay57 acc (sT.view.readAt (Elt F) (Rect.unit (s := S512) (k4_off36 k) S16.size (k4_off36_inb k)).toLoadRect ft)
      (sP.view.readAt (Elt F) (Rect.unit (s := S512) (k4_off36 k) S16.size (k4_off36_inb k)).toLoadRect fp)⟩])
    isplitr
    · ipureintro
      exact off_store L key b k acc hacc _ _ hvt hvp f hf
    · iexact HO
  isplitl [HC]
  · iexists (sC.view.writes (Elt F) fc [⟨Rect.unit (s := S8192) (k4_off37 b k) S16.size (k4_off37_inb b k), (sT.view.readAt (Elt F) (Rect.unit (s := S512) (k4_off36 k) S16.size (k4_off36_inb k)).toLoadRect ft)⟩])
    isplitr
    · ipureintro
      exact cnt_store key b k _ hvt fc hfc
    · iexact HC
  isplitl [HL]
  · iexists (sL.view.writes (Elt F) fl [⟨Rect.unit (s := S8192) (k4_off37 b k) S16.size (k4_off37_inb b k), k4_pay56 acc (sT.view.readAt (Elt F) (Rect.unit (s := S512) (k4_off36 k) S16.size (k4_off36_inb k)).toLoadRect ft)⟩])
    isplitr
    · ipureintro
      exact bel_store key b k acc hacc _ hvt fl hfl
    · iexact HL
  isplitl [HP]; · iexact HP
  iexact HT

end Cert.Proof.RankB

end
-- ==== Proof.RankBFront.lean ====
/-
  Fourth SparseCore call, first half: the table of offsets from the histograms, and the three per-tile results.
-/
module

public import proofs.«01_k».proof.Proof.Base
public import proofs.«01_k».proof.Proof.RankB

@[expose] public section

set_option maxRecDepth 16384

noncomputable section

namespace Cert.Proof.RankB

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 4) (Elt F) ℕ UU ℕ

variable (d : Dev nD) (L : grid4.Coords)

/-- A tile's copy of its chunk of the array `A`. -/
def IsChunk (A : S503808.Idx → Elt F .i32) (w : ℕ) (g : sD.view.ty.Contents (Elt F)) : Prop :=
  ∀ x : S15744.Idx, sD.view.read (Elt F) g x = wAt A (w * 15744 + (x 0).val)

/-- While the table of offsets is built, block by block. -/
def inv1 (key : ℕ → ℕ) (q : PosShare TreeShare) (H : S512x512.Idx → Elt F .i32) (O : CellTallies nD τ sig (HIx 4)) (W : Waits sig (HIx 4)) (k : ℕ) (acc : BitVec 32) : sProp 𝕄 :=
  iprop(Transfers.MayWaits (thr d L) (none : HIx 4) O
    ∗ ⌜acc = BitVec.ofNat 32 (Counting.below key 503808 (512 * k))⌝
    ∗ (∃ f : sO.view.ty.Contents (Elt F), ⌜OffTo key (wid L) (512 * k) f⌝ ∗ (sO.view.loc (thr d L) ↦{fullShare} f))
    ∗ (∃ f : sC.view.ty.Contents (Elt F), ⌜CntTo key (512 * k) f⌝ ∗ (sC.view.loc (thr d L) ↦{fullShare} f))
    ∗ (∃ f : sL.view.ty.Contents (Elt F), ⌜BelTo key (512 * k) f⌝ ∗ (sL.view.loc (thr d L) ↦{fullShare} f))
    ∗ (∃ g : sB.view.ty.Contents (Elt F), (sB.view.loc (thr d L) ↦{fullShare} g))
    ∗ (∃ g : sP.view.ty.Contents (Elt F), (sP.view.loc (thr d L) ↦{fullShare} g))
    ∗ (∃ g : sT.view.ty.Contents (Elt F), (sT.view.loc (thr d L) ↦{fullShare} g))
    ∗ (hbM.view.loc (thr d L) ↦{q} H) ∗ semVal (c1 d L) 0
    ∗ ∃ W', ⌜∀ p ∈ W', p ∈ W ∨ p.2 = none⌝ ∗ owes (thr d L) O W')

theorem blk_read (key : ℕ → ℕ) (k : Fin k4_t1_loop.trips) (x : S32x512.Idx) :
    (hbM.slice (Rect.unit (s := S512x512) (k4_off2 k) S32x512.size (k4_off2_inb k)) (fun _ => rfl)).view.read (Elt F) (histTab key : S512x512.Idx → Elt F .i32) x
      = BitVec.ofNat 32 (Counting.cnt key ((x 0).val * 15744) ((x 0).val * 15744 + 15744) (512 * k.val + (x 1).val)) := by
  have hx : (x 0).val < 32 := (x 0).isLt
  have e0 : (((Rect.unit (s := S512x512) (k4_off2 k) S32x512.size (k4_off2_inb k)).emb x) 0).val = 32 * k.val + (x 0).val := by
    show k4_off2 k 0 + 1 * (x 0).val = _
    rw [k4_off2_eq]; show 32 * k.val + 1 * (x 0).val = _; omega
  have e1 : (((Rect.unit (s := S512x512) (k4_off2 k) S32x512.size (k4_off2_inb k)).emb x) 1).val = (x 1).val := by
    show k4_off2 k 1 + 1 * (x 1).val = _
    rw [k4_off2_eq]; show 0 + 1 * (x 1).val = _; omega
  show (histTab key ((Rect.unit (s := S512x512) (k4_off2 k) S32x512.size (k4_off2_inb k)).emb x) : BitVec 32) = _
  unfold histTab
  rw [e0, e1, show (32 * k.val + (x 0).val) % 32 = (x 0).val by omega, show (32 * k.val + (x 0).val) / 32 = k.val by omega]

set_option maxHeartbeats 1000000 in
theorem step1 (key : ℕ → ℕ) (q : PosShare TreeShare) (O : CellTallies nD τ sig (HIx 4)) (W : Waits sig (HIx 4)) (k : Fin k4_t1_loop.trips) (acc : BitVec 32) :
    inv1 (F := F) d L key q (histTab key : S512x512.Idx → Elt F .i32) O W k.val acc ⊢ wp frame (wpE (defs₀ (F := F)) 𝒱₀ (thr d L) none) Set.univ
      (k4_t1_body L p1M (Memref.isWhole_whole _) hbM (Memref.isWhole_whole _) piM (Memref.isWhole_whole _) hiM (Memref.isWhole_whole _) stM (Memref.isWhole_whole _) enM (Memref.isWhole_whole _)
        sD (Memref.isWhole_whole _) sV (Memref.isWhole_whole _) sX (Memref.isWhole_whole _) sO (Memref.isWhole_whole _) sB (Memref.isWhole_whole _) sP (Memref.isWhole_whole _)
        sT (Memref.isWhole_whole _) sC (Memref.isWhole_whole _) sL (Memref.isWhole_whole _) uH (Memref.isWhole_whole _) uS (Memref.isWhole_whole _) uE (Memref.isWhole_whole _) cc4_scratch12 cc4_scoped0 cc4_scoped1 cc4_scoped2 cc4_scoped3 cc4_scoped4 cc4_scoped5 cc4_scoped6 cc4_scoped7 (Scalar.addi (Scalar.muli (BitVec.ofNat 32 (L 1).val) 2#32) (BitVec.ofNat 32 (L 0).val)) k acc)
      (inv1 d L key q (histTab key : S512x512.Idx → Elt F .i32) O W (k.val + 1)) := by
  unfold inv1 k4_t1_body
  iintro ⟨#Hmw, %hacc, ⟨%f, %hf, HO⟩, ⟨%fc, %hfc, HC⟩, ⟨%fl, %hfl, HL⟩, ⟨%g0, HB⟩, ⟨%fp0, HP⟩, ⟨%ft0, HT⟩, Hhb, Hsem, %W', %hW', HW⟩
  sl_exec
  have hg : IsBlk key k.val (View.write (Elt F) sB.view g0 (step1.sl.dma0 (F := F) key k) Finset.univ) := by
    intro x
    rw [show sB.view.read (Elt F) (View.write (Elt F) sB.view g0 (step1.sl.dma0 key k) Finset.univ) x = step1.sl.dma0 key k x from
      congrFun (View.write_whole_univ (Val := Elt F) cc4_scratch4 g0 (step1.sl.dma0 key k)) x]
    unfold step1.sl.dma0
    exact blk_read key k x
  sl_for (inv2 d L key k.val (View.write (Elt F) sB.view g0 (step1.sl.dma0 (F := F) key k) Finset.univ)) $$ [HB HP HT]
  case region => exact fun k' a => step2 d L key k.val _ hg k' a
  · unfold inv2
    isplitl [HP]
    · iexists fp0; isplitr
      · ipureintro; intro x hx; exact absurd hx (by omega)
      · iexact HP
    isplitl [HT]
    · iexists ft0; isplitr
      · ipureintro; intro x hx; exact absurd hx (by omega)
      · iexact HT
    iexact HB
  iintro %_ HI
  rw [show Scf.trips k4_t2_loop.lb k4_t2_loop.ub k4_t2_loop.st = 32 by decide]
  unfold inv2
  icases HI with ⟨⟨%fp, %hp, HP⟩, ⟨%ft, %ht, HT⟩, HB⟩
  sl_exec
  sl_for (inv3 d L key k.val fp ft) $$ [HO HC HL HP HT]
  case region => exact fun k' a => step3 d L key k fp ft (fun x => hp x (x 0).isLt) (fun x => ht x (x 0).isLt) k' a
  · unfold inv3
    isplitr
    · ipureintro; exact hacc
    isplitl [HO]
    · iexists f; isplitr
      · ipureintro; exact hf
      · iexact HO
    isplitl [HC]
    · iexists fc; isplitr
      · ipureintro; exact hfc
      · iexact HC
    isplitl [HL]
    · iexists fl; isplitr
      · ipureintro; exact hfl
      · iexact HL
    isplitl [HP]; · iexact HP
    iexact HT
  iintro %acc' HI
  rw [show Scf.trips k4_t3_loop.lb k4_t3_loop.ub k4_t3_loop.st = 32 by decide]
  unfold inv3
  icases HI with ⟨%hacc', ⟨%f', %hf', HO⟩, ⟨%fc', %hfc', HC⟩, ⟨%fl', %hfl', HL⟩, HP, HT⟩
  sl_exec
  sl_step
  rw [show 512 * (k.val + 1) = 512 * k.val + 16 * 32 by omega]
  isplitr; · iexact Hmw
  isplitr
  · ipureintro; exact hacc'
  isplitl [HO]
  · iexists f'; isplitr
    · ipureintro; exact hf'
    · iexact HO
  isplitl [HC]
  · iexists fc'; isplitr
    · ipureintro; exact hfc'
    · iexact HC
  isplitl [HL]
  · iexists fl'; isplitr
    · ipureintro; exact hfl'
    · iexact HL
  isplitl [HB]; · iexists _; iexact HB
  isplitl [HP]; · iexists _; iexact HP
  isplitl [HT]; · iexists _; iexact HT
  isplitl [Hhb]; · iexact Hhb
  isplitl [Hsem]; · iexact Hsem
  iexists _
  isplitr
  rotate_left
  · iexact HW
  ipureintro
  intro p hp
  rcases Finset.mem_insert.mp hp with rfl | hp
  · exact Or.inr rfl
  · exact hW' p hp

/-- How many words carry tile `c`, and the first and the last-plus-one place of tile `c` where it has any. -/
def tH (key : ℕ → ℕ) (c : ℕ) : BitVec 32 := BitVec.ofNat 32 (Counting.cnt key 0 503808 c)
def tS (key : ℕ → ℕ) (c : ℕ) : BitVec 32 := if Counting.cnt key 0 503808 c = 0 then 0 else BitVec.ofNat 32 (Counting.below key 503808 c)
def tE (key : ℕ → ℕ) (c : ℕ) : BitVec 32 := if Counting.cnt key 0 503808 c = 0 then 0 else BitVec.ofNat 32 (Counting.below key 503808 (c + 1))

/-- The first `n` words of the three small tables, for the tiles from `256 w` on. -/
def HTo (key : ℕ → ℕ) (w n : ℕ) (f : uH.view.ty.Contents (Elt F)) : Prop :=
  ∀ x : S256.Idx, (x 0).val < n → uH.view.read (Elt F) f x = tH key (256 * w + (x 0).val)
def STo (key : ℕ → ℕ) (w n : ℕ) (f : uS.view.ty.Contents (Elt F)) : Prop :=
  ∀ x : S256.Idx, (x 0).val < n → uS.view.read (Elt F) f x = tS key (256 * w + (x 0).val)
def ETo (key : ℕ → ℕ) (w n : ℕ) (f : uE.view.ty.Contents (Elt F)) : Prop :=
  ∀ x : S256.Idx, (x 0).val < n → uE.view.read (Elt F) f x = tE key (256 * w + (x 0).val)

/-- While the three small tables are filled. -/
def inv5 (key : ℕ → ℕ) (fc : sC.view.ty.Contents (Elt F)) (fl : sL.view.ty.Contents (Elt F)) (k : ℕ) (_ : PUnit) : sProp 𝕄 :=
  iprop((∃ f : uH.view.ty.Contents (Elt F), ⌜HTo key (wid L) (16 * k) f⌝ ∗ (uH.view.loc (thr d L) ↦{fullShare} f))
    ∗ (∃ f : uS.view.ty.Contents (Elt F), ⌜STo key (wid L) (16 * k) f⌝ ∗ (uS.view.loc (thr d L) ↦{fullShare} f))
    ∗ (∃ f : uE.view.ty.Contents (Elt F), ⌜ETo key (wid L) (16 * k) f⌝ ∗ (uE.view.loc (thr d L) ↦{fullShare} f))
    ∗ (sC.view.loc (thr d L) ↦{fullShare} fc) ∗ (sL.view.loc (thr d L) ↦{fullShare} fl))

/-- The word that is one where a count is not zero. -/
theorem pay59_eq (v : Vec F S16 .i32) (i : S16.Idx) (n : ℕ) (hn : n ≤ 503808) (h : v i = BitVec.ofNat 32 n) :
    k4_pay59 v i = if n = 0 then 0#32 else 1#32 := by
  show BitVec.setWidth 32 (BitVec.ofBool ((0#32 : BitVec 32).slt (show BitVec 32 from v i))) = _
  rw [show (show BitVec 32 from v i) = BitVec.ofNat 32 n from h]
  by_cases hz : n = 0
  · subst hz; rfl
  · rw [if_neg hz, show (0#32 : BitVec 32).slt (BitVec.ofNat 32 n) = true by
      rw [BitVec.slt_eq_decide, decide_eq_true_iff, BitVec.toInt_eq_toNat_of_lt (x := BitVec.ofNat 32 n) (by rw [BitVec.toNat_ofNat]; omega), BitVec.toNat_ofNat]
      show (0 : ℤ) < _
      omega]
    rfl

theorem pay60_eq (key : ℕ → ℕ) (vc vl : Vec F S16 .i32) (i : S16.Idx) (c : ℕ) (hc : vc i = BitVec.ofNat 32 (Counting.cnt key 0 503808 c)) (hl : vl i = BitVec.ofNat 32 (Counting.below key 503808 c)) :
    k4_pay60 vc vl i = tS key c := by
  show (show BitVec 32 from vl i) * k4_pay59 vc i = _
  rw [pay59_eq vc i _ (Counting.cnt_le key 0 503808 c) hc, show (show BitVec 32 from vl i) = _ from hl]
  unfold tS
  split
  · exact BitVec.mul_zero
  · exact BitVec.mul_one _

theorem pay61_eq (key : ℕ → ℕ) (vc vl : Vec F S16 .i32) (i : S16.Idx) (c : ℕ) (hc : vc i = BitVec.ofNat 32 (Counting.cnt key 0 503808 c)) (hl : vl i = BitVec.ofNat 32 (Counting.below key 503808 c)) :
    k4_pay61 vc vl i = tE key c := by
  show ((show BitVec 32 from vl i) + (show BitVec 32 from vc i)) * k4_pay59 vc i = _
  rw [pay59_eq vc i _ (Counting.cnt_le key 0 503808 c) hc, show (show BitVec 32 from vl i) = _ from hl, show (show BitVec 32 from vc i) = _ from hc, ← BitVec.ofNat_add, ← Counting.below_succ]
  unfold tE
  split
  · exact BitVec.mul_zero
  · exact BitVec.mul_one _

theorem trips5 : (k4_t4_loop L).trips = if wid L = 31 then 14 else 16 := by
  have h := (by decide +kernel : ∀ L : grid4.Coords, (k4_t4_loop L).trips = if 2 * (L 1).val + (L 0).val = 31 then 14 else 16)
  exact h L

set_option maxHeartbeats 1000000 in
theorem step5 (key : ℕ → ℕ) (fc : sC.view.ty.Contents (Elt F)) (fl : sL.view.ty.Contents (Elt F)) (hfc : CntTo key 8192 fc) (hfl : BelTo key 8192 fl)
    (k : Fin (k4_t4_loop L).trips) (a : PUnit) :
    inv5 (F := F) d L key fc fl k.val a ⊢ wp frame (wpE (defs₀ (F := F)) 𝒱₀ (thr d L) none) Set.univ
      (k4_t4_body L p1M (Memref.isWhole_whole _) hbM (Memref.isWhole_whole _) piM (Memref.isWhole_whole _) hiM (Memref.isWhole_whole _) stM (Memref.isWhole_whole _) enM (Memref.isWhole_whole _)
        sD (Memref.isWhole_whole _) sV (Memref.isWhole_whole _) sX (Memref.isWhole_whole _) sO (Memref.isWhole_whole _) sB (Memref.isWhole_whole _) sP (Memref.isWhole_whole _)
        sT (Memref.isWhole_whole _) sC (Memref.isWhole_whole _) sL (Memref.isWhole_whole _) uH (Memref.isWhole_whole _) uS (Memref.isWhole_whole _) uE (Memref.isWhole_whole _) cc4_scratch12 cc4_scoped0 cc4_scoped1 cc4_scoped2 cc4_scoped3 cc4_scoped4 cc4_scoped5 cc4_scoped6 cc4_scoped7 k a)
      (inv5 d L key fc fl (k.val + 1)) := by
  have hk : k.val < 16 := lt_of_lt_of_le k.isLt (by rw [trips5]; split <;> decide)
  have hw := wid_lt L
  have hoff : k4_off38 L k 0 = 256 * wid L + 16 * k.val := by rw [k4_off38_eq]; show 512 * (L 1).val + 256 * (L 0).val + 16 * k.val = _; unfold wid; omega
  have hvc : ∀ i : S16.Idx, (sC.view.readAt (Elt F) (Rect.unit (s := S8192) (k4_off38 L k) S16.size (k4_off38_inb L k)).toLoadRect fc) i
      = BitVec.ofNat 32 (Counting.cnt key 0 503808 (256 * wid L + (16 * k.val + (i 0).val))) := by
    intro i
    have hi : (i 0).val < 16 := (i 0).isLt
    refine (Mem.readAt_unit (Val := Elt F) (n := 8192) (c := 16) sC.view fc (off := k4_off38 L k) (k4_off38_inb L k) i
      (Shape.ofLane (d := ![8192]) ⟨256 * wid L + (16 * k.val + (i 0).val), by show _ < 8192; omega⟩) (by rw [hoff]; show 256 * wid L + (16 * k.val + (i 0).val) = _; omega)).trans (hfc _ ?_)
    show 256 * wid L + (16 * k.val + (i 0).val) < 8192
    omega
  have hvl : ∀ i : S16.Idx, (sL.view.readAt (Elt F) (Rect.unit (s := S8192) (k4_off38 L k) S16.size (k4_off38_inb L k)).toLoadRect fl) i
      = BitVec.ofNat 32 (Counting.below key 503808 (256 * wid L + (16 * k.val + (i 0).val))) := by
    intro i
    have hi : (i 0).val < 16 := (i 0).isLt
    refine (Mem.readAt_unit (Val := Elt F) (n := 8192) (c := 16) sL.view fl (off := k4_off38 L k) (k4_off38_inb L k) i
      (Shape.ofLane (d := ![8192]) ⟨256 * wid L + (16 * k.val + (i 0).val), by show _ < 8192; omega⟩) (by rw [hoff]; show 256 * wid L + (16 * k.val + (i 0).val) = _; omega)).trans (hfl _ ?_)
    show 256 * wid L + (16 * k.val + (i 0).val) < 8192
    omega
  unfold inv5 k4_t4_body
  iintro ⟨⟨%fh, %hfh, HH⟩, ⟨%fs, %hfs, HS⟩, ⟨%fe, %hfe, HE⟩, HC, HL⟩
  sl_exec
  sl_step
  isplitl [HH]
  · iexists (uH.view.writes (Elt F) fh [⟨Rect.unit (s := S256) (k4_off39 L k) S16.size (k4_off39_inb L k), (sC.view.readAt (Elt F) (Rect.unit (s := S8192) (k4_off38 L k) S16.size (k4_off38_inb L k)).toLoadRect fc)⟩])
    isplitr
    · ipureintro
      exact fun x hx => Mem.fill_step (Val := Elt F) (n := 256) (c := 16) (fun c y => y = tH key (256 * wid L + c)) uH.view fh (off := k4_off39 L k) (k4_off39_inb L k) ((sC.view.readAt (Elt F) (Rect.unit (s := S8192) (k4_off38 L k) S16.size (k4_off38_inb L k)).toLoadRect fc))
        (b := 16 * k.val) (b' := 16 * (k.val + 1)) (by rw [k4_off39_eq]; rfl) (by omega) hfh (fun i => hvc i) x hx
    · iexact HH
  isplitl [HS]
  · iexists (uS.view.writes (Elt F) fs [⟨Rect.unit (s := S256) (k4_off39 L k) S16.size (k4_off39_inb L k), k4_pay60 (sC.view.readAt (Elt F) (Rect.unit (s := S8192) (k4_off38 L k) S16.size (k4_off38_inb L k)).toLoadRect fc) (sL.view.readAt (Elt F) (Rect.unit (s := S8192) (k4_off38 L k) S16.size (k4_off38_inb L k)).toLoadRect fl)⟩])
    isplitr
    · ipureintro
      exact fun x hx => Mem.fill_step (Val := Elt F) (n := 256) (c := 16) (fun c y => y = tS key (256 * wid L + c)) uS.view fs (off := k4_off39 L k) (k4_off39_inb L k) (k4_pay60 (sC.view.readAt (Elt F) (Rect.unit (s := S8192) (k4_off38 L k) S16.size (k4_off38_inb L k)).toLoadRect fc) (sL.view.readAt (Elt F) (Rect.unit (s := S8192) (k4_off38 L k) S16.size (k4_off38_inb L k)).toLoadRect fl))
        (b := 16 * k.val) (b' := 16 * (k.val + 1)) (by rw [k4_off39_eq]; rfl) (by omega) hfs (fun i => pay60_eq key _ _ i _ (hvc i) (hvl i)) x hx
    · iexact HS
  isplitl [HE]
  · iexists (uE.view.writes (Elt F) fe [⟨Rect.unit (s := S256) (k4_off39 L k) S16.size (k4_off39_inb L k), k4_pay61 (sC.view.readAt (Elt F) (Rect.unit (s := S8192) (k4_off38 L k) S16.size (k4_off38_inb L k)).toLoadRect fc) (sL.view.readAt (Elt F) (Rect.unit (s := S8192) (k4_off38 L k) S16.size (k4_off38_inb L k)).toLoadRect fl)⟩])
    isplitr
    · ipureintro
      exact fun x hx => Mem.fill_step (Val := Elt F) (n := 256) (c := 16) (fun c y => y = tE key (256 * wid L + c)) uE.view fe (off := k4_off39 L k) (k4_off39_inb L k) (k4_pay61 (sC.view.readAt (Elt F) (Rect.unit (s := S8192) (k4_off38 L k) S16.size (k4_off38_inb L k)).toLoadRect fc) (sL.view.readAt (Elt F) (Rect.unit (s := S8192) (k4_off38 L k) S16.size (k4_off38_inb L k)).toLoadRect fl))
        (b := 16 * k.val) (b' := 16 * (k.val + 1)) (by rw [k4_off39_eq]; rfl) (by omega) hfe (fun i => pay61_eq key _ _ i _ (hvc i) (hvl i)) x hx
    · iexact HE
  isplitl [HC]; · iexact HC
  iexact HL

abbrev hiW (h : k4_cond1 L = 1#1) : Memref sig .scVector .hbm S256 .i32 := hiM.slice (Rect.unit (s := S8160) (k4_off42 L) S256.size (k4_off42_inb L h)) (fun _ => rfl)
theorem hiW_emb (h : k4_cond1 L = 1#1) (y : S256.Idx) : (((hiW L h ).view.emb y : S8160.Idx) 0).val = 256 * wid L + (y 0).val := by
  have ho : k4_off42 L 0 = 256 * wid L := by rw [k4_off42_eq]; show 512 * (L 1).val + 256 * (L 0).val = _; unfold wid; omega
  show (k4_off42 L 0 + 1 * (y 0).val) = _
  rw [ho]; omega
theorem hiW_set (h : k4_cond1 L = 1#1) (hc : wid L ≠ 31) : ((hiW L h ).view.set : Finset S8160.Idx) = tilePart (wid L) := by
  have hw := wid_lt L
  ext x
  have hx8 : (x 0).val < 8160 := (x 0).isLt
  unfold tilePart
  rw [Finset.mem_filter]
  constructor
  · intro hx
    obtain ⟨y, -, rfl⟩ := Finset.mem_map.mp hx
    have hy : (y 0).val < 256 := (y 0).isLt
    refine ⟨Finset.mem_univ _, ?_⟩
    have e := hiW_emb L h y
    have e' : ∀ n : ℕ, n = 256 * wid L + (y 0).val → n / 256 = wid L := by intro n hn; omega
    exact e' _ e
  · rintro ⟨-, hx⟩
    have hlt : (x 0).val - (256 * wid L) < 256 := by omega
    refine Finset.mem_map.mpr ⟨Shape.ofLane (d := ![256]) ⟨(x 0).val - (256 * wid L), hlt⟩, Finset.mem_univ _, ?_⟩
    refine (Mem.ofLane_eq (n := 8160) _ hx8 ?_).trans (Mem.ofLane_eq (n := 8160) x hx8 rfl).symm
    rw [hiW_emb]
    show 256 * wid L + ((x 0).val - (256 * wid L)) = _
    omega
theorem hiW_to (h : k4_cond1 L = 1#1) (hc : wid L ≠ 31) (f : S8160.Idx → Elt F .i32) : (hiM.view.loc (thr d L) ↦[tilePart (wid L)]{fullShare} f : sProp 𝕄)
    = ((hiW L h ).view.loc (thr d L) ↦[(hiW L h ).view.set]{fullShare} f) := by
  rw [show ((hiW L h ).view.set : Finset S8160.Idx) = tilePart (wid L) from hiW_set L h hc]
theorem hiW_back (h : k4_cond1 L = 1#1) (hc : wid L ≠ 31) (A : S503808.Idx → Elt F .i32) (f : S8160.Idx → Elt F .i32) (w : S256.Idx → Elt F .i32)
    (hf : ∀ y : S256.Idx, w y = tH (keyB A) (256 * wid L + (y 0).val)) :
    ((hiW L h ).view.loc (thr d L) ↦[(hiW L h ).view.set]{fullShare} ((hiW L h ).view.writes (Elt F) f [⟨Rect.whole S256, w⟩]) : sProp 𝕄)
      = (hiM.view.loc (thr d L) ↦[tilePart (wid L)]{fullShare} (tileHist A : S8160.Idx → Elt F .i32)) := by
  rw [hiW_to d L h hc]
  refine pointsTo_congr fun x hx => ?_
  obtain ⟨y, -, rfl⟩ := Finset.mem_map.mp hx
  have e1 : (hiW L h ).view.read (Elt F) ((hiW L h ).view.writes (Elt F) f [⟨Rect.whole S256, w⟩]) y = w y :=
    View.read_writes_cons_hit_of_coords _ _ (Rect.whole S256) _ [] y y fun a => (show (y a).val = 0 + 1 * (y a).val by omega)
  refine Eq.trans e1 ((hf y).trans ?_)
  rw [← hiW_emb L h y]
  rfl

abbrev hiZ : Memref sig .scVector .hbm S224 .i32 := hiM.slice (Rect.unit (s := S8160) ![7936] S224.size inb_S8160_S224_7936) (fun _ => rfl)
theorem hiZ_emb (y : S224.Idx) : (((hiZ ).view.emb y : S8160.Idx) 0).val = 7936 + (y 0).val := by
  show (7936 + 1 * (y 0).val) = _
  omega
theorem hiZ_set (hc : wid L = 31) : ((hiZ ).view.set : Finset S8160.Idx) = tilePart (wid L) := by
  have hw := wid_lt L
  ext x
  have hx8 : (x 0).val < 8160 := (x 0).isLt
  unfold tilePart
  rw [Finset.mem_filter]
  constructor
  · intro hx
    obtain ⟨y, -, rfl⟩ := Finset.mem_map.mp hx
    have hy : (y 0).val < 224 := (y 0).isLt
    refine ⟨Finset.mem_univ _, ?_⟩
    have e := hiZ_emb  y
    have e' : ∀ n : ℕ, n = 7936 + (y 0).val → n / 256 = wid L := by intro n hn; omega
    exact e' _ e
  · rintro ⟨-, hx⟩
    have hlt : (x 0).val - (7936) < 224 := by omega
    refine Finset.mem_map.mpr ⟨Shape.ofLane (d := ![224]) ⟨(x 0).val - (7936), hlt⟩, Finset.mem_univ _, ?_⟩
    refine (Mem.ofLane_eq (n := 8160) _ hx8 ?_).trans (Mem.ofLane_eq (n := 8160) x hx8 rfl).symm
    rw [hiZ_emb]
    show 7936 + ((x 0).val - (7936)) = _
    omega
theorem hiZ_to (hc : wid L = 31) (f : S8160.Idx → Elt F .i32) : (hiM.view.loc (thr d L) ↦[tilePart (wid L)]{fullShare} f : sProp 𝕄)
    = ((hiZ ).view.loc (thr d L) ↦[(hiZ ).view.set]{fullShare} f) := by
  rw [show ((hiZ ).view.set : Finset S8160.Idx) = tilePart (wid L) from hiZ_set L hc]
theorem hiZ_back (hc : wid L = 31) (A : S503808.Idx → Elt F .i32) (f : S8160.Idx → Elt F .i32) (w : S224.Idx → Elt F .i32)
    (hf : ∀ y : S224.Idx, w y = tH (keyB A) (7936 + (y 0).val)) :
    ((hiZ ).view.loc (thr d L) ↦[(hiZ ).view.set]{fullShare} ((hiZ ).view.writes (Elt F) f [⟨Rect.whole S224, w⟩]) : sProp 𝕄)
      = (hiM.view.loc (thr d L) ↦[tilePart (wid L)]{fullShare} (tileHist A : S8160.Idx → Elt F .i32)) := by
  rw [hiZ_to d L hc]
  refine pointsTo_congr fun x hx => ?_
  obtain ⟨y, -, rfl⟩ := Finset.mem_map.mp hx
  have e1 : (hiZ ).view.read (Elt F) ((hiZ ).view.writes (Elt F) f [⟨Rect.whole S224, w⟩]) y = w y :=
    View.read_writes_cons_hit_of_coords _ _ (Rect.whole S224) _ [] y y fun a => (show (y a).val = 0 + 1 * (y a).val by omega)
  refine Eq.trans e1 ((hf y).trans ?_)
  rw [← hiZ_emb  y]
  rfl

abbrev stW (h : k4_cond1 L = 1#1) : Memref sig .scVector .hbm S256 .i32 := stM.slice (Rect.unit (s := S8160) (k4_off42 L) S256.size (k4_off42_inb L h)) (fun _ => rfl)
theorem stW_emb (h : k4_cond1 L = 1#1) (y : S256.Idx) : (((stW L h ).view.emb y : S8160.Idx) 0).val = 256 * wid L + (y 0).val := by
  have ho : k4_off42 L 0 = 256 * wid L := by rw [k4_off42_eq]; show 512 * (L 1).val + 256 * (L 0).val = _; unfold wid; omega
  show (k4_off42 L 0 + 1 * (y 0).val) = _
  rw [ho]; omega
theorem stW_set (h : k4_cond1 L = 1#1) (hc : wid L ≠ 31) : ((stW L h ).view.set : Finset S8160.Idx) = tilePart (wid L) := by
  have hw := wid_lt L
  ext x
  have hx8 : (x 0).val < 8160 := (x 0).isLt
  unfold tilePart
  rw [Finset.mem_filter]
  constructor
  · intro hx
    obtain ⟨y, -, rfl⟩ := Finset.mem_map.mp hx
    have hy : (y 0).val < 256 := (y 0).isLt
    refine ⟨Finset.mem_univ _, ?_⟩
    have e := stW_emb L h y
    have e' : ∀ n : ℕ, n = 256 * wid L + (y 0).val → n / 256 = wid L := by intro n hn; omega
    exact e' _ e
  · rintro ⟨-, hx⟩
    have hlt : (x 0).val - (256 * wid L) < 256 := by omega
    refine Finset.mem_map.mpr ⟨Shape.ofLane (d := ![256]) ⟨(x 0).val - (256 * wid L), hlt⟩, Finset.mem_univ _, ?_⟩
    refine (Mem.ofLane_eq (n := 8160) _ hx8 ?_).trans (Mem.ofLane_eq (n := 8160) x hx8 rfl).symm
    rw [stW_emb]
    show 256 * wid L + ((x 0).val - (256 * wid L)) = _
    omega
theorem stW_to (h : k4_cond1 L = 1#1) (hc : wid L ≠ 31) (f : S8160.Idx → Elt F .i32) : (stM.view.loc (thr d L) ↦[tilePart (wid L)]{fullShare} f : sProp 𝕄)
    = ((stW L h ).view.loc (thr d L) ↦[(stW L h ).view.set]{fullShare} f) := by
  rw [show ((stW L h ).view.set : Finset S8160.Idx) = tilePart (wid L) from stW_set L h hc]
theorem stW_back (h : k4_cond1 L = 1#1) (hc : wid L ≠ 31) (A : S503808.Idx → Elt F .i32) (f : S8160.Idx → Elt F .i32) (w : S256.Idx → Elt F .i32)
    (hf : ∀ y : S256.Idx, w y = tS (keyB A) (256 * wid L + (y 0).val)) :
    ((stW L h ).view.loc (thr d L) ↦[(stW L h ).view.set]{fullShare} ((stW L h ).view.writes (Elt F) f [⟨Rect.whole S256, w⟩]) : sProp 𝕄)
      = (stM.view.loc (thr d L) ↦[tilePart (wid L)]{fullShare} (tileStart A : S8160.Idx → Elt F .i32)) := by
  rw [stW_to d L h hc]
  refine pointsTo_congr fun x hx => ?_
  obtain ⟨y, -, rfl⟩ := Finset.mem_map.mp hx
  have e1 : (stW L h ).view.read (Elt F) ((stW L h ).view.writes (Elt F) f [⟨Rect.whole S256, w⟩]) y = w y :=
    View.read_writes_cons_hit_of_coords _ _ (Rect.whole S256) _ [] y y fun a => (show (y a).val = 0 + 1 * (y a).val by omega)
  refine Eq.trans e1 ((hf y).trans ?_)
  rw [← stW_emb L h y]
  rfl

abbrev stZ : Memref sig .scVector .hbm S224 .i32 := stM.slice (Rect.unit (s := S8160) ![7936] S224.size inb_S8160_S224_7936) (fun _ => rfl)
theorem stZ_emb (y : S224.Idx) : (((stZ ).view.emb y : S8160.Idx) 0).val = 7936 + (y 0).val := by
  show (7936 + 1 * (y 0).val) = _
  omega
theorem stZ_set (hc : wid L = 31) : ((stZ ).view.set : Finset S8160.Idx) = tilePart (wid L) := by
  have hw := wid_lt L
  ext x
  have hx8 : (x 0).val < 8160 := (x 0).isLt
  unfold tilePart
  rw [Finset.mem_filter]
  constructor
  · intro hx
    obtain ⟨y, -, rfl⟩ := Finset.mem_map.mp hx
    have hy : (y 0).val < 224 := (y 0).isLt
    refine ⟨Finset.mem_univ _, ?_⟩
    have e := stZ_emb  y
    have e' : ∀ n : ℕ, n = 7936 + (y 0).val → n / 256 = wid L := by intro n hn; omega
    exact e' _ e
  · rintro ⟨-, hx⟩
    have hlt : (x 0).val - (7936) < 224 := by omega
    refine Finset.mem_map.mpr ⟨Shape.ofLane (d := ![224]) ⟨(x 0).val - (7936), hlt⟩, Finset.mem_univ _, ?_⟩
    refine (Mem.ofLane_eq (n := 8160) _ hx8 ?_).trans (Mem.ofLane_eq (n := 8160) x hx8 rfl).symm
    rw [stZ_emb]
    show 7936 + ((x 0).val - (7936)) = _
    omega
theorem stZ_to (hc : wid L = 31) (f : S8160.Idx → Elt F .i32) : (stM.view.loc (thr d L) ↦[tilePart (wid L)]{fullShare} f : sProp 𝕄)
    = ((stZ ).view.loc (thr d L) ↦[(stZ ).view.set]{fullShare} f) := by
  rw [show ((stZ ).view.set : Finset S8160.Idx) = tilePart (wid L) from stZ_set L hc]
theorem stZ_back (hc : wid L = 31) (A : S503808.Idx → Elt F .i32) (f : S8160.Idx → Elt F .i32) (w : S224.Idx → Elt F .i32)
    (hf : ∀ y : S224.Idx, w y = tS (keyB A) (7936 + (y 0).val)) :
    ((stZ ).view.loc (thr d L) ↦[(stZ ).view.set]{fullShare} ((stZ ).view.writes (Elt F) f [⟨Rect.whole S224, w⟩]) : sProp 𝕄)
      = (stM.view.loc (thr d L) ↦[tilePart (wid L)]{fullShare} (tileStart A : S8160.Idx → Elt F .i32)) := by
  rw [stZ_to d L hc]
  refine pointsTo_congr fun x hx => ?_
  obtain ⟨y, -, rfl⟩ := Finset.mem_map.mp hx
  have e1 : (stZ ).view.read (Elt F) ((stZ ).view.writes (Elt F) f [⟨Rect.whole S224, w⟩]) y = w y :=
    View.read_writes_cons_hit_of_coords _ _ (Rect.whole S224) _ [] y y fun a => (show (y a).val = 0 + 1 * (y a).val by omega)
  refine Eq.trans e1 ((hf y).trans ?_)
  rw [← stZ_emb  y]
  rfl

abbrev enW (h : k4_cond1 L = 1#1) : Memref sig .scVector .hbm S256 .i32 := enM.slice (Rect.unit (s := S8160) (k4_off42 L) S256.size (k4_off42_inb L h)) (fun _ => rfl)
theorem enW_emb (h : k4_cond1 L = 1#1) (y : S256.Idx) : (((enW L h ).view.emb y : S8160.Idx) 0).val = 256 * wid L + (y 0).val := by
  have ho : k4_off42 L 0 = 256 * wid L := by rw [k4_off42_eq]; show 512 * (L 1).val + 256 * (L 0).val = _; unfold wid; omega
  show (k4_off42 L 0 + 1 * (y 0).val) = _
  rw [ho]; omega
theorem enW_set (h : k4_cond1 L = 1#1) (hc : wid L ≠ 31) : ((enW L h ).view.set : Finset S8160.Idx) = tilePart (wid L) := by
  have hw := wid_lt L
  ext x
  have hx8 : (x 0).val < 8160 := (x 0).isLt
  unfold tilePart
  rw [Finset.mem_filter]
  constructor
  · intro hx
    obtain ⟨y, -, rfl⟩ := Finset.mem_map.mp hx
    have hy : (y 0).val < 256 := (y 0).isLt
    refine ⟨Finset.mem_univ _, ?_⟩
    have e := enW_emb L h y
    have e' : ∀ n : ℕ, n = 256 * wid L + (y 0).val → n / 256 = wid L := by intro n hn; omega
    exact e' _ e
  · rintro ⟨-, hx⟩
    have hlt : (x 0).val - (256 * wid L) < 256 := by omega
    refine Finset.mem_map.mpr ⟨Shape.ofLane (d := ![256]) ⟨(x 0).val - (256 * wid L), hlt⟩, Finset.mem_univ _, ?_⟩
    refine (Mem.ofLane_eq (n := 8160) _ hx8 ?_).trans (Mem.ofLane_eq (n := 8160) x hx8 rfl).symm
    rw [enW_emb]
    show 256 * wid L + ((x 0).val - (256 * wid L)) = _
    omega
theorem enW_to (h : k4_cond1 L = 1#1) (hc : wid L ≠ 31) (f : S8160.Idx → Elt F .i32) : (enM.view.loc (thr d L) ↦[tilePart (wid L)]{fullShare} f : sProp 𝕄)
    = ((enW L h ).view.loc (thr d L) ↦[(enW L h ).view.set]{fullShare} f) := by
  rw [show ((enW L h ).view.set : Finset S8160.Idx) = tilePart (wid L) from enW_set L h hc]
theorem enW_back (h : k4_cond1 L = 1#1) (hc : wid L ≠ 31) (A : S503808.Idx → Elt F .i32) (f : S8160.Idx → Elt F .i32) (w : S256.Idx → Elt F .i32)
    (hf : ∀ y : S256.Idx, w y = tE (keyB A) (256 * wid L + (y 0).val)) :
    ((enW L h ).view.loc (thr d L) ↦[(enW L h ).view.set]{fullShare} ((enW L h ).view.writes (Elt F) f [⟨Rect.whole S256, w⟩]) : sProp 𝕄)
      = (enM.view.loc (thr d L) ↦[tilePart (wid L)]{fullShare} (tileEnd A : S8160.Idx → Elt F .i32)) := by
  rw [enW_to d L h hc]
  refine pointsTo_congr fun x hx => ?_
  obtain ⟨y, -, rfl⟩ := Finset.mem_map.mp hx
  have e1 : (enW L h ).view.read (Elt F) ((enW L h ).view.writes (Elt F) f [⟨Rect.whole S256, w⟩]) y = w y :=
    View.read_writes_cons_hit_of_coords _ _ (Rect.whole S256) _ [] y y fun a => (show (y a).val = 0 + 1 * (y a).val by omega)
  refine Eq.trans e1 ((hf y).trans ?_)
  rw [← enW_emb L h y]
  rfl

abbrev enZ : Memref sig .scVector .hbm S224 .i32 := enM.slice (Rect.unit (s := S8160) ![7936] S224.size inb_S8160_S224_7936) (fun _ => rfl)
theorem enZ_emb (y : S224.Idx) : (((enZ ).view.emb y : S8160.Idx) 0).val = 7936 + (y 0).val := by
  show (7936 + 1 * (y 0).val) = _
  omega
theorem enZ_set (hc : wid L = 31) : ((enZ ).view.set : Finset S8160.Idx) = tilePart (wid L) := by
  have hw := wid_lt L
  ext x
  have hx8 : (x 0).val < 8160 := (x 0).isLt
  unfold tilePart
  rw [Finset.mem_filter]
  constructor
  · intro hx
    obtain ⟨y, -, rfl⟩ := Finset.mem_map.mp hx
    have hy : (y 0).val < 224 := (y 0).isLt
    refine ⟨Finset.mem_univ _, ?_⟩
    have e := enZ_emb  y
    have e' : ∀ n : ℕ, n = 7936 + (y 0).val → n / 256 = wid L := by intro n hn; omega
    exact e' _ e
  · rintro ⟨-, hx⟩
    have hlt : (x 0).val - (7936) < 224 := by omega
    refine Finset.mem_map.mpr ⟨Shape.ofLane (d := ![224]) ⟨(x 0).val - (7936), hlt⟩, Finset.mem_univ _, ?_⟩
    refine (Mem.ofLane_eq (n := 8160) _ hx8 ?_).trans (Mem.ofLane_eq (n := 8160) x hx8 rfl).symm
    rw [enZ_emb]
    show 7936 + ((x 0).val - (7936)) = _
    omega
theorem enZ_to (hc : wid L = 31) (f : S8160.Idx → Elt F .i32) : (enM.view.loc (thr d L) ↦[tilePart (wid L)]{fullShare} f : sProp 𝕄)
    = ((enZ ).view.loc (thr d L) ↦[(enZ ).view.set]{fullShare} f) := by
  rw [show ((enZ ).view.set : Finset S8160.Idx) = tilePart (wid L) from enZ_set L hc]
theorem enZ_back (hc : wid L = 31) (A : S503808.Idx → Elt F .i32) (f : S8160.Idx → Elt F .i32) (w : S224.Idx → Elt F .i32)
    (hf : ∀ y : S224.Idx, w y = tE (keyB A) (7936 + (y 0).val)) :
    ((enZ ).view.loc (thr d L) ↦[(enZ ).view.set]{fullShare} ((enZ ).view.writes (Elt F) f [⟨Rect.whole S224, w⟩]) : sProp 𝕄)
      = (enM.view.loc (thr d L) ↦[tilePart (wid L)]{fullShare} (tileEnd A : S8160.Idx → Elt F .i32)) := by
  rw [enZ_to d L hc]
  refine pointsTo_congr fun x hx => ?_
  obtain ⟨y, -, rfl⟩ := Finset.mem_map.mp hx
  have e1 : (enZ ).view.read (Elt F) ((enZ ).view.writes (Elt F) f [⟨Rect.whole S224, w⟩]) y = w y :=
    View.read_writes_cons_hit_of_coords _ _ (Rect.whole S224) _ [] y y fun a => (show (y a).val = 0 + 1 * (y a).val by omega)
  refine Eq.trans e1 ((hf y).trans ?_)
  rw [← enZ_emb  y]
  rfl

end Cert.Proof.RankB

end
-- ==== Proof.RankBRun.lean ====
/-
  Fourth SparseCore call, first half, run through: from the tile's fetch to the three per-tile results written out.
-/
module

public import proofs.«01_k».proof.Proof.Base
public import proofs.«01_k».proof.Proof.RankB
public import proofs.«01_k».proof.Proof.RankBFront

@[expose] public section

set_option maxRecDepth 16384

noncomputable section

namespace Cert.Proof.RankB

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 4) (Elt F) ℕ UU ℕ

variable (d : Dev nD) (L : grid4.Coords)

/-- This tile's chunk of the words. -/
theorem holdD (A : S503808.Idx → Elt F .i32) (x : S15744.Idx) :
    (p1M.slice (Rect.unit (s := S503808) (k4_off1 L) S15744.size (k4_off1_inb L)) (fun _ => rfl)).view.read (Elt F) A x = wAt A (wid L * 15744 + (x 0).val) := by
  rw [wAt_idx A ((Rect.unit (s := S503808) (k4_off1 L) S15744.size (k4_off1_inb L)).emb x)]
  · rfl
  · rw [Mem.unit_emb, k4_off1_eq]
    show 31488 * (L 1).val + 15744 * (L 0).val + _ = _
    unfold wid
    omega

/-- The places of the array that this tile's words go to. -/
abbrev ownSet (key : ℕ → ℕ) (w : ℕ) : Finset S503808.Idx := SparseCore.rowsWhere piM.view ⟨0, by decide⟩ (ownPlaces key w)

/-- What a tile holds when its three per-tile results are written out. -/
def mid (q q'' : PosShare TreeShare) (A : S503808.Idx → Elt F .i32) (f0 : S503808.Idx → Elt F .i32) (O : CellTallies nD τ sig (HIx 4)) (W : Waits sig (HIx 4)) : sProp 𝕄 :=
  iprop(Transfers.MayWaits (thr d L) (none : HIx 4) O
    ∗ ((p1M.view.loc (thr d L) ↦{q} A) ∗ (hbM.view.loc (thr d L) ↦{q''} (histTab (keyB A) : S512x512.Idx → Elt F .i32))
      ∗ (piM.view.loc (thr d L) ↦[ownSet (keyB A) (wid L)]{fullShare} f0)
      ∗ (hiM.view.loc (thr d L) ↦[tilePart (wid L)]{fullShare} (tileHist A : S8160.Idx → Elt F .i32))
      ∗ (stM.view.loc (thr d L) ↦[tilePart (wid L)]{fullShare} (tileStart A : S8160.Idx → Elt F .i32))
      ∗ (enM.view.loc (thr d L) ↦[tilePart (wid L)]{fullShare} (tileEnd A : S8160.Idx → Elt F .i32)))
    ∗ ((∃ g : sD.view.ty.Contents (Elt F), ⌜IsChunk A (wid L) g⌝ ∗ (sD.view.loc (thr d L) ↦{fullShare} g))
      ∗ (∃ g : sV.view.ty.Contents (Elt F), (sV.view.loc (thr d L) ↦{fullShare} g))
      ∗ (∃ g : sX.view.ty.Contents (Elt F), (sX.view.loc (thr d L) ↦{fullShare} g))
      ∗ (∃ f : sO.view.ty.Contents (Elt F), ⌜OffTo (keyB A) (wid L) 8192 f⌝ ∗ (sO.view.loc (thr d L) ↦{fullShare} f))
      ∗ (∃ g : sB.view.ty.Contents (Elt F), (sB.view.loc (thr d L) ↦{fullShare} g))
      ∗ (∃ g : sP.view.ty.Contents (Elt F), (sP.view.loc (thr d L) ↦{fullShare} g))
      ∗ (∃ g : sT.view.ty.Contents (Elt F), (sT.view.loc (thr d L) ↦{fullShare} g))
      ∗ (∃ g : sC.view.ty.Contents (Elt F), (sC.view.loc (thr d L) ↦{fullShare} g))
      ∗ (∃ g : sL.view.ty.Contents (Elt F), (sL.view.loc (thr d L) ↦{fullShare} g))
      ∗ (∃ g : uH.view.ty.Contents (Elt F), (uH.view.loc (thr d L) ↦{fullShare} g))
      ∗ (∃ g : uS.view.ty.Contents (Elt F), (uS.view.loc (thr d L) ↦{fullShare} g))
      ∗ (∃ g : uE.view.ty.Contents (Elt F), (uE.view.loc (thr d L) ↦{fullShare} g))
      ∗ bigSep (((((((((((((ownRefs (τ := τ) (.scVector (cV L) (jV L))).erase ((Proc.scVector (cV L) (jV L)).devRef cc4_scratch0)).erase ((Proc.scVector (cV L) (jV L)).devRef cc4_scratch1)).erase ((Proc.scVector (cV L) (jV L)).devRef cc4_scratch2)).erase ((Proc.scVector (cV L) (jV L)).devRef cc4_scratch3)).erase ((Proc.scVector (cV L) (jV L)).devRef cc4_scratch4)).erase ((Proc.scVector (cV L) (jV L)).devRef cc4_scratch5)).erase ((Proc.scVector (cV L) (jV L)).devRef cc4_scratch6)).erase ((Proc.scVector (cV L) (jV L)).devRef cc4_scratch7)).erase ((Proc.scVector (cV L) (jV L)).devRef cc4_scratch8)).erase ((Proc.scVector (cV L) (jV L)).devRef cc4_scratch9)).erase ((Proc.scVector (cV L) (jV L)).devRef cc4_scratch10)).erase ((Proc.scVector (cV L) (jV L)).devRef cc4_scratch11))
          fun b => iprop(∃ f, ((d, b) : Loc nD τ sig) ↦{fullShare} f))
    ∗ (semVal (c0 d L) 0 ∗ semVal (c1 d L) 0 ∗ semVal (c2 d L) 0 ∗ semVal (c3 d L) 0 ∗ semVal (c4 d L) 0 ∗ semVal (c5 d L) 0 ∗ semVal (c6 d L) 0 ∗ semVal (c7 d L) 0 ∗ semVal (c8 d L) 0
      ∗ bigSep ((((((((((ownCells (thr d L)).erase (c0 d L)).erase (c1 d L)).erase (c2 d L)).erase (c3 d L)).erase (c4 d L)).erase (c5 d L)).erase (c6 d L)).erase (c7 d L)).erase (c8 d L)) fun g => semVal g 0)
    ∗ ∃ W', ⌜∀ p ∈ W', p ∈ W ∨ p.2 = none⌝ ∗ owes (thr d L) O W')

theorem cond_lt (hc : wid L ≠ 31) : k4_cond1 L = 1#1 ∧ ¬ Scalar.cmpi .ne (Scalar.extui (Scalar.cmpi .eq (tileNo L) 31#32)) 0#32 = 1#1 := by
  have h := (by decide +kernel : ∀ L : grid4.Coords, 2 * (L 1).val + (L 0).val ≠ 31 → k4_cond1 L = 1#1 ∧ ¬ Scalar.cmpi .ne (Scalar.extui (Scalar.cmpi .eq (tileNo L) 31#32)) 0#32 = 1#1)
  exact h L hc
theorem cond_eq (hc : wid L = 31) : ¬ k4_cond1 L = 1#1 ∧ Scalar.cmpi .ne (Scalar.extui (Scalar.cmpi .eq (tileNo L) 31#32)) 0#32 = 1#1 := by
  have h := (by decide +kernel : ∀ L : grid4.Coords, 2 * (L 1).val + (L 0).val = 31 → ¬ k4_cond1 L = 1#1 ∧ Scalar.cmpi .ne (Scalar.extui (Scalar.cmpi .eq (tileNo L) 31#32)) 0#32 = 1#1)
  exact h L hc

set_option maxHeartbeats 4000000 in
theorem front_run (hF : (K (F := F)).Facts) (q q'' : PosShare TreeShare) (A : S503808.Idx → Elt F .i32) (f0 : S503808.Idx → Elt F .i32) (f1 f2 f3 : S8160.Idx → Elt F .i32)
    (O : CellTallies nD τ sig (HIx 4)) (W : Waits sig (HIx 4)) (hO : ∀ g, O g none = 0) :
    iprop(levAts (K (F := F)).L (K (F := F)).lev ∗ emp
        ∗ ((p1M.view.loc (thr d L) ↦{q} A : sProp 𝕄) ∗ (hbM.view.loc (thr d L) ↦{q''} (histTab (keyB A) : S512x512.Idx → Elt F .i32))
            ∗ (piM.view.loc (thr d L) ↦[ownSet (keyB A) (wid L)]{fullShare} f0)
            ∗ (hiM.view.loc (thr d L) ↦[tilePart (wid L)]{fullShare} f1) ∗ (stM.view.loc (thr d L) ↦[tilePart (wid L)]{fullShare} f2) ∗ (enM.view.loc (thr d L) ↦[tilePart (wid L)]{fullShare} f3))
        ∗ scopedBufs (thr d L) ∗ scopedSems0 (thr d L) ∗ owes (thr d L) O W)
      ⊢ wp frame (wpE (defs₀ (F := F)) 𝒱₀ (thr d L) none) Set.univ
          (k4_part8 L p1M (Memref.isWhole_whole _) hbM (Memref.isWhole_whole _) piM (Memref.isWhole_whole _) hiM (Memref.isWhole_whole _) stM (Memref.isWhole_whole _) enM (Memref.isWhole_whole _)
        sD (Memref.isWhole_whole _) sV (Memref.isWhole_whole _) sX (Memref.isWhole_whole _) sO (Memref.isWhole_whole _) sB (Memref.isWhole_whole _) sP (Memref.isWhole_whole _)
        sT (Memref.isWhole_whole _) sC (Memref.isWhole_whole _) sL (Memref.isWhole_whole _) uH (Memref.isWhole_whole _) uS (Memref.isWhole_whole _) uE (Memref.isWhole_whole _) cc4_scratch12 cc4_scoped0 cc4_scoped1 cc4_scoped2 cc4_scoped3 cc4_scoped4 cc4_scoped5 cc4_scoped6 cc4_scoped7) fun _ => mid d L q q'' A f0 O W := by
  rw [k4_part8_eq_skeleton]; unfold k4_part8_skel
  rw [(K (F := F)).scopedBufs_V hF d (cV L) (jV L), SparseCore.Cfg.scopedSems0_V (Val := Elt F) d (cV L) (jV L), ownSems0_V, ownBufs_V]
  iintro ⟨#Hlv, -, ⟨Hp1, Hhb, Hpi, Hhi, Hst, Hen⟩, ⟨⟨%fD, HD⟩, ⟨%fV, HV⟩, ⟨%fX, HX⟩, ⟨%fO, HO⟩, ⟨%fB, HB⟩, ⟨%fP, HP⟩, ⟨%fT, HT⟩, ⟨%fC, HC⟩, ⟨%fLx, HLx⟩, ⟨%fuH, HuH⟩, ⟨%fuS, HuS⟩, ⟨%fuE, HuE⟩, Hbufs⟩, ⟨Hsem0, Hsem1, Hsem2, Hsem3, Hsem4, Hsem5, Hsem6, Hsem7, Hsem8, Hsems⟩, HW⟩
  ihave #Hmw := ((K (F := F)).mayWaits_none (thr := thr d L) hO) $$ Hlv
  ihave HD := (Entails.of_eq (show ((thr d L).loc cc4_scratch0 ↦{fullShare} fD : sProp 𝕄) = (sD.view.loc (thr d L) ↦{fullShare} fD) from rfl)) $$ HD
  ihave HV := (Entails.of_eq (show ((thr d L).loc cc4_scratch1 ↦{fullShare} fV : sProp 𝕄) = (sV.view.loc (thr d L) ↦{fullShare} fV) from rfl)) $$ HV
  ihave HX := (Entails.of_eq (show ((thr d L).loc cc4_scratch2 ↦{fullShare} fX : sProp 𝕄) = (sX.view.loc (thr d L) ↦{fullShare} fX) from rfl)) $$ HX
  ihave HO := (Entails.of_eq (show ((thr d L).loc cc4_scratch3 ↦{fullShare} fO : sProp 𝕄) = (sO.view.loc (thr d L) ↦{fullShare} fO) from rfl)) $$ HO
  ihave HB := (Entails.of_eq (show ((thr d L).loc cc4_scratch4 ↦{fullShare} fB : sProp 𝕄) = (sB.view.loc (thr d L) ↦{fullShare} fB) from rfl)) $$ HB
  ihave HP := (Entails.of_eq (show ((thr d L).loc cc4_scratch5 ↦{fullShare} fP : sProp 𝕄) = (sP.view.loc (thr d L) ↦{fullShare} fP) from rfl)) $$ HP
  ihave HT := (Entails.of_eq (show ((thr d L).loc cc4_scratch6 ↦{fullShare} fT : sProp 𝕄) = (sT.view.loc (thr d L) ↦{fullShare} fT) from rfl)) $$ HT
  ihave HC := (Entails.of_eq (show ((thr d L).loc cc4_scratch7 ↦{fullShare} fC : sProp 𝕄) = (sC.view.loc (thr d L) ↦{fullShare} fC) from rfl)) $$ HC
  ihave HLx := (Entails.of_eq (show ((thr d L).loc cc4_scratch8 ↦{fullShare} fLx : sProp 𝕄) = (sL.view.loc (thr d L) ↦{fullShare} fLx) from rfl)) $$ HLx
  ihave HuH := (Entails.of_eq (show ((thr d L).loc cc4_scratch9 ↦{fullShare} fuH : sProp 𝕄) = (uH.view.loc (thr d L) ↦{fullShare} fuH) from rfl)) $$ HuH
  ihave HuS := (Entails.of_eq (show ((thr d L).loc cc4_scratch10 ↦{fullShare} fuS : sProp 𝕄) = (uS.view.loc (thr d L) ↦{fullShare} fuS) from rfl)) $$ HuS
  ihave HuE := (Entails.of_eq (show ((thr d L).loc cc4_scratch11 ↦{fullShare} fuE : sProp 𝕄) = (uE.view.loc (thr d L) ↦{fullShare} fuE) from rfl)) $$ HuE
  sl_exec
  have hgD : IsChunk A (wid L) (View.write (Elt F) sD.view fD (front_run.sl.dma0 L A) Finset.univ) := by
    intro x
    rw [show sD.view.read (Elt F) (View.write (Elt F) sD.view fD (front_run.sl.dma0 L A) Finset.univ) x = front_run.sl.dma0 L A x from
      congrFun (View.write_whole_univ (Val := Elt F) cc4_scratch0 fD (front_run.sl.dma0 L A)) x]
    unfold front_run.sl.dma0
    exact holdD L A x
  generalize View.write (Elt F) sD.view fD (front_run.sl.dma0 L A) Finset.univ = gD at *
  sl_for (inv1 d L (keyB A) q'' (histTab (keyB A) : S512x512.Idx → Elt F .i32) O W) $$ [Hhb Hsem1 HO HC HLx HB HP HT HW]
  case region => exact fun k a => step1 d L (keyB A) q'' O W k a
  · unfold inv1
    isplitr; · iexact Hmw
    isplitr
    · ipureintro
      rw [Nat.mul_zero, Counting.below_zero]
    isplitl [HO]
    · iexists fO; isplitr
      · ipureintro; intro x hx; exact absurd hx (by omega)
      · iexact HO
    isplitl [HC]
    · iexists fC; isplitr
      · ipureintro; intro x hx; exact absurd hx (by omega)
      · iexact HC
    isplitl [HLx]
    · iexists fLx; isplitr
      · ipureintro; intro x hx; exact absurd hx (by omega)
      · iexact HLx
    isplitl [HB]; · iexists fB; iexact HB
    isplitl [HP]; · iexists fP; iexact HP
    isplitl [HT]; · iexists fT; iexact HT
    isplitl [Hhb]; · iexact Hhb
    isplitl [Hsem1]; · iexact Hsem1
    iexists _
    isplitr
    rotate_left
    · iexact HW
    ipureintro
    intro p hp
    rcases Finset.mem_insert.mp hp with rfl | hp
    · exact Or.inr rfl
    · exact Or.inl hp
  iintro %acc HI
  rw [show Scf.trips k4_t1_loop.lb k4_t1_loop.ub k4_t1_loop.st = 16 by decide]
  unfold inv1
  icases HI with ⟨-, %hacc, ⟨%o1, %ho1, HO⟩, ⟨%c1', %hc1, HC⟩, ⟨%l1, %hl1, HLx⟩, ⟨%gB, HB⟩, ⟨%gP, HP⟩, ⟨%gT, HT⟩, Hhb, Hsem1, %W1, %hW1, HW⟩
  sl_exec
  sl_for (inv5 d L (keyB A) c1' l1) $$ [HuH HuS HuE HC HLx]
  case region => exact fun k a => step5 d L (keyB A) c1' l1 hc1 hl1 k a
  · unfold inv5
    isplitl [HuH]
    · iexists fuH; isplitr
      · ipureintro; intro x hx; exact absurd hx (by omega)
      · iexact HuH
    isplitl [HuS]
    · iexists fuS; isplitr
      · ipureintro; intro x hx; exact absurd hx (by omega)
      · iexact HuS
    isplitl [HuE]
    · iexists fuE; isplitr
      · ipureintro; intro x hx; exact absurd hx (by omega)
      · iexact HuE
    isplitl [HC]; · iexact HC
    iexact HLx
  iintro %_ HI
  rw [show Scf.trips (k4_t4_loop L).lb (k4_t4_loop L).ub (k4_t4_loop L).st = if wid L = 31 then 14 else 16 from trips5 L]
  unfold inv5
  icases HI with ⟨⟨%h1, %hh1, HuH⟩, ⟨%s1, %hs1, HuS⟩, ⟨%e1, %he1, HuE⟩, HC, HLx⟩
  sl_exec
  sl_for (fun (_ : ℕ) (_ : PUnit) => (iprop(emp) : sProp 𝕄)) $$ []
  case region => exact fun k a => absurd k.isLt (Nat.not_lt.2 (Nat.le_trans (k4_t5_abs L).2.1 (Nat.zero_le _)))
  · iempintro
  iintro %_ -
  by_cases hc : wid L = 31
  · rw [if_pos hc] at hh1 hs1 he1
    obtain ⟨hk1, hk2⟩ := cond_eq L hc
    ihave Hhi := (Entails.of_eq (hiZ_to d L hc f1)) $$ Hhi
    ihave Hst := (Entails.of_eq (stZ_to d L hc f2)) $$ Hst
    ihave Hen := (Entails.of_eq (enZ_to d L hc f3)) $$ Hen
    sl_exec (disch := first | sl_exact hk1 | sl_exact hk2 | omega)
    have vhi : ∀ y : S224.Idx, front_run.sl.dma0_1 h1 y = tH (keyB A) (7936 + (y 0).val) := by
      intro y
      have hy : (y 0).val < 224 := (y 0).isLt
      unfold front_run.sl.dma0_1
      have ey : (((Rect.unit (s := S256) ![0] S224.size inb_S256_S224_0).emb y) 0).val = (y 0).val := by show 0 + 1 * (y 0).val = _; omega
      refine (hh1 ((Rect.unit (s := S256) ![0] S224.size inb_S256_S224_0).emb y) (by rw [ey]; omega)).trans ?_
      rw [ey, hc]
    ihave Hhi := (Entails.of_eq (hiZ_back d L hc A f1 (front_run.sl.dma0_1 h1) vhi)) $$ Hhi
    have vst : ∀ y : S224.Idx, front_run.sl.dma0_2 s1 y = tS (keyB A) (7936 + (y 0).val) := by
      intro y
      have hy : (y 0).val < 224 := (y 0).isLt
      unfold front_run.sl.dma0_2
      have ey : (((Rect.unit (s := S256) ![0] S224.size inb_S256_S224_0).emb y) 0).val = (y 0).val := by show 0 + 1 * (y 0).val = _; omega
      refine (hs1 ((Rect.unit (s := S256) ![0] S224.size inb_S256_S224_0).emb y) (by rw [ey]; omega)).trans ?_
      rw [ey, hc]
    ihave Hst := (Entails.of_eq (stZ_back d L hc A f2 (front_run.sl.dma0_2 s1) vst)) $$ Hst
    have ven : ∀ y : S224.Idx, front_run.sl.dma0_3 e1 y = tE (keyB A) (7936 + (y 0).val) := by
      intro y
      have hy : (y 0).val < 224 := (y 0).isLt
      unfold front_run.sl.dma0_3
      have ey : (((Rect.unit (s := S256) ![0] S224.size inb_S256_S224_0).emb y) 0).val = (y 0).val := by show 0 + 1 * (y 0).val = _; omega
      refine (he1 ((Rect.unit (s := S256) ![0] S224.size inb_S256_S224_0).emb y) (by rw [ey]; omega)).trans ?_
      rw [ey, hc]
    ihave Hen := (Entails.of_eq (enZ_back d L hc A f3 (front_run.sl.dma0_3 e1) ven)) $$ Hen
    sl_step
    unfold mid
    isplitr; · iexact Hmw
    isplitl [Hp1 Hhb Hpi Hhi Hst Hen]
    · isplitl [Hp1]; · iexact Hp1
      isplitl [Hhb]; · iexact Hhb
      isplitl [Hpi]; · iexact Hpi
      isplitl [Hhi]; · iexact Hhi
      isplitl [Hst]; · iexact Hst
      iexact Hen
    isplitl [HD HV HX HO HB HP HT HC HLx HuH HuS HuE Hbufs]
    · isplitl [HD]
      · iexists gD; isplitr
        · ipureintro; exact hgD
        · iexact HD
      isplitl [HV]; · iexists fV; iexact HV
      isplitl [HX]; · iexists fX; iexact HX
      isplitl [HO]
      · iexists o1; isplitr
        · ipureintro; exact ho1
        · iexact HO
      isplitl [HB]; · iexists _; iexact HB
      isplitl [HP]; · iexists _; iexact HP
      isplitl [HT]; · iexists _; iexact HT
      isplitl [HC]; · iexists _; iexact HC
      isplitl [HLx]; · iexists _; iexact HLx
      isplitl [HuH]; · iexists _; iexact HuH
      isplitl [HuS]; · iexists _; iexact HuS
      isplitl [HuE]; · iexists _; iexact HuE
      iexact Hbufs
    isplitl [Hsem0 Hsem1 Hsem2 Hsem3 Hsem4 Hsem5 Hsem6 Hsem7 Hsem8 Hsems]
    · isplitl [Hsem0]; · iexact Hsem0
      isplitl [Hsem1]; · iexact Hsem1
      isplitl [Hsem2]; · iexact Hsem2
      isplitl [Hsem3]; · iexact Hsem3
      isplitl [Hsem4]; · iexact Hsem4
      isplitl [Hsem5]; · iexact Hsem5
      isplitl [Hsem6]; · iexact Hsem6
      isplitl [Hsem7]; · iexact Hsem7
      isplitl [Hsem8]; · iexact Hsem8
      iexact Hsems
    iexists _
    isplitr
    rotate_left
    · iexact HW
    ipureintro
    intro p hp
    rcases Finset.mem_insert.mp hp with rfl | hp
    · exact Or.inr rfl
    rcases Finset.mem_insert.mp hp with rfl | hp
    · exact Or.inr rfl
    rcases Finset.mem_insert.mp hp with rfl | hp
    · exact Or.inr rfl
    exact hW1 p hp
  · rw [if_neg hc] at hh1 hs1 he1
    obtain ⟨hk1, hk2⟩ := cond_lt L hc
    ihave Hhi := (Entails.of_eq (hiW_to d L hk1 hc f1)) $$ Hhi
    ihave Hst := (Entails.of_eq (stW_to d L hk1 hc f2)) $$ Hst
    ihave Hen := (Entails.of_eq (enW_to d L hk1 hc f3)) $$ Hen
    sl_exec (disch := first | sl_exact hk1 | sl_exact hk2 | omega)
    have vhi : ∀ y : S256.Idx, front_run.sl.dma0_4 h1 y = tH (keyB A) (256 * wid L + (y 0).val) := by
      intro y
      unfold front_run.sl.dma0_4
      exact hh1 y (y 0).isLt
    ihave Hhi := (Entails.of_eq (hiW_back d L hk1 hc A f1 (front_run.sl.dma0_4 h1) vhi)) $$ Hhi
    have vst : ∀ y : S256.Idx, front_run.sl.dma0_5 s1 y = tS (keyB A) (256 * wid L + (y 0).val) := by
      intro y
      unfold front_run.sl.dma0_5
      exact hs1 y (y 0).isLt
    ihave Hst := (Entails.of_eq (stW_back d L hk1 hc A f2 (front_run.sl.dma0_5 s1) vst)) $$ Hst
    have ven : ∀ y : S256.Idx, front_run.sl.dma0_6 e1 y = tE (keyB A) (256 * wid L + (y 0).val) := by
      intro y
      unfold front_run.sl.dma0_6
      exact he1 y (y 0).isLt
    ihave Hen := (Entails.of_eq (enW_back d L hk1 hc A f3 (front_run.sl.dma0_6 e1) ven)) $$ Hen
    sl_step
    unfold mid
    isplitr; · iexact Hmw
    isplitl [Hp1 Hhb Hpi Hhi Hst Hen]
    · isplitl [Hp1]; · iexact Hp1
      isplitl [Hhb]; · iexact Hhb
      isplitl [Hpi]; · iexact Hpi
      isplitl [Hhi]; · iexact Hhi
      isplitl [Hst]; · iexact Hst
      iexact Hen
    isplitl [HD HV HX HO HB HP HT HC HLx HuH HuS HuE Hbufs]
    · isplitl [HD]
      · iexists gD; isplitr
        · ipureintro; exact hgD
        · iexact HD
      isplitl [HV]; · iexists fV; iexact HV
      isplitl [HX]; · iexists fX; iexact HX
      isplitl [HO]
      · iexists o1; isplitr
        · ipureintro; exact ho1
        · iexact HO
      isplitl [HB]; · iexists _; iexact HB
      isplitl [HP]; · iexists _; iexact HP
      isplitl [HT]; · iexists _; iexact HT
      isplitl [HC]; · iexists _; iexact HC
      isplitl [HLx]; · iexists _; iexact HLx
      isplitl [HuH]; · iexists _; iexact HuH
      isplitl [HuS]; · iexists _; iexact HuS
      isplitl [HuE]; · iexists _; iexact HuE
      iexact Hbufs
    isplitl [Hsem0 Hsem1 Hsem2 Hsem3 Hsem4 Hsem5 Hsem6 Hsem7 Hsem8 Hsems]
    · isplitl [Hsem0]; · iexact Hsem0
      isplitl [Hsem1]; · iexact Hsem1
      isplitl [Hsem2]; · iexact Hsem2
      isplitl [Hsem3]; · iexact Hsem3
      isplitl [Hsem4]; · iexact Hsem4
      isplitl [Hsem5]; · iexact Hsem5
      isplitl [Hsem6]; · iexact Hsem6
      isplitl [Hsem7]; · iexact Hsem7
      isplitl [Hsem8]; · iexact Hsem8
      iexact Hsems
    iexists _
    isplitr
    rotate_left
    · iexact HW
    ipureintro
    intro p hp
    rcases Finset.mem_insert.mp hp with rfl | hp
    · exact Or.inr rfl
    rcases Finset.mem_insert.mp hp with rfl | hp
    · exact Or.inr rfl
    rcases Finset.mem_insert.mp hp with rfl | hp
    · exact Or.inr rfl
    exact hW1 p hp

end Cert.Proof.RankB

end
-- ==== Proof.RankBTile.lean ====
/-
  The fourth SparseCore call, second half: every tile takes the point number out of each of its words, finds the word's
  place in the order by tile, and puts the point number there.
-/
module

public import proofs.«01_k».proof.Proof.Base
public import proofs.«01_k».proof.Proof.RankB
public import proofs.«01_k».proof.Proof.RankBFront
public import proofs.«01_k».proof.Proof.RankBRun

@[expose] public section

set_option maxRecDepth 16384

noncomputable section

namespace Cert.Proof.RankB

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MT nD τ sig (HIx 4) (Elt F) ℕ UU ℕ

variable (d : Dev nD) (L : grid4.Coords)

theorem pay2_toNat (v : Vec F S16 .i32) (i : S16.Idx) : (k4_pay2 v i).toNat = (show BitVec 32 from v i).toNat / 524288 := by
  show (IntOp.shrui .vector (show BitVec 32 from v i) 19#32).toNat = _
  unfold IntOp.shrui
  rw [if_pos (by decide), BitVec.ushiftRight_eq', BitVec.toNat_ushiftRight, Nat.shiftRight_eq_div_pow]
  rfl

/-- The point numbers of the first `n` words of the chunk. -/
def ValTo (A : S503808.Idx → Elt F .i32) (w n : ℕ) (f : sV.view.ty.Contents (Elt F)) : Prop :=
  ∀ x : S15744.Idx, (x 0).val < n → sV.view.read (Elt F) f x = (wAt A (w * 15744 + (x 0).val) &&& 524287#32 : BitVec 32)

/-- While the point numbers are taken out of the words. -/
def inv6 (A : S503808.Idx → Elt F .i32) (g : sD.view.ty.Contents (Elt F)) (j : ℕ) (_ : PUnit) : sProp 𝕄 :=
  iprop((∃ f : sV.view.ty.Contents (Elt F), ⌜ValTo A (wid L) (16 * j) f⌝ ∗ (sV.view.loc (thr d L) ↦{fullShare} f))
    ∗ (sD.view.loc (thr d L) ↦{fullShare} g))

theorem step6 (A : S503808.Idx → Elt F .i32) (g : sD.view.ty.Contents (Elt F)) (hg : IsChunk A (wid L) g) (k : Fin k4_t6_loop.trips) (a : PUnit) :
    inv6 (F := F) d L A g k.val a ⊢ wp frame (wpE (defs₀ (F := F)) 𝒱₀ (thr d L) none) Set.univ
      (k4_t6_body L p1M (Memref.isWhole_whole _) hbM (Memref.isWhole_whole _) piM (Memref.isWhole_whole _) hiM (Memref.isWhole_whole _) stM (Memref.isWhole_whole _) enM (Memref.isWhole_whole _)
        sD (Memref.isWhole_whole _) sV (Memref.isWhole_whole _) sX (Memref.isWhole_whole _) sO (Memref.isWhole_whole _) sB (Memref.isWhole_whole _) sP (Memref.isWhole_whole _)
        sT (Memref.isWhole_whole _) sC (Memref.isWhole_whole _) sL (Memref.isWhole_whole _) uH (Memref.isWhole_whole _) uS (Memref.isWhole_whole _) uE (Memref.isWhole_whole _) cc4_scratch12 cc4_scoped0 cc4_scoped1 cc4_scoped2 cc4_scoped3 cc4_scoped4 cc4_scoped5 cc4_scoped6 cc4_scoped7 k a)
      (inv6 d L A g (k.val + 1)) := by
  have hk : k.val < 984 := k.isLt
  unfold inv6 k4_t6_body
  iintro ⟨⟨%f, %hf, HV⟩, HD⟩
  sl_exec
  sl_step
  isplitl [HV]
  · iexists _
    isplitr
    rotate_left
    · iexact HV
    ipureintro
    intro x hx
    refine Mem.fill_step (Val := Elt F) (n := 15744) (c := 16) (fun c y => y = (wAt A (wid L * 15744 + c) &&& 524287#32 : BitVec 32)) sV.view f
      (off := k4_off43 k) (k4_off43_inb k) _ (b := 16 * k.val) (b' := 16 * (k.val + 1)) (by rw [k4_off43_eq]; rfl) (by omega) hf (fun i => ?_) x hx
    have hi : (i 0).val < 16 := (i 0).isLt
    have := Mem.readAt_unit (Val := Elt F) (n := 15744) (c := 16) sD.view g (off := k4_off43 k) (k4_off43_inb k) i
      (Shape.ofLane (d := ![15744]) ⟨16 * k.val + (i 0).val, by show _ < 15744; omega⟩) (by rw [k4_off43_eq]; rfl)
    exact congrArg (fun u : BitVec 32 => u &&& 524287#32) (this.trans (hg _))
  iexact HD

/-- The offsets when `j` sixteens of the chunk have been ranked. -/
def IsOff (key : ℕ → ℕ) (w j : ℕ) (f : sO.view.ty.Contents (Elt F)) : Prop :=
  ∀ x : S8192.Idx, sO.view.read (Elt F) f x = BitVec.ofNat 32 (Counting.below key 503808 (x 0).val + Counting.cnt key 0 (w * 15744 + 16 * j) (x 0).val)

/-- The places of the first `n` words of the chunk. -/
def DstTo (key : ℕ → ℕ) (w n : ℕ) (f : sX.view.ty.Contents (Elt F)) : Prop :=
  ∀ x : S15744.Idx, (x 0).val < n → sX.view.read (Elt F) f x = BitVec.ofNat 32 (Counting.rank key 503808 (w * 15744 + (x 0).val))

/-- While the chunk is ranked, sixteen words at a time. -/
def inv4 (A : S503808.Idx → Elt F .i32) (g : sD.view.ty.Contents (Elt F)) (j : ℕ) (_ : PUnit) : sProp 𝕄 :=
  iprop((∃ f : sO.view.ty.Contents (Elt F), ⌜IsOff (keyB A) (wid L) j f⌝ ∗ (sO.view.loc (thr d L) ↦{fullShare} f))
    ∗ (∃ f : sX.view.ty.Contents (Elt F), ⌜DstTo (keyB A) (wid L) (16 * j) f⌝ ∗ (sX.view.loc (thr d L) ↦{fullShare} f))
    ∗ (sD.view.loc (thr d L) ↦{fullShare} g))

theorem off_step (key : ℕ → ℕ) (w j : ℕ) (f : sO.view.ty.Contents (Elt F)) (v : IVec S16 32) (hchk : k4_chk1 v) (hf : IsOff key w j f)
    (hv : ∀ i : S16.Idx, (v i).toNat = key (w * 15744 + 16 * j + (i 0).val)) :
    IsOff key w (j + 1) (storeIdx (F := F) (s := S8192) f ![v] (k4_pay5 v) (k4_pay4 v) true (k4_idx2_inb v hchk)) := by
  intro x
  rw [show w * 15744 + 16 * (j + 1) = w * 15744 + 16 * j + 16 by omega]
  exact Mem.count_step (F := F) (n := 8192) key (Counting.below key 503808) 0 (w * 15744 + 16 * j) (Nat.zero_le _) f v (k4_idx1_inb v hchk) hf hv x

theorem dst_step (key : ℕ → ℕ) (w : ℕ) (k : Fin k4_t7_loop.trips) (f : sO.view.ty.Contents (Elt F)) (v : IVec S16 32) (hchk : k4_chk1 v) (hf : IsOff key w k.val f)
    (hv : ∀ i : S16.Idx, (v i).toNat = key (w * 15744 + 16 * k.val + (i 0).val)) (fx : sX.view.ty.Contents (Elt F)) (hx : DstTo key w (16 * k.val) fx) :
    DstTo key w (16 * (k.val + 1)) (sX.view.writes (Elt F) fx [⟨Rect.unit (s := S15744) (k4_off45 k) S16.size (k4_off45_inb k), k4_pay6 v (loadIdx (F := F) (s := S8192) f ![v] (k4_idx1_inb v hchk))⟩]) := by
  intro x hx'
  refine Mem.fill_step (Val := Elt F) (n := 15744) (c := 16) (fun c y => y = BitVec.ofNat 32 (Counting.rank key 503808 (w * 15744 + c))) sX.view fx
    (off := k4_off45 k) (k4_off45_inb k) (k4_pay6 v (loadIdx (F := F) (s := S8192) f ![v] (k4_idx1_inb v hchk))) (b := 16 * k.val) (b' := 16 * (k.val + 1)) (by rw [k4_off45_eq]; rfl) (by omega) hx (fun i => ?_) x hx'
  have e := Mem.place_step (F := F) (n := 8192) key (Counting.below key 503808) 0 (w * 15744 + 16 * k.val) (Nat.zero_le _) f v (k4_idx1_inb v hchk) hf hv i
  refine Eq.trans ?_ (e.trans ?_)
  · rfl
  · rw [Nat.add_assoc]; rfl

theorem pts_access (f : sO.view.ty.Contents (Elt F)) :
    (sO.view.loc (thr d L) ↦{fullShare} f : sProp 𝕄) = ((sO.access (.whole S8192)).loc (thr d L) ↦[(sO.access (.whole S8192)).set]{fullShare} f) := by
  rw [show (sO.access (.whole S8192)).set = Finset.univ from Memref.set_access_whole _]

theorem write_access (f g : sO.view.ty.Contents (Elt F)) : (sO.access (.whole S8192)).write (Elt F) f g Finset.univ = g :=
  Memref.write_access_whole_univ (Elt F) cc4_scratch3 f g

theorem access_back (f : sO.view.ty.Contents (Elt F)) (w : sO.view.ty.Contents (Elt F) → sO.view.ty.Contents (Elt F)) :
    ((sO.access (.whole S8192)).loc (thr d L) ↦[(sO.access (.whole S8192)).set]{fullShare}
      ((sO.access (.whole S8192)).write (Elt F) f (w ((sO.access (.whole S8192)).read (Elt F) f)) Finset.univ) : sProp 𝕄) = (sO.view.loc (thr d L) ↦{fullShare} w f) := by
  rw [write_access, show (sO.access (.whole S8192)).read (Elt F) f = f from Memref.read_access_whole (Elt F) cc4_scratch3 f, ← pts_access]

theorem read_back (f : sO.view.ty.Contents (Elt F)) (fx : sX.view.ty.Contents (Elt F)) (k : Fin k4_t7_loop.trips) (v : IVec S16 32) (h : ∀ (a : Fin 1) (x : S16.Idx), ((![v] : Fin 1 → IVec S16 32) a x).toNat < S8192.size a) :
    (sX.view.loc (thr d L) ↦{fullShare} sX.view.writes (Elt F) fx [⟨Rect.unit (s := S15744) (k4_off45 k) S16.size (k4_off45_inb k),
      k4_pay6 v (loadIdx (F := F) (s := S8192) ((sO.access (.whole S8192)).read (Elt F) f) ![v] h)⟩] : sProp 𝕄)
    = (sX.view.loc (thr d L) ↦{fullShare} sX.view.writes (Elt F) fx [⟨Rect.unit (s := S15744) (k4_off45 k) S16.size (k4_off45_inb k),
      k4_pay6 v (loadIdx (F := F) (s := S8192) f ![v] h)⟩]) := by
  rw [show (sO.access (.whole S8192)).read (Elt F) f = f from Memref.read_access_whole (Elt F) cc4_scratch3 f]

set_option maxHeartbeats 1000000 in
theorem step4 (A : S503808.Idx → Elt F .i32) (hA : ∀ i, i < 503808 → keyB A i < 8192) (g : sD.view.ty.Contents (Elt F)) (hg : IsChunk A (wid L) g)
    (k : Fin k4_t7_loop.trips) (a : PUnit) :
    inv4 (F := F) d L A g k.val a ⊢ wp frame (wpE (defs₀ (F := F)) 𝒱₀ (thr d L) none) Set.univ
      (k4_t7_body L p1M (Memref.isWhole_whole _) hbM (Memref.isWhole_whole _) piM (Memref.isWhole_whole _) hiM (Memref.isWhole_whole _) stM (Memref.isWhole_whole _) enM (Memref.isWhole_whole _)
        sD (Memref.isWhole_whole _) sV (Memref.isWhole_whole _) sX (Memref.isWhole_whole _) sO (Memref.isWhole_whole _) sB (Memref.isWhole_whole _) sP (Memref.isWhole_whole _)
        sT (Memref.isWhole_whole _) sC (Memref.isWhole_whole _) sL (Memref.isWhole_whole _) uH (Memref.isWhole_whole _) uS (Memref.isWhole_whole _) uE (Memref.isWhole_whole _) cc4_scratch12 cc4_scoped0 cc4_scoped1 cc4_scoped2 cc4_scoped3 cc4_scoped4 cc4_scoped5 cc4_scoped6 cc4_scoped7 k a)
      (inv4 d L A g (k.val + 1)) := by
  have hk : k.val < 984 := k.isLt
  have hw : wid L < 32 := wid_lt L
  have hv : ∀ i : S16.Idx, (k4_pay2 (sD.view.readAt (Elt F) (Rect.unit (s := S15744) (k4_off44 k) S16.size (k4_off44_inb k)).toLoadRect g) i).toNat
      = keyB A (wid L * 15744 + 16 * k.val + (i 0).val) := by
    intro i
    have hi : (i 0).val < 16 := (i 0).isLt
    have := Mem.readAt_unit (Val := Elt F) (n := 15744) (c := 16) sD.view g (off := k4_off44 k) (k4_off44_inb k) i
      (Shape.ofLane (d := ![15744]) ⟨16 * k.val + (i 0).val, by show _ < 15744; omega⟩) (by rw [k4_off44_eq]; rfl)
    refine (pay2_toNat _ i).trans ((congrArg (fun u : BitVec 32 => u.toNat / 524288) (this.trans (hg _))).trans (by unfold keyB; rw [show wid L * 15744 + 16 * k.val + (i 0).val = wid L * 15744 + (16 * k.val + (i 0).val) by omega]; rfl))
  have hchk : k4_chk1 (k4_pay2 (sD.view.readAt (Elt F) (Rect.unit (s := S15744) (k4_off44 k) S16.size (k4_off44_inb k)).toLoadRect g)) := by
    have h : ∀ (a : Fin 1) (x : S16.Idx), ((![k4_pay2 (sD.view.readAt (Elt F) (Rect.unit (s := S15744) (k4_off44 k) S16.size (k4_off44_inb k)).toLoadRect g)] : Fin 1 → IVec S16 32) a x).toNat < S8192.size a := by
      intro a x
      obtain rfl : a = 0 := Subsingleton.elim _ _
      refine (hv x).trans_lt (hA _ ?_)
      have hi : (x 0).val < 16 := (x 0).isLt
      omega
    exact ⟨h, h⟩
  unfold inv4 k4_t7_body
  iintro ⟨⟨%f, %hf, Hc⟩, ⟨%fx, %hfx, HX⟩, Hs⟩
  sl_exec
  ihave Hc' := (Entails.of_eq (pts_access d L f)) $$ Hc
  iapply (SparseCore.wp_vectorLoadIdx 𝒱₀ (thr d L) none Set.univ (base := sO) (Finset.Subset.refl _)) $$ Hc'; iintro Hc
  ihave Hc := (Entails.of_eq (pts_access d L f).symm) $$ Hc
  sl_exec
  ihave HX := (Entails.of_eq (read_back d L f fx k _ _)) $$ HX
  ihave Hc' := (Entails.of_eq (pts_access d L f)) $$ Hc
  iapply (SparseCore.wp_vectorStoreIdx 𝒱₀ (thr d L) none Set.univ (base := sO)) $$ Hc'; iintro Hc
  ihave Hc := (Entails.of_eq (access_back d L f fun f' => storeIdx (F := F) (s := S8192) f' ![step4.sl.v32 (F := F) g k]
      (k4_pay5 (step4.sl.v32 (F := F) g k))
      (k4_pay4 (step4.sl.v32 (F := F) g k)) true (k4_idx2_inb _ hchk))) $$ Hc
  sl_step
  isplitl [Hc]
  · iexists (storeIdx (F := F) (s := S8192) f ![step4.sl.v32 (F := F) g k]
      (k4_pay5 (step4.sl.v32 (F := F) g k))
      (k4_pay4 (step4.sl.v32 (F := F) g k)) true (k4_idx2_inb _ hchk))
    isplitr
    · ipureintro
      exact off_step (keyB A) (wid L) k.val f _ hchk hf hv
    · iexact Hc
  isplitl [HX]
  · iexists (sX.view.writes (Elt F) fx [⟨Rect.unit (s := S15744) (k4_off45 k) S16.size (k4_off45_inb k),
      k4_pay6 (step4.sl.v32 (F := F) g k)
        (loadIdx (F := F) (s := S8192) f ![step4.sl.v32 (F := F) g k] (k4_idx1_inb _ hchk))⟩])
    isplitr
    · ipureintro
      exact dst_step (keyB A) (wid L) k f _ hchk hf hv fx hfx
    · iexact HX
  · iexact Hs

theorem dst_toNat (key : ℕ → ℕ) (fx : sX.view.ty.Contents (Elt F)) (h : DstTo key (wid L) (16 * 984) fx) (j : S15744.Idx) :
    (show BitVec 32 from sX.view.read (Elt F) fx j).toNat = Counting.rank key 503808 (wid L * 15744 + (j 0).val) := by
  have hj : (j 0).val < 15744 := (j 0).isLt
  have hw := wid_lt L
  have hr : Counting.rank key 503808 (wid L * 15744 + (j 0).val) < 503808 := Counting.rank_lt key (by omega)
  refine (congrArg BitVec.toNat (h j (by omega))).trans ?_
  rw [BitVec.toNat_ofNat]
  exact Nat.mod_eq_of_lt (by omega)

theorem dst_lt (key : ℕ → ℕ) (fx : sX.view.ty.Contents (Elt F)) (h : DstTo key (wid L) (16 * 984) fx) (j : S15744.Idx) :
    (sX.view.read (Elt F) fx j).toNat < S503808.size (gathers_S503808_S15744).axis := by
  have hj : (j 0).val < 15744 := (j 0).isLt
  have hw := wid_lt L
  exact (dst_toNat L key fx h j).trans_lt (Counting.rank_lt key (by omega))

theorem dst_inj (key : ℕ → ℕ) (fx : sX.view.ty.Contents (Elt F)) (h : DstTo key (wid L) (16 * 984) fx) :
    Function.Injective fun j : S15744.Idx => (sX.view.read (Elt F) fx j).toNat := by
  intro i j hij
  have hi : (i 0).val < 15744 := (i 0).isLt
  have hj : (j 0).val < 15744 := (j 0).isLt
  have hw := wid_lt L
  have e := Counting.rank_inj key (by omega) (by omega) ((dst_toNat L key fx h i).symm.trans (hij.trans (dst_toNat L key fx h j)))
  exact (Mem.ofLane_eq i (i 0).isLt rfl).trans (Mem.ofLane_eq j (i 0).isLt (by omega)).symm

theorem dst_own (key : ℕ → ℕ) (fx : sX.view.ty.Contents (Elt F)) (h : DstTo key (wid L) (16 * 984) fx) (j : S15744.Idx) :
    ownPlaces key (wid L) (sX.view.read (Elt F) fx j).toNat := by
  have hj : (j 0).val < 15744 := (j 0).isLt
  have hw := wid_lt L
  have e := dst_toNat L key fx h j
  unfold ownPlaces
  rw [show (sX.view.read (Elt F) fx j).toNat = _ from e, Counting.unrank_rank key (by omega)]
  omega

/-- The whole of the target, as the slice that the scatter names. -/
abbrev piS : Memref sig .scVector .hbm S503808 .i32 := piM.slice (Rect.unit (s := S503808) ![0] S503808.size inb_S503808_S503808_0) (fun _ => rfl)

theorem piS_row (n : Fin 503808) (x : S503808.Idx) : x ∈ (piS.view.slice (S503808.rowRect (0 : Fin 1) n)).set ↔ (x 0).val = n.val := by
  constructor
  · intro hx
    obtain ⟨y, -, rfl⟩ := Finset.mem_map.mp hx
    have hy : (y 0).val < 1 := (y 0).isLt
    show 0 + 1 * (n.val + 1 * (y 0).val) = n.val
    omega
  · intro hx
    refine Finset.mem_map.mpr ⟨fun a => ⟨0, by obtain rfl : a = 0 := Subsingleton.elim _ _; exact Nat.one_pos⟩, Finset.mem_univ _, ?_⟩
    funext a
    obtain rfl : a = 0 := Subsingleton.elim _ _
    refine Fin.ext ?_
    show 0 + 1 * (n.val + 1 * 0) = (x 0).val
    omega

theorem piM_row (n : Fin 503808) (x : S503808.Idx) : x ∈ (piM.view.slice (S503808.rowRect (0 : Fin 1) n)).set ↔ (x 0).val = n.val := by
  constructor
  · intro hx
    obtain ⟨y, -, rfl⟩ := Finset.mem_map.mp hx
    have hy : (y 0).val < 1 := (y 0).isLt
    show (n.val + 1 * (y 0).val) = n.val
    omega
  · intro hx
    refine Finset.mem_map.mpr ⟨fun a => ⟨0, by obtain rfl : a = 0 := Subsingleton.elim _ _; exact Nat.one_pos⟩, Finset.mem_univ _, ?_⟩
    funext a
    obtain rfl : a = 0 := Subsingleton.elim _ _
    refine Fin.ext ?_
    show (n.val + 1 * 0) = (x 0).val
    omega

theorem mem_own (key : ℕ → ℕ) (w : ℕ) (x : S503808.Idx) : x ∈ ownSet key w ↔ ownPlaces key w (x 0).val := by
  unfold ownSet
  rw [SparseCore.mem_rowsWhere]
  constructor
  · rintro ⟨n, hn, hx⟩
    rw [(piM_row n x).mp hx]; exact hn
  · intro h
    exact ⟨⟨(x 0).val, (x 0).isLt⟩, h, (piM_row _ x).mpr rfl⟩

theorem own_eq (key : ℕ → ℕ) (w : ℕ) : (ownSet key w : Finset S503808.Idx) = SparseCore.rowsWhere piS.view ⟨0, by decide⟩ (ownPlaces key w) := by
  ext x
  rw [mem_own]
  symm
  refine SparseCore.mem_rowsWhere.trans ?_
  constructor
  · rintro ⟨n, hn, hx⟩
    rw [(piS_row n x).mp hx]; exact hn
  · intro h
    exact ⟨⟨(x 0).val, (x 0).isLt⟩, h, (piS_row _ x).mpr rfl⟩

theorem own_slice (key : ℕ → ℕ) (f : S503808.Idx → Elt F .i32) :
    (piM.view.loc (thr d L) ↦[ownSet key (wid L)]{fullShare} f : sProp 𝕄)
      = (piS.view.loc (thr d L) ↦[SparseCore.rowsWhere piS.view ⟨0, by decide⟩ (ownPlaces key (wid L))]{fullShare} f) := by
  rw [own_eq]

theorem cast_read {κ : Kind} {sp : Space} {s s' : Shape} {e : EltTy} (m : Memref sig κ sp s e) (h : s = s') (he : e = e) (f : m.view.ty.Contents (Elt F)) (y : s'.Idx) :
    ∃ y' : s.Idx, (m.cast h he).view.read (Elt F) f y = m.view.read (Elt F) f y' := by
  subst h
  exact ⟨y, rfl⟩

theorem row_payload (gV : sV.view.ty.Contents (Elt F)) (k : Fin 15744) (y : (S503808.rowShape (0 : Fin 1)).Idx) :
    SparseCore.scatterRowPayload (thr d L) sV gathers_S503808_S15744 gV k y = sV.view.read (Elt F) gV (Shape.ofLane (d := ![15744]) k) := by
  obtain ⟨y', hy'⟩ := cast_read (F := F) (sV.slice (S15744.rowRect (gathers_S503808_S15744).axis' k) (S15744.stride_rowRect _ _)) (gathers_S503808_S15744).rowShape_eq rfl gV y
  refine hy'.trans ?_
  have hy : (y' 0).val < 1 := (y' 0).isLt
  refine congrArg gV (Mem.ofLane_eq (n := 15744) _ k.isLt ?_)
  show k.val + 1 * (y' 0).val = k.val
  omega

theorem pts_congr (S : Finset S503808.Idx) (f g : S503808.Idx → Elt F .i32) (h : ∀ x ∈ S, f x = g x) :
    (piM.view.loc (thr d L) ↦[S]{fullShare} f : sProp 𝕄) = (piM.view.loc (thr d L) ↦[S]{fullShare} g) := pointsTo_congr h

set_option maxRecDepth 65536 in
theorem numel_chunk : S15744.numel = S15744.size (gathers_S503808_S15744).axis' := rfl

theorem sc_value (A : S503808.Idx → Elt F .i32) (f0 : S503808.Idx → Elt F .i32) (fx : sX.view.ty.Contents (Elt F)) (hfx : DstTo (keyB A) (wid L) (16 * 984) fx)
    (gV : sV.view.ty.Contents (Elt F)) (hgV : ValTo A (wid L) (16 * 984) gV)
    (hn : S15744.numel = S15744.size (gathers_S503808_S15744).axis') (hin : ∀ x, (sX.view.read (Elt F) fx x).toNat < S503808.size (gathers_S503808_S15744).axis)
    (x : S503808.Idx) (hx' : ownPlaces (keyB A) (wid L) (x 0).val) :
    SparseCore.scatterBuf (thr d L) piS.view (gathers_S503808_S15744).axis (SparseCore.rows (sX.view.read (Elt F) fx) hn hin)
      (SparseCore.scatterRowPayload (thr d L) sV gathers_S503808_S15744 gV) f0 x = pidOf A x := by
  have hxlt : (x 0).val < 503808 := (x 0).isLt
  unfold ownPlaces at hx'
  have hk : Counting.unrank (keyB A) 503808 (x 0).val - wid L * 15744 < 15744 := by omega
  have hrow : (SparseCore.rows (sX.view.read (Elt F) fx) hn hin ⟨Counting.unrank (keyB A) 503808 (x 0).val - wid L * 15744, hk⟩).val = (x 0).val := by
    refine (dst_toNat L (keyB A) fx hfx _).trans ?_
    have e : ((S15744.rowMajor.symm (Fin.cast hn.symm ⟨Counting.unrank (keyB A) 503808 (x 0).val - wid L * 15744, hk⟩)) 0).val
        = Counting.unrank (keyB A) 503808 (x 0).val - wid L * 15744 := by
      refine (Shape.rowMajor_val_one (d := ![15744]) _).symm.trans ?_
      exact congrArg Fin.val (Equiv.apply_symm_apply S15744.rowMajor _)
    rw [e, show wid L * 15744 + (Counting.unrank (keyB A) 503808 (x 0).val - wid L * 15744) = Counting.unrank (keyB A) 503808 (x 0).val by omega]
    exact Counting.rank_unrank (keyB A) hxlt
  have hmem : x ∈ (piS.view.slice (S503808.rowRect (gathers_S503808_S15744).axis (SparseCore.rows (sX.view.read (Elt F) fx) hn hin ⟨Counting.unrank (keyB A) 503808 (x 0).val - wid L * 15744, hk⟩))).set :=
    (piS_row _ x).mpr hrow.symm
  rw [SparseCore.scatterBuf_of_mem (thr d L) piS.view (gathers_S503808_S15744).axis _ (SparseCore.rows_injective (dst_inj L (keyB A) fx hfx)) _ f0 hmem]
  obtain ⟨y, -, hy⟩ := Finset.mem_map.mp hmem
  refine (congrArg _ hy.symm).trans ((View.write_emb_of_mem _ _ (Finset.mem_univ y)).trans ?_)
  refine (row_payload d L gV _ y).trans ((hgV _ (by show Counting.unrank (keyB A) 503808 (x 0).val - wid L * 15744 < 16 * 984; omega)).trans ?_)
  unfold pidOf sorted
  refine congrArg (fun n : ℕ => (wAt A n &&& 524287#32 : BitVec 32)) ?_
  show wid L * 15744 + (Counting.unrank (keyB A) 503808 (x 0).val - wid L * 15744) = _
  omega

theorem sc_back (key : ℕ → ℕ) (G R : S503808.Idx → Elt F .i32) (hG : ∀ x : S503808.Idx, ownPlaces key (wid L) (x 0).val → G x = R x) :
    (piS.view.loc (thr d L) ↦[SparseCore.rowsWhere piS.view ⟨0, by decide⟩ (ownPlaces key (wid L))]{fullShare} G : sProp 𝕄)
      = (piM.view.loc (thr d L) ↦[ownSet key (wid L)]{fullShare} R) := by
  rw [← own_slice]
  exact pts_congr d L (ownSet key (wid L)) G R fun x hx => hG x (by rw [mem_own] at hx; exact hx)

set_option maxHeartbeats 4000000 in
theorem tile_body (hF : (K (F := F)).Facts) (q q'' : PosShare TreeShare) (A : S503808.Idx → Elt F .i32) (f0 : S503808.Idx → Elt F .i32) (f1 f2 f3 : S8160.Idx → Elt F .i32)
    (hA : ∀ i, i < 503808 → keyB A i < 8192)
    (O : CellTallies nD τ sig (HIx 4)) (W : Waits sig (HIx 4)) (hO : ∀ g, O g none = 0) :
    iprop(levAts (K (F := F)).L (K (F := F)).lev ∗ emp
        ∗ ((p1M.view.loc (thr d L) ↦{q} A : sProp 𝕄) ∗ (hbM.view.loc (thr d L) ↦{q''} (histTab (keyB A) : S512x512.Idx → Elt F .i32))
            ∗ (piM.view.loc (thr d L) ↦[ownSet (keyB A) (wid L)]{fullShare} f0)
            ∗ (hiM.view.loc (thr d L) ↦[tilePart (wid L)]{fullShare} f1) ∗ (stM.view.loc (thr d L) ↦[tilePart (wid L)]{fullShare} f2) ∗ (enM.view.loc (thr d L) ↦[tilePart (wid L)]{fullShare} f3))
        ∗ scopedBufs (thr d L) ∗ scopedSems0 (thr d L) ∗ owes (thr d L) O W)
      ⊢ wp frame (wpE (defs₀ (F := F)) 𝒱₀ (thr d L) none) Set.univ
          (cc4__rank_b L p1M (Memref.isWhole_whole _) hbM (Memref.isWhole_whole _) piM (Memref.isWhole_whole _) hiM (Memref.isWhole_whole _) stM (Memref.isWhole_whole _) enM (Memref.isWhole_whole _)
        sD (Memref.isWhole_whole _) sV (Memref.isWhole_whole _) sX (Memref.isWhole_whole _) sO (Memref.isWhole_whole _) sB (Memref.isWhole_whole _) sP (Memref.isWhole_whole _)
        sT (Memref.isWhole_whole _) sC (Memref.isWhole_whole _) sL (Memref.isWhole_whole _) uH (Memref.isWhole_whole _) uS (Memref.isWhole_whole _) uE (Memref.isWhole_whole _) cc4_scratch12 cc4_scoped0 cc4_scoped1 cc4_scoped2 cc4_scoped3 cc4_scoped4 cc4_scoped5 cc4_scoped6 cc4_scoped7)
          fun _ => iprop(((p1M.view.loc (thr d L) ↦{q} A : sProp 𝕄) ∗ (hbM.view.loc (thr d L) ↦{q''} (histTab (keyB A) : S512x512.Idx → Elt F .i32))
            ∗ (piM.view.loc (thr d L) ↦[ownSet (keyB A) (wid L)]{fullShare} (pidOf A : S503808.Idx → Elt F .i32))
            ∗ (hiM.view.loc (thr d L) ↦[tilePart (wid L)]{fullShare} (tileHist A : S8160.Idx → Elt F .i32))
            ∗ (stM.view.loc (thr d L) ↦[tilePart (wid L)]{fullShare} (tileStart A : S8160.Idx → Elt F .i32))
            ∗ (enM.view.loc (thr d L) ↦[tilePart (wid L)]{fullShare} (tileEnd A : S8160.Idx → Elt F .i32)))
            ∗ scopedBufs (thr d L) ∗ scopedSems0 (thr d L)
            ∗ ∃ W', ⌜∀ p ∈ W', p ∈ W ∨ p.2 = none⌝ ∗ owes (thr d L) O W') := by
  rw [cc4__rank_b_eq_skeleton]; unfold cc4__rank_b_skel
  rw [wp_bind]
  refine (front_run d L hF q q'' A f0 f1 f2 f3 O W hO).trans (wp_mono frame _ _ fun r => ?_)
  obtain ⟨r1, r2⟩ := r
  rw [(K (F := F)).scopedBufs_V hF d (cV L) (jV L), SparseCore.Cfg.scopedSems0_V (Val := Elt F) d (cV L) (jV L), ownSems0_V, ownBufs_V]
  unfold mid
  iintro ⟨#Hmw, ⟨Hp1, Hhb, Hpi, Hhi, Hst, Hen⟩, ⟨⟨%gD, %hgD, HD⟩, ⟨%fV, HV⟩, ⟨%fX, HX⟩, ⟨%fO, %hfO, HO⟩, ⟨%fB, HB⟩, ⟨%fP, HP⟩, ⟨%fT, HT⟩, ⟨%fC, HC⟩, ⟨%fLx, HLx⟩, ⟨%fuH, HuH⟩, ⟨%fuS, HuS⟩, ⟨%fuE, HuE⟩, Hbufs⟩, ⟨Hsem0, Hsem1, Hsem2, Hsem3, Hsem4, Hsem5, Hsem6, Hsem7, Hsem8, Hsems⟩, %W1, %hW1, HW⟩
  sl_exec
  sl_for (inv6 d L A gD) $$ [HV HD]
  case region => exact fun k a => step6 d L A gD hgD k a
  · unfold inv6
    isplitl [HV]
    · iexists fV; isplitr
      · ipureintro; intro x hx; exact absurd hx (by omega)
      · iexact HV
    iexact HD
  iintro %_ HI
  rw [show Scf.trips k4_t6_loop.lb k4_t6_loop.ub k4_t6_loop.st = 984 by decide]
  unfold inv6
  icases HI with ⟨⟨%gV, %hgV, HV⟩, HD⟩
  sl_for (inv4 d L A gD) $$ [HO HX HD]
  case region => exact fun k a => step4 d L A hA gD hgD k a
  · unfold inv4
    isplitl [HO]
    · iexists fO; isplitr
      · ipureintro
        intro x
        rw [Nat.mul_zero, Nat.add_zero]
        exact hfO x (x 0).isLt
      · iexact HO
    isplitl [HX]
    · iexists fX; isplitr
      · ipureintro; intro x hx; exact absurd hx (by omega)
      · iexact HX
    iexact HD
  iintro %_ HI
  rw [show Scf.trips k4_t7_loop.lb k4_t7_loop.ub k4_t7_loop.st = 984 by decide]
  unfold inv4
  icases HI with ⟨⟨%f2', %hf2, HO⟩, ⟨%fx, %hfx, HX⟩, HD⟩
  have hin := dst_lt L (keyB A) fx hfx
  have hinj := dst_inj L (keyB A) fx hfx
  have hown := dst_own L (keyB A) fx hfx
  ihave Hpi := (Entails.of_eq (own_slice d L (keyB A) f0)) $$ Hpi
  sl_exec
  have hG : ∀ x : S503808.Idx, ownPlaces (keyB A) (wid L) (x 0).val → tile_body.sl.Hpi_sc0 (F := F) d L f0 gV fx hin x = pidOf A x := by
    intro x hx
    unfold tile_body.sl.Hpi_sc0
    exact sc_value d L A f0 fx hfx gV hgV numel_chunk hin x hx
  ihave Hpi := (Entails.of_eq (sc_back d L (keyB A) (tile_body.sl.Hpi_sc0 (F := F) d L f0 gV fx hin) (pidOf A : S503808.Idx → Elt F .i32) hG)) $$ Hpi
  sl_step
  isplitl [Hp1 Hhb Hpi Hhi Hst Hen]
  · isplitl [Hp1]; · iexact Hp1
    isplitl [Hhb]; · iexact Hhb
    isplitl [Hpi]; · iexact Hpi
    isplitl [Hhi]; · iexact Hhi
    isplitl [Hst]; · iexact Hst
    iexact Hen
  isplitl [HD HV HX HO HB HP HT HC HLx HuH HuS HuE Hbufs]
  · isplitl [HD]; · iexists _; iexact HD
    isplitl [HV]; · iexists _; iexact HV
    isplitl [HX]; · iexists _; iexact HX
    isplitl [HO]; · iexists _; iexact HO
    isplitl [HB]; · iexists _; iexact HB
    isplitl [HP]; · iexists _; iexact HP
    isplitl [HT]; · iexists _; iexact HT
    isplitl [HC]; · iexists _; iexact HC
    isplitl [HLx]; · iexists _; iexact HLx
    isplitl [HuH]; · iexists _; iexact HuH
    isplitl [HuS]; · iexists _; iexact HuS
    isplitl [HuE]; · iexists _; iexact HuE
    iexact Hbufs
  isplitl [Hsem0 Hsem1 Hsem2 Hsem3 Hsem4 Hsem5 Hsem6 Hsem7 Hsem8 Hsems]
  · isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    isplitl [Hsem6]; · iexact Hsem6
    isplitl [Hsem7]; · iexact Hsem7
    isplitl [Hsem8]; · iexact Hsem8
    iexact Hsems
  iexists _
  isplitr
  rotate_left
  · iexact HW
  ipureintro
  intro p hp
  rcases Finset.mem_insert.mp hp with rfl | hp
  · exact Or.inr rfl
  · exact hW1 p hp

end Cert.Proof.RankB

end
-- ==== Proof.Payloads.lean ====
/-
  What the launch hands each tile at each of the four SparseCore calls and takes back: a read share of every operand and
  the tile's own part of every result. A call's operands and results held whole are the tiles' parts together.
-/
module

public import proofs.«01_k».proof.Proof.HistA
public import proofs.«01_k».proof.Proof.HistB
public import proofs.«01_k».proof.Proof.RankATile
public import proofs.«01_k».proof.Proof.RankBTile
public import Idealize.ShloMosaic.Lib.Transfers

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 4) (Elt F) ℕ UU ℕ

/-! ## Thirty-two parts -/

/-- Tile `w`'s read share. -/
def shr (w : ℕ) : PosShare TreeShare := Transfers.dealOf fullShare (Finset.univ : Finset (Fin 32)) (Fin.ofNat 32 w)

/-- Over the two cores and their sixteen subcores is over the thirty-two tiles. -/
theorem bigSep_tiles (Φ : ℕ → sProp 𝕄) :
    (bigSep Finset.univ fun c : Fin 2 => bigSep Finset.univ fun i : Fin 16 => Φ (2 * i.val + c.val)) = bigSep Finset.univ fun w : Fin 32 => Φ w.val := by
  rw [← bigSep_univ_prod (fun x : Fin 2 × Fin 16 => Φ (2 * x.2.val + x.1.val)),
    bigSep_univ_equiv ((Equiv.prodComm (Fin 2) (Fin 16)).trans (finProdFinEquiv (m := 16) (n := 2))) (fun w : Fin 32 => Φ w.val)]
  refine bigSep_congr fun x _ => congrArg Φ ?_
  show _ = x.1.val + 2 * x.2.val
  omega

/-- A buffer held whole is a read share of it for each tile. -/
theorem deal_tiles (ℓ : Loc nD τ sig) (f : Buf (Elt F) ℓ) :
    (ℓ ↦{fullShare} f : sProp 𝕄) = bigSep Finset.univ fun w : Fin 32 => (ℓ ↦{shr w.val} f : sProp 𝕄) := by
  rw [Transfers.pointsTo_deal (Finset.univ : Finset (Fin 32)) ⟨0, Finset.mem_univ _⟩ fullShare]
  refine bigSep_congr fun w _ => ?_
  unfold shr
  rw [show Fin.ofNat 32 w.val = w from Fin.ext (Nat.mod_eq_of_lt w.isLt)]

/-- A buffer held whole is, for a number below 32 at each place, the places of each number. -/
theorem part_tiles (ℓ : Loc nD τ sig) (f : Buf (Elt F) ℓ) (g : Idx ℓ → ℕ) (hg : ∀ x, g x < 32) (P : ℕ → Finset (Idx ℓ)) (hP : ∀ w x, x ∈ P w ↔ g x = w) :
    (ℓ ↦{fullShare} f : sProp 𝕄) = bigSep Finset.univ fun w : Fin 32 => (ℓ ↦[P w.val]{fullShare} f : sProp 𝕄) := by
  rw [← pointsTo_biUnion (Finset.univ : Finset (Fin 32)) (fun w => P w.val)
    (fun t _ t' _ hne => Finset.disjoint_left.mpr fun x hx hx' => hne (Fin.ext (((hP _ _).mp hx).symm.trans ((hP _ _).mp hx'))))]
  congr 1
  refine (Finset.eq_univ_of_forall fun x => ?_).symm
  exact Finset.mem_biUnion.mpr ⟨⟨g x, hg x⟩, Finset.mem_univ _, (hP _ _).mpr rfl⟩

/-! ## The four calls' parts -/

/-- The TensorCore's buffer `b` on device `d`. -/
abbrev at_ (d : Dev nD) (b : Ref sig .tc) : Loc nD τ sig := (d : Thread nD τ).loc b

abbrev C3 : Type := S503808.Idx → Elt F .i32
abbrev CA : Type := S256x512.Idx → Elt F .i32
abbrev CB : Type := S512x512.Idx → Elt F .i32
abbrev C8 : Type := S8160.Idx → Elt F .i32

variable (d : Dev nD) (A B P1 : C3 (F := F))

/-- Tile `w`'s part of the first histogram call, the table at `f`. -/
def res0 (f : CA (F := F)) (w : ℕ) : sProp 𝕄 := iprop((at_ d main_v10 ↦{shr w} A) ∗ (at_ d main_v12 ↦[tabRows w]{fullShare} f))
/-- Tile `w`'s part of the first sort, its result at `f`. -/
def res1 (f : C3 (F := F)) (w : ℕ) : sProp 𝕄 := iprop((at_ d main_v10 ↦{shr w} A) ∗ (at_ d main_v11 ↦{shr w} B)
  ∗ (at_ d main_v12 ↦{shr w} (histTab (keyA A) : CA (F := F))) ∗ (at_ d main_v13 ↦[RankA.ownSet (keyA A) w]{fullShare} f))
/-- Tile `w`'s part of the second histogram call, the table at `f`. -/
def res2 (f : CB (F := F)) (w : ℕ) : sProp 𝕄 := iprop((at_ d main_v13 ↦{shr w} P1) ∗ (at_ d main_v14 ↦[tabRows w]{fullShare} f))
/-- Tile `w`'s part of the second sort, its four results at `f0` to `f3`. -/
def res3 (f0 : C3 (F := F)) (f1 f2 f3 : C8 (F := F)) (w : ℕ) : sProp 𝕄 := iprop((at_ d main_v13 ↦{shr w} P1)
  ∗ (at_ d main_v14 ↦{shr w} (histTab (keyB P1) : CB (F := F))) ∗ (at_ d main_v15_0 ↦[RankB.ownSet (keyB P1) w]{fullShare} f0)
  ∗ (at_ d main_v15_1 ↦[tilePart w]{fullShare} f1) ∗ (at_ d main_v15_2 ↦[tilePart w]{fullShare} f2) ∗ (at_ d main_v15_3 ↦[tilePart w]{fullShare} f3))

instance res0_storable (f : CA (F := F)) (w : ℕ) : BI.Storable (upEmb : UEmb _ 𝕄) (res0 d A f w) := by unfold res0; infer_instance
instance res1_storable (f : C3 (F := F)) (w : ℕ) : BI.Storable (upEmb : UEmb _ 𝕄) (res1 d A B f w) := by unfold res1; infer_instance
instance res2_storable (f : CB (F := F)) (w : ℕ) : BI.Storable (upEmb : UEmb _ 𝕄) (res2 d P1 f w) := by unfold res2; infer_instance
instance res3_storable (f0 : C3 (F := F)) (f1 f2 f3 : C8 (F := F)) (w : ℕ) : BI.Storable (upEmb : UEmb _ 𝕄) (res3 d P1 f0 f1 f2 f3 w) := by unfold res3; infer_instance

theorem rowsA_mem (w : ℕ) (x : S256x512.Idx) : x ∈ (tabRows w : Finset S256x512.Idx) ↔ (x 0).val % 32 = w := by unfold tabRows; simp
theorem rowsB_mem (w : ℕ) (x : S512x512.Idx) : x ∈ (tabRows w : Finset S512x512.Idx) ↔ (x 0).val % 32 = w := by unfold tabRows; simp
theorem part_mem (w : ℕ) (x : S8160.Idx) : x ∈ tilePart w ↔ (x 0).val / 256 = w := by unfold tilePart; simp

theorem place_mem (key : ℕ → ℕ) (w n : ℕ) : ownPlaces key w n ↔ Counting.unrank key 503808 n / 15744 = w := by
  unfold ownPlaces; omega

theorem split_tiles (Φ Ψ : Fin 32 → sProp 𝕄) : (bigSep Finset.univ fun w => iprop(Φ w ∗ Ψ w)) = iprop(bigSep Finset.univ Φ ∗ bigSep Finset.univ Ψ) := bigSep_sep _ _ _

theorem places_lt (key : ℕ → ℕ) (x : S503808.Idx) : Counting.unrank key 503808 (x 0).val / 15744 < 32 := by
  have := Counting.unrank_lt key (n := 503808) (p := (x 0).val) (x 0).isLt
  omega

theorem tab0 (f : CA (F := F)) : (at_ d main_v12 ↦{fullShare} f : sProp 𝕄) = bigSep Finset.univ fun w : Fin 32 => (at_ d main_v12 ↦[tabRows w.val]{fullShare} f : sProp 𝕄) :=
  part_tiles (at_ d main_v12) f (fun x => (x 0).val % 32) (fun x => Nat.mod_lt _ (by norm_num)) tabRows rowsA_mem
theorem tab1 (f : C3 (F := F)) (key : ℕ → ℕ) :
    (at_ d main_v13 ↦{fullShare} f : sProp 𝕄) = bigSep Finset.univ fun w : Fin 32 => (at_ d main_v13 ↦[RankA.ownSet key w.val]{fullShare} f : sProp 𝕄) :=
  part_tiles (at_ d main_v13) f (fun x => Counting.unrank key 503808 (x 0).val / 15744) (places_lt key) (RankA.ownSet key)
    (fun w x => (RankA.mem_own key w x).trans (place_mem key w _))
theorem tab2 (f : CB (F := F)) : (at_ d main_v14 ↦{fullShare} f : sProp 𝕄) = bigSep Finset.univ fun w : Fin 32 => (at_ d main_v14 ↦[tabRows w.val]{fullShare} f : sProp 𝕄) :=
  part_tiles (at_ d main_v14) f (fun x => (x 0).val % 32) (fun x => Nat.mod_lt _ (by norm_num)) tabRows rowsB_mem
theorem tab3 (f : C3 (F := F)) (key : ℕ → ℕ) :
    (at_ d main_v15_0 ↦{fullShare} f : sProp 𝕄) = bigSep Finset.univ fun w : Fin 32 => (at_ d main_v15_0 ↦[RankB.ownSet key w.val]{fullShare} f : sProp 𝕄) :=
  part_tiles (at_ d main_v15_0) f (fun x => Counting.unrank key 503808 (x 0).val / 15744) (places_lt key) (RankB.ownSet key)
    (fun w x => (RankB.mem_own key w x).trans (place_mem key w _))
theorem part_lt (x : S8160.Idx) : (x 0).val / 256 < 32 := by
  have : (x 0).val < 8160 := (x 0).isLt
  omega
theorem tab4 (f : C8 (F := F)) : (at_ d main_v15_1 ↦{fullShare} f : sProp 𝕄) = bigSep Finset.univ fun w : Fin 32 => (at_ d main_v15_1 ↦[tilePart w.val]{fullShare} f : sProp 𝕄) :=
  part_tiles (at_ d main_v15_1) f (fun x => (x 0).val / 256) part_lt tilePart part_mem
theorem tab5 (f : C8 (F := F)) : (at_ d main_v15_2 ↦{fullShare} f : sProp 𝕄) = bigSep Finset.univ fun w : Fin 32 => (at_ d main_v15_2 ↦[tilePart w.val]{fullShare} f : sProp 𝕄) :=
  part_tiles (at_ d main_v15_2) f (fun x => (x 0).val / 256) part_lt tilePart part_mem
theorem tab6 (f : C8 (F := F)) : (at_ d main_v15_3 ↦{fullShare} f : sProp 𝕄) = bigSep Finset.univ fun w : Fin 32 => (at_ d main_v15_3 ↦[tilePart w.val]{fullShare} f : sProp 𝕄) :=
  part_tiles (at_ d main_v15_3) f (fun x => (x 0).val / 256) part_lt tilePart part_mem

/-! A call's operands and results held whole are its tiles' parts. -/

theorem whole0 (f : CA (F := F)) : iprop((at_ d main_v10 ↦{fullShare} A : sProp 𝕄) ∗ (at_ d main_v12 ↦{fullShare} f)) = bigSep Finset.univ fun w : Fin 32 => res0 d A f w.val := by
  unfold res0
  rw [split_tiles, ← deal_tiles (at_ d main_v10) A, ← tab0]

theorem whole1 (f : C3 (F := F)) : iprop((at_ d main_v10 ↦{fullShare} A : sProp 𝕄) ∗ (at_ d main_v11 ↦{fullShare} B)
    ∗ (at_ d main_v12 ↦{fullShare} (histTab (keyA A) : CA (F := F))) ∗ (at_ d main_v13 ↦{fullShare} f)) = bigSep Finset.univ fun w : Fin 32 => res1 d A B f w.val := by
  unfold res1
  rw [split_tiles, split_tiles, split_tiles, ← deal_tiles (at_ d main_v10) A, ← deal_tiles (at_ d main_v11) B, ← deal_tiles (at_ d main_v12) (histTab (keyA A) : CA (F := F)), ← tab1]

theorem whole2 (f : CB (F := F)) : iprop((at_ d main_v13 ↦{fullShare} P1 : sProp 𝕄) ∗ (at_ d main_v14 ↦{fullShare} f)) = bigSep Finset.univ fun w : Fin 32 => res2 d P1 f w.val := by
  unfold res2
  rw [split_tiles, ← deal_tiles (at_ d main_v13) P1, ← tab2]

theorem whole3 (f0 : C3 (F := F)) (f1 f2 f3 : C8 (F := F)) : iprop((at_ d main_v13 ↦{fullShare} P1 : sProp 𝕄) ∗ (at_ d main_v14 ↦{fullShare} (histTab (keyB P1) : CB (F := F)))
    ∗ (at_ d main_v15_0 ↦{fullShare} f0) ∗ (at_ d main_v15_1 ↦{fullShare} f1) ∗ (at_ d main_v15_2 ↦{fullShare} f2) ∗ (at_ d main_v15_3 ↦{fullShare} f3))
      = bigSep Finset.univ fun w : Fin 32 => res3 d P1 f0 f1 f2 f3 w.val := by
  unfold res3
  rw [split_tiles, split_tiles, split_tiles, split_tiles, split_tiles, ← deal_tiles (at_ d main_v13) P1, ← deal_tiles (at_ d main_v14) (histTab (keyB P1) : CB (F := F)),
    ← tab3, ← tab4, ← tab5, ← tab6]

/-! ## The payloads -/

-- the contents of the TensorCore's buffers when the first call starts
variable (U : Dev nD → Valuation τ sig (Elt F))

abbrev dkOf (d : Dev nD) : C3 (F := F) := U d main_v10
abbrev p0Of (d : Dev nD) : C3 (F := F) := U d main_v11
abbrev pOf (d : Dev nD) : C3 (F := F) := p1Of (dkOf U d) (p0Of U d)

/-- What tile `w` is handed at call `q`, and what it gives back. -/
def handed (q : Fin 4) (d : Dev nD) (w : ℕ) : sProp 𝕄 := match q with
  | 0 => res0 d (dkOf U d) (U d main_v12) w
  | 1 => res1 d (dkOf U d) (p0Of U d) (U d main_v13) w
  | 2 => res2 d (pOf U d) (U d main_v14) w
  | 3 => res3 d (pOf U d) (U d main_v15_0) (U d main_v15_1) (U d main_v15_2) (U d main_v15_3) w
def given (q : Fin 4) (d : Dev nD) (w : ℕ) : sProp 𝕄 := match q with
  | 0 => res0 d (dkOf U d) (histTab (keyA (dkOf U d))) w
  | 1 => res1 d (dkOf U d) (p0Of U d) (pOf U d) w
  | 2 => res2 d (pOf U d) (histTab (keyB (pOf U d))) w
  | 3 => res3 d (pOf U d) (pidOf (pOf U d)) (tileHist (pOf U d)) (tileStart (pOf U d)) (tileEnd (pOf U d)) w

instance handed_storable (q : Fin 4) (d : Dev nD) (w : ℕ) : BI.Storable (upEmb : UEmb _ 𝕄) (handed U q d w) := by
  unfold handed; match q with | 0 => infer_instance | 1 => infer_instance | 2 => infer_instance | 3 => infer_instance
instance given_storable (q : Fin 4) (d : Dev nD) (w : ℕ) : BI.Storable (upEmb : UEmb _ 𝕄) (given U q d w) := by
  unfold given; match q with | 0 => infer_instance | 1 => infer_instance | 2 => infer_instance | 3 => infer_instance

/-- The launch's payloads: each core takes and brings back its tiles' parts. -/
def P : (K (F := F)).Pay (nD := nD) (Val := Elt F) (Name := ℕ) (U := UU) where
  st q d c := bigSep Finset.univ fun i : Fin ((K (F := F)).nSub q) => handed U q d (2 * i.val + c.val)
  dn q d c := bigSep Finset.univ fun i : Fin ((K (F := F)).nSub q) => given U q d (2 * i.val + c.val)
  go q d c i := handed U q d (2 * i.val + c.val)
  td q d c i := given U q d (2 * i.val + c.val)
  x _ _ := iprop(emp)

instance P_storable : (P (F := F) U).IsStorable where
  st q d c := (inferInstance : BI.Storable (upEmb : UEmb _ 𝕄) (bigSep Finset.univ fun i : Fin ((K (F := F)).nSub q) => handed U q d (2 * i.val + c.val)))
  dn q d c := (inferInstance : BI.Storable (upEmb : UEmb _ 𝕄) (bigSep Finset.univ fun i : Fin ((K (F := F)).nSub q) => given U q d (2 * i.val + c.val)))
  go q d c i := handed_storable U q d _
  td q d c i := given_storable U q d _

/-- A sequencer passes its tiles' parts on and collects them. -/
theorem vecSplit (q : Fin 4) : (K (F := F)).VecSplit' (P U) q := fun d c => by
  change (bigSep Finset.univ fun i : Fin ((K (F := F)).nSub q) => handed U q d (2 * i.val + c.val))
    ⊢ |={Set.univ}=> iprop((bigSep Finset.univ fun i : Fin ((K (F := F)).nSub q) => handed U q d (2 * i.val + c.val))
      ∗ ((bigSep Finset.univ fun i : Fin ((K (F := F)).nSub q) => given U q d (2 * i.val + c.val)) -∗ (bigSep Finset.univ fun i : Fin ((K (F := F)).nSub q) => given U q d (2 * i.val + c.val))))
  iintro H
  imodintro
  isplitl [H]; · iexact H
  iintro H
  iexact H

/-- All tiles' parts, over the call's cores. -/
theorem st_eq (q : Fin 4) (d : Dev nD) : (bigSep Finset.univ fun c : Fin ((K (F := F)).nCore q) => (P U).st q d c) = bigSep Finset.univ fun w : Fin 32 => handed U q d w.val := by
  match q with
  | 0 => exact bigSep_tiles (handed U 0 d)
  | 1 => exact bigSep_tiles (handed U 1 d)
  | 2 => exact bigSep_tiles (handed U 2 d)
  | 3 => exact bigSep_tiles (handed U 3 d)
theorem dn_eq (q : Fin 4) (d : Dev nD) : (bigSep Finset.univ fun c : Fin ((K (F := F)).nCore q) => (P U).dn q d c) = bigSep Finset.univ fun w : Fin 32 => given U q d w.val := by
  match q with
  | 0 => exact bigSep_tiles (given U 0 d)
  | 1 => exact bigSep_tiles (given U 1 d)
  | 2 => exact bigSep_tiles (given U 2 d)
  | 3 => exact bigSep_tiles (given U 3 d)

end Cert.Proof

end
-- ==== Proof.Tasks.lean ====
/-
  Each tile's task at each of the four SparseCore calls, in the launch's terms.
-/
module

public import proofs.«01_k».proof.Proof.Payloads

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 4) (Elt F) ℕ UU ℕ

variable (U : Dev nD → Valuation τ sig (Elt F))

theorem keyB_lt (A : S503808.Idx → BitVec 32) (i : ℕ) : keyB A i < 8192 := by
  unfold keyB
  have := (wAt A i).isLt
  omega

/-- The body table at call 0's label. -/
theorem defs₀_0 (c : Fin τ.nSC) (s : Fin τ.nSub) : defs₀ (F := F) (.scVector c s) 1 () = SparseCore.onTile hcore1 hsub1 (fun c s => cc1__hist_a (fun | 0 => c | 1 => s | ⟨_ + 2, h⟩ => absurd h (Nat.not_lt.2 (Nat.le_add_left _ _))) (Memref.whole main_v10_scv) (Memref.isWhole_whole _) (Memref.whole main_v12_scv) (Memref.isWhole_whole _) (Memref.whole cc1_scratch0) (Memref.isWhole_whole _) (Memref.whole cc1_scratch1) (Memref.isWhole_whole _) cc1_scoped0 cc1_scoped1) ⟨⟩ c s := rfl

set_option maxRecDepth 1024 in
/-- Call 0's task. -/
theorem tileObl0 (hA : ∀ d i, i < 503808 → keyA (dkOf U d) i < 4096) : (K (F := F)).TileObl (D (F := F)) 𝒱 (P U) v₀ 0 := by
  intro d c i O W hO _ _
  simp only [show (P (F := F) U).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_0]; simp only [SparseCore.onTile, hc, and_self, ↓reduceDIte]
  exact (HistA.tile_body (F := F) d (fun | 0 => ⟨_, hc.1⟩ | 1 => ⟨_, hc.2⟩ | ⟨_ + 2, h⟩ => absurd h (Nat.not_lt.2 (Nat.le_add_left _ _))) facts (shr (2 * i.val + c.val)) (dkOf U d) (U d main_v12) (hA d) O W hO).trans (wp_mono frame _ _ fun _ => obl_post)

/-- The body table at call 1's label. -/
theorem defs₀_1 (c : Fin τ.nSC) (s : Fin τ.nSub) : defs₀ (F := F) (.scVector c s) 2 () = SparseCore.onTile hcore2 hsub2 (fun c s => cc2__rank_a (fun | 0 => c | 1 => s | ⟨_ + 2, h⟩ => absurd h (Nat.not_lt.2 (Nat.le_add_left _ _))) (Memref.whole main_v10_scv) (Memref.isWhole_whole _) (Memref.whole main_v11_scv) (Memref.isWhole_whole _) (Memref.whole main_v12_scv) (Memref.isWhole_whole _) (Memref.whole main_v13_scv) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) cc2_scratch7 cc2_scoped0 cc2_scoped1 cc2_scoped2) ⟨⟩ c s := rfl

set_option maxRecDepth 1024 in
/-- Call 1's task. -/
theorem tileObl1 (hA : ∀ d i, i < 503808 → keyA (dkOf U d) i < 4096) : (K (F := F)).TileObl (D (F := F)) 𝒱 (P U) v₀ 1 := by
  intro d c i O W hO _ _
  simp only [show (P (F := F) U).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_1]; simp only [SparseCore.onTile, hc, and_self, ↓reduceDIte]
  exact (RankA.tile_body (F := F) d (fun | 0 => ⟨_, hc.1⟩ | 1 => ⟨_, hc.2⟩ | ⟨_ + 2, h⟩ => absurd h (Nat.not_lt.2 (Nat.le_add_left _ _))) facts (shr (2 * i.val + c.val)) (shr (2 * i.val + c.val)) (shr (2 * i.val + c.val)) (dkOf U d) (p0Of U d) (U d main_v13) (hA d) O W hO).trans (wp_mono frame _ _ fun _ => obl_post)

/-- The body table at call 2's label. -/
theorem defs₀_2 (c : Fin τ.nSC) (s : Fin τ.nSub) : defs₀ (F := F) (.scVector c s) 3 () = SparseCore.onTile hcore3 hsub3 (fun c s => cc3__hist_b (fun | 0 => c | 1 => s | ⟨_ + 2, h⟩ => absurd h (Nat.not_lt.2 (Nat.le_add_left _ _))) (Memref.whole main_v13_scv) (Memref.isWhole_whole _) (Memref.whole main_v14_scv) (Memref.isWhole_whole _) (Memref.whole cc3_scratch0) (Memref.isWhole_whole _) (Memref.whole cc3_scratch1) (Memref.isWhole_whole _) cc3_scoped0 cc3_scoped1) ⟨⟩ c s := rfl

set_option maxRecDepth 1024 in
/-- Call 2's task. -/
theorem tileObl2 : (K (F := F)).TileObl (D (F := F)) 𝒱 (P U) v₀ 2 := by
  intro d c i O W hO _ _
  simp only [show (P (F := F) U).ox = fun _ _ => 0 from rfl, add_zero]
  change _ ⊢ wp _ _ _ (Pipeline.liftProg (defs₀ (F := F) (.scVector ((K (F := F)).core 2 c) ((K (F := F)).sub 2 i)) 3 ())) _
  refine BI.Entails.trans ?_ (Pipeline.wp_liftProg (D (F := F)) (Pipeline.defs_kernel pcfgs defs₀) 𝒱₀ _ Set.univ none _ _)
  have hc : ((K (F := F)).core 2 c).val < grid3.bound 0 ∧ ((K (F := F)).sub 2 i).val < grid3.bound 1 := ⟨c.isLt, i.isLt⟩
  rw [defs₀_2]; simp only [SparseCore.onTile, hc, and_self, ↓reduceDIte]
  exact (HistB.tile_body (F := F) d (fun | 0 => ⟨_, hc.1⟩ | 1 => ⟨_, hc.2⟩ | ⟨_ + 2, h⟩ => absurd h (Nat.not_lt.2 (Nat.le_add_left _ _))) facts (shr (2 * i.val + c.val)) (pOf U d) (U d main_v14) (fun i _ => keyB_lt _ i) O W hO).trans (wp_mono frame _ _ fun _ => obl_post)

/-- The body table at call 3's label. -/
theorem defs₀_3 (c : Fin τ.nSC) (s : Fin τ.nSub) : defs₀ (F := F) (.scVector c s) 4 () = SparseCore.onTile hcore4 hsub4 (fun c s => cc4__rank_b (fun | 0 => c | 1 => s | ⟨_ + 2, h⟩ => absurd h (Nat.not_lt.2 (Nat.le_add_left _ _))) (Memref.whole main_v13_scv) (Memref.isWhole_whole _) (Memref.whole main_v14_scv) (Memref.isWhole_whole _) (Memref.whole main_v15_0_scv) (Memref.isWhole_whole _) (Memref.whole main_v15_1_scv) (Memref.isWhole_whole _) (Memref.whole main_v15_2_scv) (Memref.isWhole_whole _) (Memref.whole main_v15_3_scv) (Memref.isWhole_whole _) (Memref.whole cc4_scratch0) (Memref.isWhole_whole _) (Memref.whole cc4_scratch1) (Memref.isWhole_whole _) (Memref.whole cc4_scratch2) (Memref.isWhole_whole _) (Memref.whole cc4_scratch3) (Memref.isWhole_whole _) (Memref.whole cc4_scratch4) (Memref.isWhole_whole _) (Memref.whole cc4_scratch5) (Memref.isWhole_whole _) (Memref.whole cc4_scratch6) (Memref.isWhole_whole _) (Memref.whole cc4_scratch7) (Memref.isWhole_whole _) (Memref.whole cc4_scratch8) (Memref.isWhole_whole _) (Memref.whole cc4_scratch9) (Memref.isWhole_whole _) (Memref.whole cc4_scratch10) (Memref.isWhole_whole _) (Memref.whole cc4_scratch11) (Memref.isWhole_whole _) cc4_scratch12 cc4_scoped0 cc4_scoped1 cc4_scoped2 cc4_scoped3 cc4_scoped4 cc4_scoped5 cc4_scoped6 cc4_scoped7) ⟨⟩ c s := rfl

set_option maxRecDepth 1024 in
/-- Call 3's task. -/
theorem tileObl3 : (K (F := F)).TileObl (D (F := F)) 𝒱 (P U) v₀ 3 := by
  intro d c i O W hO _ _
  simp only [show (P (F := F) U).ox = fun _ _ => 0 from rfl, add_zero]
  change _ ⊢ wp _ _ _ (Pipeline.liftProg (defs₀ (F := F) (.scVector ((K (F := F)).core 3 c) ((K (F := F)).sub 3 i)) 4 ())) _
  refine BI.Entails.trans ?_ (Pipeline.wp_liftProg (D (F := F)) (Pipeline.defs_kernel pcfgs defs₀) 𝒱₀ _ Set.univ none _ _)
  have hc : ((K (F := F)).core 3 c).val < grid4.bound 0 ∧ ((K (F := F)).sub 3 i).val < grid4.bound 1 := ⟨c.isLt, i.isLt⟩
  rw [defs₀_3]; simp only [SparseCore.onTile, hc, and_self, ↓reduceDIte]
  exact (RankB.tile_body (F := F) d (fun | 0 => ⟨_, hc.1⟩ | 1 => ⟨_, hc.2⟩ | ⟨_ + 2, h⟩ => absurd h (Nat.not_lt.2 (Nat.le_add_left _ _))) facts (shr (2 * i.val + c.val)) (shr (2 * i.val + c.val)) (pOf U d) (U d main_v15_0) (U d main_v15_1) (U d main_v15_2) (U d main_v15_3) (fun i _ => keyB_lt _ i) O W hO).trans (wp_mono frame _ _ fun _ => obl_post)

end Cert.Proof

end
-- ==== Proof.Run.lean ====
/-
  The whole program's run: the host's operations before and after the calls, the first kernel's region, the four SparseCore
  calls, each taking the TensorCore's buffers from one valuation to the next.
-/
module

public import proofs.«01_k».proof.Proof.FrontRegion
public import proofs.«01_k».proof.Proof.Tasks

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 4) (Elt F) ℕ UU ℕ

/-! ## The valuations -/

/-- The host's operations before the first kernel, between it and the SparseCore calls, and after those. -/
def ops0 : List (HloOp τ sig (Elt F)) := [
    StableHlo.nullary main_cst (constant S_ .f32 0x00000000#32),
    StableHlo.unary main_cst main_v0 (broadcastInDim S3808x2 ![] bcast_S_S3808x2 : (⟨S_, .f32⟩ : BufTy).Contents (Elt F) → (⟨S3808x2, .f32⟩ : BufTy).Contents (Elt F)),
    StableHlo.nullary main_cst_0 (constant S_ .f32 0x3F800000#32),
    StableHlo.unary main_cst_0 main_v1 (broadcastInDim S3808x1 ![] bcast_S_S3808x1 : (⟨S_, .f32⟩ : BufTy).Contents (Elt F) → (⟨S3808x1, .f32⟩ : BufTy).Contents (Elt F)),
    StableHlo.binary main_v0 main_v1 main_v2 ((fun a b => concatenate S3808x3 1 [⟨S3808x2, a⟩, ⟨S3808x1, b⟩] concatenates_S3808x2_S3808x1_S3808x3_d1) : (⟨S3808x2, .f32⟩ : BufTy).Contents (Elt F) → (⟨S3808x1, .f32⟩ : BufTy).Contents (Elt F) → (⟨S3808x3, .f32⟩ : BufTy).Contents (Elt F)),
    StableHlo.binary main_arg0 main_v2 main_v3 ((fun a b => concatenate S503808x3 0 [⟨S500000x3, a⟩, ⟨S3808x3, b⟩] concatenates_S500000x3_S3808x3_S503808x3_d0) : (⟨S500000x3, .f32⟩ : BufTy).Contents (Elt F) → (⟨S3808x3, .f32⟩ : BufTy).Contents (Elt F) → (⟨S503808x3, .f32⟩ : BufTy).Contents (Elt F)),
    StableHlo.unary main_v3 main_v4 ((transpose S3x503808 [1, 0] · transposes_S503808x3_S3x503808_1_0) : (⟨S503808x3, .f32⟩ : BufTy).Contents (Elt F) → (⟨S3x503808, .f32⟩ : BufTy).Contents (Elt F)),
    StableHlo.unary main_arg1 main_v5 ((extractStridedSlice S500000x8 ![0, 0] · slices_S500000x56_S500000x8_0_0) : (⟨S500000x56, .f32⟩ : BufTy).Contents (Elt F) → (⟨S500000x8, .f32⟩ : BufTy).Contents (Elt F)),
    StableHlo.nullary main_cst_1 (constant S_ .f32 0x00000000#32),
    StableHlo.unary main_cst_1 main_v6 (broadcastInDim S3808x8 ![] bcast_S_S3808x8 : (⟨S_, .f32⟩ : BufTy).Contents (Elt F) → (⟨S3808x8, .f32⟩ : BufTy).Contents (Elt F)),
    StableHlo.binary main_v5 main_v6 main_v7 ((fun a b => concatenate S503808x8 0 [⟨S500000x8, a⟩, ⟨S3808x8, b⟩] concatenates_S500000x8_S3808x8_S503808x8_d0) : (⟨S500000x8, .f32⟩ : BufTy).Contents (Elt F) → (⟨S3808x8, .f32⟩ : BufTy).Contents (Elt F) → (⟨S503808x8, .f32⟩ : BufTy).Contents (Elt F)),
    StableHlo.unary main_v7 main_v8 ((transpose S8x503808 [1, 0] · transposes_S503808x8_S8x503808_1_0) : (⟨S503808x8, .f32⟩ : BufTy).Contents (Elt F) → (⟨S8x503808, .f32⟩ : BufTy).Contents (Elt F))]
def ops1 : List (HloOp τ sig (Elt F)) := [
    StableHlo.reshape main_v9_1 main_v10 (rfl : (.i32 : EltTy) = .i32) shapeCasts_S1x503808_S503808,
    StableHlo.reshape main_v9_2 main_v11 (rfl : (.i32 : EltTy) = .i32) shapeCasts_S1x503808_S503808]
def ops2 : List (HloOp τ sig (Elt F)) := [
    StableHlo.unary main_v9_0 main_v16 ((extractStridedSlice S8x500000 ![0, 0] · slices_S8x503808_S8x500000_0_0) : (⟨S8x503808, .f32⟩ : BufTy).Contents (Elt F) → (⟨S8x500000, .f32⟩ : BufTy).Contents (Elt F)),
    StableHlo.unary main_v16 main_v17 ((transpose S500000x8 [1, 0] · transposes_S8x500000_S500000x8_1_0) : (⟨S8x500000, .f32⟩ : BufTy).Contents (Elt F) → (⟨S500000x8, .f32⟩ : BufTy).Contents (Elt F)),
    StableHlo.unary main_v15_0 main_v18 ((extractStridedSlice S500000 ![0] · slices_S503808_S500000_0) : (⟨S503808, .i32⟩ : BufTy).Contents (Elt F) → (⟨S500000, .i32⟩ : BufTy).Contents (Elt F))]

variable (m : (ℓ : Loc nD τ sig) → Buf (Elt F) ℓ)

/-- The TensorCore's buffers at the launch and when the first kernel starts. -/
def V0 (d : Dev nD) : Valuation τ sig (Elt F) := fun b => m (d, b)
def V1 (d : Dev nD) : Valuation τ sig (Elt F) := after ops0 (V0 m d)
/-- The first kernel's proof data, from there. -/
abbrev dat0 (d : Dev nD) := Front.dat (F := F) (fun c b => V1 m c b) d
/-- After the first kernel, and when the first SparseCore call starts. -/
def V2 (d : Dev nD) : Valuation τ sig (Elt F) :=
  Function.update (Function.update (Function.update (V1 m d) (main_v9_0 : DevRef τ sig) ((dat0 m d).arrAt 2 cfg0.N))
    (main_v9_1 : DevRef τ sig) ((dat0 m d).arrAt 3 cfg0.N)) (main_v9_2 : DevRef τ sig) ((dat0 m d).arrAt 4 cfg0.N)
def V3 (d : Dev nD) : Valuation τ sig (Elt F) := after ops1 (V2 m d)
/-- After each SparseCore call, and at the end. -/
def V4 (d : Dev nD) : Valuation τ sig (Elt F) := Function.update (V3 m d) (main_v12 : DevRef τ sig) (histTab (keyA (dkOf (V3 m) d)) : CA (F := F))
def V5 (d : Dev nD) : Valuation τ sig (Elt F) := Function.update (V4 m d) (main_v13 : DevRef τ sig) (pOf (V3 m) d)
def V6 (d : Dev nD) : Valuation τ sig (Elt F) := Function.update (V5 m d) (main_v14 : DevRef τ sig) (histTab (keyB (pOf (V3 m) d)) : CB (F := F))
def V7 (d : Dev nD) : Valuation τ sig (Elt F) :=
  Function.update (Function.update (Function.update (Function.update (V6 m d) (main_v15_0 : DevRef τ sig) (pidOf (pOf (V3 m) d) : C3 (F := F)))
    (main_v15_1 : DevRef τ sig) (tileHist (pOf (V3 m) d) : C8 (F := F))) (main_v15_2 : DevRef τ sig) (tileStart (pOf (V3 m) d) : C8 (F := F)))
    (main_v15_3 : DevRef τ sig) (tileEnd (pOf (V3 m) d) : C8 (F := F))
def V8 (d : Dev nD) : Valuation τ sig (Elt F) := after ops2 (V7 m d)

/-! ## The buffers of a call -/

abbrev ucR : Finset (DevRef τ sig) := Pipeline.ucRefs τ sig

theorem mem_ucR (b : Ref sig .tc) (h : (b : DevRef τ sig).isScoped = false) : (b : DevRef τ sig) ∈ ucR :=
  Finset.mem_filter.mpr ⟨StableHlo.devRef_mem_tcRefs b, by rw [h]; exact Bool.false_ne_true⟩

/-- Some of the buffers taken out of all, to be put back at another valuation that differs only there. -/
theorem take (d : Dev nD) (B : Finset (DevRef τ sig)) (hB : B ⊆ ucR) (W W' : Valuation τ sig (Elt F)) (h : ∀ b, b ∉ B → W b = W' b) :
    (held (T d) ucR W : sProp 𝕄) ⊢ iprop(held (T d) B W ∗ (held (T d) B W' -∗ held (T d) ucR W')) := by
  rw [StableHlo.held_sub_split (T d) hB W, StableHlo.held_sub_split (T d) hB W',
    StableHlo.held_congr (T d) (S := ucR \ B) (V := W) (V' := W') fun b hb => h b (Finset.mem_sdiff.mp hb).2]
  iintro ⟨HB, HR⟩
  isplitl [HB]; · iexact HB
  iintro HB
  isplitl [HB]; · iexact HB
  iexact HR

/-! ## The launch's ghost state -/

/-- The pipeline's rounds. -/
def EP : Emb UK 𝕄 := (Emb.inl : Emb UK (UK × Counters)).trans embR
instance EP_landsIn : (EP : Emb UK 𝕄).LandsIn (upEmb : UEmb _ 𝕄) := by unfold EP; infer_instance

abbrev pcf : Fin 1 → Pipeline.Cfg sig Λ₀ := Pipeline.pin (pcfgs (F := F)) Front.adm

def u₀ : UU := (initOf (K (F := F)).hsCells (K (F := F)).hsToks,
  (initOf (Pipeline.cells (nD := nD) (τ := τ) (pcf (F := F)) cellOf_inj) (Pipeline.launchToks (nD := nD) (τ := τ) (pcf (F := F)) cellOf_inj), 1))

/-- What the launch hands each TensorCore: its pipeline's ghost state. -/
def G (d : Dev nD) : sProp 𝕄 := iprop(Pipeline.cellsGhost (pcf (F := F)) EP 0 d ∗ Pipeline.toksInit (pcf (F := F)) EP 0 d)

theorem ownU_split (a : UH) (b : UK) : (ownU ((a, (b, 1)) : UU) : sProp 𝕄) ⊢ iprop(BI.own (EH a) ∗ BI.own (EP b)) :=
  BI.own_op_elim ((uEmb (nD := nD) (sig := sig) (Ix := HIx 4) (Val := Elt F) (Name := ℕ) (U := UU) (Lvl := ℕ)).toEmb.op_of_mem
    (Prod.mk_mem_op (URA.mem_op_one a) (URA.mem_one_op (b, (1 : Counters)))))

theorem bigSep_one (Φ : Fin 1 → sProp 𝕄) : bigSep Finset.univ Φ = Φ 0 := bigSep_univ_of_subsingleton (0 : Fin 1)

theorem hu₀ (U : Dev nD → Valuation τ sig (Elt F)) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 4 => (P U).x q thr) := by
  unfold u₀
  iintro Hu
  ihave H := (ownU_split _ _) $$ Hu
  icases H with ⟨HH, HK⟩
  imod (Pipeline.fund_ghost (pcf (F := F)) EP cellOf_inj) $$ HK with ⟨Hc, Ht⟩
  imodintro
  isplitl [HH]; · iexact HH
  isplitl [Hc Ht]
  · unfold G
    simp only [bigSep_one]
    isplitl [Hc]; · iexact Hc
    iexact Ht
  rw [show (bigSep Finset.univ fun thr : Thread nD τ => bigSep Finset.univ fun q : Fin 4 => (P U).x q thr) = (iprop(emp) : sProp 𝕄) from
    (bigSep_congr fun thr _ => bigSep_emp_const _).trans (bigSep_emp_const _)]
  iempintro

/-! ## The first kernel -/

theorem V2_ne (d : Dev nD) (b : Ref sig .tc) (h0 : b ≠ main_v9_0) (h1 : b ≠ main_v9_1) (h2 : b ≠ main_v9_2) : V2 m d b = V1 m d b := by
  unfold V2
  rw [Function.update_of_ne (fun h => h2 (Proc.devRef_injective _ h)), Function.update_of_ne (fun h => h1 (Proc.devRef_injective _ h)),
    Function.update_of_ne (fun h => h0 (Proc.devRef_injective _ h))]
theorem V2_0 (d : Dev nD) : V2 m d main_v9_0 = (dat0 m d).arrAt 2 cfg0.N := by
  unfold V2
  rw [Function.update_of_ne (fun h => absurd (Proc.devRef_injective _ h) (by decide)), Function.update_of_ne (fun h => absurd (Proc.devRef_injective _ h) (by decide)),
    Function.update_self]
theorem V2_1 (d : Dev nD) : V2 m d main_v9_1 = (dat0 m d).arrAt 3 cfg0.N := by
  unfold V2
  rw [Function.update_of_ne (fun h => absurd (Proc.devRef_injective _ h) (by decide)), Function.update_self]
theorem V2_2 (d : Dev nD) : V2 m d main_v9_2 = (dat0 m d).arrAt 4 cfg0.N := by
  unfold V2
  rw [Function.update_self]

def reg0 := Front.reg (F := F) (fun c b => V1 m c b) (fun c b => V2 m c b) (V2_0 m) (V2_1 m) (V2_2 m) (V2_ne m)

/-- The first kernel's region, on the program's own body table. -/
theorem region_run (d : Dev nD) (Q : PUnit → sProp 𝕄) :
    iprop((iprop(boundary (T d) ∗ held (T d) ucR (V2 m d) ∗ Front.owesLow (F := F) d) -∗ Q ⟨⟩)
        ∗ boundary (T d) ∗ held (T d) ucR (V1 m d) ∗ Front.owesLow (F := F) d ∗ levAts (K (F := F)).L (K (F := F)).lev ∗ G d)
      ⊢ wp frame (wpE ((K (F := F)).defs (D (F := F))) 𝒱 (T d) none) Set.univ (Prog.lift (.customCall (SparseCore.inner (Pipeline.entry 0)) ())) Q := by
  have hw := Pipeline.RegionSeg.wp (pcfgs (F := F)) Front.adm (Front.pdats (F := F) (fun c b => V1 m c b)) (none : HIx 4) cellOf_inj EP defs₀ Variants.none (K (F := F)).L (K (F := F)).lev
    (reg0 m) d none (fun _ h => nomatch h) (fun _ => (.ret ⟨⟩ : Prog _ PUnit)) Q
  have hw' : iprop((iprop(boundary (T d) ∗ unscopedBufs d (fun b => V2 m d b) ∗ Front.owesLow (F := F) d) -∗ |={Set.univ}=> Q ⟨⟩)
        ∗ boundary (T d) ∗ (unscopedBufs d (fun b => V1 m d b) ∗ Front.owesLow (F := F) d) ∗ levAts (K (F := F)).L (K (F := F)).lev
        ∗ Pipeline.cellsGhost (pcf (F := F)) EP 0 d ∗ Pipeline.toksInit (pcf (F := F)) EP 0 d)
      ⊢ wp frame (wpE ((K (F := F)).defs (D (F := F))) 𝒱 (T d) none) Set.univ (Prog.lift (.customCall (SparseCore.inner (Pipeline.entry 0)) ())) Q :=
    hw.trans ((K (F := F)).wp_liftProg (D (F := F)) 𝒱 (T d) Set.univ none _ _)
  refine BIBase.Entails.trans ?_ hw'
  unfold G
  iintro ⟨Hk, Hb, Hh, HO, HL, Hc, Ht⟩
  isplitl [Hk]
  · iintro ⟨Hb, Hp⟩
    imodintro
    iapply Hk
    isplitl [Hb]; · iexact Hb
    rw [← Pipeline.unscopedBufs_held d (V2 m d)]
    iexact Hp
  isplitl [Hb]; · iexact Hb
  isplitl [Hh HO]
  · isplitl [Hh]
    · rw [Pipeline.unscopedBufs_held d (V1 m d)]
      iexact Hh
    iexact HO
  isplitl [HL]; · iexact HL
  isplitl [Hc]; · iexact Hc
  iexact Ht

end Cert.Proof

end
-- ==== Proof.Calls.lean ====
/-
  Each SparseCore call against the TensorCore's buffers: what the call is handed comes out of them, and what it gives back
  makes them the next valuation.
-/
module

public import proofs.«01_k».proof.Proof.Run

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 4) (Elt F) ℕ UU ℕ

variable (m : (ℓ : Loc nD τ sig) → Buf (Elt F) ℓ)

/-- A buffer that is not an updated one keeps its contents. -/
theorem upd_ne (W : Valuation τ sig (Elt F)) (a b : Ref sig .tc) (x : Buf (Elt F) ((0 : Dev nD), (a : DevRef τ sig))) (h : b ≠ a) :
    Function.update W (a : DevRef τ sig) x b = W b := Function.update_of_ne (fun e => h (Proc.devRef_injective _ e)) _ _

def B0 : Finset (DevRef τ sig) := {(main_v10 : DevRef τ sig), (main_v12 : DevRef τ sig)}
def B1 : Finset (DevRef τ sig) := {(main_v10 : DevRef τ sig), (main_v11 : DevRef τ sig), (main_v12 : DevRef τ sig), (main_v13 : DevRef τ sig)}
def B2 : Finset (DevRef τ sig) := {(main_v13 : DevRef τ sig), (main_v14 : DevRef τ sig)}
def B3 : Finset (DevRef τ sig) := {(main_v13 : DevRef τ sig), (main_v14 : DevRef τ sig), (main_v15_0 : DevRef τ sig), (main_v15_1 : DevRef τ sig),
  (main_v15_2 : DevRef τ sig), (main_v15_3 : DevRef τ sig)}

theorem B0_sub : B0 ⊆ ucR := by
  unfold B0; intro b hb; simp only [Finset.mem_insert, Finset.mem_singleton] at hb
  rcases hb with rfl | rfl <;> exact mem_ucR _ rfl
theorem B1_sub : B1 ⊆ ucR := by
  unfold B1; intro b hb; simp only [Finset.mem_insert, Finset.mem_singleton] at hb
  rcases hb with rfl | rfl | rfl | rfl <;> exact mem_ucR _ rfl
theorem B2_sub : B2 ⊆ ucR := by
  unfold B2; intro b hb; simp only [Finset.mem_insert, Finset.mem_singleton] at hb
  rcases hb with rfl | rfl <;> exact mem_ucR _ rfl
theorem B3_sub : B3 ⊆ ucR := by
  unfold B3; intro b hb; simp only [Finset.mem_insert, Finset.mem_singleton] at hb
  rcases hb with rfl | rfl | rfl | rfl | rfl | rfl <;> exact mem_ucR _ rfl

theorem devRef_ne {a b : Ref sig .tc} (h : a ≠ b) : (a : DevRef τ sig) ≠ (b : DevRef τ sig) := fun e => h (Proc.devRef_injective _ e)

theorem held_B0 (d : Dev nD) (W : Valuation τ sig (Elt F)) : (held (T d) B0 W : sProp 𝕄)
    = iprop((at_ d main_v10 ↦{fullShare} W main_v10) ∗ (at_ d main_v12 ↦{fullShare} W main_v12)) := by
  unfold held B0
  rw [SparseCore.bigSep_insert' (by simp only [Finset.mem_singleton]; exact devRef_ne (by decide)), bigSep_singleton]
theorem held_B1 (d : Dev nD) (W : Valuation τ sig (Elt F)) : (held (T d) B1 W : sProp 𝕄)
    = iprop((at_ d main_v10 ↦{fullShare} W main_v10) ∗ (at_ d main_v11 ↦{fullShare} W main_v11) ∗ (at_ d main_v12 ↦{fullShare} W main_v12)
      ∗ (at_ d main_v13 ↦{fullShare} W main_v13)) := by
  unfold held B1
  rw [SparseCore.bigSep_insert' (by simp only [Finset.mem_insert, Finset.mem_singleton, not_or]; exact ⟨devRef_ne (by decide), devRef_ne (by decide), devRef_ne (by decide)⟩),
    SparseCore.bigSep_insert' (by simp only [Finset.mem_insert, Finset.mem_singleton, not_or]; exact ⟨devRef_ne (by decide), devRef_ne (by decide)⟩),
    SparseCore.bigSep_insert' (by simp only [Finset.mem_singleton]; exact devRef_ne (by decide)), bigSep_singleton]
theorem held_B2 (d : Dev nD) (W : Valuation τ sig (Elt F)) : (held (T d) B2 W : sProp 𝕄)
    = iprop((at_ d main_v13 ↦{fullShare} W main_v13) ∗ (at_ d main_v14 ↦{fullShare} W main_v14)) := by
  unfold held B2
  rw [SparseCore.bigSep_insert' (by simp only [Finset.mem_singleton]; exact devRef_ne (by decide)), bigSep_singleton]
theorem held_B3 (d : Dev nD) (W : Valuation τ sig (Elt F)) : (held (T d) B3 W : sProp 𝕄)
    = iprop((at_ d main_v13 ↦{fullShare} W main_v13) ∗ (at_ d main_v14 ↦{fullShare} W main_v14) ∗ (at_ d main_v15_0 ↦{fullShare} W main_v15_0)
      ∗ (at_ d main_v15_1 ↦{fullShare} W main_v15_1) ∗ (at_ d main_v15_2 ↦{fullShare} W main_v15_2) ∗ (at_ d main_v15_3 ↦{fullShare} W main_v15_3)) := by
  unfold held B3
  rw [SparseCore.bigSep_insert' (by simp only [Finset.mem_insert, Finset.mem_singleton, not_or]; exact ⟨devRef_ne (by decide), devRef_ne (by decide), devRef_ne (by decide), devRef_ne (by decide), devRef_ne (by decide)⟩),
    SparseCore.bigSep_insert' (by simp only [Finset.mem_insert, Finset.mem_singleton, not_or]; exact ⟨devRef_ne (by decide), devRef_ne (by decide), devRef_ne (by decide), devRef_ne (by decide)⟩),
    SparseCore.bigSep_insert' (by simp only [Finset.mem_insert, Finset.mem_singleton, not_or]; exact ⟨devRef_ne (by decide), devRef_ne (by decide), devRef_ne (by decide)⟩),
    SparseCore.bigSep_insert' (by simp only [Finset.mem_insert, Finset.mem_singleton, not_or]; exact ⟨devRef_ne (by decide), devRef_ne (by decide)⟩),
    SparseCore.bigSep_insert' (by simp only [Finset.mem_singleton]; exact devRef_ne (by decide)), bigSep_singleton]

/-! ## The valuations' contents -/

theorem V4_ne (d : Dev nD) (b : DevRef τ sig) (h : b ≠ main_v12) : V4 m d b = V3 m d b := Function.update_of_ne h _ _
theorem V4_v12 (d : Dev nD) : V4 m d main_v12 = (histTab (keyA (dkOf (V3 m) d)) : CA (F := F)) := Function.update_self ..
theorem V5_ne (d : Dev nD) (b : DevRef τ sig) (h : b ≠ main_v13) : V5 m d b = V4 m d b := Function.update_of_ne h _ _
theorem V5_v13 (d : Dev nD) : V5 m d main_v13 = pOf (V3 m) d := Function.update_self ..
theorem V6_ne (d : Dev nD) (b : DevRef τ sig) (h : b ≠ main_v14) : V6 m d b = V5 m d b := Function.update_of_ne h _ _
theorem V6_v14 (d : Dev nD) : V6 m d main_v14 = (histTab (keyB (pOf (V3 m) d)) : CB (F := F)) := Function.update_self ..
theorem V7_ne (d : Dev nD) (b : DevRef τ sig) (h0 : b ≠ main_v15_0) (h1 : b ≠ main_v15_1) (h2 : b ≠ main_v15_2) (h3 : b ≠ main_v15_3) : V7 m d b = V6 m d b := by
  unfold V7
  rw [Function.update_of_ne h3, Function.update_of_ne h2, Function.update_of_ne h1, Function.update_of_ne h0]
theorem V7_0 (d : Dev nD) : V7 m d main_v15_0 = (pidOf (pOf (V3 m) d) : C3 (F := F)) := by
  unfold V7
  rw [Function.update_of_ne (devRef_ne (by decide)), Function.update_of_ne (devRef_ne (by decide)), Function.update_of_ne (devRef_ne (by decide)), Function.update_self]
theorem V7_1 (d : Dev nD) : V7 m d main_v15_1 = (tileHist (pOf (V3 m) d) : C8 (F := F)) := by
  unfold V7
  rw [Function.update_of_ne (devRef_ne (by decide)), Function.update_of_ne (devRef_ne (by decide)), Function.update_self]
theorem V7_2 (d : Dev nD) : V7 m d main_v15_2 = (tileStart (pOf (V3 m) d) : C8 (F := F)) := by
  unfold V7
  rw [Function.update_of_ne (devRef_ne (by decide)), Function.update_self]
theorem V7_3 (d : Dev nD) : V7 m d main_v15_3 = (tileEnd (pOf (V3 m) d) : C8 (F := F)) := by
  unfold V7
  rw [Function.update_self]

/-! ## The calls -/

/-- What the call hands its cores, out of the buffers, and the buffers back from what they return. -/
def Ok (d : Dev nD) (q : Fin 4) (W W' : Valuation τ sig (Elt F)) : Prop :=
  (held (T d) ucR W : sProp 𝕄) ⊢ iprop((bigSep Finset.univ fun c : Fin ((K (F := F)).nCore q) => (P (V3 m)).st q d c)
    ∗ ((bigSep Finset.univ fun c : Fin ((K (F := F)).nCore q) => (P (V3 m)).dn q d c) -∗ held (T d) ucR W'))

theorem ok_of (d : Dev nD) (q : Fin 4) (B : Finset (DevRef τ sig)) (hB : B ⊆ ucR) (W W' : Valuation τ sig (Elt F)) (h : ∀ b, b ∉ B → W b = W' b)
    (hs : (held (T d) B W : sProp 𝕄) = bigSep Finset.univ fun w : Fin 32 => handed (V3 m) q d w.val)
    (hd : (held (T d) B W' : sProp 𝕄) = bigSep Finset.univ fun w : Fin 32 => given (V3 m) q d w.val) : Ok m d q W W' := by
  unfold Ok
  rw [st_eq, dn_eq, ← hs, ← hd]
  exact take d B hB W W' h

theorem call0 (d : Dev nD) : Ok m d 0 (V3 m d) (V4 m d) :=
  ok_of m d 0 B0 B0_sub _ _ (fun b hb => (V4_ne m d b fun e => hb (by unfold B0; rw [e]; simp)).symm)
    (by rw [held_B0]; exact whole0 d (dkOf (V3 m) d) (V3 m d main_v12))
    (by rw [held_B0, V4_v12, V4_ne m d _ (devRef_ne (by decide))]; exact whole0 d (dkOf (V3 m) d) _)

theorem call1 (d : Dev nD) : Ok m d 1 (V4 m d) (V5 m d) :=
  ok_of m d 1 B1 B1_sub _ _ (fun b hb => (V5_ne m d b fun e => hb (by unfold B1; rw [e]; simp)).symm)
    (by rw [held_B1, V4_v12, V4_ne m d _ (devRef_ne (by decide)), V4_ne m d _ (devRef_ne (by decide)), V4_ne m d _ (devRef_ne (by decide))]
        exact whole1 d (dkOf (V3 m) d) (p0Of (V3 m) d) (V3 m d main_v13))
    (by rw [held_B1, V5_v13, V5_ne m d _ (devRef_ne (by decide)), V5_ne m d _ (devRef_ne (by decide)), V5_ne m d _ (devRef_ne (by decide)),
          V4_v12, V4_ne m d _ (devRef_ne (by decide)), V4_ne m d _ (devRef_ne (by decide))]
        exact whole1 d (dkOf (V3 m) d) (p0Of (V3 m) d) _)

theorem call2 (d : Dev nD) : Ok m d 2 (V5 m d) (V6 m d) :=
  ok_of m d 2 B2 B2_sub _ _ (fun b hb => (V6_ne m d b fun e => hb (by unfold B2; rw [e]; simp)).symm)
    (by rw [held_B2, V5_v13, V5_ne m d _ (devRef_ne (by decide)), V4_ne m d _ (devRef_ne (by decide))]
        exact whole2 d (pOf (V3 m) d) (V3 m d main_v14))
    (by rw [held_B2, V6_v14, V6_ne m d _ (devRef_ne (by decide)), V5_v13]
        exact whole2 d (pOf (V3 m) d) _)

theorem V6_old (d : Dev nD) (b : DevRef τ sig) (h0 : b ≠ main_v12) (h1 : b ≠ main_v13) (h2 : b ≠ main_v14) : V6 m d b = V3 m d b := by
  rw [V6_ne m d b h2, V5_ne m d b h1, V4_ne m d b h0]

theorem call3 (d : Dev nD) : Ok m d 3 (V6 m d) (V7 m d) :=
  ok_of m d 3 B3 B3_sub _ _ (fun b hb => (V7_ne m d b (fun e => hb (by unfold B3; rw [e]; simp)) (fun e => hb (by unfold B3; rw [e]; simp))
      (fun e => hb (by unfold B3; rw [e]; simp)) (fun e => hb (by unfold B3; rw [e]; simp))).symm)
    (by rw [held_B3, V6_v14, V6_ne m d main_v13 (devRef_ne (by decide)), V5_v13,
          V6_old m d main_v15_0 (devRef_ne (by decide)) (devRef_ne (by decide)) (devRef_ne (by decide)),
          V6_old m d main_v15_1 (devRef_ne (by decide)) (devRef_ne (by decide)) (devRef_ne (by decide)),
          V6_old m d main_v15_2 (devRef_ne (by decide)) (devRef_ne (by decide)) (devRef_ne (by decide)),
          V6_old m d main_v15_3 (devRef_ne (by decide)) (devRef_ne (by decide)) (devRef_ne (by decide))]
        exact whole3 d (pOf (V3 m) d) (V3 m d main_v15_0) (V3 m d main_v15_1) (V3 m d main_v15_2) (V3 m d main_v15_3))
    (by rw [held_B3, V7_0, V7_1, V7_2, V7_3,
          V7_ne m d main_v13 (devRef_ne (by decide)) (devRef_ne (by decide)) (devRef_ne (by decide)) (devRef_ne (by decide)),
          V7_ne m d main_v14 (devRef_ne (by decide)) (devRef_ne (by decide)) (devRef_ne (by decide)) (devRef_ne (by decide)),
          V6_v14, V6_ne m d main_v13 (devRef_ne (by decide)), V5_v13]
        exact whole3 d (pOf (V3 m) d) _ _ _ _)

end Cert.Proof

end
-- ==== Proof.Launch.lean ====
/-
  The whole program run once: from any memory whose depth keys lie below 4096, every execution ends with the arguments
  unchanged, all semaphores at zero and the results at their values.
-/
module

public import proofs.«01_k».proof.Proof.Calls

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)

variable {F : FTy → Type} [FloatOps F]

local notation "𝕄" => MT nD τ sig (HIx 4) (Elt F) ℕ UU ℕ

variable (m : (ℓ : Loc nD τ sig) → Buf (Elt F) ℓ) (ρ : Dev nD → PrngReg)

/-- `main` in its five stretches. -/
theorem main_eq (d : Dev nD) : main (F := F) d = (StableHlo.seq ops0 >>= fun _ => (Prog.lift (.customCall (SparseCore.inner (Pipeline.entry 0)) ()) >>= fun _ =>
    (StableHlo.seq ops1 >>= fun _ => ((K (F := F)).run d 0 >>= fun _ => ((K (F := F)).run d 1 >>= fun _ => ((K (F := F)).run d 2 >>= fun _ =>
      ((K (F := F)).run d 3 >>= fun _ => (StableHlo.seq ops2 >>= fun _ => pure ⟨⟩)))))))) := rfl

theorem ops0_sub : (ops0 (F := F)).Forall fun op => op.bufs ⊆ ucR := by
  unfold ops0
  simp only [List.forall_cons, List.Forall, and_true]
  exact ⟨Pipeline.sub_ucRefs _ (StableHlo.nullary_bufs_sub ..), Pipeline.sub_ucRefs _ (StableHlo.unary_bufs_sub ..), Pipeline.sub_ucRefs _ (StableHlo.nullary_bufs_sub ..),
    Pipeline.sub_ucRefs _ (StableHlo.unary_bufs_sub ..), Pipeline.sub_ucRefs _ (StableHlo.binary_bufs_sub ..), Pipeline.sub_ucRefs _ (StableHlo.binary_bufs_sub ..),
    Pipeline.sub_ucRefs _ (StableHlo.unary_bufs_sub ..), Pipeline.sub_ucRefs _ (StableHlo.unary_bufs_sub ..), Pipeline.sub_ucRefs _ (StableHlo.nullary_bufs_sub ..),
    Pipeline.sub_ucRefs _ (StableHlo.unary_bufs_sub ..), Pipeline.sub_ucRefs _ (StableHlo.binary_bufs_sub ..), Pipeline.sub_ucRefs _ (StableHlo.unary_bufs_sub ..)⟩
theorem ops1_sub : (ops1 (F := F)).Forall fun op => op.bufs ⊆ ucR := by
  unfold ops1
  simp only [List.forall_cons, List.Forall, and_true]
  exact ⟨Pipeline.sub_ucRefs _ (StableHlo.reshape_bufs_sub ..), Pipeline.sub_ucRefs _ (StableHlo.reshape_bufs_sub ..)⟩
theorem ops2_sub : (ops2 (F := F)).Forall fun op => op.bufs ⊆ ucR := by
  unfold ops2
  simp only [List.forall_cons, List.Forall, and_true]
  exact ⟨Pipeline.sub_ucRefs _ (StableHlo.unary_bufs_sub ..), Pipeline.sub_ucRefs _ (StableHlo.unary_bufs_sub ..), Pipeline.sub_ucRefs _ (StableHlo.unary_bufs_sub ..)⟩
theorem ops0_fresh : (ops0 (F := F)).Forall fun op => op.fresh = ∅ := by
  unfold ops0; simp only [List.forall_cons, List.Forall, and_true]; exact ⟨rfl, rfl, rfl, rfl, rfl, rfl, rfl, rfl, rfl, rfl, rfl, rfl⟩
theorem ops1_fresh : (ops1 (F := F)).Forall fun op => op.fresh = ∅ := by
  unfold ops1; simp only [List.forall_cons, List.Forall, and_true]; exact ⟨rfl, rfl⟩
theorem ops2_fresh : (ops2 (F := F)).Forall fun op => op.fresh = ∅ := by
  unfold ops2; simp only [List.forall_cons, List.Forall, and_true]; exact ⟨rfl, rfl, rfl⟩

/-- What each TensorCore ends with: its buffers at the last valuation. -/
def FIN (d : Dev nD) : sProp 𝕄 := held (T d) ucR (V8 m d)

/-- One SparseCore call from `main`. -/
theorem call_run (κ : GSem nD τ sig → ℕ) (d : Dev nD) (q : Fin 4) (W W' : Valuation τ sig (Elt F)) (h : Ok m d q W W') (Φ : PUnit → sProp 𝕄) :
    iprop((K (F := F)).ctx EH (P (V3 m)) κ ∗ (K (F := F)).tcSt EH d q.val ∗ held (T d) ucR W
        ∗ (((K (F := F)).tcSt EH d (q.val + 1) ∗ held (T d) ucR W') -∗ Φ ⟨⟩))
      ⊢ wp frame (wpE ((K (F := F)).defs (D (F := F))) 𝒱 (T d) none) Set.univ ((K (F := F)).run d q) Φ := by
  refine BIBase.Entails.trans ?_ ((K (F := F)).wp_run (D (F := F)) 𝒱 (EH := EH) (P := P (V3 m)) κ d q)
  iintro ⟨Hctx, Hst, Hh, Hk⟩
  unfold Ok at h
  ihave H := h $$ Hh
  icases H with ⟨Hs, Hback⟩
  isplitl [Hctx]; · iexact Hctx
  isplitl [Hst]; · iexact Hst
  isplitl [Hs]; · iexact Hs
  iintro ⟨Hst, Hd⟩
  iapply Hk
  isplitl [Hst]; · iexact Hst
  iapply Hback
  iexact Hd

theorem start_bufs (d : Dev nD) : (unscopedBufs d (fun b => m ((SparseCore.T d : Thread nD τ).loc b)) : sProp 𝕄) = held (T d) ucR (V0 m d) := by
  have h := Pipeline.unscopedBufs_held (Ix := HIx 4) (Name := ℕ) (U := UU) (Lvl := ℕ) d (V0 m d)
  unfold V0 at h ⊢
  exact h

/-- What the TensorCore owes, out of its state before the first call, and back. -/
theorem st_split (d : Dev nD) : ((K (F := F)).tcSt EH d 0 : sProp 𝕄) ⊢ iprop(Front.owesLow (F := F) d ∗ (Front.owesLow (F := F) d -∗ (K (F := F)).tcSt EH d 0)) := by
  unfold SparseCore.Cfg.tcSt
  iintro ⟨HO, Hr⟩
  isplitl [HO]; · iexact HO
  iintro HO
  isplitl [HO]; · iexact HO
  iexact Hr

theorem hmain (κ : GSem nD τ sig → ℕ) (d : Dev nD) :
    iprop((K (F := F)).ctx EH (P (V3 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 4 ∗ FIN m d ∗ (K (F := F)).tcEnd d) := by
  unfold SparseCore.Cfg.tcRes SparseCore.Cfg.tcEnd FIN
  rw [main_eq, start_bufs m d]
  iintro ⟨#Hctx, Hst, ⟨Hb, Hh, Hts, -⟩, HG⟩
  ihave H := (StableHlo.wp_seq 𝒱 none Set.univ d ucR _ (ops0 (F := F)) (List.forall_iff_forall_mem.mp ops0_sub) (List.forall_iff_forall_mem.mp ops0_fresh) (V0 m d)) $$ [Hb Hh]
  · isplitl [Hb] <;> iassumption
  iapply H
  iintro ⟨Hb, Hh⟩
  rw [wp_bind]
  ihave HL := ((K (F := F)).ctx_levAts κ) $$ Hctx
  ihave Hst := (st_split d) $$ Hst
  icases Hst with ⟨HO, Hrest⟩
  iapply (region_run m d)
  isplitl [Hrest Hts]
  · iintro ⟨Hb, Hh, HO⟩
    ihave H := (StableHlo.wp_seq 𝒱 none Set.univ d ucR _ (ops1 (F := F)) (List.forall_iff_forall_mem.mp ops1_sub) (List.forall_iff_forall_mem.mp ops1_fresh) (V2 m d)) $$ [Hb Hh]
    · isplitl [Hb] <;> iassumption
    iapply H
    iintro ⟨Hb, Hh⟩
    rw [wp_bind]
    iapply (call_run m κ d 0 _ _ (call0 m d))
    isplitr; · iexact Hctx
    isplitl [HO Hrest]
    · iapply Hrest
      iexact HO
    isplitl [Hh]; · iexact Hh
    iintro ⟨Hst, Hh⟩
    rw [wp_bind]
    iapply (call_run m κ d 1 _ _ (call1 m d))
    isplitr; · iexact Hctx
    isplitl [Hst]; · iexact Hst
    isplitl [Hh]; · iexact Hh
    iintro ⟨Hst, Hh⟩
    rw [wp_bind]
    iapply (call_run m κ d 2 _ _ (call2 m d))
    isplitr; · iexact Hctx
    isplitl [Hst]; · iexact Hst
    isplitl [Hh]; · iexact Hh
    iintro ⟨Hst, Hh⟩
    rw [wp_bind]
    iapply (call_run m κ d 3 _ _ (call3 m d))
    isplitr; · iexact Hctx
    isplitl [Hst]; · iexact Hst
    isplitl [Hh]; · iexact Hh
    iintro ⟨Hst, Hh⟩
    ihave H := (StableHlo.wp_seq 𝒱 none Set.univ d ucR _ (ops2 (F := F)) (List.forall_iff_forall_mem.mp ops2_sub) (List.forall_iff_forall_mem.mp ops2_fresh) (V7 m d)) $$ [Hb Hh]
    · isplitl [Hb] <;> iassumption
    iapply H
    iintro ⟨Hb, Hh⟩
    rw [wp_pure]
    imodintro
    isplitl [Hst]; · iexact Hst
    isplitl [Hh]; · iexact Hh
    isplitl [Hb] <;> iassumption
  isplitl [Hb]; · iexact Hb
  isplitl [Hh]; · iexact Hh
  isplitl [HO]; · iexact HO
  isplitl [HL]; · iexact HL
  iexact HG

/-- At the end every unscoped buffer of the TensorCore reads the last valuation. -/
def fq (d : Dev nD) (s' : Phys nD τ sig (Elt F)) : Prop := ∀ b ∈ ucR, s'.mem.mem (d, b) = V8 m d b

theorem hfin (d : Dev nD) (s' : Phys nD τ sig (Elt F)) : iprop(FIN m d ∗ SI s') ⊢ (⌜fq m d s'⌝ : sProp 𝕄) := by
  unfold FIN held
  refine BIBase.Entails.trans ?_ (SI_pointsTo_bufs_agree (st := s') (c := d) (F := V8 m d) (qs := fun _ => fullShare) ucR)
  iintro ⟨Hh, HSI⟩
  isplitl [HSI] <;> iassumption

/-- The run's end: all unscoped buffers at the last valuation, all semaphores at zero. -/
def QC : PUnit × MemSt nD τ sig (Elt F) → Prop := fun r => (∀ d : Dev nD, ∀ b ∈ ucR, r.2.mem (d, b) = V8 m d b) ∧ r.2.sem = fun _ => 0

theorem run_main [∀ e, Nonempty (Elt F e)] (hA : ∀ d i, i < 503808 → keyA (dkOf (V3 m) d) i < 4096) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (V3 m)) (A := ∅) facts v₀
    (fun q hq => match q with | 0 => nomatch hq | 1 => nomatch hq | 2 => nomatch hq | 3 => nomatch hq)
    (fun q _ => match q with | 0 => tileObl0 (V3 m) hA | 1 => tileObl1 (V3 m) hA | 2 => tileObl2 (V3 m) | 3 => tileObl3 (V3 m))
    (fun q _ => SparseCore.Cfg.VecSplit.of_plain (vecSplit (V3 m) q))
    m ρ main G (FIN m) (u₀ (F := F)) (sep_elim_left.trans (hu₀ (V3 m))) (hmain m ρ) (fq m) (hfin m) (QC m) (fun _ h hz => ⟨h, hz⟩)

end Cert.Proof

end
-- ==== Proof.FrontArr.lean ====
/-
  The first kernel's integer results after its run: the depth keys and the packed words, as functions of the two input
  arrays.
-/
module

public import proofs.«01_k».proof.Proof.FrontRegion
public import Idealize.ShloMosaic.Lib.Pipeline.ValueKit
public import Idealize.ShloMosaic.Lib.WritesUnit

@[expose] public section

noncomputable section

namespace Cert.Proof.Front

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]

variable (V : (c : Dev nD) → (b : Ref sig .tc) → Buf (Elt F) ((c : Thread nD τ).loc b))

/-- Every window's block index at a point, and the point's coordinate. -/
theorem idx : ∀ t : Fin cfg0.N, win0_0.index t = ![0, t.val] ∧ win0_1.index t = ![0, t.val] ∧ win0_2.index t = ![0, t.val]
    ∧ win0_3.index t = ![0, t.val] ∧ win0_4.index t = ![0, t.val] ∧ (grid0.coords t 0).val = t.val :=
  (by decide +kernel : ∀ t : Fin grid0.N, _)

theorem covers2 : (cfg0.win 2).Covers := by decide +kernel
theorem covers3 : (cfg0.win 3).Covers := by decide +kernel
theorem covers4 : (cfg0.win 4).Covers := by decide +kernel

/-- Column `j` of block `t`. -/
def col (t : Fin cfg0.N) (j : Fin 512) : Fin 503808 := ⟨512 * t.val + j.val, by have := t.isLt; have : cfg0.N = 984 := rfl; omega⟩

theorem stg0_apply (c : Dev nD) (t : Fin cfg0.N) (r : Fin 3) (j : Fin 512) : stg0 V c t (ix2 r j) = V c main_v4 (ix2 r (col t j)) := by
  unfold stg0 col
  blk_ext! [idx t]
theorem stg1_apply (c : Dev nD) (t : Fin cfg0.N) (r : Fin 8) (j : Fin 512) : stg1 V c t (ix2 r j) = V c main_v8 (ix2 r (col t j)) := by
  unfold stg1 col
  blk_ext! [idx t]

/-- A point's depth key. -/
def keyF (z : F .f32) : BitVec 32 :=
  FloatOps.fptosi 32 (FloatOps.minimumf (FloatOps.ofBits .f32 0x4F000000#32) (FloatOps.maximumf (FloatOps.ofBits .f32 0x00000000#32)
    (FloatOps.mulf (FloatOps.extf .f32 bitsLt_bf16_f32 (FloatOps.truncf .bf16 bitsLt_bf16_f32 z)) (FloatOps.ofBits .f32 0x42C80000#32))))

/-- The column number of a place of the block, as a word. -/
theorem pay9_apply (t : Fin cfg0.N) (j : Fin 512) : k0_pay9 (BitVec.ofNat 32 t.val) (ix2 0 j) = BitVec.ofNat 32 (col t j).val := by
  have e : iota .tc S1x512 32 [1] iota_S1x512_d1_w32 (ix2 0 j) = BitVec.ofNat 32 j.val := by
    simp [iota]
  unfold k0_pay9
  show BitVec.ofNat 32 t.val * 512#32 + iota .tc S1x512 32 [1] iota_S1x512_d1_w32 (ix2 0 j) = _
  rw [e]
  unfold col
  rw [← BitVec.ofNat_mul, ← BitVec.ofNat_add, Nat.mul_comm]

theorem pay10_apply (t : Fin cfg0.N) (j : Fin 512) : k0_pay10 (BitVec.ofNat 32 t.val) (ix2 0 j) = BitVec.ofBool (decide ((col t j).val < 500000)) := by
  show IntOp.cmpi .slt (k0_pay9 (BitVec.ofNat 32 t.val) (ix2 0 j)) 500000#32 = _
  rw [pay9_apply]
  have h := (col t j).isLt
  simp only [IntOp.cmpi, BitVec.slt_eq_decide, BitVec.toInt_eq_toNat_cond, BitVec.toNat_ofNat]
  congr 1
  simp only [decide_eq_decide]
  omega

/-- A row of a block. -/
def row3 {α : Type} (X : S3x512.Idx → α) (r : Fin 3) : S1x512.Idx → α := fun x => X (ix2 r (x 1))
def row8 {α : Type} (X : S8x512.Idx → α) (r : Fin 8) : S1x512.Idx → α := fun x => X (ix2 r (x 1))

/-- A row of a whole block, loaded. -/
theorem load3 (c : Dev nD) (M : Memref sig .tc .vmem S3x512 .f32) (h : M.IsWhole) (X : S3x512.Idx → Elt F .f32) (r : Fin 3) (o : Fin 2 → ℕ)
    (ho : o = ![r.val, 0]) (inb : ∀ a, o a + S1x512.size a ≤ S3x512.size a) :
    View.readAt (Elt F) M.view (Rect.unit (s := S3x512) o S1x512.size inb).toLoadRect (h.unread X : Bf (F := F) c M) = row3 X r := by
  subst ho
  funext x
  refine (View.readAt_apply _ _ _).trans ?_
  rw [h.read_unread]
  unfold row3
  congr 1
  funext a
  match a with
  | ⟨0, _⟩ => exact Fin.ext (by have : (x 0).val = 0 := Nat.lt_one_iff.mp (x 0).isLt; show r.val + 1 * (x 0).val = r.val; omega)
  | ⟨1, _⟩ => exact Fin.ext (by show 0 + 1 * (x 1).val = (x 1).val; omega)

/-- A row of a whole block, loaded. -/
theorem load8 (c : Dev nD) (M : Memref sig .tc .vmem S8x512 .f32) (h : M.IsWhole) (X : S8x512.Idx → Elt F .f32) (r : Fin 8) (o : Fin 2 → ℕ)
    (ho : o = ![r.val, 0]) (inb : ∀ a, o a + S1x512.size a ≤ S8x512.size a) :
    View.readAt (Elt F) M.view (Rect.unit (s := S8x512) o S1x512.size inb).toLoadRect (h.unread X : Bf (F := F) c M) = row8 X r := by
  subst ho
  funext x
  refine (View.readAt_apply _ _ _).trans ?_
  rw [h.read_unread]
  unfold row8
  congr 1
  funext a
  match a with
  | ⟨0, _⟩ => exact Fin.ext (by have : (x 0).val = 0 := Nat.lt_one_iff.mp (x 0).isLt; show r.val + 1 * (x 0).val = r.val; omega)
  | ⟨1, _⟩ => exact Fin.ext (by show 0 + 1 * (x 1).val = (x 1).val; omega)

theorem pay12_apply (t : Fin cfg0.N) (v4 : Vec F S1x512 .f32) (j : Fin 512) :
    k0_pay12 (BitVec.ofNat 32 t.val) (k0_pay3 v4) (ix2 0 j) = if (col t j).val < 500000 then keyF (v4 (ix2 0 j)) else 4095#32 := by
  unfold k0_pay12 k0_pay3
  dsimp only
  rw [shapeCast_self]
  show (if k0_pay10 (BitVec.ofNat 32 t.val) (ix2 0 j) = 1#1 then keyF (v4 (ix2 0 j)) else 4095#32) = _
  rw [pay10_apply]
  by_cases h : (col t j).val < 500000
  · simp [h]
  · simp [h]

section
variable (c : Dev nD) (i : grid0.Coords) (M0 : Memref sig .tc .vmem S3x512 .f32) (h0 : M0.IsWhole) (M1 : Memref sig .tc .vmem S8x512 .f32) (h1 : M1.IsWhole)
  (M2 : Memref sig .tc .vmem S8x512 .f32) (h2 : M2.IsWhole) (M3 : Memref sig .tc .vmem S1x512 .i32) (h3 : M3.IsWhole) (M4 : Memref sig .tc .vmem S1x512 .i32) (h4 : M4.IsWhole)
  (X0 : S3x512.Idx → Elt F .f32) (X1 : S8x512.Idx → Elt F .f32)

/-- What the body stores in its second result. -/
theorem run3 (j : Fin 512) : M3.view.read (Elt F) (frontRun (F := F) c i M0 h0 M1 h1 M2 h2 M3 h3 M4 h4 (h0.unread X0) (h1.unread X1)).1.2.1 (ix2 0 j)
    = k0_pay12 (BitVec.ofNat 32 (i 0).val) (k0_pay3 (row3 X0 2)) (ix2 0 j) := by
  unfold frontRun
  dsimp only
  unfold frontRun.sl.H3_1
  refine (View.read_writes_cons_unit_of_mem _ _ _ _ _ (ix2 0 j) (ix2 0 j) rfl (fun a => by match a with | ⟨0, _⟩ => rfl | ⟨1, _⟩ => exact (Nat.zero_add _).symm)).trans ?_
  rw [load3 c M0 h0 X0 2 ![2, 0] rfl]

/-- What the body stores in its third result. -/
theorem run4 (j : Fin 512) : M4.view.read (Elt F) (frontRun (F := F) c i M0 h0 M1 h1 M2 h2 M3 h3 M4 h4 (h0.unread X0) (h1.unread X1)).1.2.2 (ix2 0 j)
    = k0_pay14 (k0_pay9 (BitVec.ofNat 32 (i 0).val)) (k0_pay11 (BitVec.ofNat 32 (i 0).val) (k0_pay5 (row3 X0 0) (row3 X0 2)) (k0_pay6 (row3 X0 1) (row3 X0 2))
        (k0_pay7 (row3 X0 0) (row3 X0 2)) (k0_pay8 (row3 X0 1) (row3 X0 2))) k0_pay13 (ix2 0 j) := by
  unfold frontRun
  dsimp only
  unfold frontRun.sl.H4_1
  refine (View.read_writes_cons_unit_of_mem _ _ _ _ _ (ix2 0 j) (ix2 0 j) rfl (fun a => by match a with | ⟨0, _⟩ => rfl | ⟨1, _⟩ => exact (Nat.zero_add _).symm)).trans ?_
  rw [load3 c M0 h0 X0 2 ![2, 0] rfl, load3 c M0 h0 X0 1 ![1, 0] rfl, load3 c M0 h0 X0 0 ![0, 0] rfl]
end

theorem out3_apply (c : Dev nD) (t : Fin cfg0.N) (j : Fin 512) :
    out3 V c t (ix2 0 j) = if (col t j).val < 500000 then keyF (V c main_v4 (ix2 2 (col t j))) else 4095#32 := by
  refine (run3 c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4)) _ _ j).trans ?_
  rw [(idx t).2.2.2.2.2, pay12_apply]
  unfold row3
  rw [show (stg0 V c t) (ix2 2 ((ix2 0 j : S1x512.Idx) 1)) = V c main_v4 (ix2 2 (col t j)) from stg0_apply V c t 2 j]

/-- The depth keys after the first kernel. -/
def arr3 (X : S3x503808.Idx → Elt F .f32) : S1x503808.Idx → Elt F .i32 := fun y => if (y 1).val < 500000 then keyF (X (ix2 2 (y 1))) else 4095#32

theorem final3 (c : Dev nD) : (dat V c).arrAt 3 cfg0.N = arr3 (V c main_v4) := by
  refine (dat V c).arrAt_eq_of_covers 3 _ covers3 fun t hf y => ?_
  blk_simp
  obtain ⟨j, rfl⟩ : ∃ j : Fin 512, y = ix2 0 j := ⟨y 1, by funext a; match a with | ⟨0, _⟩ => exact Fin.ext (Nat.lt_one_iff.mp (y 0).isLt) | ⟨1, _⟩ => rfl⟩
  refine (out3_apply V c t j).trans ?_
  unfold arr3
  have e : (win0_3.blk t).view.emb (ix2 0 j) = ix2 0 (col t j) := by
    unfold col
    blk_ext! [idx t]
  rw [e]
  rfl

end Cert.Proof.Front

end
-- ==== Proof.Arrays.lean ====
/-
  What the program's run leaves in its buffers, element by element: the transposed inputs of the first kernel, the depth
  keys that the SparseCore calls are given, and the arguments, which nothing writes.
-/
module

public import proofs.«01_k».proof.Proof.FrontArr
public import proofs.«01_k».proof.Proof.Calls

@[expose] public section

noncomputable section

namespace Cert.Proof

open Cert.KernelIdeal Cert.KernelIdeal.Gen
open Idealize.ShloMosaic Idealize.ShloMosaic.TcCoe
open Idealize.ShloMosaic.StableHlo (held after)

variable {F : FTy → Type} [FloatOps F]
variable (m : (ℓ : Loc nD τ sig) → Buf (Elt F) ℓ) (d : Dev nD)

/-- The points and their features, as the launch finds them. -/
abbrev A0 : S500000x3.Idx → Elt F .f32 := m (d, (main_arg0 : DevRef τ sig))
abbrev A1 : S500000x56.Idx → Elt F .f32 := m (d, (main_arg1 : DevRef τ sig))

/-- The first kernel's first input holds, at column `i` of row `r`, coordinate `r` of point `i`. -/
theorem v4_apply (r : Fin 3) (i : Fin 503808) (h : i.val < 500000) : (V1 m d main_v4 : S3x503808.Idx → Elt F .f32) (ix2 r i) = A0 m d (ix2 ⟨i.val, h⟩ r) := by
  unfold V1 ops0
  after_results_simp
  refine (transpose_apply _ _ _ (ix2 r i) (ix2 i r) (fun b => by match b with | ⟨0, _⟩ => rfl | ⟨1, _⟩ => rfl)).trans ?_
  refine (concatenate_pair_apply_left (s₁ := S500000x3) _ _ _ _ (ix2 i r) rfl (ix2 (⟨i.val, h⟩ : Fin 500000) r) (fun b => by match b with | ⟨0, _⟩ => rfl | ⟨1, _⟩ => rfl)).trans ?_
  after_results_simp
  rfl

/-- And its second input, at column `i` of row `r`, feature `r` of point `i`. -/
theorem v8_apply (r : Fin 8) (i : Fin 503808) (h : i.val < 500000) :
    (V1 m d main_v8 : S8x503808.Idx → Elt F .f32) (ix2 r i) = A1 m d (ix2 ⟨i.val, h⟩ ⟨r.val, by omega⟩) := by
  unfold V1 ops0
  after_results_simp
  refine (transpose_apply _ _ _ (ix2 r i) (ix2 i r) (fun b => by match b with | ⟨0, _⟩ => rfl | ⟨1, _⟩ => rfl)).trans ?_
  refine (concatenate_pair_apply_left (s₁ := S500000x8) _ _ _ _ (ix2 i r) rfl (ix2 (⟨i.val, h⟩ : Fin 500000) r) (fun b => by match b with | ⟨0, _⟩ => rfl | ⟨1, _⟩ => rfl)).trans ?_
  after_results_simp
  exact extractStridedSlice_apply _ _ _ _ _ (fun b => by match b with | ⟨0, _⟩ => exact (Nat.zero_add _).symm | ⟨1, _⟩ => exact (Nat.zero_add _).symm)

/-- The depth keys. -/
theorem dk_apply (i : ℕ) (h : i < 503808) : wAt (dkOf (V3 m) d) i = Front.arr3 (V1 m d main_v4) (ix2 0 ⟨i, h⟩) := by
  have e : V3 m d main_v10 = shapeCast S503808 (V2 m d main_v9_1 : S1x503808.Idx → Elt F .i32) shapeCasts_S1x503808_S503808 := by
    unfold V3 ops1
    after_results_simp
    try rfl
  unfold wAt
  rw [dif_pos h]
  refine (congrFun e _).trans ?_
  refine (shapeCast_apply _ _ _ (ix2 0 ⟨i, h⟩) ?_).trans ?_
  · rw [Shape.rowMajor_val_one, Shape.rowMajor_val_two]
    show 0 * 503808 + i = i
    omega
  · rw [V2_1]
    exact congrFun (Front.final3 (fun c b => V1 m c b) d) _

/-- A buffer that nothing writes ends as it began. -/
theorem V8_arg {b : Ref sig .tc} (hb : b ∈ ([main_arg0, main_arg1, main_arg2, main_arg3] : List (Ref sig .tc))) : V8 m d b = m (d, (b : DevRef τ sig)) := by
  unfold V8 ops2
  simp only [List.mem_cons, List.mem_singleton, List.not_mem_nil, or_false] at hb
  rcases hb with rfl | rfl | rfl | rfl <;>
  · after_results_simp
    rw [V7_ne _ _ _ (by decide) (by decide) (by decide) (by decide), V6_ne _ _ _ (by decide), V5_ne _ _ _ (by decide), V4_ne _ _ _ (by decide)]
    unfold V3 ops1
    after_results_simp
    rw [V2_ne _ _ _ (by decide) (by decide) (by decide)]
    unfold V1 ops0
    after_results_simp
    rfl

end Cert.Proof

end
-- ==== Proof.Precond.lean ====
/-
  What the frames' precondition says: every depth key is below 4096.
-/
module

public import proofs.«01_k».proof.Proof.Arrays
public import proofs.«01_k».proof.Proof.Gen.Pre_depth_in_range
public import Idealize.ShloMosaic.Lib.Affine

@[expose] public section

noncomputable section

namespace Cert.Proof

open Cert.KernelIdeal Cert.KernelIdeal.Gen
open Idealize.ShloMosaic Idealize.ShloMosaic.TcCoe

variable {F : FTy → Type} [FloatOps F]

theorem lt_of_range (k : BitVec 32) (h : IntOp.andi (IntOp.cmpi .sge k 0#32) (IntOp.cmpi .slt k 4096#32) = 1#1) : k.toNat < 4096 := by
  obtain ⟨h1, h2⟩ := IntOp.andi_eq_one.1 h
  have h1 := IntOp.cmpi_sge.1 h1
  have h2 := IntOp.cmpi_slt.1 h2
  simp only [BitVec.toInt_eq_toNat_cond, BitVec.toNat_ofNat] at h1 h2
  omega

/-- A slice of the third coordinates, read. -/
theorem third (A : S500000x3.Idx → Elt F .f32) (hs : S500000x3.Slices ![0, 2] Cert.Pre_depth_in_range.S500000x1)
    (hc : Cert.Pre_depth_in_range.S500000x1.ShapeCasts Cert.Pre_depth_in_range.S500000) (i : Fin 500000) :
    shapeCast Cert.Pre_depth_in_range.S500000 (extractStridedSlice Cert.Pre_depth_in_range.S500000x1 ![0, 2] A hs) hc (Shape.ofLane (d := ![500000]) i) = A (ix2 i 2) := by
  refine (shapeCast_apply _ _ _ (ix2 i 0) ?_).trans ?_
  · rw [Shape.rowMajor_val_one, Shape.rowMajor_val_two]
    show i.val * 1 + 0 = i.val
    omega
  · exact extractStridedSlice_apply _ _ _ _ _ (fun b => by match b with | ⟨0, _⟩ => exact (Nat.zero_add _).symm | ⟨1, _⟩ => rfl)

/-- The first precondition bounds every depth key. -/
theorem range_of_depth (A : S500000x3.Idx → Elt F .f32) (B : S500000x56.Idx → Elt F .f32) (C : S3x3.Idx → Elt F .f32) (D : S4x4.Idx → Elt F .f32)
    (h : Cert.Pre_depth_in_range.fn (F := F) A B C D = fun _ => 1#1) (i : Fin 500000) : (Front.keyF (A (ix2 i 2))).toNat < 4096 := by
  have h := congrFun h (Shape.ofLane (d := ![500000]) i)
  rw [← third A Cert.Pre_depth_in_range.Facts.slices_S500000x3_S500000x1_0_2 Cert.Pre_depth_in_range.Facts.shapeCasts_S500000x1_S500000 i]
  exact lt_of_range _ h

/-- With every point's key in range, every word of the depth keys is below 4096. -/
theorem hA_of (m : (ℓ : Loc nD τ sig) → Buf (Elt F) ℓ) (h : ∀ d (i : Fin 500000), (Front.keyF (A0 m d (ix2 i 2))).toNat < 4096) (d : Dev nD) (i : ℕ) (hi : i < 503808) :
    keyA (dkOf (V3 m) d) i < 4096 := by
  unfold keyA
  rw [dk_apply m d i hi]
  unfold Front.arr3
  by_cases hc : i < 500000
  · rw [if_pos (show ((ix2 0 ⟨i, hi⟩ : S1x503808.Idx) 1).val < 500000 from hc)]
    rw [show (V1 m d main_v4 : S3x503808.Idx → Elt F .f32) (ix2 2 ((ix2 0 ⟨i, hi⟩ : S1x503808.Idx) 1)) = A0 m d (ix2 ⟨i, hc⟩ 2) from v4_apply m d 2 ⟨i, hi⟩ hc]
    exact h d _
  · rw [if_neg (show ¬ ((ix2 0 ⟨i, hi⟩ : S1x503808.Idx) 1).val < 500000 from hc)]
    decide

end Cert.Proof

end
-- ==== Proof.Frames.lean ====
/-
  The programs run from every memory that the preconditions allow, leave their arguments as they were, and end with every
  semaphore at zero.
-/
module

public import proofs.«01_k».proof.Defs
public import proofs.«01_k».proof.Proof.Launch
public import proofs.«01_k».proof.Proof.Precond
public import proofs.«01_k».proof.Proof.Gen.Kernel
public import proofs.«01_k».proof.Proof.Gen.ReferenceIdeal.Run

@[expose] public section

noncomputable section

namespace Cert.Proof

open Idealize.ShloMosaic Idealize.SL.Sem Idealize.ShloMosaic.TcCoe

section
variable {F : FTy → Type} [FloatOps F]
open Cert.KernelIdeal

theorem mem_arg {b : Ref sig .tc} (hb : b ∈ ([main_arg0, main_arg1, main_arg2, main_arg3] : List (Ref sig .tc))) : (b : DevRef τ sig) ∈ ucR := by
  simp only [List.mem_cons, List.not_mem_nil, or_false] at hb
  rcases hb with rfl | rfl | rfl | rfl <;> decide

theorem args_kept (m : (ℓ : Loc nD τ sig) → Buf (Elt F) ℓ) (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h.1 c _ (mem_arg (by simp))).trans (V8_arg m c (by simp)), (h.1 c _ (mem_arg (by simp))).trans (V8_arg m c (by simp)),
    (h.1 c _ (mem_arg (by simp))).trans (V8_arg m c (by simp)), (h.1 c _ (mem_arg (by simp))).trans (V8_arg m c (by simp))⟩

/-- The run, over any floats, from a memory whose depth keys are all in range. -/
theorem frame_any [∀ e, Nonempty (Elt F e)] (m : (ℓ : Loc nD τ sig) → Buf (Elt F) ℓ) (ρ : Dev nD → PrngReg)
    (hm : ∀ d (i : Fin 500000), (Front.keyF (A0 m d (ix2 i 2))).toNat < 4096) :
    θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨args_kept m r h, h.2⟩) (run_main m ρ (hA_of m hm))

end

set_option maxHeartbeats 4000000 in
/-- The two printed programs have one text, so one body table. -/
theorem defs₀_eq {F : FTy → Type} [FloatOps F] : @Cert.Kernel.defs₀ F _ _ = @Cert.KernelIdeal.defs₀ F _ _ := by
  funext p ℓ a
  match p, ℓ, a with
  | .tc, 0, (t, s) => rfl
  | .tc, 1, _ => rfl
  | .tc, 2, _ => rfl
  | .tc, 3, _ => rfl
  | .tc, 4, _ => rfl
  | .scVector c s, 0, _ => rfl
  | .scVector c s, 1, _ => rfl
  | .scVector c s, 2, _ => rfl
  | .scVector c s, 3, _ => rfl
  | .scVector c s, 4, _ => rfl
  | .scScalar c, 0, _ => rfl
  | .scScalar c, 1, _ => rfl
  | .scScalar c, 2, _ => rfl
  | .scScalar c, 3, _ => rfl
  | .scScalar c, 4, _ => rfl

theorem defs_eq {F : FTy → Type} [FloatOps F] : @Cert.Kernel.defs F _ _ = @Cert.KernelIdeal.defs F _ _ :=
  congrArg (fun d => Cert.KernelIdeal.sc.defs (Pipeline.defs Cert.KernelIdeal.pcfgs d)) defs₀_eq

theorem frame_kernel : Cert.quiescent_Kernel := fun m ρ hm => by
  have h := frame_any (F := Bits) m ρ fun d i => range_of_depth (F := Bits) _ _ _ _ (hm d) i
  rw [← defs_eq] at h
  exact h

theorem frame_kernelIdeal : Cert.quiescent_KernelIdeal := fun m ρ hm =>
  (θ_run Cert.KernelIdeal.defs _ _).mono (fun r h => ⟨args_kept (F := Ideal) m r h, h.2⟩)
    (run_main (F := Ideal) m ρ (hA_of (F := Ideal) m fun d i => range_of_depth (F := Ideal) _ _ _ _ (hm d) i))

theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

end Cert.Proof

end
-- ==== Proof.Consts.lean ====
/-
  The bit patterns of the two programs' constants, as reals.
-/
module

public import Idealize.ShloMosaic.Lib.IdealHost

@[expose] public section

noncomputable section

namespace Cert.Proof.Consts

open Idealize.ShloMosaic

theorem c0 : Ideal.ofBits .f32 0x00000000#32 = ((0 : ℝ) : EReal) := by simp
theorem c1 : Ideal.ofBits .f32 0x3F800000#32 = ((1 : ℝ) : EReal) := by simp
theorem c2 : Ideal.ofBits .f32 0x40000000#32 = ((2 : ℝ) : EReal) := by simp [Ideal.ofBits, Ideal.ieee, -EReal.coe_mul]; norm_num
theorem c1000 : Ideal.ofBits .f32 0x447A0000#32 = ((1000 : ℝ) : EReal) := by simp [Ideal.ofBits, Ideal.ieee, -EReal.coe_mul]; norm_num
theorem cn1000 : Ideal.ofBits .f32 0xC47A0000#32 = ((-1000 : ℝ) : EReal) := by simp [Ideal.ofBits, Ideal.ieee, -EReal.coe_mul, -EReal.coe_neg]; norm_num
theorem c960 : Ideal.ofBits .f32 0x44700000#32 = ((960 : ℝ) : EReal) := by simp [Ideal.ofBits, Ideal.ieee, -EReal.coe_mul]; norm_num
theorem c544 : Ideal.ofBits .f32 0x44080000#32 = ((544 : ℝ) : EReal) := by simp [Ideal.ofBits, Ideal.ieee, -EReal.coe_mul]; norm_num
theorem c1088 : Ideal.ofBits .f32 0x44880000#32 = ((1088 : ℝ) : EReal) := by simp [Ideal.ofBits, Ideal.ieee, -EReal.coe_mul]; norm_num
theorem c1920 : Ideal.ofBits .f32 0x44F00000#32 = ((1920 : ℝ) : EReal) := by simp [Ideal.ofBits, Ideal.ieee, -EReal.coe_mul]; norm_num
theorem c16 : Ideal.ofBits .f32 0x41800000#32 = ((16 : ℝ) : EReal) := by simp [Ideal.ofBits, Ideal.ieee, -EReal.coe_mul]; norm_num
theorem c16th : Ideal.ofBits .f32 0x3D800000#32 = ((1 / 16 : ℝ) : EReal) := by simp [Ideal.ofBits, Ideal.ieee, -EReal.coe_mul]; norm_num
theorem c119 : Ideal.ofBits .f32 0x42EE0000#32 = ((119 : ℝ) : EReal) := by simp [Ideal.ofBits, Ideal.ieee, -EReal.coe_mul]; norm_num
theorem c67 : Ideal.ofBits .f32 0x42860000#32 = ((67 : ℝ) : EReal) := by simp [Ideal.ofBits, Ideal.ieee, -EReal.coe_mul]; norm_num
theorem c100 : Ideal.ofBits .f32 0x42C80000#32 = ((100 : ℝ) : EReal) := by simp [Ideal.ofBits, Ideal.ieee, -EReal.coe_mul]; norm_num
theorem cbig : Ideal.ofBits .f32 0x4F000000#32 = ((2147483648 : ℝ) : EReal) := by simp [Ideal.ofBits, Ideal.ieee, -EReal.coe_mul]; norm_num
/-- The guard of the norm: a positive real. -/
theorem ceps : ∃ e : ℝ, 0 < e ∧ Ideal.ofBits .f32 0x322BCC77#32 = (e : EReal) :=
  ⟨11258999 / 2 ^ 50, by norm_num, by simp [Ideal.ofBits, Ideal.ieee, -EReal.coe_mul]; norm_num⟩
theorem cthou : ∃ e : ℝ, 0 < e ∧ Ideal.ofBits .f32 0x3A83126F#32 = (e : EReal) :=
  ⟨8589935 / 2 ^ 33, by norm_num, by simp [Ideal.ofBits, Ideal.ieee, -EReal.coe_mul]; norm_num⟩
theorem cnear : ∃ e : ℝ, 0 < e ∧ Ideal.ofBits .f32 0x3ECCCCCD#32 = (e : EReal) :=
  ⟨13421773 / 2 ^ 25, by norm_num, by simp [Ideal.ofBits, Ideal.ieee, -EReal.coe_mul]; norm_num⟩
theorem cinf : Ideal.ofBits .f32 0x7F800000#32 = ⊤ := by simp [Ideal.ofBits, Ideal.ieee]

end Cert.Proof.Consts

end
-- ==== Proof.Camera.lean ====
/-
  What the value claim's precondition says: every depth key is below 4096, the points' first two coordinates are
  finite, the logarithms of the scales are below infinity, and the camera is the given one.
-/
module

public import proofs.«01_k».proof.Proof.Precond
public import proofs.«01_k».proof.Proof.Gen.Pre_real_camera
public import Idealize.ShloMosaic.Lib.ReduceAll
public import Idealize.ShloMosaic.Lib.Affine
public import proofs.«01_k».proof.Proof.Consts

@[expose] public section

noncomputable section

namespace Cert.Proof

open Cert.KernelIdeal Cert.KernelIdeal.Gen
open Idealize.ShloMosaic Idealize.ShloMosaic.TcCoe

/-- What the second precondition says. -/
structure Camera (A : S500000x3.Idx → EReal) (B : S500000x56.Idx → EReal) (C : S3x3.Idx → EReal) (D : S4x4.Idx → EReal) : Prop where
  range : ∀ i : Fin 500000, (Front.keyF (F := Ideal) (A (ix2 i 2))).toNat < 4096
  pts : ∀ (i : Fin 500000) (r : Fin 2), A (ix2 i ⟨r.val, by omega⟩) ≠ ⊤ ∧ A (ix2 i ⟨r.val, by omega⟩) ≠ ⊥
  scale : ∀ (i : Fin 500000) (r : Fin 3), B (ix2 i ⟨4 + r.val, by omega⟩) ≠ ⊤
  cam : ∀ (a : Fin 2) (b : Fin 3), C (ix2 ⟨a.val, by omega⟩ b) = ((!![1000, 0, 960; 0, 1000, 544] : Matrix (Fin 2) (Fin 3) ℝ) a b : EReal)
  pose : ∀ (a : Fin 3) (b : Fin 4), D (ix2 ⟨a.val, by omega⟩ b) = (((if a.val = b.val then 1 else 0 : ℝ)) : EReal)

theorem one_of_ofBool (b : Bool) (h : BitVec.ofBool b = 1#1) : b = true := by revert h; cases b <;> decide

theorem finite_of_abs (x : EReal) (h : FloatOps.cmpf (F := Ideal) (φ := .f32) .olt (FloatOps.absf (F := Ideal) (φ := .f32) x) (FloatOps.ofBits .f32 0x7F800000#32) = 1#1) : x ≠ ⊤ ∧ x ≠ ⊥ := by
  have h : Ideal.cmp .olt (max x (-x)) (Ideal.ofBits .f32 0x7F800000#32) = 1#1 := h
  rw [Consts.cinf] at h
  simp only [Ideal.cmp] at h
  have h := of_decide_eq_true (one_of_ofBool _ h)
  constructor
  · rintro rfl
    simp at h
  · rintro rfl
    simp at h

theorem below_inf (x : EReal) (h : FloatOps.cmpf (F := Ideal) (φ := .f32) .olt x (FloatOps.ofBits .f32 0x7F800000#32) = 1#1) : x ≠ ⊤ := by
  have h : Ideal.cmp .olt x (Ideal.ofBits .f32 0x7F800000#32) = 1#1 := h
  rw [Consts.cinf] at h
  simp only [Ideal.cmp] at h
  exact ne_of_lt (of_decide_eq_true (one_of_ofBool _ h))

theorem eq_of_cmp (x y : EReal) (h : FloatOps.cmpf (F := Ideal) (φ := .f32) .oeq x y = 1#1) : x = y := by
  have h : Ideal.cmp .oeq x y = 1#1 := h
  simp only [Ideal.cmp] at h
  exact of_decide_eq_true (one_of_ofBool _ h)

theorem Ideal_one : (FloatOps.uitofp (F := Ideal) .f32 (1#1) : EReal) = (((1 : ℝ)) : EReal) := by
  show (((1#1).toNat : ℝ) : EReal) = _
  simp
theorem Ideal_zero : (FloatOps.uitofp (F := Ideal) .f32 (0#1) : EReal) = (((0 : ℝ)) : EReal) := by
  show (((0#1).toNat : ℝ) : EReal) = _
  simp

theorem cols2 (A : S500000x3.Idx → EReal) (hs : S500000x3.Slices ![0, 0] Cert.Pre_real_camera.S500000x2) (i : Fin 500000) (r : Fin 2) :
    extractStridedSlice Cert.Pre_real_camera.S500000x2 ![0, 0] A hs (ix2 i r) = A (ix2 i ⟨r.val, by omega⟩) :=
  extractStridedSlice_apply _ _ _ _ _ (fun b => by match b with | ⟨0, _⟩ => exact (Nat.zero_add _).symm | ⟨1, _⟩ => exact (Nat.zero_add _).symm)
theorem cols3 (B : S500000x56.Idx → EReal) (hs : S500000x56.Slices ![0, 4] S500000x3) (i : Fin 500000) (r : Fin 3) :
    extractStridedSlice S500000x3 ![0, 4] B hs (ix2 i r) = B (ix2 i ⟨4 + r.val, by omega⟩) :=
  extractStridedSlice_apply _ _ _ _ _ (fun b => by match b with | ⟨0, _⟩ => exact (Nat.zero_add _).symm | ⟨1, _⟩ => rfl)
theorem rows2 (C : S3x3.Idx → EReal) (hs : S3x3.Slices ![0, 0] Cert.Pre_real_camera.S2x3) (a : Fin 2) (b : Fin 3) :
    extractStridedSlice Cert.Pre_real_camera.S2x3 ![0, 0] C hs (ix2 a b) = C (ix2 ⟨a.val, by omega⟩ b) :=
  extractStridedSlice_apply _ _ _ _ _ (fun b => by match b with | ⟨0, _⟩ => exact (Nat.zero_add _).symm | ⟨1, _⟩ => exact (Nat.zero_add _).symm)
theorem rows3 (D : S4x4.Idx → EReal) (hs : S4x4.Slices ![0, 0] Cert.Pre_real_camera.S3x4) (a : Fin 3) (b : Fin 4) :
    extractStridedSlice Cert.Pre_real_camera.S3x4 ![0, 0] D hs (ix2 a b) = D (ix2 ⟨a.val, by omega⟩ b) :=
  extractStridedSlice_apply _ _ _ _ _ (fun b => by match b with | ⟨0, _⟩ => exact (Nat.zero_add _).symm | ⟨1, _⟩ => exact (Nat.zero_add _).symm)

theorem camera_of (A : S500000x3.Idx → EReal) (B : S500000x56.Idx → EReal) (C : S3x3.Idx → EReal) (D : S4x4.Idx → EReal)
    (h : Cert.Pre_real_camera.fn (F := Ideal) A B C D = fun _ => 1#1) : Camera A B C D := by
  have h := congrFun h (Shape.Idx.first Cert.Pre_real_camera.Facts.h_S_)
  haveI : Subsingleton Cert.Pre_real_camera.S_.Idx := ⟨fun a b => funext fun x => x.elim0⟩
  obtain ⟨h, h3⟩ := IntOp.andi_eq_one.1 h
  obtain ⟨h, h2⟩ := IntOp.andi_eq_one.1 h
  obtain ⟨h, h5⟩ := IntOp.andi_eq_one.1 h
  obtain ⟨h1, h4⟩ := IntOp.andi_eq_one.1 h
  replace h1 := Host.reduce_andi_all _ _ _ _ _ h1
  replace h2 := Host.reduce_andi_all _ _ _ _ _ h2
  replace h3 := Host.reduce_andi_all _ _ _ _ _ h3
  replace h4 := Host.reduce_andi_all _ _ _ _ _ h4
  replace h5 := Host.reduce_andi_all _ _ _ _ _ h5
  clear h
  refine ⟨fun i => ?_, fun i r => ?_, fun i r => ?_, fun a b => ?_, fun a b => ?_⟩
  · have h := h1 (Shape.ofLane (d := ![500000]) i)
    rw [← third (F := Ideal) A Cert.Pre_depth_in_range.Facts.slices_S500000x3_S500000x1_0_2 Cert.Pre_depth_in_range.Facts.shapeCasts_S500000x1_S500000 i]
    exact lt_of_range _ h
  · have h := finite_of_abs _ (h4 (ix2 i r))
    exact (cols2 A Cert.Pre_real_camera.Facts.slices_S500000x3_S500000x2_0_0 i r) ▸ h
  · have h := below_inf _ (h5 (ix2 i r))
    exact (cols3 B Cert.Pre_real_camera.Facts.slices_S500000x56_S500000x3_0_4 i r) ▸ h
  · have h := eq_of_cmp _ _ (h2 (ix2 a b))
    clear h1 h2 h3 h4 h5
    refine (rows2 C Cert.Pre_real_camera.Facts.slices_S3x3_S2x3_0_0 a b).symm.trans (h.trans ?_)
    show Ideal.ofBits .f32 (Cert.Pre_real_camera.lit0 (Cert.Pre_real_camera.S2x3.rowMajor (ix2 a b))) = _
    have e : Cert.Pre_real_camera.S2x3.rowMajor (ix2 a b) = (⟨3 * a.val + b.val, by show _ < 6; omega⟩ : Fin 6) :=
      Fin.ext ((Shape.rowMajor_val_two _).trans (by show a.val * 3 + b.val = 3 * a.val + b.val; omega))
    rw [e]
    fin_cases a <;> fin_cases b <;> first
      | exact Consts.c1000
      | exact Consts.c960
      | exact Consts.c544
      | exact Consts.c0
  · have h := eq_of_cmp _ _ (h3 (ix2 a b))
    clear h1 h2 h3 h4 h5
    refine (rows3 D Cert.Pre_real_camera.Facts.slices_S4x4_S3x4_0_0 a b).symm.trans (h.trans ?_)
    fin_cases a <;> fin_cases b <;> first
      | exact Ideal_one
      | exact Ideal_zero

end Cert.Proof

end
-- ==== Proof.CameraFrames.lean ====
/-
  The frames again, under the value claim's precondition.
-/
module

public import proofs.«01_k».proof.Proof.Frames
public import proofs.«01_k».proof.Proof.Camera

@[expose] public section

noncomputable section

namespace Cert.Proof

open Idealize.ShloMosaic Idealize.SL.Sem Idealize.ShloMosaic.TcCoe

theorem run_camera (m : (ℓ : Loc Cert.KernelIdeal.nD Cert.KernelIdeal.τ Cert.KernelIdeal.sig) → Buf (Elt Ideal) ℓ) (ρ : Dev Cert.KernelIdeal.nD → PrngReg)
    (hm : Cert.Pre_KernelIdeal_real_camera m) : θ_run (Cert.KernelIdeal.defs (F := Ideal)) (Cert.KernelIdeal.threads (F := Ideal)) ⟨m, fun _ => 0, ρ⟩ (QC m) :=
  run_main (F := Ideal) m ρ (hA_of (F := Ideal) m fun d i => (camera_of _ _ _ _ (hm d)).range i)

theorem frame_kernelIdeal_camera : Cert.quiescent_KernelIdeal_pre_real_camera := fun m ρ hm =>
  (θ_run Cert.KernelIdeal.defs _ _).mono (fun r h => ⟨args_kept (F := Ideal) m r h, h.2⟩) (run_camera m ρ hm)

theorem frame_reference_camera : Cert.quiescent_ReferenceIdeal_pre_real_camera := fun m ρ _ => frame_reference m ρ trivial

end Cert.Proof

end
-- ==== Proof.FrontScalar.lean ====
/-
  What the first kernel computes for one point, from its three coordinates and its first eight features.
-/
module

public import proofs.«01_k».proof.Proof.FrontArr

@[expose] public section

noncomputable section

namespace Cert.Proof.Front

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]

abbrev lit (b : BitVec 32) : F .f32 := FloatOps.ofBits .f32 b
abbrev mul (a b : F .f32) : F .f32 := FloatOps.mulf a b
abbrev add (a b : F .f32) : F .f32 := FloatOps.addf a b
abbrev sub (a b : F .f32) : F .f32 := FloatOps.subf a b
abbrev div (a b : F .f32) : F .f32 := FloatOps.divf a b

/-- A coordinate, rounded. -/
def bf (x : F .f32) : F .f32 := FloatOps.extf .f32 bitsLt_bf16_f32 (FloatOps.truncf .bf16 bitsLt_bf16_f32 x)

/-- The depth that is divided by: kept away from zero. -/
def zcF (z : F .f32) : F .f32 :=
  Scalar.select (FloatOps.cmpf .olt (FloatOps.absf (bf z)) (lit 0x3A83126F#32)) (lit 0x3A83126F#32) (bf z)

/-- The pixel. -/
def uF (x z : F .f32) : F .f32 := div (add (mul (bf x) (lit 0x447A0000#32)) (mul (bf z) (lit 0x44700000#32))) (zcF z)
def vF (y z : F .f32) : F .f32 := div (add (mul (bf y) (lit 0x447A0000#32)) (mul (bf z) (lit 0x44080000#32))) (zcF z)

/-- Whether the point is in view. -/
def inView (z u v : F .f32) : BitVec 1 :=
  IntOp.andi (IntOp.andi (IntOp.andi (IntOp.andi (IntOp.andi (FloatOps.cmpf .ogt z (lit 0x3ECCCCCD#32)) (FloatOps.cmpf .olt z (lit 0x447A0000#32)))
    (FloatOps.cmpf .oge u (lit 0x00000000#32))) (FloatOps.cmpf .olt u (lit 0x44F00000#32)))
    (FloatOps.cmpf .oge v (lit 0x00000000#32))) (FloatOps.cmpf .olt v (lit 0x44880000#32))

/-- The tile of a pixel. -/
def tileUV (u v : F .f32) : BitVec 32 :=
  IntOp.addi (FloatOps.fptosi 32 (FloatOps.minimumf (lit 0x42EE0000#32) (FloatOps.maximumf (lit 0x00000000#32) (FloatOps.floor (mul u (lit 0x3D800000#32))))))
    (IntOp.muli (FloatOps.fptosi 32 (FloatOps.minimumf (lit 0x42860000#32) (FloatOps.maximumf (lit 0x00000000#32) (FloatOps.floor (mul v (lit 0x3D800000#32)))))) 120#32)

/-- The tile of a point, or the one past the last if it is out of view. -/
def tileF (x y z : F .f32) : BitVec 32 := Scalar.select (inView (bf z) (uF x z) (vF y z)) (tileUV (uF x z) (vF y z)) 8160#32

theorem pay5_apply (v0 v4 : Vec F S1x512 .f32) (j : Fin 512) : k0_pay5 v0 v4 (ix2 0 j) = uF (v0 (ix2 0 j)) (v4 (ix2 0 j)) := by
  unfold k0_pay5 k0_pay4 k0_pay3 k0_pay1
  dsimp only
  rw [shapeCast_self, shapeCast_self]
  rfl
theorem pay6_apply (v2 v4 : Vec F S1x512 .f32) (j : Fin 512) : k0_pay6 v2 v4 (ix2 0 j) = vF (v2 (ix2 0 j)) (v4 (ix2 0 j)) := by
  unfold k0_pay6 k0_pay4 k0_pay3 k0_pay2
  dsimp only
  rw [shapeCast_self, shapeCast_self]
  rfl
theorem pay3_apply (v4 : Vec F S1x512 .f32) (j : Fin 512) : k0_pay3 v4 (ix2 0 j) = bf (v4 (ix2 0 j)) := by
  unfold k0_pay3
  rw [shapeCast_self]
  rfl

theorem pay11_apply (t : Fin cfg0.N) (v0 v2 v4 : Vec F S1x512 .f32) (j : Fin 512) :
    k0_pay11 (BitVec.ofNat 32 t.val) (k0_pay5 v0 v4) (k0_pay6 v2 v4) (k0_pay7 v0 v4) (k0_pay8 v2 v4) (ix2 0 j)
      = if (col t j).val < 500000 then tileF (v0 (ix2 0 j)) (v2 (ix2 0 j)) (v4 (ix2 0 j)) else 8191#32 := by
  have e : k0_pay11 (BitVec.ofNat 32 t.val) (k0_pay5 v0 v4) (k0_pay6 v2 v4) (k0_pay7 v0 v4) (k0_pay8 v2 v4) (ix2 0 j)
      = if k0_pay10 (BitVec.ofNat 32 t.val) (ix2 0 j) = 1#1
        then Scalar.select (inView (k0_pay3 v4 (ix2 0 j)) (k0_pay5 v0 v4 (ix2 0 j)) (k0_pay6 v2 v4 (ix2 0 j))) (tileUV (k0_pay5 v0 v4 (ix2 0 j)) (k0_pay6 v2 v4 (ix2 0 j))) 8160#32
        else 8191#32 := by
    unfold k0_pay11 k0_pay7 k0_pay8
    rfl
  rw [e, pay10_apply, pay5_apply, pay6_apply, pay3_apply]
  by_cases h : (col t j).val < 500000
  · simp only [h, decide_true, BitVec.ofBool_true, if_true]; rfl
  · simp [h]

section
variable (V : (c : Dev nD) → (b : Ref sig .tc) → Buf (Elt F) ((c : Thread nD τ).loc b))

theorem out4_apply (c : Dev nD) (t : Fin cfg0.N) (j : Fin 512) :
    out4 V c t (ix2 0 j) = IntOp.addi (IntOp.muli (if (col t j).val < 500000 then tileF (V c main_v4 (ix2 0 (col t j))) (V c main_v4 (ix2 1 (col t j)))
      (V c main_v4 (ix2 2 (col t j))) else 8191#32) 524288#32) (BitVec.ofNat 32 (col t j).val) := by
  refine (run4 c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4)) _ _ j).trans ?_
  rw [(idx t).2.2.2.2.2]
  unfold k0_pay14 k0_pay13
  refine congrArg₂ IntOp.addi (congrArg₂ IntOp.muli ((pay11_apply t _ _ _ j).trans ?_) rfl) (pay9_apply t j)
  unfold row3
  rw [show (stg0 V c t) (ix2 0 ((ix2 0 j : S1x512.Idx) 1)) = V c main_v4 (ix2 0 (col t j)) from stg0_apply V c t 0 j,
    show (stg0 V c t) (ix2 1 ((ix2 0 j : S1x512.Idx) 1)) = V c main_v4 (ix2 1 (col t j)) from stg0_apply V c t 1 j,
    show (stg0 V c t) (ix2 2 ((ix2 0 j : S1x512.Idx) 1)) = V c main_v4 (ix2 2 (col t j)) from stg0_apply V c t 2 j]

/-- The packed words after the first kernel: the tile above, the point's number below. -/
def arr4 (X : S3x503808.Idx → Elt F .f32) : S1x503808.Idx → Elt F .i32 := fun y =>
  IntOp.addi (IntOp.muli (if (y 1).val < 500000 then tileF (X (ix2 0 (y 1))) (X (ix2 1 (y 1))) (X (ix2 2 (y 1))) else 8191#32) 524288#32) (BitVec.ofNat 32 (y 1).val)

theorem final4 (c : Dev nD) : (dat V c).arrAt 4 cfg0.N = arr4 (V c main_v4) := by
  refine (dat V c).arrAt_eq_of_covers 4 _ covers4 fun t hf y => ?_
  blk_simp
  obtain ⟨j, rfl⟩ : ∃ j : Fin 512, y = ix2 0 j := ⟨y 1, by funext a; match a with | ⟨0, _⟩ => exact Fin.ext (Nat.lt_one_iff.mp (y 0).isLt) | ⟨1, _⟩ => rfl⟩
  refine (out4_apply V c t j).trans ?_
  unfold arr4
  have e : (win0_4.blk t).view.emb (ix2 0 j) = ix2 0 (col t j) := by
    unfold col
    blk_ext! [idx t]
  rw [e]
  rfl

end

end Cert.Proof.Front

end
-- ==== Proof.RefPoint.lean ====
/-
  The reference's pixel, depth, tile and depth key of a point, under the value claim's precondition: the same numbers as the
  first kernel's.
-/
module

public import proofs.«01_k».proof.Proof.Camera
public import proofs.«01_k».proof.Proof.FrontScalar
public import proofs.«01_k».proof.Proof.Gen.ReferenceIdeal.Run
public import Idealize.ShloMosaic.Lib.Pointwise

@[expose] public section

noncomputable section

namespace Cert.Proof.Ref

open Cert.ReferenceIdeal Cert.ReferenceIdeal.Gen Cert.ReferenceIdeal.Facts
open Cert.ReferenceIdeal.Value
open Idealize.ShloMosaic

variable (V0 : Valuation τ sig (Elt Ideal))

/-- The four arguments. -/
abbrev aA : S500000x3.Idx → EReal := V0 (Proc.devRef .tc main_arg0)
abbrev aB : S500000x56.Idx → EReal := V0 (Proc.devRef .tc main_arg1)
abbrev aC : S3x3.Idx → EReal := V0 (Proc.devRef .tc main_arg2)
abbrev aD : S4x4.Idx → EReal := V0 (Proc.devRef .tc main_arg3)

variable (h : Camera (aA V0) (aB V0) (aC V0) (aD V0))

/-! The pose and the camera matrix, entry by entry. -/
include h in
theorem pose_apply (a : Fin 3) (b : Fin 4) : (V0 (Proc.devRef .tc main_arg3) : S4x4.Idx → EReal) (ix2 ⟨a.val, by omega⟩ b) = (((if a.val = b.val then 1 else 0 : ℝ)) : EReal) := h.pose a b
include h in
theorem cam_apply (a : Fin 2) (b : Fin 3) : (V0 (Proc.devRef .tc main_arg2) : S3x3.Idx → EReal) (ix2 ⟨a.val, by omega⟩ b) = ((!![1000, 0, 960; 0, 1000, 544] : Matrix (Fin 2) (Fin 3) ℝ) a b : EReal) := h.cam a b

include h in
theorem v4_apply (i : Fin 500000) (r : Fin 3) : (res_main_v4 V0 : S500000x3.Idx → EReal) (ix2 i r) = aA V0 (ix2 i r) := by
  unfold res_main_v4
  pointwise
  rw [Fin.sum_univ_three]
  match r with
  | ⟨0, _⟩ =>
    have e : ∀ b : Fin 4, (V0 (Proc.devRef .tc main_arg3) : S4x4.Idx → EReal) (ix2 0 b) = _ := pose_apply V0 h 0
    simp [e]
  | ⟨1, _⟩ =>
    have e : ∀ b : Fin 4, (V0 (Proc.devRef .tc main_arg3) : S4x4.Idx → EReal) (ix2 1 b) = _ := pose_apply V0 h 1
    simp [e]
  | ⟨2, _⟩ =>
    have e : ∀ b : Fin 4, (V0 (Proc.devRef .tc main_arg3) : S4x4.Idx → EReal) (ix2 2 b) = _ := pose_apply V0 h 2
    simp [e]

include h in
theorem v6_apply (i : Fin 500000) : (res_main_v6 V0 : S500000.Idx → EReal) (ix1 i) = aA V0 (ix2 i 2) := by
  unfold res_main_v6
  pointwise
  exact v4_apply V0 h i 2

theorem zc_ideal (z : EReal) : Front.zcF (F := Ideal) z = if max z (-z) < Ideal.ofBits .f32 0x3A83126F#32 then Ideal.ofBits .f32 0x3A83126F#32 else z := by
  show (if BitVec.ofBool (decide (max z (-z) < Ideal.ofBits .f32 0x3A83126F#32)) = 1#1 then _ else _) = _
  by_cases hz : max z (-z) < Ideal.ofBits .f32 0x3A83126F#32
  · rw [decide_eq_true hz, if_pos hz]; rfl
  · rw [decide_eq_false hz, if_neg hz]; rfl

include h in
theorem v10_apply (i : Fin 500000) : (res_main_v10 V0 : S500000.Idx → EReal) (ix1 i) = Front.zcF (F := Ideal) (aA V0 (ix2 i 2)) := by
  unfold res_main_v10
  pointwise
  rw [v6_apply V0 h, zc_ideal]
  rfl

include h in
theorem v16_u (i : Fin 500000) : (res_main_v16 V0 : S500000x2.Idx → EReal) (ix2 i 0) = Front.uF (F := Ideal) (aA V0 (ix2 i 0)) (aA V0 (ix2 i 2)) := by
  unfold res_main_v16
  pointwise
  have e : ∀ b : Fin 3, (V0 (Proc.devRef .tc main_arg2) : S3x3.Idx → EReal) (ix2 0 b) = _ := cam_apply V0 h 0
  rw [v10_apply V0 h, Fin.sum_univ_three]
  simp only [e, v4_apply V0 h]
  unfold Front.uF
  show Ideal.div _ _ = Ideal.div (_ * Ideal.ofBits .f32 _ + _ * Ideal.ofBits .f32 _) _
  rw [Consts.c1000, Consts.c960]
  congr 1
  simp
  rfl

include h in
theorem v16_v (i : Fin 500000) : (res_main_v16 V0 : S500000x2.Idx → EReal) (ix2 i 1) = Front.vF (F := Ideal) (aA V0 (ix2 i 1)) (aA V0 (ix2 i 2)) := by
  unfold res_main_v16
  pointwise
  have e : ∀ b : Fin 3, (V0 (Proc.devRef .tc main_arg2) : S3x3.Idx → EReal) (ix2 1 b) = _ := cam_apply V0 h 1
  rw [v10_apply V0 h, Fin.sum_univ_three]
  simp only [e, v4_apply V0 h]
  unfold Front.vF
  show Ideal.div _ _ = Ideal.div (_ * Ideal.ofBits .f32 _ + _ * Ideal.ofBits .f32 _) _
  rw [Consts.c1000, Consts.c544]
  congr 1
  simp
  rfl

/-- Sixteenths. -/
theorem sixteenth (x : EReal) : Ideal.div x (Ideal.ofBits .f32 0x41800000#32) = x * Ideal.ofBits .f32 0x3D800000#32 := by
  rw [Consts.c16, Consts.c16th, Ideal.div_coe (by norm_num)]

theorem c119 : (FloatOps.sitofp (F := Ideal) .f32 119#32 : EReal) = Ideal.ofBits .f32 0x42EE0000#32 := by
  rw [Consts.c119]
  show (((119#32 : BitVec 32).toInt : ℝ) : EReal) = _
  rw [show (119#32 : BitVec 32).toInt = 119 from by decide]
  norm_num
theorem c67 : (FloatOps.sitofp (F := Ideal) .f32 67#32 : EReal) = Ideal.ofBits .f32 0x42860000#32 := by
  rw [Consts.c67]
  show (((67#32 : BitVec 32).toInt : ℝ) : EReal) = _
  rw [show (67#32 : BitVec 32).toInt = 67 from by decide]
  norm_num
theorem c0 : (FloatOps.sitofp (F := Ideal) .f32 0#32 : EReal) = Ideal.ofBits .f32 0x00000000#32 := by
  rw [Consts.c0]
  show (((0#32 : BitVec 32).toInt : ℝ) : EReal) = _
  rw [show (0#32 : BitVec 32).toInt = 0 from by decide]
  norm_num

include h in
theorem v193_apply (i : Fin 500000) : (res_main_v193 V0 : S500000.Idx → BitVec 32) (ix1 i) = Front.tileF (F := Ideal) (aA V0 (ix2 i 0)) (aA V0 (ix2 i 1)) (aA V0 (ix2 i 2)) := by
  unfold res_main_v193
  pointwise
  rw [v6_apply V0 h, v16_u V0 h, v16_v V0 h, c119, c67, c0, sixteenth, sixteenth, ← EReal.coe_zero, ← Consts.c0]
  rfl
include h in
theorem v208_apply (i : Fin 500000) : (res_main_v208 V0 : S500000.Idx → BitVec 32) (ix1 i) = Front.keyF (F := Ideal) (aA V0 (ix2 i 2)) := by
  unfold res_main_v208
  pointwise
  rw [v6_apply V0 h]
  rfl

end Cert.Proof.Ref

end
-- ==== Proof.StableSort.lean ====
/-
  What a stable sort of the positions `0 … n - 1` does: it lists them by key, equal keys in the order of the positions.
-/
module

public import Idealize.ShloMosaic.Lib.SortFacts
public import Mathlib.Data.List.Sort
public import Mathlib.Order.WellFounded
public import Mathlib.Order.Monotone.Basic

@[expose] public section

namespace Cert.Proof.StableSort

open Idealize.ShloMosaic

variable {n : ℕ} (key : Fin n → ℕ)

/-- `a` comes ahead of `b`: a smaller key, or the same key at an earlier position. -/
def Ahead (a b : Fin n) : Prop := key a < key b ∨ (key a = key b ∧ a < b)

theorem Ahead.trans {a b c : Fin n} (h : Ahead key a b) (h' : Ahead key b c) : Ahead key a c := by
  unfold Ahead at *
  rcases h with h | ⟨h, h1⟩ <;> rcases h' with h' | ⟨h', h2⟩
  · left; omega
  · left; omega
  · left; omega
  · right; exact ⟨by omega, h1.trans h2⟩

theorem mem_insert (before : Fin n → Fin n → Bool) (a x : Fin n) (l : List (Fin n)) (h : x ∈ insertBefore before a l) : x = a ∨ x ∈ l := by
  have := (perm_insertBefore before a l).mem_iff.mp h
  simpa using this

/-- Putting a position ahead of later ones keeps the list in order. -/
theorem insert_ordered (before : Fin n → Fin n → Bool) (hb : ∀ a b, before a b = true ↔ key a < key b) (a : Fin n) (l : List (Fin n))
    (hl : l.Pairwise (Ahead key)) (ha : ∀ x ∈ l, a < x) : (insertBefore before a l).Pairwise (Ahead key) := by
  induction l with
  | nil => simp [insertBefore]
  | cons b l ih =>
    unfold insertBefore
    rw [List.pairwise_cons] at hl
    split
    · next h =>
      refine List.pairwise_cons.mpr ⟨fun x hx => ?_, ih hl.2 fun x hx => ha x (List.mem_cons_of_mem _ hx)⟩
      rcases mem_insert before a x l hx with rfl | hx
      · exact Or.inl ((hb _ _).mp h)
      · exact hl.1 x hx
    · next h =>
      have hab : Ahead key a b := by
        have h1 : ¬ key b < key a := fun c => h ((hb _ _).mpr c)
        rcases Nat.lt_or_ge (key a) (key b) with h2 | h2
        · exact Or.inl h2
        · exact Or.inr ⟨by omega, ha b (List.mem_cons_self ..)⟩
      refine List.pairwise_cons.mpr ⟨fun x hx => ?_, List.pairwise_cons.mpr hl⟩
      rcases List.mem_cons.mp hx with rfl | hx
      · exact hab
      · exact hab.trans key (hl.1 x hx)

theorem sort_ordered (before : Fin n → Fin n → Bool) (hb : ∀ a b, before a b = true ↔ key a < key b) (l : List (Fin n))
    (hl : l.Pairwise (· < ·)) : (stableSort before l).Pairwise (Ahead key) := by
  induction l with
  | nil => simp [stableSort]
  | cons a l ih =>
    rw [List.pairwise_cons] at hl
    exact insert_ordered key before hb a _ (ih hl.2) fun x hx => hl.1 x ((perm_stableSort before l).mem_iff.mp hx)

/-- Later places of a stable sort hold positions further on. -/
theorem sortedFrom_ahead (before : Fin n → Fin n → Bool) (hb : ∀ a b, before a b = true ↔ key a < key b) {p q : Fin n} (h : p < q) :
    Ahead key (sortedFrom before p) (sortedFrom before q) := by
  have := sort_ordered key before hb (List.finRange n) (List.pairwise_lt_finRange n)
  exact List.pairwise_iff_get.mp this _ _ (Fin.lt_def.mpr (Fin.lt_def.mp h))

end Cert.Proof.StableSort

namespace Cert.Proof

/-- Two ways of listing the numbers below `n`, both by increasing value of `e`, are the same. -/
theorem enum_unique {n : ℕ} (e : ℕ → ℕ) (s t : ℕ → ℕ) (hs : ∀ p, p < n → s p < n) (ht : ∀ p, p < n → t p < n)
    (hse : ∀ p q, p < q → q < n → e (s p) < e (s q)) (hte : ∀ p q, p < q → q < n → e (t p) < e (t q))
    (he : ∀ i j, i < n → j < n → e i = e j → i = j) (p : ℕ) (hp : p < n) : s p = t p := by
  have mono : ∀ u : ℕ → ℕ, (∀ p q, p < q → q < n → e (u p) < e (u q)) → StrictMono fun p : Fin n => e (u p) :=
    fun u hu a b hab => hu a b hab b.isLt
  have range : ∀ u : ℕ → ℕ, (∀ p, p < n → u p < n) → (∀ p q, p < q → q < n → e (u p) < e (u q)) →
      Set.range (fun p : Fin n => e (u p)) = Set.range fun p : Fin n => e p := by
    intro u hu hue
    have hinj : Function.Injective fun p : Fin n => (⟨u p, hu p p.isLt⟩ : Fin n) := fun a b hab =>
      (mono u hue).injective (congrArg (fun x : Fin n => e x) hab)
    have hsur := Finite.surjective_of_injective hinj
    ext y; constructor
    · rintro ⟨a, rfl⟩; exact ⟨⟨u a, hu a a.isLt⟩, rfl⟩
    · rintro ⟨a, rfl⟩
      obtain ⟨b, hb⟩ := hsur a
      exact ⟨b, congrArg (fun x : Fin n => e x) hb⟩
  have := (StrictMono.range_inj (mono s hse) (mono t hte)).mp ((range s hs hse).trans (range t ht hte).symm)
  exact he _ _ (hs p hp) (ht p hp) (congrFun this ⟨p, hp⟩)

end Cert.Proof

end
-- ==== Proof.TwoPass.lean ====
/-
  Sorting by depth and then stably by tile is sorting by tile, depth and position; and the places at which the tiles of a
  sorted list begin and end.
-/
module

public import proofs.«01_k».proof.Proof.Counting
public import proofs.«01_k».proof.Proof.StableSort

@[expose] public section

namespace Cert.Proof.TwoPass

open Cert.Proof.Counting

/-- Counting along a rearrangement of the numbers below `n` is counting. -/
theorem card_rearranged {n : ℕ} (f : ℕ → ℕ) (hf : ∀ i, i < n → f i < n) (hinj : ∀ i j, i < n → j < n → f i = f j → i = j)
    (P : ℕ → Prop) [DecidablePred P] : ((Finset.range n).filter fun i => P (f i)).card = ((Finset.range n).filter P).card := by
  have hi : Function.Injective fun p : Fin n => (⟨f p, hf p p.isLt⟩ : Fin n) := fun a b hab =>
    Fin.ext (hinj a b a.isLt b.isLt (congrArg Fin.val hab))
  have hsur := Finite.surjective_of_injective hi
  refine Finset.card_bij (fun i _ => f i) ?_ ?_ ?_
  · intro i hi
    simp only [Finset.mem_filter, Finset.mem_range] at hi ⊢
    exact ⟨hf i hi.1, hi.2⟩
  · intro i hi j hj h
    simp only [Finset.mem_filter, Finset.mem_range] at hi hj
    exact hinj i j hi.1 hj.1 h
  · intro y hy
    simp only [Finset.mem_filter, Finset.mem_range] at hy
    obtain ⟨x, hx⟩ := hsur ⟨y, hy.1⟩
    have hx' : f x = y := congrArg Fin.val hx
    refine ⟨x, ?_, hx'⟩
    simp only [Finset.mem_filter, Finset.mem_range]
    exact ⟨x.isLt, by rw [hx']; exact hy.2⟩

theorem cnt_rearranged {n : ℕ} (f : ℕ → ℕ) (hf : ∀ i, i < n → f i < n) (hinj : ∀ i j, i < n → j < n → f i = f j → i = j)
    (key : ℕ → ℕ) (k : ℕ) : cnt (fun i => key (f i)) 0 n k = cnt key 0 n k := by
  unfold cnt
  have := card_rearranged f hf hinj fun i => key i = k
  rw [Finset.range_eq_Ico] at this
  exact this

theorem below_rearranged {n : ℕ} (f : ℕ → ℕ) (hf : ∀ i, i < n → f i < n) (hinj : ∀ i j, i < n → j < n → f i = f j → i = j)
    (key : ℕ → ℕ) (k : ℕ) : below (fun i => key (f i)) n k = below key n k :=
  card_rearranged f hf hinj fun i => key i < k

/-! ## The two passes -/

section Passes

variable (kb ka KA KB : ℕ → ℕ)

/-- The tile and the depth key of position `i`: past the points, those of the padding. -/
def tileAt (i : ℕ) : ℕ := if i < 500000 then kb i else 8191
def depthAt (i : ℕ) : ℕ := if i < 500000 then ka i else 4095

/-- Tile, depth and position in one number. -/
def code (i : ℕ) : ℕ := (tileAt kb i * 4096 + depthAt ka i) * 524288 + i

theorem code_inj (hka : ∀ i, i < 500000 → ka i < 4096) (i j : ℕ) (hi : i < 503808) (hj : j < 503808) (h : code kb ka i = code kb ka j) : i = j := by
  unfold code at h; omega

variable (hka : ∀ i, i < 500000 → ka i < 4096) (hkb : ∀ i, i < 500000 → kb i ≤ 8160)
  (hA : ∀ i, i < 503808 → KA i = depthAt ka i) (hB : ∀ p, p < 503808 → KB p = tileAt kb (unrank KA 503808 p))

/-- The point that the two passes bring to place `q`. -/
noncomputable def point (q : ℕ) : ℕ := unrank KA 503808 (unrank KB 503808 q)

theorem point_lt {q : ℕ} (hq : q < 503808) : point KA KB q < 503808 := unrank_lt KA (unrank_lt KB hq)

include hka in
theorem depthAt_lt (i : ℕ) : depthAt ka i < 4096 := by
  unfold depthAt; split
  · next h => exact hka i h
  · decide

include hka hA hB in
theorem point_mono (p q : ℕ) (hpq : p < q) (hq : q < 503808) : code kb ka (point KA KB p) < code kb ka (point KA KB q) := by
  have hp := hpq.trans hq
  have h := unrank_mono KB hpq hq
  have up := unrank_lt KB hp
  have uq := unrank_lt KB hq
  rw [hB _ up, hB _ uq] at h
  have lp := point_lt KA KB hp
  have lq := point_lt KA KB hq
  have dp := depthAt_lt ka hka (point KA KB p)
  have dq := depthAt_lt ka hka (point KA KB q)
  change tileAt kb (point KA KB p) < tileAt kb (point KA KB q) ∨ (tileAt kb (point KA KB p) = tileAt kb (point KA KB q) ∧ _) at h
  unfold code
  rcases h with h | ⟨h, hu⟩
  · omega
  · have h2 := unrank_mono KA hu uq
    rw [hA _ (unrank_lt KA up), hA _ (unrank_lt KA uq)] at h2
    change depthAt ka (point KA KB p) < depthAt ka (point KA KB q) ∨ (depthAt ka (point KA KB p) = depthAt ka (point KA KB q) ∧ point KA KB p < point KA KB q) at h2
    omega

include hka hkb hA hB in
/-- The points listed by tile, depth and position are the points the two passes list. -/
theorem point_eq (t : ℕ → ℕ) (ht : ∀ q, q < 500000 → t q < 500000)
    (hm : ∀ p q, p < q → q < 500000 → kb (t p) < kb (t q) ∨ (kb (t p) = kb (t q) ∧ (ka (t p) < ka (t q) ∨ (ka (t p) = ka (t q) ∧ t p < t q))))
    (q : ℕ) (hq : q < 500000) : point KA KB q = t q := by
  have h := enum_unique (n := 503808) (code kb ka) (point KA KB) (fun q => if q < 500000 then t q else q)
    (fun p hp => point_lt KA KB hp)
    (fun p hp => by
      by_cases h : p < 500000
      · rw [if_pos h]; exact (ht p h).trans (by omega)
      · rw [if_neg h]; exact hp)
    (point_mono kb ka KA KB hka hA hB) ?_ (code_inj kb ka hka) q (by omega)
  · rw [h]; exact if_pos hq
  · intro p q hpq hq
    by_cases hq' : q < 500000
    · have hp' : p < 500000 := hpq.trans hq'
      rw [if_pos hp', if_pos hq']
      have h1 := ht p hp'
      have h2 := ht q hq'
      have h3 := hm p q hpq hq'
      have h4 := hka _ h1
      have h5 := hka _ h2
      unfold code tileAt depthAt
      rw [if_pos h1, if_pos h2, if_pos h1, if_pos h2]
      omega
    · rw [if_neg hq']
      by_cases hp' : p < 500000
      · rw [if_pos hp']
        have h1 := ht p hp'
        have h4 := hka _ h1
        have h5 := hkb _ h1
        unfold code tileAt depthAt
        rw [if_pos h1, if_neg hq', if_pos h1, if_neg hq']
        omega
      · rw [if_neg hp']
        unfold code tileAt depthAt
        rw [if_neg hp', if_neg hq', if_neg hp', if_neg hq']
        omega

include hB in
theorem cnt_tile (t : ℕ) (ht : t < 8191) : cnt KB 0 503808 t = cnt kb 0 500000 t := by
  rw [cnt_congr (key' := fun p => tileAt kb (unrank KA 503808 p)) fun i _ hi => hB i hi,
    cnt_rearranged (unrank KA 503808) (fun i hi => unrank_lt KA hi)
      (fun i j hi hj h => by rw [← rank_unrank KA hi, ← rank_unrank KA hj, h]) (tileAt kb) t]
  unfold cnt
  refine congrArg Finset.card (Finset.ext fun i => ?_)
  rw [Finset.mem_filter, Finset.mem_Ico, Finset.mem_filter, Finset.mem_Ico]
  unfold tileAt
  split <;> omega

include hB in
theorem below_tile (t : ℕ) (ht : t ≤ 8191) : below KB 503808 t = below kb 500000 t := by
  rw [below_congr (key' := fun p => tileAt kb (unrank KA 503808 p)) fun i hi => hB i hi,
    below_rearranged (unrank KA 503808) (fun i hi => unrank_lt KA hi)
      (fun i j hi hj h => by rw [← rank_unrank KA hi, ← rank_unrank KA hj, h]) (tileAt kb) t]
  unfold below
  refine congrArg Finset.card (Finset.ext fun i => ?_)
  rw [Finset.mem_filter, Finset.mem_range, Finset.mem_filter, Finset.mem_range]
  unfold tileAt
  split <;> omega

end Passes

/-! ## Where the tiles of a sorted list begin and end -/

section Ends

variable {n : ℕ} (s : ℕ → ℕ) (hs : ∀ p q, p ≤ q → q < n → s p ≤ s q)

theorem below_eq {q t : ℕ} (hq : q ≤ n) (h1 : ∀ j, j < q → s j < t) (h2 : ∀ j, q ≤ j → j < n → t ≤ s j) : below s n t = q := by
  have : (Finset.range n).filter (fun i => s i < t) = Finset.range q := by
    ext i
    simp only [Finset.mem_filter, Finset.mem_range]
    constructor
    · rintro ⟨hi, hlt⟩
      by_contra hc
      exact absurd (h2 i (by omega) hi) (by omega)
    · intro hi; exact ⟨by omega, h1 i hi⟩
  unfold below
  rw [this, Finset.card_range]

theorem cnt_pos {i t : ℕ} (hi : i < n) (h : s i = t) : cnt s 0 n t ≠ 0 := by
  unfold cnt
  exact Finset.card_ne_zero_of_mem (a := i) (by simp only [Finset.mem_filter, Finset.mem_Ico]; exact ⟨⟨by omega, hi⟩, h⟩)

theorem exists_of_cnt {t : ℕ} (h : cnt s 0 n t ≠ 0) : ∃ i, i < n ∧ s i = t := by
  unfold cnt at h
  obtain ⟨i, hi⟩ := Finset.card_ne_zero.mp h
  simp only [Finset.mem_filter, Finset.mem_Ico] at hi
  exact ⟨i, hi.1.2, hi.2⟩

include hs in
theorem start_hit {i t : ℕ} (hi : i + 1 < n) (hne : s (i + 1) ≠ s i) (h : s (i + 1) = t) : below s n t = i + 1 :=
  below_eq s (by omega) (fun j hj => by have := hs j i (by omega) (by omega); have := hs i (i + 1) (by omega) hi; omega)
    (fun j h1 h2 => by have := hs (i + 1) j h1 h2; omega)

include hs in
theorem start_miss {t : ℕ} (hno : ∀ i, i + 1 < n → s (i + 1) ≠ s i → s (i + 1) ≠ t) : cnt s 0 n t = 0 ∨ below s n t = 0 := by
  by_cases hc : cnt s 0 n t = 0
  · exact Or.inl hc
  · right
    obtain ⟨j, hj, hjt⟩ := exists_of_cnt s hc
    have h0 : ∀ k, k ≤ j → s (j - k) = t := by
      intro k
      induction k with
      | zero => intro _; exact hjt
      | succ k ih =>
        intro hk
        have h1 := ih (by omega)
        by_contra hne
        have e : j - (k + 1) + 1 = j - k := by omega
        refine hno (j - (k + 1)) (by omega) ?_ ?_
        · rw [e, h1]; exact fun c => hne c.symm
        · rw [e]; exact h1
    have h00 := h0 j le_rfl
    rw [Nat.sub_self] at h00
    exact below_eq s (by omega) (fun j hj => absurd hj (by omega)) fun j _ h2 => by have := hs 0 j (by omega) h2; omega

include hs in
theorem end_hit {i t : ℕ} (hi : i + 1 < n) (hne : s (i + 1) ≠ s i) (h : s i = t) : below s n (t + 1) = i + 1 :=
  below_eq s (by omega) (fun j hj => by have := hs j i (by omega) (by omega); omega)
    (fun j h1 h2 => by have := hs (i + 1) j h1 h2; have := hs i (i + 1) (by omega) hi; omega)

include hs in
theorem end_last {t : ℕ} (hn : 0 < n) (h : s (n - 1) = t) : below s n (t + 1) = n :=
  below_eq s le_rfl (fun j hj => by have := hs j (n - 1) (by omega) (by omega); omega) fun j h1 h2 => absurd h2 (by omega)

theorem end_miss {t : ℕ} (hno : ∀ i, i + 1 < n → s (i + 1) ≠ s i → s i ≠ t) (hl : s (n - 1) ≠ t) : cnt s 0 n t = 0 := by
  by_contra hc
  obtain ⟨j, hj, hjt⟩ := exists_of_cnt s hc
  have h0 : ∀ k, j + k < n → s (j + k) = t := by
    intro k
    induction k with
    | zero => intro _; exact hjt
    | succ k ih =>
      intro hk
      have h1 := ih (by omega)
      by_contra hne
      exact hno (j + k) hk (fun c => hne (by rw [← h1, ← c]; rfl)) h1
  have := h0 (n - 1 - j) (by omega)
  rw [show j + (n - 1 - j) = n - 1 by omega] at this
  exact hl this

end Ends

end Cert.Proof.TwoPass

end
-- ==== Proof.KernelInts.lean ====
/-
  The words that the SparseCore calls sort, read over the reals: the tile and the number of each point, and what the two
  passes make of them.
-/
module

public import proofs.«01_k».proof.Proof.Arrays
public import proofs.«01_k».proof.Proof.FrontScalar
public import proofs.«01_k».proof.Proof.TwoPass
public import proofs.«01_k».proof.Proof.Consts

@[expose] public section

noncomputable section

namespace Cert.Proof

open Cert.KernelIdeal Cert.KernelIdeal.Gen
open Idealize.ShloMosaic Idealize.ShloMosaic.TcCoe
open Idealize.ShloMosaic.StableHlo (held after)
open Counting (unrank unrank_lt)

section
variable {F : FTy → Type} [FloatOps F]
variable (m : (ℓ : Loc nD τ sig) → Buf (Elt F) ℓ) (d : Dev nD)

/-- The packed words that the first sorting pass is given. -/
theorem p0_apply (i : ℕ) (h : i < 503808) : wAt (p0Of (V3 m) d) i = Front.arr4 (V1 m d main_v4) (ix2 0 ⟨i, h⟩) := by
  have e : V3 m d main_v11 = shapeCast S503808 (V2 m d main_v9_2 : S1x503808.Idx → Elt F .i32) shapeCasts_S1x503808_S503808 := by
    unfold V3 ops1
    after_results_simp
    try rfl
  unfold wAt
  rw [dif_pos h]
  refine (congrFun e _).trans ?_
  refine (shapeCast_apply _ _ _ (ix2 0 ⟨i, h⟩) ?_).trans ?_
  · rw [Shape.rowMajor_val_one, Shape.rowMajor_val_two]
    show 0 * 503808 + i = i
    omega
  · rw [V2_2]
    exact congrFun (Front.final4 (fun c b => V1 m c b) d) _
end

/-- A number between 0 and `n`, made an integer, is between 0 and `n`. -/
theorem clamp_toNat (y : EReal) (n : ℕ) (hn : n < 2 ^ 20) : (Ideal.fptosi 32 (min ((n : ℝ) : EReal) (max 0 y))).toNat ≤ n := by
  have h0 : (0 : EReal) ≤ min ((n : ℝ) : EReal) (max 0 y) := le_min (by exact_mod_cast Nat.cast_nonneg n) (le_max_left _ _)
  have h1 : min ((n : ℝ) : EReal) (max 0 y) ≤ ((n : ℝ) : EReal) := min_le_left _ _
  generalize min ((n : ℝ) : EReal) (max 0 y) = w at h0 h1
  induction w with
  | bot => exact absurd h0 (by simp)
  | top => exact absurd h1 (not_le.mpr (EReal.coe_lt_top _))
  | coe r =>
    have h0' : (0 : ℝ) ≤ r := by exact_mod_cast h0
    have h1' : r ≤ (n : ℝ) := by exact_mod_cast h1
    have hf0 : 0 ≤ ⌊r⌋ := Int.floor_nonneg.mpr h0'
    have hf1 : ⌊r⌋ ≤ (n : ℤ) := by
      have := (Int.floor_le r).trans h1'
      exact_mod_cast this
    have e : Ideal.fptosi 32 ((r : ℝ) : EReal) = BitVec.ofInt 32 (max (-2147483648) (min 2147483647 ⌊r⌋)) := by
      show BitVec.ofInt 32 (max _ (min _ (if 0 ≤ r then ⌊r⌋ else ⌈r⌉))) = _
      rw [if_pos h0']
      rfl
    rw [e, BitVec.toNat_ofInt]
    omega

theorem tileUV_le (u v : EReal) : (Front.tileUV (F := Ideal) u v).toNat < 8160 := by
  have e1 : (Front.lit (F := Ideal) 0x42EE0000#32 : EReal) = (((119 : ℕ) : ℝ) : EReal) := by
    show Ideal.ofBits .f32 0x42EE0000#32 = _
    rw [Consts.c119]; norm_num
  have e2 : (Front.lit (F := Ideal) 0x42860000#32 : EReal) = (((67 : ℕ) : ℝ) : EReal) := by
    show Ideal.ofBits .f32 0x42860000#32 = _
    rw [Consts.c67]; norm_num
  have e0 : (Front.lit (F := Ideal) 0x00000000#32 : EReal) = 0 := Consts.c0
  unfold Front.tileUV
  rw [e1, e2, e0]
  have h1 := clamp_toNat (FloatOps.floor (F := Ideal) (Front.mul u (Front.lit 0x3D800000#32))) 119 (by norm_num)
  have h2 := clamp_toNat (FloatOps.floor (F := Ideal) (Front.mul v (Front.lit 0x3D800000#32))) 67 (by norm_num)
  show (IntOp.addi (Ideal.fptosi 32 (min _ (max 0 _))) (IntOp.muli (Ideal.fptosi 32 (min _ (max 0 _))) 120#32)).toNat < 8160
  unfold IntOp.addi IntOp.muli
  rw [BitVec.toNat_add, BitVec.toNat_mul, show (120#32).toNat = 120 from rfl, Nat.mod_eq_of_lt (a := _ * 120), Nat.mod_eq_of_lt]
  · exact Nat.lt_of_le_of_lt (Nat.add_le_add h1 (Nat.mul_le_mul_right 120 h2)) (by norm_num)
  · exact Nat.lt_of_le_of_lt (Nat.add_le_add h1 (Nat.mul_le_mul_right 120 h2)) (by norm_num)
  · exact Nat.lt_of_le_of_lt (Nat.mul_le_mul_right 120 h2) (by norm_num)

theorem tileF_le (x y z : EReal) : (Front.tileF (F := Ideal) x y z).toNat ≤ 8160 := by
  unfold Front.tileF Scalar.select
  split
  · exact (tileUV_le _ _).le
  · exact le_refl _

/-- The tile and the depth key of point `i`, as numbers. -/
def kbOf (A : S500000x3.Idx → EReal) (i : ℕ) : ℕ :=
  if h : i < 500000 then (Front.tileF (F := Ideal) (A (ix2 ⟨i, h⟩ 0)) (A (ix2 ⟨i, h⟩ 1)) (A (ix2 ⟨i, h⟩ 2))).toNat else 0
def kaOf (A : S500000x3.Idx → EReal) (i : ℕ) : ℕ := if h : i < 500000 then (Front.keyF (F := Ideal) (A (ix2 ⟨i, h⟩ 2))).toNat else 0

theorem kbOf_le (A : S500000x3.Idx → EReal) (i : ℕ) : kbOf A i ≤ 8160 := by
  unfold kbOf; split
  · exact tileF_le _ _ _
  · exact Nat.zero_le _

section
variable (m : (ℓ : Loc nD τ sig) → Buf (Elt Ideal) ℓ) (d : Dev nD)

theorem keyA_dk (i : ℕ) (hi : i < 503808) : keyA (dkOf (V3 m) d) i = TwoPass.depthAt (kaOf (A0 m d)) i := by
  unfold keyA TwoPass.depthAt kaOf
  rw [dk_apply m d i hi]
  unfold Front.arr3
  by_cases h : i < 500000
  · rw [if_pos h, dif_pos h]
    rw [if_pos (show ((ix2 (0 : Fin 1) (⟨i, hi⟩ : Fin 503808) : S1x503808.Idx) 1).val < 500000 from h)]
    exact congrArg (fun z => (Front.keyF (F := Ideal) z).toNat) (v4_apply m d 2 ⟨i, hi⟩ h)
  · rw [if_neg h, if_neg (show ¬ ((ix2 (0 : Fin 1) (⟨i, hi⟩ : Fin 503808) : S1x503808.Idx) 1).val < 500000 from h)]
    rfl

theorem p0_toNat (i : ℕ) (hi : i < 503808) : (wAt (p0Of (V3 m) d) i).toNat = TwoPass.tileAt (kbOf (A0 m d)) i * 524288 + i := by
  have key : ∀ (T : BitVec 32) (t : ℕ), T.toNat = t → t ≤ 8191 → (IntOp.addi (IntOp.muli T 524288#32) (BitVec.ofNat 32 i)).toNat = t * 524288 + i := by
    intro T t h1 h2
    unfold IntOp.addi IntOp.muli
    rw [BitVec.toNat_add, BitVec.toNat_mul, h1, show (524288#32).toNat = 524288 from rfl, BitVec.toNat_ofNat]
    omega
  rw [p0_apply m d i hi]
  unfold Front.arr4 TwoPass.tileAt
  by_cases h : i < 500000
  · rw [if_pos h, if_pos (show ((ix2 (0 : Fin 1) (⟨i, hi⟩ : Fin 503808) : S1x503808.Idx) 1).val < 500000 from h)]
    refine key _ _ ?_ ((kbOf_le _ _).trans (by omega))
    unfold kbOf
    rw [dif_pos h]
    have e : ∀ r : Fin 3, (V1 m d main_v4 : S3x503808.Idx → EReal) (ix2 r ((ix2 (0 : Fin 1) (⟨i, hi⟩ : Fin 503808) : S1x503808.Idx) 1)) = A0 m d (ix2 ⟨i, h⟩ r) :=
      fun r => v4_apply m d r ⟨i, hi⟩ h
    rw [e 0, e 1, e 2]
  · rw [if_neg h, if_neg (show ¬ ((ix2 (0 : Fin 1) (⟨i, hi⟩ : Fin 503808) : S1x503808.Idx) 1).val < 500000 from h)]
    exact key _ _ rfl le_rfl

theorem p_apply (p : ℕ) (hp : p < 503808) : wAt (pOf (V3 m) d) p = wAt (p0Of (V3 m) d) (unrank (keyA (dkOf (V3 m) d)) 503808 p) := by
  show wAt (p1Of (dkOf (V3 m) d) (p0Of (V3 m) d)) p = _
  rw [wAt_idx (i := p) _ (fun | ⟨0, _⟩ => ⟨p, hp⟩) rfl]
  rfl

theorem keyB_p (p : ℕ) (hp : p < 503808) : keyB (pOf (V3 m) d) p = TwoPass.tileAt (kbOf (A0 m d)) (unrank (keyA (dkOf (V3 m) d)) 503808 p) := by
  have hu := unrank_lt (keyA (dkOf (V3 m) d)) hp
  unfold keyB
  rw [p_apply m d p hp, p0_toNat m d _ hu]
  omega

/-- The point numbers that the last call writes. -/
theorem pid_apply (q : ℕ) (hq : q < 503808) (x : S503808.Idx) (hx : (x 0).val = q) :
    pidOf (pOf (V3 m) d) x = BitVec.ofNat 32 (TwoPass.point (keyA (dkOf (V3 m) d)) (keyB (pOf (V3 m) d)) q) := by
  have hB := unrank_lt (keyB (pOf (V3 m) d)) hq
  have hu := unrank_lt (keyA (dkOf (V3 m) d)) hB
  show wAt (pOf (V3 m) d) (unrank (keyB (pOf (V3 m) d)) 503808 (x 0).val) &&& 524287#32 = _
  rw [hx, p_apply m d _ hB]
  unfold TwoPass.point
  apply BitVec.eq_of_toNat_eq
  rw [BitVec.toNat_and, p0_toNat m d _ hu, BitVec.toNat_ofNat, BitVec.toNat_ofNat, show 524287 % 2 ^ 32 = 2 ^ 19 - 1 from rfl, Nat.and_two_pow_sub_one_eq_mod]
  omega

end

end Cert.Proof

end
-- ==== Proof.Scatters.lean ====
/-
  The reference's scatters of a vector of words into another vector, one index word to each: where an update lands, the count
  that a scatter of ones leaves, and what a scatter that overwrites leaves.
-/
module

public import Idealize.ShloMosaic.Lib.Routing.OpsOne
public import Idealize.ShloMosaic.Lib.Routing.OpsSet
public import Idealize.ShloMosaic.Lib.Routing.OpsPair

@[expose] public section

namespace Cert.Proof.Scatters

open Idealize.ShloMosaic Idealize.ShloMosaic.Routing Idealize.ShloMosaic.ValueIdx

variable {M N : ℕ} (d : ScatterDims (shape1 M) (shape2 N 1) (shape1 N)) (hiw : d.insertedWindowDims = [0])
  (hsd : d.scatterDimsToOperandDims = [0]) (hivd : d.indexVectorDim = 1) (idx : IVec (shape2 N 1) 32)

include hiw hsd hivd in
/-- Update `i` lands at entry `x` when its index word, read signed, is `x`. -/
theorem lands (i : Fin N) (x : Fin M) :
    d.resultIdx? (ix1 i) idx = some (ix1 x) ↔ (idx (ix2 i (0 : Fin 1))).toInt = (x.val : ℤ) := by
  rw [resultIdx?_ix1]
  have hw : d.window (ix1 i) 0 = 0 := by
    unfold ScatterDims.window
    refine dif_neg fun h => ?_
    have := of_decide_eq_true (List.mem_filter.1 h).2
    rw [hiw] at this
    simp at this
  have hm : (0 : Fin 1) ∈ d.scatterDimsToOperandDims := by rw [hsd]; simp
  have hs : d.start (ix1 i) idx 0 = (idx (ix2 i (0 : Fin 1))).toInt := by
    unfold ScatterDims.start
    rw [dif_pos hm]
    refine congrArg (fun q => (idx q).toInt) (funext fun b => Fin.ext ?_)
    unfold ScatterDims.siIdx
    match b with
    | ⟨0, _⟩ =>
      rw [dif_neg (by rw [hivd]; exact Nat.zero_ne_one)]
      unfold ScatterDims.siCoord
      simp only [Fin.val_cast]
      have e : ∀ X : Fin 1, (ix1 i X).val = i.val := fun X => by
        obtain rfl : X = 0 := Subsingleton.elim _ _
        rfl
      exact e _
    | ⟨1, _⟩ =>
      rw [dif_pos (by rw [hivd])]
      show List.idxOf (0 : Fin 1) d.scatterDimsToOperandDims = 0
      rw [hsd]; simp
  rw [hw, hs]
  simp

include hiw hsd hivd in
/-- Adding ones into zeros counts the updates at each entry. -/
theorem count_apply (x0 : IVec (shape1 M) 32) (upd : IVec (shape1 N) 32) (hx0 : ∀ j, x0 j = 0#32) (hu : ∀ i, upd i = 1#32)
    (gi : ℕ → ℕ) (hg : ∀ i : Fin N, (idx (ix2 i (0 : Fin 1))).toInt = (gi i.val : ℤ)) (x : Fin M) :
    Host.scatter d IntOp.addi x0 idx upd (ix1 x) = BitVec.ofNat 32 ((Finset.univ.filter fun i : Fin N => gi i.val = x.val).card) := by
  unfold Host.scatter
  refine (foldl_count _ (ix1 x) (fun n => decide (gi n.val = x.val)) (fun r n => ?_) _ x0 0 (hx0 _)).trans ?_
  · have hi := lands d hiw hsd hivd idx (n.cast (numel1 N)) x
    rw [hg] at hi
    rw [symm1]
    generalize d.resultIdx? (ix1 (n.cast (numel1 N))) idx = o at hi ⊢
    have hv : (n.cast (numel1 N)).val = n.val := rfl
    rw [hv] at hi
    cases o with
    | none =>
      have : ¬ gi n.val = x.val := fun h => by have := hi.2 (by exact_mod_cast h); cases this
      simp [this]
    | some k =>
      by_cases e : gi n.val = x.val
      · have hk : k = ix1 x := Option.some.inj (hi.2 (by exact_mod_cast e))
        subst hk
        simp [e, hu]
      · have hk : ¬ ix1 x = k := fun h => e (by exact_mod_cast hi.1 (congrArg some h.symm))
        simp [e, hk]
  · rw [Nat.zero_add]
    congr 1
    have h2 : ∀ (A : ℕ) (hA : A = N), (List.finRange A).countP (fun n => decide (gi n.val = x.val)) = (Finset.univ.filter fun i : Fin N => gi i.val = x.val).card := by
      intro A hA; subst hA
      rw [List.countP_eq_length_filter]
      rfl
    exact h2 _ (numel1 N)

include hiw hsd hivd in
/-- An entry that every update landing there gives the value `v`. -/
theorem set_hit {α : Type} (x0 : (shape1 M).Idx → α) (upd : (shape1 N).Idx → α) (x : Fin M) (v : α)
    (hv : ∀ i : Fin N, (idx (ix2 i (0 : Fin 1))).toInt = (x.val : ℤ) → upd (ix1 i) = v) (i : Fin N)
    (hi : (idx (ix2 i (0 : Fin 1))).toInt = (x.val : ℤ)) : Host.scatter d (fun _ b => b) x0 idx upd (ix1 x) = v := by
  refine scatter_set_hit d x0 idx upd _ _ (fun k hk => ?_) (ix1 i) ((lands d hiw hsd hivd idx i x).2 hi)
  obtain ⟨j, rfl⟩ : ∃ j, k = ix1 j := ⟨k 0, funext fun a => by obtain rfl : a = 0 := Subsingleton.elim _ _; rfl⟩
  exact hv j ((lands d hiw hsd hivd idx j x).1 hk)

include hiw hsd hivd in
/-- An entry where no update lands keeps its value. -/
theorem set_miss {α : Type} (x0 : (shape1 M).Idx → α) (upd : (shape1 N).Idx → α) (x : Fin M)
    (h : ∀ i : Fin N, (idx (ix2 i (0 : Fin 1))).toInt ≠ (x.val : ℤ)) : Host.scatter d (fun _ b => b) x0 idx upd (ix1 x) = x0 (ix1 x) := by
  refine scatter_set_miss d x0 idx upd _ fun k hk => ?_
  obtain ⟨j, rfl⟩ : ∃ j, k = ix1 j := ⟨k 0, funext fun a => by obtain rfl : a = 0 := Subsingleton.elim _ _; rfl⟩
  exact h j ((lands d hiw hsd hivd idx j x).1 hk)

end Cert.Proof.Scatters

end
-- ==== Proof.Words.lean ====
/-
  Vectors of words, over any length: the third operand of a sort of three, an index vector behind the select that wraps
  negative indices, a slice.
-/
module

public import Idealize.ShloMosaic.Lib.Pointwise
public import Idealize.ShloMosaic.Lib.Routing.OpsSet
public import Idealize.ShloMosaic.Lib.Routing.OpsOne
public import Idealize.ShloMosaic.Lib.SortFacts

@[expose] public section

noncomputable section

namespace Cert.Proof.Words

open Idealize.ShloMosaic

variable {n : ℕ}

abbrev Vec1 (n : ℕ) : Shape := ⟨1, ![n]⟩

theorem ix1_same (i : Fin n) : (ValueIdx.ix1 i : (Vec1 n).Idx) = ix1 i := by
  funext a; obtain rfl : a = 0 := Subsingleton.elim _ _; rfl

theorem exists_ix1 (x : (Vec1 n).Idx) : ∃ i : Fin n, x = ix1 i :=
  ⟨x 0, by funext a; obtain rfl : a = 0 := Subsingleton.elim _ _; rfl⟩

/-- What the sort does to the operand that it carries. -/
theorem sort3_third (cmp : BitVec 32 × BitVec 32 × BitVec 32 → BitVec 32 × BitVec 32 × BitVec 32 → BitVec 1) (x y z : (Vec1 n).Idx → BitVec 32) (q : Fin n) :
    (Host.sort3 (Vec1 n) 0 cmp x y z).2.2 (ix1 q)
      = z (ix1 (sortedFrom (fun k k' => cmp (x (ix1 k), y (ix1 k), z (ix1 k)) (x (ix1 k'), y (ix1 k'), z (ix1 k')) == 1#1) q)) := by
  have al : ∀ k : Fin n, ((ix1 q : (Vec1 n).Idx).along (⟨0, Nat.one_pos⟩ : Fin (Vec1 n).rank) k : (Vec1 n).Idx) = ix1 k := by
    intro k; funext a; obtain rfl : a = 0 := Subsingleton.elim _ _; rfl
  have e : (sortedFrom (fun k k' => cmp (x ((ix1 q : (Vec1 n).Idx).along ⟨0, Nat.one_pos⟩ k), y ((ix1 q : (Vec1 n).Idx).along ⟨0, Nat.one_pos⟩ k), z ((ix1 q : (Vec1 n).Idx).along ⟨0, Nat.one_pos⟩ k))
      (x ((ix1 q : (Vec1 n).Idx).along ⟨0, Nat.one_pos⟩ k'), y ((ix1 q : (Vec1 n).Idx).along ⟨0, Nat.one_pos⟩ k'), z ((ix1 q : (Vec1 n).Idx).along ⟨0, Nat.one_pos⟩ k')) == 1#1) q : Fin n)
      = sortedFrom (fun k k' => cmp (x (ix1 k), y (ix1 k), z (ix1 k)) (x (ix1 k'), y (ix1 k'), z (ix1 k')) == 1#1) q :=
    congrArg (fun B => sortedFrom B q) (funext fun k => funext fun k' => by rw [al k, al k'])
  unfold Host.sort3
  rw [dif_pos (show 0 < (Vec1 n).rank from Nat.one_pos)]
  refine Eq.trans ?_ (congrArg (fun k => z (ix1 k)) e)
  exact congrArg z (al _)

/-- An index below `2 ^ 31` is not wrapped. -/
theorem wrap_apply (hb : (Vec1 n).BroadcastsInDim ⟨2, ![n, 1]⟩ ![0]) (x b0 b1 : (Vec1 n).Idx → BitVec 32) (h0 : ∀ j, b0 j = 0#32) (i : Fin n)
    (hx : (x (ix1 i)).toNat < 2 ^ 31) :
    (broadcastInDim ⟨2, ![n, 1]⟩ ![0] hb (select (cmpi .slt x b0) (addi x b1) x) : (⟨2, ![n, 1]⟩ : Shape).Idx → BitVec 32) (ValueIdx.ix2 i (0 : Fin 1)) = x (ix1 i) := by
  refine (broadcastInDim_apply _ _ _ _ (ix1 i) fun a => ?_).trans ?_
  · obtain rfl : a = 0 := Subsingleton.elim _ _
    show i.val = if n = 1 then 0 else i.val
    split
    · omega
    · rfl
  · show (if BitVec.ofBool ((x (ix1 i)).slt (b0 (ix1 i))) = 1#1 then _ else x (ix1 i)) = _
    rw [h0, BitVec.slt_eq_decide, BitVec.toInt_eq_toNat_of_lt (by omega), if_neg]
    show ¬ BitVec.ofBool (decide (((x (ix1 i)).toNat : ℤ) < 0)) = 1#1
    rw [decide_eq_false (by omega)]
    decide

theorem toInt_small (w : BitVec 32) (h : w.toNat < 2 ^ 31) : w.toInt = (w.toNat : ℤ) := BitVec.toInt_eq_toNat_of_lt (by omega)

/-- A slice of a vector. -/
theorem slice_apply {α : Type} {k o : ℕ} (x : (Vec1 n).Idx → α) (h : (Vec1 n).Slices ![o] (Vec1 k)) (i : Fin k) (hi : o + i.val < n) :
    (extractStridedSlice (Vec1 k) ![o] x h : (Vec1 k).Idx → α) (ix1 i) = x (ix1 ⟨o + i.val, hi⟩) :=
  extractStridedSlice_apply _ _ _ _ _ fun a => by obtain rfl : a = 0 := Subsingleton.elim _ _; rfl

end Cert.Proof.Words

end
-- ==== Proof.RefSort.lean ====
/-
  The reference's sort: the places of the points in order of tile, then depth key, then number.
-/
module

public import proofs.«01_k».proof.Proof.RefPoint
public import proofs.«01_k».proof.Proof.KernelInts
public import proofs.«01_k».proof.Proof.StableSort
public import proofs.«01_k».proof.Proof.Scatters
public import proofs.«01_k».proof.Proof.Words

@[expose] public section

noncomputable section

namespace Cert.Proof.Ref

open Cert.ReferenceIdeal Cert.ReferenceIdeal.Gen Cert.ReferenceIdeal.Facts
open Cert.ReferenceIdeal.Value
open Idealize.ShloMosaic

theorem slt_iff (a b : BitVec 32) (ha : a.toNat < 2 ^ 31) (hb : b.toNat < 2 ^ 31) : IntOp.cmpi .slt a b = 1#1 ↔ a.toNat < b.toNat := by
  show BitVec.ofBool (a.slt b) = 1#1 ↔ _
  rw [BitVec.slt_eq_decide, BitVec.toInt_eq_toNat_of_lt (by omega), BitVec.toInt_eq_toNat_of_lt (by omega)]
  by_cases h : a.toNat < b.toNat
  · simp [h]
  · simp [h]

theorem eq_iff (a b : BitVec 32) : IntOp.cmpi .eq a b = 1#1 ↔ a.toNat = b.toNat := by
  show BitVec.ofBool (a == b) = 1#1 ↔ _
  rw [← BitVec.toNat_inj]
  by_cases h : a = b
  · simp [h]
  · have : a.toNat ≠ b.toNat := fun e => h (BitVec.eq_of_toNat_eq e)
    simp [h, this]

theorem or_iff (a b : BitVec 1) : IntOp.ori a b = 1#1 ↔ a = 1#1 ∨ b = 1#1 := by revert a b; decide
theorem and_iff (a b : BitVec 1) : IntOp.andi a b = 1#1 ↔ a = 1#1 ∧ b = 1#1 := by revert a b; decide

/-- The reference compares tile first, then depth key. -/
theorem before_iff (a b c a' b' c' : BitVec 32) (ha : a.toNat ≤ 8160) (ha' : a'.toNat ≤ 8160) (hb : b.toNat < 4096) (hb' : b'.toNat < 4096) :
    comparator_i32_i32_i32_d0 (a, b, c) (a', b', c') = 1#1 ↔ a.toNat * 4096 + b.toNat < a'.toNat * 4096 + b'.toNat := by
  show IntOp.ori (IntOp.cmpi .slt a a') (IntOp.andi (IntOp.cmpi .eq a a') (IntOp.cmpi .slt b b')) = 1#1 ↔ _
  rw [or_iff, and_iff, slt_iff _ _ (by omega) (by omega), eq_iff, slt_iff _ _ (by omega) (by omega)]
  omega

variable (V0 : Valuation τ sig (Elt Ideal)) (h : Camera (aA V0) (aB V0) (aC V0) (aD V0))

/-- Which of two points the reference's sort puts first. -/
def before (k k' : Fin 500000) : Bool :=
  comparator_i32_i32_i32_d0 (res_main_v193 V0 (ix1 k), res_main_v208 V0 (ix1 k), res_main_call7_v0 V0 (ix1 k))
    (res_main_v193 V0 (ix1 k'), res_main_v208 V0 (ix1 k'), res_main_call7_v0 V0 (ix1 k')) == 1#1

/-- The point at place `q` of the reference's sort. -/
def tF (q : Fin 500000) : Fin 500000 := sortedFrom (before V0) q
def t (q : ℕ) : ℕ := if hq : q < 500000 then (tF V0 ⟨q, hq⟩).val else q

theorem t_val (q : Fin 500000) : t V0 q.val = (tF V0 q).val := by
  unfold t; rw [dif_pos q.isLt]

theorem v209_apply (q : Fin 500000) : (res_main_v209 V0 : S500000.Idx → BitVec 32) (ix1 q) = BitVec.ofNat 32 (t V0 q.val) := by
  rw [t_val]
  unfold res_main_v209
  exact (Words.sort3_third (n := 500000) comparator_i32_i32_i32_d0 _ _ _ q).trans rfl

include h in
theorem kb_eq (i : Fin 500000) : ((res_main_v193 V0 : S500000.Idx → BitVec 32) (ix1 i)).toNat = kbOf (aA V0) i.val := by
  rw [v193_apply V0 h]; unfold kbOf; rw [dif_pos i.isLt]
include h in
theorem ka_eq (i : Fin 500000) : ((res_main_v208 V0 : S500000.Idx → BitVec 32) (ix1 i)).toNat = kaOf (aA V0) i.val := by
  rw [v208_apply V0 h]; unfold kaOf; rw [dif_pos i.isLt]
include h in
theorem ka_lt (i : ℕ) (hi : i < 500000) : kaOf (aA V0) i < 4096 := by
  unfold kaOf; rw [dif_pos hi]; exact h.range ⟨i, hi⟩

include h in
theorem before_key (a b : Fin 500000) : before V0 a b = true ↔ kbOf (aA V0) a.val * 4096 + kaOf (aA V0) a.val < kbOf (aA V0) b.val * 4096 + kaOf (aA V0) b.val := by
  have k1 := kb_eq V0 h a
  have k2 := kb_eq V0 h b
  have k3 := ka_eq V0 h a
  have k4 := ka_eq V0 h b
  unfold before
  rw [beq_iff_eq, before_iff _ _ _ _ _ _ (k1 ▸ kbOf_le _ _) (k2 ▸ kbOf_le _ _) (k3 ▸ ka_lt V0 h _ a.isLt) (k4 ▸ ka_lt V0 h _ b.isLt), k1, k2, k3, k4]

theorem t_lt (q : ℕ) (hq : q < 500000) : t V0 q < 500000 := by
  unfold t; rw [dif_pos hq]; exact (tF V0 _).isLt

theorem t_inj (p q : ℕ) (hp : p < 500000) (hq : q < 500000) (e : t V0 p = t V0 q) : p = q := by
  unfold t at e
  rw [dif_pos hp, dif_pos hq] at e
  exact congrArg Fin.val (sortedFrom_injective (before V0) (Fin.ext e))

include h in
/-- The sort puts tiles in order, within a tile the depth keys, within equal keys the points. -/
theorem t_mono (p q : ℕ) (hpq : p < q) (hq : q < 500000) : kbOf (aA V0) (t V0 p) < kbOf (aA V0) (t V0 q) ∨ (kbOf (aA V0) (t V0 p) = kbOf (aA V0) (t V0 q) ∧
    (kaOf (aA V0) (t V0 p) < kaOf (aA V0) (t V0 q) ∨ (kaOf (aA V0) (t V0 p) = kaOf (aA V0) (t V0 q) ∧ t V0 p < t V0 q))) := by
  have hp : p < 500000 := by omega
  have := StableSort.sortedFrom_ahead (fun i : Fin 500000 => kbOf (aA V0) i.val * 4096 + kaOf (aA V0) i.val) (before V0) (before_key V0 h)
    (p := ⟨p, hp⟩) (q := ⟨q, hq⟩) hpq
  have e1 : t V0 p = (sortedFrom (before V0) ⟨p, hp⟩).val := by unfold t; rw [dif_pos hp]; rfl
  have e2 : t V0 q = (sortedFrom (before V0) ⟨q, hq⟩).val := by unfold t; rw [dif_pos hq]; rfl
  have l1 := ka_lt V0 h _ (t_lt V0 p hp)
  have l2 := ka_lt V0 h _ (t_lt V0 q hq)
  unfold StableSort.Ahead at this
  dsimp only at this
  rw [Fin.lt_def, ← e1, ← e2] at this
  omega

/-- The tile at place `q`. -/
def sT (q : ℕ) : ℕ := kbOf (aA V0) (t V0 q)

include h in
theorem sT_mono (p q : ℕ) (hpq : p ≤ q) (hq : q < 500000) : sT V0 p ≤ sT V0 q := by
  unfold sT
  rcases Nat.lt_or_eq_of_le hpq with hlt | rfl
  · have := t_mono V0 h p q hlt hq; omega
  · exact le_rfl

include h in
theorem v216_apply (q : Fin 500000) : (res_main_v216 V0 : S500000.Idx → BitVec 32) (ix1 q) = BitVec.ofNat 32 (sT V0 q.val) := by
  have hl := t_lt V0 q.val q.isLt
  have e := v209_apply V0 q
  unfold res_main_v216
  refine (Routing.gather_take1 gather_S500000_S500000x1_S500000_n_0_n_n_0_1_1 rfl rfl rfl rfl (res_main_v193 V0) _ q ⟨t V0 q.val, hl⟩ ?_ (by norm_num)).trans ?_
  · refine (Words.wrap_apply (n := 500000) _ _ _ _ (fun _ => rfl) q ?_).trans e
    rw [e, BitVec.toNat_ofNat]; omega
  · apply BitVec.eq_of_toNat_eq
    have := kb_eq V0 h ⟨t V0 q.val, hl⟩
    have l := kbOf_le (aA V0) (t V0 q.val)
    rw [BitVec.toNat_ofNat]
    unfold sT
    rw [Nat.mod_eq_of_lt (by omega)]
    exact this

end Cert.Proof.Ref

end
-- ==== Proof.Bins.lean ====
/-
  Where the tiles start and end in a sorted list of tiles, written by the reference as scatters at the places where the tile
  changes: the counts that the SparseCore kernel makes of them.
-/
module

public import proofs.«01_k».proof.Proof.Scatters
public import proofs.«01_k».proof.Proof.TwoPass
public import Idealize.ShloMosaic.Lib.Routing.OpsOne

@[expose] public section

namespace Cert.Proof.Bins

open Idealize.ShloMosaic Idealize.ShloMosaic.Routing Idealize.ShloMosaic.ValueIdx
open Counting (cnt below)

variable {M N : ℕ} (d : ScatterDims (shape1 M) (shape2 N 1) (shape1 N)) (hiw : d.insertedWindowDims = [0])
  (hsd : d.scatterDimsToOperandDims = [0]) (hivd : d.indexVectorDim = 1) (idx : IVec (shape2 N 1) 32)
  (s : ℕ → ℕ) (hs : ∀ p q, p ≤ q → q < N + 1 → s p ≤ s q) (x0 : IVec (shape1 M) 32) (hx0 : ∀ j, x0 j = 0#32)
  (upd : IVec (shape1 N) 32) (hu : ∀ i : Fin N, upd (ix1 i) = BitVec.ofNat 32 (i.val + 1))

/-- Counting over the positions as `Fin`. -/
theorem card_fin (n : ℕ) (P : ℕ → Prop) [DecidablePred P] : (Finset.univ.filter fun i : Fin n => P i.val).card = ((Finset.Ico 0 n).filter P).card := by
  rw [← Finset.card_map Fin.valEmbedding]
  refine congrArg Finset.card (Finset.ext fun a => ?_)
  simp only [Finset.mem_map, Finset.mem_filter, Finset.mem_univ, true_and, Finset.mem_Ico, Fin.valEmbedding_apply]
  constructor
  · rintro ⟨i, hi, rfl⟩; exact ⟨⟨Nat.zero_le _, i.isLt⟩, hi⟩
  · rintro ⟨⟨_, ha⟩, hp⟩; exact ⟨⟨a, ha⟩, hp, rfl⟩

include hiw hsd hivd hs hx0 hu in
/-- The starts: at each change of tile, the place after it goes to the tile after it. -/
theorem starts_of (hi : ∀ i : Fin N, (idx (ix2 i (0 : Fin 1))).toInt = ((if s (i.val + 1) ≠ s i.val then s (i.val + 1) else 8160 : ℕ) : ℤ))
    (x : Fin M) (hx : x.val < 8160) :
    Host.scatter d (fun _ b => b) x0 idx upd (ix1 x) = if cnt s 0 (N + 1) x.val = 0 then 0#32 else BitVec.ofNat 32 (below s (N + 1) x.val) := by
  by_cases hit : ∃ i : Fin N, s (i.val + 1) ≠ s i.val ∧ s (i.val + 1) = x.val
  · obtain ⟨i, hne, he⟩ := hit
    have hb := TwoPass.start_hit s hs (i := i.val) (t := x.val) (by omega) hne he
    rw [if_neg (TwoPass.cnt_pos s (i := i.val + 1) (by omega) he), hb]
    refine Scatters.set_hit d hiw hsd hivd idx x0 upd x _ (fun j hj => ?_) i ?_
    · rw [hi] at hj
      split at hj
      · rename_i hc
        have := TwoPass.start_hit s hs (i := j.val) (t := x.val) (by omega) hc (by exact_mod_cast hj)
        rw [hu, ← this, hb]
      · omega
    · rw [hi, if_pos hne, he]
  · have hno : ∀ i, i + 1 < N + 1 → s (i + 1) ≠ s i → s (i + 1) ≠ x.val := fun i hlt hne he => hit ⟨⟨i, by omega⟩, hne, he⟩
    rw [Scatters.set_miss d hiw hsd hivd idx x0 upd x fun i => ?_, hx0]
    · rcases TwoPass.start_miss s hs hno with h | h
      · rw [if_pos h]
      · rw [h]; split <;> rfl
    · rw [hi]
      split
      · rename_i hc
        have := hno i.val (by omega) hc
        exact_mod_cast this
      · omega

include hiw hsd hivd hs hx0 hu in
/-- The ends: at each change of tile, the place after it goes to the tile before it; to the last tile goes the length. -/
theorem ends_of (hi : ∀ i : Fin N, (idx (ix2 i (0 : Fin 1))).toInt = ((if s (i.val + 1) ≠ s i.val then s i.val else 8160 : ℕ) : ℤ))
    (d' : ScatterDims (shape1 M) (shape1 1) shape0) (hiw' : d'.insertedWindowDims = [0]) (hsd' : d'.scatterDimsToOperandDims = [0])
    (idx' : IVec (shape1 1) 32) (upd' : IVec shape0 32) (hu' : upd' ix0 = BitVec.ofNat 32 (N + 1))
    (hM : s N < M) (hi' : (idx' (ix1 0)).toInt = (s N : ℤ)) (x : Fin M) (hx : x.val < 8160) :
    Host.scatter d' (fun _ b => b) (Host.scatter d (fun _ b => b) x0 idx upd) idx' upd' (ix1 x)
      = if cnt s 0 (N + 1) x.val = 0 then 0#32 else BitVec.ofNat 32 (below s (N + 1) (x.val + 1)) := by
  rw [scatter_one_signed d' hiw' hsd' _ idx' upd' ⟨s N, hM⟩ hi' x]
  by_cases hl : s N = x.val
  · rw [if_pos (Fin.ext hl.symm), hu', if_neg (TwoPass.cnt_pos s (i := N) (by omega) hl), TwoPass.end_last s hs (by omega) hl]
  rw [if_neg fun e => hl (congrArg Fin.val e).symm]
  by_cases hit : ∃ i : Fin N, s (i.val + 1) ≠ s i.val ∧ s i.val = x.val
  · obtain ⟨i, hne, he⟩ := hit
    have hb := TwoPass.end_hit s hs (i := i.val) (t := x.val) (by omega) hne he
    rw [if_neg (TwoPass.cnt_pos s (i := i.val) (by omega) he), hb]
    refine Scatters.set_hit d hiw hsd hivd idx x0 upd x _ (fun j hj => ?_) i ?_
    · rw [hi] at hj
      split at hj
      · rename_i hc
        have := TwoPass.end_hit s hs (i := j.val) (t := x.val) (by omega) hc (by exact_mod_cast hj)
        rw [hu, ← this, hb]
      · omega
    · rw [hi, if_pos hne, he]
  · have hno : ∀ i, i + 1 < N + 1 → s (i + 1) ≠ s i → s i ≠ x.val := fun i hlt hne he => hit ⟨⟨i, by omega⟩, hne, he⟩
    rw [Scatters.set_miss d hiw hsd hivd idx x0 upd x fun i => ?_, hx0]
    · rw [if_pos (TwoPass.end_miss s hno hl)]
    · rw [hi]
      split
      · rename_i hc
        have := hno i.val (by omega) hc
        exact_mod_cast this
      · omega

end Cert.Proof.Bins
-- ==== Proof.IntResults.lean ====
/-
  The four integer results: what the reference's sort and scatters make is what the SparseCore calls make.
-/
module

public import proofs.«01_k».proof.Proof.RefSort
public import proofs.«01_k».proof.Proof.Bins

@[expose] public section

noncomputable section

namespace Cert.Proof.Ref

open Cert.ReferenceIdeal Cert.ReferenceIdeal.Gen Cert.ReferenceIdeal.Facts
open Cert.ReferenceIdeal.Value
open Idealize.ShloMosaic
open Counting (cnt below)

variable (V0 : Valuation τ sig (Elt Ideal)) (h : Camera (aA V0) (aB V0) (aC V0) (aD V0))

/-- The reference's histogram, starts and ends, as its run leaves them. -/
def refHist : S8160.Idx → BitVec 32 :=
  extractStridedSlice S8160 ![0] (Host.scatter scatter_S8161_S500000x1_S500000_n_0_0_1 IntOp.addi (broadcastInDim S8161 ![] bcast_S_S8161 (constantI S_ 32 0#32)) (broadcastInDim S500000x1 ![0] bcast_S500000_S500000x1_0 (select (cmpi .slt (res_main_v195 V0) (broadcastInDim S500000 ![] bcast_S_S500000 (constantI S_ 32 0#32))) (addi (res_main_v195 V0) (broadcastInDim S500000 ![] bcast_S_S500000 (constantI S_ 32 8161#32))) (res_main_v195 V0))) (broadcastInDim S500000 ![] bcast_S_S500000 (constantI S_ 32 1#32))) slices_S8161_S8160_0
def refStart : S8160.Idx → BitVec 32 :=
  extractStridedSlice S8160 ![0] (Host.scatter scatter_S8161_S499999x1_S499999_n_0_0_1 (fun _ b => b) (broadcastInDim S8161 ![] bcast_S_S8161 (constantI S_ 32 0#32)) (broadcastInDim S499999x1 ![0] bcast_S499999_S499999x1_0 (select (cmpi .slt (res_main_v226 V0) (broadcastInDim S499999 ![] bcast_S_S499999 (constantI S_ 32 0#32))) (addi (res_main_v226 V0) (broadcastInDim S499999 ![] bcast_S_S499999 (constantI S_ 32 8161#32))) (res_main_v226 V0))) (res_main_v224 V0)) slices_S8161_S8160_0
def refEnd : S8160.Idx → BitVec 32 :=
  extractStridedSlice S8160 ![0] (Host.scatter scatter_S8161_S1_S__n_0_0_0 (fun _ b => b) (Host.scatter scatter_S8161_S499999x1_S499999_n_0_0_1 (fun _ b => b) (broadcastInDim S8161 ![] bcast_S_S8161 (constantI S_ 32 0#32)) (broadcastInDim S499999x1 ![0] bcast_S499999_S499999x1_0 (select (cmpi .slt (res_main_v235 V0) (broadcastInDim S499999 ![] bcast_S_S499999 (constantI S_ 32 0#32))) (addi (res_main_v235 V0) (broadcastInDim S499999 ![] bcast_S_S499999 (constantI S_ 32 8161#32))) (res_main_v235 V0))) (res_main_v224 V0)) (broadcastInDim S1 ![] bcast_S_S1 (select (cmpi .slt (res_main_v244 V0) (constantI S_ 32 0#32)) (addi (res_main_v244 V0) (constantI S_ 32 8161#32)) (res_main_v244 V0))) (constantI S_ 32 500000#32)) slices_S8161_S8160_0

theorem sT_le (q : ℕ) : sT V0 q ≤ 8160 := kbOf_le _ _

include h in
theorem v195_apply (i : Fin 500000) : (res_main_v195 V0 : S500000.Idx → BitVec 32) (ix1 i) = BitVec.ofNat 32 (kbOf (aA V0) i.val) := by
  have e := kb_eq V0 h i
  have l := kbOf_le (aA V0) i.val
  show (if (res_main_v193 V0 (ix1 i)).slt (0#32) then 0#32 else res_main_v193 V0 (ix1 i)) = _
  generalize (res_main_v193 V0 : S500000.Idx → BitVec 32) (ix1 i) = w at e
  rw [BitVec.slt_eq_decide, BitVec.toInt_eq_toNat_of_lt (x := w) (by omega), decide_eq_false (by show ¬ ((w.toNat : ℤ) < (0 : ℤ)); omega)]
  apply BitVec.eq_of_toNat_eq
  rw [BitVec.toNat_ofNat, Nat.mod_eq_of_lt (by omega), ← e]
  rfl

include h in
theorem refHist_apply (x : Fin 8160) : refHist V0 (ix1 x) = BitVec.ofNat 32 (cnt (kbOf (aA V0)) 0 500000 x.val) := by
  unfold refHist
  refine (Words.slice_apply (n := 8161) (k := 8160) (o := 0) _ _ x (by omega)).trans ?_
  rw [← Words.ix1_same]
  refine (Scatters.count_apply (M := 8161) (N := 500000) scatter_S8161_S500000x1_S500000_n_0_0_1 rfl rfl rfl _ _ _ (fun _ => rfl) (fun _ => rfl) (kbOf (aA V0)) (fun i => ?_) _).trans ?_
  · have e := v195_apply V0 h i
    have l := kbOf_le (aA V0) i.val
    have w := Words.wrap_apply (n := 500000) bcast_S500000_S500000x1_0 (res_main_v195 V0) (broadcastInDim S500000 ![] bcast_S_S500000 (constantI S_ 32 0#32))
      (broadcastInDim S500000 ![] bcast_S_S500000 (constantI S_ 32 8161#32)) (fun _ => rfl) i (by rw [e, BitVec.toNat_ofNat]; omega)
    refine (congrArg BitVec.toInt (w.trans e)).trans ?_
    rw [Words.toInt_small _ (by rw [BitVec.toNat_ofNat]; omega), BitVec.toNat_ofNat, Nat.mod_eq_of_lt (by omega)]
  · rw [Bins.card_fin 500000 fun i => kbOf (aA V0) i = (⟨0 + x.val, by omega⟩ : Fin 8161).val]
    show BitVec.ofNat 32 (cnt (kbOf (aA V0)) 0 500000 (0 + x.val)) = _
    rw [Nat.zero_add]

include h in
theorem v221_apply (i : Fin 499999) : (res_main_v221 V0 : S499999.Idx → BitVec 1) (ix1 i) = 1#1 ↔ sT V0 (i.val + 1) ≠ sT V0 i.val := by
  have e1 : (extractStridedSlice S499999 ![1] (res_main_v216 V0) slices_S500000_S499999_1 : S499999.Idx → BitVec 32) (ix1 i) = BitVec.ofNat 32 (sT V0 (1 + i.val)) :=
    (Words.slice_apply (n := 500000) (k := 499999) (o := 1) _ _ i (by omega)).trans (v216_apply V0 h _)
  have e0 : (extractStridedSlice S499999 ![0] (res_main_v216 V0) slices_S500000_S499999_0 : S499999.Idx → BitVec 32) (ix1 i) = BitVec.ofNat 32 (sT V0 (0 + i.val)) :=
    (Words.slice_apply (n := 500000) (k := 499999) (o := 0) _ _ i (by omega)).trans (v216_apply V0 h _)
  have l1 := sT_le V0 (i.val + 1)
  have l0 := sT_le V0 i.val
  unfold res_main_v221
  show BitVec.ofBool ((extractStridedSlice S499999 ![1] (res_main_v216 V0) slices_S500000_S499999_1 : S499999.Idx → BitVec 32) (ix1 i)
    != (extractStridedSlice S499999 ![0] (res_main_v216 V0) slices_S500000_S499999_0 : S499999.Idx → BitVec 32) (ix1 i)) = 1#1 ↔ _
  rw [e1, e0, Nat.zero_add, Nat.add_comm 1]
  by_cases hc : sT V0 (i.val + 1) = sT V0 i.val
  · rw [hc]; simp
  · have : BitVec.ofNat 32 (sT V0 (i.val + 1)) ≠ BitVec.ofNat 32 (sT V0 i.val) := fun e => hc (by
      have := congrArg BitVec.toNat e
      rw [BitVec.toNat_ofNat, BitVec.toNat_ofNat] at this
      omega)
    rw [bne_iff_ne.mpr this]
    exact ⟨fun _ => hc, fun _ => rfl⟩

include h in
theorem v226_apply (i : Fin 499999) : (res_main_v226 V0 : S499999.Idx → BitVec 32) (ix1 i) = BitVec.ofNat 32 (if sT V0 (i.val + 1) ≠ sT V0 i.val then sT V0 (i.val + 1) else 8160) := by
  have e1 : (extractStridedSlice S499999 ![1] (res_main_v216 V0) slices_S500000_S499999_1 : S499999.Idx → BitVec 32) (ix1 i) = BitVec.ofNat 32 (sT V0 (1 + i.val)) :=
    (Words.slice_apply (n := 500000) (k := 499999) (o := 1) _ _ i (by omega)).trans (v216_apply V0 h _)
  have c := v221_apply V0 h i
  unfold res_main_v226
  show (if (res_main_v221 V0 : S499999.Idx → BitVec 1) (ix1 i) = 1#1 then (extractStridedSlice S499999 ![1] (res_main_v216 V0) slices_S500000_S499999_1 : S499999.Idx → BitVec 32) (ix1 i) else 8160#32) = _
  rw [e1, Nat.add_comm 1]
  by_cases hc : sT V0 (i.val + 1) ≠ sT V0 i.val
  · rw [if_pos (c.2 hc), if_pos hc]
  · rw [if_neg fun e => hc (c.1 e), if_neg hc]

include h in
theorem v235_apply (i : Fin 499999) : (res_main_v235 V0 : S499999.Idx → BitVec 32) (ix1 i) = BitVec.ofNat 32 (if sT V0 (i.val + 1) ≠ sT V0 i.val then sT V0 i.val else 8160) := by
  have e0 : (extractStridedSlice S499999 ![0] (res_main_v216 V0) slices_S500000_S499999_0 : S499999.Idx → BitVec 32) (ix1 i) = BitVec.ofNat 32 (sT V0 (0 + i.val)) :=
    (Words.slice_apply (n := 500000) (k := 499999) (o := 0) _ _ i (by omega)).trans (v216_apply V0 h _)
  have c := v221_apply V0 h i
  unfold res_main_v235
  show (if (res_main_v221 V0 : S499999.Idx → BitVec 1) (ix1 i) = 1#1 then (extractStridedSlice S499999 ![0] (res_main_v216 V0) slices_S500000_S499999_0 : S499999.Idx → BitVec 32) (ix1 i) else 8160#32) = _
  rw [e0, Nat.zero_add]
  by_cases hc : sT V0 (i.val + 1) ≠ sT V0 i.val
  · rw [if_pos (c.2 hc), if_pos hc]
  · rw [if_neg fun e => hc (c.1 e), if_neg hc]

theorem v224_apply (i : Fin 499999) : (res_main_v224 V0 : S499999.Idx → BitVec 32) (ValueIdx.ix1 i) = BitVec.ofNat 32 (i.val + 1) := by
  show 1#32 + BitVec.ofNat 32 i.val = _
  rw [Nat.add_comm, BitVec.ofNat_add]

include h in
theorem v244_apply (j : S_.Idx) : (res_main_v244 V0 : S_.Idx → BitVec 32) j = BitVec.ofNat 32 (sT V0 499999) := by
  unfold res_main_v244
  refine (shapeCast_apply _ _ _ (ix1 (0 : Fin 1)) ?_).trans ?_
  · exact (Nat.lt_one_iff.mp (Fin.isLt _)).trans (Nat.lt_one_iff.mp (Fin.isLt _)).symm
  · exact (Words.slice_apply (n := 500000) (k := 1) (o := 499999) _ _ 0 (by decide)).trans (v216_apply V0 h _)

theorem toInt_if (c : Prop) [Decidable c] (a : ℕ) (ha : a ≤ 8160) : (BitVec.ofNat 32 (if c then a else 8160)).toInt = ((if c then a else 8160 : ℕ) : ℤ) := by
  have l : (if c then a else 8160) ≤ 8160 := by split <;> omega
  rw [Words.toInt_small _ (by rw [BitVec.toNat_ofNat]; omega), BitVec.toNat_ofNat, Nat.mod_eq_of_lt (by omega)]

theorem small_if (c : Prop) [Decidable c] (a : ℕ) (ha : a ≤ 8160) : (BitVec.ofNat 32 (if c then a else 8160)).toNat < 2 ^ 31 := by
  have l : (if c then a else 8160) ≤ 8160 := by split <;> omega
  rw [BitVec.toNat_ofNat]; omega

include h in
theorem refStart_apply (x : Fin 8160) : refStart V0 (ix1 x) = if cnt (sT V0) 0 500000 x.val = 0 then 0#32 else BitVec.ofNat 32 (below (sT V0) 500000 x.val) := by
  unfold refStart
  refine (Words.slice_apply (n := 8161) (k := 8160) (o := 0) _ _ x (by omega)).trans ?_
  rw [← Words.ix1_same]
  refine (Bins.starts_of (M := 8161) (N := 499999) scatter_S8161_S499999x1_S499999_n_0_0_1 rfl rfl rfl _ (sT V0) (fun p q h1 h2 => sT_mono V0 h p q h1 h2) _ (fun _ => rfl) _
    (fun i => v224_apply V0 i) (fun i => ?_) _ ?_).trans ?_
  · have e := v226_apply V0 h i
    have w := Words.wrap_apply (n := 499999) bcast_S499999_S499999x1_0 (res_main_v226 V0) (broadcastInDim S499999 ![] bcast_S_S499999 (constantI S_ 32 0#32))
      (broadcastInDim S499999 ![] bcast_S_S499999 (constantI S_ 32 8161#32)) (fun _ => rfl) i (by rw [e]; exact small_if _ _ (sT_le V0 _))
    exact (congrArg BitVec.toInt (w.trans e)).trans (toInt_if _ _ (sT_le V0 _))
  · show 0 + x.val < 8160
    omega
  · show (if cnt (sT V0) 0 500000 (0 + x.val) = 0 then 0#32 else BitVec.ofNat 32 (below (sT V0) 500000 (0 + x.val))) = _
    rw [Nat.zero_add]

include h in
theorem refEnd_apply (x : Fin 8160) : refEnd V0 (ix1 x) = if cnt (sT V0) 0 500000 x.val = 0 then 0#32 else BitVec.ofNat 32 (below (sT V0) 500000 (x.val + 1)) := by
  have l := sT_le V0 499999
  unfold refEnd
  refine (Words.slice_apply (n := 8161) (k := 8160) (o := 0) _ _ x (by omega)).trans ?_
  rw [← Words.ix1_same]
  refine (Bins.ends_of (M := 8161) (N := 499999) scatter_S8161_S499999x1_S499999_n_0_0_1 rfl rfl rfl _ (sT V0) (fun p q h1 h2 => sT_mono V0 h p q h1 h2) _ (fun _ => rfl) _
    (fun i => v224_apply V0 i) (fun i => ?_) scatter_S8161_S1_S__n_0_0_0 rfl rfl _ _ rfl (by omega) ?_ _ ?_).trans ?_
  · have e := v235_apply V0 h i
    have w := Words.wrap_apply (n := 499999) bcast_S499999_S499999x1_0 (res_main_v235 V0) (broadcastInDim S499999 ![] bcast_S_S499999 (constantI S_ 32 0#32))
      (broadcastInDim S499999 ![] bcast_S_S499999 (constantI S_ 32 8161#32)) (fun _ => rfl) i (by rw [e]; exact small_if _ _ (sT_le V0 _))
    exact (congrArg BitVec.toInt (w.trans e)).trans (toInt_if _ _ (sT_le V0 _))
  · have key : ∀ w z : BitVec 32, w = BitVec.ofNat 32 (sT V0 499999) → (if BitVec.ofBool (w.slt 0#32) = 1#1 then z else w).toInt = (sT V0 499999 : ℤ) := by
      intro w z e
      have hw : w.toNat = sT V0 499999 := by rw [e, BitVec.toNat_ofNat, Nat.mod_eq_of_lt (by omega)]
      have hi : w.toInt = (sT V0 499999 : ℤ) := by rw [Words.toInt_small _ (by omega), hw]
      rw [BitVec.slt_eq_decide, if_neg, hi]
      rw [hi, decide_eq_false (by show ¬ ((sT V0 499999 : ℤ) < (0 : ℤ)); omega)]
      decide
    exact key _ _ (v244_apply V0 h _)
  · show 0 + x.val < 8160
    omega
  · show (if cnt (sT V0) 0 500000 (0 + x.val) = 0 then 0#32 else BitVec.ofNat 32 (below (sT V0) 500000 (0 + x.val + 1))) = _
    rw [Nat.zero_add]

theorem cnt_sT (k : ℕ) : cnt (sT V0) 0 500000 k = cnt (kbOf (aA V0)) 0 500000 k :=
  TwoPass.cnt_rearranged (t V0) (t_lt V0) (fun i j hi hj e => t_inj V0 i j hi hj e) (kbOf (aA V0)) k
theorem below_sT (k : ℕ) : below (sT V0) 500000 k = below (kbOf (aA V0)) 500000 k :=
  TwoPass.below_rearranged (t V0) (t_lt V0) (fun i j hi hj e => t_inj V0 i j hi hj e) (kbOf (aA V0)) k

/-! ## The kernel's -/

variable (m : (ℓ : Loc KernelIdeal.nD KernelIdeal.τ KernelIdeal.sig) → Buf (Elt Ideal) ℓ) (d : Dev KernelIdeal.nD) (hA : A0 m d = aA V0)

include hA in
theorem keyA_dk' (i : ℕ) (hi : i < 503808) : keyA (dkOf (V3 m) d) i = TwoPass.depthAt (kaOf (aA V0)) i := by
  rw [keyA_dk m d i hi, hA]
include hA in
theorem keyB_p' (p : ℕ) (hp : p < 503808) : keyB (pOf (V3 m) d) p = TwoPass.tileAt (kbOf (aA V0)) (Counting.unrank (keyA (dkOf (V3 m) d)) 503808 p) := by
  rw [keyB_p m d p hp, hA]

include h hA in
theorem hist_eq : (tileHist (pOf (V3 m) d) : S8160.Idx → BitVec 32) = refHist V0 := by
  funext x
  obtain ⟨x, rfl⟩ := Words.exists_ix1 x
  rw [refHist_apply V0 h]
  show BitVec.ofNat 32 (cnt (keyB (pOf (V3 m) d)) 0 503808 x.val) = _
  rw [TwoPass.cnt_tile (kbOf (aA V0)) (keyA (dkOf (V3 m) d)) (keyB (pOf (V3 m) d)) (keyB_p' V0 m d hA) x.val (by omega)]

include h hA in
theorem start_eq : (tileStart (pOf (V3 m) d) : S8160.Idx → BitVec 32) = refStart V0 := by
  funext x
  obtain ⟨x, rfl⟩ := Words.exists_ix1 x
  rw [refStart_apply V0 h, cnt_sT, below_sT]
  show (if cnt (keyB (pOf (V3 m) d)) 0 503808 x.val = 0 then 0#32 else BitVec.ofNat 32 (below (keyB (pOf (V3 m) d)) 503808 x.val)) = _
  rw [TwoPass.cnt_tile (kbOf (aA V0)) (keyA (dkOf (V3 m) d)) (keyB (pOf (V3 m) d)) (keyB_p' V0 m d hA) x.val (by omega),
    TwoPass.below_tile (kbOf (aA V0)) (keyA (dkOf (V3 m) d)) (keyB (pOf (V3 m) d)) (keyB_p' V0 m d hA) x.val (by omega)]

include h hA in
theorem end_eq : (tileEnd (pOf (V3 m) d) : S8160.Idx → BitVec 32) = refEnd V0 := by
  funext x
  obtain ⟨x, rfl⟩ := Words.exists_ix1 x
  rw [refEnd_apply V0 h, cnt_sT, below_sT]
  show (if cnt (keyB (pOf (V3 m) d)) 0 503808 x.val = 0 then 0#32 else BitVec.ofNat 32 (below (keyB (pOf (V3 m) d)) 503808 (x.val + 1))) = _
  rw [TwoPass.cnt_tile (kbOf (aA V0)) (keyA (dkOf (V3 m) d)) (keyB (pOf (V3 m) d)) (keyB_p' V0 m d hA) x.val (by omega),
    TwoPass.below_tile (kbOf (aA V0)) (keyA (dkOf (V3 m) d)) (keyB (pOf (V3 m) d)) (keyB_p' V0 m d hA) (x.val + 1) (by omega)]

include h hA in
/-- The kernel's point at place `q` is the reference's. -/
theorem pid_eq (q : Fin 500000) (x : Cert.KernelIdeal.S503808.Idx) (hx : (x 0).val = q.val) :
    pidOf (pOf (V3 m) d) x = (res_main_v209 V0 : S500000.Idx → BitVec 32) (ix1 q) := by
  rw [pid_apply m d q.val (by omega) x hx, v209_apply]
  exact congrArg (BitVec.ofNat 32) (TwoPass.point_eq (kbOf (aA V0)) (kaOf (aA V0)) (keyA (dkOf (V3 m) d)) (keyB (pOf (V3 m) d)) (fun i hi => ka_lt V0 h i hi)
    (fun i _ => kbOf_le _ i) (keyA_dk' V0 m d hA) (keyB_p' V0 m d hA) (t V0) (t_lt V0) (t_mono V0 h) q.val q.isLt)

end Cert.Proof.Ref

end
-- ==== Proof.FrontRows.lean ====
/-
  The rows that the first kernel stores in its first result, and the array they fill.
-/
module

public import proofs.«01_k».proof.Proof.FrontScalar

@[expose] public section

noncomputable section

namespace Cert.Proof.Front

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]

section
variable (x y z q0 q1 q2 q3 e0 e1 e2 : Vec F S1x512 .f32)

/-- The rotation matrix of a block's quaternions. -/
abbrev r00 : FVec F S1x512 .f32 := k0_pay24 q0 q1 q2 q3
abbrev r01 : FVec F S1x512 .f32 := k0_pay25 q0 q1 q2 q3
abbrev r02 : FVec F S1x512 .f32 := k0_pay27 (k0_pay26 q0 q1 q2 q3) (lit 0x40000000#32)
abbrev r10 : FVec F S1x512 .f32 := k0_pay28 (k0_pay20 q0 q1 q2 q3) (k0_pay21 q0 q1 q2 q3) (k0_pay22 q0 q1 q2 q3) (k0_pay23 q0 q1 q2 q3)
abbrev r11 : FVec F S1x512 .f32 := k0_pay29 (k0_pay20 q0 q1 q2 q3) (k0_pay22 q0 q1 q2 q3)
abbrev r12 : FVec F S1x512 .f32 := k0_pay30 (k0_pay20 q0 q1 q2 q3) (k0_pay21 q0 q1 q2 q3) (k0_pay22 q0 q1 q2 q3) (k0_pay23 q0 q1 q2 q3)
abbrev r20 : FVec F S1x512 .f32 := k0_pay31 (k0_pay20 q0 q1 q2 q3) (k0_pay21 q0 q1 q2 q3) (k0_pay22 q0 q1 q2 q3) (k0_pay23 q0 q1 q2 q3)
abbrev r21 : FVec F S1x512 .f32 := k0_pay32 (k0_pay20 q0 q1 q2 q3) (k0_pay21 q0 q1 q2 q3) (k0_pay22 q0 q1 q2 q3) (k0_pay23 q0 q1 q2 q3)
abbrev r22 : FVec F S1x512 .f32 := k0_pay33 (k0_pay20 q0 q1 q2 q3) (k0_pay21 q0 q1 q2 q3)

/-- The covariance in space: its six entries. -/
abbrev s00 : FVec F S1x512 .f32 := k0_pay39 (r00 q0 q1 q2 q3) (r01 q0 q1 q2 q3) (r02 q0 q1 q2 q3) (k0_pay34 e1) (k0_pay35 e2) (k0_pay36 e0)
abbrev s01 : FVec F S1x512 .f32 := k0_pay40 (r00 q0 q1 q2 q3) (r01 q0 q1 q2 q3) (r02 q0 q1 q2 q3) (r10 q0 q1 q2 q3) (r11 q0 q1 q2 q3) (r12 q0 q1 q2 q3) (k0_pay34 e1) (k0_pay35 e2) (k0_pay36 e0)
abbrev s02 : FVec F S1x512 .f32 := k0_pay41 (r00 q0 q1 q2 q3) (r01 q0 q1 q2 q3) (r02 q0 q1 q2 q3) (r20 q0 q1 q2 q3) (r21 q0 q1 q2 q3) (r22 q0 q1 q2 q3) (k0_pay34 e1) (k0_pay35 e2) (k0_pay36 e0)
abbrev s11 : FVec F S1x512 .f32 := k0_pay42 (r10 q0 q1 q2 q3) (r11 q0 q1 q2 q3) (r12 q0 q1 q2 q3) (k0_pay34 e1) (k0_pay35 e2) (k0_pay36 e0)
abbrev s12 : FVec F S1x512 .f32 := k0_pay43 (r10 q0 q1 q2 q3) (r11 q0 q1 q2 q3) (r12 q0 q1 q2 q3) (r20 q0 q1 q2 q3) (r21 q0 q1 q2 q3) (r22 q0 q1 q2 q3) (k0_pay34 e1) (k0_pay35 e2) (k0_pay36 e0)
abbrev s22 : FVec F S1x512 .f32 := k0_pay44 (r20 q0 q1 q2 q3) (r21 q0 q1 q2 q3) (r22 q0 q1 q2 q3) (k0_pay34 e1) (k0_pay35 e2) (k0_pay36 e0)

/-- The covariance in the image. -/
def cov00 : FVec F S1x512 .f32 := k0_pay52 (s00 q0 q1 q2 q3 e0 e1 e2) (s02 q0 q1 q2 q3 e0 e1 e2) (s22 q0 q1 q2 q3 e0 e1 e2)
  (k0_pay45 (k0_pay4 z)) (k0_pay46 (k0_pay4 z)) (k0_pay47 (k0_pay1 x) (k0_pay4 z))
def cov01 : FVec F S1x512 .f32 := k0_pay53 (k0_pay2 y) (s01 q0 q1 q2 q3 e0 e1 e2) (s02 q0 q1 q2 q3 e0 e1 e2) (s12 q0 q1 q2 q3 e0 e1 e2) (s22 q0 q1 q2 q3 e0 e1 e2)
  (k0_pay45 (k0_pay4 z)) (k0_pay46 (k0_pay4 z)) (k0_pay47 (k0_pay1 x) (k0_pay4 z))
def cov11 : FVec F S1x512 .f32 := k0_pay54 (k0_pay2 y) (s11 q0 q1 q2 q3 e0 e1 e2) (s12 q0 q1 q2 q3 e0 e1 e2) (s22 q0 q1 q2 q3 e0 e1 e2) (k0_pay45 (k0_pay4 z))
end

/-- The eight rows. -/
def rowV (X0 : S3x512.Idx → Elt F .f32) (X1 : S8x512.Idx → Elt F .f32) : Fin 8 → FVec F S1x512 .f32
  | 0 => k0_pay5 (row3 X0 0) (row3 X0 2)
  | 1 => k0_pay6 (row3 X0 1) (row3 X0 2)
  | 2 => k0_pay3 (row3 X0 2)
  | 3 => cov00 (row3 X0 0) (row3 X0 2) (row8 X1 0) (row8 X1 1) (row8 X1 2) (row8 X1 3) (row8 X1 4) (row8 X1 5) (row8 X1 6)
  | 4 => cov01 (row3 X0 0) (row3 X0 1) (row3 X0 2) (row8 X1 0) (row8 X1 1) (row8 X1 2) (row8 X1 3) (row8 X1 4) (row8 X1 5) (row8 X1 6)
  | 5 => cov01 (row3 X0 0) (row3 X0 1) (row3 X0 2) (row8 X1 0) (row8 X1 1) (row8 X1 2) (row8 X1 3) (row8 X1 4) (row8 X1 5) (row8 X1 6)
  | 6 => cov11 (row3 X0 1) (row3 X0 2) (row8 X1 0) (row8 X1 1) (row8 X1 2) (row8 X1 3) (row8 X1 4) (row8 X1 5) (row8 X1 6)
  | 7 => k0_pay55 (row8 X1 7)

section
variable (c : Dev nD) (i : grid0.Coords) (M0 : Memref sig .tc .vmem S3x512 .f32) (h0 : M0.IsWhole) (M1 : Memref sig .tc .vmem S8x512 .f32) (h1 : M1.IsWhole)
  (M2 : Memref sig .tc .vmem S8x512 .f32) (h2 : M2.IsWhole) (M3 : Memref sig .tc .vmem S1x512 .i32) (h3 : M3.IsWhole) (M4 : Memref sig .tc .vmem S1x512 .i32) (h4 : M4.IsWhole)
  (X0 : S3x512.Idx → Elt F .f32) (X1 : S8x512.Idx → Elt F .f32)

theorem run2_0 (j : Fin 512) : M2.view.read (Elt F) (frontRun (F := F) c i M0 h0 M1 h1 M2 h2 M3 h3 M4 h4 (h0.unread X0) (h1.unread X1)).1.1 (ix2 0 j)
    = rowV X0 X1 0 (ix2 0 j) := by
  unfold frontRun
  dsimp only
  unfold frontRun.sl.H2_8
  refine (View.read_writes_cons_rows_of_not_mem _ _ (o := 7) (W := 1) _ _ _ (ix2 0 j) rfl rfl (Or.inl (by show 0 < 7; omega))).trans ?_
  refine (View.read_writes_cons_rows_of_not_mem _ _ (o := 6) (W := 1) _ _ _ (ix2 0 j) rfl rfl (Or.inl (by show 0 < 6; omega))).trans ?_
  refine (View.read_writes_cons_rows_of_not_mem _ _ (o := 5) (W := 1) _ _ _ (ix2 0 j) rfl rfl (Or.inl (by show 0 < 5; omega))).trans ?_
  refine (View.read_writes_cons_rows_of_not_mem _ _ (o := 4) (W := 1) _ _ _ (ix2 0 j) rfl rfl (Or.inl (by show 0 < 4; omega))).trans ?_
  refine (View.read_writes_cons_rows_of_not_mem _ _ (o := 3) (W := 1) _ _ _ (ix2 0 j) rfl rfl (Or.inl (by show 0 < 3; omega))).trans ?_
  refine (View.read_writes_cons_rows_of_not_mem _ _ (o := 2) (W := 1) _ _ _ (ix2 0 j) rfl rfl (Or.inl (by show 0 < 2; omega))).trans ?_
  refine (View.read_writes_cons_rows_of_not_mem _ _ (o := 1) (W := 1) _ _ _ (ix2 0 j) rfl rfl (Or.inl (by show 0 < 1; omega))).trans ?_
  refine (View.read_writes_cons_rows_of_mem _ _ (o := 0) _ _ _ (ix2 0 j) (ix2 (0 : Fin 1) j : S1x512.Idx) (by rfl) (by rfl) (by rfl)).trans ?_
  rw [load3 c M0 h0 X0 2 ![2, 0] rfl, load3 c M0 h0 X0 0 ![0, 0] rfl]
  rfl

theorem run2_1 (j : Fin 512) : M2.view.read (Elt F) (frontRun (F := F) c i M0 h0 M1 h1 M2 h2 M3 h3 M4 h4 (h0.unread X0) (h1.unread X1)).1.1 (ix2 1 j)
    = rowV X0 X1 1 (ix2 0 j) := by
  unfold frontRun
  dsimp only
  unfold frontRun.sl.H2_8
  refine (View.read_writes_cons_rows_of_not_mem _ _ (o := 7) (W := 1) _ _ _ (ix2 1 j) rfl rfl (Or.inl (by show 1 < 7; omega))).trans ?_
  refine (View.read_writes_cons_rows_of_not_mem _ _ (o := 6) (W := 1) _ _ _ (ix2 1 j) rfl rfl (Or.inl (by show 1 < 6; omega))).trans ?_
  refine (View.read_writes_cons_rows_of_not_mem _ _ (o := 5) (W := 1) _ _ _ (ix2 1 j) rfl rfl (Or.inl (by show 1 < 5; omega))).trans ?_
  refine (View.read_writes_cons_rows_of_not_mem _ _ (o := 4) (W := 1) _ _ _ (ix2 1 j) rfl rfl (Or.inl (by show 1 < 4; omega))).trans ?_
  refine (View.read_writes_cons_rows_of_not_mem _ _ (o := 3) (W := 1) _ _ _ (ix2 1 j) rfl rfl (Or.inl (by show 1 < 3; omega))).trans ?_
  refine (View.read_writes_cons_rows_of_not_mem _ _ (o := 2) (W := 1) _ _ _ (ix2 1 j) rfl rfl (Or.inl (by show 1 < 2; omega))).trans ?_
  refine (View.read_writes_cons_rows_of_mem _ _ (o := 1) _ _ _ (ix2 1 j) (ix2 (0 : Fin 1) j : S1x512.Idx) (by rfl) (by rfl) (by rfl)).trans ?_
  rw [load3 c M0 h0 X0 2 ![2, 0] rfl, load3 c M0 h0 X0 1 ![1, 0] rfl]
  rfl

theorem run2_2 (j : Fin 512) : M2.view.read (Elt F) (frontRun (F := F) c i M0 h0 M1 h1 M2 h2 M3 h3 M4 h4 (h0.unread X0) (h1.unread X1)).1.1 (ix2 2 j)
    = rowV X0 X1 2 (ix2 0 j) := by
  unfold frontRun
  dsimp only
  unfold frontRun.sl.H2_8
  refine (View.read_writes_cons_rows_of_not_mem _ _ (o := 7) (W := 1) _ _ _ (ix2 2 j) rfl rfl (Or.inl (by show 2 < 7; omega))).trans ?_
  refine (View.read_writes_cons_rows_of_not_mem _ _ (o := 6) (W := 1) _ _ _ (ix2 2 j) rfl rfl (Or.inl (by show 2 < 6; omega))).trans ?_
  refine (View.read_writes_cons_rows_of_not_mem _ _ (o := 5) (W := 1) _ _ _ (ix2 2 j) rfl rfl (Or.inl (by show 2 < 5; omega))).trans ?_
  refine (View.read_writes_cons_rows_of_not_mem _ _ (o := 4) (W := 1) _ _ _ (ix2 2 j) rfl rfl (Or.inl (by show 2 < 4; omega))).trans ?_
  refine (View.read_writes_cons_rows_of_not_mem _ _ (o := 3) (W := 1) _ _ _ (ix2 2 j) rfl rfl (Or.inl (by show 2 < 3; omega))).trans ?_
  refine (View.read_writes_cons_rows_of_mem _ _ (o := 2) _ _ _ (ix2 2 j) (ix2 (0 : Fin 1) j : S1x512.Idx) (by rfl) (by rfl) (by rfl)).trans ?_
  rw [load3 c M0 h0 X0 2 ![2, 0] rfl]
  rfl

theorem run2_3 (j : Fin 512) : M2.view.read (Elt F) (frontRun (F := F) c i M0 h0 M1 h1 M2 h2 M3 h3 M4 h4 (h0.unread X0) (h1.unread X1)).1.1 (ix2 3 j)
    = rowV X0 X1 3 (ix2 0 j) := by
  unfold frontRun
  dsimp only
  unfold frontRun.sl.H2_8
  refine (View.read_writes_cons_rows_of_not_mem _ _ (o := 7) (W := 1) _ _ _ (ix2 3 j) rfl rfl (Or.inl (by show 3 < 7; omega))).trans ?_
  refine (View.read_writes_cons_rows_of_not_mem _ _ (o := 6) (W := 1) _ _ _ (ix2 3 j) rfl rfl (Or.inl (by show 3 < 6; omega))).trans ?_
  refine (View.read_writes_cons_rows_of_not_mem _ _ (o := 5) (W := 1) _ _ _ (ix2 3 j) rfl rfl (Or.inl (by show 3 < 5; omega))).trans ?_
  refine (View.read_writes_cons_rows_of_not_mem _ _ (o := 4) (W := 1) _ _ _ (ix2 3 j) rfl rfl (Or.inl (by show 3 < 4; omega))).trans ?_
  refine (View.read_writes_cons_rows_of_mem _ _ (o := 3) _ _ _ (ix2 3 j) (ix2 (0 : Fin 1) j : S1x512.Idx) (by rfl) (by rfl) (by rfl)).trans ?_
  rw [load8 c M1 h1 X1 0 ![0, 0] rfl, load8 c M1 h1 X1 1 ![1, 0] rfl, load8 c M1 h1 X1 2 ![2, 0] rfl, load8 c M1 h1 X1 3 ![3, 0] rfl, load8 c M1 h1 X1 4 ![4, 0] rfl, load8 c M1 h1 X1 5 ![5, 0] rfl, load8 c M1 h1 X1 6 ![6, 0] rfl, load3 c M0 h0 X0 2 ![2, 0] rfl, load3 c M0 h0 X0 0 ![0, 0] rfl]
  rfl

theorem run2_4 (j : Fin 512) : M2.view.read (Elt F) (frontRun (F := F) c i M0 h0 M1 h1 M2 h2 M3 h3 M4 h4 (h0.unread X0) (h1.unread X1)).1.1 (ix2 4 j)
    = rowV X0 X1 4 (ix2 0 j) := by
  unfold frontRun
  dsimp only
  unfold frontRun.sl.H2_8
  refine (View.read_writes_cons_rows_of_not_mem _ _ (o := 7) (W := 1) _ _ _ (ix2 4 j) rfl rfl (Or.inl (by show 4 < 7; omega))).trans ?_
  refine (View.read_writes_cons_rows_of_not_mem _ _ (o := 6) (W := 1) _ _ _ (ix2 4 j) rfl rfl (Or.inl (by show 4 < 6; omega))).trans ?_
  refine (View.read_writes_cons_rows_of_not_mem _ _ (o := 5) (W := 1) _ _ _ (ix2 4 j) rfl rfl (Or.inl (by show 4 < 5; omega))).trans ?_
  refine (View.read_writes_cons_rows_of_mem _ _ (o := 4) _ _ _ (ix2 4 j) (ix2 (0 : Fin 1) j : S1x512.Idx) (by rfl) (by rfl) (by rfl)).trans ?_
  rw [load8 c M1 h1 X1 0 ![0, 0] rfl, load8 c M1 h1 X1 1 ![1, 0] rfl, load8 c M1 h1 X1 2 ![2, 0] rfl, load8 c M1 h1 X1 3 ![3, 0] rfl, load8 c M1 h1 X1 4 ![4, 0] rfl, load8 c M1 h1 X1 5 ![5, 0] rfl, load8 c M1 h1 X1 6 ![6, 0] rfl, load3 c M0 h0 X0 2 ![2, 0] rfl, load3 c M0 h0 X0 1 ![1, 0] rfl, load3 c M0 h0 X0 0 ![0, 0] rfl]
  rfl

theorem run2_5 (j : Fin 512) : M2.view.read (Elt F) (frontRun (F := F) c i M0 h0 M1 h1 M2 h2 M3 h3 M4 h4 (h0.unread X0) (h1.unread X1)).1.1 (ix2 5 j)
    = rowV X0 X1 5 (ix2 0 j) := by
  unfold frontRun
  dsimp only
  unfold frontRun.sl.H2_8
  refine (View.read_writes_cons_rows_of_not_mem _ _ (o := 7) (W := 1) _ _ _ (ix2 5 j) rfl rfl (Or.inl (by show 5 < 7; omega))).trans ?_
  refine (View.read_writes_cons_rows_of_not_mem _ _ (o := 6) (W := 1) _ _ _ (ix2 5 j) rfl rfl (Or.inl (by show 5 < 6; omega))).trans ?_
  refine (View.read_writes_cons_rows_of_mem _ _ (o := 5) _ _ _ (ix2 5 j) (ix2 (0 : Fin 1) j : S1x512.Idx) (by rfl) (by rfl) (by rfl)).trans ?_
  rw [load8 c M1 h1 X1 0 ![0, 0] rfl, load8 c M1 h1 X1 1 ![1, 0] rfl, load8 c M1 h1 X1 2 ![2, 0] rfl, load8 c M1 h1 X1 3 ![3, 0] rfl, load8 c M1 h1 X1 4 ![4, 0] rfl, load8 c M1 h1 X1 5 ![5, 0] rfl, load8 c M1 h1 X1 6 ![6, 0] rfl, load3 c M0 h0 X0 2 ![2, 0] rfl, load3 c M0 h0 X0 1 ![1, 0] rfl, load3 c M0 h0 X0 0 ![0, 0] rfl]
  rfl

theorem run2_6 (j : Fin 512) : M2.view.read (Elt F) (frontRun (F := F) c i M0 h0 M1 h1 M2 h2 M3 h3 M4 h4 (h0.unread X0) (h1.unread X1)).1.1 (ix2 6 j)
    = rowV X0 X1 6 (ix2 0 j) := by
  unfold frontRun
  dsimp only
  unfold frontRun.sl.H2_8
  refine (View.read_writes_cons_rows_of_not_mem _ _ (o := 7) (W := 1) _ _ _ (ix2 6 j) rfl rfl (Or.inl (by show 6 < 7; omega))).trans ?_
  refine (View.read_writes_cons_rows_of_mem _ _ (o := 6) _ _ _ (ix2 6 j) (ix2 (0 : Fin 1) j : S1x512.Idx) (by rfl) (by rfl) (by rfl)).trans ?_
  rw [load8 c M1 h1 X1 0 ![0, 0] rfl, load8 c M1 h1 X1 1 ![1, 0] rfl, load8 c M1 h1 X1 2 ![2, 0] rfl, load8 c M1 h1 X1 3 ![3, 0] rfl, load8 c M1 h1 X1 4 ![4, 0] rfl, load8 c M1 h1 X1 5 ![5, 0] rfl, load8 c M1 h1 X1 6 ![6, 0] rfl, load3 c M0 h0 X0 2 ![2, 0] rfl, load3 c M0 h0 X0 1 ![1, 0] rfl]
  rfl

theorem run2_7 (j : Fin 512) : M2.view.read (Elt F) (frontRun (F := F) c i M0 h0 M1 h1 M2 h2 M3 h3 M4 h4 (h0.unread X0) (h1.unread X1)).1.1 (ix2 7 j)
    = rowV X0 X1 7 (ix2 0 j) := by
  unfold frontRun
  dsimp only
  unfold frontRun.sl.H2_8
  refine (View.read_writes_cons_rows_of_mem _ _ (o := 7) _ _ _ (ix2 7 j) (ix2 (0 : Fin 1) j : S1x512.Idx) (by rfl) (by rfl) (by rfl)).trans ?_
  rw [load8 c M1 h1 X1 7 ![7, 0] rfl]
  rfl

/-- What the body stores in its first result. -/
theorem run2 (r : Fin 8) (j : Fin 512) : M2.view.read (Elt F) (frontRun (F := F) c i M0 h0 M1 h1 M2 h2 M3 h3 M4 h4 (h0.unread X0) (h1.unread X1)).1.1 (ix2 r j)
    = rowV X0 X1 r (ix2 0 j) := by
  match r with
  | ⟨0, _⟩ => exact run2_0 c i M0 h0 M1 h1 M2 h2 M3 h3 M4 h4 X0 X1 j
  | ⟨1, _⟩ => exact run2_1 c i M0 h0 M1 h1 M2 h2 M3 h3 M4 h4 X0 X1 j
  | ⟨2, _⟩ => exact run2_2 c i M0 h0 M1 h1 M2 h2 M3 h3 M4 h4 X0 X1 j
  | ⟨3, _⟩ => exact run2_3 c i M0 h0 M1 h1 M2 h2 M3 h3 M4 h4 X0 X1 j
  | ⟨4, _⟩ => exact run2_4 c i M0 h0 M1 h1 M2 h2 M3 h3 M4 h4 X0 X1 j
  | ⟨5, _⟩ => exact run2_5 c i M0 h0 M1 h1 M2 h2 M3 h3 M4 h4 X0 X1 j
  | ⟨6, _⟩ => exact run2_6 c i M0 h0 M1 h1 M2 h2 M3 h3 M4 h4 X0 X1 j
  | ⟨7, _⟩ => exact run2_7 c i M0 h0 M1 h1 M2 h2 M3 h3 M4 h4 X0 X1 j
end

section
variable (V : (c : Dev nD) → (b : Ref sig .tc) → Buf (Elt F) ((c : Thread nD τ).loc b))

theorem out2_apply (c : Dev nD) (t : Fin cfg0.N) (r : Fin 8) (j : Fin 512) : out2 V c t (ix2 r j) = rowV (stg0 V c t) (stg1 V c t) r (ix2 0 j) :=
  run2 c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4)) _ _ r j

/-- The block and the place in it of a column. -/
def blkOf (n : Fin 503808) : Fin cfg0.N := ⟨n.val / 512, by have := n.isLt; have : cfg0.N = 984 := rfl; omega⟩
def placeOf (n : Fin 503808) : Fin 512 := ⟨n.val % 512, by omega⟩

theorem col_blkOf (n : Fin 503808) : col (blkOf n) (placeOf n) = n := Fin.ext (by
  show 512 * (n.val / 512) + n.val % 512 = n.val
  omega)
theorem blkOf_col (t : Fin cfg0.N) (j : Fin 512) : blkOf (col t j) = t := Fin.ext (by
  show (512 * t.val + j.val) / 512 = t.val
  omega)
theorem placeOf_col (t : Fin cfg0.N) (j : Fin 512) : placeOf (col t j) = j := Fin.ext (by
  show (512 * t.val + j.val) % 512 = j.val
  omega)

/-- The first result after the first kernel: each column as its block's rows have it. -/
def arr2 (c : Dev nD) : S8x503808.Idx → Elt F .f32 := fun y => rowV (stg0 V c (blkOf (y 1))) (stg1 V c (blkOf (y 1))) (y 0) (ix2 0 (placeOf (y 1)))

theorem final2 (c : Dev nD) : (dat V c).arrAt 2 cfg0.N = arr2 V c := by
  refine (dat V c).arrAt_eq_of_covers 2 _ covers2 fun t hf y => ?_
  blk_simp
  obtain ⟨r, j, rfl⟩ : ∃ (r : Fin 8) (j : Fin 512), y = ix2 r j := ⟨y 0, y 1, by funext a; match a with | ⟨0, _⟩ => rfl | ⟨1, _⟩ => rfl⟩
  refine (out2_apply V c t r j).trans ?_
  have e : (win0_2.blk t).view.emb (ix2 r j) = ix2 r (col t j) := by
    unfold col
    blk_ext! [idx t]
  rw [e]
  show _ = rowV (stg0 V c (blkOf (col t j))) (stg1 V c (blkOf (col t j))) r (ix2 0 (placeOf (col t j)))
  rw [blkOf_col, placeOf_col]

end

end Cert.Proof.Front

end
-- ==== Proof.FrontFloat.lean ====
/-
  The first kernel's float rows over the extended reals: each entry as a formula of the point's coordinates and features.
-/
module

public import proofs.«01_k».proof.Proof.FrontRows
public import proofs.«01_k».proof.Proof.Consts

@[expose] public section

noncomputable section

namespace Cert.Proof.Front

open Cert.KernelIdeal Cert.KernelIdeal.Gen
open Idealize.ShloMosaic

/-! The kernel's constants. -/
abbrev two : EReal := Ideal.ofBits .f32 0x40000000#32
abbrev kilo : EReal := Ideal.ofBits .f32 0x447A0000#32
abbrev nkilo : EReal := Ideal.ofBits .f32 0xC47A0000#32

theorem one_eq : Ideal.ofBits .f32 0x3F800000#32 = (1 : EReal) := by rw [Consts.c1, EReal.coe_one]
theorem zero_eq : Ideal.ofBits .f32 0x00000000#32 = (0 : EReal) := by rw [Consts.c0, EReal.coe_zero]
theorem neg_kilo : -kilo = nkilo := by
  show -(Ideal.ofBits .f32 0x447A0000#32) = Ideal.ofBits .f32 0xC47A0000#32
  rw [Consts.c1000, Consts.cn1000, ← EReal.coe_neg]

/-- A quaternion's length, kept off zero. -/
def nrm (a b c d : EReal) : EReal := Ideal.sqrt (a * a + b * b + c * c + d * d) + Ideal.ofBits .f32 0x322BCC77#32

/-- The rotation matrix of a quaternion of length one. -/
def R00 (_x y z _w : EReal) : EReal := 1 - two * (y * y + z * z)
def R01 (x y z w : EReal) : EReal := two * (x * y - w * z)
def R02 (x y z w : EReal) : EReal := two * (x * z + w * y)
def R10 (x y z w : EReal) : EReal := two * (x * y + w * z)
def R11 (x _y z _w : EReal) : EReal := 1 - two * (x * x + z * z)
def R12 (x y z w : EReal) : EReal := two * (y * z - w * x)
def R20 (x y z w : EReal) : EReal := two * (x * z - w * y)
def R21 (x y z w : EReal) : EReal := two * (y * z + w * x)
def R22 (x y _z _w : EReal) : EReal := 1 - two * (x * x + y * y)

/-- Two rows of the rotation, weighted by the squared scales. -/
def quad (a0 a1 a2 b0 b1 b2 t0 t1 t2 : EReal) : EReal := a0 * b0 * t0 + a1 * b1 * t1 + a2 * b2 * t2

/-- The projection's derivatives. -/
def jd (z : EReal) : EReal := kilo * Ideal.div 1 z
def jo (x z : EReal) : EReal := nkilo * x * Ideal.div 1 z * Ideal.div 1 z

theorem mulf_at (a b : FVec Ideal S1x512 .f32) (x : S1x512.Idx) : mulf a b x = ((a x : EReal) * (b x : EReal) : EReal) := rfl
theorem addf_at (a b : FVec Ideal S1x512 .f32) (x : S1x512.Idx) : addf a b x = ((a x : EReal) + (b x : EReal) : EReal) := rfl
theorem subf_at (a b : FVec Ideal S1x512 .f32) (x : S1x512.Idx) : subf a b x = ((a x : EReal) - (b x : EReal) : EReal) := rfl
theorem divf_at (a b : FVec Ideal S1x512 .f32) (x : S1x512.Idx) : divf a b x = Ideal.div (a x) (b x) := rfl
theorem sqrt_at (a : FVec Ideal S1x512 .f32) (x : S1x512.Idx) : sqrt a x = Ideal.sqrt (a x) := rfl
theorem exp_at (a : FVec Ideal S1x512 .f32) (x : S1x512.Idx) : exp a x = Ideal.exp (a x) := rfl
theorem bc_at (w : BitVec 32) (x : S1x512.Idx) : broadcast S1x512 (Scalar.ofBits (F := Ideal) .f32 w) x = Ideal.ofBits .f32 w := rfl
theorem bc_lit (w : BitVec 32) (x : S1x512.Idx) : broadcast S1x512 (lit (F := Ideal) w) x = Ideal.ofBits .f32 w := rfl

section
variable (q0 q1 q2 q3 : Vec Ideal S1x512 .f32) (j : Fin 512) {a b c d : EReal} (h0 : (q0 (ix2 0 j) : EReal) = a) (h1 : (q1 (ix2 0 j) : EReal) = b)
  (h2 : (q2 (ix2 0 j) : EReal) = c) (h3 : (q3 (ix2 0 j) : EReal) = d)
include h0 h1 h2 h3

theorem pay19_at : (k0_pay19 q0 q1 q2 q3 (ix2 0 j) : EReal) = nrm a b c d := by
  unfold k0_pay19 k0_pay15 k0_pay16 k0_pay17 k0_pay18
  dsimp only
  rw [shapeCast_self, shapeCast_self, shapeCast_self, shapeCast_self]
  simp only [mulf_at, addf_at, sqrt_at, bc_at, h0, h1, h2, h3]
  rfl
theorem pay20_at : (k0_pay20 q0 q1 q2 q3 (ix2 0 j) : EReal) = Ideal.div a (nrm a b c d) := by
  unfold k0_pay20 k0_pay15
  dsimp only
  rw [shapeCast_self, divf_at, pay19_at q0 q1 q2 q3 j h0 h1 h2 h3, h0]
theorem pay21_at : (k0_pay21 q0 q1 q2 q3 (ix2 0 j) : EReal) = Ideal.div b (nrm a b c d) := by
  unfold k0_pay21 k0_pay16
  dsimp only
  rw [shapeCast_self, divf_at, pay19_at q0 q1 q2 q3 j h0 h1 h2 h3, h1]
theorem pay22_at : (k0_pay22 q0 q1 q2 q3 (ix2 0 j) : EReal) = Ideal.div c (nrm a b c d) := by
  unfold k0_pay22 k0_pay17
  dsimp only
  rw [shapeCast_self, divf_at, pay19_at q0 q1 q2 q3 j h0 h1 h2 h3, h2]
theorem pay23_at : (k0_pay23 q0 q1 q2 q3 (ix2 0 j) : EReal) = Ideal.div d (nrm a b c d) := by
  unfold k0_pay23 k0_pay18
  dsimp only
  rw [shapeCast_self, divf_at, pay19_at q0 q1 q2 q3 j h0 h1 h2 h3, h3]
theorem r00_at : (r00 q0 q1 q2 q3 (ix2 0 j) : EReal) = R00 (Ideal.div a (nrm a b c d)) (Ideal.div b (nrm a b c d)) (Ideal.div c (nrm a b c d)) (Ideal.div d (nrm a b c d)) := by
  simp only [k0_pay24, mulf_at, addf_at, subf_at, bc_at, bc_lit, pay20_at q0 q1 q2 q3 j h0 h1 h2 h3, pay21_at q0 q1 q2 q3 j h0 h1 h2 h3, pay22_at q0 q1 q2 q3 j h0 h1 h2 h3, pay23_at q0 q1 q2 q3 j h0 h1 h2 h3, one_eq]
  rfl
theorem r01_at : (r01 q0 q1 q2 q3 (ix2 0 j) : EReal) = R01 (Ideal.div a (nrm a b c d)) (Ideal.div b (nrm a b c d)) (Ideal.div c (nrm a b c d)) (Ideal.div d (nrm a b c d)) := by
  simp only [k0_pay25, mulf_at, addf_at, subf_at, bc_at, bc_lit, pay20_at q0 q1 q2 q3 j h0 h1 h2 h3, pay21_at q0 q1 q2 q3 j h0 h1 h2 h3, pay22_at q0 q1 q2 q3 j h0 h1 h2 h3, pay23_at q0 q1 q2 q3 j h0 h1 h2 h3, one_eq]
  rfl
theorem r02_at : (r02 q0 q1 q2 q3 (ix2 0 j) : EReal) = R02 (Ideal.div a (nrm a b c d)) (Ideal.div b (nrm a b c d)) (Ideal.div c (nrm a b c d)) (Ideal.div d (nrm a b c d)) := by
  simp only [k0_pay26, k0_pay27, mulf_at, addf_at, subf_at, bc_at, bc_lit, pay20_at q0 q1 q2 q3 j h0 h1 h2 h3, pay21_at q0 q1 q2 q3 j h0 h1 h2 h3, pay22_at q0 q1 q2 q3 j h0 h1 h2 h3, pay23_at q0 q1 q2 q3 j h0 h1 h2 h3, one_eq]
  rfl
theorem r10_at : (r10 q0 q1 q2 q3 (ix2 0 j) : EReal) = R10 (Ideal.div a (nrm a b c d)) (Ideal.div b (nrm a b c d)) (Ideal.div c (nrm a b c d)) (Ideal.div d (nrm a b c d)) := by
  simp only [k0_pay28, mulf_at, addf_at, subf_at, bc_at, bc_lit, pay20_at q0 q1 q2 q3 j h0 h1 h2 h3, pay21_at q0 q1 q2 q3 j h0 h1 h2 h3, pay22_at q0 q1 q2 q3 j h0 h1 h2 h3, pay23_at q0 q1 q2 q3 j h0 h1 h2 h3, one_eq]
  rfl
theorem r11_at : (r11 q0 q1 q2 q3 (ix2 0 j) : EReal) = R11 (Ideal.div a (nrm a b c d)) (Ideal.div b (nrm a b c d)) (Ideal.div c (nrm a b c d)) (Ideal.div d (nrm a b c d)) := by
  simp only [k0_pay29, mulf_at, addf_at, subf_at, bc_at, bc_lit, pay20_at q0 q1 q2 q3 j h0 h1 h2 h3, pay21_at q0 q1 q2 q3 j h0 h1 h2 h3, pay22_at q0 q1 q2 q3 j h0 h1 h2 h3, pay23_at q0 q1 q2 q3 j h0 h1 h2 h3, one_eq]
  rfl
theorem r12_at : (r12 q0 q1 q2 q3 (ix2 0 j) : EReal) = R12 (Ideal.div a (nrm a b c d)) (Ideal.div b (nrm a b c d)) (Ideal.div c (nrm a b c d)) (Ideal.div d (nrm a b c d)) := by
  simp only [k0_pay30, mulf_at, addf_at, subf_at, bc_at, bc_lit, pay20_at q0 q1 q2 q3 j h0 h1 h2 h3, pay21_at q0 q1 q2 q3 j h0 h1 h2 h3, pay22_at q0 q1 q2 q3 j h0 h1 h2 h3, pay23_at q0 q1 q2 q3 j h0 h1 h2 h3, one_eq]
  rfl
theorem r20_at : (r20 q0 q1 q2 q3 (ix2 0 j) : EReal) = R20 (Ideal.div a (nrm a b c d)) (Ideal.div b (nrm a b c d)) (Ideal.div c (nrm a b c d)) (Ideal.div d (nrm a b c d)) := by
  simp only [k0_pay31, mulf_at, addf_at, subf_at, bc_at, bc_lit, pay20_at q0 q1 q2 q3 j h0 h1 h2 h3, pay21_at q0 q1 q2 q3 j h0 h1 h2 h3, pay22_at q0 q1 q2 q3 j h0 h1 h2 h3, pay23_at q0 q1 q2 q3 j h0 h1 h2 h3, one_eq]
  rfl
theorem r21_at : (r21 q0 q1 q2 q3 (ix2 0 j) : EReal) = R21 (Ideal.div a (nrm a b c d)) (Ideal.div b (nrm a b c d)) (Ideal.div c (nrm a b c d)) (Ideal.div d (nrm a b c d)) := by
  simp only [k0_pay32, mulf_at, addf_at, subf_at, bc_at, bc_lit, pay20_at q0 q1 q2 q3 j h0 h1 h2 h3, pay21_at q0 q1 q2 q3 j h0 h1 h2 h3, pay22_at q0 q1 q2 q3 j h0 h1 h2 h3, pay23_at q0 q1 q2 q3 j h0 h1 h2 h3, one_eq]
  rfl
theorem r22_at : (r22 q0 q1 q2 q3 (ix2 0 j) : EReal) = R22 (Ideal.div a (nrm a b c d)) (Ideal.div b (nrm a b c d)) (Ideal.div c (nrm a b c d)) (Ideal.div d (nrm a b c d)) := by
  simp only [k0_pay33, mulf_at, addf_at, subf_at, bc_at, bc_lit, pay20_at q0 q1 q2 q3 j h0 h1 h2 h3, pay21_at q0 q1 q2 q3 j h0 h1 h2 h3, pay22_at q0 q1 q2 q3 j h0 h1 h2 h3, pay23_at q0 q1 q2 q3 j h0 h1 h2 h3, one_eq]
  rfl
end

theorem pay39_at (a0 a1 a2 e f g : FVec Ideal S1x512 .f32) (j : Fin 512) {x0 x1 x2 s1 s2 t0 : EReal} (ha0 : (a0 (ix2 0 j) : EReal) = x0) (ha1 : (a1 (ix2 0 j) : EReal) = x1) (ha2 : (a2 (ix2 0 j) : EReal) = x2) (he : (e (ix2 0 j) : EReal) = s1) (hf : (f (ix2 0 j) : EReal) = s2) (hg : (g (ix2 0 j) : EReal) = t0) :
    (k0_pay39 a0 a1 a2 e f g (ix2 0 j) : EReal) = quad x0 x1 x2 x0 x1 x2 t0 (s1 * s1) (s2 * s2) := by
  simp only [k0_pay39, k0_pay37, k0_pay38, mulf_at, addf_at, subf_at, bc_at, bc_lit, ha0, ha1, ha2, he, hf, hg, one_eq]
  rfl
theorem pay42_at (a0 a1 a2 e f g : FVec Ideal S1x512 .f32) (j : Fin 512) {x0 x1 x2 s1 s2 t0 : EReal} (ha0 : (a0 (ix2 0 j) : EReal) = x0) (ha1 : (a1 (ix2 0 j) : EReal) = x1) (ha2 : (a2 (ix2 0 j) : EReal) = x2) (he : (e (ix2 0 j) : EReal) = s1) (hf : (f (ix2 0 j) : EReal) = s2) (hg : (g (ix2 0 j) : EReal) = t0) :
    (k0_pay42 a0 a1 a2 e f g (ix2 0 j) : EReal) = quad x0 x1 x2 x0 x1 x2 t0 (s1 * s1) (s2 * s2) := by
  simp only [k0_pay42, k0_pay37, k0_pay38, mulf_at, addf_at, subf_at, bc_at, bc_lit, ha0, ha1, ha2, he, hf, hg, one_eq]
  rfl
theorem pay44_at (a0 a1 a2 e f g : FVec Ideal S1x512 .f32) (j : Fin 512) {x0 x1 x2 s1 s2 t0 : EReal} (ha0 : (a0 (ix2 0 j) : EReal) = x0) (ha1 : (a1 (ix2 0 j) : EReal) = x1) (ha2 : (a2 (ix2 0 j) : EReal) = x2) (he : (e (ix2 0 j) : EReal) = s1) (hf : (f (ix2 0 j) : EReal) = s2) (hg : (g (ix2 0 j) : EReal) = t0) :
    (k0_pay44 a0 a1 a2 e f g (ix2 0 j) : EReal) = quad x0 x1 x2 x0 x1 x2 t0 (s1 * s1) (s2 * s2) := by
  simp only [k0_pay44, k0_pay37, k0_pay38, mulf_at, addf_at, subf_at, bc_at, bc_lit, ha0, ha1, ha2, he, hf, hg, one_eq]
  rfl
theorem pay40_at (a0 a1 a2 b0 b1 b2 e f g : FVec Ideal S1x512 .f32) (j : Fin 512) {x0 x1 x2 y0 y1 y2 s1 s2 t0 : EReal} (ha0 : (a0 (ix2 0 j) : EReal) = x0) (ha1 : (a1 (ix2 0 j) : EReal) = x1) (ha2 : (a2 (ix2 0 j) : EReal) = x2) (hb0 : (b0 (ix2 0 j) : EReal) = y0) (hb1 : (b1 (ix2 0 j) : EReal) = y1) (hb2 : (b2 (ix2 0 j) : EReal) = y2) (he : (e (ix2 0 j) : EReal) = s1) (hf : (f (ix2 0 j) : EReal) = s2) (hg : (g (ix2 0 j) : EReal) = t0) :
    (k0_pay40 a0 a1 a2 b0 b1 b2 e f g (ix2 0 j) : EReal) = quad x0 x1 x2 y0 y1 y2 t0 (s1 * s1) (s2 * s2) := by
  simp only [k0_pay40, k0_pay37, k0_pay38, mulf_at, addf_at, subf_at, bc_at, bc_lit, ha0, ha1, ha2, hb0, hb1, hb2, he, hf, hg, one_eq]
  rfl
theorem pay41_at (a0 a1 a2 b0 b1 b2 e f g : FVec Ideal S1x512 .f32) (j : Fin 512) {x0 x1 x2 y0 y1 y2 s1 s2 t0 : EReal} (ha0 : (a0 (ix2 0 j) : EReal) = x0) (ha1 : (a1 (ix2 0 j) : EReal) = x1) (ha2 : (a2 (ix2 0 j) : EReal) = x2) (hb0 : (b0 (ix2 0 j) : EReal) = y0) (hb1 : (b1 (ix2 0 j) : EReal) = y1) (hb2 : (b2 (ix2 0 j) : EReal) = y2) (he : (e (ix2 0 j) : EReal) = s1) (hf : (f (ix2 0 j) : EReal) = s2) (hg : (g (ix2 0 j) : EReal) = t0) :
    (k0_pay41 a0 a1 a2 b0 b1 b2 e f g (ix2 0 j) : EReal) = quad x0 x1 x2 y0 y1 y2 t0 (s1 * s1) (s2 * s2) := by
  simp only [k0_pay41, k0_pay37, k0_pay38, mulf_at, addf_at, subf_at, bc_at, bc_lit, ha0, ha1, ha2, hb0, hb1, hb2, he, hf, hg, one_eq]
  rfl
theorem pay43_at (a0 a1 a2 b0 b1 b2 e f g : FVec Ideal S1x512 .f32) (j : Fin 512) {x0 x1 x2 y0 y1 y2 s1 s2 t0 : EReal} (ha0 : (a0 (ix2 0 j) : EReal) = x0) (ha1 : (a1 (ix2 0 j) : EReal) = x1) (ha2 : (a2 (ix2 0 j) : EReal) = x2) (hb0 : (b0 (ix2 0 j) : EReal) = y0) (hb1 : (b1 (ix2 0 j) : EReal) = y1) (hb2 : (b2 (ix2 0 j) : EReal) = y2) (he : (e (ix2 0 j) : EReal) = s1) (hf : (f (ix2 0 j) : EReal) = s2) (hg : (g (ix2 0 j) : EReal) = t0) :
    (k0_pay43 a0 a1 a2 b0 b1 b2 e f g (ix2 0 j) : EReal) = quad x0 x1 x2 y0 y1 y2 t0 (s1 * s1) (s2 * s2) := by
  simp only [k0_pay43, k0_pay37, k0_pay38, mulf_at, addf_at, subf_at, bc_at, bc_lit, ha0, ha1, ha2, hb0, hb1, hb2, he, hf, hg, one_eq]
  rfl
theorem pay34_at (v : Vec Ideal S1x512 .f32) (j : Fin 512) {a : EReal} (h : (v (ix2 0 j) : EReal) = a) : (k0_pay34 v (ix2 0 j) : EReal) = Ideal.exp a := by
  unfold k0_pay34
  rw [shapeCast_self, exp_at, h]
theorem pay35_at (v : Vec Ideal S1x512 .f32) (j : Fin 512) {a : EReal} (h : (v (ix2 0 j) : EReal) = a) : (k0_pay35 v (ix2 0 j) : EReal) = Ideal.exp a := by
  unfold k0_pay35
  rw [shapeCast_self, exp_at, h]
theorem pay36_at (v : Vec Ideal S1x512 .f32) (j : Fin 512) {a : EReal} (h : (v (ix2 0 j) : EReal) = a) : (k0_pay36 v (ix2 0 j) : EReal) = Ideal.exp a * Ideal.exp a := by
  unfold k0_pay36
  rw [shapeCast_self, mulf_at, exp_at, h]
theorem pay45_at (v : FVec Ideal S1x512 .f32) (j : Fin 512) {z : EReal} (h : (v (ix2 0 j) : EReal) = z) : (k0_pay45 v (ix2 0 j) : EReal) = Ideal.div 1 z := by
  unfold k0_pay45
  rw [divf_at, bc_at, h, one_eq]
theorem pay46_at (v : FVec Ideal S1x512 .f32) (j : Fin 512) {z : EReal} (h : (v (ix2 0 j) : EReal) = z) : (k0_pay46 v (ix2 0 j) : EReal) = jd z := by
  unfold k0_pay46
  rw [mulf_at, bc_at, pay45_at v j h]
  rfl
theorem pay47_at (u v : FVec Ideal S1x512 .f32) (j : Fin 512) {x z : EReal} (hu : (u (ix2 0 j) : EReal) = x) (h : (v (ix2 0 j) : EReal) = z) :
    (k0_pay47 u v (ix2 0 j) : EReal) = nkilo * x * Ideal.div 1 z := by
  unfold k0_pay47
  rw [mulf_at, mulf_at, bc_at, pay45_at v j h, hu]
theorem pay52_at (v00 v02 v22 i p q : FVec Ideal S1x512 .f32) (j : Fin 512) {x00 x02 x22 w m o : EReal} (hv00 : (v00 (ix2 0 j) : EReal) = x00) (hv02 : (v02 (ix2 0 j) : EReal) = x02) (hv22 : (v22 (ix2 0 j) : EReal) = x22) (hi : (i (ix2 0 j) : EReal) = w) (hp : (p (ix2 0 j) : EReal) = m) (hq : (q (ix2 0 j) : EReal) = o) :
    (k0_pay52 v00 v02 v22 i p q (ix2 0 j) : EReal) = (m * x00 + o * w * x02) * m + (m * x02 + o * w * x22) * (o * w) := by
  simp only [k0_pay48, k0_pay49, k0_pay50, k0_pay51, k0_pay52, mulf_at, addf_at, subf_at, bc_at, bc_lit, hv00, hv02, hv22, hi, hp, hq, one_eq]
theorem pay53_at (y v01 v02 v12 v22 i p q : FVec Ideal S1x512 .f32) (j : Fin 512) {k x01 x02 x12 x22 w m o : EReal} (hy : (y (ix2 0 j) : EReal) = k) (hv01 : (v01 (ix2 0 j) : EReal) = x01) (hv02 : (v02 (ix2 0 j) : EReal) = x02) (hv12 : (v12 (ix2 0 j) : EReal) = x12) (hv22 : (v22 (ix2 0 j) : EReal) = x22) (hi : (i (ix2 0 j) : EReal) = w) (hp : (p (ix2 0 j) : EReal) = m) (hq : (q (ix2 0 j) : EReal) = o) :
    (k0_pay53 y v01 v02 v12 v22 i p q (ix2 0 j) : EReal) = (m * x01 + o * w * x12) * (kilo * w) + (m * x02 + o * w * x22) * (nkilo * k * w * w) := by
  simp only [k0_pay48, k0_pay49, k0_pay50, k0_pay51, k0_pay53, mulf_at, addf_at, subf_at, bc_at, bc_lit, hy, hv01, hv02, hv12, hv22, hi, hp, hq, one_eq]
theorem pay54_at (y v11 v12 v22 i : FVec Ideal S1x512 .f32) (j : Fin 512) {k x11 x12 x22 w : EReal} (hy : (y (ix2 0 j) : EReal) = k) (hv11 : (v11 (ix2 0 j) : EReal) = x11) (hv12 : (v12 (ix2 0 j) : EReal) = x12) (hv22 : (v22 (ix2 0 j) : EReal) = x22) (hi : (i (ix2 0 j) : EReal) = w) :
    (k0_pay54 y v11 v12 v22 i (ix2 0 j) : EReal) = (kilo * w * x11 + nkilo * k * w * w * x12) * (kilo * w) + (kilo * w * x12 + nkilo * k * w * w * x22) * (nkilo * k * w * w) := by
  simp only [k0_pay48, k0_pay49, k0_pay50, k0_pay51, k0_pay54, mulf_at, addf_at, subf_at, bc_at, bc_lit, hy, hv11, hv12, hv22, hi, one_eq]

theorem pay55_at (v : Vec Ideal S1x512 .f32) (j : Fin 512) {a : EReal} (h : (v (ix2 0 j) : EReal) = a) :
    (k0_pay55 v (ix2 0 j) : EReal) = Ideal.div 1 (1 + Ideal.exp (-a)) := by
  unfold k0_pay55
  rw [shapeCast_self, divf_at, addf_at, exp_at, subf_at, bc_at, bc_at, h, one_eq, zero_eq, sub_eq_add_neg, zero_add]

/-- The depth that the pixel is divided by is not zero. -/
theorem zcF_ne (z : EReal) : (zcF (F := Ideal) z : EReal) ≠ 0 := by
  obtain ⟨e, he, ee⟩ := Consts.cthou
  show (if BitVec.ofBool (decide (max z (-z) < Ideal.ofBits .f32 0x3A83126F#32)) = 1#1 then Ideal.ofBits .f32 0x3A83126F#32 else z : EReal) ≠ 0
  by_cases hz : max z (-z) < Ideal.ofBits .f32 0x3A83126F#32
  · rw [decide_eq_true hz]
    show Ideal.ofBits .f32 0x3A83126F#32 ≠ 0
    rw [ee]
    exact_mod_cast ne_of_gt he
  · rw [decide_eq_false hz]
    show z ≠ 0
    rintro rfl
    apply hz
    rw [ee]
    simpa using he

theorem pay1_at (v : Vec Ideal S1x512 .f32) (j : Fin 512) : (k0_pay1 v (ix2 0 j) : EReal) = v (ix2 0 j) := by
  unfold k0_pay1
  rw [shapeCast_self]
  rfl
theorem pay2_at (v : Vec Ideal S1x512 .f32) (j : Fin 512) : (k0_pay2 v (ix2 0 j) : EReal) = v (ix2 0 j) := by
  unfold k0_pay2
  rw [shapeCast_self]
  rfl
theorem pay4_at (v : Vec Ideal S1x512 .f32) (j : Fin 512) : (k0_pay4 v (ix2 0 j) : EReal) = zcF (F := Ideal) (v (ix2 0 j)) := by
  unfold k0_pay4 k0_pay3
  dsimp only
  rw [shapeCast_self]
  rfl

section
variable (x y z q0 q1 q2 q3 e0 e1 e2 : Vec Ideal S1x512 .f32) (j : Fin 512) {a b c d s0 s1 s2 u v w : EReal}
  (hx : (x (ix2 0 j) : EReal) = u) (hy : (y (ix2 0 j) : EReal) = v) (hz : (zcF (F := Ideal) (z (ix2 0 j)) : EReal) = w)
  (h0 : (q0 (ix2 0 j) : EReal) = a) (h1 : (q1 (ix2 0 j) : EReal) = b)
  (h2 : (q2 (ix2 0 j) : EReal) = c) (h3 : (q3 (ix2 0 j) : EReal) = d)
  (k0 : (e0 (ix2 0 j) : EReal) = s0) (k1 : (e1 (ix2 0 j) : EReal) = s1) (k2 : (e2 (ix2 0 j) : EReal) = s2)

include h0 h1 h2 h3 k0 k1 k2 in
theorem s00_at : (s00 q0 q1 q2 q3 e0 e1 e2 (ix2 0 j) : EReal) = (quad (R00 (Ideal.div a (nrm a b c d)) (Ideal.div b (nrm a b c d)) (Ideal.div c (nrm a b c d)) (Ideal.div d (nrm a b c d))) (R01 (Ideal.div a (nrm a b c d)) (Ideal.div b (nrm a b c d)) (Ideal.div c (nrm a b c d)) (Ideal.div d (nrm a b c d))) (R02 (Ideal.div a (nrm a b c d)) (Ideal.div b (nrm a b c d)) (Ideal.div c (nrm a b c d)) (Ideal.div d (nrm a b c d))) (R00 (Ideal.div a (nrm a b c d)) (Ideal.div b (nrm a b c d)) (Ideal.div c (nrm a b c d)) (Ideal.div d (nrm a b c d))) (R01 (Ideal.div a (nrm a b c d)) (Ideal.div b (nrm a b c d)) (Ideal.div c (nrm a b c d)) (Ideal.div d (nrm a b c d))) (R02 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2)) :=
  pay39_at _ _ _ _ _ _ j (r00_at q0 q1 q2 q3 j h0 h1 h2 h3) (r01_at q0 q1 q2 q3 j h0 h1 h2 h3) (r02_at q0 q1 q2 q3 j h0 h1 h2 h3) (pay34_at e1 j k1) (pay35_at e2 j k2) (pay36_at e0 j k0)

include h0 h1 h2 h3 k0 k1 k2 in
theorem s01_at : (s01 q0 q1 q2 q3 e0 e1 e2 (ix2 0 j) : EReal) = (quad (R00 (Ideal.div a (nrm a b c d)) (Ideal.div b (nrm a b c d)) (Ideal.div c (nrm a b c d)) (Ideal.div d (nrm a b c d))) (R01 (Ideal.div a (nrm a b c d)) (Ideal.div b (nrm a b c d)) (Ideal.div c (nrm a b c d)) (Ideal.div d (nrm a b c d))) (R02 (Ideal.div a (nrm a b c d)) (Ideal.div b (nrm a b c d)) (Ideal.div c (nrm a b c d)) (Ideal.div d (nrm a b c d))) (R10 (Ideal.div a (nrm a b c d)) (Ideal.div b (nrm a b c d)) (Ideal.div c (nrm a b c d)) (Ideal.div d (nrm a b c d))) (R11 (Ideal.div a (nrm a b c d)) (Ideal.div b (nrm a b c d)) (Ideal.div c (nrm a b c d)) (Ideal.div d (nrm a b c d))) (R12 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2)) :=
  pay40_at _ _ _ _ _ _ _ _ _ j (r00_at q0 q1 q2 q3 j h0 h1 h2 h3) (r01_at q0 q1 q2 q3 j h0 h1 h2 h3) (r02_at q0 q1 q2 q3 j h0 h1 h2 h3) (r10_at q0 q1 q2 q3 j h0 h1 h2 h3) (r11_at q0 q1 q2 q3 j h0 h1 h2 h3) (r12_at q0 q1 q2 q3 j h0 h1 h2 h3) (pay34_at e1 j k1) (pay35_at e2 j k2) (pay36_at e0 j k0)

include h0 h1 h2 h3 k0 k1 k2 in
theorem s02_at : (s02 q0 q1 q2 q3 e0 e1 e2 (ix2 0 j) : EReal) = (quad (R00 (Ideal.div a (nrm a b c d)) (Ideal.div b (nrm a b c d)) (Ideal.div c (nrm a b c d)) (Ideal.div d (nrm a b c d))) (R01 (Ideal.div a (nrm a b c d)) (Ideal.div b (nrm a b c d)) (Ideal.div c (nrm a b c d)) (Ideal.div d (nrm a b c d))) (R02 (Ideal.div a (nrm a b c d)) (Ideal.div b (nrm a b c d)) (Ideal.div c (nrm a b c d)) (Ideal.div d (nrm a b c d))) (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2)) :=
  pay41_at _ _ _ _ _ _ _ _ _ j (r00_at q0 q1 q2 q3 j h0 h1 h2 h3) (r01_at q0 q1 q2 q3 j h0 h1 h2 h3) (r02_at q0 q1 q2 q3 j h0 h1 h2 h3) (r20_at q0 q1 q2 q3 j h0 h1 h2 h3) (r21_at q0 q1 q2 q3 j h0 h1 h2 h3) (r22_at q0 q1 q2 q3 j h0 h1 h2 h3) (pay34_at e1 j k1) (pay35_at e2 j k2) (pay36_at e0 j k0)

include h0 h1 h2 h3 k0 k1 k2 in
theorem s11_at : (s11 q0 q1 q2 q3 e0 e1 e2 (ix2 0 j) : EReal) = (quad (R10 (Ideal.div a (nrm a b c d)) (Ideal.div b (nrm a b c d)) (Ideal.div c (nrm a b c d)) (Ideal.div d (nrm a b c d))) (R11 (Ideal.div a (nrm a b c d)) (Ideal.div b (nrm a b c d)) (Ideal.div c (nrm a b c d)) (Ideal.div d (nrm a b c d))) (R12 (Ideal.div a (nrm a b c d)) (Ideal.div b (nrm a b c d)) (Ideal.div c (nrm a b c d)) (Ideal.div d (nrm a b c d))) (R10 (Ideal.div a (nrm a b c d)) (Ideal.div b (nrm a b c d)) (Ideal.div c (nrm a b c d)) (Ideal.div d (nrm a b c d))) (R11 (Ideal.div a (nrm a b c d)) (Ideal.div b (nrm a b c d)) (Ideal.div c (nrm a b c d)) (Ideal.div d (nrm a b c d))) (R12 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2)) :=
  pay42_at _ _ _ _ _ _ j (r10_at q0 q1 q2 q3 j h0 h1 h2 h3) (r11_at q0 q1 q2 q3 j h0 h1 h2 h3) (r12_at q0 q1 q2 q3 j h0 h1 h2 h3) (pay34_at e1 j k1) (pay35_at e2 j k2) (pay36_at e0 j k0)

include h0 h1 h2 h3 k0 k1 k2 in
theorem s12_at : (s12 q0 q1 q2 q3 e0 e1 e2 (ix2 0 j) : EReal) = (quad (R10 (Ideal.div a (nrm a b c d)) (Ideal.div b (nrm a b c d)) (Ideal.div c (nrm a b c d)) (Ideal.div d (nrm a b c d))) (R11 (Ideal.div a (nrm a b c d)) (Ideal.div b (nrm a b c d)) (Ideal.div c (nrm a b c d)) (Ideal.div d (nrm a b c d))) (R12 (Ideal.div a (nrm a b c d)) (Ideal.div b (nrm a b c d)) (Ideal.div c (nrm a b c d)) (Ideal.div d (nrm a b c d))) (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2)) :=
  pay43_at _ _ _ _ _ _ _ _ _ j (r10_at q0 q1 q2 q3 j h0 h1 h2 h3) (r11_at q0 q1 q2 q3 j h0 h1 h2 h3) (r12_at q0 q1 q2 q3 j h0 h1 h2 h3) (r20_at q0 q1 q2 q3 j h0 h1 h2 h3) (r21_at q0 q1 q2 q3 j h0 h1 h2 h3) (r22_at q0 q1 q2 q3 j h0 h1 h2 h3) (pay34_at e1 j k1) (pay35_at e2 j k2) (pay36_at e0 j k0)

include h0 h1 h2 h3 k0 k1 k2 in
theorem s22_at : (s22 q0 q1 q2 q3 e0 e1 e2 (ix2 0 j) : EReal) = (quad (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2)) :=
  pay44_at _ _ _ _ _ _ j (r20_at q0 q1 q2 q3 j h0 h1 h2 h3) (r21_at q0 q1 q2 q3 j h0 h1 h2 h3) (r22_at q0 q1 q2 q3 j h0 h1 h2 h3) (pay34_at e1 j k1) (pay35_at e2 j k2) (pay36_at e0 j k0)

include hx hz h0 h1 h2 h3 k0 k1 k2 in
theorem cov00_at : (cov00 x z q0 q1 q2 q3 e0 e1 e2 (ix2 0 j) : EReal) =
    (jd w * (quad (R00 (Ideal.div a (nrm a b c d)) (Ideal.div b (nrm a b c d)) (Ideal.div c (nrm a b c d)) (Ideal.div d (nrm a b c d))) (R01 (Ideal.div a (nrm a b c d)) (Ideal.div b (nrm a b c d)) (Ideal.div c (nrm a b c d)) (Ideal.div d (nrm a b c d))) (R02 (Ideal.div a (nrm a b c d)) (Ideal.div b (nrm a b c d)) (Ideal.div c (nrm a b c d)) (Ideal.div d (nrm a b c d))) (R00 (Ideal.div a (nrm a b c d)) (Ideal.div b (nrm a b c d)) (Ideal.div c (nrm a b c d)) (Ideal.div d (nrm a b c d))) (R01 (Ideal.div a (nrm a b c d)) (Ideal.div b (nrm a b c d)) (Ideal.div c (nrm a b c d)) (Ideal.div d (nrm a b c d))) (R02 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2)) + jo u w * (quad (R00 (Ideal.div a (nrm a b c d)) (Ideal.div b (nrm a b c d)) (Ideal.div c (nrm a b c d)) (Ideal.div d (nrm a b c d))) (R01 (Ideal.div a (nrm a b c d)) (Ideal.div b (nrm a b c d)) (Ideal.div c (nrm a b c d)) (Ideal.div d (nrm a b c d))) (R02 (Ideal.div a (nrm a b c d)) (Ideal.div b (nrm a b c d)) (Ideal.div c (nrm a b c d)) (Ideal.div d (nrm a b c d))) (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2))) * jd w + (jd w * (quad (R00 (Ideal.div a (nrm a b c d)) (Ideal.div b (nrm a b c d)) (Ideal.div c (nrm a b c d)) (Ideal.div d (nrm a b c d))) (R01 (Ideal.div a (nrm a b c d)) (Ideal.div b (nrm a b c d)) (Ideal.div c (nrm a b c d)) (Ideal.div d (nrm a b c d))) (R02 (Ideal.div a (nrm a b c d)) (Ideal.div b (nrm a b c d)) (Ideal.div c (nrm a b c d)) (Ideal.div d (nrm a b c d))) (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2)) + jo u w * (quad (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2))) * jo u w :=
  pay52_at _ _ _ _ _ _ j (s00_at q0 q1 q2 q3 e0 e1 e2 j h0 h1 h2 h3 k0 k1 k2) (s02_at q0 q1 q2 q3 e0 e1 e2 j h0 h1 h2 h3 k0 k1 k2) (s22_at q0 q1 q2 q3 e0 e1 e2 j h0 h1 h2 h3 k0 k1 k2) (pay45_at _ j ((pay4_at z j).trans hz)) (pay46_at _ j ((pay4_at z j).trans hz)) (pay47_at _ _ j ((pay1_at x j).trans hx) ((pay4_at z j).trans hz))

include hx hy hz h0 h1 h2 h3 k0 k1 k2 in
theorem cov01_at : (cov01 x y z q0 q1 q2 q3 e0 e1 e2 (ix2 0 j) : EReal) =
    (jd w * (quad (R00 (Ideal.div a (nrm a b c d)) (Ideal.div b (nrm a b c d)) (Ideal.div c (nrm a b c d)) (Ideal.div d (nrm a b c d))) (R01 (Ideal.div a (nrm a b c d)) (Ideal.div b (nrm a b c d)) (Ideal.div c (nrm a b c d)) (Ideal.div d (nrm a b c d))) (R02 (Ideal.div a (nrm a b c d)) (Ideal.div b (nrm a b c d)) (Ideal.div c (nrm a b c d)) (Ideal.div d (nrm a b c d))) (R10 (Ideal.div a (nrm a b c d)) (Ideal.div b (nrm a b c d)) (Ideal.div c (nrm a b c d)) (Ideal.div d (nrm a b c d))) (R11 (Ideal.div a (nrm a b c d)) (Ideal.div b (nrm a b c d)) (Ideal.div c (nrm a b c d)) (Ideal.div d (nrm a b c d))) (R12 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2)) + jo u w * (quad (R10 (Ideal.div a (nrm a b c d)) (Ideal.div b (nrm a b c d)) (Ideal.div c (nrm a b c d)) (Ideal.div d (nrm a b c d))) (R11 (Ideal.div a (nrm a b c d)) (Ideal.div b (nrm a b c d)) (Ideal.div c (nrm a b c d)) (Ideal.div d (nrm a b c d))) (R12 (Ideal.div a (nrm a b c d)) (Ideal.div b (nrm a b c d)) (Ideal.div c (nrm a b c d)) (Ideal.div d (nrm a b c d))) (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2))) * jd w + (jd w * (quad (R00 (Ideal.div a (nrm a b c d)) (Ideal.div b (nrm a b c d)) (Ideal.div c (nrm a b c d)) (Ideal.div d (nrm a b c d))) (R01 (Ideal.div a (nrm a b c d)) (Ideal.div b (nrm a b c d)) (Ideal.div c (nrm a b c d)) (Ideal.div d (nrm a b c d))) (R02 (Ideal.div a (nrm a b c d)) (Ideal.div b (nrm a b c d)) (Ideal.div c (nrm a b c d)) (Ideal.div d (nrm a b c d))) (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2)) + jo u w * (quad (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2))) * jo v w :=
  pay53_at _ _ _ _ _ _ _ _ j ((pay2_at y j).trans hy) (s01_at q0 q1 q2 q3 e0 e1 e2 j h0 h1 h2 h3 k0 k1 k2) (s02_at q0 q1 q2 q3 e0 e1 e2 j h0 h1 h2 h3 k0 k1 k2) (s12_at q0 q1 q2 q3 e0 e1 e2 j h0 h1 h2 h3 k0 k1 k2) (s22_at q0 q1 q2 q3 e0 e1 e2 j h0 h1 h2 h3 k0 k1 k2) (pay45_at _ j ((pay4_at z j).trans hz)) (pay46_at _ j ((pay4_at z j).trans hz)) (pay47_at _ _ j ((pay1_at x j).trans hx) ((pay4_at z j).trans hz))

include hy hz h0 h1 h2 h3 k0 k1 k2 in
theorem cov11_at : (cov11 y z q0 q1 q2 q3 e0 e1 e2 (ix2 0 j) : EReal) =
    (jd w * (quad (R10 (Ideal.div a (nrm a b c d)) (Ideal.div b (nrm a b c d)) (Ideal.div c (nrm a b c d)) (Ideal.div d (nrm a b c d))) (R11 (Ideal.div a (nrm a b c d)) (Ideal.div b (nrm a b c d)) (Ideal.div c (nrm a b c d)) (Ideal.div d (nrm a b c d))) (R12 (Ideal.div a (nrm a b c d)) (Ideal.div b (nrm a b c d)) (Ideal.div c (nrm a b c d)) (Ideal.div d (nrm a b c d))) (R10 (Ideal.div a (nrm a b c d)) (Ideal.div b (nrm a b c d)) (Ideal.div c (nrm a b c d)) (Ideal.div d (nrm a b c d))) (R11 (Ideal.div a (nrm a b c d)) (Ideal.div b (nrm a b c d)) (Ideal.div c (nrm a b c d)) (Ideal.div d (nrm a b c d))) (R12 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2)) + jo v w * (quad (R10 (Ideal.div a (nrm a b c d)) (Ideal.div b (nrm a b c d)) (Ideal.div c (nrm a b c d)) (Ideal.div d (nrm a b c d))) (R11 (Ideal.div a (nrm a b c d)) (Ideal.div b (nrm a b c d)) (Ideal.div c (nrm a b c d)) (Ideal.div d (nrm a b c d))) (R12 (Ideal.div a (nrm a b c d)) (Ideal.div b (nrm a b c d)) (Ideal.div c (nrm a b c d)) (Ideal.div d (nrm a b c d))) (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2))) * jd w + (jd w * (quad (R10 (Ideal.div a (nrm a b c d)) (Ideal.div b (nrm a b c d)) (Ideal.div c (nrm a b c d)) (Ideal.div d (nrm a b c d))) (R11 (Ideal.div a (nrm a b c d)) (Ideal.div b (nrm a b c d)) (Ideal.div c (nrm a b c d)) (Ideal.div d (nrm a b c d))) (R12 (Ideal.div a (nrm a b c d)) (Ideal.div b (nrm a b c d)) (Ideal.div c (nrm a b c d)) (Ideal.div d (nrm a b c d))) (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2)) + jo v w * (quad (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (R20 (Ideal.div a (nrm a b c d)) (Ideal.div b (nrm a b c d)) (Ideal.div c (nrm a b c d)) (Ideal.div d (nrm a b c d))) (R21 (Ideal.div a (nrm a b c d)) (Ideal.div b (nrm a b c d)) (Ideal.div c (nrm a b c d)) (Ideal.div d (nrm a b c d))) (R22 (Ideal.div a (nrm a b c d)) (Ideal.div b (nrm a b c d)) (Ideal.div c (nrm a b c d)) (Ideal.div d (nrm a b c d))) (Ideal.exp s0 * Ideal.exp s0) (Ideal.exp s1 * Ideal.exp s1) (Ideal.exp s2 * Ideal.exp s2))) * jo v w :=
  pay54_at _ _ _ _ _ j ((pay2_at y j).trans hy) (s11_at q0 q1 q2 q3 e0 e1 e2 j h0 h1 h2 h3 k0 k1 k2) (s12_at q0 q1 q2 q3 e0 e1 e2 j h0 h1 h2 h3 k0 k1 k2) (s22_at q0 q1 q2 q3 e0 e1 e2 j h0 h1 h2 h3 k0 k1 k2) (pay45_at _ j ((pay4_at z j).trans hz))
end

end Cert.Proof.Front

end
-- ==== Proof.RefCov.lean ====
/-
  The reference's first result over the extended reals: the parts of the covariance as formulas of the point's coordinates and
  features, the first kernel's formulas.
-/
module

public import proofs.«01_k».proof.Proof.RefPoint
public import proofs.«01_k».proof.Proof.FrontFloat

@[expose] public section

noncomputable section

namespace Cert.Proof.Ref

open Cert.ReferenceIdeal Cert.ReferenceIdeal.Gen Cert.ReferenceIdeal.Facts
open Cert.ReferenceIdeal.Value
open Idealize.ShloMosaic
open Front (nrm R00 R01 R02 R10 R11 R12 R20 R21 R22 quad jd jo kilo nkilo)

section
variable {F : FTy → Type} [FloatOps F]

/-- The reference's first result. -/
def refOut (V0 : Valuation τ sig (Elt F)) : S500000x8.Idx → Elt F .f32 :=
  (concatenate S500000x8 1 [⟨S500000x2, ((res_main_v16 V0) : (⟨S500000x2, .f32⟩ : BufTy).Contents (Elt F))⟩, ⟨S500000x1, ((broadcastInDim S500000x1 ![0] bcast_S500000_S500000x1_0 (res_main_v6 V0)) : (⟨S500000x1, .f32⟩ : BufTy).Contents (Elt F))⟩, ⟨S500000x4, ((shapeCast _ (Host.dotGeneral dot_S500000x3x2_S500000x2x3_S500000x2x2_1_2_2_1_0_0 none (Host.dotGeneral dot_S500000x3x3_S500000x2x3_S500000x3x2_1_2_2_1_0_0 none (Host.dotGeneral dot_S500000x3x3_S3x3_S500000x3x3_1_1_02_0_n_n none (Host.dotGeneral dot_S500000x3x3_S3x3_S500000x3x3_1_1_02_0_n_n none (Host.dotGeneral dot_S500000x3x3_S500000x3x3_S500000x3x3_2_2_1_1_0_0 none (mulf (res_main_v117 V0) (broadcastInDim S500000x3x3 ![0, 1, 2] bcast_S500000x1x3_S500000x3x3_0_1_2 (broadcastInDim S500000x1x3 ![0, 2] bcast_S500000x3_S500000x1x3_0_2 (mulf (res_main_v119 V0) (res_main_v119 V0))))) (res_main_v117 V0)) (res_main_v125 V0)) (res_main_v125 V0)) (res_main_v161 V0)) (res_main_v161 V0)) shapeCasts_S500000x2x2_S500000x4) : (⟨S500000x4, .f32⟩ : BufTy).Contents (Elt F))⟩, ⟨S500000x1, ((broadcastInDim S500000x1 ![0] bcast_S500000_S500000x1_0 (Host.divf (broadcastInDim S500000 ![] bcast_S_S500000 (constant S_ .f32 0x3F800000#32)) (addf (broadcastInDim S500000 ![] bcast_S_S500000 (constant S_ .f32 0x3F800000#32)) (Host.exp (Host.negf (shapeCast _ (extractStridedSlice S500000x1 ![0, 7] (V0 (Proc.devRef .tc main_arg1)) slices_S500000x56_S500000x1_0_7) shapeCasts_S500000x1_S500000)))))) : (⟨S500000x1, .f32⟩ : BufTy).Contents (Elt F))⟩] concatenates_S500000x2_S500000x1_S500000x4_S500000x1_S500000x8_d1 : (⟨S500000x8, .f32⟩ : BufTy).Contents (Elt F))
end

/-- Rows `p` and `q` of a matrix, weighted by the squares of three numbers. -/
def sq (X : Fin 3 → Fin 3 → EReal) (T : Fin 3 → EReal) (p q : Fin 3) : EReal := ∑ x, X p x * (T x * T x) * X q x

/-- The covariance's double product where the camera is not turned. -/
theorem chain (X : Fin 3 → Fin 3 → EReal) (T : Fin 3 → EReal) (D : Fin 3 → Fin 3 → EReal) (J K : Fin 3 → EReal)
    (hD : ∀ a b, D a b = if a = b then 1 else 0) :
    ∑ x, (∑ x1, (∑ x2, (∑ x0, (∑ x3, X x0 x3 * (T x3 * T x3) * X x2 x3) * D x1 x0) * D x x2) * J x1) * K x = ∑ x, (∑ x1, sq X T x1 x * J x1) * K x := by
  simp only [hD, mul_ite, mul_one, mul_zero, Finset.sum_ite_eq, Finset.mem_univ, if_true]
  rfl

variable (V0 : Valuation τ sig (Elt Ideal))

section
variable (i : Fin 500000) {a b c d : EReal} (h0 : aB V0 (ix2 i 0) = a) (h1 : aB V0 (ix2 i 1) = b) (h2 : aB V0 (ix2 i 2) = c) (h3 : aB V0 (ix2 i 3) = d)
include h0 h1 h2 h3

theorem v42_norm : Ideal.sqrt (∑ x, @HMul.hMul EReal EReal EReal instHMul (res_main_v42 V0 (ix2 i x)) (res_main_v42 V0 (ix2 i x))) + Ideal.ofBits .f32 841731191#32 = nrm a b c d := by
  have e0 : (res_main_v42 V0 : S500000x4.Idx → EReal) (ix2 i 0) = a := by unfold res_main_v42; pointwise; exact h0
  have e1 : (res_main_v42 V0 : S500000x4.Idx → EReal) (ix2 i 1) = b := by unfold res_main_v42; pointwise; exact h1
  have e2 : (res_main_v42 V0 : S500000x4.Idx → EReal) (ix2 i 2) = c := by unfold res_main_v42; pointwise; exact h2
  have e3 : (res_main_v42 V0 : S500000x4.Idx → EReal) (ix2 i 3) = d := by unfold res_main_v42; pointwise; exact h3
  rw [Fin.sum_univ_four, e0, e1, e2, e3]
  rfl
theorem v47_0 : (res_main_v47 V0 : S500000x4.Idx → EReal) (ix2 i 0) = Ideal.div a (nrm a b c d) := by
  have e : (res_main_v42 V0 : S500000x4.Idx → EReal) (ix2 i 0) = a := by unfold res_main_v42; pointwise; exact h0
  unfold res_main_v47
  pointwise
  rw [v42_norm V0 i h0 h1 h2 h3, e]
theorem v47_1 : (res_main_v47 V0 : S500000x4.Idx → EReal) (ix2 i 1) = Ideal.div b (nrm a b c d) := by
  have e : (res_main_v42 V0 : S500000x4.Idx → EReal) (ix2 i 1) = b := by unfold res_main_v42; pointwise; exact h1
  unfold res_main_v47
  pointwise
  rw [v42_norm V0 i h0 h1 h2 h3, e]
theorem v47_2 : (res_main_v47 V0 : S500000x4.Idx → EReal) (ix2 i 2) = Ideal.div c (nrm a b c d) := by
  have e : (res_main_v42 V0 : S500000x4.Idx → EReal) (ix2 i 2) = c := by unfold res_main_v42; pointwise; exact h2
  unfold res_main_v47
  pointwise
  rw [v42_norm V0 i h0 h1 h2 h3, e]
theorem v47_3 : (res_main_v47 V0 : S500000x4.Idx → EReal) (ix2 i 3) = Ideal.div d (nrm a b c d) := by
  have e : (res_main_v42 V0 : S500000x4.Idx → EReal) (ix2 i 3) = d := by unfold res_main_v42; pointwise; exact h3
  unfold res_main_v47
  pointwise
  rw [v42_norm V0 i h0 h1 h2 h3, e]
theorem v49_eq : (res_main_v49 V0 : S500000.Idx → EReal) (ix1 i) = Ideal.div a (nrm a b c d) := by
  unfold res_main_v49
  pointwise
  exact v47_0 V0 i h0 h1 h2 h3
theorem v51_eq : (res_main_v51 V0 : S500000.Idx → EReal) (ix1 i) = Ideal.div b (nrm a b c d) := by
  unfold res_main_v51
  pointwise
  exact v47_1 V0 i h0 h1 h2 h3
theorem v53_eq : (res_main_v53 V0 : S500000.Idx → EReal) (ix1 i) = Ideal.div c (nrm a b c d) := by
  unfold res_main_v53
  pointwise
  exact v47_2 V0 i h0 h1 h2 h3
theorem v55_eq : (res_main_v55 V0 : S500000.Idx → EReal) (ix1 i) = Ideal.div d (nrm a b c d) := by
  unfold res_main_v55
  pointwise
  exact v47_3 V0 i h0 h1 h2 h3
theorem v117_00 : (res_main_v117 V0 : S500000x3x3.Idx → EReal) (ix3 i 0 0) = R00 (Ideal.div a (nrm a b c d)) (Ideal.div b (nrm a b c d)) (Ideal.div c (nrm a b c d)) (Ideal.div d (nrm a b c d)) := by
  unfold res_main_v117
  pointwise
  simp only [v49_eq V0 i h0 h1 h2 h3, v51_eq V0 i h0 h1 h2 h3, v53_eq V0 i h0 h1 h2 h3, v55_eq V0 i h0 h1 h2 h3]
  rfl
theorem v117_01 : (res_main_v117 V0 : S500000x3x3.Idx → EReal) (ix3 i 0 1) = R01 (Ideal.div a (nrm a b c d)) (Ideal.div b (nrm a b c d)) (Ideal.div c (nrm a b c d)) (Ideal.div d (nrm a b c d)) := by
  unfold res_main_v117
  pointwise
  simp only [v49_eq V0 i h0 h1 h2 h3, v51_eq V0 i h0 h1 h2 h3, v53_eq V0 i h0 h1 h2 h3, v55_eq V0 i h0 h1 h2 h3]
  rfl
theorem v117_02 : (res_main_v117 V0 : S500000x3x3.Idx → EReal) (ix3 i 0 2) = R02 (Ideal.div a (nrm a b c d)) (Ideal.div b (nrm a b c d)) (Ideal.div c (nrm a b c d)) (Ideal.div d (nrm a b c d)) := by
  unfold res_main_v117
  pointwise
  simp only [v49_eq V0 i h0 h1 h2 h3, v51_eq V0 i h0 h1 h2 h3, v53_eq V0 i h0 h1 h2 h3, v55_eq V0 i h0 h1 h2 h3]
  rfl
theorem v117_10 : (res_main_v117 V0 : S500000x3x3.Idx → EReal) (ix3 i 1 0) = R10 (Ideal.div a (nrm a b c d)) (Ideal.div b (nrm a b c d)) (Ideal.div c (nrm a b c d)) (Ideal.div d (nrm a b c d)) := by
  unfold res_main_v117
  pointwise
  simp only [v49_eq V0 i h0 h1 h2 h3, v51_eq V0 i h0 h1 h2 h3, v53_eq V0 i h0 h1 h2 h3, v55_eq V0 i h0 h1 h2 h3]
  rfl
theorem v117_11 : (res_main_v117 V0 : S500000x3x3.Idx → EReal) (ix3 i 1 1) = R11 (Ideal.div a (nrm a b c d)) (Ideal.div b (nrm a b c d)) (Ideal.div c (nrm a b c d)) (Ideal.div d (nrm a b c d)) := by
  unfold res_main_v117
  pointwise
  simp only [v49_eq V0 i h0 h1 h2 h3, v51_eq V0 i h0 h1 h2 h3, v53_eq V0 i h0 h1 h2 h3, v55_eq V0 i h0 h1 h2 h3]
  rfl
theorem v117_12 : (res_main_v117 V0 : S500000x3x3.Idx → EReal) (ix3 i 1 2) = R12 (Ideal.div a (nrm a b c d)) (Ideal.div b (nrm a b c d)) (Ideal.div c (nrm a b c d)) (Ideal.div d (nrm a b c d)) := by
  unfold res_main_v117
  pointwise
  simp only [v49_eq V0 i h0 h1 h2 h3, v51_eq V0 i h0 h1 h2 h3, v53_eq V0 i h0 h1 h2 h3, v55_eq V0 i h0 h1 h2 h3]
  rfl
theorem v117_20 : (res_main_v117 V0 : S500000x3x3.Idx → EReal) (ix3 i 2 0) = R20 (Ideal.div a (nrm a b c d)) (Ideal.div b (nrm a b c d)) (Ideal.div c (nrm a b c d)) (Ideal.div d (nrm a b c d)) := by
  unfold res_main_v117
  pointwise
  simp only [v49_eq V0 i h0 h1 h2 h3, v51_eq V0 i h0 h1 h2 h3, v53_eq V0 i h0 h1 h2 h3, v55_eq V0 i h0 h1 h2 h3]
  rfl
theorem v117_21 : (res_main_v117 V0 : S500000x3x3.Idx → EReal) (ix3 i 2 1) = R21 (Ideal.div a (nrm a b c d)) (Ideal.div b (nrm a b c d)) (Ideal.div c (nrm a b c d)) (Ideal.div d (nrm a b c d)) := by
  unfold res_main_v117
  pointwise
  simp only [v49_eq V0 i h0 h1 h2 h3, v51_eq V0 i h0 h1 h2 h3, v53_eq V0 i h0 h1 h2 h3, v55_eq V0 i h0 h1 h2 h3]
  rfl
theorem v117_22 : (res_main_v117 V0 : S500000x3x3.Idx → EReal) (ix3 i 2 2) = R22 (Ideal.div a (nrm a b c d)) (Ideal.div b (nrm a b c d)) (Ideal.div c (nrm a b c d)) (Ideal.div d (nrm a b c d)) := by
  unfold res_main_v117
  pointwise
  simp only [v49_eq V0 i h0 h1 h2 h3, v51_eq V0 i h0 h1 h2 h3, v53_eq V0 i h0 h1 h2 h3, v55_eq V0 i h0 h1 h2 h3]
  rfl

/-- The rotation as a matrix. -/
def rotM (a b c d : EReal) : Fin 3 → Fin 3 → EReal
  | 0, 0 => R00 (Ideal.div a (nrm a b c d)) (Ideal.div b (nrm a b c d)) (Ideal.div c (nrm a b c d)) (Ideal.div d (nrm a b c d))
  | 0, 1 => R01 (Ideal.div a (nrm a b c d)) (Ideal.div b (nrm a b c d)) (Ideal.div c (nrm a b c d)) (Ideal.div d (nrm a b c d))
  | 0, 2 => R02 (Ideal.div a (nrm a b c d)) (Ideal.div b (nrm a b c d)) (Ideal.div c (nrm a b c d)) (Ideal.div d (nrm a b c d))
  | 1, 0 => R10 (Ideal.div a (nrm a b c d)) (Ideal.div b (nrm a b c d)) (Ideal.div c (nrm a b c d)) (Ideal.div d (nrm a b c d))
  | 1, 1 => R11 (Ideal.div a (nrm a b c d)) (Ideal.div b (nrm a b c d)) (Ideal.div c (nrm a b c d)) (Ideal.div d (nrm a b c d))
  | 1, 2 => R12 (Ideal.div a (nrm a b c d)) (Ideal.div b (nrm a b c d)) (Ideal.div c (nrm a b c d)) (Ideal.div d (nrm a b c d))
  | 2, 0 => R20 (Ideal.div a (nrm a b c d)) (Ideal.div b (nrm a b c d)) (Ideal.div c (nrm a b c d)) (Ideal.div d (nrm a b c d))
  | 2, 1 => R21 (Ideal.div a (nrm a b c d)) (Ideal.div b (nrm a b c d)) (Ideal.div c (nrm a b c d)) (Ideal.div d (nrm a b c d))
  | 2, 2 => R22 (Ideal.div a (nrm a b c d)) (Ideal.div b (nrm a b c d)) (Ideal.div c (nrm a b c d)) (Ideal.div d (nrm a b c d))

theorem v117_eq (p q : Fin 3) : (res_main_v117 V0 : S500000x3x3.Idx → EReal) (ix3 i p q) = rotM a b c d p q := by
  match p, q with
  | ⟨0, _⟩, ⟨0, _⟩ => exact v117_00 V0 i h0 h1 h2 h3
  | ⟨0, _⟩, ⟨1, _⟩ => exact v117_01 V0 i h0 h1 h2 h3
  | ⟨0, _⟩, ⟨2, _⟩ => exact v117_02 V0 i h0 h1 h2 h3
  | ⟨1, _⟩, ⟨0, _⟩ => exact v117_10 V0 i h0 h1 h2 h3
  | ⟨1, _⟩, ⟨1, _⟩ => exact v117_11 V0 i h0 h1 h2 h3
  | ⟨1, _⟩, ⟨2, _⟩ => exact v117_12 V0 i h0 h1 h2 h3
  | ⟨2, _⟩, ⟨0, _⟩ => exact v117_20 V0 i h0 h1 h2 h3
  | ⟨2, _⟩, ⟨1, _⟩ => exact v117_21 V0 i h0 h1 h2 h3
  | ⟨2, _⟩, ⟨2, _⟩ => exact v117_22 V0 i h0 h1 h2 h3
end

/-- Three numbers. -/
def tri (a b c : EReal) : Fin 3 → EReal
  | 0 => a
  | 1 => b
  | 2 => c

theorem v119_eq (i : Fin 500000) (q : Fin 3) :
    (res_main_v119 V0 : S500000x3.Idx → EReal) (ix2 i q) = tri (Ideal.exp (aB V0 (ix2 i 4))) (Ideal.exp (aB V0 (ix2 i 5))) (Ideal.exp (aB V0 (ix2 i 6))) q := by
  match q with
  | ⟨0, _⟩ =>
    have e : (res_main_v119 V0 : S500000x3.Idx → EReal) (ix2 i 0) = Ideal.exp (aB V0 (ix2 i 4)) := by unfold res_main_v119; pointwise
    exact e
  | ⟨1, _⟩ =>
    have e : (res_main_v119 V0 : S500000x3.Idx → EReal) (ix2 i 1) = Ideal.exp (aB V0 (ix2 i 5)) := by unfold res_main_v119; pointwise
    exact e
  | ⟨2, _⟩ =>
    have e : (res_main_v119 V0 : S500000x3.Idx → EReal) (ix2 i 2) = Ideal.exp (aB V0 (ix2 i 6)) := by unfold res_main_v119; pointwise
    exact e

section
variable (h : Camera (aA V0) (aB V0) (aC V0) (aD V0))
include h

theorem v125_eq (p q : Fin 3) : @Eq EReal (res_main_v125 V0 (ix2 p q)) (if p = q then 1 else 0) := by
  have one : (((1 : ℝ)) : EReal) = 1 := EReal.coe_one
  have zero : (((0 : ℝ)) : EReal) = 0 := EReal.coe_zero
  match p, q with
  | ⟨0, _⟩, ⟨0, _⟩ =>
    have k : (res_main_v125 V0 : S3x3.Idx → EReal) (ix2 0 0) = ((1 : ℝ) : EReal) := by
      unfold res_main_v125
      pointwise
      exact (pose_apply V0 h 0 0).trans (congrArg _ (if_pos rfl))
    exact k.trans one
  | ⟨0, _⟩, ⟨1, _⟩ =>
    have k : (res_main_v125 V0 : S3x3.Idx → EReal) (ix2 0 1) = ((0 : ℝ) : EReal) := by
      unfold res_main_v125
      pointwise
      exact (pose_apply V0 h 0 1).trans (congrArg _ (if_neg (by decide)))
    exact k.trans zero
  | ⟨0, _⟩, ⟨2, _⟩ =>
    have k : (res_main_v125 V0 : S3x3.Idx → EReal) (ix2 0 2) = ((0 : ℝ) : EReal) := by
      unfold res_main_v125
      pointwise
      exact (pose_apply V0 h 0 2).trans (congrArg _ (if_neg (by decide)))
    exact k.trans zero
  | ⟨1, _⟩, ⟨0, _⟩ =>
    have k : (res_main_v125 V0 : S3x3.Idx → EReal) (ix2 1 0) = ((0 : ℝ) : EReal) := by
      unfold res_main_v125
      pointwise
      exact (pose_apply V0 h 1 0).trans (congrArg _ (if_neg (by decide)))
    exact k.trans zero
  | ⟨1, _⟩, ⟨1, _⟩ =>
    have k : (res_main_v125 V0 : S3x3.Idx → EReal) (ix2 1 1) = ((1 : ℝ) : EReal) := by
      unfold res_main_v125
      pointwise
      exact (pose_apply V0 h 1 1).trans (congrArg _ (if_pos rfl))
    exact k.trans one
  | ⟨1, _⟩, ⟨2, _⟩ =>
    have k : (res_main_v125 V0 : S3x3.Idx → EReal) (ix2 1 2) = ((0 : ℝ) : EReal) := by
      unfold res_main_v125
      pointwise
      exact (pose_apply V0 h 1 2).trans (congrArg _ (if_neg (by decide)))
    exact k.trans zero
  | ⟨2, _⟩, ⟨0, _⟩ =>
    have k : (res_main_v125 V0 : S3x3.Idx → EReal) (ix2 2 0) = ((0 : ℝ) : EReal) := by
      unfold res_main_v125
      pointwise
      exact (pose_apply V0 h 2 0).trans (congrArg _ (if_neg (by decide)))
    exact k.trans zero
  | ⟨2, _⟩, ⟨1, _⟩ =>
    have k : (res_main_v125 V0 : S3x3.Idx → EReal) (ix2 2 1) = ((0 : ℝ) : EReal) := by
      unfold res_main_v125
      pointwise
      exact (pose_apply V0 h 2 1).trans (congrArg _ (if_neg (by decide)))
    exact k.trans zero
  | ⟨2, _⟩, ⟨2, _⟩ =>
    have k : (res_main_v125 V0 : S3x3.Idx → EReal) (ix2 2 2) = ((1 : ℝ) : EReal) := by
      unfold res_main_v125
      pointwise
      exact (pose_apply V0 h 2 2).trans (congrArg _ (if_pos rfl))
    exact k.trans one

theorem v129_eq : (res_main_v129 V0 : S_.Idx → EReal) ix0 = kilo := by
  unfold res_main_v129
  pointwise
  exact (cam_apply V0 h 0 0).trans Consts.c1000.symm
theorem v131_eq : (res_main_v131 V0 : S_.Idx → EReal) ix0 = kilo := by
  unfold res_main_v131
  pointwise
  exact (cam_apply V0 h 1 1).trans Consts.c1000.symm

/-! Dividing once by the depth and twice. -/
omit h in
theorem jdiv {z : EReal} (hz : z ≠ 0) : Ideal.div kilo z = jd z := by
  unfold jd Ideal.div
  rw [if_neg hz, if_neg hz, one_mul]
omit h in
theorem jdiv2 {z : EReal} (hz : z ≠ 0) (u : EReal) : Ideal.div (-kilo * u) (z * z) = jo u z := by
  unfold jo Ideal.div
  rw [if_neg hz, if_neg (mul_ne_zero hz hz), one_mul, EReal.mul_inv, Front.neg_kilo, mul_assoc (nkilo * u)]

section
variable (i : Fin 500000) {u v w : EReal} (hw : w ≠ 0) (hz : (res_main_v10 V0 : S500000.Idx → EReal) (ix1 i) = w)
  (hx : aA V0 (ix2 i 0) = u) (hy : aA V0 (ix2 i 1) = v)
include hw hz

include hx in
theorem v161_u (q : Fin 3) : (res_main_v161 V0 : S500000x2x3.Idx → EReal) (ix3 i 0 q) = tri (jd w) 0 (jo u w) q := by
  match q with
  | ⟨0, _⟩ =>
    have e : (res_main_v161 V0 : S500000x2x3.Idx → EReal) (ix3 i 0 0) = jd w := by
      unfold res_main_v161
      pointwise
      rw [v129_eq V0 h, hz]
      exact jdiv hw
    exact e
  | ⟨1, _⟩ =>
    have e : (res_main_v161 V0 : S500000x2x3.Idx → EReal) (ix3 i 0 1) = (0 : EReal) := by
      unfold res_main_v161
      pointwise
      unfold res_main_v132
      pointwise
    exact e
  | ⟨2, _⟩ =>
    have e : (res_main_v161 V0 : S500000x2x3.Idx → EReal) (ix3 i 0 2) = jo u w := by
      unfold res_main_v161
      pointwise
      rw [v129_eq V0 h, v4_apply V0 h i 0, hx, hz]
      exact jdiv2 hw u
    exact e

include hy in
theorem v161_v (q : Fin 3) : (res_main_v161 V0 : S500000x2x3.Idx → EReal) (ix3 i 1 q) = tri 0 (jd w) (jo v w) q := by
  match q with
  | ⟨0, _⟩ =>
    have e : (res_main_v161 V0 : S500000x2x3.Idx → EReal) (ix3 i 1 0) = (0 : EReal) := by
      unfold res_main_v161
      pointwise
      unfold res_main_v132
      pointwise
    exact e
  | ⟨1, _⟩ =>
    have e : (res_main_v161 V0 : S500000x2x3.Idx → EReal) (ix3 i 1 1) = jd w := by
      unfold res_main_v161
      pointwise
      rw [v131_eq V0 h, hz]
      exact jdiv hw
    exact e
  | ⟨2, _⟩ =>
    have e : (res_main_v161 V0 : S500000x2x3.Idx → EReal) (ix3 i 1 2) = jo v w := by
      unfold res_main_v161
      pointwise
      rw [v131_eq V0 h, v4_apply V0 h i 1, hy, hz]
      exact jdiv2 hw v
    exact e
end
end

end Cert.Proof.Ref

end
-- ==== Proof.FiniteFloat.lean ====
/-
  Which of the first kernel's values are real numbers. A quaternion of any length, even an infinite one, gives a rotation of
  real entries, as its length is kept off zero and a number divided by infinity is zero.
-/
module

public import proofs.«01_k».proof.Proof.FrontFloat

@[expose] public section

noncomputable section

namespace Cert.Proof.Front

open Cert.KernelIdeal Cert.KernelIdeal.Gen
open Idealize.ShloMosaic

/-- The value is a real number. -/
def IsReal (x : EReal) : Prop := ∃ r : ℝ, x = (r : EReal)

theorem IsReal.add {x y : EReal} : IsReal x → IsReal y → IsReal (x + y) := by
  rintro ⟨r, rfl⟩ ⟨s, rfl⟩
  exact ⟨r + s, (EReal.coe_add r s).symm⟩
theorem IsReal.sub {x y : EReal} : IsReal x → IsReal y → IsReal (x - y) := by
  rintro ⟨r, rfl⟩ ⟨s, rfl⟩
  exact ⟨r - s, (EReal.coe_sub r s).symm⟩
theorem IsReal.mul {x y : EReal} : IsReal x → IsReal y → IsReal (x * y) := by
  rintro ⟨r, rfl⟩ ⟨s, rfl⟩
  exact ⟨r * s, (EReal.coe_mul r s).symm⟩
theorem isReal_of {x : EReal} (h : x ≠ ⊤ ∧ x ≠ ⊥) : IsReal x := ⟨x.toReal, (EReal.coe_toReal h.1 h.2).symm⟩
theorem isReal_one : IsReal 1 := ⟨1, EReal.coe_one.symm⟩
theorem isReal_two : IsReal two := ⟨2, Consts.c2⟩
theorem isReal_kilo : IsReal kilo := ⟨1000, Consts.c1000⟩
theorem isReal_nkilo : IsReal nkilo := ⟨-1000, Consts.cn1000⟩

theorem isReal_exp {x : EReal} (h : x ≠ ⊤) : IsReal (Ideal.exp x) := by
  induction x with
  | bot => exact ⟨0, EReal.coe_zero.symm⟩
  | coe r => exact ⟨Real.exp r, rfl⟩
  | top => exact absurd rfl h

theorem isReal_inv (x : EReal) : IsReal x⁻¹ := by
  induction x with
  | bot => exact ⟨0, by rw [EReal.inv_bot, EReal.coe_zero]⟩
  | coe r => exact ⟨r⁻¹, (EReal.coe_inv r).symm⟩
  | top => exact ⟨0, by rw [EReal.inv_top, EReal.coe_zero]⟩

theorem isReal_recip {w : EReal} (hw : w ≠ 0) : IsReal (Ideal.div 1 w) := by
  unfold Ideal.div
  rw [if_neg hw]
  exact isReal_one.mul (isReal_inv w)
theorem isReal_jd {w : EReal} (hw : w ≠ 0) : IsReal (jd w) := isReal_kilo.mul (isReal_recip hw)
theorem isReal_jo {u w : EReal} (hu : IsReal u) (hw : w ≠ 0) : IsReal (jo u w) := ((isReal_nkilo.mul hu).mul (isReal_recip hw)).mul (isReal_recip hw)

theorem sq_ne_bot (x : EReal) : x * x ≠ ⊥ := by
  induction x with
  | bot => rw [EReal.bot_mul_bot]; exact top_ne_bot
  | coe r => rw [← EReal.coe_mul]; exact EReal.coe_ne_bot _
  | top => rw [EReal.top_mul_top]; exact top_ne_bot
theorem real_or_sq_top (x : EReal) : IsReal x ∨ x * x = ⊤ := by
  induction x with
  | bot => exact .inr EReal.bot_mul_bot
  | coe r => exact .inl ⟨r, rfl⟩
  | top => exact .inr EReal.top_mul_top

theorem add_ne_bot {x y : EReal} (hx : x ≠ ⊥) (hy : y ≠ ⊥) : x + y ≠ ⊥ := fun h => (EReal.add_eq_bot_iff.1 h).elim hx hy

theorem nrm_top {a b c d : EReal} (h : a * a + b * b + c * c + d * d = ⊤) : nrm a b c d = ⊤ := by
  obtain ⟨e, -, ee⟩ := Consts.ceps
  unfold nrm
  rw [h, ee]
  exact EReal.top_add_coe e

/-- A quaternion's length is infinite, or it is a number other than zero and the quaternion is real. -/
theorem nrm_cases (a b c d : EReal) : nrm a b c d = ⊤ ∨ ((IsReal a ∧ IsReal b ∧ IsReal c ∧ IsReal d) ∧ nrm a b c d ≠ 0) := by
  have na := sq_ne_bot a
  have nb := sq_ne_bot b
  have nc := sq_ne_bot c
  have nd := sq_ne_bot d
  rcases real_or_sq_top a with ha | ha
  · rcases real_or_sq_top b with hb | hb
    · rcases real_or_sq_top c with hc | hc
      · rcases real_or_sq_top d with hd | hd
        · refine .inr ⟨⟨ha, hb, hc, hd⟩, ?_⟩
          obtain ⟨a, rfl⟩ := ha
          obtain ⟨b, rfl⟩ := hb
          obtain ⟨c, rfl⟩ := hc
          obtain ⟨d, rfl⟩ := hd
          obtain ⟨e, he, ee⟩ := Consts.ceps
          unfold nrm
          rw [ee, ← EReal.coe_mul, ← EReal.coe_mul, ← EReal.coe_mul, ← EReal.coe_mul, ← EReal.coe_add, ← EReal.coe_add, ← EReal.coe_add]
          show (if a * a + b * b + c * c + d * d < 0 then ⊥ else (Real.sqrt (a * a + b * b + c * c + d * d) : EReal)) + (e : EReal) ≠ 0
          rw [if_neg (not_lt.2 (add_nonneg (add_nonneg (add_nonneg (mul_self_nonneg a) (mul_self_nonneg b)) (mul_self_nonneg c)) (mul_self_nonneg d))), ← EReal.coe_add]
          exact_mod_cast ne_of_gt (add_pos_of_nonneg_of_pos (Real.sqrt_nonneg _) he)
        · exact .inl (nrm_top (by rw [hd]; exact EReal.add_top_of_ne_bot (add_ne_bot (add_ne_bot na nb) nc)))
      · exact .inl (nrm_top (by rw [hc, EReal.add_top_of_ne_bot (add_ne_bot na nb)]; exact EReal.top_add_of_ne_bot nd))
    · exact .inl (nrm_top (by rw [hb, EReal.add_top_of_ne_bot na, EReal.top_add_of_ne_bot nc]; exact EReal.top_add_of_ne_bot nd))
  · exact .inl (nrm_top (by rw [ha, EReal.top_add_of_ne_bot nb, EReal.top_add_of_ne_bot nc]; exact EReal.top_add_of_ne_bot nd))

theorem isReal_unit {x n : EReal} (h : n = ⊤ ∨ (IsReal x ∧ n ≠ 0)) : IsReal (Ideal.div x n) := by
  unfold Ideal.div
  rcases h with rfl | ⟨hx, hn⟩
  · rw [if_neg EReal.top_ne_zero, EReal.inv_top, mul_zero]
    exact ⟨0, EReal.coe_zero.symm⟩
  · rw [if_neg hn]
    exact hx.mul (isReal_inv n)

section
variable (a b c d : EReal)
theorem isReal_q0 : IsReal (Ideal.div a (nrm a b c d)) := isReal_unit ((nrm_cases a b c d).imp_right fun h => ⟨h.1.1, h.2⟩)
theorem isReal_q1 : IsReal (Ideal.div b (nrm a b c d)) := isReal_unit ((nrm_cases a b c d).imp_right fun h => ⟨h.1.2.1, h.2⟩)
theorem isReal_q2 : IsReal (Ideal.div c (nrm a b c d)) := isReal_unit ((nrm_cases a b c d).imp_right fun h => ⟨h.1.2.2.1, h.2⟩)
theorem isReal_q3 : IsReal (Ideal.div d (nrm a b c d)) := isReal_unit ((nrm_cases a b c d).imp_right fun h => ⟨h.1.2.2.2, h.2⟩)
end

section
variable {x y z w : EReal} (hx : IsReal x) (hy : IsReal y) (hz : IsReal z) (hw : IsReal w)
include hx hy hz hw
theorem isReal_R00 : IsReal (R00 x y z w) := isReal_one.sub (isReal_two.mul ((hy.mul hy).add (hz.mul hz)))
theorem isReal_R01 : IsReal (R01 x y z w) := isReal_two.mul ((hx.mul hy).sub (hw.mul hz))
theorem isReal_R02 : IsReal (R02 x y z w) := isReal_two.mul ((hx.mul hz).add (hw.mul hy))
theorem isReal_R10 : IsReal (R10 x y z w) := isReal_two.mul ((hx.mul hy).add (hw.mul hz))
theorem isReal_R11 : IsReal (R11 x y z w) := isReal_one.sub (isReal_two.mul ((hx.mul hx).add (hz.mul hz)))
theorem isReal_R12 : IsReal (R12 x y z w) := isReal_two.mul ((hy.mul hz).sub (hw.mul hx))
theorem isReal_R20 : IsReal (R20 x y z w) := isReal_two.mul ((hx.mul hz).sub (hw.mul hy))
theorem isReal_R21 : IsReal (R21 x y z w) := isReal_two.mul ((hy.mul hz).add (hw.mul hx))
theorem isReal_R22 : IsReal (R22 x y z w) := isReal_one.sub (isReal_two.mul ((hx.mul hx).add (hy.mul hy)))
end

end Cert.Proof.Front

end
-- ==== Proof.OutFloat.lean ====
/-
  The first result: the reference's rows are the columns that the first kernel stores.
-/
module

public import proofs.«01_k».proof.Proof.RefCov
public import proofs.«01_k».proof.Proof.FiniteFloat
public import proofs.«01_k».proof.Proof.Arrays

@[expose] public section

noncomputable section

namespace Cert.Proof.Ref

open Cert.ReferenceIdeal Cert.ReferenceIdeal.Gen Cert.ReferenceIdeal.Facts
open Cert.ReferenceIdeal.Value
open Idealize.ShloMosaic Idealize.ShloMosaic.TcCoe
open Front (nrm R00 R01 R02 R10 R11 R12 R20 R21 R22 quad jd jo IsReal blkOf placeOf col_blkOf)

section
variable (R : Fin 3 → Fin 3 → EReal) (s : Fin 3 → EReal) (f a b : EReal)

/-- The weighted product of two rows as the first kernel writes it. -/
def kq (p q : Fin 3) : EReal := quad (R p 0) (R p 1) (R p 2) (R q 0) (R q 1) (R q 2) (s 0 * s 0) (s 1 * s 1) (s 2 * s 2)

theorem sq_eq (p q : Fin 3) : sq R s p q = kq R s p q := by
  show ∑ x, R p x * (s x * s x) * R q x = quad (R p 0) (R p 1) (R p 2) (R q 0) (R q 1) (R q 2) (s 0 * s 0) (s 1 * s 1) (s 2 * s 2)
  rw [Fin.sum_univ_three, mul_right_comm (R p 0), mul_right_comm (R p 1), mul_right_comm (R p 2)]
  rfl

theorem kq_comm (p q : Fin 3) : kq R s p q = kq R s q p := by
  show quad (R p 0) (R p 1) (R p 2) (R q 0) (R q 1) (R q 2) _ _ _ = quad (R q 0) (R q 1) (R q 2) (R p 0) (R p 1) (R p 2) _ _ _
  unfold quad
  rw [mul_comm (R p 0), mul_comm (R p 1), mul_comm (R p 2)]

/-! The four entries, with the zeros of the derivatives left out. The third multiplies out two sums the other way round, which
numbers allow and infinities do not. -/
theorem fold00 : ∑ x, (∑ x1, sq R s x1 x * tri f 0 a x1) * tri f 0 a x
    = (f * kq R s 0 0 + a * kq R s 0 2) * f + (f * kq R s 0 2 + a * kq R s 2 2) * a := by
  simp only [Fin.sum_univ_three, tri, mul_zero, zero_add, add_zero, sq_eq]
  rw [kq_comm R s 2 0]
  generalize kq R s 0 0 = x00, kq R s 0 2 = x02, kq R s 2 2 = x22
  rw [mul_comm f x00, mul_comm a x02, mul_comm f x02, mul_comm a x22]
theorem fold01 : ∑ x, (∑ x1, sq R s x1 x * tri f 0 a x1) * tri 0 f b x
    = (f * kq R s 0 1 + a * kq R s 1 2) * f + (f * kq R s 0 2 + a * kq R s 2 2) * b := by
  simp only [Fin.sum_univ_three, tri, mul_zero, zero_add, add_zero, sq_eq]
  rw [kq_comm R s 2 1]
  generalize kq R s 0 1 = x01, kq R s 1 2 = x12, kq R s 0 2 = x02, kq R s 2 2 = x22
  rw [mul_comm f x01, mul_comm a x12, mul_comm f x02, mul_comm a x22]
theorem fold10 (hf : IsReal f) (ha : IsReal a) (hb : IsReal b) (hk : ∀ p q, IsReal (kq R s p q)) : ∑ x, (∑ x1, sq R s x1 x * tri 0 f b x1) * tri f 0 a x
    = (f * kq R s 0 1 + a * kq R s 1 2) * f + (f * kq R s 0 2 + a * kq R s 2 2) * b := by
  simp only [Fin.sum_univ_three, tri, mul_zero, zero_add, add_zero, sq_eq]
  rw [kq_comm R s 1 0, kq_comm R s 2 0]
  obtain ⟨x01, e01⟩ := hk 0 1
  obtain ⟨x02, e02⟩ := hk 0 2
  obtain ⟨x12, e12⟩ := hk 1 2
  obtain ⟨x22, e22⟩ := hk 2 2
  obtain ⟨f, rfl⟩ := hf
  obtain ⟨a, rfl⟩ := ha
  obtain ⟨b, rfl⟩ := hb
  rw [e01, e02, e12, e22]
  simp only [← EReal.coe_mul, ← EReal.coe_add]
  congr 1
  ring
theorem fold11 : ∑ x, (∑ x1, sq R s x1 x * tri 0 f b x1) * tri 0 f b x
    = (f * kq R s 1 1 + b * kq R s 1 2) * f + (f * kq R s 1 2 + b * kq R s 2 2) * b := by
  simp only [Fin.sum_univ_three, tri, mul_zero, zero_add, add_zero, sq_eq]
  rw [kq_comm R s 2 1]
  generalize kq R s 1 1 = x11, kq R s 1 2 = x12, kq R s 2 2 = x22
  rw [mul_comm f x11, mul_comm b x12, mul_comm f x12, mul_comm b x22]

variable {R s} in
theorem isReal_kq (hR : ∀ p q, IsReal (R p q)) (hs : ∀ p, IsReal (s p)) (p q : Fin 3) : IsReal (kq R s p q) :=
  ((((hR p 0).mul (hR q 0)).mul ((hs 0).mul (hs 0))).add (((hR p 1).mul (hR q 1)).mul ((hs 1).mul (hs 1)))).add (((hR p 2).mul (hR q 2)).mul ((hs 2).mul (hs 2)))
end

theorem isReal_rotM (a b c d : EReal) : ∀ p q, IsReal (rotM a b c d p q)
  | 0, 0 => Front.isReal_R00 (Front.isReal_q0 a b c d) (Front.isReal_q1 a b c d) (Front.isReal_q2 a b c d) (Front.isReal_q3 a b c d)
  | 0, 1 => Front.isReal_R01 (Front.isReal_q0 a b c d) (Front.isReal_q1 a b c d) (Front.isReal_q2 a b c d) (Front.isReal_q3 a b c d)
  | 0, 2 => Front.isReal_R02 (Front.isReal_q0 a b c d) (Front.isReal_q1 a b c d) (Front.isReal_q2 a b c d) (Front.isReal_q3 a b c d)
  | 1, 0 => Front.isReal_R10 (Front.isReal_q0 a b c d) (Front.isReal_q1 a b c d) (Front.isReal_q2 a b c d) (Front.isReal_q3 a b c d)
  | 1, 1 => Front.isReal_R11 (Front.isReal_q0 a b c d) (Front.isReal_q1 a b c d) (Front.isReal_q2 a b c d) (Front.isReal_q3 a b c d)
  | 1, 2 => Front.isReal_R12 (Front.isReal_q0 a b c d) (Front.isReal_q1 a b c d) (Front.isReal_q2 a b c d) (Front.isReal_q3 a b c d)
  | 2, 0 => Front.isReal_R20 (Front.isReal_q0 a b c d) (Front.isReal_q1 a b c d) (Front.isReal_q2 a b c d) (Front.isReal_q3 a b c d)
  | 2, 1 => Front.isReal_R21 (Front.isReal_q0 a b c d) (Front.isReal_q1 a b c d) (Front.isReal_q2 a b c d) (Front.isReal_q3 a b c d)
  | 2, 2 => Front.isReal_R22 (Front.isReal_q0 a b c d) (Front.isReal_q1 a b c d) (Front.isReal_q2 a b c d) (Front.isReal_q3 a b c d)

variable (V0 : Valuation τ sig (Elt Ideal)) (h : Camera (aA V0) (aB V0) (aC V0) (aD V0))

theorem chain_of {X X' : Fin 3 → Fin 3 → EReal} {T T' : Fin 3 → EReal} {D : Fin 3 → Fin 3 → EReal} {J J' K K' : Fin 3 → EReal}
    (hD : ∀ a b, D a b = if a = b then 1 else 0) (hX : X = X') (hT : T = T') (hJ : J = J') (hK : K = K') :
    ∑ x, (∑ x1, (∑ x2, (∑ x0, (∑ x3, X x0 x3 * (T x3 * T x3) * X x2 x3) * D x1 x0) * D x x2) * J x1) * K x = ∑ x, (∑ x1, sq X' T' x1 x * J' x1) * K' x := by
  subst hX hT hJ hK
  exact chain X T D J K hD

/-- A point's scales. -/
abbrev scales (i : Fin 500000) : Fin 3 → EReal := tri (Ideal.exp (aB V0 (ix2 i 4))) (Ideal.exp (aB V0 (ix2 i 5))) (Ideal.exp (aB V0 (ix2 i 6)))

/-! The entries of the reference's first result. -/

theorem out_0 (i : Fin 500000) : (refOut V0 : S500000x8.Idx → EReal) (ix2 i 0) = (res_main_v16 V0 : S500000x2.Idx → EReal) (ix2 i 0) := by
  unfold refOut
  pointwise
theorem out_1 (i : Fin 500000) : (refOut V0 : S500000x8.Idx → EReal) (ix2 i 1) = (res_main_v16 V0 : S500000x2.Idx → EReal) (ix2 i 1) := by
  unfold refOut
  pointwise
theorem out_2 (i : Fin 500000) : (refOut V0 : S500000x8.Idx → EReal) (ix2 i 2) = (res_main_v6 V0 : S500000.Idx → EReal) (ix1 i) := by
  unfold refOut
  pointwise
theorem out_7 (i : Fin 500000) : (refOut V0 : S500000x8.Idx → EReal) (ix2 i 7) = Ideal.div 1 (1 + Ideal.exp (-(aB V0 (ix2 i 7)))) := by
  unfold refOut
  pointwise

section
variable (i : Fin 500000) {a b c d u v w : EReal} (h0 : aB V0 (ix2 i 0) = a) (h1 : aB V0 (ix2 i 1) = b) (h2 : aB V0 (ix2 i 2) = c) (h3 : aB V0 (ix2 i 3) = d)
  (hw : w ≠ 0) (hz : (res_main_v10 V0 : S500000.Idx → EReal) (ix1 i) = w) (hx : aA V0 (ix2 i 0) = u) (hy : aA V0 (ix2 i 1) = v)
include h h0 h1 h2 h3 hw hz

include hx in
theorem out_3 : (refOut V0 : S500000x8.Idx → EReal) (ix2 i 3)
    = ∑ x, (∑ x1, sq (rotM a b c d) (scales V0 i) x1 x * tri (jd w) 0 (jo u w) x1) * tri (jd w) 0 (jo u w) x := by
  have e0 : (fun a b => res_main_v117 V0 (ix3 i a b) : Fin 3 → Fin 3 → EReal) = rotM a b c d := funext fun p => funext fun q => v117_eq V0 i h0 h1 h2 h3 p q
  have e1 : (fun a => res_main_v119 V0 (ix2 i a) : Fin 3 → EReal) = scales V0 i := funext fun q => v119_eq V0 i q
  have e2 : (fun a => res_main_v161 V0 (ix3 i 0 a) : Fin 3 → EReal) = tri (jd w) 0 (jo u w) := funext fun q => v161_u V0 h i hw hz hx q
  have e3 : (fun a => res_main_v161 V0 (ix3 i 0 a) : Fin 3 → EReal) = tri (jd w) 0 (jo u w) := funext fun q => v161_u V0 h i hw hz hx q
  refine Eq.trans ?_ (chain_of (D := fun a b => res_main_v125 V0 (ix2 a b)) (v125_eq V0 h) e0 e1 e2 e3)
  unfold refOut
  pointwise

include hx hy in
theorem out_4 : (refOut V0 : S500000x8.Idx → EReal) (ix2 i 4)
    = ∑ x, (∑ x1, sq (rotM a b c d) (scales V0 i) x1 x * tri (jd w) 0 (jo u w) x1) * tri 0 (jd w) (jo v w) x := by
  have e0 : (fun a b => res_main_v117 V0 (ix3 i a b) : Fin 3 → Fin 3 → EReal) = rotM a b c d := funext fun p => funext fun q => v117_eq V0 i h0 h1 h2 h3 p q
  have e1 : (fun a => res_main_v119 V0 (ix2 i a) : Fin 3 → EReal) = scales V0 i := funext fun q => v119_eq V0 i q
  have e2 : (fun a => res_main_v161 V0 (ix3 i 0 a) : Fin 3 → EReal) = tri (jd w) 0 (jo u w) := funext fun q => v161_u V0 h i hw hz hx q
  have e3 : (fun a => res_main_v161 V0 (ix3 i 1 a) : Fin 3 → EReal) = tri 0 (jd w) (jo v w) := funext fun q => v161_v V0 h i hw hz hy q
  refine Eq.trans ?_ (chain_of (D := fun a b => res_main_v125 V0 (ix2 a b)) (v125_eq V0 h) e0 e1 e2 e3)
  unfold refOut
  pointwise

include hx hy in
theorem out_5 : (refOut V0 : S500000x8.Idx → EReal) (ix2 i 5)
    = ∑ x, (∑ x1, sq (rotM a b c d) (scales V0 i) x1 x * tri 0 (jd w) (jo v w) x1) * tri (jd w) 0 (jo u w) x := by
  have e0 : (fun a b => res_main_v117 V0 (ix3 i a b) : Fin 3 → Fin 3 → EReal) = rotM a b c d := funext fun p => funext fun q => v117_eq V0 i h0 h1 h2 h3 p q
  have e1 : (fun a => res_main_v119 V0 (ix2 i a) : Fin 3 → EReal) = scales V0 i := funext fun q => v119_eq V0 i q
  have e2 : (fun a => res_main_v161 V0 (ix3 i 1 a) : Fin 3 → EReal) = tri 0 (jd w) (jo v w) := funext fun q => v161_v V0 h i hw hz hy q
  have e3 : (fun a => res_main_v161 V0 (ix3 i 0 a) : Fin 3 → EReal) = tri (jd w) 0 (jo u w) := funext fun q => v161_u V0 h i hw hz hx q
  refine Eq.trans ?_ (chain_of (D := fun a b => res_main_v125 V0 (ix2 a b)) (v125_eq V0 h) e0 e1 e2 e3)
  unfold refOut
  pointwise

include hy in
theorem out_6 : (refOut V0 : S500000x8.Idx → EReal) (ix2 i 6)
    = ∑ x, (∑ x1, sq (rotM a b c d) (scales V0 i) x1 x * tri 0 (jd w) (jo v w) x1) * tri 0 (jd w) (jo v w) x := by
  have e0 : (fun a b => res_main_v117 V0 (ix3 i a b) : Fin 3 → Fin 3 → EReal) = rotM a b c d := funext fun p => funext fun q => v117_eq V0 i h0 h1 h2 h3 p q
  have e1 : (fun a => res_main_v119 V0 (ix2 i a) : Fin 3 → EReal) = scales V0 i := funext fun q => v119_eq V0 i q
  have e2 : (fun a => res_main_v161 V0 (ix3 i 1 a) : Fin 3 → EReal) = tri 0 (jd w) (jo v w) := funext fun q => v161_v V0 h i hw hz hy q
  have e3 : (fun a => res_main_v161 V0 (ix3 i 1 a) : Fin 3 → EReal) = tri 0 (jd w) (jo v w) := funext fun q => v161_v V0 h i hw hz hy q
  refine Eq.trans ?_ (chain_of (D := fun a b => res_main_v125 V0 (ix2 a b)) (v125_eq V0 h) e0 e1 e2 e3)
  unfold refOut
  pointwise

end

section
variable (m : (ℓ : Loc Cert.KernelIdeal.nD Cert.KernelIdeal.τ Cert.KernelIdeal.sig) → Buf (Elt Ideal) ℓ) (d : Dev Cert.KernelIdeal.nD)
  (hA : A0 m d = aA V0) (hB : A1 m d = aB V0)
include h hA hB

theorem out_apply (i : Fin 500000) (r : Fin 8) (hi : i.val < 503808) :
    (refOut V0 : S500000x8.Idx → EReal) (ix2 i r) = (Front.arr2 (F := Ideal) (fun c b => V1 m c b) d (ix2 r ⟨i.val, hi⟩) : EReal) := by
  show _ = (Front.rowV (F := Ideal) (Front.stg0 (fun c b => V1 m c b) d (blkOf ⟨i.val, hi⟩)) (Front.stg1 (fun c b => V1 m c b) d (blkOf ⟨i.val, hi⟩)) r (ix2 0 (placeOf ⟨i.val, hi⟩)) : EReal)
  have x0 : ∀ r : Fin 3, (Front.row3 (Front.stg0 (fun c b => V1 m c b) d (blkOf ⟨i.val, hi⟩)) r (ix2 0 (placeOf ⟨i.val, hi⟩)) : EReal) = aA V0 (ix2 i r) := fun r =>
    (Front.stg0_apply (fun c b => V1 m c b) d _ r _).trans ((congrArg (fun n => (V1 m d Cert.KernelIdeal.main_v4 : Cert.KernelIdeal.S3x503808.Idx → EReal) (ix2 r n)) (col_blkOf _)).trans
      ((Cert.Proof.v4_apply m d r ⟨i.val, hi⟩ i.isLt).trans (congrFun hA _)))
  have x1 : ∀ r : Fin 8, (Front.row8 (Front.stg1 (fun c b => V1 m c b) d (blkOf ⟨i.val, hi⟩)) r (ix2 0 (placeOf ⟨i.val, hi⟩)) : EReal) = aB V0 (ix2 i ⟨r.val, by omega⟩) := fun r =>
    (Front.stg1_apply (fun c b => V1 m c b) d _ r _).trans ((congrArg (fun n => (V1 m d Cert.KernelIdeal.main_v8 : Cert.KernelIdeal.S8x503808.Idx → EReal) (ix2 r n)) (col_blkOf _)).trans
      ((Cert.Proof.v8_apply m d r ⟨i.val, hi⟩ i.isLt).trans (congrFun hB _)))
  generalize Front.stg0 (fun c b => V1 m c b) d (blkOf ⟨i.val, hi⟩) = X0 at x0 ⊢
  generalize Front.stg1 (fun c b => V1 m c b) d (blkOf ⟨i.val, hi⟩) = X1 at x1 ⊢
  generalize placeOf ⟨i.val, hi⟩ = j at x0 x1 ⊢
  have ez := v10_apply V0 h i
  have kz : (Front.zcF (F := Ideal) (Front.row3 X0 2 (ix2 0 j)) : EReal) = Front.zcF (F := Ideal) (aA V0 (ix2 i 2)) := congrArg (Front.zcF (F := Ideal)) (x0 2)
  have hw := Front.zcF_ne (aA V0 (ix2 i 2))
  have hu : IsReal (aA V0 (ix2 i 0)) := Front.isReal_of (h.pts i 0)
  have hv : IsReal (aA V0 (ix2 i 1)) := Front.isReal_of (h.pts i 1)
  have hs : ∀ p, IsReal (scales V0 i p)
    | 0 => Front.isReal_exp (h.scale i 0)
    | 1 => Front.isReal_exp (h.scale i 1)
    | 2 => Front.isReal_exp (h.scale i 2)
  match r with
  | ⟨0, _⟩ => exact (out_0 V0 i).trans ((v16_u V0 h i).trans ((congrArg₂ (Front.uF (F := Ideal)) (x0 0) (x0 2)).symm.trans (Front.pay5_apply _ _ j).symm))
  | ⟨1, _⟩ => exact (out_1 V0 i).trans ((v16_v V0 h i).trans ((congrArg₂ (Front.vF (F := Ideal)) (x0 1) (x0 2)).symm.trans (Front.pay6_apply _ _ j).symm))
  | ⟨2, _⟩ => exact (out_2 V0 i).trans ((v6_apply V0 h i).trans ((x0 2).symm.trans (show (Front.row3 X0 2 (ix2 0 j) : EReal) = Cert.KernelIdeal.Gen.k0_pay3 (F := Ideal) (Front.row3 X0 2) (ix2 0 j) from (Front.pay3_apply (F := Ideal) (Front.row3 X0 2) j).symm)))
  | ⟨3, _⟩ => exact (out_3 V0 h i rfl rfl rfl rfl hw ez rfl).trans ((fold00 _ _ _ _).trans (Front.cov00_at _ _ _ _ _ _ _ _ _ j (x0 0) kz (x1 0) (x1 1) (x1 2) (x1 3) (x1 4) (x1 5) (x1 6)).symm)
  | ⟨4, _⟩ => exact (out_4 V0 h i rfl rfl rfl rfl hw ez rfl rfl).trans ((fold01 _ _ _ _ _).trans (Front.cov01_at _ _ _ _ _ _ _ _ _ _ j (x0 0) (x0 1) kz (x1 0) (x1 1) (x1 2) (x1 3) (x1 4) (x1 5) (x1 6)).symm)
  | ⟨5, _⟩ => exact (out_5 V0 h i rfl rfl rfl rfl hw ez rfl rfl).trans ((fold10 _ _ _ _ _ (Front.isReal_jd hw) (Front.isReal_jo hu hw) (Front.isReal_jo hv hw) (isReal_kq (isReal_rotM _ _ _ _) hs)).trans (Front.cov01_at _ _ _ _ _ _ _ _ _ _ j (x0 0) (x0 1) kz (x1 0) (x1 1) (x1 2) (x1 3) (x1 4) (x1 5) (x1 6)).symm)
  | ⟨6, _⟩ => exact (out_6 V0 h i rfl rfl rfl rfl hw ez rfl).trans ((fold11 _ _ _ _).trans (Front.cov11_at _ _ _ _ _ _ _ _ _ j (x0 1) kz (x1 0) (x1 1) (x1 2) (x1 3) (x1 4) (x1 5) (x1 6)).symm)
  | ⟨7, _⟩ => exact (out_7 V0 i).trans (Front.pay55_at _ j (x1 7)).symm

end

end Cert.Proof.Ref

end
-- ==== Proof.Outputs.lean ====
/-
  What the results' buffers hold when the run has ended.
-/
module

public import proofs.«01_k».proof.Proof.Arrays
public import proofs.«01_k».proof.Proof.FrontRows

@[expose] public section

noncomputable section

namespace Cert.Proof

open Cert.KernelIdeal Cert.KernelIdeal.Gen
open Idealize.ShloMosaic Idealize.ShloMosaic.TcCoe
open Idealize.ShloMosaic.StableHlo (held after)

variable {F : FTy → Type} [FloatOps F]
variable (m : (ℓ : Loc nD τ sig) → Buf (Elt F) ℓ) (d : Dev nD)

/-- The first kernel's first result is what it was through the calls. -/
theorem V7_out : (V7 m d main_v9_0 : S8x503808.Idx → Elt F .f32) = Front.arr2 (fun c b => V1 m c b) d := by
  rw [V7_ne _ _ _ (by decide) (by decide) (by decide) (by decide), V6_ne _ _ _ (by decide), V5_ne _ _ _ (by decide), V4_ne _ _ _ (by decide)]
  unfold V3 ops1
  after_results_simp
  exact (V2_0 m d).trans (Front.final2 (fun c b => V1 m c b) d)

theorem V8_out (i : Fin 500000) (r : Fin 8) (hi : i.val < 503808) :
    (V8 m d main_v17 : S500000x8.Idx → Elt F .f32) (ix2 i r) = Front.arr2 (fun c b => V1 m c b) d (ix2 r ⟨i.val, hi⟩) := by
  have e : V8 m d main_v17 = transpose S500000x8 [1, 0] (extractStridedSlice S8x500000 ![0, 0] (V7 m d main_v9_0 : S8x503808.Idx → Elt F .f32) slices_S8x503808_S8x500000_0_0) transposes_S8x500000_S500000x8_1_0 := by
    unfold V8 ops2
    after_results_simp
    try rfl
  refine (congrFun e _).trans ?_
  refine (transpose_apply _ _ _ (ix2 i r) (ix2 r i) (fun b => by match b with | ⟨0, _⟩ => rfl | ⟨1, _⟩ => rfl)).trans ?_
  refine (extractStridedSlice_apply _ _ _ _ (ix2 r (⟨i.val, hi⟩ : Fin 503808)) (fun b => by match b with | ⟨0, _⟩ => exact (Nat.zero_add _).symm | ⟨1, _⟩ => exact (Nat.zero_add _).symm)).trans ?_
  exact congrFun (V7_out m d) _

theorem V8_pid (i : Fin 500000) (hi : i.val < 503808) :
    (V8 m d main_v18 : S500000.Idx → BitVec 32) (ix1 i) = pidOf (pOf (V3 m) d) (ix1 (⟨i.val, hi⟩ : Fin 503808)) := by
  have e : V8 m d main_v18 = extractStridedSlice S500000 ![0] (V7 m d main_v15_0 : S503808.Idx → BitVec 32) slices_S503808_S500000_0 := by
    unfold V8 ops2
    after_results_simp
    try rfl
  refine (congrFun e _).trans ?_
  refine (extractStridedSlice_apply _ _ _ _ (ix1 (⟨i.val, hi⟩ : Fin 503808)) (fun b => by match b with | ⟨0, _⟩ => exact (Nat.zero_add _).symm)).trans ?_
  exact congrFun (V7_0 m d) _

theorem V8_hist : V8 m d main_v15_1 = (tileHist (pOf (V3 m) d) : C8 (F := F)) := by
  unfold V8 ops2
  after_results_simp
  exact V7_1 m d
theorem V8_start : V8 m d main_v15_2 = (tileStart (pOf (V3 m) d) : C8 (F := F)) := by
  unfold V8 ops2
  after_results_simp
  exact V7_2 m d
theorem V8_end : V8 m d main_v15_3 = (tileEnd (pOf (V3 m) d) : C8 (F := F)) := by
  unfold V8 ops2
  after_results_simp
  exact V7_3 m d

end Cert.Proof

end
-- ==== Proof.Algebraic.lean ====
/-
  The value claim: over the reals, the kernel and the reference leave the same five results.
-/
module

public import proofs.«01_k».proof.Proof.CameraFrames
public import proofs.«01_k».proof.Proof.IntResults
public import proofs.«01_k».proof.Proof.OutFloat
public import proofs.«01_k».proof.Proof.Outputs

@[expose] public section

noncomputable section

namespace Cert.Proof

open Idealize.ShloMosaic Idealize.SL.Sem Idealize.ShloMosaic.TcCoe
open Cert.ReferenceIdeal.Value (res_main_v209)
open Idealize.ShloMosaic.StableHlo (launchContents)

section
open Cert.KernelIdeal
theorem mem_result {b : Ref sig .tc} (hb : b ∈ ([main_v17, main_v15_1, main_v15_2, main_v15_3, main_v18] : List (Ref sig .tc))) : (b : DevRef τ sig) ∈ ucR := by
  simp only [List.mem_cons, List.not_mem_nil, or_false] at hb
  rcases hb with rfl | rfl | rfl | rfl | rfl <;> decide
end

section
variable (m : (ℓ : Loc Cert.KernelIdeal.nD Cert.KernelIdeal.τ Cert.KernelIdeal.sig) → Buf (Elt Ideal) ℓ) (d : Dev Cert.KernelIdeal.nD)
  (V0 : Valuation Cert.ReferenceIdeal.τ Cert.ReferenceIdeal.sig (Elt Ideal))
  (h : Camera (Ref.aA V0) (Ref.aB V0) (Ref.aC V0) (Ref.aD V0)) (hA : A0 m d = Ref.aA V0) (hB : A1 m d = Ref.aB V0)

include h hA hB in
/-- The first result: every entry of every row. -/
theorem out_eq : (Ref.refOut V0 : Cert.ReferenceIdeal.S500000x8.Idx → EReal) = V8 m d Cert.KernelIdeal.main_v17 := by
  funext x
  obtain ⟨i, r, rfl⟩ : ∃ (i : Fin 500000) (r : Fin 8), x = ix2 i r := ⟨x 0, x 1, by funext a; match a with | ⟨0, _⟩ => rfl | ⟨1, _⟩ => rfl⟩
  have hi : i.val < 503808 := by omega
  exact (Ref.out_apply V0 h m d hA hB i r hi).trans (V8_out (F := Ideal) m d i r hi).symm

include h hA in
/-- The last result: the sorted points' numbers. -/
theorem points_eq : (res_main_v209 V0 : Cert.ReferenceIdeal.S500000.Idx → BitVec 32) = V8 m d Cert.KernelIdeal.main_v18 := by
  funext x
  obtain ⟨i, rfl⟩ := Words.exists_ix1 x
  have hi : i.val < 503808 := by omega
  exact (Ref.pid_eq V0 h m d hA i (ix1 (⟨i.val, hi⟩ : Fin 503808)) rfl).symm.trans (V8_pid (F := Ideal) m d i hi).symm
end

theorem algebraic : Cert.algebraic_KernelIdeal_ReferenceIdeal_pre_real_camera := by
  intro m g m' g' hm hargs
  have hc : ∀ c, Camera (Ref.aA (launchContents m' c)) (Ref.aB (launchContents m' c)) (Ref.aC (launchContents m' c)) (Ref.aD (launchContents m' c)) := by
    intro c
    have k := camera_of _ _ _ _ (hm c)
    obtain ⟨e0, e1, e2, e3⟩ := hargs c
    rw [show Ref.aA (launchContents m' c) = _ from e0, show Ref.aB (launchContents m' c) = _ from e1, show Ref.aC (launchContents m' c) = _ from e2, show Ref.aD (launchContents m' c) = _ from e3]
    exact k
  have hA : ∀ c, A0 m c = Ref.aA (launchContents m' c) := fun c => (hargs c).1.symm
  have hB : ∀ c, A1 m c = Ref.aB (launchContents m' c) := fun c => (hargs c).2.1.symm
  refine ⟨fun c => V8 m c Cert.KernelIdeal.main_v17, fun c => V8 m c Cert.KernelIdeal.main_v15_1, fun c => V8 m c Cert.KernelIdeal.main_v15_2,
    fun c => V8 m c Cert.KernelIdeal.main_v15_3, fun c => V8 m c Cert.KernelIdeal.main_v18, ?_, ?_⟩
  · refine (θ_run Cert.KernelIdeal.defs _ _).mono (fun r k c => ?_) (run_camera m g hm)
    exact ⟨k.1 c _ (mem_result (by simp)), k.1 c _ (mem_result (by simp)), k.1 c _ (mem_result (by simp)), k.1 c _ (mem_result (by simp)), k.1 c _ (mem_result (by simp)),
      args_kept (F := Ideal) m r k c⟩
  · refine (θ_run Cert.ReferenceIdeal.defs _ _).mono (fun r k c => ?_) (Cert.ReferenceIdeal.Value.run (F := Ideal) m' g')
    obtain ⟨k0, k1, k2, k3, k4, k5⟩ := k c
    exact ⟨k0.trans (out_eq m c _ (hc c) (hA c) (hB c)),
      k1.trans ((Ref.hist_eq _ (hc c) m c (hA c)).symm.trans (V8_hist (F := Ideal) m c).symm),
      k2.trans ((Ref.start_eq _ (hc c) m c (hA c)).symm.trans (V8_start (F := Ideal) m c).symm),
      k3.trans ((Ref.end_eq _ (hc c) m c (hA c)).symm.trans (V8_end (F := Ideal) m c).symm),
      k4.trans (points_eq m c _ (hc c) (hA c)), k5⟩

end Cert.Proof

end
-- ==== Proof.lean ====
/-
  The certificate.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_depth_in_range
public import proofs.«01_k».proof.Proof.Gen.Pre_real_camera
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_depth_in_range.Gen.facts,
  Cert.Pre_real_camera.Gen.facts, frame_kernel, frame_kernelIdeal, frame_kernelIdeal_camera, frame_reference, frame_reference_camera, trivial, algebraic⟩

end Cert.Proof

end
